-- ==== Defs.lean ====
def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInKernelIdeal_ffn_in_finite [hPre_ffn_in_finite : Cert.Pre_ffn_in_finite.Facts] (m : (ℓ : Loc Cert.FfnInKernelIdeal.nD Cert.FfnInKernelIdeal.τ Cert.FfnInKernelIdeal.sig) → Buf (Elt Ideal) ℓ) : Prop :=
  ∀ c : Dev Cert.FfnInKernelIdeal.nD,
    (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5))).1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5))).2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5))).2.2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5))).2.2.2.1 = (fun _ => 1#1)
    ∧ (Cert.Pre_ffn_in_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5))).2.2.2.2 = (fun _ => 1#1)

def Pre_FfnInReferenceIdeal (m : (ℓ : Loc Cert.FfnInReferenceIdeal.nD Cert.FfnInReferenceIdeal.τ Cert.FfnInReferenceIdeal.sig) → Buf (Elt Ideal) ℓ) : Prop :=
  True

def Pre_FfnInReferenceIdeal_ffn_in_finite [hPre_ffn_in_finite : Cert.Pre_ffn_in_finite.Facts] (m : (ℓ : Loc Cert.FfnInReferenceIdeal.nD Cert.FfnInReferenceIdeal.τ Cert.FfnInReferenceIdeal.sig) → Buf (Elt Ideal) ℓ) : Prop :=
  ∀ c : Dev Cert.FfnInReferenceIdeal.nD,
    (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5))).1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5))).2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5))).2.2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5))).2.2.2.1 = (fun _ => 1#1)
    ∧ (Cert.Pre_ffn_in_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5))).2.2.2.2 = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.2 = (fun _ => 1#1)

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjKernelIdeal_in_proj_finite [hPre_in_proj_finite : Cert.Pre_in_proj_finite.Facts] (m : (ℓ : Loc Cert.InProjKernelIdeal.nD Cert.InProjKernelIdeal.τ Cert.InProjKernelIdeal.sig) → Buf (Elt Ideal) ℓ) : Prop :=
  ∀ c : Dev Cert.InProjKernelIdeal.nD,
    (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.2.2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.2.2.2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4)) (m ((c.tc : Thread Cert.InProjKernelIdeal.nD Cert.InProjKernelIdeal.τ).loc Cert.InProjKernelIdeal.main_arg5)) (m ((c.tc : Thread Cert.InProjKernelIdeal.nD Cert.InProjKernelIdeal.τ).loc Cert.InProjKernelIdeal.main_arg6)) (m ((c.tc : Thread Cert.InProjKernelIdeal.nD Cert.InProjKernelIdeal.τ).loc Cert.InProjKernelIdeal.main_arg7)) (m ((c.tc : Thread Cert.InProjKernelIdeal.nD Cert.InProjKernelIdeal.τ).loc Cert.InProjKernelIdeal.main_arg8))).2.2.2.2.2.2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_in_proj_finite [hPre_in_proj_finite : Cert.Pre_in_proj_finite.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.2.2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.2.2.2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7)) (m ((c.tc : Thread Cert.InProjReferenceIdeal.nD Cert.InProjReferenceIdeal.τ).loc Cert.InProjReferenceIdeal.main_arg8))).2.2.2.2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))).2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))).2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))).2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))).2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))).2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))).2.2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_RnnFwdKernel (m : (ℓ : Loc Cert.RnnFwdKernel.nD Cert.RnnFwdKernel.τ Cert.RnnFwdKernel.sig) → Buf (Elt Bits) ℓ) : Prop :=
  True

def Pre_RnnFwdKernelIdeal (m : (ℓ : Loc Cert.RnnFwdKernelIdeal.nD Cert.RnnFwdKernelIdeal.τ Cert.RnnFwdKernelIdeal.sig) → Buf (Elt Ideal) ℓ) : Prop :=
  True

def Pre_RnnFwdKernelIdeal_rnn_finite [hPre_rnn_finite : Cert.Pre_rnn_finite.Facts] (m : (ℓ : Loc Cert.RnnFwdKernelIdeal.nD Cert.RnnFwdKernelIdeal.τ Cert.RnnFwdKernelIdeal.sig) → Buf (Elt Ideal) ℓ) : Prop :=
  ∀ c : Dev Cert.RnnFwdKernelIdeal.nD,
    (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.2.2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.2.2.2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.2.2.2.2.1 = (fun _ => 1#1)
    ∧ (Cert.Pre_rnn_finite.fn (F := Ideal) (m ((c.tc : Thread Cert.RnnFwdKernelIdeal.nD Cert.RnnFwdKernelIdeal.τ).loc Cert.RnnFwdKernelIdeal.main_arg0)) (m ((c.tc : Thread Cert.RnnFwdKernelIdeal.nD Cert.RnnFwdKernelIdeal.τ).loc Cert.RnnFwdKernelIdeal.main_arg1)) (m ((c.tc : Thread Cert.RnnFwdKernelIdeal.nD Cert.RnnFwdKernelIdeal.τ).loc Cert.RnnFwdKernelIdeal.main_arg2)) (m ((c.tc : Thread Cert.RnnFwdKernelIdeal.nD Cert.RnnFwdKernelIdeal.τ).loc Cert.RnnFwdKernelIdeal.main_arg3)) (m ((c.tc : Thread Cert.RnnFwdKernelIdeal.nD Cert.RnnFwdKernelIdeal.τ).loc Cert.RnnFwdKernelIdeal.main_arg4)) (m ((c.tc : Thread Cert.RnnFwdKernelIdeal.nD Cert.RnnFwdKernelIdeal.τ).loc Cert.RnnFwdKernelIdeal.main_arg5)) (m ((c.tc : Thread Cert.RnnFwdKernelIdeal.nD Cert.RnnFwdKernelIdeal.τ).loc Cert.RnnFwdKernelIdeal.main_arg6)) (m ((c.tc : Thread Cert.RnnFwdKernelIdeal.nD Cert.RnnFwdKernelIdeal.τ).loc Cert.RnnFwdKernelIdeal.main_arg7))).2.2.2.2.2.2.2 = (fun _ => 1#1)

def Pre_RnnFwdReferenceIdeal (m : (ℓ : Loc Cert.RnnFwdReferenceIdeal.nD Cert.RnnFwdReferenceIdeal.τ Cert.RnnFwdReferenceIdeal.sig) → Buf (Elt Ideal) ℓ) : Prop :=
  True

def Pre_RnnFwdReferenceIdeal_rnn_finite [hPre_rnn_finite : Cert.Pre_rnn_finite.Facts] (m : (ℓ : Loc Cert.RnnFwdReferenceIdeal.nD Cert.RnnFwdReferenceIdeal.τ Cert.RnnFwdReferenceIdeal.sig) → Buf (Elt Ideal) ℓ) : Prop :=
  ∀ c : Dev Cert.RnnFwdReferenceIdeal.nD,
    (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.2.2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.2.2.2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.2.2.2.2.1 = (fun _ => 1#1)
    ∧ (Cert.Pre_rnn_finite.fn (F := Ideal) (m ((c.tc : Thread Cert.RnnFwdReferenceIdeal.nD Cert.RnnFwdReferenceIdeal.τ).loc Cert.RnnFwdReferenceIdeal.main_arg0)) (m ((c.tc : Thread Cert.RnnFwdReferenceIdeal.nD Cert.RnnFwdReferenceIdeal.τ).loc Cert.RnnFwdReferenceIdeal.main_arg1)) (m ((c.tc : Thread Cert.RnnFwdReferenceIdeal.nD Cert.RnnFwdReferenceIdeal.τ).loc Cert.RnnFwdReferenceIdeal.main_arg2)) (m ((c.tc : Thread Cert.RnnFwdReferenceIdeal.nD Cert.RnnFwdReferenceIdeal.τ).loc Cert.RnnFwdReferenceIdeal.main_arg3)) (m ((c.tc : Thread Cert.RnnFwdReferenceIdeal.nD Cert.RnnFwdReferenceIdeal.τ).loc Cert.RnnFwdReferenceIdeal.main_arg4)) (m ((c.tc : Thread Cert.RnnFwdReferenceIdeal.nD Cert.RnnFwdReferenceIdeal.τ).loc Cert.RnnFwdReferenceIdeal.main_arg5)) (m ((c.tc : Thread Cert.RnnFwdReferenceIdeal.nD Cert.RnnFwdReferenceIdeal.τ).loc Cert.RnnFwdReferenceIdeal.main_arg6)) (m ((c.tc : Thread Cert.RnnFwdReferenceIdeal.nD Cert.RnnFwdReferenceIdeal.τ).loc Cert.RnnFwdReferenceIdeal.main_arg7))).2.2.2.2.2.2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2.2 = (fun _ => 1#1)

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_pool_fwd_finite [hPre_pool_fwd_finite : Cert.Pre_pool_fwd_finite.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_pool_fwd_finite.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_pool_fwd_finite [hPre_pool_fwd_finite : Cert.Pre_pool_fwd_finite.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_pool_fwd_finite.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2))) = (fun _ => 1#1)

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdKernelIdeal_ffn_fwd_finite [hPre_ffn_fwd_finite : Cert.Pre_ffn_fwd_finite.Facts] (m : (ℓ : Loc Cert.FfnFwdKernelIdeal.nD Cert.FfnFwdKernelIdeal.τ Cert.FfnFwdKernelIdeal.sig) → Buf (Elt Ideal) ℓ) : Prop :=
  ∀ c : Dev Cert.FfnFwdKernelIdeal.nD,
    (Cert.Pre_ffn_fwd_finite.fn (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2))).1 = (fun _ => 1#1)
    ∧ (Cert.Pre_ffn_fwd_finite.fn (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2))).2.1 = (fun _ => 1#1)
    ∧ (Cert.Pre_ffn_fwd_finite.fn (F := Ideal) (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1)) (m ((c.tc : Thread Cert.FfnFwdKernelIdeal.nD Cert.FfnFwdKernelIdeal.τ).loc Cert.FfnFwdKernelIdeal.main_arg2))).2.2 = (fun _ => 1#1)

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FfnFwdReferenceIdeal_ffn_fwd_finite [hPre_ffn_fwd_finite : Cert.Pre_ffn_fwd_finite.Facts] (m : (ℓ : Loc Cert.FfnFwdReferenceIdeal.nD Cert.FfnFwdReferenceIdeal.τ Cert.FfnFwdReferenceIdeal.sig) → Buf (Elt Ideal) ℓ) : Prop :=
  ∀ c : Dev Cert.FfnFwdReferenceIdeal.nD,
    (Cert.Pre_ffn_fwd_finite.fn (F := Ideal) (m ((c.tc : Thread Cert.FfnFwdReferenceIdeal.nD Cert.FfnFwdReferenceIdeal.τ).loc Cert.FfnFwdReferenceIdeal.main_arg0)) (m ((c.tc : Thread Cert.FfnFwdReferenceIdeal.nD Cert.FfnFwdReferenceIdeal.τ).loc Cert.FfnFwdReferenceIdeal.main_arg1)) (m ((c.tc : Thread Cert.FfnFwdReferenceIdeal.nD Cert.FfnFwdReferenceIdeal.τ).loc Cert.FfnFwdReferenceIdeal.main_arg2))).1 = (fun _ => 1#1)
    ∧ (Cert.Pre_ffn_fwd_finite.fn (F := Ideal) (m ((c.tc : Thread Cert.FfnFwdReferenceIdeal.nD Cert.FfnFwdReferenceIdeal.τ).loc Cert.FfnFwdReferenceIdeal.main_arg0)) (m ((c.tc : Thread Cert.FfnFwdReferenceIdeal.nD Cert.FfnFwdReferenceIdeal.τ).loc Cert.FfnFwdReferenceIdeal.main_arg1)) (m ((c.tc : Thread Cert.FfnFwdReferenceIdeal.nD Cert.FfnFwdReferenceIdeal.τ).loc Cert.FfnFwdReferenceIdeal.main_arg2))).2.1 = (fun _ => 1#1)
    ∧ (Cert.Pre_ffn_fwd_finite.fn (F := Ideal) (m ((c.tc : Thread Cert.FfnFwdReferenceIdeal.nD Cert.FfnFwdReferenceIdeal.τ).loc Cert.FfnFwdReferenceIdeal.main_arg0)) (m ((c.tc : Thread Cert.FfnFwdReferenceIdeal.nD Cert.FfnFwdReferenceIdeal.τ).loc Cert.FfnFwdReferenceIdeal.main_arg1)) (m ((c.tc : Thread Cert.FfnFwdReferenceIdeal.nD Cert.FfnFwdReferenceIdeal.τ).loc Cert.FfnFwdReferenceIdeal.main_arg2))).2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_GradPoolKernel (m : (ℓ : Loc Cert.GradPoolKernel.nD Cert.GradPoolKernel.τ Cert.GradPoolKernel.sig) → Buf (Elt Bits) ℓ) : Prop :=
  True

def Pre_GradPoolKernelIdeal (m : (ℓ : Loc Cert.GradPoolKernelIdeal.nD Cert.GradPoolKernelIdeal.τ Cert.GradPoolKernelIdeal.sig) → Buf (Elt Ideal) ℓ) : Prop :=
  True

def Pre_GradPoolReferenceIdeal (m : (ℓ : Loc Cert.GradPoolReferenceIdeal.nD Cert.GradPoolReferenceIdeal.τ Cert.GradPoolReferenceIdeal.sig) → Buf (Elt Ideal) ℓ) : Prop :=
  True

def Pre_GradFfnKernel (m : (ℓ : Loc Cert.GradFfnKernel.nD Cert.GradFfnKernel.τ Cert.GradFfnKernel.sig) → Buf (Elt Bits) ℓ) : Prop :=
  True

def Pre_GradFfnKernelIdeal (m : (ℓ : Loc Cert.GradFfnKernelIdeal.nD Cert.GradFfnKernelIdeal.τ Cert.GradFfnKernelIdeal.sig) → Buf (Elt Ideal) ℓ) : Prop :=
  True

def Pre_GradFfnReferenceIdeal (m : (ℓ : Loc Cert.GradFfnReferenceIdeal.nD Cert.GradFfnReferenceIdeal.τ Cert.GradFfnReferenceIdeal.sig) → Buf (Elt Ideal) ℓ) : Prop :=
  True

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1)
      ∧ r.2.mem ((c.tc : Thread Cert.FfnInKernel.nD Cert.FfnInKernel.τ).loc Cert.FfnInKernel.main_arg2) = m ((c.tc : Thread Cert.FfnInKernel.nD Cert.FfnInKernel.τ).loc Cert.FfnInKernel.main_arg2)
      ∧ r.2.mem ((c.tc : Thread Cert.FfnInKernel.nD Cert.FfnInKernel.τ).loc Cert.FfnInKernel.main_arg3) = m ((c.tc : Thread Cert.FfnInKernel.nD Cert.FfnInKernel.τ).loc Cert.FfnInKernel.main_arg3)
      ∧ r.2.mem ((c.tc : Thread Cert.FfnInKernel.nD Cert.FfnInKernel.τ).loc Cert.FfnInKernel.main_arg4) = m ((c.tc : Thread Cert.FfnInKernel.nD Cert.FfnInKernel.τ).loc Cert.FfnInKernel.main_arg4)
      ∧ r.2.mem ((c.tc : Thread Cert.FfnInKernel.nD Cert.FfnInKernel.τ).loc Cert.FfnInKernel.main_arg5) = m ((c.tc : Thread Cert.FfnInKernel.nD Cert.FfnInKernel.τ).loc Cert.FfnInKernel.main_arg5))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5))
      ∧ r.2.sem = fun _ => 0)

def quiescent_FfnInKernelIdeal_pre_ffn_in_finite [hFfnInKernelIdeal : Cert.FfnInKernelIdeal.Facts] [hPre_ffn_in_finite : Cert.Pre_ffn_in_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal_ffn_in_finite m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5))
      ∧ r.2.sem = fun _ => 0)

def quiescent_FfnInReferenceIdeal_pre_ffn_in_finite [hFfnInReferenceIdeal : Cert.FfnInReferenceIdeal.Facts] [hPre_ffn_in_finite : Cert.Pre_ffn_in_finite.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal_ffn_in_finite m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2)
      ∧ r.2.mem ((c.tc : Thread Cert.InProjKernel.nD Cert.InProjKernel.τ).loc Cert.InProjKernel.main_arg3) = m ((c.tc : Thread Cert.InProjKernel.nD Cert.InProjKernel.τ).loc Cert.InProjKernel.main_arg3)
      ∧ r.2.mem ((c.tc : Thread Cert.InProjKernel.nD Cert.InProjKernel.τ).loc Cert.InProjKernel.main_arg4) = m ((c.tc : Thread Cert.InProjKernel.nD Cert.InProjKernel.τ).loc Cert.InProjKernel.main_arg4)
      ∧ r.2.mem ((c.tc : Thread Cert.InProjKernel.nD Cert.InProjKernel.τ).loc Cert.InProjKernel.main_arg5) = m ((c.tc : Thread Cert.InProjKernel.nD Cert.InProjKernel.τ).loc Cert.InProjKernel.main_arg5)
      ∧ r.2.mem ((c.tc : Thread Cert.InProjKernel.nD Cert.InProjKernel.τ).loc Cert.InProjKernel.main_arg6) = m ((c.tc : Thread Cert.InProjKernel.nD Cert.InProjKernel.τ).loc Cert.InProjKernel.main_arg6)
      ∧ r.2.mem ((c.tc : Thread Cert.InProjKernel.nD Cert.InProjKernel.τ).loc Cert.InProjKernel.main_arg7) = m ((c.tc : Thread Cert.InProjKernel.nD Cert.InProjKernel.τ).loc Cert.InProjKernel.main_arg7)
      ∧ r.2.mem ((c.tc : Thread Cert.InProjKernel.nD Cert.InProjKernel.τ).loc Cert.InProjKernel.main_arg8) = m ((c.tc : Thread Cert.InProjKernel.nD Cert.InProjKernel.τ).loc Cert.InProjKernel.main_arg8))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
      ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4)
      ∧ r.2.mem ((c.tc : Thread Cert.InProjKernelIdeal.nD Cert.InProjKernelIdeal.τ).loc Cert.InProjKernelIdeal.main_arg5) = m ((c.tc : Thread Cert.InProjKernelIdeal.nD Cert.InProjKernelIdeal.τ).loc Cert.InProjKernelIdeal.main_arg5)
      ∧ r.2.mem ((c.tc : Thread Cert.InProjKernelIdeal.nD Cert.InProjKernelIdeal.τ).loc Cert.InProjKernelIdeal.main_arg6) = m ((c.tc : Thread Cert.InProjKernelIdeal.nD Cert.InProjKernelIdeal.τ).loc Cert.InProjKernelIdeal.main_arg6)
      ∧ r.2.mem ((c.tc : Thread Cert.InProjKernelIdeal.nD Cert.InProjKernelIdeal.τ).loc Cert.InProjKernelIdeal.main_arg7) = m ((c.tc : Thread Cert.InProjKernelIdeal.nD Cert.InProjKernelIdeal.τ).loc Cert.InProjKernelIdeal.main_arg7)
      ∧ r.2.mem ((c.tc : Thread Cert.InProjKernelIdeal.nD Cert.InProjKernelIdeal.τ).loc Cert.InProjKernelIdeal.main_arg8) = m ((c.tc : Thread Cert.InProjKernelIdeal.nD Cert.InProjKernelIdeal.τ).loc Cert.InProjKernelIdeal.main_arg8))
      ∧ r.2.sem = fun _ => 0)

def quiescent_InProjKernelIdeal_pre_in_proj_finite [hInProjKernelIdeal : Cert.InProjKernelIdeal.Facts] [hPre_in_proj_finite : Cert.Pre_in_proj_finite.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal_in_proj_finite m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
      ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4)
      ∧ r.2.mem ((c.tc : Thread Cert.InProjKernelIdeal.nD Cert.InProjKernelIdeal.τ).loc Cert.InProjKernelIdeal.main_arg5) = m ((c.tc : Thread Cert.InProjKernelIdeal.nD Cert.InProjKernelIdeal.τ).loc Cert.InProjKernelIdeal.main_arg5)
      ∧ r.2.mem ((c.tc : Thread Cert.InProjKernelIdeal.nD Cert.InProjKernelIdeal.τ).loc Cert.InProjKernelIdeal.main_arg6) = m ((c.tc : Thread Cert.InProjKernelIdeal.nD Cert.InProjKernelIdeal.τ).loc Cert.InProjKernelIdeal.main_arg6)
      ∧ r.2.mem ((c.tc : Thread Cert.InProjKernelIdeal.nD Cert.InProjKernelIdeal.τ).loc Cert.InProjKernelIdeal.main_arg7) = m ((c.tc : Thread Cert.InProjKernelIdeal.nD Cert.InProjKernelIdeal.τ).loc Cert.InProjKernelIdeal.main_arg7)
      ∧ r.2.mem ((c.tc : Thread Cert.InProjKernelIdeal.nD Cert.InProjKernelIdeal.τ).loc Cert.InProjKernelIdeal.main_arg8) = m ((c.tc : Thread Cert.InProjKernelIdeal.nD Cert.InProjKernelIdeal.τ).loc Cert.InProjKernelIdeal.main_arg8))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8))
      ∧ r.2.sem = fun _ => 0)

def quiescent_InProjReferenceIdeal_pre_in_proj_finite [hInProjReferenceIdeal : Cert.InProjReferenceIdeal.Facts] [hPre_in_proj_finite : Cert.Pre_in_proj_finite.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_in_proj_finite m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_RnnFwdKernel [hRnnFwdKernel : Cert.RnnFwdKernel.Facts] : Prop :=
  ∀ (m : (ℓ : Loc Cert.RnnFwdKernel.nD Cert.RnnFwdKernel.τ Cert.RnnFwdKernel.sig) → Buf (Elt Bits) ℓ) (g : Dev Cert.RnnFwdKernel.nD → PrngReg), Pre_RnnFwdKernel m →
    θ_run (Cert.RnnFwdKernel.defs (F := Bits)) (onTc (τ := Cert.RnnFwdKernel.τ) (Cert.RnnFwdKernel.main (F := Bits))) ⟨m, fun _ => 0, g⟩ (fun r => (∀ c : Dev Cert.RnnFwdKernel.nD,
      r.2.mem ((c.tc : Thread Cert.RnnFwdKernel.nD Cert.RnnFwdKernel.τ).loc Cert.RnnFwdKernel.main_arg0) = m ((c.tc : Thread Cert.RnnFwdKernel.nD Cert.RnnFwdKernel.τ).loc Cert.RnnFwdKernel.main_arg0)
      ∧ r.2.mem ((c.tc : Thread Cert.RnnFwdKernel.nD Cert.RnnFwdKernel.τ).loc Cert.RnnFwdKernel.main_arg1) = m ((c.tc : Thread Cert.RnnFwdKernel.nD Cert.RnnFwdKernel.τ).loc Cert.RnnFwdKernel.main_arg1)
      ∧ r.2.mem ((c.tc : Thread Cert.RnnFwdKernel.nD Cert.RnnFwdKernel.τ).loc Cert.RnnFwdKernel.main_arg2) = m ((c.tc : Thread Cert.RnnFwdKernel.nD Cert.RnnFwdKernel.τ).loc Cert.RnnFwdKernel.main_arg2)
      ∧ r.2.mem ((c.tc : Thread Cert.RnnFwdKernel.nD Cert.RnnFwdKernel.τ).loc Cert.RnnFwdKernel.main_arg3) = m ((c.tc : Thread Cert.RnnFwdKernel.nD Cert.RnnFwdKernel.τ).loc Cert.RnnFwdKernel.main_arg3)
      ∧ r.2.mem ((c.tc : Thread Cert.RnnFwdKernel.nD Cert.RnnFwdKernel.τ).loc Cert.RnnFwdKernel.main_arg4) = m ((c.tc : Thread Cert.RnnFwdKernel.nD Cert.RnnFwdKernel.τ).loc Cert.RnnFwdKernel.main_arg4)
      ∧ r.2.mem ((c.tc : Thread Cert.RnnFwdKernel.nD Cert.RnnFwdKernel.τ).loc Cert.RnnFwdKernel.main_arg5) = m ((c.tc : Thread Cert.RnnFwdKernel.nD Cert.RnnFwdKernel.τ).loc Cert.RnnFwdKernel.main_arg5)
      ∧ r.2.mem ((c.tc : Thread Cert.RnnFwdKernel.nD Cert.RnnFwdKernel.τ).loc Cert.RnnFwdKernel.main_arg6) = m ((c.tc : Thread Cert.RnnFwdKernel.nD Cert.RnnFwdKernel.τ).loc Cert.RnnFwdKernel.main_arg6)
      ∧ r.2.mem ((c.tc : Thread Cert.RnnFwdKernel.nD Cert.RnnFwdKernel.τ).loc Cert.RnnFwdKernel.main_arg7) = m ((c.tc : Thread Cert.RnnFwdKernel.nD Cert.RnnFwdKernel.τ).loc Cert.RnnFwdKernel.main_arg7))
      ∧ r.2.sem = fun _ => 0)

def quiescent_RnnFwdKernelIdeal [hRnnFwdKernelIdeal : Cert.RnnFwdKernelIdeal.Facts] : Prop :=
  ∀ (m : (ℓ : Loc Cert.RnnFwdKernelIdeal.nD Cert.RnnFwdKernelIdeal.τ Cert.RnnFwdKernelIdeal.sig) → Buf (Elt Ideal) ℓ) (g : Dev Cert.RnnFwdKernelIdeal.nD → PrngReg), Pre_RnnFwdKernelIdeal m →
    θ_run (Cert.RnnFwdKernelIdeal.defs (F := Ideal)) (onTc (τ := Cert.RnnFwdKernelIdeal.τ) (Cert.RnnFwdKernelIdeal.main (F := Ideal))) ⟨m, fun _ => 0, g⟩ (fun r => (∀ c : Dev Cert.RnnFwdKernelIdeal.nD,
      r.2.mem ((c.tc : Thread Cert.RnnFwdKernelIdeal.nD Cert.RnnFwdKernelIdeal.τ).loc Cert.RnnFwdKernelIdeal.main_arg0) = m ((c.tc : Thread Cert.RnnFwdKernelIdeal.nD Cert.RnnFwdKernelIdeal.τ).loc Cert.RnnFwdKernelIdeal.main_arg0)
      ∧ r.2.mem ((c.tc : Thread Cert.RnnFwdKernelIdeal.nD Cert.RnnFwdKernelIdeal.τ).loc Cert.RnnFwdKernelIdeal.main_arg1) = m ((c.tc : Thread Cert.RnnFwdKernelIdeal.nD Cert.RnnFwdKernelIdeal.τ).loc Cert.RnnFwdKernelIdeal.main_arg1)
      ∧ r.2.mem ((c.tc : Thread Cert.RnnFwdKernelIdeal.nD Cert.RnnFwdKernelIdeal.τ).loc Cert.RnnFwdKernelIdeal.main_arg2) = m ((c.tc : Thread Cert.RnnFwdKernelIdeal.nD Cert.RnnFwdKernelIdeal.τ).loc Cert.RnnFwdKernelIdeal.main_arg2)
      ∧ r.2.mem ((c.tc : Thread Cert.RnnFwdKernelIdeal.nD Cert.RnnFwdKernelIdeal.τ).loc Cert.RnnFwdKernelIdeal.main_arg3) = m ((c.tc : Thread Cert.RnnFwdKernelIdeal.nD Cert.RnnFwdKernelIdeal.τ).loc Cert.RnnFwdKernelIdeal.main_arg3)
      ∧ r.2.mem ((c.tc : Thread Cert.RnnFwdKernelIdeal.nD Cert.RnnFwdKernelIdeal.τ).loc Cert.RnnFwdKernelIdeal.main_arg4) = m ((c.tc : Thread Cert.RnnFwdKernelIdeal.nD Cert.RnnFwdKernelIdeal.τ).loc Cert.RnnFwdKernelIdeal.main_arg4)
      ∧ r.2.mem ((c.tc : Thread Cert.RnnFwdKernelIdeal.nD Cert.RnnFwdKernelIdeal.τ).loc Cert.RnnFwdKernelIdeal.main_arg5) = m ((c.tc : Thread Cert.RnnFwdKernelIdeal.nD Cert.RnnFwdKernelIdeal.τ).loc Cert.RnnFwdKernelIdeal.main_arg5)
      ∧ r.2.mem ((c.tc : Thread Cert.RnnFwdKernelIdeal.nD Cert.RnnFwdKernelIdeal.τ).loc Cert.RnnFwdKernelIdeal.main_arg6) = m ((c.tc : Thread Cert.RnnFwdKernelIdeal.nD Cert.RnnFwdKernelIdeal.τ).loc Cert.RnnFwdKernelIdeal.main_arg6)
      ∧ r.2.mem ((c.tc : Thread Cert.RnnFwdKernelIdeal.nD Cert.RnnFwdKernelIdeal.τ).loc Cert.RnnFwdKernelIdeal.main_arg7) = m ((c.tc : Thread Cert.RnnFwdKernelIdeal.nD Cert.RnnFwdKernelIdeal.τ).loc Cert.RnnFwdKernelIdeal.main_arg7))
      ∧ r.2.sem = fun _ => 0)

def quiescent_RnnFwdKernelIdeal_pre_rnn_finite [hRnnFwdKernelIdeal : Cert.RnnFwdKernelIdeal.Facts] [hPre_rnn_finite : Cert.Pre_rnn_finite.Facts] : Prop :=
  ∀ (m : (ℓ : Loc Cert.RnnFwdKernelIdeal.nD Cert.RnnFwdKernelIdeal.τ Cert.RnnFwdKernelIdeal.sig) → Buf (Elt Ideal) ℓ) (g : Dev Cert.RnnFwdKernelIdeal.nD → PrngReg), Pre_RnnFwdKernelIdeal_rnn_finite m →
    θ_run (Cert.RnnFwdKernelIdeal.defs (F := Ideal)) (onTc (τ := Cert.RnnFwdKernelIdeal.τ) (Cert.RnnFwdKernelIdeal.main (F := Ideal))) ⟨m, fun _ => 0, g⟩ (fun r => (∀ c : Dev Cert.RnnFwdKernelIdeal.nD,
      r.2.mem ((c.tc : Thread Cert.RnnFwdKernelIdeal.nD Cert.RnnFwdKernelIdeal.τ).loc Cert.RnnFwdKernelIdeal.main_arg0) = m ((c.tc : Thread Cert.RnnFwdKernelIdeal.nD Cert.RnnFwdKernelIdeal.τ).loc Cert.RnnFwdKernelIdeal.main_arg0)
      ∧ r.2.mem ((c.tc : Thread Cert.RnnFwdKernelIdeal.nD Cert.RnnFwdKernelIdeal.τ).loc Cert.RnnFwdKernelIdeal.main_arg1) = m ((c.tc : Thread Cert.RnnFwdKernelIdeal.nD Cert.RnnFwdKernelIdeal.τ).loc Cert.RnnFwdKernelIdeal.main_arg1)
      ∧ r.2.mem ((c.tc : Thread Cert.RnnFwdKernelIdeal.nD Cert.RnnFwdKernelIdeal.τ).loc Cert.RnnFwdKernelIdeal.main_arg2) = m ((c.tc : Thread Cert.RnnFwdKernelIdeal.nD Cert.RnnFwdKernelIdeal.τ).loc Cert.RnnFwdKernelIdeal.main_arg2)
      ∧ r.2.mem ((c.tc : Thread Cert.RnnFwdKernelIdeal.nD Cert.RnnFwdKernelIdeal.τ).loc Cert.RnnFwdKernelIdeal.main_arg3) = m ((c.tc : Thread Cert.RnnFwdKernelIdeal.nD Cert.RnnFwdKernelIdeal.τ).loc Cert.RnnFwdKernelIdeal.main_arg3)
      ∧ r.2.mem ((c.tc : Thread Cert.RnnFwdKernelIdeal.nD Cert.RnnFwdKernelIdeal.τ).loc Cert.RnnFwdKernelIdeal.main_arg4) = m ((c.tc : Thread Cert.RnnFwdKernelIdeal.nD Cert.RnnFwdKernelIdeal.τ).loc Cert.RnnFwdKernelIdeal.main_arg4)
      ∧ r.2.mem ((c.tc : Thread Cert.RnnFwdKernelIdeal.nD Cert.RnnFwdKernelIdeal.τ).loc Cert.RnnFwdKernelIdeal.main_arg5) = m ((c.tc : Thread Cert.RnnFwdKernelIdeal.nD Cert.RnnFwdKernelIdeal.τ).loc Cert.RnnFwdKernelIdeal.main_arg5)
      ∧ r.2.mem ((c.tc : Thread Cert.RnnFwdKernelIdeal.nD Cert.RnnFwdKernelIdeal.τ).loc Cert.RnnFwdKernelIdeal.main_arg6) = m ((c.tc : Thread Cert.RnnFwdKernelIdeal.nD Cert.RnnFwdKernelIdeal.τ).loc Cert.RnnFwdKernelIdeal.main_arg6)
      ∧ r.2.mem ((c.tc : Thread Cert.RnnFwdKernelIdeal.nD Cert.RnnFwdKernelIdeal.τ).loc Cert.RnnFwdKernelIdeal.main_arg7) = m ((c.tc : Thread Cert.RnnFwdKernelIdeal.nD Cert.RnnFwdKernelIdeal.τ).loc Cert.RnnFwdKernelIdeal.main_arg7))
      ∧ r.2.sem = fun _ => 0)

def quiescent_RnnFwdReferenceIdeal [hRnnFwdReferenceIdeal : Cert.RnnFwdReferenceIdeal.Facts] : Prop :=
  ∀ (m : (ℓ : Loc Cert.RnnFwdReferenceIdeal.nD Cert.RnnFwdReferenceIdeal.τ Cert.RnnFwdReferenceIdeal.sig) → Buf (Elt Ideal) ℓ) (g : Dev Cert.RnnFwdReferenceIdeal.nD → PrngReg), Pre_RnnFwdReferenceIdeal m →
    θ_run (Cert.RnnFwdReferenceIdeal.defs (F := Ideal)) (onTc (τ := Cert.RnnFwdReferenceIdeal.τ) (Cert.RnnFwdReferenceIdeal.main (F := Ideal))) ⟨m, fun _ => 0, g⟩ (fun r => (∀ c : Dev Cert.RnnFwdReferenceIdeal.nD,
      r.2.mem ((c.tc : Thread Cert.RnnFwdReferenceIdeal.nD Cert.RnnFwdReferenceIdeal.τ).loc Cert.RnnFwdReferenceIdeal.main_arg0) = m ((c.tc : Thread Cert.RnnFwdReferenceIdeal.nD Cert.RnnFwdReferenceIdeal.τ).loc Cert.RnnFwdReferenceIdeal.main_arg0)
      ∧ r.2.mem ((c.tc : Thread Cert.RnnFwdReferenceIdeal.nD Cert.RnnFwdReferenceIdeal.τ).loc Cert.RnnFwdReferenceIdeal.main_arg1) = m ((c.tc : Thread Cert.RnnFwdReferenceIdeal.nD Cert.RnnFwdReferenceIdeal.τ).loc Cert.RnnFwdReferenceIdeal.main_arg1)
      ∧ r.2.mem ((c.tc : Thread Cert.RnnFwdReferenceIdeal.nD Cert.RnnFwdReferenceIdeal.τ).loc Cert.RnnFwdReferenceIdeal.main_arg2) = m ((c.tc : Thread Cert.RnnFwdReferenceIdeal.nD Cert.RnnFwdReferenceIdeal.τ).loc Cert.RnnFwdReferenceIdeal.main_arg2)
      ∧ r.2.mem ((c.tc : Thread Cert.RnnFwdReferenceIdeal.nD Cert.RnnFwdReferenceIdeal.τ).loc Cert.RnnFwdReferenceIdeal.main_arg3) = m ((c.tc : Thread Cert.RnnFwdReferenceIdeal.nD Cert.RnnFwdReferenceIdeal.τ).loc Cert.RnnFwdReferenceIdeal.main_arg3)
      ∧ r.2.mem ((c.tc : Thread Cert.RnnFwdReferenceIdeal.nD Cert.RnnFwdReferenceIdeal.τ).loc Cert.RnnFwdReferenceIdeal.main_arg4) = m ((c.tc : Thread Cert.RnnFwdReferenceIdeal.nD Cert.RnnFwdReferenceIdeal.τ).loc Cert.RnnFwdReferenceIdeal.main_arg4)
      ∧ r.2.mem ((c.tc : Thread Cert.RnnFwdReferenceIdeal.nD Cert.RnnFwdReferenceIdeal.τ).loc Cert.RnnFwdReferenceIdeal.main_arg5) = m ((c.tc : Thread Cert.RnnFwdReferenceIdeal.nD Cert.RnnFwdReferenceIdeal.τ).loc Cert.RnnFwdReferenceIdeal.main_arg5)
      ∧ r.2.mem ((c.tc : Thread Cert.RnnFwdReferenceIdeal.nD Cert.RnnFwdReferenceIdeal.τ).loc Cert.RnnFwdReferenceIdeal.main_arg6) = m ((c.tc : Thread Cert.RnnFwdReferenceIdeal.nD Cert.RnnFwdReferenceIdeal.τ).loc Cert.RnnFwdReferenceIdeal.main_arg6)
      ∧ r.2.mem ((c.tc : Thread Cert.RnnFwdReferenceIdeal.nD Cert.RnnFwdReferenceIdeal.τ).loc Cert.RnnFwdReferenceIdeal.main_arg7) = m ((c.tc : Thread Cert.RnnFwdReferenceIdeal.nD Cert.RnnFwdReferenceIdeal.τ).loc Cert.RnnFwdReferenceIdeal.main_arg7))
      ∧ r.2.sem = fun _ => 0)

def quiescent_RnnFwdReferenceIdeal_pre_rnn_finite [hRnnFwdReferenceIdeal : Cert.RnnFwdReferenceIdeal.Facts] [hPre_rnn_finite : Cert.Pre_rnn_finite.Facts] : Prop :=
  ∀ (m : (ℓ : Loc Cert.RnnFwdReferenceIdeal.nD Cert.RnnFwdReferenceIdeal.τ Cert.RnnFwdReferenceIdeal.sig) → Buf (Elt Ideal) ℓ) (g : Dev Cert.RnnFwdReferenceIdeal.nD → PrngReg), Pre_RnnFwdReferenceIdeal_rnn_finite m →
    θ_run (Cert.RnnFwdReferenceIdeal.defs (F := Ideal)) (onTc (τ := Cert.RnnFwdReferenceIdeal.τ) (Cert.RnnFwdReferenceIdeal.main (F := Ideal))) ⟨m, fun _ => 0, g⟩ (fun r => (∀ c : Dev Cert.RnnFwdReferenceIdeal.nD,
      r.2.mem ((c.tc : Thread Cert.RnnFwdReferenceIdeal.nD Cert.RnnFwdReferenceIdeal.τ).loc Cert.RnnFwdReferenceIdeal.main_arg0) = m ((c.tc : Thread Cert.RnnFwdReferenceIdeal.nD Cert.RnnFwdReferenceIdeal.τ).loc Cert.RnnFwdReferenceIdeal.main_arg0)
      ∧ r.2.mem ((c.tc : Thread Cert.RnnFwdReferenceIdeal.nD Cert.RnnFwdReferenceIdeal.τ).loc Cert.RnnFwdReferenceIdeal.main_arg1) = m ((c.tc : Thread Cert.RnnFwdReferenceIdeal.nD Cert.RnnFwdReferenceIdeal.τ).loc Cert.RnnFwdReferenceIdeal.main_arg1)
      ∧ r.2.mem ((c.tc : Thread Cert.RnnFwdReferenceIdeal.nD Cert.RnnFwdReferenceIdeal.τ).loc Cert.RnnFwdReferenceIdeal.main_arg2) = m ((c.tc : Thread Cert.RnnFwdReferenceIdeal.nD Cert.RnnFwdReferenceIdeal.τ).loc Cert.RnnFwdReferenceIdeal.main_arg2)
      ∧ r.2.mem ((c.tc : Thread Cert.RnnFwdReferenceIdeal.nD Cert.RnnFwdReferenceIdeal.τ).loc Cert.RnnFwdReferenceIdeal.main_arg3) = m ((c.tc : Thread Cert.RnnFwdReferenceIdeal.nD Cert.RnnFwdReferenceIdeal.τ).loc Cert.RnnFwdReferenceIdeal.main_arg3)
      ∧ r.2.mem ((c.tc : Thread Cert.RnnFwdReferenceIdeal.nD Cert.RnnFwdReferenceIdeal.τ).loc Cert.RnnFwdReferenceIdeal.main_arg4) = m ((c.tc : Thread Cert.RnnFwdReferenceIdeal.nD Cert.RnnFwdReferenceIdeal.τ).loc Cert.RnnFwdReferenceIdeal.main_arg4)
      ∧ r.2.mem ((c.tc : Thread Cert.RnnFwdReferenceIdeal.nD Cert.RnnFwdReferenceIdeal.τ).loc Cert.RnnFwdReferenceIdeal.main_arg5) = m ((c.tc : Thread Cert.RnnFwdReferenceIdeal.nD Cert.RnnFwdReferenceIdeal.τ).loc Cert.RnnFwdReferenceIdeal.main_arg5)
      ∧ r.2.mem ((c.tc : Thread Cert.RnnFwdReferenceIdeal.nD Cert.RnnFwdReferenceIdeal.τ).loc Cert.RnnFwdReferenceIdeal.main_arg6) = m ((c.tc : Thread Cert.RnnFwdReferenceIdeal.nD Cert.RnnFwdReferenceIdeal.τ).loc Cert.RnnFwdReferenceIdeal.main_arg6)
      ∧ r.2.mem ((c.tc : Thread Cert.RnnFwdReferenceIdeal.nD Cert.RnnFwdReferenceIdeal.τ).loc Cert.RnnFwdReferenceIdeal.main_arg7) = m ((c.tc : Thread Cert.RnnFwdReferenceIdeal.nD Cert.RnnFwdReferenceIdeal.τ).loc Cert.RnnFwdReferenceIdeal.main_arg7))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdKernelIdeal_pre_pool_fwd_finite [hPoolFwdKernelIdeal : Cert.PoolFwdKernelIdeal.Facts] [hPre_pool_fwd_finite : Cert.Pre_pool_fwd_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_pool_fwd_finite m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PoolFwdReferenceIdeal_pre_pool_fwd_finite [hPoolFwdReferenceIdeal : Cert.PoolFwdReferenceIdeal.Facts] [hPre_pool_fwd_finite : Cert.Pre_pool_fwd_finite.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_pool_fwd_finite m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2))
      ∧ r.2.sem = fun _ => 0)

def quiescent_FfnFwdKernelIdeal_pre_ffn_fwd_finite [hFfnFwdKernelIdeal : Cert.FfnFwdKernelIdeal.Facts] [hPre_ffn_fwd_finite : Cert.Pre_ffn_fwd_finite.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal_ffn_fwd_finite m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2))
      ∧ r.2.sem = fun _ => 0)

def quiescent_FfnFwdReferenceIdeal_pre_ffn_fwd_finite [hFfnFwdReferenceIdeal : Cert.FfnFwdReferenceIdeal.Facts] [hPre_ffn_fwd_finite : Cert.Pre_ffn_fwd_finite.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal_ffn_fwd_finite m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1))
      ∧ r.2.sem = fun _ => 0)

def quiescent_GradPoolKernel [hGradPoolKernel : Cert.GradPoolKernel.Facts] : Prop :=
  ∀ (m : (ℓ : Loc Cert.GradPoolKernel.nD Cert.GradPoolKernel.τ Cert.GradPoolKernel.sig) → Buf (Elt Bits) ℓ) (g : Dev Cert.GradPoolKernel.nD → PrngReg), Pre_GradPoolKernel m →
    θ_run (Cert.GradPoolKernel.defs (F := Bits)) (onTc (τ := Cert.GradPoolKernel.τ) (Cert.GradPoolKernel.main (F := Bits))) ⟨m, fun _ => 0, g⟩ (fun r => (∀ c : Dev Cert.GradPoolKernel.nD,
      r.2.mem ((c.tc : Thread Cert.GradPoolKernel.nD Cert.GradPoolKernel.τ).loc Cert.GradPoolKernel.main_arg0) = m ((c.tc : Thread Cert.GradPoolKernel.nD Cert.GradPoolKernel.τ).loc Cert.GradPoolKernel.main_arg0)
      ∧ r.2.mem ((c.tc : Thread Cert.GradPoolKernel.nD Cert.GradPoolKernel.τ).loc Cert.GradPoolKernel.main_arg1) = m ((c.tc : Thread Cert.GradPoolKernel.nD Cert.GradPoolKernel.τ).loc Cert.GradPoolKernel.main_arg1))
      ∧ r.2.sem = fun _ => 0)

def quiescent_GradPoolKernelIdeal [hGradPoolKernelIdeal : Cert.GradPoolKernelIdeal.Facts] : Prop :=
  ∀ (m : (ℓ : Loc Cert.GradPoolKernelIdeal.nD Cert.GradPoolKernelIdeal.τ Cert.GradPoolKernelIdeal.sig) → Buf (Elt Ideal) ℓ) (g : Dev Cert.GradPoolKernelIdeal.nD → PrngReg), Pre_GradPoolKernelIdeal m →
    θ_run (Cert.GradPoolKernelIdeal.defs (F := Ideal)) (onTc (τ := Cert.GradPoolKernelIdeal.τ) (Cert.GradPoolKernelIdeal.main (F := Ideal))) ⟨m, fun _ => 0, g⟩ (fun r => (∀ c : Dev Cert.GradPoolKernelIdeal.nD,
      r.2.mem ((c.tc : Thread Cert.GradPoolKernelIdeal.nD Cert.GradPoolKernelIdeal.τ).loc Cert.GradPoolKernelIdeal.main_arg0) = m ((c.tc : Thread Cert.GradPoolKernelIdeal.nD Cert.GradPoolKernelIdeal.τ).loc Cert.GradPoolKernelIdeal.main_arg0)
      ∧ r.2.mem ((c.tc : Thread Cert.GradPoolKernelIdeal.nD Cert.GradPoolKernelIdeal.τ).loc Cert.GradPoolKernelIdeal.main_arg1) = m ((c.tc : Thread Cert.GradPoolKernelIdeal.nD Cert.GradPoolKernelIdeal.τ).loc Cert.GradPoolKernelIdeal.main_arg1))
      ∧ r.2.sem = fun _ => 0)

def quiescent_GradPoolReferenceIdeal [hGradPoolReferenceIdeal : Cert.GradPoolReferenceIdeal.Facts] : Prop :=
  ∀ (m : (ℓ : Loc Cert.GradPoolReferenceIdeal.nD Cert.GradPoolReferenceIdeal.τ Cert.GradPoolReferenceIdeal.sig) → Buf (Elt Ideal) ℓ) (g : Dev Cert.GradPoolReferenceIdeal.nD → PrngReg), Pre_GradPoolReferenceIdeal m →
    θ_run (Cert.GradPoolReferenceIdeal.defs (F := Ideal)) (onTc (τ := Cert.GradPoolReferenceIdeal.τ) (Cert.GradPoolReferenceIdeal.main (F := Ideal))) ⟨m, fun _ => 0, g⟩ (fun r => (∀ c : Dev Cert.GradPoolReferenceIdeal.nD,
      r.2.mem ((c.tc : Thread Cert.GradPoolReferenceIdeal.nD Cert.GradPoolReferenceIdeal.τ).loc Cert.GradPoolReferenceIdeal.main_arg0) = m ((c.tc : Thread Cert.GradPoolReferenceIdeal.nD Cert.GradPoolReferenceIdeal.τ).loc Cert.GradPoolReferenceIdeal.main_arg0)
      ∧ r.2.mem ((c.tc : Thread Cert.GradPoolReferenceIdeal.nD Cert.GradPoolReferenceIdeal.τ).loc Cert.GradPoolReferenceIdeal.main_arg1) = m ((c.tc : Thread Cert.GradPoolReferenceIdeal.nD Cert.GradPoolReferenceIdeal.τ).loc Cert.GradPoolReferenceIdeal.main_arg1))
      ∧ r.2.sem = fun _ => 0)

def quiescent_GradFfnKernel [hGradFfnKernel : Cert.GradFfnKernel.Facts] : Prop :=
  ∀ (m : (ℓ : Loc Cert.GradFfnKernel.nD Cert.GradFfnKernel.τ Cert.GradFfnKernel.sig) → Buf (Elt Bits) ℓ) (g : Dev Cert.GradFfnKernel.nD → PrngReg), Pre_GradFfnKernel m →
    θ_run (Cert.GradFfnKernel.defs (F := Bits)) (onTc (τ := Cert.GradFfnKernel.τ) (Cert.GradFfnKernel.main (F := Bits))) ⟨m, fun _ => 0, g⟩ (fun r => (∀ c : Dev Cert.GradFfnKernel.nD,
      r.2.mem ((c.tc : Thread Cert.GradFfnKernel.nD Cert.GradFfnKernel.τ).loc Cert.GradFfnKernel.main_arg0) = m ((c.tc : Thread Cert.GradFfnKernel.nD Cert.GradFfnKernel.τ).loc Cert.GradFfnKernel.main_arg0)
      ∧ r.2.mem ((c.tc : Thread Cert.GradFfnKernel.nD Cert.GradFfnKernel.τ).loc Cert.GradFfnKernel.main_arg1) = m ((c.tc : Thread Cert.GradFfnKernel.nD Cert.GradFfnKernel.τ).loc Cert.GradFfnKernel.main_arg1))
      ∧ r.2.sem = fun _ => 0)

def quiescent_GradFfnKernelIdeal [hGradFfnKernelIdeal : Cert.GradFfnKernelIdeal.Facts] : Prop :=
  ∀ (m : (ℓ : Loc Cert.GradFfnKernelIdeal.nD Cert.GradFfnKernelIdeal.τ Cert.GradFfnKernelIdeal.sig) → Buf (Elt Ideal) ℓ) (g : Dev Cert.GradFfnKernelIdeal.nD → PrngReg), Pre_GradFfnKernelIdeal m →
    θ_run (Cert.GradFfnKernelIdeal.defs (F := Ideal)) (onTc (τ := Cert.GradFfnKernelIdeal.τ) (Cert.GradFfnKernelIdeal.main (F := Ideal))) ⟨m, fun _ => 0, g⟩ (fun r => (∀ c : Dev Cert.GradFfnKernelIdeal.nD,
      r.2.mem ((c.tc : Thread Cert.GradFfnKernelIdeal.nD Cert.GradFfnKernelIdeal.τ).loc Cert.GradFfnKernelIdeal.main_arg0) = m ((c.tc : Thread Cert.GradFfnKernelIdeal.nD Cert.GradFfnKernelIdeal.τ).loc Cert.GradFfnKernelIdeal.main_arg0)
      ∧ r.2.mem ((c.tc : Thread Cert.GradFfnKernelIdeal.nD Cert.GradFfnKernelIdeal.τ).loc Cert.GradFfnKernelIdeal.main_arg1) = m ((c.tc : Thread Cert.GradFfnKernelIdeal.nD Cert.GradFfnKernelIdeal.τ).loc Cert.GradFfnKernelIdeal.main_arg1))
      ∧ r.2.sem = fun _ => 0)

def quiescent_GradFfnReferenceIdeal [hGradFfnReferenceIdeal : Cert.GradFfnReferenceIdeal.Facts] : Prop :=
  ∀ (m : (ℓ : Loc Cert.GradFfnReferenceIdeal.nD Cert.GradFfnReferenceIdeal.τ Cert.GradFfnReferenceIdeal.sig) → Buf (Elt Ideal) ℓ) (g : Dev Cert.GradFfnReferenceIdeal.nD → PrngReg), Pre_GradFfnReferenceIdeal m →
    θ_run (Cert.GradFfnReferenceIdeal.defs (F := Ideal)) (onTc (τ := Cert.GradFfnReferenceIdeal.τ) (Cert.GradFfnReferenceIdeal.main (F := Ideal))) ⟨m, fun _ => 0, g⟩ (fun r => (∀ c : Dev Cert.GradFfnReferenceIdeal.nD,
      r.2.mem ((c.tc : Thread Cert.GradFfnReferenceIdeal.nD Cert.GradFfnReferenceIdeal.τ).loc Cert.GradFfnReferenceIdeal.main_arg0) = m ((c.tc : Thread Cert.GradFfnReferenceIdeal.nD Cert.GradFfnReferenceIdeal.τ).loc Cert.GradFfnReferenceIdeal.main_arg0)
      ∧ r.2.mem ((c.tc : Thread Cert.GradFfnReferenceIdeal.nD Cert.GradFfnReferenceIdeal.τ).loc Cert.GradFfnReferenceIdeal.main_arg1) = m ((c.tc : Thread Cert.GradFfnReferenceIdeal.nD Cert.GradFfnReferenceIdeal.τ).loc Cert.GradFfnReferenceIdeal.main_arg1))
      ∧ r.2.sem = fun _ => 0)

def preserves_FfnInKernel_FfnInKernelIdeal : Prop :=
  True

def algebraic_FfnInKernelIdeal_FfnInReferenceIdeal_pre_ffn_in_finite [hFfnInKernelIdeal : Cert.FfnInKernelIdeal.Facts] [hFfnInReferenceIdeal : Cert.FfnInReferenceIdeal.Facts] [hPre_ffn_in_finite : Cert.Pre_ffn_in_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal_ffn_in_finite m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)
      ∧ m' ((c.tc : Thread Cert.FfnInReferenceIdeal.nD Cert.FfnInReferenceIdeal.τ).loc Cert.FfnInReferenceIdeal.main_arg2) = m ((c.tc : Thread Cert.FfnInKernelIdeal.nD Cert.FfnInKernelIdeal.τ).loc Cert.FfnInKernelIdeal.main_arg2)
      ∧ m' ((c.tc : Thread Cert.FfnInReferenceIdeal.nD Cert.FfnInReferenceIdeal.τ).loc Cert.FfnInReferenceIdeal.main_arg3) = m ((c.tc : Thread Cert.FfnInKernelIdeal.nD Cert.FfnInKernelIdeal.τ).loc Cert.FfnInKernelIdeal.main_arg3)
      ∧ m' ((c.tc : Thread Cert.FfnInReferenceIdeal.nD Cert.FfnInReferenceIdeal.τ).loc Cert.FfnInReferenceIdeal.main_arg4) = m ((c.tc : Thread Cert.FfnInKernelIdeal.nD Cert.FfnInKernelIdeal.τ).loc Cert.FfnInKernelIdeal.main_arg4)
      ∧ m' ((c.tc : Thread Cert.FfnInReferenceIdeal.nD Cert.FfnInReferenceIdeal.τ).loc Cert.FfnInReferenceIdeal.main_arg5) = m ((c.tc : Thread Cert.FfnInKernelIdeal.nD Cert.FfnInKernelIdeal.τ).loc Cert.FfnInKernelIdeal.main_arg5)) →
    ∃ (v0 : (c : Dev Cert.FfnInKernelIdeal.nD) → Buf (Elt Ideal) ((c.tc : Thread Cert.FfnInKernelIdeal.nD Cert.FfnInKernelIdeal.τ).loc Cert.FfnInKernelIdeal.main_v4_0)) (v1 : (c : Dev Cert.FfnInKernelIdeal.nD) → Buf (Elt Ideal) ((c.tc : Thread Cert.FfnInKernelIdeal.nD Cert.FfnInKernelIdeal.τ).loc Cert.FfnInKernelIdeal.main_v4_1)) (v2 : (c : Dev Cert.FfnInKernelIdeal.nD) → Buf (Elt Ideal) ((c.tc : Thread Cert.FfnInKernelIdeal.nD Cert.FfnInKernelIdeal.τ).loc Cert.FfnInKernelIdeal.main_v4_2)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v4_0) = v0 c
          ∧ r.2.mem ((c.tc : Thread Cert.FfnInKernelIdeal.nD Cert.FfnInKernelIdeal.τ).loc Cert.FfnInKernelIdeal.main_v4_1) = v1 c
          ∧ r.2.mem ((c.tc : Thread Cert.FfnInKernelIdeal.nD Cert.FfnInKernelIdeal.τ).loc Cert.FfnInKernelIdeal.main_v4_2) = v2 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
          ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
          ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
          ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
          ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v45) = v0 c
          ∧ r.2.mem ((c.tc : Thread Cert.FfnInReferenceIdeal.nD Cert.FfnInReferenceIdeal.τ).loc Cert.FfnInReferenceIdeal.main_v47) = v1 c
          ∧ r.2.mem ((c.tc : Thread Cert.FfnInReferenceIdeal.nD Cert.FfnInReferenceIdeal.τ).loc Cert.FfnInReferenceIdeal.main_v46) = v2 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4)
          ∧ r.2.mem ((c.tc : Thread Cert.FfnInReferenceIdeal.nD Cert.FfnInReferenceIdeal.τ).loc Cert.FfnInReferenceIdeal.main_arg5) = m' ((c.tc : Thread Cert.FfnInReferenceIdeal.nD Cert.FfnInReferenceIdeal.τ).loc Cert.FfnInReferenceIdeal.main_arg5))

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v1_0)) (v1 : (c : Dev Cert.PoolKernelIdeal.nD) → Buf (Elt Ideal) ((c.tc : Thread Cert.PoolKernelIdeal.nD Cert.PoolKernelIdeal.τ).loc Cert.PoolKernelIdeal.main_v1_1)) (v2 : (c : Dev Cert.PoolKernelIdeal.nD) → Buf (Elt Ideal) ((c.tc : Thread Cert.PoolKernelIdeal.nD Cert.PoolKernelIdeal.τ).loc Cert.PoolKernelIdeal.main_v1_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1_0) = v0 c
          ∧ r.2.mem ((c.tc : Thread Cert.PoolKernelIdeal.nD Cert.PoolKernelIdeal.τ).loc Cert.PoolKernelIdeal.main_v1_1) = v1 c
          ∧ r.2.mem ((c.tc : Thread Cert.PoolKernelIdeal.nD Cert.PoolKernelIdeal.τ).loc Cert.PoolKernelIdeal.main_v1_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v171) = v0 c
          ∧ r.2.mem ((c.tc : Thread Cert.PoolReferenceIdeal.nD Cert.PoolReferenceIdeal.τ).loc Cert.PoolReferenceIdeal.main_v172) = v1 c
          ∧ r.2.mem ((c.tc : Thread Cert.PoolReferenceIdeal.nD Cert.PoolReferenceIdeal.τ).loc Cert.PoolReferenceIdeal.main_v168) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_InProjKernel_InProjKernelIdeal : Prop :=
  True

def algebraic_InProjKernelIdeal_InProjReferenceIdeal_pre_in_proj_finite [hInProjKernelIdeal : Cert.InProjKernelIdeal.Facts] [hInProjReferenceIdeal : Cert.InProjReferenceIdeal.Facts] [hPre_in_proj_finite : Cert.Pre_in_proj_finite.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal_in_proj_finite m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)
      ∧ m' ((c.tc : Thread Cert.InProjReferenceIdeal.nD Cert.InProjReferenceIdeal.τ).loc Cert.InProjReferenceIdeal.main_arg2) = m ((c.tc : Thread Cert.InProjKernelIdeal.nD Cert.InProjKernelIdeal.τ).loc Cert.InProjKernelIdeal.main_arg2)
      ∧ m' ((c.tc : Thread Cert.InProjReferenceIdeal.nD Cert.InProjReferenceIdeal.τ).loc Cert.InProjReferenceIdeal.main_arg3) = m ((c.tc : Thread Cert.InProjKernelIdeal.nD Cert.InProjKernelIdeal.τ).loc Cert.InProjKernelIdeal.main_arg3)
      ∧ m' ((c.tc : Thread Cert.InProjReferenceIdeal.nD Cert.InProjReferenceIdeal.τ).loc Cert.InProjReferenceIdeal.main_arg4) = m ((c.tc : Thread Cert.InProjKernelIdeal.nD Cert.InProjKernelIdeal.τ).loc Cert.InProjKernelIdeal.main_arg4)
      ∧ m' ((c.tc : Thread Cert.InProjReferenceIdeal.nD Cert.InProjReferenceIdeal.τ).loc Cert.InProjReferenceIdeal.main_arg5) = m ((c.tc : Thread Cert.InProjKernelIdeal.nD Cert.InProjKernelIdeal.τ).loc Cert.InProjKernelIdeal.main_arg5)
      ∧ m' ((c.tc : Thread Cert.InProjReferenceIdeal.nD Cert.InProjReferenceIdeal.τ).loc Cert.InProjReferenceIdeal.main_arg6) = m ((c.tc : Thread Cert.InProjKernelIdeal.nD Cert.InProjKernelIdeal.τ).loc Cert.InProjKernelIdeal.main_arg6)
      ∧ m' ((c.tc : Thread Cert.InProjReferenceIdeal.nD Cert.InProjReferenceIdeal.τ).loc Cert.InProjReferenceIdeal.main_arg7) = m ((c.tc : Thread Cert.InProjKernelIdeal.nD Cert.InProjKernelIdeal.τ).loc Cert.InProjKernelIdeal.main_arg7)
      ∧ m' ((c.tc : Thread Cert.InProjReferenceIdeal.nD Cert.InProjReferenceIdeal.τ).loc Cert.InProjReferenceIdeal.main_arg8) = m ((c.tc : Thread Cert.InProjKernelIdeal.nD Cert.InProjKernelIdeal.τ).loc Cert.InProjKernelIdeal.main_arg8)) →
    ∃ (v0 : (c : Dev Cert.InProjKernelIdeal.nD) → Buf (Elt Ideal) ((c.tc : Thread Cert.InProjKernelIdeal.nD Cert.InProjKernelIdeal.τ).loc Cert.InProjKernelIdeal.main_v7_0)) (v1 : (c : Dev Cert.InProjKernelIdeal.nD) → Buf (Elt Ideal) ((c.tc : Thread Cert.InProjKernelIdeal.nD Cert.InProjKernelIdeal.τ).loc Cert.InProjKernelIdeal.main_v7_1)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v7_0) = v0 c
          ∧ r.2.mem ((c.tc : Thread Cert.InProjKernelIdeal.nD Cert.InProjKernelIdeal.τ).loc Cert.InProjKernelIdeal.main_v7_1) = v1 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
          ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
          ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4)
          ∧ r.2.mem ((c.tc : Thread Cert.InProjKernelIdeal.nD Cert.InProjKernelIdeal.τ).loc Cert.InProjKernelIdeal.main_arg5) = m ((c.tc : Thread Cert.InProjKernelIdeal.nD Cert.InProjKernelIdeal.τ).loc Cert.InProjKernelIdeal.main_arg5)
          ∧ r.2.mem ((c.tc : Thread Cert.InProjKernelIdeal.nD Cert.InProjKernelIdeal.τ).loc Cert.InProjKernelIdeal.main_arg6) = m ((c.tc : Thread Cert.InProjKernelIdeal.nD Cert.InProjKernelIdeal.τ).loc Cert.InProjKernelIdeal.main_arg6)
          ∧ r.2.mem ((c.tc : Thread Cert.InProjKernelIdeal.nD Cert.InProjKernelIdeal.τ).loc Cert.InProjKernelIdeal.main_arg7) = m ((c.tc : Thread Cert.InProjKernelIdeal.nD Cert.InProjKernelIdeal.τ).loc Cert.InProjKernelIdeal.main_arg7)
          ∧ r.2.mem ((c.tc : Thread Cert.InProjKernelIdeal.nD Cert.InProjKernelIdeal.τ).loc Cert.InProjKernelIdeal.main_arg8) = m ((c.tc : Thread Cert.InProjKernelIdeal.nD Cert.InProjKernelIdeal.τ).loc Cert.InProjKernelIdeal.main_arg8))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v54) = v0 c
          ∧ r.2.mem ((c.tc : Thread Cert.InProjReferenceIdeal.nD Cert.InProjReferenceIdeal.τ).loc Cert.InProjReferenceIdeal.main_v55) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v4_0)) (v1 : (c : Dev Cert.LossKernelIdeal.nD) → Buf (Elt Ideal) ((c.tc : Thread Cert.LossKernelIdeal.nD Cert.LossKernelIdeal.τ).loc Cert.LossKernelIdeal.main_v4_1)) (v2 : (c : Dev Cert.LossKernelIdeal.nD) → Buf (Elt Ideal) ((c.tc : Thread Cert.LossKernelIdeal.nD Cert.LossKernelIdeal.τ).loc Cert.LossKernelIdeal.main_v4_2)) (v3 : (c : Dev Cert.LossKernelIdeal.nD) → Buf (Elt Ideal) ((c.tc : Thread Cert.LossKernelIdeal.nD Cert.LossKernelIdeal.τ).loc Cert.LossKernelIdeal.main_v4_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4_0) = v0 c
          ∧ r.2.mem ((c.tc : Thread Cert.LossKernelIdeal.nD Cert.LossKernelIdeal.τ).loc Cert.LossKernelIdeal.main_v4_1) = v1 c
          ∧ r.2.mem ((c.tc : Thread Cert.LossKernelIdeal.nD Cert.LossKernelIdeal.τ).loc Cert.LossKernelIdeal.main_v4_2) = v2 c
          ∧ r.2.mem ((c.tc : Thread Cert.LossKernelIdeal.nD Cert.LossKernelIdeal.τ).loc Cert.LossKernelIdeal.main_v4_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v71) = v2 c
          ∧ r.2.mem ((c.tc : Thread Cert.LossReferenceIdeal.nD Cert.LossReferenceIdeal.τ).loc Cert.LossReferenceIdeal.main_v72) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)) →
    ∃ (v0 : (c : Dev Cert.MergeKernelIdeal.nD) → Buf (Elt Ideal) ((c.tc : Thread Cert.MergeKernelIdeal.nD Cert.MergeKernelIdeal.τ).loc Cert.MergeKernelIdeal.main_v8_4)) (v1 : (c : Dev Cert.MergeKernelIdeal.nD) → Buf (Elt Ideal) ((c.tc : Thread Cert.MergeKernelIdeal.nD Cert.MergeKernelIdeal.τ).loc Cert.MergeKernelIdeal.main_v8_5)) (v2 : (c : Dev Cert.MergeKernelIdeal.nD) → Buf (Elt Ideal) ((c.tc : Thread Cert.MergeKernelIdeal.nD Cert.MergeKernelIdeal.τ).loc Cert.MergeKernelIdeal.main_v10_0)) (v3 : (c : Dev Cert.MergeKernelIdeal.nD) → Buf (Elt Ideal) ((c.tc : Thread Cert.MergeKernelIdeal.nD Cert.MergeKernelIdeal.τ).loc Cert.MergeKernelIdeal.main_v10_1)) (v4 : (c : Dev Cert.MergeKernelIdeal.nD) → Buf (Elt Ideal) ((c.tc : Thread Cert.MergeKernelIdeal.nD Cert.MergeKernelIdeal.τ).loc Cert.MergeKernelIdeal.main_v10_2)) (v5 : (c : Dev Cert.MergeKernelIdeal.nD) → Buf (Elt Ideal) ((c.tc : Thread Cert.MergeKernelIdeal.nD Cert.MergeKernelIdeal.τ).loc Cert.MergeKernelIdeal.main_v10_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v8_4) = v0 c
          ∧ r.2.mem ((c.tc : Thread Cert.MergeKernelIdeal.nD Cert.MergeKernelIdeal.τ).loc Cert.MergeKernelIdeal.main_v8_5) = v1 c
          ∧ r.2.mem ((c.tc : Thread Cert.MergeKernelIdeal.nD Cert.MergeKernelIdeal.τ).loc Cert.MergeKernelIdeal.main_v10_0) = v2 c
          ∧ r.2.mem ((c.tc : Thread Cert.MergeKernelIdeal.nD Cert.MergeKernelIdeal.τ).loc Cert.MergeKernelIdeal.main_v10_1) = v3 c
          ∧ r.2.mem ((c.tc : Thread Cert.MergeKernelIdeal.nD Cert.MergeKernelIdeal.τ).loc Cert.MergeKernelIdeal.main_v10_2) = v4 c
          ∧ r.2.mem ((c.tc : Thread Cert.MergeKernelIdeal.nD Cert.MergeKernelIdeal.τ).loc Cert.MergeKernelIdeal.main_v10_3) = v5 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v45) = v0 c
          ∧ r.2.mem ((c.tc : Thread Cert.MergeReferenceIdeal.nD Cert.MergeReferenceIdeal.τ).loc Cert.MergeReferenceIdeal.main_v29) = v1 c
          ∧ r.2.mem ((c.tc : Thread Cert.MergeReferenceIdeal.nD Cert.MergeReferenceIdeal.τ).loc Cert.MergeReferenceIdeal.main_v53) = v2 c
          ∧ r.2.mem ((c.tc : Thread Cert.MergeReferenceIdeal.nD Cert.MergeReferenceIdeal.τ).loc Cert.MergeReferenceIdeal.main_v54) = v3 c
          ∧ r.2.mem ((c.tc : Thread Cert.MergeReferenceIdeal.nD Cert.MergeReferenceIdeal.τ).loc Cert.MergeReferenceIdeal.main_v55) = v4 c
          ∧ r.2.mem ((c.tc : Thread Cert.MergeReferenceIdeal.nD Cert.MergeReferenceIdeal.τ).loc Cert.MergeReferenceIdeal.main_v56) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_RnnFwdKernel_RnnFwdKernelIdeal : Prop :=
  True

def algebraic_RnnFwdKernelIdeal_RnnFwdReferenceIdeal_pre_rnn_finite [hRnnFwdKernelIdeal : Cert.RnnFwdKernelIdeal.Facts] [hRnnFwdReferenceIdeal : Cert.RnnFwdReferenceIdeal.Facts] [hPre_rnn_finite : Cert.Pre_rnn_finite.Facts] : Prop :=
  ∀ (m : (ℓ : Loc Cert.RnnFwdKernelIdeal.nD Cert.RnnFwdKernelIdeal.τ Cert.RnnFwdKernelIdeal.sig) → Buf (Elt Ideal) ℓ) (g : Dev Cert.RnnFwdKernelIdeal.nD → PrngReg)
    (m' : (ℓ : Loc Cert.RnnFwdReferenceIdeal.nD Cert.RnnFwdReferenceIdeal.τ Cert.RnnFwdReferenceIdeal.sig) → Buf (Elt Ideal) ℓ) (g' : Dev Cert.RnnFwdReferenceIdeal.nD → PrngReg), Pre_RnnFwdKernelIdeal_rnn_finite m →
    (∀ c : Dev Cert.RnnFwdKernelIdeal.nD,
      m' ((c.tc : Thread Cert.RnnFwdReferenceIdeal.nD Cert.RnnFwdReferenceIdeal.τ).loc Cert.RnnFwdReferenceIdeal.main_arg0) = m ((c.tc : Thread Cert.RnnFwdKernelIdeal.nD Cert.RnnFwdKernelIdeal.τ).loc Cert.RnnFwdKernelIdeal.main_arg0)
      ∧ m' ((c.tc : Thread Cert.RnnFwdReferenceIdeal.nD Cert.RnnFwdReferenceIdeal.τ).loc Cert.RnnFwdReferenceIdeal.main_arg1) = m ((c.tc : Thread Cert.RnnFwdKernelIdeal.nD Cert.RnnFwdKernelIdeal.τ).loc Cert.RnnFwdKernelIdeal.main_arg1)
      ∧ m' ((c.tc : Thread Cert.RnnFwdReferenceIdeal.nD Cert.RnnFwdReferenceIdeal.τ).loc Cert.RnnFwdReferenceIdeal.main_arg2) = m ((c.tc : Thread Cert.RnnFwdKernelIdeal.nD Cert.RnnFwdKernelIdeal.τ).loc Cert.RnnFwdKernelIdeal.main_arg2)
      ∧ m' ((c.tc : Thread Cert.RnnFwdReferenceIdeal.nD Cert.RnnFwdReferenceIdeal.τ).loc Cert.RnnFwdReferenceIdeal.main_arg3) = m ((c.tc : Thread Cert.RnnFwdKernelIdeal.nD Cert.RnnFwdKernelIdeal.τ).loc Cert.RnnFwdKernelIdeal.main_arg3)
      ∧ m' ((c.tc : Thread Cert.RnnFwdReferenceIdeal.nD Cert.RnnFwdReferenceIdeal.τ).loc Cert.RnnFwdReferenceIdeal.main_arg4) = m ((c.tc : Thread Cert.RnnFwdKernelIdeal.nD Cert.RnnFwdKernelIdeal.τ).loc Cert.RnnFwdKernelIdeal.main_arg4)
      ∧ m' ((c.tc : Thread Cert.RnnFwdReferenceIdeal.nD Cert.RnnFwdReferenceIdeal.τ).loc Cert.RnnFwdReferenceIdeal.main_arg5) = m ((c.tc : Thread Cert.RnnFwdKernelIdeal.nD Cert.RnnFwdKernelIdeal.τ).loc Cert.RnnFwdKernelIdeal.main_arg5)
      ∧ m' ((c.tc : Thread Cert.RnnFwdReferenceIdeal.nD Cert.RnnFwdReferenceIdeal.τ).loc Cert.RnnFwdReferenceIdeal.main_arg6) = m ((c.tc : Thread Cert.RnnFwdKernelIdeal.nD Cert.RnnFwdKernelIdeal.τ).loc Cert.RnnFwdKernelIdeal.main_arg6)
      ∧ m' ((c.tc : Thread Cert.RnnFwdReferenceIdeal.nD Cert.RnnFwdReferenceIdeal.τ).loc Cert.RnnFwdReferenceIdeal.main_arg7) = m ((c.tc : Thread Cert.RnnFwdKernelIdeal.nD Cert.RnnFwdKernelIdeal.τ).loc Cert.RnnFwdKernelIdeal.main_arg7)) →
    ∃ (v0 : (c : Dev Cert.RnnFwdKernelIdeal.nD) → Buf (Elt Ideal) ((c.tc : Thread Cert.RnnFwdKernelIdeal.nD Cert.RnnFwdKernelIdeal.τ).loc Cert.RnnFwdKernelIdeal.main_v5_0)) (v1 : (c : Dev Cert.RnnFwdKernelIdeal.nD) → Buf (Elt Ideal) ((c.tc : Thread Cert.RnnFwdKernelIdeal.nD Cert.RnnFwdKernelIdeal.τ).loc Cert.RnnFwdKernelIdeal.main_v5_1)) (v2 : (c : Dev Cert.RnnFwdKernelIdeal.nD) → Buf (Elt Ideal) ((c.tc : Thread Cert.RnnFwdKernelIdeal.nD Cert.RnnFwdKernelIdeal.τ).loc Cert.RnnFwdKernelIdeal.main_v5_2)) (v3 : (c : Dev Cert.RnnFwdKernelIdeal.nD) → Buf (Elt Ideal) ((c.tc : Thread Cert.RnnFwdKernelIdeal.nD Cert.RnnFwdKernelIdeal.τ).loc Cert.RnnFwdKernelIdeal.main_v5_3)) (v4 : (c : Dev Cert.RnnFwdKernelIdeal.nD) → Buf (Elt Ideal) ((c.tc : Thread Cert.RnnFwdKernelIdeal.nD Cert.RnnFwdKernelIdeal.τ).loc Cert.RnnFwdKernelIdeal.main_v5_4)) (v5 : (c : Dev Cert.RnnFwdKernelIdeal.nD) → Buf (Elt Ideal) ((c.tc : Thread Cert.RnnFwdKernelIdeal.nD Cert.RnnFwdKernelIdeal.τ).loc Cert.RnnFwdKernelIdeal.main_v5_5)) (v6 : (c : Dev Cert.RnnFwdKernelIdeal.nD) → Buf (Elt Ideal) ((c.tc : Thread Cert.RnnFwdKernelIdeal.nD Cert.RnnFwdKernelIdeal.τ).loc Cert.RnnFwdKernelIdeal.main_v5_6)),
      θ_run (Cert.RnnFwdKernelIdeal.defs (F := Ideal)) (onTc (τ := Cert.RnnFwdKernelIdeal.τ) (Cert.RnnFwdKernelIdeal.main (F := Ideal))) ⟨m, fun _ => 0, g⟩ (fun r => ∀ c : Dev Cert.RnnFwdKernelIdeal.nD,
          r.2.mem ((c.tc : Thread Cert.RnnFwdKernelIdeal.nD Cert.RnnFwdKernelIdeal.τ).loc Cert.RnnFwdKernelIdeal.main_v5_0) = v0 c
          ∧ r.2.mem ((c.tc : Thread Cert.RnnFwdKernelIdeal.nD Cert.RnnFwdKernelIdeal.τ).loc Cert.RnnFwdKernelIdeal.main_v5_1) = v1 c
          ∧ r.2.mem ((c.tc : Thread Cert.RnnFwdKernelIdeal.nD Cert.RnnFwdKernelIdeal.τ).loc Cert.RnnFwdKernelIdeal.main_v5_2) = v2 c
          ∧ r.2.mem ((c.tc : Thread Cert.RnnFwdKernelIdeal.nD Cert.RnnFwdKernelIdeal.τ).loc Cert.RnnFwdKernelIdeal.main_v5_3) = v3 c
          ∧ r.2.mem ((c.tc : Thread Cert.RnnFwdKernelIdeal.nD Cert.RnnFwdKernelIdeal.τ).loc Cert.RnnFwdKernelIdeal.main_v5_4) = v4 c
          ∧ r.2.mem ((c.tc : Thread Cert.RnnFwdKernelIdeal.nD Cert.RnnFwdKernelIdeal.τ).loc Cert.RnnFwdKernelIdeal.main_v5_5) = v5 c
          ∧ r.2.mem ((c.tc : Thread Cert.RnnFwdKernelIdeal.nD Cert.RnnFwdKernelIdeal.τ).loc Cert.RnnFwdKernelIdeal.main_v5_6) = v6 c
          ∧ r.2.mem ((c.tc : Thread Cert.RnnFwdKernelIdeal.nD Cert.RnnFwdKernelIdeal.τ).loc Cert.RnnFwdKernelIdeal.main_arg0) = m ((c.tc : Thread Cert.RnnFwdKernelIdeal.nD Cert.RnnFwdKernelIdeal.τ).loc Cert.RnnFwdKernelIdeal.main_arg0)
          ∧ r.2.mem ((c.tc : Thread Cert.RnnFwdKernelIdeal.nD Cert.RnnFwdKernelIdeal.τ).loc Cert.RnnFwdKernelIdeal.main_arg1) = m ((c.tc : Thread Cert.RnnFwdKernelIdeal.nD Cert.RnnFwdKernelIdeal.τ).loc Cert.RnnFwdKernelIdeal.main_arg1)
          ∧ r.2.mem ((c.tc : Thread Cert.RnnFwdKernelIdeal.nD Cert.RnnFwdKernelIdeal.τ).loc Cert.RnnFwdKernelIdeal.main_arg2) = m ((c.tc : Thread Cert.RnnFwdKernelIdeal.nD Cert.RnnFwdKernelIdeal.τ).loc Cert.RnnFwdKernelIdeal.main_arg2)
          ∧ r.2.mem ((c.tc : Thread Cert.RnnFwdKernelIdeal.nD Cert.RnnFwdKernelIdeal.τ).loc Cert.RnnFwdKernelIdeal.main_arg3) = m ((c.tc : Thread Cert.RnnFwdKernelIdeal.nD Cert.RnnFwdKernelIdeal.τ).loc Cert.RnnFwdKernelIdeal.main_arg3)
          ∧ r.2.mem ((c.tc : Thread Cert.RnnFwdKernelIdeal.nD Cert.RnnFwdKernelIdeal.τ).loc Cert.RnnFwdKernelIdeal.main_arg4) = m ((c.tc : Thread Cert.RnnFwdKernelIdeal.nD Cert.RnnFwdKernelIdeal.τ).loc Cert.RnnFwdKernelIdeal.main_arg4)
          ∧ r.2.mem ((c.tc : Thread Cert.RnnFwdKernelIdeal.nD Cert.RnnFwdKernelIdeal.τ).loc Cert.RnnFwdKernelIdeal.main_arg5) = m ((c.tc : Thread Cert.RnnFwdKernelIdeal.nD Cert.RnnFwdKernelIdeal.τ).loc Cert.RnnFwdKernelIdeal.main_arg5)
          ∧ r.2.mem ((c.tc : Thread Cert.RnnFwdKernelIdeal.nD Cert.RnnFwdKernelIdeal.τ).loc Cert.RnnFwdKernelIdeal.main_arg6) = m ((c.tc : Thread Cert.RnnFwdKernelIdeal.nD Cert.RnnFwdKernelIdeal.τ).loc Cert.RnnFwdKernelIdeal.main_arg6)
          ∧ r.2.mem ((c.tc : Thread Cert.RnnFwdKernelIdeal.nD Cert.RnnFwdKernelIdeal.τ).loc Cert.RnnFwdKernelIdeal.main_arg7) = m ((c.tc : Thread Cert.RnnFwdKernelIdeal.nD Cert.RnnFwdKernelIdeal.τ).loc Cert.RnnFwdKernelIdeal.main_arg7))
      ∧ θ_run (Cert.RnnFwdReferenceIdeal.defs (F := Ideal)) (onTc (τ := Cert.RnnFwdReferenceIdeal.τ) (Cert.RnnFwdReferenceIdeal.main (F := Ideal))) ⟨m', fun _ => 0, g'⟩ (fun r => ∀ c : Dev Cert.RnnFwdReferenceIdeal.nD,
          r.2.mem ((c.tc : Thread Cert.RnnFwdReferenceIdeal.nD Cert.RnnFwdReferenceIdeal.τ).loc Cert.RnnFwdReferenceIdeal.main_v384) = v0 c
          ∧ r.2.mem ((c.tc : Thread Cert.RnnFwdReferenceIdeal.nD Cert.RnnFwdReferenceIdeal.τ).loc Cert.RnnFwdReferenceIdeal.main_v386) = v1 c
          ∧ r.2.mem ((c.tc : Thread Cert.RnnFwdReferenceIdeal.nD Cert.RnnFwdReferenceIdeal.τ).loc Cert.RnnFwdReferenceIdeal.main_v387) = v2 c
          ∧ r.2.mem ((c.tc : Thread Cert.RnnFwdReferenceIdeal.nD Cert.RnnFwdReferenceIdeal.τ).loc Cert.RnnFwdReferenceIdeal.main_v388) = v3 c
          ∧ r.2.mem ((c.tc : Thread Cert.RnnFwdReferenceIdeal.nD Cert.RnnFwdReferenceIdeal.τ).loc Cert.RnnFwdReferenceIdeal.main_v389) = v4 c
          ∧ r.2.mem ((c.tc : Thread Cert.RnnFwdReferenceIdeal.nD Cert.RnnFwdReferenceIdeal.τ).loc Cert.RnnFwdReferenceIdeal.main_v390) = v5 c
          ∧ r.2.mem ((c.tc : Thread Cert.RnnFwdReferenceIdeal.nD Cert.RnnFwdReferenceIdeal.τ).loc Cert.RnnFwdReferenceIdeal.main_v391) = v6 c
          ∧ r.2.mem ((c.tc : Thread Cert.RnnFwdReferenceIdeal.nD Cert.RnnFwdReferenceIdeal.τ).loc Cert.RnnFwdReferenceIdeal.main_arg0) = m' ((c.tc : Thread Cert.RnnFwdReferenceIdeal.nD Cert.RnnFwdReferenceIdeal.τ).loc Cert.RnnFwdReferenceIdeal.main_arg0)
          ∧ r.2.mem ((c.tc : Thread Cert.RnnFwdReferenceIdeal.nD Cert.RnnFwdReferenceIdeal.τ).loc Cert.RnnFwdReferenceIdeal.main_arg1) = m' ((c.tc : Thread Cert.RnnFwdReferenceIdeal.nD Cert.RnnFwdReferenceIdeal.τ).loc Cert.RnnFwdReferenceIdeal.main_arg1)
          ∧ r.2.mem ((c.tc : Thread Cert.RnnFwdReferenceIdeal.nD Cert.RnnFwdReferenceIdeal.τ).loc Cert.RnnFwdReferenceIdeal.main_arg2) = m' ((c.tc : Thread Cert.RnnFwdReferenceIdeal.nD Cert.RnnFwdReferenceIdeal.τ).loc Cert.RnnFwdReferenceIdeal.main_arg2)
          ∧ r.2.mem ((c.tc : Thread Cert.RnnFwdReferenceIdeal.nD Cert.RnnFwdReferenceIdeal.τ).loc Cert.RnnFwdReferenceIdeal.main_arg3) = m' ((c.tc : Thread Cert.RnnFwdReferenceIdeal.nD Cert.RnnFwdReferenceIdeal.τ).loc Cert.RnnFwdReferenceIdeal.main_arg3)
          ∧ r.2.mem ((c.tc : Thread Cert.RnnFwdReferenceIdeal.nD Cert.RnnFwdReferenceIdeal.τ).loc Cert.RnnFwdReferenceIdeal.main_arg4) = m' ((c.tc : Thread Cert.RnnFwdReferenceIdeal.nD Cert.RnnFwdReferenceIdeal.τ).loc Cert.RnnFwdReferenceIdeal.main_arg4)
          ∧ r.2.mem ((c.tc : Thread Cert.RnnFwdReferenceIdeal.nD Cert.RnnFwdReferenceIdeal.τ).loc Cert.RnnFwdReferenceIdeal.main_arg5) = m' ((c.tc : Thread Cert.RnnFwdReferenceIdeal.nD Cert.RnnFwdReferenceIdeal.τ).loc Cert.RnnFwdReferenceIdeal.main_arg5)
          ∧ r.2.mem ((c.tc : Thread Cert.RnnFwdReferenceIdeal.nD Cert.RnnFwdReferenceIdeal.τ).loc Cert.RnnFwdReferenceIdeal.main_arg6) = m' ((c.tc : Thread Cert.RnnFwdReferenceIdeal.nD Cert.RnnFwdReferenceIdeal.τ).loc Cert.RnnFwdReferenceIdeal.main_arg6)
          ∧ r.2.mem ((c.tc : Thread Cert.RnnFwdReferenceIdeal.nD Cert.RnnFwdReferenceIdeal.τ).loc Cert.RnnFwdReferenceIdeal.main_arg7) = m' ((c.tc : Thread Cert.RnnFwdReferenceIdeal.nD Cert.RnnFwdReferenceIdeal.τ).loc Cert.RnnFwdReferenceIdeal.main_arg7))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v36_0)) (v1 : (c : Dev Cert.GateKernelIdeal.nD) → Buf (Elt Ideal) ((c.tc : Thread Cert.GateKernelIdeal.nD Cert.GateKernelIdeal.τ).loc Cert.GateKernelIdeal.main_v36_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v36_0) = v0 c
          ∧ r.2.mem ((c.tc : Thread Cert.GateKernelIdeal.nD Cert.GateKernelIdeal.τ).loc Cert.GateKernelIdeal.main_v36_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v26) = v0 c
          ∧ r.2.mem ((c.tc : Thread Cert.GateReferenceIdeal.nD Cert.GateReferenceIdeal.τ).loc Cert.GateReferenceIdeal.main_v27) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_PoolFwdKernel_PoolFwdKernelIdeal : Prop :=
  True

def algebraic_PoolFwdKernelIdeal_PoolFwdReferenceIdeal_pre_pool_fwd_finite [hPoolFwdKernelIdeal : Cert.PoolFwdKernelIdeal.Facts] [hPoolFwdReferenceIdeal : Cert.PoolFwdReferenceIdeal.Facts] [hPre_pool_fwd_finite : Cert.Pre_pool_fwd_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_pool_fwd_finite m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v1)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v1) = v0 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v83) = v0 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2))

def preserves_FfnFwdKernel_FfnFwdKernelIdeal : Prop :=
  True

def algebraic_FfnFwdKernelIdeal_FfnFwdReferenceIdeal_pre_ffn_fwd_finite [hFfnFwdKernelIdeal : Cert.FfnFwdKernelIdeal.Facts] [hFfnFwdReferenceIdeal : Cert.FfnFwdReferenceIdeal.Facts] [hPre_ffn_fwd_finite : Cert.Pre_ffn_fwd_finite.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal_ffn_fwd_finite m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v2_0)) (v1 : (c : Dev Cert.FfnFwdKernelIdeal.nD) → Buf (Elt Ideal) ((c.tc : Thread Cert.FfnFwdKernelIdeal.nD Cert.FfnFwdKernelIdeal.τ).loc Cert.FfnFwdKernelIdeal.main_v2_1)) (v2 : (c : Dev Cert.FfnFwdKernelIdeal.nD) → Buf (Elt Ideal) ((c.tc : Thread Cert.FfnFwdKernelIdeal.nD Cert.FfnFwdKernelIdeal.τ).loc Cert.FfnFwdKernelIdeal.main_v2_2)) (v3 : (c : Dev Cert.FfnFwdKernelIdeal.nD) → Buf (Elt Ideal) ((c.tc : Thread Cert.FfnFwdKernelIdeal.nD Cert.FfnFwdKernelIdeal.τ).loc Cert.FfnFwdKernelIdeal.main_v2_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v2_0) = v0 c
          ∧ r.2.mem ((c.tc : Thread Cert.FfnFwdKernelIdeal.nD Cert.FfnFwdKernelIdeal.τ).loc Cert.FfnFwdKernelIdeal.main_v2_1) = v1 c
          ∧ r.2.mem ((c.tc : Thread Cert.FfnFwdKernelIdeal.nD Cert.FfnFwdKernelIdeal.τ).loc Cert.FfnFwdKernelIdeal.main_v2_2) = v2 c
          ∧ r.2.mem ((c.tc : Thread Cert.FfnFwdKernelIdeal.nD Cert.FfnFwdKernelIdeal.τ).loc Cert.FfnFwdKernelIdeal.main_v2_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v24) = v0 c
          ∧ r.2.mem ((c.tc : Thread Cert.FfnFwdReferenceIdeal.nD Cert.FfnFwdReferenceIdeal.τ).loc Cert.FfnFwdReferenceIdeal.main_v25) = v1 c
          ∧ r.2.mem ((c.tc : Thread Cert.FfnFwdReferenceIdeal.nD Cert.FfnFwdReferenceIdeal.τ).loc Cert.FfnFwdReferenceIdeal.main_v26) = v2 c
          ∧ r.2.mem ((c.tc : Thread Cert.FfnFwdReferenceIdeal.nD Cert.FfnFwdReferenceIdeal.τ).loc Cert.FfnFwdReferenceIdeal.main_v27) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)) →
    ∃ (v0 : (c : Dev Cert.NormKernelIdeal.nD) → Buf (Elt Ideal) ((c.tc : Thread Cert.NormKernelIdeal.nD Cert.NormKernelIdeal.τ).loc Cert.NormKernelIdeal.main_v2_0)) (v1 : (c : Dev Cert.NormKernelIdeal.nD) → Buf (Elt Ideal) ((c.tc : Thread Cert.NormKernelIdeal.nD Cert.NormKernelIdeal.τ).loc Cert.NormKernelIdeal.main_v2_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2_0) = v0 c
          ∧ r.2.mem ((c.tc : Thread Cert.NormKernelIdeal.nD Cert.NormKernelIdeal.τ).loc Cert.NormKernelIdeal.main_v2_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v15) = v0 c
          ∧ r.2.mem ((c.tc : Thread Cert.NormReferenceIdeal.nD Cert.NormReferenceIdeal.τ).loc Cert.NormReferenceIdeal.main_v16) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)) →
    ∃ (v0 : (c : Dev Cert.GradKernelIdeal.nD) → Buf (Elt Ideal) ((c.tc : Thread Cert.GradKernelIdeal.nD Cert.GradKernelIdeal.τ).loc Cert.GradKernelIdeal.main_v2_0)) (v1 : (c : Dev Cert.GradKernelIdeal.nD) → Buf (Elt Ideal) ((c.tc : Thread Cert.GradKernelIdeal.nD Cert.GradKernelIdeal.τ).loc Cert.GradKernelIdeal.main_v2_1)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v2_0) = v0 c
          ∧ r.2.mem ((c.tc : Thread Cert.GradKernelIdeal.nD Cert.GradKernelIdeal.τ).loc Cert.GradKernelIdeal.main_v2_1) = v1 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v3) = v0 c
          ∧ r.2.mem ((c.tc : Thread Cert.GradReferenceIdeal.nD Cert.GradReferenceIdeal.τ).loc Cert.GradReferenceIdeal.main_v4) = v1 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1))

def preserves_GradPoolKernel_GradPoolKernelIdeal : Prop :=
  True

def algebraic_GradPoolKernelIdeal_GradPoolReferenceIdeal [hGradPoolKernelIdeal : Cert.GradPoolKernelIdeal.Facts] [hGradPoolReferenceIdeal : Cert.GradPoolReferenceIdeal.Facts] : Prop :=
  ∀ (m : (ℓ : Loc Cert.GradPoolKernelIdeal.nD Cert.GradPoolKernelIdeal.τ Cert.GradPoolKernelIdeal.sig) → Buf (Elt Ideal) ℓ) (g : Dev Cert.GradPoolKernelIdeal.nD → PrngReg)
    (m' : (ℓ : Loc Cert.GradPoolReferenceIdeal.nD Cert.GradPoolReferenceIdeal.τ Cert.GradPoolReferenceIdeal.sig) → Buf (Elt Ideal) ℓ) (g' : Dev Cert.GradPoolReferenceIdeal.nD → PrngReg), Pre_GradPoolKernelIdeal m →
    (∀ c : Dev Cert.GradPoolKernelIdeal.nD,
      m' ((c.tc : Thread Cert.GradPoolReferenceIdeal.nD Cert.GradPoolReferenceIdeal.τ).loc Cert.GradPoolReferenceIdeal.main_arg0) = m ((c.tc : Thread Cert.GradPoolKernelIdeal.nD Cert.GradPoolKernelIdeal.τ).loc Cert.GradPoolKernelIdeal.main_arg0)
      ∧ m' ((c.tc : Thread Cert.GradPoolReferenceIdeal.nD Cert.GradPoolReferenceIdeal.τ).loc Cert.GradPoolReferenceIdeal.main_arg1) = m ((c.tc : Thread Cert.GradPoolKernelIdeal.nD Cert.GradPoolKernelIdeal.τ).loc Cert.GradPoolKernelIdeal.main_arg1)) →
    ∃ (v0 : (c : Dev Cert.GradPoolKernelIdeal.nD) → Buf (Elt Ideal) ((c.tc : Thread Cert.GradPoolKernelIdeal.nD Cert.GradPoolKernelIdeal.τ).loc Cert.GradPoolKernelIdeal.main_v2_0)) (v1 : (c : Dev Cert.GradPoolKernelIdeal.nD) → Buf (Elt Ideal) ((c.tc : Thread Cert.GradPoolKernelIdeal.nD Cert.GradPoolKernelIdeal.τ).loc Cert.GradPoolKernelIdeal.main_v2_1)),
      θ_run (Cert.GradPoolKernelIdeal.defs (F := Ideal)) (onTc (τ := Cert.GradPoolKernelIdeal.τ) (Cert.GradPoolKernelIdeal.main (F := Ideal))) ⟨m, fun _ => 0, g⟩ (fun r => ∀ c : Dev Cert.GradPoolKernelIdeal.nD,
          r.2.mem ((c.tc : Thread Cert.GradPoolKernelIdeal.nD Cert.GradPoolKernelIdeal.τ).loc Cert.GradPoolKernelIdeal.main_v2_0) = v0 c
          ∧ r.2.mem ((c.tc : Thread Cert.GradPoolKernelIdeal.nD Cert.GradPoolKernelIdeal.τ).loc Cert.GradPoolKernelIdeal.main_v2_1) = v1 c
          ∧ r.2.mem ((c.tc : Thread Cert.GradPoolKernelIdeal.nD Cert.GradPoolKernelIdeal.τ).loc Cert.GradPoolKernelIdeal.main_arg0) = m ((c.tc : Thread Cert.GradPoolKernelIdeal.nD Cert.GradPoolKernelIdeal.τ).loc Cert.GradPoolKernelIdeal.main_arg0)
          ∧ r.2.mem ((c.tc : Thread Cert.GradPoolKernelIdeal.nD Cert.GradPoolKernelIdeal.τ).loc Cert.GradPoolKernelIdeal.main_arg1) = m ((c.tc : Thread Cert.GradPoolKernelIdeal.nD Cert.GradPoolKernelIdeal.τ).loc Cert.GradPoolKernelIdeal.main_arg1))
      ∧ θ_run (Cert.GradPoolReferenceIdeal.defs (F := Ideal)) (onTc (τ := Cert.GradPoolReferenceIdeal.τ) (Cert.GradPoolReferenceIdeal.main (F := Ideal))) ⟨m', fun _ => 0, g'⟩ (fun r => ∀ c : Dev Cert.GradPoolReferenceIdeal.nD,
          r.2.mem ((c.tc : Thread Cert.GradPoolReferenceIdeal.nD Cert.GradPoolReferenceIdeal.τ).loc Cert.GradPoolReferenceIdeal.main_v3) = v0 c
          ∧ r.2.mem ((c.tc : Thread Cert.GradPoolReferenceIdeal.nD Cert.GradPoolReferenceIdeal.τ).loc Cert.GradPoolReferenceIdeal.main_v4) = v1 c
          ∧ r.2.mem ((c.tc : Thread Cert.GradPoolReferenceIdeal.nD Cert.GradPoolReferenceIdeal.τ).loc Cert.GradPoolReferenceIdeal.main_arg0) = m' ((c.tc : Thread Cert.GradPoolReferenceIdeal.nD Cert.GradPoolReferenceIdeal.τ).loc Cert.GradPoolReferenceIdeal.main_arg0)
          ∧ r.2.mem ((c.tc : Thread Cert.GradPoolReferenceIdeal.nD Cert.GradPoolReferenceIdeal.τ).loc Cert.GradPoolReferenceIdeal.main_arg1) = m' ((c.tc : Thread Cert.GradPoolReferenceIdeal.nD Cert.GradPoolReferenceIdeal.τ).loc Cert.GradPoolReferenceIdeal.main_arg1))

def preserves_GradFfnKernel_GradFfnKernelIdeal : Prop :=
  True

def algebraic_GradFfnKernelIdeal_GradFfnReferenceIdeal [hGradFfnKernelIdeal : Cert.GradFfnKernelIdeal.Facts] [hGradFfnReferenceIdeal : Cert.GradFfnReferenceIdeal.Facts] : Prop :=
  ∀ (m : (ℓ : Loc Cert.GradFfnKernelIdeal.nD Cert.GradFfnKernelIdeal.τ Cert.GradFfnKernelIdeal.sig) → Buf (Elt Ideal) ℓ) (g : Dev Cert.GradFfnKernelIdeal.nD → PrngReg)
    (m' : (ℓ : Loc Cert.GradFfnReferenceIdeal.nD Cert.GradFfnReferenceIdeal.τ Cert.GradFfnReferenceIdeal.sig) → Buf (Elt Ideal) ℓ) (g' : Dev Cert.GradFfnReferenceIdeal.nD → PrngReg), Pre_GradFfnKernelIdeal m →
    (∀ c : Dev Cert.GradFfnKernelIdeal.nD,
      m' ((c.tc : Thread Cert.GradFfnReferenceIdeal.nD Cert.GradFfnReferenceIdeal.τ).loc Cert.GradFfnReferenceIdeal.main_arg0) = m ((c.tc : Thread Cert.GradFfnKernelIdeal.nD Cert.GradFfnKernelIdeal.τ).loc Cert.GradFfnKernelIdeal.main_arg0)
      ∧ m' ((c.tc : Thread Cert.GradFfnReferenceIdeal.nD Cert.GradFfnReferenceIdeal.τ).loc Cert.GradFfnReferenceIdeal.main_arg1) = m ((c.tc : Thread Cert.GradFfnKernelIdeal.nD Cert.GradFfnKernelIdeal.τ).loc Cert.GradFfnKernelIdeal.main_arg1)) →
    ∃ (v0 : (c : Dev Cert.GradFfnKernelIdeal.nD) → Buf (Elt Ideal) ((c.tc : Thread Cert.GradFfnKernelIdeal.nD Cert.GradFfnKernelIdeal.τ).loc Cert.GradFfnKernelIdeal.main_v2_0)) (v1 : (c : Dev Cert.GradFfnKernelIdeal.nD) → Buf (Elt Ideal) ((c.tc : Thread Cert.GradFfnKernelIdeal.nD Cert.GradFfnKernelIdeal.τ).loc Cert.GradFfnKernelIdeal.main_v2_1)),
      θ_run (Cert.GradFfnKernelIdeal.defs (F := Ideal)) (onTc (τ := Cert.GradFfnKernelIdeal.τ) (Cert.GradFfnKernelIdeal.main (F := Ideal))) ⟨m, fun _ => 0, g⟩ (fun r => ∀ c : Dev Cert.GradFfnKernelIdeal.nD,
          r.2.mem ((c.tc : Thread Cert.GradFfnKernelIdeal.nD Cert.GradFfnKernelIdeal.τ).loc Cert.GradFfnKernelIdeal.main_v2_0) = v0 c
          ∧ r.2.mem ((c.tc : Thread Cert.GradFfnKernelIdeal.nD Cert.GradFfnKernelIdeal.τ).loc Cert.GradFfnKernelIdeal.main_v2_1) = v1 c
          ∧ r.2.mem ((c.tc : Thread Cert.GradFfnKernelIdeal.nD Cert.GradFfnKernelIdeal.τ).loc Cert.GradFfnKernelIdeal.main_arg0) = m ((c.tc : Thread Cert.GradFfnKernelIdeal.nD Cert.GradFfnKernelIdeal.τ).loc Cert.GradFfnKernelIdeal.main_arg0)
          ∧ r.2.mem ((c.tc : Thread Cert.GradFfnKernelIdeal.nD Cert.GradFfnKernelIdeal.τ).loc Cert.GradFfnKernelIdeal.main_arg1) = m ((c.tc : Thread Cert.GradFfnKernelIdeal.nD Cert.GradFfnKernelIdeal.τ).loc Cert.GradFfnKernelIdeal.main_arg1))
      ∧ θ_run (Cert.GradFfnReferenceIdeal.defs (F := Ideal)) (onTc (τ := Cert.GradFfnReferenceIdeal.τ) (Cert.GradFfnReferenceIdeal.main (F := Ideal))) ⟨m', fun _ => 0, g'⟩ (fun r => ∀ c : Dev Cert.GradFfnReferenceIdeal.nD,
          r.2.mem ((c.tc : Thread Cert.GradFfnReferenceIdeal.nD Cert.GradFfnReferenceIdeal.τ).loc Cert.GradFfnReferenceIdeal.main_v3) = v0 c
          ∧ r.2.mem ((c.tc : Thread Cert.GradFfnReferenceIdeal.nD Cert.GradFfnReferenceIdeal.τ).loc Cert.GradFfnReferenceIdeal.main_v4) = v1 c
          ∧ r.2.mem ((c.tc : Thread Cert.GradFfnReferenceIdeal.nD Cert.GradFfnReferenceIdeal.τ).loc Cert.GradFfnReferenceIdeal.main_arg0) = m' ((c.tc : Thread Cert.GradFfnReferenceIdeal.nD Cert.GradFfnReferenceIdeal.τ).loc Cert.GradFfnReferenceIdeal.main_arg0)
          ∧ r.2.mem ((c.tc : Thread Cert.GradFfnReferenceIdeal.nD Cert.GradFfnReferenceIdeal.τ).loc Cert.GradFfnReferenceIdeal.main_arg1) = m' ((c.tc : Thread Cert.GradFfnReferenceIdeal.nD Cert.GradFfnReferenceIdeal.τ).loc Cert.GradFfnReferenceIdeal.main_arg1))

def Claim : Prop :=
  ∃ (hFfnInKernel : Cert.FfnInKernel.Facts) (hFfnInKernelIdeal : Cert.FfnInKernelIdeal.Facts) (hFfnInReferenceIdeal : Cert.FfnInReferenceIdeal.Facts) (hPoolKernel : Cert.PoolKernel.Facts) (hPoolKernelIdeal : Cert.PoolKernelIdeal.Facts) (hPoolReferenceIdeal : Cert.PoolReferenceIdeal.Facts) (hInProjKernel : Cert.InProjKernel.Facts) (hInProjKernelIdeal : Cert.InProjKernelIdeal.Facts) (hInProjReferenceIdeal : Cert.InProjReferenceIdeal.Facts) (hLossKernel : Cert.LossKernel.Facts) (hLossKernelIdeal : Cert.LossKernelIdeal.Facts) (hLossReferenceIdeal : Cert.LossReferenceIdeal.Facts) (hMergeKernel : Cert.MergeKernel.Facts) (hMergeKernelIdeal : Cert.MergeKernelIdeal.Facts) (hMergeReferenceIdeal : Cert.MergeReferenceIdeal.Facts) (hRnnFwdKernel : Cert.RnnFwdKernel.Facts) (hRnnFwdKernelIdeal : Cert.RnnFwdKernelIdeal.Facts) (hRnnFwdReferenceIdeal : Cert.RnnFwdReferenceIdeal.Facts) (hGateKernel : Cert.GateKernel.Facts) (hGateKernelIdeal : Cert.GateKernelIdeal.Facts) (hGateReferenceIdeal : Cert.GateReferenceIdeal.Facts) (hPoolFwdKernel : Cert.PoolFwdKernel.Facts) (hPoolFwdKernelIdeal : Cert.PoolFwdKernelIdeal.Facts) (hPoolFwdReferenceIdeal : Cert.PoolFwdReferenceIdeal.Facts) (hFfnFwdKernel : Cert.FfnFwdKernel.Facts) (hFfnFwdKernelIdeal : Cert.FfnFwdKernelIdeal.Facts) (hFfnFwdReferenceIdeal : Cert.FfnFwdReferenceIdeal.Facts) (hNormKernel : Cert.NormKernel.Facts) (hNormKernelIdeal : Cert.NormKernelIdeal.Facts) (hNormReferenceIdeal : Cert.NormReferenceIdeal.Facts) (hGradKernel : Cert.GradKernel.Facts) (hGradKernelIdeal : Cert.GradKernelIdeal.Facts) (hGradReferenceIdeal : Cert.GradReferenceIdeal.Facts) (hGradPoolKernel : Cert.GradPoolKernel.Facts) (hGradPoolKernelIdeal : Cert.GradPoolKernelIdeal.Facts) (hGradPoolReferenceIdeal : Cert.GradPoolReferenceIdeal.Facts) (hGradFfnKernel : Cert.GradFfnKernel.Facts) (hGradFfnKernelIdeal : Cert.GradFfnKernelIdeal.Facts) (hGradFfnReferenceIdeal : Cert.GradFfnReferenceIdeal.Facts) (hPre_ffn_in_finite : Cert.Pre_ffn_in_finite.Facts) (hPre_pool_finite : Cert.Pre_pool_finite.Facts) (hPre_in_proj_finite : Cert.Pre_in_proj_finite.Facts) (hPre_loss_finite : Cert.Pre_loss_finite.Facts) (hPre_rnn_finite : Cert.Pre_rnn_finite.Facts) (hPre_gate_finite : Cert.Pre_gate_finite.Facts) (hPre_pool_fwd_finite : Cert.Pre_pool_fwd_finite.Facts) (hPre_ffn_fwd_finite : Cert.Pre_ffn_fwd_finite.Facts),
    quiescent_FfnInKernel (hFfnInKernel := hFfnInKernel)
    ∧ quiescent_FfnInKernelIdeal (hFfnInKernelIdeal := hFfnInKernelIdeal)
    ∧ quiescent_FfnInKernelIdeal_pre_ffn_in_finite (hFfnInKernelIdeal := hFfnInKernelIdeal) (hPre_ffn_in_finite := hPre_ffn_in_finite)
    ∧ quiescent_FfnInReferenceIdeal (hFfnInReferenceIdeal := hFfnInReferenceIdeal)
    ∧ quiescent_FfnInReferenceIdeal_pre_ffn_in_finite (hFfnInReferenceIdeal := hFfnInReferenceIdeal) (hPre_ffn_in_finite := hPre_ffn_in_finite)
    ∧ quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_InProjKernel (hInProjKernel := hInProjKernel)
    ∧ quiescent_InProjKernelIdeal (hInProjKernelIdeal := hInProjKernelIdeal)
    ∧ quiescent_InProjKernelIdeal_pre_in_proj_finite (hInProjKernelIdeal := hInProjKernelIdeal) (hPre_in_proj_finite := hPre_in_proj_finite)
    ∧ quiescent_InProjReferenceIdeal (hInProjReferenceIdeal := hInProjReferenceIdeal)
    ∧ quiescent_InProjReferenceIdeal_pre_in_proj_finite (hInProjReferenceIdeal := hInProjReferenceIdeal) (hPre_in_proj_finite := hPre_in_proj_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_RnnFwdKernel (hRnnFwdKernel := hRnnFwdKernel)
    ∧ quiescent_RnnFwdKernelIdeal (hRnnFwdKernelIdeal := hRnnFwdKernelIdeal)
    ∧ quiescent_RnnFwdKernelIdeal_pre_rnn_finite (hRnnFwdKernelIdeal := hRnnFwdKernelIdeal) (hPre_rnn_finite := hPre_rnn_finite)
    ∧ quiescent_RnnFwdReferenceIdeal (hRnnFwdReferenceIdeal := hRnnFwdReferenceIdeal)
    ∧ quiescent_RnnFwdReferenceIdeal_pre_rnn_finite (hRnnFwdReferenceIdeal := hRnnFwdReferenceIdeal) (hPre_rnn_finite := hPre_rnn_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_pool_fwd_finite (hPoolFwdKernelIdeal := hPoolFwdKernelIdeal) (hPre_pool_fwd_finite := hPre_pool_fwd_finite)
    ∧ quiescent_PoolFwdReferenceIdeal (hPoolFwdReferenceIdeal := hPoolFwdReferenceIdeal)
    ∧ quiescent_PoolFwdReferenceIdeal_pre_pool_fwd_finite (hPoolFwdReferenceIdeal := hPoolFwdReferenceIdeal) (hPre_pool_fwd_finite := hPre_pool_fwd_finite)
    ∧ quiescent_FfnFwdKernel (hFfnFwdKernel := hFfnFwdKernel)
    ∧ quiescent_FfnFwdKernelIdeal (hFfnFwdKernelIdeal := hFfnFwdKernelIdeal)
    ∧ quiescent_FfnFwdKernelIdeal_pre_ffn_fwd_finite (hFfnFwdKernelIdeal := hFfnFwdKernelIdeal) (hPre_ffn_fwd_finite := hPre_ffn_fwd_finite)
    ∧ quiescent_FfnFwdReferenceIdeal (hFfnFwdReferenceIdeal := hFfnFwdReferenceIdeal)
    ∧ quiescent_FfnFwdReferenceIdeal_pre_ffn_fwd_finite (hFfnFwdReferenceIdeal := hFfnFwdReferenceIdeal) (hPre_ffn_fwd_finite := hPre_ffn_fwd_finite)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ quiescent_GradPoolKernel (hGradPoolKernel := hGradPoolKernel)
    ∧ quiescent_GradPoolKernelIdeal (hGradPoolKernelIdeal := hGradPoolKernelIdeal)
    ∧ quiescent_GradPoolReferenceIdeal (hGradPoolReferenceIdeal := hGradPoolReferenceIdeal)
    ∧ quiescent_GradFfnKernel (hGradFfnKernel := hGradFfnKernel)
    ∧ quiescent_GradFfnKernelIdeal (hGradFfnKernelIdeal := hGradFfnKernelIdeal)
    ∧ quiescent_GradFfnReferenceIdeal (hGradFfnReferenceIdeal := hGradFfnReferenceIdeal)
    ∧ preserves_FfnInKernel_FfnInKernelIdeal
    ∧ algebraic_FfnInKernelIdeal_FfnInReferenceIdeal_pre_ffn_in_finite (hFfnInKernelIdeal := hFfnInKernelIdeal) (hFfnInReferenceIdeal := hFfnInReferenceIdeal) (hPre_ffn_in_finite := hPre_ffn_in_finite)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_InProjKernel_InProjKernelIdeal
    ∧ algebraic_InProjKernelIdeal_InProjReferenceIdeal_pre_in_proj_finite (hInProjKernelIdeal := hInProjKernelIdeal) (hInProjReferenceIdeal := hInProjReferenceIdeal) (hPre_in_proj_finite := hPre_in_proj_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_RnnFwdKernel_RnnFwdKernelIdeal
    ∧ algebraic_RnnFwdKernelIdeal_RnnFwdReferenceIdeal_pre_rnn_finite (hRnnFwdKernelIdeal := hRnnFwdKernelIdeal) (hRnnFwdReferenceIdeal := hRnnFwdReferenceIdeal) (hPre_rnn_finite := hPre_rnn_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_PoolFwdKernel_PoolFwdKernelIdeal
    ∧ algebraic_PoolFwdKernelIdeal_PoolFwdReferenceIdeal_pre_pool_fwd_finite (hPoolFwdKernelIdeal := hPoolFwdKernelIdeal) (hPoolFwdReferenceIdeal := hPoolFwdReferenceIdeal) (hPre_pool_fwd_finite := hPre_pool_fwd_finite)
    ∧ preserves_FfnFwdKernel_FfnFwdKernelIdeal
    ∧ algebraic_FfnFwdKernelIdeal_FfnFwdReferenceIdeal_pre_ffn_fwd_finite (hFfnFwdKernelIdeal := hFfnFwdKernelIdeal) (hFfnFwdReferenceIdeal := hFfnFwdReferenceIdeal) (hPre_ffn_fwd_finite := hPre_ffn_fwd_finite)
    ∧ preserves_NormKernel_NormKernelIdeal
    ∧ algebraic_NormKernelIdeal_NormReferenceIdeal (hNormKernelIdeal := hNormKernelIdeal) (hNormReferenceIdeal := hNormReferenceIdeal)
    ∧ preserves_GradKernel_GradKernelIdeal
    ∧ algebraic_GradKernelIdeal_GradReferenceIdeal (hGradKernelIdeal := hGradKernelIdeal) (hGradReferenceIdeal := hGradReferenceIdeal)
    ∧ preserves_GradPoolKernel_GradPoolKernelIdeal
    ∧ algebraic_GradPoolKernelIdeal_GradPoolReferenceIdeal (hGradPoolKernelIdeal := hGradPoolKernelIdeal) (hGradPoolReferenceIdeal := hGradPoolReferenceIdeal)
    ∧ preserves_GradFfnKernel_GradFfnKernelIdeal
    ∧ algebraic_GradFfnKernelIdeal_GradFfnReferenceIdeal (hGradFfnKernelIdeal := hGradFfnKernelIdeal) (hGradFfnReferenceIdeal := hGradFfnReferenceIdeal)
-- ==== Pre_ffn_fwd_finite.lean ====
abbrev S4096x1024 : Shape := ⟨2, ![4096, 1024]⟩
abbrev S1x1024 : Shape := ⟨2, ![1, 1024]⟩
abbrev S1x1024x5632 : Shape := ⟨3, ![1, 1024, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn {F : FTy → Type} [FloatOps F] (main_arg0 : FVec F S4096x1024 .f32) (main_arg1 : FVec F S1x1024 .f32) (main_arg2 : FVec F S1x1024x5632 .f32) : IVec S4096x1024 1 × IVec S1x1024 1 × IVec S1x1024x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  (main_v2, main_v5, main_v8)
-- ==== Pre_ffn_in_finite.lean ====
abbrev S4096x2816 : Shape := ⟨2, ![4096, 2816]⟩
abbrev S1x1024x5632 : Shape := ⟨3, ![1, 1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1x1024x5632 : S_.BroadcastsInDim S1x1024x5632 (![] : Fin 0 → Fin S1x1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1x1024x5632 .f32) (main_arg3 : FVec F S4096x1024 .f32) (main_arg4 : FVec F S4096x1024 .f32) (main_arg5 : FVec F S1x1024 .f32) : IVec S4096x2816 1 × IVec S4096x2816 1 × IVec S1x1024x5632 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_gate_finite.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S4096x1024 .f32) (main_arg1 : FVec F S1x1024 .f32) (main_arg2 : FVec F S1x1024x5632 .f32) (main_arg3 : FVec F S1x2816x1024 .f32) (main_arg4 : FVec F S4096x1024 .f32) : IVec S4096x1024 1 × IVec S1x1024 1 × IVec S1x1024x5632 1 × IVec S1x2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_in_proj_finite.lean ====
abbrev S4096x512 : Shape := ⟨2, ![4096, 512]⟩
abbrev S4096x1024 : Shape := ⟨2, ![4096, 1024]⟩
abbrev S1x1024x4608 : Shape := ⟨3, ![1, 1024, 4608]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S1x1024x4608 : S_.BroadcastsInDim S1x1024x4608 (![] : Fin 0 → Fin S1x1024x4608.rank)
  bcast_S_S1x1024 : S_.BroadcastsInDim S1x1024 (![] : Fin 0 → Fin S1x1024.rank)

variable [Facts]

def fn_part1 {F : FTy → Type} [FloatOps F] (main_arg7 : FVec F S4096x1024 .f32) (main_arg8 : FVec F S1x1024 .f32) (main_v2 : IVec S4096x512 1) (main_v5 : IVec S4096x1024 1) (main_v8 : IVec S4096x1024 1) (main_v11 : IVec S4096x1024 1) (main_v14 : IVec S4096x1024 1) (main_v17 : IVec S1x1024x4608 1) : IVec S4096x512 1 × IVec S4096x1024 1 × IVec S4096x1024 1 × IVec S4096x1024 1 × IVec S4096x1024 1 × IVec S1x1024x4608 1 × IVec S4096x1024 1 × IVec S1x1024 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x1024 .f32 := Host.absf main_arg8
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S4096x512 .f32) (main_arg1 : FVec F S4096x1024 .f32) (main_arg2 : FVec F S4096x1024 .f32) (main_arg3 : FVec F S4096x1024 .f32) (main_arg4 : FVec F S4096x1024 .f32) (main_arg5 : FVec F S1x1024x4608 .f32) (main_arg6 : FVec F S4096x1024 .f32) (main_arg7 : FVec F S4096x1024 .f32) (main_arg8 : FVec F S1x1024 .f32) : IVec S4096x512 1 × IVec S4096x1024 1 × IVec S4096x1024 1 × IVec S4096x1024 1 × IVec S4096x1024 1 × IVec S1x1024x4608 1 × IVec S4096x1024 1 × IVec S1x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024x4608 .f32 := Host.absf main_arg5
  let main_cst_4 : FVec F S_ .f32 := constant S_ .f32 0x7F800000#32
  let main_v16 : FVec F S1x1024x4608 .f32 := broadcastInDim S1x1024x4608 ![] bcast_S_S1x1024x4608 main_cst_4
  let main_v17 : IVec S1x1024x4608 1 := cmpf .olt main_v15 main_v16
  fn_part1 (F := F) main_arg7 main_arg8 main_v2 main_v5 main_v8 main_v11 main_v14 main_v17
-- ==== Pre_loss_finite.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  bcast_S_S1x2816x1024 : S_.BroadcastsInDim S1x2816x1024 (![] : Fin 0 → Fin S1x2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .f32) (main_arg1 : FVec F S1x2816x1024 .f32) (main_arg2 : FVec F S4096x1024 .f32) (main_arg3 : FVec F S1024 .f32) (main_arg4 : FVec F S4096x1024 .f32) : IVec S4096x2816 1 × IVec S1x2816x1024 1 × IVec S4096x1024 1 × IVec S1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_pool_finite.lean ====
abbrev S4096x4608 : Shape := ⟨2, ![4096, 4608]⟩
abbrev S4096x512 : Shape := ⟨2, ![4096, 512]⟩
abbrev S1x4x128x128 : Shape := ⟨4, ![1, 4, 128, 128]⟩
abbrev S1x512 : Shape := ⟨2, ![1, 512]⟩
abbrev S_ : Shape := ⟨0, ![]⟩

class Facts : Prop where
  slices_S4096x4608_S4096x512_0_0 : S4096x4608.Slices ![0, 0] S4096x512
  bcast_S_S4096x512 : S_.BroadcastsInDim S4096x512 (![] : Fin 0 → Fin S4096x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S4096x4608 .f32) (main_arg1 : FVec F S4096x512 .f32) (main_arg2 : FVec F S1x4x128x128 .f32) (main_arg3 : FVec F S1x512 .f32) : IVec S4096x512 1 × IVec S4096x512 1 × IVec S1x4x128x128 1 × IVec S1x512 1 :=
  let main_v0 : FVec F S4096x512 .f32 := (extractStridedSlice S4096x512 ![0, 0] · slices_S4096x4608_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S1x4x128x128 .f32 := Host.absf main_arg2
  let main_cst_1 : FVec F S_ .f32 := constant S_ .f32 0x7F800000#32
  let main_v8 : FVec F S1x4x128x128 .f32 := broadcastInDim S1x4x128x128 ![] bcast_S_S1x4x128x128 main_cst_1
  let main_v9 : IVec S1x4x128x128 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  (main_v3, main_v6, main_v9, main_v12)
-- ==== Pre_pool_fwd_finite.lean ====
abbrev S4096x4608 : Shape := ⟨2, ![4096, 4608]⟩
abbrev S1x4x128x128 : Shape := ⟨4, ![1, 4, 128, 128]⟩
abbrev S1x512 : Shape := ⟨2, ![1, 512]⟩
abbrev S4096x512 : Shape := ⟨2, ![4096, 512]⟩
abbrev S_ : Shape := ⟨0, ![]⟩

class Facts : Prop where
  slices_S4096x4608_S4096x512_0_0 : S4096x4608.Slices ![0, 0] S4096x512
  bcast_S_S4096x512 : S_.BroadcastsInDim S4096x512 (![] : Fin 0 → Fin S4096x512.rank)

variable [Facts]

def fn {F : FTy → Type} [FloatOps F] (main_arg0 : FVec F S4096x4608 .f32) (main_arg1 : FVec F S1x4x128x128 .f32) (main_arg2 : FVec F S1x512 .f32) : IVec S4096x512 1 :=
  let main_v0 : FVec F S4096x512 .f32 := (extractStridedSlice S4096x512 ![0, 0] · slices_S4096x4608_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  main_v3
-- ==== Pre_rnn_finite.lean ====
abbrev S4096x4608 : Shape := ⟨2, ![4096, 4608]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x4608 : S_.BroadcastsInDim S4096x4608 (![] : Fin 0 → Fin S4096x4608.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg6 : FVec F S1x8x128 .f32) (main_arg7 : FVec F S1x1024 .f32) (main_v2 : IVec S4096x4608 1) (main_v5 : IVec S1x4x1024 1) (main_v8 : IVec S1x1024 1) (main_v11 : IVec S1x8x128x128 1) (main_v14 : IVec S1x8x128 1) (main_v17 : IVec S1x8x128x128 1) : IVec S4096x4608 1 × IVec S1x4x1024 1 × IVec S1x1024 1 × IVec S1x8x128x128 1 × IVec S1x8x128 1 × IVec S1x8x128x128 1 × IVec S1x8x128 1 × IVec S1x1024 1 :=
  let main_v18 : FVec F S1x8x128 .f32 := Host.absf main_arg6
  let main_cst_5 : FVec F S_ .f32 := constant S_ .f32 0x7F800000#32
  let main_v19 : FVec F S1x8x128 .f32 := broadcastInDim S1x8x128 ![] bcast_S_S1x8x128 main_cst_5
  let main_v20 : IVec S1x8x128 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S4096x4608 .f32) (main_arg1 : FVec F S1x4x1024 .f32) (main_arg2 : FVec F S1x1024 .f32) (main_arg3 : FVec F S1x8x128x128 .f32) (main_arg4 : FVec F S1x8x128 .f32) (main_arg5 : FVec F S1x8x128x128 .f32) (main_arg6 : FVec F S1x8x128 .f32) (main_arg7 : FVec F S1x1024 .f32) : IVec S4096x4608 1 × IVec S1x4x1024 1 × IVec S1x1024 1 × IVec S1x8x128x128 1 × IVec S1x8x128 1 × IVec S1x8x128x128 1 × IVec S1x8x128 1 × IVec S1x1024 1 :=
  let main_v0 : FVec F S4096x4608 .f32 := Host.absf main_arg0
  let main_cst : FVec F S_ .f32 := constant S_ .f32 0x7F800000#32
  let main_v1 : FVec F S4096x4608 .f32 := broadcastInDim S4096x4608 ![] bcast_S_S4096x4608 main_cst
  let main_v2 : IVec S4096x4608 1 := cmpf .olt main_v0 main_v1
  let main_v3 : FVec F S1x4x1024 .f32 := Host.absf main_arg1
  let main_cst_0 : FVec F S_ .f32 := constant S_ .f32 0x7F800000#32
  let main_v4 : FVec F S1x4x1024 .f32 := broadcastInDim S1x4x1024 ![] bcast_S_S1x4x1024 main_cst_0
  let main_v5 : IVec S1x4x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x8x128x128 .f32 := Host.absf main_arg3
  let main_cst_2 : FVec F S_ .f32 := constant S_ .f32 0x7F800000#32
  let main_v10 : FVec F S1x8x128x128 .f32 := broadcastInDim S1x8x128x128 ![] bcast_S_S1x8x128x128 main_cst_2
  let main_v11 : IVec S1x8x128x128 1 := cmpf .olt main_v9 main_v10
  let main_v12 : FVec F S1x8x128 .f32 := Host.absf main_arg4
  let main_cst_3 : FVec F S_ .f32 := constant S_ .f32 0x7F800000#32
  let main_v13 : FVec F S1x8x128 .f32 := broadcastInDim S1x8x128 ![] bcast_S_S1x8x128 main_cst_3
  let main_v14 : IVec S1x8x128 1 := cmpf .olt main_v12 main_v13
  let main_v15 : FVec F S1x8x128x128 .f32 := Host.absf main_arg5
  let main_cst_4 : FVec F S_ .f32 := constant S_ .f32 0x7F800000#32
  let main_v16 : FVec F S1x8x128x128 .f32 := broadcastInDim S1x8x128x128 ![] bcast_S_S1x8x128x128 main_cst_4
  let main_v17 : IVec S1x8x128x128 1 := cmpf .olt main_v15 main_v16
  fn_part1 (F := F) main_arg6 main_arg7 main_v2 main_v5 main_v8 main_v11 main_v14 main_v17
-- ==== FfnInKernel.lean ====
abbrev S4096x2816 : Shape := ⟨2, ![4096, 2816]⟩
abbrev S1x1024x5632 : Shape := ⟨3, ![1, 1024, 5632]⟩
abbrev S4096x1024 : Shape := ⟨2, ![4096, 1024]⟩
abbrev S1x1024 : Shape := ⟨2, ![1, 1024]⟩
abbrev S1024x5632 : Shape := ⟨2, ![1024, 5632]⟩
abbrev S512x2816 : Shape := ⟨2, ![512, 2816]⟩
abbrev S512x1024 : Shape := ⟨2, ![512, 1024]⟩
abbrev S256x2816 : Shape := ⟨2, ![256, 2816]⟩
abbrev S1024x2816 : Shape := ⟨2, ![1024, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1x1024x5632, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x2816, .bf16⟩
  | .hbm, ⟨7, _⟩ => ⟨S4096x2816, .bf16⟩
  | .hbm, ⟨8, _⟩ => ⟨S1024x5632, .f32⟩
  | .hbm, ⟨9, _⟩ => ⟨S1024x5632, .bf16⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInReferenceIdeal.lean ====
abbrev S4096x2816 : Shape := ⟨2, ![4096, 2816]⟩
abbrev S1x1024x5632 : Shape := ⟨3, ![1, 1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩

abbrev nBuf : Space → Nat
  | .hbm => 65
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1x1024x5632, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== PoolKernel.lean ====
abbrev S4096x4608 : Shape := ⟨2, ![4096, 4608]⟩
abbrev S4096x512 : Shape := ⟨2, ![4096, 512]⟩
abbrev S1x4x128x128 : Shape := ⟨4, ![1, 4, 128, 128]⟩
abbrev S1x512 : Shape := ⟨2, ![1, 512]⟩
abbrev S4x128x128 : Shape := ⟨3, ![4, 128, 128]⟩
abbrev S4096x128 : Shape := ⟨2, ![4096, 128]⟩
abbrev S1x128x128 : Shape := ⟨3, ![1, 128, 128]⟩
abbrev S1x128 : Shape := ⟨2, ![1, 128]⟩
abbrev S4112x128 : Shape := ⟨2, ![4112, 128]⟩
abbrev S16x128 : Shape := ⟨2, ![16, 128]⟩
abbrev S1024x128 : Shape := ⟨2, ![1024, 128]⟩
abbrev S128x128 : Shape := ⟨2, ![128, 128]⟩
abbrev S1040x128 : Shape := ⟨2, ![1040, 128]⟩
abbrev S1024x1 : Shape := ⟨2, ![1024, 1]⟩
abbrev S128 : Shape := ⟨1, ![128]⟩

abbrev nBuf : Space → Nat
  | .hbm => 8
  | .vmem => 17
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S1x4x128x128, .f32⟩
  | .hbm, ⟨3, _⟩ => ⟨S1x512, .f32⟩
  | .hbm, ⟨4, _⟩ => ⟨S4x128x128, .f32⟩
  | .hbm, ⟨5, _⟩ => ⟨S4096x512, .bf16⟩
  | .hbm, ⟨6, _⟩ => ⟨S4x128x128, .f32⟩
  | .hbm, ⟨7, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S4112x128, .f32⟩
  | .local _ .vmem, ⟨15, _⟩ => ⟨S4112x128, .f32⟩
  | .local _ .vmem, ⟨16, _⟩ => ⟨S4096x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  v21
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  let v22 : BitVec 32 := v21
  let c16_i32 : BitVec 32 := 16#32
  let v25 : BitVec 32 := Scalar.addi v22 c16_i32
  let v26 : Index := Scalar.indexCast v25
  let c0_25 : Index := 0#32
  ![v26.toNat, 0]
@[reducible] def k0_t2_loop : Scf.Loop 32 :=
  let c0_i32_16 : BitVec 32 := 0#32
  let c4_i32_17 : BitVec 32 := 4#32
  let v19 : BitVec 32 := Scalar.addi c0_i32_16 c4_i32_17
  let c1_i32_18 : BitVec 32 := 1#32
  ⟨c0_i32_16, v19, c1_i32_18⟩
def k0_mult2 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  v21
def k0_off3 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off4 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v55 : Index := Scalar.indexCast v22
  let c0_33 : Index := 0#32
  ![v55.toNat, 0]
def k0_off5 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v81 : Index := Scalar.indexCast v22
  let c0_48 : Index := 0#32
  ![v81.toNat, 0]
@[reducible] def k0_t3_loop : Scf.Loop 32 :=
  let c0_i32_20 : BitVec 32 := 0#32
  let c4_i32_21 : BitVec 32 := 4#32
  let v20 : BitVec 32 := Scalar.addi c0_i32_20 c4_i32_21
  let c1_i32_22 : BitVec 32 := 1#32
  ⟨c0_i32_20, v20, c1_i32_22⟩
def k0_mult3 (k0_t3 : Fin k0_t3_loop.trips) : BitVec 32 :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  v21
def k0_off6 (k0_t3 : Fin k0_t3_loop.trips) : Fin 2 → Nat :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off7 (k0_t3 : Fin k0_t3_loop.trips) : Fin 2 → Nat :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  let v22 : BitVec 32 := v21
  let v40 : Index := Scalar.indexCast v22
  let c0_27 : Index := 0#32
  ![v40.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolReferenceIdeal.lean ====
abbrev S4096x4608 : Shape := ⟨2, ![4096, 4608]⟩
abbrev S4096x512 : Shape := ⟨2, ![4096, 512]⟩
abbrev S1x4x128x128 : Shape := ⟨4, ![1, 4, 128, 128]⟩
abbrev S1x512 : Shape := ⟨2, ![1, 512]⟩
abbrev S1x4096x512 : Shape := ⟨3, ![1, 4096, 512]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S4x1x4096x128 : Shape := ⟨4, ![4, 1, 4096, 128]⟩

abbrev nBuf : Space → Nat
  | .hbm => 211
  | .vmem => 0
  | .smem => 0
  | _ => 0

abbrev hbmTy0_0 (i : Nat) : BufTy := match i % 128 with
  | 0 => ⟨S4096x4608, .f32⟩
  | 1 => ⟨S4096x512, .f32⟩
  | 2 => ⟨S1x4x128x128, .f32⟩
  | 3 => ⟨S1x512, .f32⟩
  | 4 => ⟨S4096x512, .f32⟩
  | 5 => ⟨S1x4096x512, .f32⟩
  | 6 => ⟨S4x128x128, .f32⟩
  | 7 => ⟨S512, .f32⟩
  | 8 => ⟨S1x4096x4x128, .f32⟩
  | 9 => ⟨S_, .f32⟩
  | 10 => ⟨S_, .f32⟩
  | 11 => ⟨S1x4096x4x128, .f32⟩
  | 12 => ⟨S4096, .i32⟩
  | 13 => ⟨S1x4096x1x128, .f32⟩
  | 14 => ⟨S1x4096x128, .f32⟩
  | 15 => ⟨S_, .f32⟩
  | 16 => ⟨S1x2x128, .f32⟩
  | 17 => ⟨S1x4094x128, .f32⟩
  | 18 => ⟨S1x4096x128, .f32⟩
  | 19 => ⟨S_, .f32⟩
  | 20 => ⟨S1x2x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x128, .f32⟩
  | 30 => ⟨S1x4096x128, .f32⟩
  | 31 => ⟨S1x4096x128, .f32⟩
  | 32 => ⟨S1x4096x1x128, .f32⟩
  | 33 => ⟨S1x4096x128, .f32⟩
  | 34 => ⟨S1x4096x128, .f32⟩
  | 35 => ⟨S1x4096x1x128, .f32⟩
  | 36 => ⟨S1x4096x128, .f32⟩
  | 37 => ⟨S_, .f32⟩
  | 38 => ⟨S1x4x128, .f32⟩
  | 39 => ⟨S1x4092x128, .f32⟩
  | 40 => ⟨S1x4096x128, .f32⟩
  | 41 => ⟨S_, .f32⟩
  | 42 => ⟨S1x4x128, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .f32⟩
  | 50 => ⟨S1x4096x1, .f32⟩
  | 51 => ⟨S1x4096x128, .f32⟩
  | 52 => ⟨S1x4096x128, .f32⟩
  | 53 => ⟨S1x4096x128, .f32⟩
  | 54 => ⟨S1x4096x1x128, .f32⟩
  | 55 => ⟨S1x4096x128, .f32⟩
  | 56 => ⟨S1x4096x128, .f32⟩
  | 57 => ⟨S1x4096x1x128, .f32⟩
  | 58 => ⟨S1x4096x128, .f32⟩
  | 59 => ⟨S_, .f32⟩
  | 60 => ⟨S1x8x128, .f32⟩
  | 61 => ⟨S1x4088x128, .f32⟩
  | 62 => ⟨S1x4096x128, .f32⟩
  | 63 => ⟨S_, .f32⟩
  | 64 => ⟨S1x8x128, .f32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .f32⟩
  | 72 => ⟨S1x4096x1, .f32⟩
  | 73 => ⟨S1x4096x128, .f32⟩
  | 74 => ⟨S1x4096x128, .f32⟩
  | 75 => ⟨S1x4096x128, .f32⟩
  | 76 => ⟨S1x4096x1x128, .f32⟩
  | 77 => ⟨S1x4096x128, .f32⟩
  | 78 => ⟨S1x4096x128, .f32⟩
  | 79 => ⟨S1x4096x1x128, .f32⟩
  | 80 => ⟨S1x4096x128, .f32⟩
  | 81 => ⟨S_, .f32⟩
  | 82 => ⟨S1x16x128, .f32⟩
  | 83 => ⟨S1x4080x128, .f32⟩
  | 84 => ⟨S1x4096x128, .f32⟩
  | 85 => ⟨S_, .f32⟩
  | 86 => ⟨S1x16x128, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S1x4096x1, .f32⟩
  | 95 => ⟨S1x4096x128, .f32⟩
  | 96 => ⟨S1x4096x128, .f32⟩
  | 97 => ⟨S1x4096x128, .f32⟩
  | 98 => ⟨S1x4096x1x128, .f32⟩
  | 99 => ⟨S1x4096x128, .f32⟩
  | 100 => ⟨S1x4096x128, .f32⟩
  | 101 => ⟨S1x4096x1x128, .f32⟩
  | 102 => ⟨S1x4096x1x128, .f32⟩
  | 103 => ⟨S1x4096x1x128, .f32⟩
  | 104 => ⟨S1x4096x1x128, .f32⟩
  | 105 => ⟨S1x4096x4x128, .f32⟩
  | 106 => ⟨S4x128x1x4096, .f32⟩
  | 107 => ⟨S1x4096x4x128, .f32⟩
  | 108 => ⟨S1x4096x512, .f32⟩
  | 109 => ⟨S1x1x512, .f32⟩
  | 110 => ⟨S1x4096x512, .f32⟩
  | 111 => ⟨S1x4096x512, .f32⟩
  | 112 => ⟨S1x4096x512, .f32⟩
  | 113 => ⟨S1x4096x512, .f32⟩
  | 114 => ⟨S_, .f32⟩
  | 115 => ⟨S1x512, .f32⟩
  | 116 => ⟨S1x1x512, .f32⟩
  | 117 => ⟨S1x4096x512, .f32⟩
  | 118 => ⟨S1x4096x512, .f32⟩
  | 119 => ⟨S_, .f32⟩
  | 120 => ⟨S512, .f32⟩
  | 121 => ⟨S1x4096x4x128, .f32⟩
  | 122 => ⟨S4x128x1x4096, .f32⟩
  | 123 => ⟨S4x1x4096x128, .f32⟩
  | 124 => ⟨S1x4096x4x128, .f32⟩
  | 125 => ⟨S4x128x128, .f32⟩
  | 126 => ⟨S4x128x128, .f32⟩
  | 127 => ⟨S1x4096x1x128, .f32⟩
  | _ => ⟨S4096x4608, .f32⟩

abbrev hbmTy0_1 (i : Nat) : BufTy := match i % 128 with
  | 0 => ⟨S1x4096x128, .f32⟩
  | 1 => ⟨S1x4096x1x128, .f32⟩
  | 2 => ⟨S1x4096x128, .f32⟩
  | 3 => ⟨S1x4096x1x128, .f32⟩
  | 4 => ⟨S1x4096x128, .f32⟩
  | 5 => ⟨S1x4096x1x128, .f32⟩
  | 6 => ⟨S1x4096x128, .f32⟩
  | 7 => ⟨S1x4096x128, .f32⟩
  | 8 => ⟨S1x4096x1x128, .f32⟩
  | 9 => ⟨S_, .f32⟩
  | 10 => ⟨S1x4096x4x128, .f32⟩
  | 11 => ⟨S1x4096x128, .f32⟩
  | 12 => ⟨S1x4096x128, .f32⟩
  | 13 => ⟨S1x4096x128, .f32⟩
  | 14 => ⟨S1x16x128, .f32⟩
  | 15 => ⟨S1x4080x128, .f32⟩
  | 16 => ⟨S_, .f32⟩
  | 17 => ⟨S1x4096x128, .f32⟩
  | 18 => ⟨S1x4096x128, .f32⟩
  | 19 => ⟨S1x4096x1x128, .f32⟩
  | 20 => ⟨S_, .f32⟩
  | 21 => ⟨S1x4096x4x128, .f32⟩
  | 22 => ⟨S1x4096x128, .f32⟩
  | 23 => ⟨S1x4096x1x128, .f32⟩
  | 24 => ⟨S_, .f32⟩
  | 25 => ⟨S1x4096x4x128, .f32⟩
  | 26 => ⟨S1x4096x4x128, .f32⟩
  | 27 => ⟨S1x4096x128, .f32⟩
  | 28 => ⟨S1x4096x128, .f32⟩
  | 29 => ⟨S1x4096x128, .f32⟩
  | 30 => ⟨S1x8x128, .f32⟩
  | 31 => ⟨S1x4088x128, .f32⟩
  | 32 => ⟨S_, .f32⟩
  | 33 => ⟨S1x4096x128, .f32⟩
  | 34 => ⟨S1x4096x128, .f32⟩
  | 35 => ⟨S1x4096x1x128, .f32⟩
  | 36 => ⟨S_, .f32⟩
  | 37 => ⟨S1x4096x4x128, .f32⟩
  | 38 => ⟨S1x4096x4x128, .f32⟩
  | 39 => ⟨S1x4096x128, .f32⟩
  | 40 => ⟨S1x4096x1x128, .f32⟩
  | 41 => ⟨S_, .f32⟩
  | 42 => ⟨S1x4096x4x128, .f32⟩
  | 43 => ⟨S1x4096x4x128, .f32⟩
  | 44 => ⟨S1x4096x128, .f32⟩
  | 45 => ⟨S1x4096x128, .f32⟩
  | 46 => ⟨S1x4096x128, .f32⟩
  | 47 => ⟨S1x4x128, .f32⟩
  | 48 => ⟨S1x4092x128, .f32⟩
  | 49 => ⟨S_, .f32⟩
  | 50 => ⟨S1x4096x128, .f32⟩
  | 51 => ⟨S1x4096x128, .f32⟩
  | 52 => ⟨S1x4096x1x128, .f32⟩
  | 53 => ⟨S_, .f32⟩
  | 54 => ⟨S1x4096x4x128, .f32⟩
  | 55 => ⟨S1x4096x4x128, .f32⟩
  | 56 => ⟨S1x4096x128, .f32⟩
  | 57 => ⟨S1x4096x1x128, .f32⟩
  | 58 => ⟨S_, .f32⟩
  | 59 => ⟨S1x4096x4x128, .f32⟩
  | 60 => ⟨S1x4096x4x128, .f32⟩
  | 61 => ⟨S1x4096x128, .f32⟩
  | 62 => ⟨S1x4096x128, .f32⟩
  | 63 => ⟨S1x4096x128, .f32⟩
  | 64 => ⟨S1x2x128, .f32⟩
  | 65 => ⟨S1x4094x128, .f32⟩
  | 66 => ⟨S_, .f32⟩
  | 67 => ⟨S1x4096x128, .f32⟩
  | 68 => ⟨S1x4096x128, .f32⟩
  | 69 => ⟨S1x4096x1x128, .f32⟩
  | 70 => ⟨S_, .f32⟩
  | 71 => ⟨S1x4096x4x128, .f32⟩
  | 72 => ⟨S1x4096x4x128, .f32⟩
  | 73 => ⟨S_, .f32⟩
  | 74 => ⟨S_, .f32⟩
  | 75 => ⟨S1x4096x4x128, .f32⟩
  | 76 => ⟨S1x4096x4x128, .f32⟩
  | 77 => ⟨S1x4096x512, .f32⟩
  | 78 => ⟨S1x512, .f32⟩
  | 79 => ⟨S1x4x128x128, .f32⟩
  | 80 => ⟨S4096x512, .f32⟩
  | 81 => ⟨S4096x512, .bf16⟩
  | 82 => ⟨S4x128x128, .f32⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_c_12 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_16 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_17 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_18 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_19 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_20 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_21 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_22 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_23 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_24 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_25 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_26 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_cst_27 : Ref sig .tc := ⟨.hbm, 198, rfl⟩
abbrev main_v163 : Ref sig .tc := ⟨.hbm, 199, rfl⟩
abbrev main_v164 : Ref sig .tc := ⟨.hbm, 200, rfl⟩
abbrev main_call1_call0_cst : Ref sig .tc := ⟨.hbm, 201, rfl⟩
abbrev main_call1_call0_v0 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩

abbrev nD : Nat := 1
abbrev τ : Topo := Topo.v7x

variable {F : FTy → Type} [FloatOps F]
-- ==== InProjKernel.lean ====
abbrev S4096x512 : Shape := ⟨2, ![4096, 512]⟩
abbrev S4096x1024 : Shape := ⟨2, ![4096, 1024]⟩
abbrev S1x1024x4608 : Shape := ⟨3, ![1, 1024, 4608]⟩
abbrev S1x1024 : Shape := ⟨2, ![1, 1024]⟩
abbrev S1024x4608 : Shape := ⟨2, ![1024, 4608]⟩
abbrev S512x512 : Shape := ⟨2, ![512, 512]⟩
abbrev S512x1024 : Shape := ⟨2, ![512, 1024]⟩
abbrev S256x512 : Shape := ⟨2, ![256, 512]⟩
abbrev S1024x512 : Shape := ⟨2, ![1024, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024x4608, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x512, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S1024x4608, .f32⟩
  | .hbm, ⟨15, _⟩ => ⟨S1024x4608, .bf16⟩
  | .hbm, ⟨16, _⟩ => ⟨S4096x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x4608, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjReferenceIdeal.lean ====
abbrev S4096x512 : Shape := ⟨2, ![4096, 512]⟩
abbrev S4096x1024 : Shape := ⟨2, ![4096, 1024]⟩
abbrev S1x1024x4608 : Shape := ⟨3, ![1, 1024, 4608]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4608 : Shape := ⟨2, ![1024, 4608]⟩
abbrev S4096x4608 : Shape := ⟨2, ![4096, 4608]⟩

abbrev nBuf : Space → Nat
  | .hbm => 79
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024x4608, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1024x4608, .f32⟩
  | .hbm, ⟨31, _⟩ => ⟨S4096x4608, .f32⟩
  | .hbm, ⟨32, _⟩ => ⟨S4096x512, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x4608, .f32⟩
  | .hbm, ⟨39, _⟩ => ⟨S_, .f32⟩
  | .hbm, ⟨40, _⟩ => ⟨S4096x4608, .f32⟩
  | .hbm, ⟨41, _⟩ => ⟨S4096x4608, .f32⟩
  | .hbm, ⟨42, _⟩ => ⟨S_, .f32⟩
  | .hbm, ⟨43, _⟩ => ⟨S4096x4608, .f32⟩
  | .hbm, ⟨44, _⟩ => ⟨S4096x4608, .f32⟩
  | .hbm, ⟨45, _⟩ => ⟨S_, .f32⟩
  | .hbm, ⟨46, _⟩ => ⟨S4096x4608, .f32⟩
  | .hbm, ⟨47, _⟩ => ⟨S4096x4608, .f32⟩
  | .hbm, ⟨48, _⟩ => ⟨S_, .f32⟩
  | .hbm, ⟨49, _⟩ => ⟨S4096x4608, .f32⟩
  | .hbm, ⟨50, _⟩ => ⟨S4096x4608, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== LossKernel.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S2816x1024, .f32⟩
  | .hbm, ⟨7, _⟩ => ⟨S2816x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S1024 : Shape := ⟨1, ![1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== MergeKernel.lean ====
abbrev S4096x512 : Shape := ⟨2, ![4096, 512]⟩
abbrev S4096x1024 : Shape := ⟨2, ![4096, 1024]⟩
abbrev S1x512x1024 : Shape := ⟨3, ![1, 512, 1024]⟩
abbrev S1x1024x1024 : Shape := ⟨3, ![1, 1024, 1024]⟩
abbrev S4096x4608 : Shape := ⟨2, ![4096, 4608]⟩
abbrev S1024x1024 : Shape := ⟨2, ![1024, 1024]⟩
abbrev S512x1024 : Shape := ⟨2, ![512, 1024]⟩
abbrev S1024x512 : Shape := ⟨2, ![1024, 512]⟩
abbrev S512x256 : Shape := ⟨2, ![512, 256]⟩
abbrev S1024x256 : Shape := ⟨2, ![1024, 256]⟩
abbrev S256x1024 : Shape := ⟨2, ![256, 1024]⟩
abbrev S512x512 : Shape := ⟨2, ![512, 512]⟩
abbrev S2048x1024 : Shape := ⟨2, ![2048, 1024]⟩
abbrev S2048x256 : Shape := ⟨2, ![2048, 256]⟩

abbrev nBuf : Space → Nat
  | .hbm => 27
  | .vmem => 48
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512x1024, .f32⟩
  | .hbm, ⟨3, _⟩ => ⟨S1x1024x1024, .f32⟩
  | .hbm, ⟨4, _⟩ => ⟨S4096x4608, .f32⟩
  | .hbm, ⟨5, _⟩ => ⟨S1x1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .bf16⟩
  | .hbm, ⟨10, _⟩ => ⟨S4096x512, .bf16⟩
  | .hbm, ⟨11, _⟩ => ⟨S4096x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x256, .bf16⟩
  | .local _ .vmem, ⟨5, _⟩ => ⟨S512x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x1024, .bf16⟩
  | .local _ .vmem, ⟨13, _⟩ => ⟨S256x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x1024, .f32⟩
  | .local _ .vmem, ⟨27, _⟩ => ⟨S1024x1024, .f32⟩
  | .local _ .vmem, ⟨28, _⟩ => ⟨S2048x1024, .bf16⟩
  | .local _ .vmem, ⟨29, _⟩ => ⟨S2048x1024, .bf16⟩
  | .local _ .vmem, ⟨30, _⟩ => ⟨S256x1024, .bf16⟩
  | .local _ .vmem, ⟨31, _⟩ => ⟨S256x1024, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S2048x256, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .bf16⟩
  | .local _ .vmem, ⟨44, _⟩ => ⟨S2048x256, .bf16⟩
  | .local _ .vmem, ⟨45, _⟩ => ⟨S2048x256, .bf16⟩
  | .local _ .vmem, ⟨46, _⟩ => ⟨S2048x256, .bf16⟩
  | .local _ .vmem, ⟨47, _⟩ => ⟨S2048x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg8_1 : Ref sig .tc := ⟨.vmem, 45, rfl⟩
abbrev cc1_stg9_0 : Ref sig .tc := ⟨.vmem, 46, rfl⟩
abbrev cc1_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== MergeReferenceIdeal.lean ====
abbrev S4096x512 : Shape := ⟨2, ![4096, 512]⟩
abbrev S4096x1024 : Shape := ⟨2, ![4096, 1024]⟩
abbrev S1x512x1024 : Shape := ⟨3, ![1, 512, 1024]⟩
abbrev S1x1024x1024 : Shape := ⟨3, ![1, 1024, 1024]⟩
abbrev S4096x4608 : Shape := ⟨2, ![4096, 4608]⟩
abbrev S512x1024 : Shape := ⟨2, ![512, 1024]⟩
abbrev S1024x1024 : Shape := ⟨2, ![1024, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512x1024, .f32⟩
  | .hbm, ⟨3, _⟩ => ⟨S1x1024x1024, .f32⟩
  | .hbm, ⟨4, _⟩ => ⟨S4096x4608, .f32⟩
  | .hbm, ⟨5, _⟩ => ⟨S1x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S512x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== RnnFwdKernel.lean ====
abbrev S4096x4608 : Shape := ⟨2, ![4096, 4608]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S4x1024 : Shape := ⟨2, ![4, 1024]⟩
abbrev S4096x1024 : Shape := ⟨2, ![4096, 1024]⟩
abbrev S4096x128 : Shape := ⟨2, ![4096, 128]⟩
abbrev S4x128 : Shape := ⟨2, ![4, 128]⟩
abbrev S1x128 : Shape := ⟨2, ![1, 128]⟩
abbrev S1x128x128 : Shape := ⟨3, ![1, 128, 128]⟩
abbrev S4104x128 : Shape := ⟨2, ![4104, 128]⟩
abbrev S8x128 : Shape := ⟨2, ![8, 128]⟩
abbrev S1024x128 : Shape := ⟨2, ![1024, 128]⟩
abbrev S128x128 : Shape := ⟨2, ![128, 128]⟩
abbrev S1032x128 : Shape := ⟨2, ![1032, 128]⟩

abbrev nBuf : Space → Nat
  | .hbm => 20
  | .vmem => 35
  | .smem => 0
  | _ => 0

abbrev bufTy : (tb : Table) → Fin (tcTables nBuf tb) → BufTy
  | .hbm, ⟨0, _⟩ => ⟨S4096x4608, .f32⟩
  | .hbm, ⟨1, _⟩ => ⟨S1x4x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S8x128x128, .f32⟩
  | .hbm, ⟨9, _⟩ => ⟨S8x128x128, .f32⟩
  | .hbm, ⟨10, _⟩ => ⟨S4x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .bf16⟩
  | .local _ .vmem, ⟨21, _⟩ => ⟨S4096x128, .bf16⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4104x128, .f32⟩
  | .local _ .vmem, ⟨33, _⟩ => ⟨S4096x128, .f32⟩
  | .local _ .vmem, ⟨34, _⟩ => ⟨S4096x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c1024_i32 : BitVec 32 := 1024#32
  let v381 : BitVec 32 := Scalar.muli arg20 c1024_i32
  v381
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c1024_i32 : BitVec 32 := 1024#32
  let v381 : BitVec 32 := Scalar.muli arg20 c1024_i32
  let v382 : BitVec 32 := v381
  let v383 : Index := Scalar.indexCast v382
  let c0_261 : Index := 0#32
  ![v383.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c1024_i32 : BitVec 32 := 1024#32
  let v381 : BitVec 32 := Scalar.muli arg20 c1024_i32
  let v382 : BitVec 32 := v381
  let c8_i32 : BitVec 32 := 8#32
  let v385 : BitVec 32 := Scalar.addi v382 c8_i32
  let v386 : Index := Scalar.indexCast v385
  let c0_262 : Index := 0#32
  ![v386.toNat, 0]
@[reducible] def k0_t2_loop : Scf.Loop 32 :=
  let c0_i32_29 : BitVec 32 := 0#32
  let c4_i32_30 : BitVec 32 := 4#32
  let v48 : BitVec 32 := Scalar.addi c0_i32_29 c4_i32_30
  let c1_i32_31 : BitVec 32 := 1#32
  ⟨c0_i32_29, v48, c1_i32_31⟩
def k0_mult2 (k0_t2 : Fin k0_t2_loop.trips) : BitVec 32 :=
  let c0_i32_29 : BitVec 32 := 0#32
  let c1_i32_31 : BitVec 32 := 1#32
  let arg20 : BitVec 32 := Scf.iv c0_i32_29 c1_i32_31 k0_t2
  let c1024_i32 : BitVec 32 := 1024#32
  let v381 : BitVec 32 := Scalar.muli arg20 c1024_i32
  v381
def k0_mult3 (k0_t2 : Fin k0_t2_loop.trips) : BitVec 32 :=
  let c0_i32_29 : BitVec 32 := 0#32
  let c1_i32_31 : BitVec 32 := 1#32
  let arg20 : BitVec 32 := Scf.iv c0_i32_29 c1_i32_31 k0_t2
  let c1024_i32_261 : BitVec 32 := 1024#32
  let v383 : BitVec 32 := Scalar.muli arg20 c1024_i32_261
  v383
def k0_off3 (k0_t2 : Fin k0_t2_loop.trips) : Fin 2 → Nat :=
  let c0_i32_29 : BitVec 32 := 0#32
  let c1_i32_31 : BitVec 32 := 1#32
  let arg20 : BitVec 32 := Scf.iv c0_i32_29 c1_i32_31 k0_t2
  let c1024_i32_261 : BitVec 32 := 1024#32
  let v383 : BitVec 32 := Scalar.muli arg20 c1024_i32_261
  let v384 : BitVec 32 := v383
  let v385 : Index := Scalar.indexCast v384
  let c0_262 : Index := 0#32
  ![v385.toNat, 0]
def k0_off4 (k0_t2 : Fin k0_t2_loop.trips) : Fin 2 → Nat :=
  let c0_i32_29 : BitVec 32 := 0#32
  let c1_i32_31 : BitVec 32 := 1#32
  let arg20 : BitVec 32 := Scf.iv c0_i32_29 c1_i32_31 k0_t2
  let c1024_i32 : BitVec 32 := 1024#32
  let v381 : BitVec 32 := Scalar.muli arg20 c1024_i32
  let v382 : BitVec 32 := v381
  let v441 : Index := Scalar.indexCast v382
  let c0_275 : Index := 0#32
  ![v441.toNat, 0]
@[reducible] def k0_t3_loop : Scf.Loop 32 :=
  let c0_i32_254 : BitVec 32 := 0#32
  let c64_i32 : BitVec 32 := 64#32
  let v378 : BitVec 32 := Scalar.addi c0_i32_254 c64_i32
  let c1_i32_255 : BitVec 32 := 1#32
  ⟨c0_i32_254, v378, c1_i32_255⟩
def k0_mult4 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32 : BitVec 32 := 8#32
  let v381 : BitVec 32 := Scalar.muli arg20 c8_i32
  let c0_i32_261 : BitVec 32 := 0#32
  let v382 : BitVec 32 := Scalar.addi v381 c0_i32_261
  let c8_i32_262 : BitVec 32 := 8#32
  let v383 : BitVec 32 := Scalar.muli v382 c8_i32_262
  v383
def k0_off5 (k0_t3 : Fin k0_t3_loop.trips) (c0_i32_261 : BitVec 32) : Fin 2 → Nat :=
  let c0_i32_254 : BitVec 32 := 0#32
  let c1_i32_255 : BitVec 32 := 1#32
  let arg20 : BitVec 32 := Scf.iv c0_i32_254 c1_i32_255 k0_t3
  let c8_i32 : BitVec 32 := 8#32
  let v381 : BitVec 32 := Scalar.muli arg20 c8_i32
  let v382 : BitVec 32 := Scalar.addi v381 c0_i32_261
  let c8_i32_262 : BitVec 32 := 8#32
  let v383 : BitVec 32 := Scalar.muli v382 c8_i32_262
  let v384 : BitVec 32 := v383
  let v385 : Index := Scalar.indexCast v384
  let c0_263 : Index := 0#32
  ![v385.toNat, 0]
def k0_mult5 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_266 : BitVec 32 := 8#32
  let v401 : BitVec 32 := Scalar.muli arg20 c8_i32_266
  let c1_i32_267 : BitVec 32 := 1#32
  let v402 : BitVec 32 := Scalar.addi v401 c1_i32_267
  let c8_i32_268 : BitVec 32 := 8#32
  let v403 : BitVec 32 := Scalar.muli v402 c8_i32_268
  v403
def k0_mult6 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_272 : BitVec 32 := 8#32
  let v421 : BitVec 32 := Scalar.muli arg20 c8_i32_272
  let c2_i32 : BitVec 32 := 2#32
  let v422 : BitVec 32 := Scalar.addi v421 c2_i32
  let c8_i32_273 : BitVec 32 := 8#32
  let v423 : BitVec 32 := Scalar.muli v422 c8_i32_273
  v423
def k0_mult7 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_277 : BitVec 32 := 8#32
  let v441 : BitVec 32 := Scalar.muli arg20 c8_i32_277
  let c3_i32 : BitVec 32 := 3#32
  let v442 : BitVec 32 := Scalar.addi v441 c3_i32
  let c8_i32_278 : BitVec 32 := 8#32
  let v443 : BitVec 32 := Scalar.muli v442 c8_i32_278
  v443
def k0_mult8 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_282 : BitVec 32 := 8#32
  let v461 : BitVec 32 := Scalar.muli arg20 c8_i32_282
  let c4_i32_283 : BitVec 32 := 4#32
  let v462 : BitVec 32 := Scalar.addi v461 c4_i32_283
  let c8_i32_284 : BitVec 32 := 8#32
  let v463 : BitVec 32 := Scalar.muli v462 c8_i32_284
  v463
def k0_mult9 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_288 : BitVec 32 := 8#32
  let v481 : BitVec 32 := Scalar.muli arg20 c8_i32_288
  let c5_i32 : BitVec 32 := 5#32
  let v482 : BitVec 32 := Scalar.addi v481 c5_i32
  let c8_i32_289 : BitVec 32 := 8#32
  let v483 : BitVec 32 := Scalar.muli v482 c8_i32_289
  v483
def k0_mult10 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_293 : BitVec 32 := 8#32
  let v501 : BitVec 32 := Scalar.muli arg20 c8_i32_293
  let c6_i32 : BitVec 32 := 6#32
  let v502 : BitVec 32 := Scalar.addi v501 c6_i32
  let c8_i32_294 : BitVec 32 := 8#32
  let v503 : BitVec 32 := Scalar.muli v502 c8_i32_294
  v503
def k0_mult11 (k0_t3 : Fin k0_t3_loop.trips) : BitVec 32 :=
  let c0_i32_254 : BitVec 32 := 0#32
  let c1_i32_255 : BitVec 32 := 1#32
  let arg20 : BitVec 32 := Scf.iv c0_i32_254 c1_i32_255 k0_t3
  let c8_i32_298 : BitVec 32 := 8#32
  let v521 : BitVec 32 := Scalar.muli arg20 c8_i32_298
  let c7_i32 : BitVec 32 := 7#32
  let v522 : BitVec 32 := Scalar.addi v521 c7_i32
  let c8_i32_299 : BitVec 32 := 8#32
  let v523 : BitVec 32 := Scalar.muli v522 c8_i32_299
  v523
@[reducible] def k0_t4_loop : Scf.Loop 32 :=
  let c0_i32_257 : BitVec 32 := 0#32
  let c4_i32_258 : BitVec 32 := 4#32
  let v380 : BitVec 32 := Scalar.addi c0_i32_257 c4_i32_258
  let c1_i32_259 : BitVec 32 := 1#32
  ⟨c0_i32_257, v380, c1_i32_259⟩
def k0_mult12 (k0_t4 : Fin k0_t4_loop.trips) : BitVec 32 :=
  let c0_i32_257 : BitVec 32 := 0#32
  let c1_i32_259 : BitVec 32 := 1#32
  let arg20 : BitVec 32 := Scf.iv c0_i32_257 c1_i32_259 k0_t4
  let c1024_i32 : BitVec 32 := 1024#32
  let v381 : BitVec 32 := Scalar.muli arg20 c1024_i32
  v381
def k0_off6 (k0_t4 : Fin k0_t4_loop.trips) : Fin 2 → Nat :=
  let c0_i32_257 : BitVec 32 := 0#32
  let c1_i32_259 : BitVec 32 := 1#32
  let arg20 : BitVec 32 := Scf.iv c0_i32_257 c1_i32_259 k0_t4
  let c1024_i32 : BitVec 32 := 1024#32
  let v381 : BitVec 32 := Scalar.muli arg20 c1024_i32
  let v382 : BitVec 32 := v381
  let v383 : Index := Scalar.indexCast v382
  let c0_261 : Index := 0#32
  ![v383.toNat, 0]
def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RnnFwdReferenceIdeal.lean ====
abbrev S4096x4608 : Shape := ⟨2, ![4096, 4608]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S4096x1024 : Shape := ⟨2, ![4096, 1024]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x4099x1024 : Shape := ⟨3, ![1, 4099, 1024]⟩
abbrev S1x1x1024 : Shape := ⟨3, ![1, 1, 1024]⟩
abbrev S8x128x128 : Shape := ⟨3, ![8, 128, 128]⟩
abbrev S8x128 : Shape := ⟨2, ![8, 128]⟩
abbrev S1x4096x8x128 : Shape := ⟨4, ![1, 4096, 8, 128]⟩
abbrev S8x128x1x4096 : Shape := ⟨4, ![8, 128, 1, 4096]⟩
abbrev S1x1x8x128 : Shape := ⟨4, ![1, 1, 8, 128]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S1x128x1024 : Shape := ⟨3, ![1, 128, 1024]⟩
abbrev S1x64x1024 : Shape := ⟨3, ![1, 64, 1024]⟩
abbrev S1x32x1024 : Shape := ⟨3, ![1, 32, 1024]⟩
abbrev S1x16x1024 : Shape := ⟨3, ![1, 16, 1024]⟩
abbrev S1x8x1024 : Shape := ⟨3, ![1, 8, 1024]⟩
abbrev S1x2x1024 : Shape := ⟨3, ![1, 2, 1024]⟩
abbrev S1x0x1024 : Shape := ⟨3, ![1, 0, 1024]⟩
abbrev S1x3x1024 : Shape := ⟨3, ![1, 3, 1024]⟩
abbrev S1x7x1024 : Shape := ⟨3, ![1, 7, 1024]⟩
abbrev S1x15x1024 : Shape := ⟨3, ![1, 15, 1024]⟩
abbrev S1x31x1024 : Shape := ⟨3, ![1, 31, 1024]⟩
abbrev S1x63x1024 : Shape := ⟨3, ![1, 63, 1024]⟩
abbrev S1x127x1024 : Shape := ⟨3, ![1, 127, 1024]⟩
abbrev S1x255x1024 : Shape := ⟨3, ![1, 255, 1024]⟩
abbrev S1x511x1024 : Shape := ⟨3, ![1, 511, 1024]⟩
abbrev S1x1023x1024 : Shape := ⟨3, ![1, 1023, 1024]⟩
abbrev S1x2047x1024 : Shape := ⟨3, ![1, 2047, 1024]⟩

abbrev nBuf : Space → Nat
  | .hbm => 473
  | .vmem => 0
  | .smem => 0
  | _ => 0

abbrev hbmTy0_0 (i : Nat) : BufTy := match i % 128 with
  | 0 => ⟨S4096x4608, .f32⟩
  | 1 => ⟨S1x4x1024, .f32⟩
  | 2 => ⟨S1x1024, .f32⟩
  | 3 => ⟨S1x8x128x128, .f32⟩
  | 4 => ⟨S1x8x128, .f32⟩
  | 5 => ⟨S1x8x128x128, .f32⟩
  | 6 => ⟨S1x8x128, .f32⟩
  | 7 => ⟨S1x1024, .f32⟩
  | 8 => ⟨S4096x1024, .f32⟩
  | 9 => ⟨S1x4096x1024, .f32⟩
  | 10 => ⟨S4x1024, .f32⟩
  | 11 => ⟨S1024, .f32⟩
  | 12 => ⟨S_, .i32⟩
  | 13 => ⟨S_, .f32⟩
  | 14 => ⟨S1x4099x1024, .f32⟩
  | 15 => ⟨S1x4096x1024, .f32⟩
  | 16 => ⟨S1x1024, .f32⟩
  | 17 => ⟨S1024, .f32⟩
  | 18 => ⟨S1x1x1024, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1x4096x1024, .f32⟩
  | 25 => ⟨S1x1024, .f32⟩
  | 26 => ⟨S1024, .f32⟩
  | 27 => ⟨S1x1x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x1024, .f32⟩
  | 33 => ⟨S1024, .f32⟩
  | 34 => ⟨S1x1x1024, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x1024, .f32⟩
  | 40 => ⟨S1024, .f32⟩
  | 41 => ⟨S1x1x1024, .f32⟩
  | 42 => ⟨S1x4096x1024, .f32⟩
  | 43 => ⟨S1x4096x1024, .f32⟩
  | 44 => ⟨S1x4096x1024, .f32⟩
  | 45 => ⟨S8x128x128, .f32⟩
  | 46 => ⟨S8x128, .f32⟩
  | 47 => ⟨S8x128x128, .f32⟩
  | 48 => ⟨S8x128, .f32⟩
  | 49 => ⟨S1024, .f32⟩
  | 50 => ⟨S1x4096x8x128, .f32⟩
  | 51 => ⟨S8x128x1x4096, .f32⟩
  | 52 => ⟨S1x4096x8x128, .f32⟩
  | 53 => ⟨S1x1x8x128, .f32⟩
  | 54 => ⟨S1x4096x8x128, .f32⟩
  | 55 => ⟨S1x4096x8x128, .f32⟩
  | 56 => ⟨S1x4096x8x128, .f32⟩
  | 57 => ⟨S1x4096x8x128, .f32⟩
  | 58 => ⟨S_, .f32⟩
  | 59 => ⟨S1x4096x8x128, .f32⟩
  | 60 => ⟨S1x4096x8x128, .f32⟩
  | 61 => ⟨S_, .f32⟩
  | 62 => ⟨S1x4096x8x128, .f32⟩
  | 63 => ⟨S1x4096x8x128, .f32⟩
  | 64 => ⟨S1x4096x1024, .f32⟩
  | 65 => ⟨S8x128x1x4096, .f32⟩
  | 66 => ⟨S1x4096x8x128, .f32⟩
  | 67 => ⟨S1x1x8x128, .f32⟩
  | 68 => ⟨S1x4096x8x128, .f32⟩
  | 69 => ⟨S1x4096x8x128, .f32⟩
  | 70 => ⟨S1x4096x8x128, .f32⟩
  | 71 => ⟨S1x4096x8x128, .f32⟩
  | 72 => ⟨S_, .f32⟩
  | 73 => ⟨S1x4096x8x128, .f32⟩
  | 74 => ⟨S1x4096x8x128, .f32⟩
  | 75 => ⟨S_, .f32⟩
  | 76 => ⟨S1x4096x8x128, .f32⟩
  | 77 => ⟨S1x4096x8x128, .f32⟩
  | 78 => ⟨S1x4096x1024, .f32⟩
  | 79 => ⟨S_, .f32⟩
  | 80 => ⟨S1x4096x1024, .f32⟩
  | 81 => ⟨S1x4096x1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S1024, .f32⟩
  | 88 => ⟨S1024, .i1⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1x1x1024, .f32⟩
  | 98 => ⟨S1x4096x1024, .f32⟩
  | 99 => ⟨S1x4096x1024, .f32⟩
  | 100 => ⟨S1x4096x1024, .f32⟩
  | 101 => ⟨S_, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x2048x1024, .f32⟩
  | 110 => ⟨S1x2048x1024, .f32⟩
  | 111 => ⟨S1x2048x1024, .f32⟩
  | 112 => ⟨S1x2048x1024, .f32⟩
  | 113 => ⟨S1x2048x1024, .f32⟩
  | 114 => ⟨S1x2048x1024, .f32⟩
  | 115 => ⟨S1x2048x1024, .f32⟩
  | 116 => ⟨S1x1024x1024, .f32⟩
  | 117 => ⟨S1x1024x1024, .f32⟩
  | 118 => ⟨S1x1024x1024, .f32⟩
  | 119 => ⟨S1x1024x1024, .f32⟩
  | 120 => ⟨S1x1024x1024, .f32⟩
  | 121 => ⟨S1x1024x1024, .f32⟩
  | 122 => ⟨S1x1024x1024, .f32⟩
  | 123 => ⟨S1x512x1024, .f32⟩
  | 124 => ⟨S1x512x1024, .f32⟩
  | 125 => ⟨S1x512x1024, .f32⟩
  | 126 => ⟨S1x512x1024, .f32⟩
  | 127 => ⟨S1x512x1024, .f32⟩
  | _ => ⟨S4096x4608, .f32⟩

abbrev hbmTy0_1 (i : Nat) : BufTy := match i % 128 with
  | 0 => ⟨S1x512x1024, .f32⟩
  | 1 => ⟨S1x512x1024, .f32⟩
  | 2 => ⟨S1x256x1024, .f32⟩
  | 3 => ⟨S1x256x1024, .f32⟩
  | 4 => ⟨S1x256x1024, .f32⟩
  | 5 => ⟨S1x256x1024, .f32⟩
  | 6 => ⟨S1x256x1024, .f32⟩
  | 7 => ⟨S1x256x1024, .f32⟩
  | 8 => ⟨S1x256x1024, .f32⟩
  | 9 => ⟨S1x128x1024, .f32⟩
  | 10 => ⟨S1x128x1024, .f32⟩
  | 11 => ⟨S1x128x1024, .f32⟩
  | 12 => ⟨S1x128x1024, .f32⟩
  | 13 => ⟨S1x128x1024, .f32⟩
  | 14 => ⟨S1x128x1024, .f32⟩
  | 15 => ⟨S1x128x1024, .f32⟩
  | 16 => ⟨S1x64x1024, .f32⟩
  | 17 => ⟨S1x64x1024, .f32⟩
  | 18 => ⟨S1x64x1024, .f32⟩
  | 19 => ⟨S1x64x1024, .f32⟩
  | 20 => ⟨S1x64x1024, .f32⟩
  | 21 => ⟨S1x64x1024, .f32⟩
  | 22 => ⟨S1x64x1024, .f32⟩
  | 23 => ⟨S1x32x1024, .f32⟩
  | 24 => ⟨S1x32x1024, .f32⟩
  | 25 => ⟨S1x32x1024, .f32⟩
  | 26 => ⟨S1x32x1024, .f32⟩
  | 27 => ⟨S1x32x1024, .f32⟩
  | 28 => ⟨S1x32x1024, .f32⟩
  | 29 => ⟨S1x32x1024, .f32⟩
  | 30 => ⟨S1x16x1024, .f32⟩
  | 31 => ⟨S1x16x1024, .f32⟩
  | 32 => ⟨S1x16x1024, .f32⟩
  | 33 => ⟨S1x16x1024, .f32⟩
  | 34 => ⟨S1x16x1024, .f32⟩
  | 35 => ⟨S1x16x1024, .f32⟩
  | 36 => ⟨S1x16x1024, .f32⟩
  | 37 => ⟨S1x8x1024, .f32⟩
  | 38 => ⟨S1x8x1024, .f32⟩
  | 39 => ⟨S1x8x1024, .f32⟩
  | 40 => ⟨S1x8x1024, .f32⟩
  | 41 => ⟨S1x8x1024, .f32⟩
  | 42 => ⟨S1x8x1024, .f32⟩
  | 43 => ⟨S1x8x1024, .f32⟩
  | 44 => ⟨S1x4x1024, .f32⟩
  | 45 => ⟨S1x4x1024, .f32⟩
  | 46 => ⟨S1x4x1024, .f32⟩
  | 47 => ⟨S1x4x1024, .f32⟩
  | 48 => ⟨S1x4x1024, .f32⟩
  | 49 => ⟨S1x4x1024, .f32⟩
  | 50 => ⟨S1x4x1024, .f32⟩
  | 51 => ⟨S1x2x1024, .f32⟩
  | 52 => ⟨S1x2x1024, .f32⟩
  | 53 => ⟨S1x2x1024, .f32⟩
  | 54 => ⟨S1x2x1024, .f32⟩
  | 55 => ⟨S1x2x1024, .f32⟩
  | 56 => ⟨S1x2x1024, .f32⟩
  | 57 => ⟨S1x2x1024, .f32⟩
  | 58 => ⟨S1x1x1024, .f32⟩
  | 59 => ⟨S1x1x1024, .f32⟩
  | 60 => ⟨S1x1x1024, .f32⟩
  | 61 => ⟨S1x1x1024, .f32⟩
  | 62 => ⟨S1x1x1024, .f32⟩
  | 63 => ⟨S1x1x1024, .f32⟩
  | 64 => ⟨S1x1x1024, .f32⟩
  | 65 => ⟨S1x0x1024, .f32⟩
  | 66 => ⟨S1x0x1024, .f32⟩
  | 67 => ⟨S1x0x1024, .f32⟩
  | 68 => ⟨S1x0x1024, .f32⟩
  | 69 => ⟨S1x0x1024, .f32⟩
  | 70 => ⟨S1x0x1024, .f32⟩
  | 71 => ⟨S1x0x1024, .f32⟩
  | 72 => ⟨S1x1x1024, .f32⟩
  | 73 => ⟨S1x1x1024, .f32⟩
  | 74 => ⟨S1x1x1024, .f32⟩
  | 75 => ⟨S1x1x1024, .f32⟩
  | 76 => ⟨S_, .f32⟩
  | 77 => ⟨S1x2x1024, .f32⟩
  | 78 => ⟨S_, .f32⟩
  | 79 => ⟨S1x2x1024, .f32⟩
  | 80 => ⟨S1x2x1024, .f32⟩
  | 81 => ⟨S_, .f32⟩
  | 82 => ⟨S1x2x1024, .f32⟩
  | 83 => ⟨S_, .f32⟩
  | 84 => ⟨S1x2x1024, .f32⟩
  | 85 => ⟨S1x2x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x2x1024, .f32⟩
  | 95 => ⟨S1x1x1024, .f32⟩
  | 96 => ⟨S1x2x1024, .f32⟩
  | 97 => ⟨S_, .f32⟩
  | 98 => ⟨S1x4x1024, .f32⟩
  | 99 => ⟨S_, .f32⟩
  | 100 => ⟨S1x4x1024, .f32⟩
  | 101 => ⟨S1x4x1024, .f32⟩
  | 102 => ⟨S_, .f32⟩
  | 103 => ⟨S1x4x1024, .f32⟩
  | 104 => ⟨S_, .f32⟩
  | 105 => ⟨S1x4x1024, .f32⟩
  | 106 => ⟨S1x4x1024, .f32⟩
  | 107 => ⟨S1x3x1024, .f32⟩
  | 108 => ⟨S1x3x1024, .f32⟩
  | 109 => ⟨S1x3x1024, .f32⟩
  | 110 => ⟨S1x3x1024, .f32⟩
  | 111 => ⟨S1x3x1024, .f32⟩
  | 112 => ⟨S1x3x1024, .f32⟩
  | 113 => ⟨S1x3x1024, .f32⟩
  | 114 => ⟨S1x1x1024, .f32⟩
  | 115 => ⟨S1x4x1024, .f32⟩
  | 116 => ⟨S1x1x1024, .f32⟩
  | 117 => ⟨S1x4x1024, .f32⟩
  | 118 => ⟨S_, .f32⟩
  | 119 => ⟨S1x8x1024, .f32⟩
  | 120 => ⟨S_, .f32⟩
  | 121 => ⟨S1x8x1024, .f32⟩
  | 122 => ⟨S1x8x1024, .f32⟩
  | 123 => ⟨S_, .f32⟩
  | 124 => ⟨S1x8x1024, .f32⟩
  | 125 => ⟨S_, .f32⟩
  | 126 => ⟨S1x8x1024, .f32⟩
  | 127 => ⟨S1x8x1024, .f32⟩
  | _ => ⟨S4096x4608, .f32⟩

abbrev hbmTy0_2 (i : Nat) : BufTy := match i % 128 with
  | 0 => ⟨S1x7x1024, .f32⟩
  | 1 => ⟨S1x7x1024, .f32⟩
  | 2 => ⟨S1x7x1024, .f32⟩
  | 3 => ⟨S1x7x1024, .f32⟩
  | 4 => ⟨S1x7x1024, .f32⟩
  | 5 => ⟨S1x7x1024, .f32⟩
  | 6 => ⟨S1x7x1024, .f32⟩
  | 7 => ⟨S1x1x1024, .f32⟩
  | 8 => ⟨S1x8x1024, .f32⟩
  | 9 => ⟨S1x1x1024, .f32⟩
  | 10 => ⟨S1x8x1024, .f32⟩
  | 11 => ⟨S_, .f32⟩
  | 12 => ⟨S1x16x1024, .f32⟩
  | 13 => ⟨S_, .f32⟩
  | 14 => ⟨S1x16x1024, .f32⟩
  | 15 => ⟨S1x16x1024, .f32⟩
  | 16 => ⟨S_, .f32⟩
  | 17 => ⟨S1x16x1024, .f32⟩
  | 18 => ⟨S_, .f32⟩
  | 19 => ⟨S1x16x1024, .f32⟩
  | 20 => ⟨S1x16x1024, .f32⟩
  | 21 => ⟨S1x15x1024, .f32⟩
  | 22 => ⟨S1x15x1024, .f32⟩
  | 23 => ⟨S1x15x1024, .f32⟩
  | 24 => ⟨S1x15x1024, .f32⟩
  | 25 => ⟨S1x15x1024, .f32⟩
  | 26 => ⟨S1x15x1024, .f32⟩
  | 27 => ⟨S1x15x1024, .f32⟩
  | 28 => ⟨S1x1x1024, .f32⟩
  | 29 => ⟨S1x16x1024, .f32⟩
  | 30 => ⟨S1x1x1024, .f32⟩
  | 31 => ⟨S1x16x1024, .f32⟩
  | 32 => ⟨S_, .f32⟩
  | 33 => ⟨S1x32x1024, .f32⟩
  | 34 => ⟨S_, .f32⟩
  | 35 => ⟨S1x32x1024, .f32⟩
  | 36 => ⟨S1x32x1024, .f32⟩
  | 37 => ⟨S_, .f32⟩
  | 38 => ⟨S1x32x1024, .f32⟩
  | 39 => ⟨S_, .f32⟩
  | 40 => ⟨S1x32x1024, .f32⟩
  | 41 => ⟨S1x32x1024, .f32⟩
  | 42 => ⟨S1x31x1024, .f32⟩
  | 43 => ⟨S1x31x1024, .f32⟩
  | 44 => ⟨S1x31x1024, .f32⟩
  | 45 => ⟨S1x31x1024, .f32⟩
  | 46 => ⟨S1x31x1024, .f32⟩
  | 47 => ⟨S1x31x1024, .f32⟩
  | 48 => ⟨S1x31x1024, .f32⟩
  | 49 => ⟨S1x1x1024, .f32⟩
  | 50 => ⟨S1x32x1024, .f32⟩
  | 51 => ⟨S1x1x1024, .f32⟩
  | 52 => ⟨S1x32x1024, .f32⟩
  | 53 => ⟨S_, .f32⟩
  | 54 => ⟨S1x64x1024, .f32⟩
  | 55 => ⟨S_, .f32⟩
  | 56 => ⟨S1x64x1024, .f32⟩
  | 57 => ⟨S1x64x1024, .f32⟩
  | 58 => ⟨S_, .f32⟩
  | 59 => ⟨S1x64x1024, .f32⟩
  | 60 => ⟨S_, .f32⟩
  | 61 => ⟨S1x64x1024, .f32⟩
  | 62 => ⟨S1x64x1024, .f32⟩
  | 63 => ⟨S1x63x1024, .f32⟩
  | 64 => ⟨S1x63x1024, .f32⟩
  | 65 => ⟨S1x63x1024, .f32⟩
  | 66 => ⟨S1x63x1024, .f32⟩
  | 67 => ⟨S1x63x1024, .f32⟩
  | 68 => ⟨S1x63x1024, .f32⟩
  | 69 => ⟨S1x63x1024, .f32⟩
  | 70 => ⟨S1x1x1024, .f32⟩
  | 71 => ⟨S1x64x1024, .f32⟩
  | 72 => ⟨S1x1x1024, .f32⟩
  | 73 => ⟨S1x64x1024, .f32⟩
  | 74 => ⟨S_, .f32⟩
  | 75 => ⟨S1x128x1024, .f32⟩
  | 76 => ⟨S_, .f32⟩
  | 77 => ⟨S1x128x1024, .f32⟩
  | 78 => ⟨S1x128x1024, .f32⟩
  | 79 => ⟨S_, .f32⟩
  | 80 => ⟨S1x128x1024, .f32⟩
  | 81 => ⟨S_, .f32⟩
  | 82 => ⟨S1x128x1024, .f32⟩
  | 83 => ⟨S1x128x1024, .f32⟩
  | 84 => ⟨S1x127x1024, .f32⟩
  | 85 => ⟨S1x127x1024, .f32⟩
  | 86 => ⟨S1x127x1024, .f32⟩
  | 87 => ⟨S1x127x1024, .f32⟩
  | 88 => ⟨S1x127x1024, .f32⟩
  | 89 => ⟨S1x127x1024, .f32⟩
  | 90 => ⟨S1x127x1024, .f32⟩
  | 91 => ⟨S1x1x1024, .f32⟩
  | 92 => ⟨S1x128x1024, .f32⟩
  | 93 => ⟨S1x1x1024, .f32⟩
  | 94 => ⟨S1x128x1024, .f32⟩
  | 95 => ⟨S_, .f32⟩
  | 96 => ⟨S1x256x1024, .f32⟩
  | 97 => ⟨S_, .f32⟩
  | 98 => ⟨S1x256x1024, .f32⟩
  | 99 => ⟨S1x256x1024, .f32⟩
  | 100 => ⟨S_, .f32⟩
  | 101 => ⟨S1x256x1024, .f32⟩
  | 102 => ⟨S_, .f32⟩
  | 103 => ⟨S1x256x1024, .f32⟩
  | 104 => ⟨S1x256x1024, .f32⟩
  | 105 => ⟨S1x255x1024, .f32⟩
  | 106 => ⟨S1x255x1024, .f32⟩
  | 107 => ⟨S1x255x1024, .f32⟩
  | 108 => ⟨S1x255x1024, .f32⟩
  | 109 => ⟨S1x255x1024, .f32⟩
  | 110 => ⟨S1x255x1024, .f32⟩
  | 111 => ⟨S1x255x1024, .f32⟩
  | 112 => ⟨S1x1x1024, .f32⟩
  | 113 => ⟨S1x256x1024, .f32⟩
  | 114 => ⟨S1x1x1024, .f32⟩
  | 115 => ⟨S1x256x1024, .f32⟩
  | 116 => ⟨S_, .f32⟩
  | 117 => ⟨S1x512x1024, .f32⟩
  | 118 => ⟨S_, .f32⟩
  | 119 => ⟨S1x512x1024, .f32⟩
  | 120 => ⟨S1x512x1024, .f32⟩
  | 121 => ⟨S_, .f32⟩
  | 122 => ⟨S1x512x1024, .f32⟩
  | 123 => ⟨S_, .f32⟩
  | 124 => ⟨S1x512x1024, .f32⟩
  | 125 => ⟨S1x512x1024, .f32⟩
  | 126 => ⟨S1x511x1024, .f32⟩
  | 127 => ⟨S1x511x1024, .f32⟩
  | _ => ⟨S4096x4608, .f32⟩

abbrev hbmTy0_3 (i : Nat) : BufTy := match i % 128 with
  | 0 => ⟨S1x511x1024, .f32⟩
  | 1 => ⟨S1x511x1024, .f32⟩
  | 2 => ⟨S1x511x1024, .f32⟩
  | 3 => ⟨S1x511x1024, .f32⟩
  | 4 => ⟨S1x511x1024, .f32⟩
  | 5 => ⟨S1x1x1024, .f32⟩
  | 6 => ⟨S1x512x1024, .f32⟩
  | 7 => ⟨S1x1x1024, .f32⟩
  | 8 => ⟨S1x512x1024, .f32⟩
  | 9 => ⟨S_, .f32⟩
  | 10 => ⟨S1x1024x1024, .f32⟩
  | 11 => ⟨S_, .f32⟩
  | 12 => ⟨S1x1024x1024, .f32⟩
  | 13 => ⟨S1x1024x1024, .f32⟩
  | 14 => ⟨S_, .f32⟩
  | 15 => ⟨S1x1024x1024, .f32⟩
  | 16 => ⟨S_, .f32⟩
  | 17 => ⟨S1x1024x1024, .f32⟩
  | 18 => ⟨S1x1024x1024, .f32⟩
  | 19 => ⟨S1x1023x1024, .f32⟩
  | 20 => ⟨S1x1023x1024, .f32⟩
  | 21 => ⟨S1x1023x1024, .f32⟩
  | 22 => ⟨S1x1023x1024, .f32⟩
  | 23 => ⟨S1x1023x1024, .f32⟩
  | 24 => ⟨S1x1023x1024, .f32⟩
  | 25 => ⟨S1x1023x1024, .f32⟩
  | 26 => ⟨S1x1x1024, .f32⟩
  | 27 => ⟨S1x1024x1024, .f32⟩
  | 28 => ⟨S1x1x1024, .f32⟩
  | 29 => ⟨S1x1024x1024, .f32⟩
  | 30 => ⟨S_, .f32⟩
  | 31 => ⟨S1x2048x1024, .f32⟩
  | 32 => ⟨S_, .f32⟩
  | 33 => ⟨S1x2048x1024, .f32⟩
  | 34 => ⟨S1x2048x1024, .f32⟩
  | 35 => ⟨S_, .f32⟩
  | 36 => ⟨S1x2048x1024, .f32⟩
  | 37 => ⟨S_, .f32⟩
  | 38 => ⟨S1x2048x1024, .f32⟩
  | 39 => ⟨S1x2048x1024, .f32⟩
  | 40 => ⟨S1x2047x1024, .f32⟩
  | 41 => ⟨S1x2047x1024, .f32⟩
  | 42 => ⟨S1x2047x1024, .f32⟩
  | 43 => ⟨S1x2047x1024, .f32⟩
  | 44 => ⟨S1x2047x1024, .f32⟩
  | 45 => ⟨S1x2047x1024, .f32⟩
  | 46 => ⟨S1x2047x1024, .f32⟩
  | 47 => ⟨S1x1x1024, .f32⟩
  | 48 => ⟨S1x2048x1024, .f32⟩
  | 49 => ⟨S1x1x1024, .f32⟩
  | 50 => ⟨S1x2048x1024, .f32⟩
  | 51 => ⟨S_, .f32⟩
  | 52 => ⟨S1x4096x1024, .f32⟩
  | 53 => ⟨S_, .f32⟩
  | 54 => ⟨S1x4096x1024, .f32⟩
  | 55 => ⟨S1x4096x1024, .f32⟩
  | 56 => ⟨S_, .f32⟩
  | 57 => ⟨S1x4096x1024, .f32⟩
  | 58 => ⟨S_, .f32⟩
  | 59 => ⟨S1x4096x1024, .f32⟩
  | 60 => ⟨S1x4096x1024, .f32⟩
  | 61 => ⟨S4096x1024, .f32⟩
  | 62 => ⟨S1x4096x1024, .f32⟩
  | 63 => ⟨S1x4096x1024, .f32⟩
  | 64 => ⟨S1x4096x1024, .f32⟩
  | 65 => ⟨S_, .f32⟩
  | 66 => ⟨S1x4096x1024, .f32⟩
  | 67 => ⟨S1x4096x1024, .f32⟩
  | 68 => ⟨S1x4096x1024, .f32⟩
  | 69 => ⟨S_, .f32⟩
  | 70 => ⟨S1x4096x1024, .f32⟩
  | 71 => ⟨S1x4096x1024, .f32⟩
  | 72 => ⟨S1x4096x1024, .f32⟩
  | 73 => ⟨S_, .f32⟩
  | 74 => ⟨S1x4096x1024, .f32⟩
  | 75 => ⟨S1x4096x1024, .f32⟩
  | 76 => ⟨S_, .f32⟩
  | 77 => ⟨S1x4096x1024, .f32⟩
  | 78 => ⟨S1x4096x1024, .f32⟩
  | 79 => ⟨S1x4096x1024, .f32⟩
  | 80 => ⟨S1x4096x1024, .f32⟩
  | 81 => ⟨S4096x1024, .f32⟩
  | 82 => ⟨S4096x1024, .f32⟩
  | 83 => ⟨S4096x1024, .bf16⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | _ => ⟨S4096x4608, .f32⟩

abbrev hbmTy (i : Nat) : BufTy := match i / 128 with
  | 0 => hbmTy0_0 i
  | 1 => hbmTy0_1 i
  | 2 => hbmTy0_2 i
  | 3 => hbmTy0_3 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_1 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_4 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_cst_5 : Ref sig .tc := ⟨.hbm, 204, rfl⟩
abbrev main_v175 : Ref sig .tc := ⟨.hbm, 205, rfl⟩
abbrev main_cst_6 : Ref sig .tc := ⟨.hbm, 206, rfl⟩
abbrev main_v176 : Ref sig .tc := ⟨.hbm, 207, rfl⟩
abbrev main_v177 : Ref sig .tc := ⟨.hbm, 208, rfl⟩
abbrev main_cst_7 : Ref sig .tc := ⟨.hbm, 209, rfl⟩
abbrev main_v178 : Ref sig .tc := ⟨.hbm, 210, rfl⟩
abbrev main_cst_8 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_cst_9 : Ref sig .tc := ⟨.hbm, 225, rfl⟩
abbrev main_v192 : Ref sig .tc := ⟨.hbm, 226, rfl⟩
abbrev main_cst_10 : Ref sig .tc := ⟨.hbm, 227, rfl⟩
abbrev main_v193 : Ref sig .tc := ⟨.hbm, 228, rfl⟩
abbrev main_v194 : Ref sig .tc := ⟨.hbm, 229, rfl⟩
abbrev main_cst_11 : Ref sig .tc := ⟨.hbm, 230, rfl⟩
abbrev main_v195 : Ref sig .tc := ⟨.hbm, 231, rfl⟩
abbrev main_cst_12 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_cst_13 : Ref sig .tc := ⟨.hbm, 246, rfl⟩
abbrev main_v209 : Ref sig .tc := ⟨.hbm, 247, rfl⟩
abbrev main_cst_14 : Ref sig .tc := ⟨.hbm, 248, rfl⟩
abbrev main_v210 : Ref sig .tc := ⟨.hbm, 249, rfl⟩
abbrev main_v211 : Ref sig .tc := ⟨.hbm, 250, rfl⟩
abbrev main_cst_15 : Ref sig .tc := ⟨.hbm, 251, rfl⟩
abbrev main_v212 : Ref sig .tc := ⟨.hbm, 252, rfl⟩
abbrev main_cst_16 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_cst_17 : Ref sig .tc := ⟨.hbm, 267, rfl⟩
abbrev main_v226 : Ref sig .tc := ⟨.hbm, 268, rfl⟩
abbrev main_cst_18 : Ref sig .tc := ⟨.hbm, 269, rfl⟩
abbrev main_v227 : Ref sig .tc := ⟨.hbm, 270, rfl⟩
abbrev main_v228 : Ref sig .tc := ⟨.hbm, 271, rfl⟩
abbrev main_cst_19 : Ref sig .tc := ⟨.hbm, 272, rfl⟩
abbrev main_v229 : Ref sig .tc := ⟨.hbm, 273, rfl⟩
abbrev main_cst_20 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_cst_21 : Ref sig .tc := ⟨.hbm, 288, rfl⟩
abbrev main_v243 : Ref sig .tc := ⟨.hbm, 289, rfl⟩
abbrev main_cst_22 : Ref sig .tc := ⟨.hbm, 290, rfl⟩
abbrev main_v244 : Ref sig .tc := ⟨.hbm, 291, rfl⟩
abbrev main_v245 : Ref sig .tc := ⟨.hbm, 292, rfl⟩
abbrev main_cst_23 : Ref sig .tc := ⟨.hbm, 293, rfl⟩
abbrev main_v246 : Ref sig .tc := ⟨.hbm, 294, rfl⟩
abbrev main_cst_24 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_cst_25 : Ref sig .tc := ⟨.hbm, 309, rfl⟩
abbrev main_v260 : Ref sig .tc := ⟨.hbm, 310, rfl⟩
abbrev main_cst_26 : Ref sig .tc := ⟨.hbm, 311, rfl⟩
abbrev main_v261 : Ref sig .tc := ⟨.hbm, 312, rfl⟩
abbrev main_v262 : Ref sig .tc := ⟨.hbm, 313, rfl⟩
abbrev main_cst_27 : Ref sig .tc := ⟨.hbm, 314, rfl⟩
abbrev main_v263 : Ref sig .tc := ⟨.hbm, 315, rfl⟩
abbrev main_cst_28 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_cst_29 : Ref sig .tc := ⟨.hbm, 330, rfl⟩
abbrev main_v277 : Ref sig .tc := ⟨.hbm, 331, rfl⟩
abbrev main_cst_30 : Ref sig .tc := ⟨.hbm, 332, rfl⟩
abbrev main_v278 : Ref sig .tc := ⟨.hbm, 333, rfl⟩
abbrev main_v279 : Ref sig .tc := ⟨.hbm, 334, rfl⟩
abbrev main_cst_31 : Ref sig .tc := ⟨.hbm, 335, rfl⟩
abbrev main_v280 : Ref sig .tc := ⟨.hbm, 336, rfl⟩
abbrev main_cst_32 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_cst_33 : Ref sig .tc := ⟨.hbm, 351, rfl⟩
abbrev main_v294 : Ref sig .tc := ⟨.hbm, 352, rfl⟩
abbrev main_cst_34 : Ref sig .tc := ⟨.hbm, 353, rfl⟩
abbrev main_v295 : Ref sig .tc := ⟨.hbm, 354, rfl⟩
abbrev main_v296 : Ref sig .tc := ⟨.hbm, 355, rfl⟩
abbrev main_cst_35 : Ref sig .tc := ⟨.hbm, 356, rfl⟩
abbrev main_v297 : Ref sig .tc := ⟨.hbm, 357, rfl⟩
abbrev main_cst_36 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_cst_37 : Ref sig .tc := ⟨.hbm, 372, rfl⟩
abbrev main_v311 : Ref sig .tc := ⟨.hbm, 373, rfl⟩
abbrev main_cst_38 : Ref sig .tc := ⟨.hbm, 374, rfl⟩
abbrev main_v312 : Ref sig .tc := ⟨.hbm, 375, rfl⟩
abbrev main_v313 : Ref sig .tc := ⟨.hbm, 376, rfl⟩
abbrev main_cst_39 : Ref sig .tc := ⟨.hbm, 377, rfl⟩
abbrev main_v314 : Ref sig .tc := ⟨.hbm, 378, rfl⟩
abbrev main_cst_40 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_cst_41 : Ref sig .tc := ⟨.hbm, 393, rfl⟩
abbrev main_v328 : Ref sig .tc := ⟨.hbm, 394, rfl⟩
abbrev main_cst_42 : Ref sig .tc := ⟨.hbm, 395, rfl⟩
abbrev main_v329 : Ref sig .tc := ⟨.hbm, 396, rfl⟩
abbrev main_v330 : Ref sig .tc := ⟨.hbm, 397, rfl⟩
abbrev main_cst_43 : Ref sig .tc := ⟨.hbm, 398, rfl⟩
abbrev main_v331 : Ref sig .tc := ⟨.hbm, 399, rfl⟩
abbrev main_cst_44 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_v344 : Ref sig .tc := ⟨.hbm, 413, rfl⟩
abbrev main_cst_45 : Ref sig .tc := ⟨.hbm, 414, rfl⟩
abbrev main_v345 : Ref sig .tc := ⟨.hbm, 415, rfl⟩
abbrev main_cst_46 : Ref sig .tc := ⟨.hbm, 416, rfl⟩
abbrev main_v346 : Ref sig .tc := ⟨.hbm, 417, rfl⟩
abbrev main_v347 : Ref sig .tc := ⟨.hbm, 418, rfl⟩
abbrev main_cst_47 : Ref sig .tc := ⟨.hbm, 419, rfl⟩
abbrev main_v348 : Ref sig .tc := ⟨.hbm, 420, rfl⟩
abbrev main_cst_48 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_cst_49 : Ref sig .tc := ⟨.hbm, 435, rfl⟩
abbrev main_v362 : Ref sig .tc := ⟨.hbm, 436, rfl⟩
abbrev main_cst_50 : Ref sig .tc := ⟨.hbm, 437, rfl⟩
abbrev main_v363 : Ref sig .tc := ⟨.hbm, 438, rfl⟩
abbrev main_v364 : Ref sig .tc := ⟨.hbm, 439, rfl⟩
abbrev main_cst_51 : Ref sig .tc := ⟨.hbm, 440, rfl⟩
abbrev main_v365 : Ref sig .tc := ⟨.hbm, 441, rfl⟩
abbrev main_cst_52 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_cst_53 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_cst_54 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_cst_55 : Ref sig .tc := ⟨.hbm, 457, rfl⟩
abbrev main_v378 : Ref sig .tc := ⟨.hbm, 458, rfl⟩
abbrev main_v379 : Ref sig .tc := ⟨.hbm, 459, rfl⟩
abbrev main_cst_56 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩

abbrev nD : Nat := 1
abbrev τ : Topo := Topo.v7x

variable {F : FTy → Type} [FloatOps F]
-- ==== GateKernel.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩
abbrev S2048x1024 : Shape := ⟨2, ![2048, 1024]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 50
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x5632, .f32⟩
  | .hbm, ⟨22, _⟩ => ⟨S1024x5632, .bf16⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | .hbm, ⟨45, _⟩ => ⟨S4096x1024, .bf16⟩
  | .hbm, ⟨46, _⟩ => ⟨S2816x1024, .f32⟩
  | .hbm, ⟨47, _⟩ => ⟨S2816x1024, .bf16⟩
  | .hbm, ⟨48, _⟩ => ⟨S4096x2816, .bf16⟩
  | .hbm, ⟨49, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateReferenceIdeal.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S2816x1024 : Shape := ⟨2, ![2816, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S2816x1024, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | .hbm, ⟨50, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== PoolFwdKernel.lean ====
abbrev S4096x4608 : Shape := ⟨2, ![4096, 4608]⟩
abbrev S1x4x128x128 : Shape := ⟨4, ![1, 4, 128, 128]⟩
abbrev S1x512 : Shape := ⟨2, ![1, 512]⟩
abbrev S4x128x128 : Shape := ⟨3, ![4, 128, 128]⟩
abbrev S4096x512 : Shape := ⟨2, ![4096, 512]⟩
abbrev S4096x128 : Shape := ⟨2, ![4096, 128]⟩
abbrev S1x128x128 : Shape := ⟨3, ![1, 128, 128]⟩
abbrev S1x128 : Shape := ⟨2, ![1, 128]⟩
abbrev S4112x128 : Shape := ⟨2, ![4112, 128]⟩
abbrev S16x128 : Shape := ⟨2, ![16, 128]⟩
abbrev S1024x128 : Shape := ⟨2, ![1024, 128]⟩
abbrev S128x128 : Shape := ⟨2, ![128, 128]⟩
abbrev S1040x128 : Shape := ⟨2, ![1040, 128]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4608, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | .local _ .vmem, ⟨8, _⟩ => ⟨S4112x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v10 : BitVec 32 := Scalar.muli arg6 c1024_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v10 : BitVec 32 := Scalar.muli arg6 c1024_i32
  let v11 : BitVec 32 := v10
  let v12 : Index := Scalar.indexCast v11
  let c0_11 : Index := 0#32
  ![v12.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v10 : BitVec 32 := Scalar.muli arg6 c1024_i32
  let v11 : BitVec 32 := v10
  let c16_i32 : BitVec 32 := 16#32
  let v14 : BitVec 32 := Scalar.addi v11 c16_i32
  let v15 : Index := Scalar.indexCast v14
  let c0_12 : Index := 0#32
  ![v15.toNat, 0]
@[reducible] def k0_t2_loop : Scf.Loop 32 :=
  let c0_i32_7 : BitVec 32 := 0#32
  let c4_i32_8 : BitVec 32 := 4#32
  let v9 : BitVec 32 := Scalar.addi c0_i32_7 c4_i32_8
  let c1_i32_9 : BitVec 32 := 1#32
  ⟨c0_i32_7, v9, c1_i32_9⟩
def k0_mult2 (k0_t2 : Fin k0_t2_loop.trips) : BitVec 32 :=
  let c0_i32_7 : BitVec 32 := 0#32
  let c1_i32_9 : BitVec 32 := 1#32
  let arg6 : BitVec 32 := Scf.iv c0_i32_7 c1_i32_9 k0_t2
  let c1024_i32 : BitVec 32 := 1024#32
  let v10 : BitVec 32 := Scalar.muli arg6 c1024_i32
  v10
def k0_off3 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c1024_i32 : BitVec 32 := 1024#32
  let v10 : BitVec 32 := Scalar.muli arg6 c1024_i32
  let v11 : BitVec 32 := v10
  let v12 : Index := Scalar.indexCast v11
  let c0_11 : Index := 0#32
  ![v12.toNat, 0]
def k0_off4 (k0_t2 : Fin k0_t2_loop.trips) : Fin 2 → Nat :=
  let c0_i32_7 : BitVec 32 := 0#32
  let c1_i32_9 : BitVec 32 := 1#32
  let arg6 : BitVec 32 := Scf.iv c0_i32_7 c1_i32_9 k0_t2
  let c1024_i32 : BitVec 32 := 1024#32
  let v10 : BitVec 32 := Scalar.muli arg6 c1024_i32
  let v11 : BitVec 32 := v10
  let v47 : Index := Scalar.indexCast v11
  let c0_20 : Index := 0#32
  ![v47.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdReferenceIdeal.lean ====
abbrev S4096x4608 : Shape := ⟨2, ![4096, 4608]⟩
abbrev S1x4x128x128 : Shape := ⟨4, ![1, 4, 128, 128]⟩
abbrev S1x512 : Shape := ⟨2, ![1, 512]⟩
abbrev S4096x512 : Shape := ⟨2, ![4096, 512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x4094x128 : Shape := ⟨3, ![1, 4094, 128]⟩
abbrev S1x4096x1 : Shape := ⟨3, ![1, 4096, 1]⟩
abbrev S1x4092x128 : Shape := ⟨3, ![1, 4092, 128]⟩
abbrev S1x4088x128 : Shape := ⟨3, ![1, 4088, 128]⟩
abbrev S1x4080x128 : Shape := ⟨3, ![1, 4080, 128]⟩
abbrev S4x128x128 : Shape := ⟨3, ![4, 128, 128]⟩
abbrev S4x128x1x4096 : Shape := ⟨4, ![4, 128, 1, 4096]⟩
abbrev S512 : Shape := ⟨1, ![512]⟩
abbrev S1x1x512 : Shape := ⟨3, ![1, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S1x4x128x128, .f32⟩
  | .hbm, ⟨2, _⟩ => ⟨S1x512, .f32⟩
  | .hbm, ⟨3, _⟩ => ⟨S4096x512, .f32⟩
  | .hbm, ⟨4, _⟩ => ⟨S1x4096x512, .f32⟩
  | .hbm, ⟨5, _⟩ => ⟨S1x4096x4x128, .f32⟩
  | .hbm, ⟨6, _⟩ => ⟨S_, .f32⟩
  | .hbm, ⟨7, _⟩ => ⟨S_, .f32⟩
  | .hbm, ⟨8, _⟩ => ⟨S1x4096x4x128, .f32⟩
  | .hbm, ⟨9, _⟩ => ⟨S4096, .i32⟩
  | .hbm, ⟨10, _⟩ => ⟨S1x4096x1x128, .f32⟩
  | .hbm, ⟨11, _⟩ => ⟨S1x4096x128, .f32⟩
  | .hbm, ⟨12, _⟩ => ⟨S1x4094x128, .f32⟩
  | .hbm, ⟨13, _⟩ => ⟨S_, .i32⟩
  | .hbm, ⟨14, _⟩ => ⟨S_, .f32⟩
  | .hbm, ⟨15, _⟩ => ⟨S1x4096x128, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S1x4096x1, .f32⟩
  | .hbm, ⟨24, _⟩ => ⟨S1x4096x128, .f32⟩
  | .hbm, ⟨25, _⟩ => ⟨S1x4096x128, .f32⟩
  | .hbm, ⟨26, _⟩ => ⟨S1x4096x128, .f32⟩
  | .hbm, ⟨27, _⟩ => ⟨S1x4096x1x128, .f32⟩
  | .hbm, ⟨28, _⟩ => ⟨S1x4096x128, .f32⟩
  | .hbm, ⟨29, _⟩ => ⟨S1x4096x128, .f32⟩
  | .hbm, ⟨30, _⟩ => ⟨S1x4096x1x128, .f32⟩
  | .hbm, ⟨31, _⟩ => ⟨S1x4096x128, .f32⟩
  | .hbm, ⟨32, _⟩ => ⟨S1x4092x128, .f32⟩
  | .hbm, ⟨33, _⟩ => ⟨S_, .i32⟩
  | .hbm, ⟨34, _⟩ => ⟨S_, .f32⟩
  | .hbm, ⟨35, _⟩ => ⟨S1x4096x128, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S1x4096x1, .f32⟩
  | .hbm, ⟨44, _⟩ => ⟨S1x4096x128, .f32⟩
  | .hbm, ⟨45, _⟩ => ⟨S1x4096x128, .f32⟩
  | .hbm, ⟨46, _⟩ => ⟨S1x4096x128, .f32⟩
  | .hbm, ⟨47, _⟩ => ⟨S1x4096x1x128, .f32⟩
  | .hbm, ⟨48, _⟩ => ⟨S1x4096x128, .f32⟩
  | .hbm, ⟨49, _⟩ => ⟨S1x4096x128, .f32⟩
  | .hbm, ⟨50, _⟩ => ⟨S1x4096x1x128, .f32⟩
  | .hbm, ⟨51, _⟩ => ⟨S1x4096x128, .f32⟩
  | .hbm, ⟨52, _⟩ => ⟨S1x4088x128, .f32⟩
  | .hbm, ⟨53, _⟩ => ⟨S_, .i32⟩
  | .hbm, ⟨54, _⟩ => ⟨S_, .f32⟩
  | .hbm, ⟨55, _⟩ => ⟨S1x4096x128, .f32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .f32⟩
  | .hbm, ⟨63, _⟩ => ⟨S1x4096x1, .f32⟩
  | .hbm, ⟨64, _⟩ => ⟨S1x4096x128, .f32⟩
  | .hbm, ⟨65, _⟩ => ⟨S1x4096x128, .f32⟩
  | .hbm, ⟨66, _⟩ => ⟨S1x4096x128, .f32⟩
  | .hbm, ⟨67, _⟩ => ⟨S1x4096x1x128, .f32⟩
  | .hbm, ⟨68, _⟩ => ⟨S1x4096x128, .f32⟩
  | .hbm, ⟨69, _⟩ => ⟨S1x4096x128, .f32⟩
  | .hbm, ⟨70, _⟩ => ⟨S1x4096x1x128, .f32⟩
  | .hbm, ⟨71, _⟩ => ⟨S1x4096x128, .f32⟩
  | .hbm, ⟨72, _⟩ => ⟨S1x4080x128, .f32⟩
  | .hbm, ⟨73, _⟩ => ⟨S_, .i32⟩
  | .hbm, ⟨74, _⟩ => ⟨S_, .f32⟩
  | .hbm, ⟨75, _⟩ => ⟨S1x4096x128, .f32⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .f32⟩
  | .hbm, ⟨83, _⟩ => ⟨S1x4096x1, .f32⟩
  | .hbm, ⟨84, _⟩ => ⟨S1x4096x128, .f32⟩
  | .hbm, ⟨85, _⟩ => ⟨S1x4096x128, .f32⟩
  | .hbm, ⟨86, _⟩ => ⟨S1x4096x128, .f32⟩
  | .hbm, ⟨87, _⟩ => ⟨S1x4096x1x128, .f32⟩
  | .hbm, ⟨88, _⟩ => ⟨S1x4096x128, .f32⟩
  | .hbm, ⟨89, _⟩ => ⟨S1x4096x128, .f32⟩
  | .hbm, ⟨90, _⟩ => ⟨S1x4096x1x128, .f32⟩
  | .hbm, ⟨91, _⟩ => ⟨S1x4096x1x128, .f32⟩
  | .hbm, ⟨92, _⟩ => ⟨S1x4096x1x128, .f32⟩
  | .hbm, ⟨93, _⟩ => ⟨S1x4096x1x128, .f32⟩
  | .hbm, ⟨94, _⟩ => ⟨S1x4096x4x128, .f32⟩
  | .hbm, ⟨95, _⟩ => ⟨S4x128x128, .f32⟩
  | .hbm, ⟨96, _⟩ => ⟨S4x128x1x4096, .f32⟩
  | .hbm, ⟨97, _⟩ => ⟨S1x4096x4x128, .f32⟩
  | .hbm, ⟨98, _⟩ => ⟨S1x4096x512, .f32⟩
  | .hbm, ⟨99, _⟩ => ⟨S512, .f32⟩
  | .hbm, ⟨100, _⟩ => ⟨S1x1x512, .f32⟩
  | .hbm, ⟨101, _⟩ => ⟨S1x4096x512, .f32⟩
  | .hbm, ⟨102, _⟩ => ⟨S1x4096x512, .f32⟩
  | .hbm, ⟨103, _⟩ => ⟨S4096x512, .f32⟩
  | .hbm, ⟨104, _⟩ => ⟨S4096x512, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call2_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_call3_v0 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_call4_v0 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== FfnFwdKernel.lean ====
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S4096x2816 : Shape := ⟨2, ![4096, 2816]⟩
abbrev S2048x1024 : Shape := ⟨2, ![2048, 1024]⟩
abbrev S1024x256 : Shape := ⟨2, ![1024, 256]⟩
abbrev S2048x256 : Shape := ⟨2, ![2048, 256]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1024x5632, .f32⟩
  | .hbm, ⟨4, _⟩ => ⟨S1024x5632, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x1024, .bf16⟩
  | .local _ .vmem, ⟨14, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_58 : BitVec 32 := 0#32
  let c8_i32 : BitVec 32 := 8#32
  let v104 : BitVec 32 := Scalar.addi c0_i32_58 c8_i32
  let c1_i32 : BitVec 32 := 1#32
  ⟨c0_i32_58, v104, c1_i32⟩
def k0_mult1 (k0_t1 : Fin k0_t1_loop.trips) : BitVec 32 :=
  let c0_i32_58 : BitVec 32 := 0#32
  let c1_i32 : BitVec 32 := 1#32
  let arg10 : BitVec 32 := Scf.iv c0_i32_58 c1_i32 k0_t1
  let c256_i32 : BitVec 32 := 256#32
  let v105 : BitVec 32 := Scalar.muli arg10 c256_i32
  v105
def k0_off1 (k0_t1 : Fin k0_t1_loop.trips) : Fin 2 → Nat :=
  let c0_i32_58 : BitVec 32 := 0#32
  let c1_i32 : BitVec 32 := 1#32
  let arg10 : BitVec 32 := Scf.iv c0_i32_58 c1_i32 k0_t1
  let c256_i32 : BitVec 32 := 256#32
  let v105 : BitVec 32 := Scalar.muli arg10 c256_i32
  let v106 : BitVec 32 := v105
  let v107 : Index := Scalar.indexCast v106
  let c0_60 : Index := 0#32
  ![v107.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnFwdReferenceIdeal.lean ====
abbrev S4096x1024 : Shape := ⟨2, ![4096, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | .hbm, ⟨48, _⟩ => ⟨S4096x2816, .bf16⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v18_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v18_1 : Ref sig .tc := ⟨.hbm, 35, rfl⟩
abbrev main_v18_0 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== NormKernel.lean ====
abbrev S4096x1024 : Shape := ⟨2, ![4096, 1024]⟩
abbrev S1x1024 : Shape := ⟨2, ![1, 1024]⟩
abbrev S1x1024x4608 : Shape := ⟨3, ![1, 1024, 4608]⟩
abbrev S1024x4608 : Shape := ⟨2, ![1024, 4608]⟩
abbrev S4096x4608 : Shape := ⟨2, ![4096, 4608]⟩
abbrev S2048x1024 : Shape := ⟨2, ![2048, 1024]⟩
abbrev S1024x512 : Shape := ⟨2, ![1024, 512]⟩
abbrev S2048x512 : Shape := ⟨2, ![2048, 512]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4608, .f32⟩
  | .hbm, ⟨3, _⟩ => ⟨S1024x4608, .f32⟩
  | .hbm, ⟨4, _⟩ => ⟨S1024x4608, .bf16⟩
  | .hbm, ⟨5, _⟩ => ⟨S4096x4608, .f32⟩
  | .hbm, ⟨6, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2048x512, .f32⟩
  | .local _ .vmem, ⟨6, _⟩ => ⟨S2048x512, .f32⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32 : BitVec 32 := 8#32
  let v10 : BitVec 32 := Scalar.addi c0_i32_8 c8_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormReferenceIdeal.lean ====
abbrev S4096x1024 : Shape := ⟨2, ![4096, 1024]⟩
abbrev S1x1024 : Shape := ⟨2, ![1, 1024]⟩
abbrev S1x1024x4608 : Shape := ⟨3, ![1, 1024, 4608]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4608 : Shape := ⟨2, ![1024, 4608]⟩
abbrev S4096x4608 : Shape := ⟨2, ![4096, 4608]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4608, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x4608, .f32⟩
  | .hbm, ⟨21, _⟩ => ⟨S4096x4608, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GradKernel.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradPoolKernel.lean ====
abbrev S4096x512 : Shape := ⟨2, ![4096, 512]⟩
abbrev S4096x1024 : Shape := ⟨2, ![4096, 1024]⟩
abbrev S512x1024 : Shape := ⟨2, ![512, 1024]⟩
abbrev S4096x256 : Shape := ⟨2, ![4096, 256]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .hbm, ⟨5, _⟩ => ⟨S512x1024, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradPoolReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradFfnKernel.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradFfnReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Finite.lean ====
/- Real numbers among the extended reals: which extended reals are real, that the ring operations and finite sums keep
   them real, and how a division by a nonzero real reads. -/
module

public import Idealize.ShloMosaic.Lib.IdealHost

@[expose] public section

noncomputable section

namespace Cert.Finite

open Idealize.ShloMosaic

/-- An extended real that is a real number. -/
def IsReal (x : EReal) : Prop := ∃ r : ℝ, x = (r : EReal)

theorem isReal_coe (r : ℝ) : IsReal (r : EReal) := ⟨r, rfl⟩

/-- What a precondition `|x| < ∞` says. -/
theorem isReal_of_abs_lt_top {x : EReal} (h : max x (-x) < ⊤) : IsReal x := by
  induction x with
  | bot => simp at h
  | coe r => exact ⟨r, rfl⟩
  | top => simp at h

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- A division of reals by a nonzero real is the reals' division. -/
theorem div_coe_coe (a : ℝ) {b : ℝ} (hb : b ≠ 0) : Ideal.div (a : EReal) (b : EReal) = ((a / b : ℝ) : EReal) := by
  rw [Ideal.div_coe hb, ← EReal.coe_mul, mul_one_div]

/-- A sum over `n + n` terms, its first half and its second. -/
theorem sum_halves {M : Type} [AddCommMonoid M] {L : ℕ} (n : ℕ) (h : L = n + n) (f : Fin L → M) :
    ∑ l, f l = ∑ q : Fin n, f ⟨q, by omega⟩ + ∑ q : Fin n, f ⟨n + q, by omega⟩ := by
  subst h
  exact Fin.sum_univ_add f

/-- A sum over `k + l` terms, its first `k` and the rest. -/
theorem sum_segments {M : Type} [AddCommMonoid M] {L : ℕ} (k l : ℕ) (h : L = k + l) (f : Fin L → M) :
    ∑ i, f i = ∑ q : Fin k, f ⟨q, by omega⟩ + ∑ q : Fin l, f ⟨k + q, by omega⟩ := by
  subst h
  exact Fin.sum_univ_add f

/-- The programs' word for infinity. -/
theorem word_top : Ideal.ofBits .f32 0x7F800000#32 = ⊤ := by
  simp [Ideal.ofBits, Ideal.ieee]

/-- A precondition `|x| < ∞`, read off at every index. -/
theorem reals {s : Shape} {x c : FVec Ideal s .f32} (h : cmpf .olt (Host.absf x) c = fun _ => 1#1)
    (hc : ∀ i, c i = Ideal.ofBits .f32 0x7F800000#32) (i : s.Idx) : IsReal (x i) := by
  have hi := congrFun h i
  refine isReal_of_abs_lt_top ?_
  have e : cmpf .olt (Host.absf x) c i = Ideal.cmp .olt (max (x i) (-(x i))) (c i) := rfl
  rw [e, hc, word_top] at hi
  by_contra hn
  simp [Ideal.cmp, hn] at hi

end Cert.Finite

end
-- ==== Proof.RmsNorm.lean ====
/- The root-mean-square norm of one row of 1024 numbers and its gradient, over the extended reals: what the kernels compute,
   what the derivative of the norm's formula computes, and that the two agree on rows of real numbers. -/
module

public import proofs.«01_k».proof.Proof.Finite
public import Idealize.ShloMosaic.Lib.IdealHost

@[expose] public section

noncomputable section

namespace Cert.Rms

open Idealize.ShloMosaic Cert.Finite

/-- The mean of the squares plus the norm's small constant. -/
abbrev meanSq (x : Fin 1024 → EReal) : EReal :=
  Ideal.div (∑ k, x k * x k) (Ideal.ofBits .f32 0x44800000#32) + Ideal.ofBits .f32 0x358637BD#32

/-- The factor the norm multiplies its row by. -/
abbrev scale (x : Fin 1024 → EReal) : EReal := Ideal.rsqrt (meanSq x)

/-- The norm's gradient as the kernels compute it, from the row and the cotangent already multiplied by the gain. -/
abbrev grad (x y : Fin 1024 → EReal) (j : Fin 1024) : EReal :=
  scale x * (y j - x j * scale x * Ideal.div (∑ k, y k * (x k * scale x)) (Ideal.ofBits .f32 0x44800000#32))

/-- The part of the formula's derivative that comes through the mean: half of it, per element of the row. -/
abbrev viaMean (x y : Fin 1024 → EReal) : EReal :=
  ∑ _k : Fin 1, Ideal.div ((∑ k, x k * y k) * (Ideal.ofBits .f32 0xBF000000#32 * Ideal.div (scale x) (meanSq x)))
    (Ideal.ofBits .f32 0x44800000#32)

/-- The programs' word for the row's length. -/
theorem word_width : Ideal.ofBits .f32 0x44800000#32 = ((1024 : ℝ) : EReal) := by
  simp [Ideal.ofBits, Ideal.ieee, -EReal.coe_mul]; norm_num

/-- The programs' word for minus one half. -/
theorem word_neg_half : Ideal.ofBits .f32 0xBF000000#32 = ((-(1 / 2) : ℝ) : EReal) := by
  simp [Ideal.ofBits, Ideal.ieee, -EReal.coe_mul, -EReal.coe_neg]; norm_num

/-- The norm's small constant is a positive real. -/
theorem word_eps : ∃ e : ℝ, 0 < e ∧ Ideal.ofBits .f32 0x358637BD#32 = (e : EReal) := by
  refine ⟨_, ?_, by simp [Ideal.ofBits, Ideal.ieee, -EReal.coe_mul]; rfl⟩
  positivity

/-- On a row of reals the mean of squares is a positive real. -/
theorem meanSq_coe (x : Fin 1024 → ℝ) : ∃ u : ℝ, 0 < u ∧ meanSq (fun k => (x k : EReal)) = (u : EReal) := by
  obtain ⟨e, he, hw⟩ := word_eps
  refine ⟨(∑ k, x k * x k) / 1024 + e, by have := Finset.sum_nonneg (s := Finset.univ) fun k (_ : k ∈ Finset.univ) => mul_self_nonneg (x k); positivity, ?_⟩
  simp only [meanSq, hw, word_width, ← EReal.coe_mul, ← coe_sum]
  rw [div_coe_coe _ (by norm_num), ← EReal.coe_add]

/-- The factor on a row of reals is a real whose square is one over the mean of squares. -/
theorem scale_coe (x : Fin 1024 → ℝ) : ∃ u r : ℝ, 0 < u ∧ r * r = 1 / u ∧ meanSq (fun k => (x k : EReal)) = (u : EReal)
    ∧ scale (fun k => (x k : EReal)) = (r : EReal) := by
  obtain ⟨u, hu, h⟩ := meanSq_coe x
  refine ⟨u, (Real.sqrt u)⁻¹, hu, ?_, h, ?_⟩
  · rw [← mul_inv, Real.mul_self_sqrt hu.le, one_div]
  · rw [scale, h, Ideal.rsqrt_coe, if_neg hu.not_gt, if_neg hu.ne']

/-- The factor of a row of reals is real. -/
theorem isReal_scale {x : Fin 1024 → EReal} (hx : ∀ k, IsReal (x k)) : IsReal (scale x) := by
  choose x' hx' using hx
  obtain rfl : x = fun k => (x' k : EReal) := funext hx'
  obtain ⟨_, r, _, _, _, h⟩ := scale_coe x'
  exact ⟨r, h⟩

/-- The kernels' gradient of the norm is the formula's derivative. -/
theorem grad_eq (x y : Fin 1024 → EReal) (hx : ∀ k, IsReal (x k)) (hy : ∀ k, IsReal (y k)) (j : Fin 1024) :
    grad x y j = y j * scale x + x j * viaMean x y + viaMean x y * x j := by
  choose x' hx' using hx
  choose y' hy' using hy
  obtain rfl : x = fun k => (x' k : EReal) := funext hx'
  obtain rfl : y = fun k => (y' k : EReal) := funext hy'
  obtain ⟨u, r, hu, hr, hm, hs⟩ := scale_coe x'
  have hP : ∑ k, y' k * (x' k * r) = r * ∑ k, x' k * y' k := by
    rw [Finset.mul_sum]; exact Finset.sum_congr rfl fun k _ => by ring
  have h3 : r / u = r * (r * r) := by rw [hr]; ring
  simp only [grad, viaMean, hs, hm, word_width, word_neg_half, Finset.univ_unique, Finset.sum_const, Finset.card_singleton, one_smul,
    ← EReal.coe_mul, ← coe_sum]
  rw [div_coe_coe _ (by norm_num), div_coe_coe _ hu.ne']
  simp only [← EReal.coe_mul, ← EReal.coe_sub, ← EReal.coe_add]
  rw [div_coe_coe _ (by norm_num)]
  simp only [← EReal.coe_mul, ← EReal.coe_sub, ← EReal.coe_add]
  rw [hP, h3]
  congr 1
  ring

/-- … so also with a residual's cotangent added first, which need not be real. -/
theorem add_grad_eq (d : EReal) (x y : Fin 1024 → EReal) (hx : ∀ k, IsReal (x k)) (hy : ∀ k, IsReal (y k)) (j : Fin 1024) :
    d + grad x y j = d + y j * scale x + x j * viaMean x y + viaMean x y * x j := by
  rw [grad_eq x y hx hy, ← add_assoc, ← add_assoc]

end Cert.Rms

end
-- ==== Proof.FfnIn.Spec.lean ====
/- The gradient of the feed-forward part's norm and input product, as formulas over the argument arrays: the cotangent of the
   normed rows, of the rows themselves (with the residual's), and of the gain. -/
module

public import proofs.«01_k».proof.Proof.RmsNorm
public import proofs.«01_k».proof.Proof.Gen.FfnInKernelIdeal
public import Idealize.ShloMosaic.Lib.Pointwise

@[expose] public section

set_option maxRecDepth 16384

noncomputable section

namespace Cert.FfnIn

open Idealize.ShloMosaic Cert.FfnInKernelIdeal

/-- The cotangent of the normed row `p`, element `k`: both halves of the product. -/
abbrev dh (a b : FVec Ideal S4096x2816 .f32) (w : FVec Ideal S1x1024x5632 .f32) (p : Fin 4096) (k : Fin 1024) : EReal :=
  ∑ l : Fin 2816, a (ix2 p l) * w (ix3 0 k ⟨l, by omega⟩) + ∑ l : Fin 2816, b (ix2 p l) * w (ix3 0 k ⟨2816 + l, by omega⟩)

/-- Row `p` of the residual stream. -/
abbrev row (x : FVec Ideal S4096x1024 .f32) (p : Fin 4096) : Fin 1024 → EReal := fun k => x (ix2 p k)

/-- The cotangent of the rows: the residual's plus the norm's gradient. -/
abbrev dx (a b : FVec Ideal S4096x2816 .f32) (w : FVec Ideal S1x1024x5632 .f32) (d x : FVec Ideal S4096x1024 .f32)
    (g : FVec Ideal S1x1024 .f32) (p : Fin 4096) (j : Fin 1024) : EReal :=
  d (ix2 p j) + Rms.grad (row x p) (fun k => dh a b w p k * g (ix2 0 k)) j

/-- Row `p`'s part of the gain's gradient. -/
abbrev dgRow (a b : FVec Ideal S4096x2816 .f32) (w : FVec Ideal S1x1024x5632 .f32) (x : FVec Ideal S4096x1024 .f32)
    (p : Fin 4096) (j : Fin 1024) : EReal :=
  dh a b w p j * (x (ix2 p j) * Rms.scale (row x p))

end Cert.FfnIn

end
-- ==== Proof.FfnIn.Array.lean ====
/- What the three result arrays hold after the kernel's run. -/
module

public import proofs.«01_k».proof.Proof.FfnIn.Spec
public import proofs.«01_k».proof.Proof.Gen.FfnInKernelIdeal.Value
public import Idealize.ShloMosaic.Lib.Pipeline.ValueKit
public import Idealize.ShloMosaic.Lib.Claim

@[expose] public section

set_option maxRecDepth 16384

noncomputable section

namespace Cert.FfnInKernelIdeal.Value

open Cert.FfnInKernelIdeal Cert.FfnInKernelIdeal.Gen Idealize.ShloMosaic Idealize.ShloMosaic.TcCoe Idealize.SL.Sem

variable (m : (ℓ : Loc nD τ sig) → Buf (Elt Ideal) ℓ)

/-- The block each window stages at a point: the rows' blocks move with the point, the weight and the gain stay. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The rows' cotangent, as an array. -/
abbrev DX (a b : FVec Ideal S4096x2816 .f32) (w : FVec Ideal S1x1024x5632 .f32) (d x : FVec Ideal S4096x1024 .f32)
    (g : FVec Ideal S1x1024 .f32) : FVec Ideal S4096x1024 .f32 := fun i => FfnIn.dx a b w d x g (i 0) (i 1)

/-- The second half-block of point `t`: rows `512 t + 256 …`. -/
theorem upper (c : Dev nD) (t : Fin cfg0.N) (x : S256x1024.Idx) (i : S4096x1024.Idx) (hi0 : (i 0 : ℕ) = t.val * 512 + (256 + x 0))
    (hi1 : (i 1 : ℕ) = x 1) :
    k0_pay3 (F := Ideal) (iblk m c 5 t)
      (k0_pay15 (View.ld (iblk m c 0 t) (Rect.unit ![256, 0] ![256, 2816] inb_S512x2816_S256x2816_256_0))
        (View.ld (iblk m c 2 t) (Rect.unit ![0, 0] ![1024, 2816] inb_S1024x5632_S1024x2816_0_0))
        (View.ld (iblk m c 1 t) (Rect.unit ![256, 0] ![256, 2816] inb_S512x2816_S256x2816_256_0))
        (View.ld (iblk m c 2 t) (Rect.unit ![0, 2816] ![1024, 2816] inb_S1024x5632_S1024x2816_0_2816)))
      (View.ld (iblk m c 4 t) (Rect.unit ![256, 0] ![256, 1024] inb_S512x1024_S256x1024_256_0))
      (k0_pay16 (View.ld (iblk m c 4 t) (Rect.unit ![256, 0] ![256, 1024] inb_S512x1024_S256x1024_256_0))) k0_pay17
      (View.ld (iblk m c 3 t) (Rect.unit ![256, 0] ![256, 1024] inb_S512x1024_S256x1024_256_0)) x
    = DX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i := by
  have ht : t.val < 8 := lt_of_lt_of_eq t.isLt N_0
  pointwise [k0_pay3, k0_pay2, k0_pay1, k0_pay15, k0_pay16, k0_pay17, DX, FfnIn.dx, FfnIn.dh, FfnIn.row, Rms.grad, Rms.scale, Rms.meanSq]
  blk_point [iblk, V, idx t]

/-- The first half-block of point `t`: rows `512 t + 0 …`. -/
theorem lower (c : Dev nD) (t : Fin cfg0.N) (x : S256x1024.Idx) (i : S4096x1024.Idx) (hi0 : (i 0 : ℕ) = t.val * 512 + x 0)
    (hi1 : (i 1 : ℕ) = x 1) :
    k0_pay12 (F := Ideal)
      (k0_pay10 (iblk m c 5 t)
        (View.ld (iblk m c 0 t) (Rect.unit ![0, 0] ![256, 2816] inb_S512x2816_S256x2816_0_0))
        (View.ld (iblk m c 2 t) (Rect.unit ![0, 0] ![1024, 2816] inb_S1024x5632_S1024x2816_0_0))
        (View.ld (iblk m c 1 t) (Rect.unit ![0, 0] ![256, 2816] inb_S512x2816_S256x2816_0_0))
        (View.ld (iblk m c 2 t) (Rect.unit ![0, 2816] ![1024, 2816] inb_S1024x5632_S1024x2816_0_2816))
        (View.ld (iblk m c 4 t) (Rect.unit ![0, 0] ![256, 1024] inb_S512x1024_S256x1024_0_0)))
      (k0_pay11 (View.ld (iblk m c 4 t) (Rect.unit ![0, 0] ![256, 1024] inb_S512x1024_S256x1024_0_0)))
      (View.ld (iblk m c 3 t) (Rect.unit ![0, 0] ![256, 1024] inb_S512x1024_S256x1024_0_0)) x
    = DX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i := by
  have ht : t.val < 8 := lt_of_lt_of_eq t.isLt N_0
  pointwise [k0_pay12, k0_pay10, k0_pay11, k0_pay9, k0_pay8, k0_pay7, DX, FfnIn.dx, FfnIn.dh, FfnIn.row, Rms.grad, Rms.scale, Rms.meanSq]
  blk_point [iblk, V, idx t]

/-- The rows' cotangent at the end of the run. -/
theorem final6 (c : Dev nD) : (dats m 0 c).arrAt 6 cfg0.N = DX (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 6 _ (by decide +kernel) fun t hf y => ?_
  blk_simp
  rw [after0_6]
  by_cases hc : t.val % 8 = 0
  · rw [outsAt0_A m c t hc]; frame_out
    canon_tiles x h
    · exact upper m c t x _ (by blk_simp [idx t]; omega) (by blk_simp [idx t]; omega)
    · exact lower m c t x _ (by blk_simp [idx t]; omega) (by blk_simp [idx t]; omega)
  · rw [outsAt0_B m c t hc]; frame_out
    canon_tiles x h
    · exact upper m c t x _ (by blk_simp [idx t]; omega) (by blk_simp [idx t]; omega)
    · exact lower m c t x _ (by blk_simp [idx t]; omega) (by blk_simp [idx t]; omega)

/-- Its copy in the narrow format. -/
theorem final7 (c : Dev nD) : (dats m 0 c).arrAt 7 cfg0.N = DX (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 7 _ (by decide +kernel) fun t hf y => ?_
  blk_simp
  rw [after0_7]
  by_cases hc : t.val % 8 = 0
  · rw [outsAt0_A m c t hc]; frame_out
    canon_tiles x h
    · exact upper m c t x _ (by blk_simp [idx t]; omega) (by blk_simp [idx t]; omega)
    · exact lower m c t x _ (by blk_simp [idx t]; omega) (by blk_simp [idx t]; omega)
  · rw [outsAt0_B m c t hc]; frame_out
    canon_tiles x h
    · exact upper m c t x _ (by blk_simp [idx t]; omega) (by blk_simp [idx t]; omega)
    · exact lower m c t x _ (by blk_simp [idx t]; omega) (by blk_simp [idx t]; omega)

/-- Array row `512 t + r`. -/
abbrev at512 (t : Fin cfg0.N) (r : Fin 512) : Fin 4096 :=
  ⟨t.val * 512 + r.val, by have := lt_of_lt_of_eq t.isLt N_0; omega⟩

/-- The gain's gradient, as an array. -/
abbrev DG (a b : FVec Ideal S4096x2816 .f32) (w : FVec Ideal S1x1024x5632 .f32) (x : FVec Ideal S4096x1024 .f32) (i : S1x1024.Idx) : EReal :=
  ∑ p : Fin 4096, FfnIn.dgRow a b w x p (i 1)

/-- A point adds its 512 rows' parts to the gain's gradient. -/
theorem step (c : Dev nD) (t : Fin cfg0.N) (acc : FVec Ideal S1x1024 .f32) (j : S1x1024.Idx) :
    k0_pay4 (F := Ideal)
      (k0_pay15 (View.ld (iblk m c 0 t) (Rect.unit ![256, 0] ![256, 2816] inb_S512x2816_S256x2816_256_0))
        (View.ld (iblk m c 2 t) (Rect.unit ![0, 0] ![1024, 2816] inb_S1024x5632_S1024x2816_0_0))
        (View.ld (iblk m c 1 t) (Rect.unit ![256, 0] ![256, 2816] inb_S512x2816_S256x2816_256_0))
        (View.ld (iblk m c 2 t) (Rect.unit ![0, 2816] ![1024, 2816] inb_S1024x5632_S1024x2816_0_2816)))
      (View.ld (iblk m c 4 t) (Rect.unit ![256, 0] ![256, 1024] inb_S512x1024_S256x1024_256_0))
      (k0_pay16 (View.ld (iblk m c 4 t) (Rect.unit ![256, 0] ![256, 1024] inb_S512x1024_S256x1024_256_0))) k0_pay17
      (k0_pay13
        (k0_pay7 (View.ld (iblk m c 0 t) (Rect.unit ![0, 0] ![256, 2816] inb_S512x2816_S256x2816_0_0))
          (View.ld (iblk m c 2 t) (Rect.unit ![0, 0] ![1024, 2816] inb_S1024x5632_S1024x2816_0_0))
          (View.ld (iblk m c 1 t) (Rect.unit ![0, 0] ![256, 2816] inb_S512x2816_S256x2816_0_0))
          (View.ld (iblk m c 2 t) (Rect.unit ![0, 2816] ![1024, 2816] inb_S1024x5632_S1024x2816_0_2816)))
        (k0_pay9 (View.ld (iblk m c 4 t) (Rect.unit ![0, 0] ![256, 1024] inb_S512x1024_S256x1024_0_0))) acc) j
    = acc j + ∑ r : Fin 512, FfnIn.dgRow (m ((c : Thread nD τ).loc main_arg0)) (m ((c : Thread nD τ).loc main_arg1))
      (m ((c : Thread nD τ).loc main_arg2)) (m ((c : Thread nD τ).loc main_arg4)) (at512 t r) (j 1) := by
  rw [Finite.sum_halves 256 rfl, ← add_assoc]
  pointwise [k0_pay4, k0_pay2, k0_pay1, k0_pay15, k0_pay16, k0_pay17, k0_pay13, k0_pay9, k0_pay8, k0_pay7, FfnIn.dgRow, FfnIn.dh, FfnIn.row,
    Rms.scale, Rms.meanSq, at512]
  blk_point [iblk, V, idx t]

/-- The first point clears the gain's gradient. -/
theorem zero (j : S1x1024.Idx) : k0_pay6 (F := Ideal) j = 0 := by pointwise [k0_pay6]

/-- The gain's gradient sums the rows' parts. -/
theorem final8 (c : Dev nD) : (dats m 0 c).arrAt 8 cfg0.N = DG (m ((c : Thread nD τ).loc main_arg0))
    (m ((c : Thread nD τ).loc main_arg1)) (m ((c : Thread nD τ).loc main_arg2)) (m ((c : Thread nD τ).loc main_arg4)) := by
  refine (dats m 0 c).arrAt_eq_of_after_last 8 t0_7 (by decide +kernel) _ fun j => ?_
  blk_simp
  have e := Pipeline.eq_sum_fin_of_reset_step_apply_last (fun n h => (outsAt0 m c n h).2.2) 8 (fun _ => 0)
    (fun t j => ∑ r : Fin 512, FfnIn.dgRow (m ((c : Thread nD τ).loc main_arg0)) (m ((c : Thread nD τ).loc main_arg1))
      (m ((c : Thread nD τ).loc main_arg2)) (m ((c : Thread nD τ).loc main_arg4)) (at512 t r) (j 1))
    (fun t h j => by rw [outsAt0_A m c t h]; frame_out; exact (step m c t _ j).trans (congrArg (· + _) (zero j)))
    (fun t h j => by rw [outsAt0_B m c t h]; frame_out; exact step m c t _ j)
    (le_of_eq N_0) t0_7 rfl j
  rw [after0_8]
  refine e.trans ((zero_add _).trans ?_)
  exact Fin.sum_mul_add_congr fun t r hl => rfl

end Cert.FfnInKernelIdeal.Value

end
-- ==== Proof.FfnIn.Reference.lean ====
/- The reference's derivative, read at an index: the formulas of `Spec` on arguments whose gradient is real. -/
module

public import proofs.«01_k».proof.Proof.FfnIn.Spec
public import proofs.«01_k».proof.Proof.Gen.FfnInReferenceIdeal.Read

@[expose] public section

set_option maxRecDepth 16384

noncomputable section

namespace Cert.FfnInReferenceIdeal.Read

open Cert.FfnInReferenceIdeal Cert.FfnInReferenceIdeal.Gen Idealize.ShloMosaic Idealize.ShloMosaic.TcCoe Cert.Finite

variable (a b : FVec Ideal S4096x2816 .f32) (w : FVec Ideal S1x1024x5632 .f32) (d x : FVec Ideal S4096x1024 .f32)
  (g : FVec Ideal S1x1024 .f32)

/-- One product over both halves is the sum of the halves' products. -/
theorem dh_apply (p : Fin 4096) (j : Fin 1024) : val_main_v24 (F := Ideal) a b w (ix2 p j) = FfnIn.dh a b w p j := by
  pointwise [val_main_v24, val_main_v23, val_main_v22, val_main_v21, val_main_cst_3, val_main_cst_4, val_main_v17]
  rw [sum_halves 2816 rfl]
  refine congrArg₂ (· + ·) (Finset.sum_congr rfl fun l _ => ?_) (Finset.sum_congr rfl fun l _ => ?_)
  · rw [dif_neg (by simp), dif_pos (by simp), zero_add]
  · rw [dif_pos (by simp), dif_neg (by simp), add_zero]
    simp

theorem isReal_dh {a b : FVec Ideal S4096x2816 .f32} {w : FVec Ideal S1x1024x5632 .f32} (ha : ∀ i, IsReal (a i)) (hb : ∀ i, IsReal (b i)) (hw : ∀ i, IsReal (w i)) (p : Fin 4096) (k : Fin 1024) : IsReal (FfnIn.dh a b w p k) :=
  (IsReal.sum fun _ => (ha _).mul (hw _)).add (IsReal.sum fun _ => (hb _).mul (hw _))

/-- The rows' cotangent. -/
theorem dx_apply (ha : ∀ i, IsReal (a i)) (hb : ∀ i, IsReal (b i)) (hw : ∀ i, IsReal (w i)) (hx : ∀ i, IsReal (x i))
    (hg : ∀ i, IsReal (g i)) (p : Fin 4096) (j : Fin 1024) :
    val_main_v45 (F := Ideal) a b w d x g (ix2 p j) = FfnIn.dx a b w d x g p j := by
  rw [FfnIn.dx, Rms.add_grad_eq _ _ _ (fun _ => hx _) fun _ => (isReal_dh ha hb hw _ _).mul (hg _)]
  simp only [← dh_apply]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_cst_4, val_main_v22, val_main_v23, val_main_v25, val_main_cst_5, val_main_v26, val_main_v27, val_main_v28, val_main_v29, val_main_cst_6, val_main_v30, val_main_v31, val_main_cst_7, val_main_v32, val_main_v33, val_main_v34, val_main_v35, val_main_v36, val_main_v37, val_main_cst_8, val_main_v38, val_main_v39, val_main_cst_9, val_main_v40, val_main_v41, val_main_v42, val_main_v43, val_main_v44, val_main_v45, val_main_v46, val_main_v47, Rms.viaMean, Rms.scale, Rms.meanSq, FfnIn.row]

/-- The gain's gradient. -/
theorem dg_apply (p : Fin 1) (j : Fin 1024) :
    val_main_v46 (F := Ideal) a b w x (ix2 p j) = ∑ p, FfnIn.dgRow a b w x p j := by
  simp only [FfnIn.dgRow, ← dh_apply]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_cst_4, val_main_v22, val_main_v23, val_main_v25, val_main_cst_5, val_main_v26, val_main_v27, val_main_v28, val_main_v29, val_main_cst_6, val_main_v30, val_main_v31, val_main_cst_7, val_main_v32, val_main_v33, val_main_v34, val_main_v35, val_main_v36, val_main_v37, val_main_cst_8, val_main_v38, val_main_v39, val_main_cst_9, val_main_v40, val_main_v41, val_main_v42, val_main_v43, val_main_v44, val_main_v45, val_main_v46, val_main_v47, Rms.viaMean, Rms.scale, Rms.meanSq, FfnIn.row]
  simp only [Finset.univ_unique, Finset.sum_singleton]
  exact Finset.sum_congr rfl fun _ _ => mul_comm _ _

end Cert.FfnInReferenceIdeal.Read

end
-- ==== Proof.FfnIn.Claim.lean ====
/- The equation of the kernel's three results and the reference's. -/
module

public import proofs.«01_k».proof.Defs
public import proofs.«01_k».proof.Proof.FfnIn.Array
public import proofs.«01_k».proof.Proof.FfnIn.Reference
public import proofs.«01_k».proof.Proof.Gen.FfnInReferenceIdeal.Run
public import proofs.«01_k».proof.Proof.Gen.Pre_ffn_in_finite

@[expose] public section

set_option maxRecDepth 16384

noncomputable section

namespace Cert.FfnIn

open Idealize.ShloMosaic Idealize.ShloMosaic.TcCoe Idealize.SL.Sem

variable {m : (ℓ : Loc Cert.FfnInKernelIdeal.nD Cert.FfnInKernelIdeal.τ Cert.FfnInKernelIdeal.sig) → Buf (Elt Ideal) ℓ}

open Cert.FfnInKernelIdeal in
/-- What the precondition says of the arguments it names. -/
theorem real_args (h : Cert.Pre_FfnInKernelIdeal_ffn_in_finite m) (c : Dev nD) :
    (∀ i, Finite.IsReal (m ((c : Thread nD τ).loc main_arg0) i)) ∧ (∀ i, Finite.IsReal (m ((c : Thread nD τ).loc main_arg1) i))
    ∧ (∀ i, Finite.IsReal (m ((c : Thread nD τ).loc main_arg2) i)) ∧ (∀ i, Finite.IsReal (m ((c : Thread nD τ).loc main_arg4) i))
    ∧ ∀ i, Finite.IsReal (m ((c : Thread nD τ).loc main_arg5) i) := by
  obtain ⟨h0, h1, h2, h4, h5⟩ := h c
  exact ⟨Finite.reals h0 fun _ => rfl, Finite.reals h1 fun _ => rfl, Finite.reals h2 fun _ => rfl, Finite.reals h4 fun _ => rfl,
    Finite.reals h5 fun _ => rfl⟩

/-- The reference runs from any memory, keeps its arguments, and declares no semaphore. -/
theorem frame_reference : Cert.quiescent_FfnInReferenceIdeal := fun m ρ _ =>
  (θ_run Cert.FfnInReferenceIdeal.defs _ _).mono
    (fun r h => ⟨fun c => (h c).2.2.2, sem_eq_zero_of_no_sems (by decide) r.2⟩) (Cert.FfnInReferenceIdeal.Value.run m ρ)

/-- The three results of the kernel are the reference's. -/
theorem algebraic : Cert.algebraic_FfnInKernelIdeal_FfnInReferenceIdeal_pre_ffn_in_finite := by
  pair_intro
  · run_from Cert.FfnInKernelIdeal.Value.run_blocks m g
  · run_from Cert.FfnInReferenceIdeal.Value.run m' g'
    all_goals obtain ⟨r0, r1, r2, r4, r5⟩ := real_args hpre c
    all_goals obtain ⟨a0, a1, a2, a3, a4, a5⟩ := hagree c
    · rw [Cert.FfnInReferenceIdeal.Read.val_main_v45_eq, a0, a1, a2, a3, a4, a5]
      refine Eq.trans (funext fun i => ?_) (Cert.FfnInKernelIdeal.Value.final6 m c).symm
      exact (congrArg _ (eq_ix2 i)).trans (Cert.FfnInReferenceIdeal.Read.dx_apply _ _ _ _ _ _ r0 r1 r2 r4 r5 _ _)
    · rw [Cert.FfnInReferenceIdeal.Read.val_main_v47_eq, a0, a1, a2, a3, a4, a5]
      refine Eq.trans (funext fun i => ?_) (Cert.FfnInKernelIdeal.Value.final7 m c).symm
      exact (congrArg _ (eq_ix2 i)).trans (Cert.FfnInReferenceIdeal.Read.dx_apply _ _ _ _ _ _ r0 r1 r2 r4 r5 _ _)
    · refine (Cert.FfnInReferenceIdeal.Read.val_main_v46_eq _ _ _ _).trans ?_
      refine Eq.trans (funext fun i => ?_) (Cert.FfnInKernelIdeal.Value.final8 m c).symm
      exact (congrArg _ (eq_ix2 i)).trans (Cert.FfnInReferenceIdeal.Read.dg_apply _ _ _ _ _ _)

end Cert.FfnIn

end
-- ==== Proof.Trips.lean ====
/-
  What a counted loop leaves, trip by trip: a state updated by each trip in turn (`iter`), and the array whose
  trip `k` puts one block of rows at row `base + B k` (`iter_put`).
-/
module

public import Idealize.ShloMosaic.Lib.VecWindow
public import Idealize.ShloMosaic.Lib.Pointwise

@[expose] public section

namespace Cert.Trips

open Idealize.ShloMosaic

/-- The state after the first `k` of `n` trips. -/
def iter {α : Type} {n : ℕ} (f : Fin n → α → α) (a : α) : ℕ → α
  | 0 => a
  | k + 1 => if h : k < n then f ⟨k, h⟩ (iter f a k) else iter f a k

theorem iter_zero {α : Type} {n : ℕ} (f : Fin n → α → α) (a : α) : iter f a 0 = a := rfl

theorem iter_succ {α : Type} {n : ℕ} (f : Fin n → α → α) (a : α) (k : Fin n) : iter f a (k.val + 1) = f k (iter f a k.val) := dif_pos k.isLt

/-- A part of the state that each trip updates from itself alone is the loop of that part. -/
theorem iter_map {α β : Type} {n : ℕ} {f : Fin n → α → α} (p : α → β) (g : Fin n → β → β) (h : ∀ k a, p (f k a) = g k (p a)) (a : α) (k : ℕ) :
    p (iter f a k) = iter g (p a) k := by
  induction k with
  | zero => rfl
  | succ k ih =>
    unfold iter
    by_cases hk : k < n
    · rw [dif_pos hk, dif_pos hk, h, ih]
    · rw [dif_neg hk, dif_neg hk, ih]

/-- A part of the state to which each trip adds: the sum of what the trips add. -/
theorem iter_sum {α M : Type} [AddCommMonoid M] {n : ℕ} (f : Fin n → α → α) (w : Fin n → M) (p : α → M) (h : ∀ k a, p (f k a) = p a + w k) (a : α) :
    p (iter f a n) = p a + ∑ k, w k := by
  have e : ∀ k (hk : k ≤ n), p (iter f a k) = p a + ∑ j : Fin k, w (j.castLE hk) := by
    intro k
    induction k with
    | zero => exact fun _ => (add_zero _).symm
    | succ k ih =>
      intro hk
      rw [iter_succ f a (⟨k, hk⟩ : Fin n), h, ih (by omega), Fin.sum_univ_castSucc, add_assoc]
      rfl
  exact e n le_rfl

section Put

variable {α : Type} {N B C n : ℕ} {base : ℕ} {off : Fin n → Fin 2 → ℕ} (hoff : ∀ k, off k = ![base + B * k.val, 0])
  (w : Fin n → ((a : Fin 2) → Fin ((![B, C] : Fin 2 → ℕ) a)) → α) (a : (⟨2, ![N, C]⟩ : Shape).Idx → α)

include hoff

/-- A put of trip `j`'s rows, read in those rows. -/
theorem put_in (x : (⟨2, ![N, C]⟩ : Shape).Idx → α) (j : Fin n) (y : (⟨2, ![N, C]⟩ : Shape).Idx) (r : Fin B) (hy : (y 0).val = base + B * j.val + r.val) :
    VecWindow.put x (off j) ![B, C] (w j) y = w j (ix2 r (y 1)) := by
  have h : ∀ b, off j b ≤ (y b).val ∧ (y b).val < off j b + (![B, C] : Fin 2 → ℕ) b := by
    rw [hoff j]
    intro b
    match b with
    | 0 => exact ⟨by show base + B * j.val ≤ _; omega, by show _ < base + B * j.val + B; have := r.isLt; omega⟩
    | 1 => exact ⟨Nat.zero_le _, by show _ < 0 + C; rw [Nat.zero_add]; exact (y 1).isLt⟩
  unfold VecWindow.put
  rw [dif_pos h]
  refine congrArg (w j) (funext fun b => Fin.ext ?_)
  show (y b).val - off j b = _
  rw [hoff j]
  match b with
  | 0 => show (y 0).val - (base + B * j.val) = r.val; omega
  | 1 => rfl

/-- A put of trip `j`'s rows, read in other rows. -/
theorem put_out (x : (⟨2, ![N, C]⟩ : Shape).Idx → α) (j : Fin n) (y : (⟨2, ![N, C]⟩ : Shape).Idx)
    (hy : (y 0).val < base + B * j.val ∨ base + B * j.val + B ≤ (y 0).val) :
    VecWindow.put x (off j) ![B, C] (w j) y = x y := by
  unfold VecWindow.put
  refine dif_neg fun h => ?_
  have h0 := h 0
  rw [hoff j] at h0
  have h1 : base + B * j.val ≤ (y 0).val ∧ (y 0).val < base + B * j.val + B := h0
  omega

/-- After the first `k` trips the rows of trip `j < k` are what that trip put. -/
theorem iter_put_in (k : ℕ) (j : Fin n) (hj : j.val < k) (hk : k ≤ n) (y : (⟨2, ![N, C]⟩ : Shape).Idx) (r : Fin B)
    (hy : (y 0).val = base + B * j.val + r.val) :
    iter (fun k s => VecWindow.put s (off k) ![B, C] (w k)) a k y = w j (ix2 r (y 1)) := by
  induction k with
  | zero => exact absurd hj (Nat.not_lt_zero _)
  | succ k ih =>
    have e := congrFun (iter_succ (fun k s => VecWindow.put s (off k) ![B, C] (w k)) a (⟨k, hk⟩ : Fin n)) y
    refine e.trans ?_
    by_cases hjk : j.val = k
    · obtain rfl : j = ⟨k, hk⟩ := Fin.ext hjk
      exact put_in hoff w _ _ y r hy
    · refine (put_out hoff w _ ⟨k, hk⟩ y (Or.inl ?_)).trans (ih (by omega) (by omega))
      have h1 : B * (j.val + 1) ≤ B * k := Nat.mul_le_mul_left _ (by omega)
      have h2 : B * (j.val + 1) = B * j.val + B := Nat.mul_succ _ _
      have := r.isLt
      show (y 0).val < base + B * k
      omega

/-- After the first `k` trips the rows outside theirs are what they were. -/
theorem iter_put_out (k : ℕ) (hk : k ≤ n) (y : (⟨2, ![N, C]⟩ : Shape).Idx) (hy : (y 0).val < base ∨ base + B * k ≤ (y 0).val) :
    iter (fun k s => VecWindow.put s (off k) ![B, C] (w k)) a k y = a y := by
  induction k with
  | zero => rfl
  | succ k ih =>
    have h2 : B * (k + 1) = B * k + B := Nat.mul_succ _ _
    have e := congrFun (iter_succ (fun k s => VecWindow.put s (off k) ![B, C] (w k)) a (⟨k, hk⟩ : Fin n)) y
    refine e.trans ((put_out hoff w _ ⟨k, hk⟩ y ?_).trans (ih (by omega) (by omega)))
    show (y 0).val < base + B * k ∨ base + B * k + B ≤ (y 0).val
    rw [h2] at hy
    have := Nat.zero_le (B * k)
    omega

/-- What the whole loop leaves depends on the array it found only outside its rows. -/
theorem iter_put_congr (hB : 0 < B) {a a' : (⟨2, ![N, C]⟩ : Shape).Idx → α} (h : ∀ y, (y 0).val < base ∨ base + B * n ≤ (y 0).val → a y = a' y) :
    iter (fun k s => VecWindow.put s (off k) ![B, C] (w k)) a n = iter (fun k s => VecWindow.put s (off k) ![B, C] (w k)) a' n := by
  funext y
  by_cases hy : (y 0).val < base ∨ base + B * n ≤ (y 0).val
  · rw [iter_put_out hoff w a n le_rfl y hy, iter_put_out hoff w a' n le_rfl y hy, h y hy]
  · have hlt : ((y 0).val - base) / B < n := Nat.div_lt_of_lt_mul (by omega)
    have hr : ((y 0).val - base) % B < B := Nat.mod_lt _ hB
    have hd := Nat.div_add_mod ((y 0).val - base) B
    have he : (y 0).val = base + B * (⟨((y 0).val - base) / B, hlt⟩ : Fin n).val + (⟨((y 0).val - base) % B, hr⟩ : Fin B).val := by
      show (y 0).val = base + B * (((y 0).val - base) / B) + ((y 0).val - base) % B
      omega
    rw [iter_put_in hoff w a n _ hlt le_rfl y _ he, iter_put_in hoff w a' n _ hlt le_rfl y _ he]

end Put

end Cert.Trips
-- ==== Proof.Pool.Loops.lean ====
/-
  The three loops of the pool's backward kernel, by the values they leave.

  Each trip is a plain function of what the buffers hold (`padTrip`, `gradTrip`, `outTrip`); the state
  before trip `k` is those functions applied in turn (`Trips.iter`); the invariants say that
  the buffers hold that state.
-/
module

public import proofs.«01_k».proof.Proof.Trips
public import proofs.«01_k».proof.Proof.Gen.PoolKernelIdeal.Loops

@[expose] public section

set_option maxRecDepth 16384

noncomputable section

namespace Cert.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PoolKernelIdeal Cert.PoolKernelIdeal.Gen Cert.Trips

variable {F : FTy → Type} [FloatOps F]

/-- The resource algebra of the frame kit. -/
local notation "𝕄" => MT nD τ sig Unit (Elt F) ℕ (UR sig nD τ) ℕ

/-! ## One trip -/

/-- Trip `k` of the first loop: rows `1024 k …` of the input, put behind the sixteen rows in front. -/
def padTrip (x : Vec F S4096x128 .f32) (k : Fin k0_t1_loop.trips) (z : Vec F S4112x128 .f32) : Vec F S4112x128 .f32 :=
  VecWindow.put z (k0_off2 k) S1024x128.size (k0_pay2 (VecWindow.window x (k0_off1 k) S1024x128.size (k0_off1_inb k)))

/-- What the second loop updates: the weight's gradient, the scale's gradient, the padded quotients and the
    gradient of the pooled rows. -/
structure Grads (F : FTy → Type) where
  /-- the weight's gradient so far -/
  dw : Vec F S1x128x128 .f32
  /-- the scale's gradient so far -/
  ds : Vec F S1x128 .f32
  /-- the pooled rows' gradient over the window's length -/
  z : Vec F S4112x128 .f32
  /-- the pooled rows' gradient -/
  dp : Vec F S4096x128 .f32

/-- Trip `k`'s rows of the padded input, the sixteen rows before them included. -/
def padRows (u : Vec F S4112x128 .f32) (k : Fin k0_t2_loop.trips) : Vec F S1040x128 .f32 :=
  VecWindow.window u (k0_off3 k) S1040x128.size (k0_off3_inb k)

/-- Trip `k`'s rows of the cotangent. -/
def ctRows (ct : Vec F S4096x128 .f32) (k : Fin k0_t2_loop.trips) : Vec F S1024x128 .f32 :=
  VecWindow.window ct (k0_off4 k) S1024x128.size (k0_off4_inb k)

/-- Trip `k` of the weight's gradient: the padded input `u`, the cotangent `ct`, the scale `s`. -/
def dwTrip (g : BitVec 32) (s : Vec F S1x128 .f32) (ct : Vec F S4096x128 .f32) (u : Vec F S4112x128 .f32)
    (k : Fin k0_t2_loop.trips) (d : Vec F S1x128x128 .f32) : Vec F S1x128x128 .f32 :=
  k0_pay8 s (k0_pay14 g 0#32 1#32 k (padRows u k)) (ctRows ct k) d

/-- Trip `k` of the scale's gradient: the weight `w`, the cotangent, the padded input. -/
def dsTrip (g : BitVec 32) (w : Vec F S1x128x128 .f32) (ct : Vec F S4096x128 .f32) (u : Vec F S4112x128 .f32)
    (k : Fin k0_t2_loop.trips) (d : Vec F S1x128 .f32) : Vec F S1x128 .f32 :=
  k0_pay15 g (k0_pay6 w) 0#32 1#32 k (padRows u k) (ctRows ct k) d

/-- Trip `k` of the quotients. -/
def zTrip (g : BitVec 32) (w : Vec F S1x128x128 .f32) (s : Vec F S1x128 .f32) (ct : Vec F S4096x128 .f32)
    (k : Fin k0_t2_loop.trips) (z : Vec F S4112x128 .f32) : Vec F S4112x128 .f32 :=
  VecWindow.put z (k0_off5 k) S1024x128.size (k0_pay11 w s (k0_pay13 g 0#32 1#32 k) (ctRows ct k))

/-- Trip `k` of the pooled rows' gradient. -/
def dpTrip (w : Vec F S1x128x128 .f32) (s : Vec F S1x128 .f32) (ct : Vec F S4096x128 .f32)
    (k : Fin k0_t2_loop.trips) (d : Vec F S4096x128 .f32) : Vec F S4096x128 .f32 :=
  VecWindow.put d (k0_off4 k) S1024x128.size (k0_pay10 w s (ctRows ct k))

/-- Trip `k` of the second loop. -/
def gradTrip (g : BitVec 32) (w : Vec F S1x128x128 .f32) (s : Vec F S1x128 .f32) (ct : Vec F S4096x128 .f32)
    (u : Vec F S4112x128 .f32) (k : Fin k0_t2_loop.trips) (st : Grads F) : Grads F :=
  ⟨dwTrip g s ct u k st.dw, dsTrip g w ct u k st.ds, zTrip g w s ct k st.z, dpTrip w s ct k st.dp⟩

/-- Trip `k` of the third loop, on the padded quotients `z` and the pooled rows' gradient `dp`. -/
def outTrip (i : grid0.Coords) (z : Vec F S4112x128 .f32) (dp : Vec F S4096x128 .f32) (k : Fin k0_t3_loop.trips)
    (o : Vec F S4096x128 .bf16) : Vec F S4096x128 .bf16 :=
  VecWindow.put o (k0_off7 k) S1024x128.size
    (k0_pay12 i (VecWindow.window z (k0_off6 k) S1040x128.size (k0_off6_inb k)) (VecWindow.window dp (k0_off7 k) S1024x128.size (k0_off7_inb k)))

/-! ## The invariants -/

variable (𝒱 : Variants) (c : Dev nD) (bd : Option 𝒱.V) (E : Set ℕ) (i : grid0.Coords)
  (arg1 : Memref sig .tc .vmem S4096x128 .f32) (harg1 : arg1.IsWhole) (arg2 : Memref sig .tc .vmem S4096x128 .f32) (harg2 : arg2.IsWhole)
  (arg3 : Memref sig .tc .vmem S1x128x128 .f32) (harg3 : arg3.IsWhole) (arg4 : Memref sig .tc .vmem S1x128 .f32) (harg4 : arg4.IsWhole)
  (arg5 : Memref sig .tc .vmem S4096x128 .bf16) (harg5 : arg5.IsWhole) (arg6 : Memref sig .tc .vmem S1x128x128 .f32) (harg6 : arg6.IsWhole)
  (arg7 : Memref sig .tc .vmem S1x128 .f32) (harg7 : arg7.IsWhole) (arg8 : Memref sig .tc .vmem S4112x128 .f32) (harg8 : arg8.IsWhole)
  (arg9 : Memref sig .tc .vmem S4112x128 .f32) (harg9 : arg9.IsWhole) (arg10 : Memref sig .tc .vmem S4096x128 .f32) (harg10 : arg10.IsWhole)

set_option warn.classDefReducibility false in
/-- The first loop: before trip `k` the padded buffer holds the first `k` trips. -/
@[sl_loop] def loopInv_k0_t1 (X : BufTy.Contents (Elt F) arg1.view.ty) (G : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv k _ := iprop((arg1.view.loc (c : Thread nD τ) ↦[arg1.view.set]{fullShare} X)
    ∗ (∃ f, (arg8.view.loc (c : Thread nD τ) ↦[arg8.view.set]{fullShare} f)
        ∗ ⌜arg8.view.read (Elt F) f = iter (padTrip (arg1.view.read (Elt F) X)) (arg8.view.read (Elt F) G) k⌝))
  step k acc := by
    unfold k0_t1_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

set_option maxHeartbeats 1600000 in
set_option warn.classDefReducibility false in
/-- The second loop: before trip `k` the four buffers it updates hold the first `k` trips. -/
@[sl_loop] def loopInv_k0_t2 (arg0 : BitVec 32) (v15 : Vec F S1x128x128 .f32) (v18 : Vec F S1x128 .f32)
    (X2 : BufTy.Contents (Elt F) arg2.view.ty) (X8 : BufTy.Contents (Elt F) arg8.view.ty)
    (G6 : BufTy.Contents (Elt F) arg6.view.ty) (G7 : BufTy.Contents (Elt F) arg7.view.ty) (G9 : BufTy.Contents (Elt F) arg9.view.ty)
    (G10 : BufTy.Contents (Elt F) arg10.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg0 v15 v18 where
  inv k _ := iprop((arg2.view.loc (c : Thread nD τ) ↦[arg2.view.set]{fullShare} X2) ∗ (arg8.view.loc (c : Thread nD τ) ↦[arg8.view.set]{fullShare} X8)
    ∗ (∃ f, (arg6.view.loc (c : Thread nD τ) ↦[arg6.view.set]{fullShare} f) ∗ ⌜arg6.view.read (Elt F) f = (iter (gradTrip arg0 v15 v18 (arg2.view.read (Elt F) X2) (arg8.view.read (Elt F) X8)) ⟨arg6.view.read (Elt F) G6, arg7.view.read (Elt F) G7, arg9.view.read (Elt F) G9, arg10.view.read (Elt F) G10⟩ k).dw⌝)
    ∗ (∃ f, (arg7.view.loc (c : Thread nD τ) ↦[arg7.view.set]{fullShare} f) ∗ ⌜arg7.view.read (Elt F) f = (iter (gradTrip arg0 v15 v18 (arg2.view.read (Elt F) X2) (arg8.view.read (Elt F) X8)) ⟨arg6.view.read (Elt F) G6, arg7.view.read (Elt F) G7, arg9.view.read (Elt F) G9, arg10.view.read (Elt F) G10⟩ k).ds⌝)
    ∗ (∃ f, (arg9.view.loc (c : Thread nD τ) ↦[arg9.view.set]{fullShare} f) ∗ ⌜arg9.view.read (Elt F) f = (iter (gradTrip arg0 v15 v18 (arg2.view.read (Elt F) X2) (arg8.view.read (Elt F) X8)) ⟨arg6.view.read (Elt F) G6, arg7.view.read (Elt F) G7, arg9.view.read (Elt F) G9, arg10.view.read (Elt F) G10⟩ k).z⌝)
    ∗ (∃ f, (arg10.view.loc (c : Thread nD τ) ↦[arg10.view.set]{fullShare} f) ∗ ⌜arg10.view.read (Elt F) f = (iter (gradTrip arg0 v15 v18 (arg2.view.read (Elt F) X2) (arg8.view.read (Elt F) X8)) ⟨arg6.view.read (Elt F) G6, arg7.view.read (Elt F) G7, arg9.view.read (Elt F) G9, arg10.view.read (Elt F) G10⟩ k).dp⌝))
  step k acc := by
    unfold k0_t2_body
    iintro ⟨H2, H8, ⟨%f6, H6, %h6⟩, ⟨%f7, H7, %h7⟩, ⟨%f9, H9, %h9⟩, ⟨%f10, H10, %h10⟩⟩
    sl_exec
    sl_step
    rw [iter_succ]
    isplitl [H2]; · iexact H2
    isplitl [H8]; · iexact H8
    isplitl [H6]
    · iexists _; isplitl [H6]; · iexact H6
      ipureintro
      show _ = k0_pay8 _ _ _ _
      rw [← h6, View.read_writes_full]
      sl_unfold_words
      rw [View.readAt_full]
      rfl
    isplitl [H7]
    · iexists _; isplitl [H7]; · iexact H7
      ipureintro
      show _ = k0_pay15 _ _ _ _ _ _ _ _
      rw [← h7, View.read_writes_full]
      sl_unfold_words
      rw [View.readAt_full]
      rfl
    isplitl [H9]
    · iexists _; isplitl [H9]; · iexact H9
      ipureintro
      show _ = VecWindow.put _ _ _ _
      rw [← h9]
      exact View.read_writes_cons_put _ _ _ _ _ rfl
    iexists _; isplitl [H10]; · iexact H10
    ipureintro
    show _ = VecWindow.put _ _ _ _
    rw [← h10]
    exact View.read_writes_cons_put _ _ _ _ _ rfl

set_option warn.classDefReducibility false in
/-- The third loop: before trip `k` the result holds the first `k` trips. -/
@[sl_loop] def loopInv_k0_t3 (X9 : BufTy.Contents (Elt F) arg9.view.ty) (X10 : BufTy.Contents (Elt F) arg10.view.ty) (G : BufTy.Contents (Elt F) arg5.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 where
  inv k _ := iprop((arg9.view.loc (c : Thread nD τ) ↦[arg9.view.set]{fullShare} X9) ∗ (arg10.view.loc (c : Thread nD τ) ↦[arg10.view.set]{fullShare} X10)
    ∗ (∃ f, (arg5.view.loc (c : Thread nD τ) ↦[arg5.view.set]{fullShare} f)
        ∗ ⌜arg5.view.read (Elt F) f = iter (outTrip i (arg9.view.read (Elt F) X9) (arg10.view.read (Elt F) X10)) (arg5.view.read (Elt F) G) k⌝))
  step k acc := by
    unfold k0_t3_body
    iintro ⟨H9, H10, ⟨%f, HW, %h⟩⟩
    sl_exec
    sl_step
    isplitl [H9]; · iexact H9
    isplitl [H10]; · iexact H10
    iexists _; isplitl [HW]; · iexact HW
    ipureintro
    rw [iter_succ, ← h]
    exact View.read_writes_cons_put _ _ _ _ _ rfl

end Cert.Pool

end
-- ==== Proof.Pool.Run.lean ====
/-
  The pool's backward kernel run once, at any point of its grid: what its three results hold.
-/
module

public import proofs.«01_k».proof.Proof.Pool.Loops
public import proofs.«01_k».proof.Proof.Gen.PoolKernelIdeal.Frame.Runs

@[expose] public section

set_option maxRecDepth 16384

noncomputable section

namespace Cert.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PoolKernelIdeal Cert.PoolKernelIdeal.Gen Cert.Trips

variable {F : FTy → Type} [FloatOps F]

/-- The resource algebra of the frame kit. -/
local notation "𝕄" => MT nD τ sig Unit (Elt F) ℕ (UR sig nD τ) ℕ

/-! ## The rectangles of the loops -/

theorem off2_eq (k : Fin k0_t1_loop.trips) : k0_off2 k = ![16 + 1024 * k.val, 0] := by revert k; decide +kernel
theorem off4_eq (k : Fin k0_t2_loop.trips) : k0_off4 k = ![0 + 1024 * k.val, 0] := by revert k; decide +kernel
theorem off5_eq (k : Fin k0_t2_loop.trips) : k0_off5 k = ![0 + 1024 * k.val, 0] := by revert k; decide +kernel
theorem off7_eq (k : Fin k0_t3_loop.trips) : k0_off7 k = ![0 + 1024 * k.val, 0] := by revert k; decide +kernel

/-! ## What the buffers hold in the end -/

/-- Zeros. -/
def zeros (s : Shape) (φ : FTy) : FVec F s φ := broadcast s (Scalar.ofBits φ 0 : F φ)

/-- The input behind sixteen rows of zeros. -/
def padded (x : Vec F S4096x128 .f32) : Vec F S4112x128 .f32 := iter (padTrip x) (zeros S4112x128 .f32) k0_t1_loop.trips

/-- The weight's gradient. -/
def dwOut (g : BitVec 32) (s : Vec F S1x128 .f32) (ct x : Vec F S4096x128 .f32) : Vec F S1x128x128 .f32 :=
  iter (dwTrip g s ct (padded x)) k0_pay4 k0_t2_loop.trips

/-- The scale's gradient. -/
def dsOut (g : BitVec 32) (w : Vec F S1x128x128 .f32) (ct x : Vec F S4096x128 .f32) : Vec F S1x128 .f32 :=
  iter (dsTrip g w ct (padded x)) k0_pay5 k0_t2_loop.trips

/-- The quotients in front of sixteen rows of zeros. -/
def quotients (g : BitVec 32) (w : Vec F S1x128x128 .f32) (s : Vec F S1x128 .f32) (ct : Vec F S4096x128 .f32) : Vec F S4112x128 .f32 :=
  iter (zTrip g w s ct) (zeros S4112x128 .f32) k0_t2_loop.trips

/-- The pooled rows' gradient. -/
def dPooled (w : Vec F S1x128x128 .f32) (s : Vec F S1x128 .f32) (ct : Vec F S4096x128 .f32) : Vec F S4096x128 .f32 :=
  iter (dpTrip w s ct) (zeros S4096x128 .f32) k0_t2_loop.trips

/-- The input's gradient. -/
def duOut (i : grid0.Coords) (w : Vec F S1x128x128 .f32) (s : Vec F S1x128 .f32) (ct : Vec F S4096x128 .f32) : Vec F S4096x128 .bf16 :=
  iter (outTrip i (quotients (BitVec.ofNat 32 (i 0).val) w s ct) (dPooled w s ct)) (zeros S4096x128 .bf16) k0_t3_loop.trips

/-- The padded buffer, whatever it held before. -/
theorem padded_eq (x : Vec F S4096x128 .f32) (z : Vec F S4112x128 .f32) :
    iter (padTrip x) (VecWindow.put z ![0, 0] S16x128.size k0_pay1) k0_t1_loop.trips = padded x :=
  iter_put_congr off2_eq _ (by decide) fun y hy => by
    have h0 : (y 0).val < 4112 := (y 0).isLt
    have h1 : (y 1).val < 128 := (y 1).isLt
    have hy : (y 0).val < 16 ∨ 16 + 1024 * 4 ≤ (y 0).val := hy
    have h : ∀ b, (![0, 0] : Fin 2 → ℕ) b ≤ (y b).val ∧ (y b).val < (![0, 0] : Fin 2 → ℕ) b + S16x128.size b := fun b =>
      match b with
      | 0 => ⟨Nat.zero_le _, by show (y 0).val < 0 + 16; omega⟩
      | 1 => ⟨Nat.zero_le _, by show (y 1).val < 0 + 128; omega⟩
    exact dif_pos h

/-- The buffer of quotients, whatever it held before. -/
theorem quotients_eq (g : BitVec 32) (w : Vec F S1x128x128 .f32) (s : Vec F S1x128 .f32) (ct : Vec F S4096x128 .f32) (z : Vec F S4112x128 .f32) :
    iter (zTrip g w s ct) (VecWindow.put z ![4096, 0] S16x128.size k0_pay3) k0_t2_loop.trips = quotients g w s ct :=
  iter_put_congr off5_eq _ (by decide) fun y hy => by
    have h0 : (y 0).val < 4112 := (y 0).isLt
    have h1 : (y 1).val < 128 := (y 1).isLt
    have hy : (y 0).val < 0 ∨ 0 + 1024 * 4 ≤ (y 0).val := hy
    have h : ∀ b, (![4096, 0] : Fin 2 → ℕ) b ≤ (y b).val ∧ (y b).val < (![4096, 0] : Fin 2 → ℕ) b + S16x128.size b := fun b =>
      match b with
      | 0 => ⟨by show 4096 ≤ (y 0).val; omega, by show (y 0).val < 4096 + 16; omega⟩
      | 1 => ⟨Nat.zero_le _, by show (y 1).val < 0 + 128; omega⟩
    exact dif_pos h

/-- The buffer of the pooled rows' gradient, whatever it held before. -/
theorem dPooled_eq (w : Vec F S1x128x128 .f32) (s : Vec F S1x128 .f32) (ct z : Vec F S4096x128 .f32) :
    iter (dpTrip w s ct) z k0_t2_loop.trips = dPooled w s ct :=
  iter_put_congr off4_eq _ (by decide) fun y hy => by
    have h0 : (y 0).val < 4096 := (y 0).isLt
    have hy : (y 0).val < 0 ∨ 0 + 1024 * 4 ≤ (y 0).val := hy
    omega

/-- The result's buffer, whatever it held before. -/
theorem duOut_eq (i : grid0.Coords) (w : Vec F S1x128x128 .f32) (s : Vec F S1x128 .f32) (ct : Vec F S4096x128 .f32) (z : Vec F S4096x128 .bf16) :
    iter (outTrip i (quotients (BitVec.ofNat 32 (i 0).val) w s ct) (dPooled w s ct)) z k0_t3_loop.trips = duOut i w s ct :=
  iter_put_congr off7_eq _ (by decide) fun y hy => by
    have h0 : (y 0).val < 4096 := (y 0).isLt
    have hy : (y 0).val < 0 ∨ 0 + 1024 * 4 ≤ (y 0).val := hy
    omega

/-! ## The run -/

/-- The body, on whole buffers: it leaves its inputs as they were, and in its results the three gradients. -/
theorem run (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S4096x128 .bf16) (harg5 : arg5.IsWhole) (arg6 : Memref sig .tc .vmem S1x128x128 .f32) (harg6 : arg6.IsWhole)
    (arg7 : Memref sig .tc .vmem S1x128 .f32) (harg7 : arg7.IsWhole) (arg8 : Memref sig .tc .vmem S4112x128 .f32) (harg8 : arg8.IsWhole)
    (arg9 : Memref sig .tc .vmem S4112x128 .f32) (harg9 : arg9.IsWhole) (arg10 : Memref sig .tc .vmem S4096x128 .f32) (harg10 : arg10.IsWhole)
    (x0 : Vec F S4096x128 .f32) (x1 : Vec F S4096x128 .f32) (x2 : Vec F S1x128x128 .f32) (x3 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (duOut i x2 x3 x1) ∗ owns (c : Thread nD τ) arg6 fullShare (dwOut (BitVec.ofNat 32 (i 0).val) x3 x1 x0) ∗ owns (c : Thread nD τ) arg7 fullShare (dsOut (BitVec.ofNat 32 (i 0).val) x2 x1 x0) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_pool_bwd i arg1 harg1 arg2 harg2 arg3 harg3 arg4 harg4 arg5 harg5 arg6 harg6 arg7 harg7 arg8 harg8 arg9 harg9 arg10 harg10) K := by
  simp only [cc0_pool_bwd_eq_skeleton]; unfold cc0_pool_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  sl_exec
  sl_step
  have e2 := (View.readAt_full arg3.view f2 inb_S1x128x128_S1x128x128_0_0_0).trans hf2
  have e3 := (View.readAt_full arg4.view f3 inb_S1x128_S1x128_0_0).trans hf3
  have hu : arg8.view.read (Elt F) fL0 = padded x0 := by
    refine hL2.trans ?_
    rw [View.read_writes_cons_put _ _ _ _ _ rfl, hf0]
    exact padded_eq _ _
  rw [hf1, e2, e3, hu] at hL6 hL8 hL10 hL12
  have hz : arg9.view.read (Elt F) fL3 = quotients (BitVec.ofNat 32 (i 0).val) x2 x3 x1 := by
    refine hL10.trans ((iter_map Grads.z (zTrip _ x2 x3 x1) (fun _ _ => rfl) _ _).trans ?_)
    rw [View.read_writes_cons_put _ _ _ _ _ rfl]
    exact quotients_eq _ _ _ _ _
  have hd : arg10.view.read (Elt F) fL4 = dPooled x2 x3 x1 :=
    hL12.trans ((iter_map Grads.dp (dpTrip x2 x3 x1) (fun _ _ => rfl) _ _).trans (dPooled_eq _ _ _ _))
  have hw : arg6.view.read (Elt F) fL1 = dwOut (BitVec.ofNat 32 (i 0).val) x3 x1 x0 := by
    refine hL6.trans ((iter_map Grads.dw (dwTrip _ x3 x1 (padded x0)) (fun _ _ => rfl) _ _).trans ?_)
    exact congrArg (fun a => iter _ a _) (View.read_writes_full _ _ _ _ _)
  have hs : arg7.view.read (Elt F) fL2 = dsOut (BitVec.ofNat 32 (i 0).val) x2 x1 x0 := by
    refine hL8.trans ((iter_map Grads.ds (dsTrip _ x2 x1 (padded x0)) (fun _ _ => rfl) _ _).trans ?_)
    exact congrArg (fun a => iter _ a _) (View.read_writes_full _ _ _ _ _)
  have ho : arg5.view.read (Elt F) fL5 = duOut i x2 x3 x1 := by
    rw [hz, hd] at hL16
    exact hL16.trans (duOut_eq _ _ _ _ _)
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact ho
                  iexact H4
  isplitl [H5]; · iexists _; isplitr; · ipureintro; exact hw
                  iexact H5
  isplitl [H6]; · iexists _; isplitr; · ipureintro; exact hs
                  iexact H6
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Pool

end
-- ==== Proof.Pool.Frame.lean ====
/-
  The pool's backward call: every execution of the program ends, with its arguments as they were, and the
  pipeline's arrays at what the proof data say (`dats`, `run_main`).
-/
module

public import proofs.«01_k».proof.Proof.Pool.Run
public import Idealize.ShloMosaic.Lib.Claim

@[expose] public section

set_option maxRecDepth 16384

noncomputable section

namespace Cert.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolKernelIdeal Cert.PoolKernelIdeal.Gen Cert.Trips

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The group the body works on at point `t`, as its word. -/
abbrev group (t : Fin cfg0.N) : BitVec 32 := BitVec.ofNat 32 (grid0.coords t 0).val

/-- The pipeline's proof data: each input's buffer at its block, each result's at the gradient the body
    computes of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => duOut (grid0.coords t) (iblk m c 2 t) (iblk m c 3 t) (iblk m c 1 t)
    | ⟨5, _⟩ => dwOut (group t) (iblk m c 3 t) (iblk m c 1 t) (iblk m c 0 t)
    | ⟨6, _⟩ => dsOut (group t) (iblk m c 2 t) (iblk m c 1 t) (iblk m c 0 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = duOut (grid0.coords t) (iblk m c 2 t) (iblk m c 3 t) (iblk m c 1 t) := by dsimp only [dats]
theorem after_5 (c : Dev nD) (t : Fin cfg0.N) :
    (dats m 0 c).after 5 t = dwOut (group t) (iblk m c 3 t) (iblk m c 1 t) (iblk m c 0 t) := by dsimp only [dats]
theorem after_6 (c : Dev nD) (t : Fin cfg0.N) :
    (dats m 0 c).after 6 t = dsOut (group t) (iblk m c 2 t) (iblk m c 1 t) (iblk m c 0 t) := by dsimp only [dats]

set_option maxHeartbeats 800000 in
/-- The body at any point, window by window: `run` at the point's buffers. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t))) := by
  unfold bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).Φ t.succ = (dats m 0 c).Φ t.castSucc from rfl,
    show (dats m 0 c).owesAt () t.succ = (dats m 0 c).owesAt () t.castSucc from rfl,
    after_0, after_1, after_2, after_3, after_4, after_5, after_6,
    show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The launch: the arrays of the pipeline end at what the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Pool

end
-- ==== Proof.Pool.KernelFrame.lean ====
/-
  The pool's backward kernel over floats: it is its idealization read at floats, whose run is known.
-/
module

public import proofs.«01_k».proof.Proof.Pool.Frame
public import proofs.«01_k».proof.Proof.Gen.PoolKernel
public import proofs.«01_k».proof.Defs
public import Idealize.ShloMosaic.Lib.Claim

@[expose] public section

set_option maxRecDepth 65536

namespace Cert.Pool

open Idealize.ShloMosaic Idealize.ShloMosaic.TcCoe Idealize.ShloMosaic.Tactic Idealize.SL.Sem

/-- The two programs have the same functions. -/
theorem defs_eq : Cert.PoolKernel.defs (F := Bits) = Cert.PoolKernelIdeal.defs (F := Bits) := by sl_kernel_rfl

/-- The two programs have the same host code. -/
theorem main_eq : Cert.PoolKernel.main (F := Bits) = Cert.PoolKernelIdeal.main (F := Bits) := by sl_kernel_rfl

/-- Every run of the kernel is quiescent. -/
theorem frame_kernel : Cert.quiescent_PoolKernel := by
  intro m ρ _
  rw [defs_eq, main_eq]
  exact frame m ρ

end Cert.Pool
-- ==== Proof.Pool.Spec.lean ====
/-
  The pool's gradients as formulas: windowed sums by doubling, back for the pooled rows, forward for
  their derivative.
-/
module

public import proofs.«01_k».proof.Proof.Finite
public import Idealize.ShloMosaic.Lib.Pointwise

@[expose] public section

noncomputable section

namespace Cert.Pool

open Idealize.ShloMosaic

/-- The sum of the `2 ^ g` rows that end at row `n`, by doubling. -/
def back : ℕ → (ℕ → EReal) → ℕ → EReal
  | 0, x, n => x n
  | g + 1, x, n => back g x n + back g x (n - 2 ^ g)

/-- The sum of the `2 ^ g` rows that start at row `n`, by doubling. -/
def ahead : ℕ → (ℕ → EReal) → ℕ → EReal
  | 0, x, n => x n
  | g + 1, x, n => ahead g x n + ahead g x (n + 2 ^ g)

theorem back_congr (g : ℕ) {x y : ℕ → EReal} (n m : ℕ) (hn : 2 ^ g ≤ n + 1) (hm : 2 ^ g ≤ m + 1)
    (h : ∀ a, a < 2 ^ g → x (n - a) = y (m - a)) : back g x n = back g y m := by
  induction g generalizing n m with
  | zero => exact h 0 (by simp)
  | succ g ih =>
    have hp : 0 < 2 ^ g := Nat.two_pow_pos g
    rw [Nat.pow_succ] at hn hm h
    refine congrArg₂ (· + ·) (ih n m (by omega) (by omega) fun a ha => h a (by omega)) (ih (n - 2 ^ g) (m - 2 ^ g) (by omega) (by omega) fun a ha => ?_)
    have := h (2 ^ g + a) (by omega)
    rwa [Nat.sub_sub, Nat.sub_sub]

theorem ahead_congr (g : ℕ) {x y : ℕ → EReal} (n m : ℕ) (h : ∀ a, a < 2 ^ g → x (n + a) = y (m + a)) : ahead g x n = ahead g y m := by
  induction g generalizing n m with
  | zero => exact h 0 (by simp)
  | succ g ih =>
    have hp : 0 < 2 ^ g := Nat.two_pow_pos g
    rw [Nat.pow_succ] at h
    refine congrArg₂ (· + ·) (ih n m fun a ha => h a (by omega)) (ih (n + 2 ^ g) (m + 2 ^ g) fun a ha => ?_)
    have := h (2 ^ g + a) (by omega)
    rwa [Nat.add_assoc, Nat.add_assoc]

/-- The number of rows in the window that ends at row `r`: at most `2 ^ (g + 1)`. -/
def len (g r : ℕ) : ℝ := ((min (r + 1) (2 ^ (g + 1)) : ℕ) : ℝ)

/-- Column `l` of an array behind sixteen rows of zeros. -/
def behind (x : (⟨2, ![4096, 128]⟩ : Shape).Idx → EReal) (l : Fin 128) (n : ℕ) : EReal :=
  if h : 16 ≤ n ∧ n - 16 < 4096 then x (ix2 ⟨n - 16, h.2⟩ l) else 0

/-- A pooled row: the mean over the window that ends there, less the row itself. -/
def pooled (g : ℕ) (x : (⟨2, ![4096, 128]⟩ : Shape).Idx → EReal) (r : Fin 4096) (l : Fin 128) : EReal :=
  Ideal.div (back (g + 1) (behind x l) (16 + r)) (len g r) - x (ix2 r l)

/-- The gradient of the pooled row. -/
def dPool (w : (⟨3, ![1, 128, 128]⟩ : Shape).Idx → EReal) (s : (⟨2, ![1, 128]⟩ : Shape).Idx → EReal)
    (ct : (⟨2, ![4096, 128]⟩ : Shape).Idx → EReal) (r : Fin 4096) (l : Fin 128) : EReal :=
  ∑ j : Fin 128, ct (ix2 r j) * s (ix2 0 j) * w (ix3 0 l j)

/-- The gradient of the pooled row over the window's length, zero beyond the last row. -/
def quot (g : ℕ) (w : (⟨3, ![1, 128, 128]⟩ : Shape).Idx → EReal) (s : (⟨2, ![1, 128]⟩ : Shape).Idx → EReal)
    (ct : (⟨2, ![4096, 128]⟩ : Shape).Idx → EReal) (l : Fin 128) (n : ℕ) : EReal :=
  if h : n < 4096 then Ideal.div (dPool w s ct ⟨n, h⟩ l) (len g n) else 0

/-- The input's gradient. -/
def du (g : ℕ) (w : (⟨3, ![1, 128, 128]⟩ : Shape).Idx → EReal) (s : (⟨2, ![1, 128]⟩ : Shape).Idx → EReal)
    (ct : (⟨2, ![4096, 128]⟩ : Shape).Idx → EReal) (r : Fin 4096) (l : Fin 128) : EReal :=
  ahead (g + 1) (quot g w s ct l) r - dPool w s ct r l

/-- The weight's gradient. -/
def dw (g : ℕ) (s : (⟨2, ![1, 128]⟩ : Shape).Idx → EReal) (ct x : (⟨2, ![4096, 128]⟩ : Shape).Idx → EReal) (l j : Fin 128) : EReal :=
  ∑ r : Fin 4096, pooled g x r l * (ct (ix2 r j) * s (ix2 0 j))

/-- The scale's gradient. -/
def ds (g : ℕ) (w : (⟨3, ![1, 128, 128]⟩ : Shape).Idx → EReal) (ct x : (⟨2, ![4096, 128]⟩ : Shape).Idx → EReal) (j : Fin 128) : EReal :=
  ∑ r : Fin 4096, ct (ix2 r j) * ∑ l : Fin 128, pooled g x r l * w (ix3 0 l j)

/-- A group's columns of an array whose columns start with the four groups'. -/
def groupRows {n : ℕ} (x : (⟨2, ![4096, n]⟩ : Shape).Idx → EReal) (g : Fin 4) (hn : 512 ≤ n := by decide) : (⟨2, ![4096, 128]⟩ : Shape).Idx → EReal :=
  fun i => x (ix2 (i 0) ⟨g.val * 128 + (i 1).val, by have h : (i 1).val < 128 := (i 1).isLt; omega⟩)

/-- A group's weight. -/
def groupWeight (w : (⟨4, ![1, 4, 128, 128]⟩ : Shape).Idx → EReal) (g : Fin 4) : (⟨3, ![1, 128, 128]⟩ : Shape).Idx → EReal :=
  fun i => w (ix4 0 g (i 1) (i 2))

/-- A group's scale. -/
def groupScale (s : (⟨2, ![1, 512]⟩ : Shape).Idx → EReal) (g : Fin 4) : (⟨2, ![1, 128]⟩ : Shape).Idx → EReal :=
  fun i => s (ix2 0 ⟨g.val * 128 + (i 1).val, by have h : (i 1).val < 128 := (i 1).isLt; omega⟩)

/-- The group of a column. -/
abbrev gOf (j : Fin 512) : Fin 4 := ⟨j.val / 128, by omega⟩

/-- The place of a column in its group. -/
abbrev lOf (j : Fin 512) : Fin 128 := ⟨j.val % 128, Nat.mod_lt _ (by decide)⟩

/-- The input's gradient, as an array. -/
def DU (ct : (⟨2, ![4096, 512]⟩ : Shape).Idx → EReal) (w : (⟨4, ![1, 4, 128, 128]⟩ : Shape).Idx → EReal) (s : (⟨2, ![1, 512]⟩ : Shape).Idx → EReal) :
    (⟨2, ![4096, 512]⟩ : Shape).Idx → EReal :=
  fun i => du (gOf (i 1)) (groupWeight w (gOf (i 1))) (groupScale s (gOf (i 1))) (groupRows ct (gOf (i 1))) (i 0) (lOf (i 1))

/-- The weight's gradient, as an array. -/
def DW (x : (⟨2, ![4096, 4608]⟩ : Shape).Idx → EReal) (ct : (⟨2, ![4096, 512]⟩ : Shape).Idx → EReal) (s : (⟨2, ![1, 512]⟩ : Shape).Idx → EReal) :
    (⟨3, ![4, 128, 128]⟩ : Shape).Idx → EReal :=
  fun i => dw (i 0 : Fin 4) (groupScale s (i 0)) (groupRows ct (i 0)) (groupRows x (i 0)) (i 1) (i 2)

/-- The scale's gradient, as an array. -/
def DS (x : (⟨2, ![4096, 4608]⟩ : Shape).Idx → EReal) (ct : (⟨2, ![4096, 512]⟩ : Shape).Idx → EReal) (w : (⟨4, ![1, 4, 128, 128]⟩ : Shape).Idx → EReal) :
    (⟨2, ![1, 512]⟩ : Shape).Idx → EReal :=
  fun i => ds (gOf (i 1)) (groupWeight w (gOf (i 1))) (groupRows ct (gOf (i 1))) (groupRows x (gOf (i 1))) (lOf (i 1))

end Cert.Pool

end
-- ==== Proof.Pool.Block.lean ====
/-
  The pool's backward kernel on one block: what its three results hold, as formulas.
-/
module

public import proofs.«01_k».proof.Proof.Pool.Spec
public import proofs.«01_k».proof.Proof.Pool.Run
public import Idealize.ShloMosaic.Lib.Pipeline.ValueKit

@[expose] public section

set_option maxRecDepth 16384

noncomputable section

namespace Cert.Pool

open Idealize.ShloMosaic Idealize.ShloMosaic.TcCoe
open Cert.PoolKernelIdeal Cert.PoolKernelIdeal.Gen Cert.Trips

/-- A column of a trip's rows. -/
def column (v : FVec Ideal S1040x128 .f32) (l : Fin 128) (n : ℕ) : EReal := v (ix2 ⟨n % 1040, Nat.mod_lt _ (by decide)⟩ l)

theorem trips2 : k0_t2_loop.trips = 4 := by decide

/-- A row of a trip, as its column's entry. -/
theorem column_of (v : FVec Ideal S1040x128 .f32) (l : Fin 128) (a : Fin 1040) (n : ℕ) (h : a.val = n % 1040) : v (ix2 a l) = column v l n :=
  congrArg (fun b => v (ix2 b l)) (Fin.ext h)

/-- The word of the window's length. -/
theorem len_word (g : Fin 4) (k : Fin 4) (q : Fin 1024) :
    (IntOp.minsi (IntOp.addi (IntOp.addi (Scalar.muli (Scf.iv 0#32 1#32 k.val) 1024#32) (BitVec.ofNat 32 q.val)) 1#32)
      (Scalar.shli (2#32) (BitVec.ofNat 32 g.val))).toInt = ((min (1024 * k.val + q.val + 1) (2 ^ (g.val + 1)) : ℕ) : ℤ) := by
  have e : IntOp.addi (IntOp.addi (Scalar.muli (Scf.iv 0#32 1#32 k.val) 1024#32) (BitVec.ofNat 32 q.val)) 1#32
      = BitVec.ofNat 32 (1024 * k.val + q.val + 1) := by
    apply BitVec.eq_of_toNat_eq
    simp [IntOp.addi, Scalar.muli, IntOp.muli, Scf.iv]
    omega
  have e2 : Scalar.shli (2#32) (BitVec.ofNat 32 g.val) = BitVec.ofNat 32 (2 ^ (g.val + 1)) := by
    revert g; decide
  rw [e, e2]
  have h2 : 2 ^ (g.val + 1) ≤ 16 := by revert g; decide
  have hn : (1024 * k.val + q.val + 1) < 4097 := by omega
  generalize 1024 * k.val + q.val + 1 = n at hn
  generalize 2 ^ (g.val + 1) = p at h2
  unfold IntOp.minsi
  have t1 : (BitVec.ofNat 32 n).toInt = n := by rw [BitVec.toInt_eq_toNat_of_lt] <;> simp <;> omega
  have t2 : (BitVec.ofNat 32 p).toInt = p := by rw [BitVec.toInt_eq_toNat_of_lt] <;> simp <;> omega
  simp only [BitVec.slt, t1, t2]
  split <;> simp_all <;> omega

/-- The window's length at row `1024 k + q`. -/
theorem len_block (g : Fin 4) (k : Fin k0_t2_loop.trips) (q : Fin 1024) :
    k0_pay13 (F := Ideal) (BitVec.ofNat 32 g) 0#32 1#32 k (ix2 q 0) = (len g (1024 * k.val + q.val) : EReal) := by
  pointwise [k0_pay13]
  exact congrArg (fun z : ℤ => ((z : ℝ) : EReal)) (len_word g (k.cast trips2) q)

/-- Rows added to the rows `2 ^ g` before them, round and round. -/
abbrev down (b : BitVec 32) (v : FVec Ideal S1040x128 .f32) : FVec Ideal S1040x128 .f32 :=
  addf v (dynamicRotate 0 b none v rotates_S1040x128_d0)

theorem down_1 (v : FVec Ideal S1040x128 .f32) (l : Fin 128) (n : ℕ) (hn : n < 1040) (h : 1 ≤ n) :
    column (down 1#32 v) l n = column v l n + column v l (n - 1) := by
  unfold column
  pointwise
  exact congrArg₂ _ rfl (column_of _ _ _ _ (by dsimp only; omega))

theorem down_2 (v : FVec Ideal S1040x128 .f32) (l : Fin 128) (n : ℕ) (hn : n < 1040) (h : 2 ≤ n) :
    column (down 2#32 v) l n = column v l n + column v l (n - 2) := by
  unfold column
  pointwise
  exact congrArg₂ _ rfl (column_of _ _ _ _ (by dsimp only; omega))

theorem down_4 (v : FVec Ideal S1040x128 .f32) (l : Fin 128) (n : ℕ) (hn : n < 1040) (h : 4 ≤ n) :
    column (down 4#32 v) l n = column v l n + column v l (n - 4) := by
  unfold column
  pointwise
  exact congrArg₂ _ rfl (column_of _ _ _ _ (by dsimp only; omega))

theorem down_8 (v : FVec Ideal S1040x128 .f32) (l : Fin 128) (n : ℕ) (hn : n < 1040) (h : 8 ≤ n) :
    column (down 8#32 v) l n = column v l n + column v l (n - 8) := by
  unfold column
  pointwise
  exact congrArg₂ _ rfl (column_of _ _ _ _ (by dsimp only; omega))

/-- The rows a group selects, of the sums over 2, 4, 8 and 16 rows. -/
def chosen (a b c d : BitVec 32) (v : FVec Ideal S1040x128 .f32) (g : Fin 4) : FVec Ideal S1040x128 .f32 :=
  match g with
  | 0 => down a v
  | 1 => down b (down a v)
  | 2 => down c (down b (down a v))
  | 3 => down d (down c (down b (down a v)))

/-- The windowed sums back, by rotation. -/
theorem chosen_back (v : FVec Ideal S1040x128 .f32) (l : Fin 128) (g : Fin 4) (n : ℕ) (hn : n < 1040) (h : 16 ≤ n) :
    column (chosen 1#32 2#32 4#32 8#32 v g) l n = back (g + 1) (column v l) n := by
  have h1 : ∀ n, n < 1040 → 1 ≤ n → column (down 1#32 v) l n = back 1 (column v l) n := fun n hn h => down_1 v l n hn h
  have h2 : ∀ n, n < 1040 → 3 ≤ n → column (down 2#32 (down 1#32 v)) l n = back 2 (column v l) n := fun n hn h =>
    (down_2 _ l n hn (by omega)).trans (congrArg₂ _ (h1 n hn (by omega)) (h1 (n - 2) (by omega) (by omega)))
  have h3 : ∀ n, n < 1040 → 7 ≤ n → column (down 4#32 (down 2#32 (down 1#32 v))) l n = back 3 (column v l) n := fun n hn h =>
    (down_4 _ l n hn (by omega)).trans (congrArg₂ _ (h2 n hn (by omega)) (h2 (n - 4) (by omega) (by omega)))
  fin_cases g
  · exact h1 n hn (by omega)
  · exact h2 n hn (by omega)
  · exact h3 n hn (by omega)
  · exact (down_8 _ l n hn (by omega)).trans (congrArg₂ _ (h3 n hn (by omega)) (h3 (n - 8) (by omega) (by omega)))

/-- The mean over the windows, less the rows. -/
def meanLess (cnt : FVec Ideal S1024x1 .f32) (v y : FVec Ideal S1040x128 .f32) : FVec Ideal S1024x128 .bf16 :=
  truncf .bf16 (subf (divf (extractStridedSlice S1024x128 ![16, 0] y slices_S1040x128_o16_0_S1024x128) (broadcastTo S1024x128 cnt broadcasts_S1024x1_S1024x128))
    (extractStridedSlice S1024x128 ![16, 0] v slices_S1040x128_o16_0_S1024x128)) bitsLt_bf16_f32

theorem pay14_eq (g : Fin 4) (k : Fin k0_t2_loop.trips) (v : FVec Ideal S1040x128 .f32) :
    k0_pay14 (F := Ideal) (BitVec.ofNat 32 g) 0#32 1#32 k v
      = meanLess (k0_pay13 (F := Ideal) (BitVec.ofNat 32 g) 0#32 1#32 k) v (chosen 1#32 2#32 4#32 8#32 v g) := by
  fin_cases g <;> rfl

/-- A trip's pooled rows. -/
theorem pooled_block (g : Fin 4) (k : Fin k0_t2_loop.trips) (v : FVec Ideal S1040x128 .f32) (q : Fin 1024) (l : Fin 128) :
    k0_pay14 (F := Ideal) (BitVec.ofNat 32 g) 0#32 1#32 k v (ix2 q l)
      = Ideal.div (back (g + 1) (column v l) (16 + q)) (len g (1024 * k.val + q.val)) - column v l (16 + q) := by
  have hq := q.isLt
  rw [← len_block, pay14_eq, ← chosen_back v l g (16 + q) (by omega) (by omega)]
  generalize chosen 1#32 2#32 4#32 8#32 v g = y
  pointwise [meanLess]
  exact congrArg₂ _ (congrArg₂ _ (column_of _ _ _ _ (by dsimp only; omega)) rfl) (column_of _ _ _ _ (by dsimp only; omega))

/-- The pooled rows' gradient, a trip. -/
theorem dPool_block (w : FVec Ideal S1x128x128 .f32) (s : FVec Ideal S1x128 .f32) (ct : FVec Ideal S1024x128 .f32) (q : Fin 1024) (l : Fin 128) :
    k0_pay9 (F := Ideal) w s ct (ix2 q l) = ∑ j : Fin 128, ct (ix2 q j) * s (ix2 0 j) * w (ix3 0 l j) := by
  pointwise [k0_pay9, k0_pay7, k0_pay6]

theorem up_1 (v : FVec Ideal S1040x128 .f32) (l : Fin 128) (n : ℕ) (hn : n + 1 < 1040) :
    column (down 1039#32 v) l n = column v l n + column v l (n + 1) := by
  unfold column
  pointwise
  exact congrArg₂ _ rfl (column_of _ _ _ _ (by dsimp only; omega))

theorem up_2 (v : FVec Ideal S1040x128 .f32) (l : Fin 128) (n : ℕ) (hn : n + 2 < 1040) :
    column (down 1038#32 v) l n = column v l n + column v l (n + 2) := by
  unfold column
  pointwise
  exact congrArg₂ _ rfl (column_of _ _ _ _ (by dsimp only; omega))

theorem up_4 (v : FVec Ideal S1040x128 .f32) (l : Fin 128) (n : ℕ) (hn : n + 4 < 1040) :
    column (down 1036#32 v) l n = column v l n + column v l (n + 4) := by
  unfold column
  pointwise
  exact congrArg₂ _ rfl (column_of _ _ _ _ (by dsimp only; omega))

theorem up_8 (v : FVec Ideal S1040x128 .f32) (l : Fin 128) (n : ℕ) (hn : n + 8 < 1040) :
    column (down 1032#32 v) l n = column v l n + column v l (n + 8) := by
  unfold column
  pointwise
  exact congrArg₂ _ rfl (column_of _ _ _ _ (by dsimp only; omega))

/-- The windowed sums ahead, by rotation. -/
theorem chosen_ahead (v : FVec Ideal S1040x128 .f32) (l : Fin 128) (g : Fin 4) (n : ℕ) (hn : n < 1024) :
    column (chosen 1039#32 1038#32 1036#32 1032#32 v g) l n = ahead (g + 1) (column v l) n := by
  have h1 : ∀ n, n < 1039 → column (down 1039#32 v) l n = ahead 1 (column v l) n := fun n hn => up_1 v l n (by omega)
  have h2 : ∀ n, n < 1037 → column (down 1038#32 (down 1039#32 v)) l n = ahead 2 (column v l) n := fun n hn =>
    (up_2 _ l n (by omega)).trans (congrArg₂ _ (h1 n (by omega)) (h1 (n + 2) (by omega)))
  have h3 : ∀ n, n < 1033 → column (down 1036#32 (down 1038#32 (down 1039#32 v))) l n = ahead 3 (column v l) n := fun n hn =>
    (up_4 _ l n (by omega)).trans (congrArg₂ _ (h2 n (by omega)) (h2 (n + 4) (by omega)))
  fin_cases g
  · exact h1 n (by omega)
  · exact h2 n (by omega)
  · exact h3 n (by omega)
  · exact (up_8 _ l n (by omega)).trans (congrArg₂ _ (h3 n (by omega)) (h3 (n + 8) (by omega)))

/-- The sums less the pooled rows' gradient. -/
def sumLess (y : FVec Ideal S1040x128 .f32) (d : FVec Ideal S1024x128 .f32) : FVec Ideal S1024x128 .bf16 :=
  truncf .bf16 (subf (extractStridedSlice S1024x128 ![0, 0] y slices_S1040x128_o0_0_S1024x128) d) bitsLt_bf16_f32

theorem pay12_eq (i : grid0.Coords) (z : FVec Ideal S1040x128 .f32) (d : FVec Ideal S1024x128 .f32) :
    k0_pay12 (F := Ideal) i z d = sumLess (chosen 1039#32 1038#32 1036#32 1032#32 z (i 0)) d := by
  unfold k0_pay12
  dsimp only
  generalize (i 0) = g
  revert g
  intro (g : Fin 4)
  fin_cases g <;> rfl

/-- The windowed sums ahead, a trip. -/
theorem du_block (i : grid0.Coords) (z : FVec Ideal S1040x128 .f32) (d : FVec Ideal S1024x128 .f32) (q : Fin 1024) (l : Fin 128) :
    k0_pay12 (F := Ideal) i z d (ix2 q l) = ahead ((i 0).val + 1) (column z l) q - d (ix2 q l) := by
  have hq := q.isLt
  rw [pay12_eq, ← chosen_ahead z l (i 0) q hq]
  generalize chosen 1039#32 1038#32 1036#32 1032#32 z (i 0) = y
  pointwise [sumLess]
  exact congrArg₂ _ (column_of _ _ _ _ (by dsimp only; omega)) rfl

/-! ## The whole block -/

theorem off1_eq (k : Fin k0_t1_loop.trips) : k0_off1 k = ![1024 * k.val, 0] := by revert k; decide +kernel
theorem off3_eq (k : Fin k0_t2_loop.trips) : k0_off3 k = ![1024 * k.val, 0] := by revert k; decide +kernel
theorem off6_eq (k : Fin k0_t3_loop.trips) : k0_off6 k = ![1024 * k.val, 0] := by revert k; decide +kernel

theorem trips1 : k0_t1_loop.trips = 4 := by decide
theorem trips3 : k0_t3_loop.trips = 4 := by decide

/-- A window of rows, read in a row. -/
theorem window_apply {α : Type} {N B : ℕ} {off : Fin 2 → ℕ} (b : ℕ) (hoff : off = ![b, 0]) (x : (⟨2, ![N, 128]⟩ : Shape).Idx → α) (inb : ∀ a, off a + (![B, 128] : Fin 2 → ℕ) a ≤ (⟨2, ![N, 128]⟩ : Shape).size a) (q : Fin B) (l : Fin 128) (h : b + q.val < N) :
    VecWindow.window x off ![B, 128] inb (ix2 q l) = x (ix2 ⟨b + q.val, h⟩ l) := by
  subst hoff
  refine congrArg x (funext fun a => Fin.ext ?_)
  match a with
  | 0 => show b + 1 * q.val = b + q.val; omega
  | 1 => show 0 + 1 * l.val = l.val; omega

/-- Row `1024 k + q`. -/
abbrev row (k : Fin 4) (q : Fin 1024) : Fin 4096 := ⟨1024 * k.val + q.val, by omega⟩

theorem pay2_eq (v : FVec Ideal S1024x128 .f32) : k0_pay2 (F := Ideal) v = v := by
  funext i; rw [eq_ix2 i]
  pointwise [k0_pay2]

theorem pay10_eq (w : FVec Ideal S1x128x128 .f32) (s : FVec Ideal S1x128 .f32) (ct : FVec Ideal S1024x128 .f32) :
    k0_pay10 (F := Ideal) w s ct = k0_pay9 w s ct := by
  funext i; rw [eq_ix2 i]
  unfold k0_pay10
  generalize k0_pay9 (F := Ideal) w s ct = y
  pointwise

theorem pay11_apply (w : FVec Ideal S1x128x128 .f32) (s : FVec Ideal S1x128 .f32) (cnt : FVec Ideal S1024x1 .f32) (ct : FVec Ideal S1024x128 .f32) (q : Fin 1024) (l : Fin 128) :
    k0_pay11 (F := Ideal) w s cnt ct (ix2 q l) = Ideal.div (k0_pay9 (F := Ideal) w s ct (ix2 q l)) (cnt (ix2 q 0)) := by
  unfold k0_pay11
  generalize k0_pay9 (F := Ideal) w s ct = y
  pointwise

theorem zeros_apply {s : Shape} (i : s.Idx) : zeros (F := Ideal) s .f32 i = 0 := by
  show Ideal.ofBits .f32 0 = 0
  simp [Ideal.ofBits, Ideal.ieee]

/-- The padded block's columns. -/
theorem padded_apply (x : FVec Ideal S4096x128 .f32) (a : Fin 4112) (l : Fin 128) : padded (F := Ideal) x (ix2 a l) = behind x l a := by
  have ha := a.isLt
  unfold padded behind
  by_cases h : 16 ≤ a.val
  · rw [dif_pos ⟨h, by omega⟩]
    have hk : (a.val - 16) / 1024 < k0_t1_loop.trips := by rw [trips1]; omega
    refine (iter_put_in off2_eq _ _ _ ⟨(a.val - 16) / 1024, hk⟩ hk le_rfl _ ⟨(a.val - 16) % 1024, Nat.mod_lt _ (by decide)⟩ (by show a.val = 16 + 1024 * ((a.val - 16) / 1024) + (a.val - 16) % 1024; omega)).trans ?_
    refine (congrFun (pay2_eq _) _).trans ?_
    refine (window_apply _ (off1_eq _) x _ _ _ (by dsimp only; omega)).trans (congrArg (fun r => x (ix2 r l)) (Fin.ext ?_))
    dsimp only; omega
  · rw [dif_neg (by omega)]
    refine (iter_put_out off2_eq _ _ _ le_rfl _ (Or.inl (by show a.val < 16; omega))).trans ?_
    exact zeros_apply _

/-- A trip's rows of the padded block, their windowed sums. -/
theorem back_rows (x : FVec Ideal S4096x128 .f32) (k : Fin k0_t2_loop.trips) (g : Fin 4) (q : Fin 1024) (l : Fin 128) :
    back (g + 1) (column (padRows (F := Ideal) (padded x) k) l) (16 + q) = back (g + 1) (behind x l) (16 + (1024 * k.val + q.val)) := by
  have hq := q.isLt
  have hk : k.val < 4 := lt_of_lt_of_eq k.isLt trips2
  have hp : 2 ^ (g.val + 1) ≤ 16 := by revert g; decide
  refine back_congr _ _ _ (by omega) (by omega) fun a ha => ?_
  have hm : (16 + q.val - a) % 1040 = 16 + q.val - a := Nat.mod_eq_of_lt (by omega)
  refine (window_apply _ (off3_eq k) _ _ ⟨(16 + q.val - a) % 1040, by omega⟩ l (by dsimp only; omega)).trans ((padded_apply x _ l).trans (congrArg _ ?_))
  dsimp only; omega

theorem pooled_row (x : FVec Ideal S4096x128 .f32) (k : Fin k0_t2_loop.trips) (g : Fin 4) (q : Fin 1024) (l : Fin 128) :
    k0_pay14 (F := Ideal) (BitVec.ofNat 32 g) 0#32 1#32 k (padRows (padded x) k) (ix2 q l) = pooled g x (row (k.cast trips2) q) l := by
  have hq := q.isLt
  have hk : k.val < 4 := lt_of_lt_of_eq k.isLt trips2
  rw [pooled_block, back_rows]
  refine congrArg₂ _ rfl ?_
  have hm : (16 + q.val) % 1040 = 16 + q.val := Nat.mod_eq_of_lt (by omega)
  refine (window_apply _ (off3_eq k) _ _ ⟨(16 + q.val) % 1040, by omega⟩ l (by dsimp only; omega)).trans ((padded_apply x _ l).trans ?_)
  unfold behind
  rw [dif_pos (by dsimp only; omega)]
  exact congrArg (fun r => x (ix2 r l)) (Fin.ext (by dsimp only; show _ = 1024 * k.val + q.val; omega))

theorem ctRows_apply (ct : FVec Ideal S4096x128 .f32) (k : Fin k0_t2_loop.trips) (q : Fin 1024) (l : Fin 128) :
    ctRows (F := Ideal) ct k (ix2 q l) = ct (ix2 (row (k.cast trips2) q) l) := by
  have hk : k.val < 4 := lt_of_lt_of_eq k.isLt trips2
  refine (window_apply (1024 * k.val) ((off4_eq k).trans (by rw [Nat.zero_add])) ct _ q l (by omega))

/-- The weight's gradient. -/
theorem dwOut_apply (g : Fin 4) (s : FVec Ideal S1x128 .f32) (ct x : FVec Ideal S4096x128 .f32) (l j : Fin 128) :
    dwOut (F := Ideal) (BitVec.ofNat 32 g) s ct x (ix3 0 l j) = dw g s ct x l j := by
  refine (iter_sum _ (fun k : Fin k0_t2_loop.trips => ∑ q : Fin 1024, pooled g x (row (k.cast trips2) q) l * (ct (ix2 (row (k.cast trips2) q) j) * s (ix2 0 j)))
    (fun a : FVec Ideal S1x128x128 .f32 => (a (ix3 0 l j) : EReal)) (fun k a => ?_) _).trans ?_
  · simp only [← pooled_row, ← ctRows_apply]
    show k0_pay8 (F := Ideal) s (k0_pay14 (BitVec.ofNat 32 g) 0#32 1#32 k (padRows (padded x) k)) (ctRows ct k) a (ix3 0 l j) = _
    generalize k0_pay14 (F := Ideal) (BitVec.ofNat 32 g) 0#32 1#32 k (padRows (padded x) k) = p
    generalize ctRows (F := Ideal) ct k = d
    pointwise [k0_pay8, k0_pay7]
  · refine (congrArg₂ _ (by pointwise [k0_pay4]) rfl).trans ((zero_add _).trans ?_)
    rw [← (finCongr trips2).symm.sum_comp]
    exact Fin.sum_mul_add_congr fun k q hl => by
      have e : row k q = ⟨k.val * 1024 + q.val, hl⟩ := Fin.ext (by dsimp only; omega)
      rw [← e]; rfl

/-- The scale's gradient. -/
theorem dsOut_apply (g : Fin 4) (w : FVec Ideal S1x128x128 .f32) (ct x : FVec Ideal S4096x128 .f32) (j : Fin 128) :
    dsOut (F := Ideal) (BitVec.ofNat 32 g) w ct x (ix2 0 j) = ds g w ct x j := by
  refine (iter_sum _ (fun k : Fin k0_t2_loop.trips => ∑ q : Fin 1024, ct (ix2 (row (k.cast trips2) q) j) * ∑ l : Fin 128, pooled g x (row (k.cast trips2) q) l * w (ix3 0 l j))
    (fun a : FVec Ideal S1x128 .f32 => (a (ix2 0 j) : EReal)) (fun k a => ?_) _).trans ?_
  · simp only [← pooled_row, ← ctRows_apply]
    show k0_pay15 (F := Ideal) (BitVec.ofNat 32 g) (k0_pay6 w) 0#32 1#32 k (padRows (padded x) k) (ctRows ct k) a (ix2 0 j) = _
    unfold k0_pay15
    generalize k0_pay14 (F := Ideal) (BitVec.ofNat 32 g) 0#32 1#32 k (padRows (padded x) k) = p
    generalize ctRows (F := Ideal) ct k = d
    pointwise [k0_pay6]
  · refine (congrArg₂ _ (by pointwise [k0_pay5]) rfl).trans ((zero_add _).trans ?_)
    rw [← (finCongr trips2).symm.sum_comp]
    exact Fin.sum_mul_add_congr fun k q hl => by
      have e : row k q = ⟨k.val * 1024 + q.val, hl⟩ := Fin.ext (by dsimp only; omega)
      rw [← e]; rfl

/-- The pooled rows' gradient, a trip. -/
theorem dPool_row (w : FVec Ideal S1x128x128 .f32) (s : FVec Ideal S1x128 .f32) (ct : FVec Ideal S4096x128 .f32) (k : Fin k0_t2_loop.trips) (q : Fin 1024) (l : Fin 128) :
    k0_pay9 (F := Ideal) w s (ctRows ct k) (ix2 q l) = dPool w s ct (row (k.cast trips2) q) l := by
  refine (dPool_block w s _ q l).trans ?_
  simp only [ctRows_apply]
  rfl

theorem dPooled_apply (w : FVec Ideal S1x128x128 .f32) (s : FVec Ideal S1x128 .f32) (ct : FVec Ideal S4096x128 .f32) (r : Fin 4096) (l : Fin 128) :
    dPooled (F := Ideal) w s ct (ix2 r l) = dPool w s ct r l := by
  have hr := r.isLt
  have hk : r.val / 1024 < k0_t2_loop.trips := by rw [trips2]; omega
  refine (iter_put_in off4_eq _ _ _ ⟨r.val / 1024, hk⟩ hk le_rfl _ ⟨r.val % 1024, Nat.mod_lt _ (by decide)⟩ (by show r.val = 0 + 1024 * (r.val / 1024) + r.val % 1024; omega)).trans ?_
  refine (congrFun (pay10_eq _ _ _) _).trans ?_
  refine (dPool_row w s ct _ _ _).trans (congrArg (fun r => dPool w s ct r l) (Fin.ext ?_))
  show 1024 * (r.val / 1024) + r.val % 1024 = r.val
  omega

theorem quotients_apply (g : Fin 4) (w : FVec Ideal S1x128x128 .f32) (s : FVec Ideal S1x128 .f32) (ct : FVec Ideal S4096x128 .f32) (a : Fin 4112) (l : Fin 128) :
    quotients (F := Ideal) (BitVec.ofNat 32 g) w s ct (ix2 a l) = quot g w s ct l a := by
  have ha := a.isLt
  unfold quotients quot
  by_cases h : a.val < 4096
  · rw [dif_pos h]
    have hk : a.val / 1024 < k0_t2_loop.trips := by rw [trips2]; omega
    refine (iter_put_in off5_eq _ _ _ ⟨a.val / 1024, hk⟩ hk le_rfl _ ⟨a.val % 1024, Nat.mod_lt _ (by decide)⟩ (by show a.val = 0 + 1024 * (a.val / 1024) + a.val % 1024; omega)).trans ?_
    refine (pay11_apply _ _ _ _ _ _).trans ?_
    refine congrArg₂ _ ((dPool_row w s ct _ _ _).trans (congrArg (fun r => dPool w s ct r l) (Fin.ext ?_))) ((len_block g _ _).trans (congrArg (fun n => (len g n : EReal)) ?_))
    · show 1024 * (a.val / 1024) + a.val % 1024 = a.val
      omega
    · show 1024 * (a.val / 1024) + a.val % 1024 = a.val
      omega
  · rw [dif_neg h]
    refine (iter_put_out off5_eq _ _ _ le_rfl _ (Or.inr (by show 0 + 1024 * k0_t2_loop.trips ≤ a.val; rw [trips2]; omega))).trans ?_
    exact zeros_apply _

/-- The input's gradient. -/
theorem duOut_apply (i : grid0.Coords) (w : FVec Ideal S1x128x128 .f32) (s : FVec Ideal S1x128 .f32) (ct : FVec Ideal S4096x128 .f32) (r : Fin 4096) (l : Fin 128) :
    duOut (F := Ideal) i w s ct (ix2 r l) = du (i 0).val w s ct r l := by
  have hr := r.isLt
  have hk : r.val / 1024 < k0_t3_loop.trips := by rw [trips3]; omega
  have hg : (i 0).val < 4 := (i 0).isLt
  have hp : 2 ^ ((i 0).val + 1) ≤ 16 := by
    have : ∀ g : Fin 4, 2 ^ (g.val + 1) ≤ 16 := by decide
    exact this (i 0)
  refine (iter_put_in off7_eq _ _ _ ⟨r.val / 1024, hk⟩ hk le_rfl _ ⟨r.val % 1024, Nat.mod_lt _ (by decide)⟩ (by show r.val = 0 + 1024 * (r.val / 1024) + r.val % 1024; omega)).trans ?_
  refine (du_block i _ _ _ _).trans (congrArg₂ (fun a b : EReal => a - b) ?_ ?_)
  · refine ahead_congr _ _ _ fun a ha => ?_
    have hm : (r.val % 1024 + a) % 1040 = r.val % 1024 + a := Nat.mod_eq_of_lt (by omega)
    refine (window_apply _ (off6_eq _) _ _ ⟨(r.val % 1024 + a) % 1040, by omega⟩ l (by dsimp only; omega)).trans ((quotients_apply (i 0) w s ct _ l).trans (congrArg _ ?_))
    dsimp only; omega
  · refine (window_apply (1024 * (r.val / 1024)) ((off7_eq _).trans (by rw [Nat.zero_add])) _ _ _ _ (by dsimp only; omega)).trans ((dPooled_apply w s ct _ l).trans ?_)
    exact congrArg (fun r => dPool w s ct r l) (Fin.ext (by dsimp only; omega))

end Cert.Pool

end
-- ==== Proof.Pool.Array.lean ====
/-
  The pool's backward call: what its three result arrays hold after the run.
-/
module

public import proofs.«01_k».proof.Proof.Pool.Block
public import proofs.«01_k».proof.Proof.Pool.Frame

@[expose] public section

set_option maxRecDepth 16384

noncomputable section

namespace Cert.Pool

open Idealize.ShloMosaic Idealize.ShloMosaic.TcCoe Idealize.SL.Sem
open Cert.PoolKernelIdeal Cert.PoolKernelIdeal.Gen

variable (m : (ℓ : Loc nD τ sig) → Buf (Elt Ideal) ℓ)

/-- The block each window stages at a point: the group's columns, its weight, its scale. -/
theorem idx : ∀ t : Fin cfg0.N, win0_0.index t = ![0, t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val] :=
  (by decide +kernel : ∀ t : Fin grid0.N, _)

/-- The group a point works on is the point. -/
theorem coords : ∀ t : Fin cfg0.N, (grid0.coords t 0).val = t.val := (by decide +kernel : ∀ t : Fin grid0.N, _)

/-- The group of a point. -/
abbrev pt (t : Fin cfg0.N) : Fin 4 := t.cast N_0

theorem iblk_0 (c : Dev nD) (t : Fin cfg0.N) : iblk m c 0 t = groupRows (m ((c : Thread nD τ).loc main_arg0)) (pt t) := by
  have ht : t.val < 4 := lt_of_lt_of_eq t.isLt N_0
  funext i
  blk_point [iblk, V, idx t, groupRows]
  rfl

theorem iblk_1 (c : Dev nD) (t : Fin cfg0.N) : iblk m c 1 t = groupRows (m ((c : Thread nD τ).loc main_arg1)) (pt t) := by
  have ht : t.val < 4 := lt_of_lt_of_eq t.isLt N_0
  funext i
  blk_point [iblk, V, idx t, groupRows]
  rfl

theorem iblk_2 (c : Dev nD) (t : Fin cfg0.N) : iblk m c 2 t = groupWeight (m ((c : Thread nD τ).loc main_arg2)) (pt t) := by
  have ht : t.val < 4 := lt_of_lt_of_eq t.isLt N_0
  funext i
  blk_point [iblk, V, idx t, groupWeight]

theorem iblk_3 (c : Dev nD) (t : Fin cfg0.N) : iblk m c 3 t = groupScale (m ((c : Thread nD τ).loc main_arg3)) (pt t) := by
  have ht : t.val < 4 := lt_of_lt_of_eq t.isLt N_0
  funext i
  blk_point [iblk, V, idx t, groupScale]
  rfl

theorem DU_at (ct : S4096x512.Idx → EReal) (w : S1x4x128x128.Idx → EReal) (s : S1x512.Idx → EReal) (i : S4096x512.Idx) (g : Fin 4) (r : Fin 4096) (l : Fin 128)
    (h0 : (i 0).val = r.val) (h1 : (i 1).val = g.val * 128 + l.val) : DU ct w s i = du g (groupWeight w g) (groupScale s g) (groupRows ct g) r l := by
  have hg : gOf (i 1) = g := Fin.ext (by show (i 1).val / 128 = _; omega)
  have hl : lOf (i 1) = l := Fin.ext (by show (i 1).val % 128 = _; omega)
  have hr : i 0 = r := Fin.ext h0
  unfold DU
  rw [hg, hl, hr]

theorem DS_at (x : S4096x4608.Idx → EReal) (ct : S4096x512.Idx → EReal) (w : S1x4x128x128.Idx → EReal) (i : S1x512.Idx) (g : Fin 4) (l : Fin 128)
    (h1 : (i 1).val = g.val * 128 + l.val) : DS x ct w i = ds g (groupWeight w g) (groupRows ct g) (groupRows x g) l := by
  have hg : gOf (i 1) = g := Fin.ext (by show (i 1).val / 128 = _; omega)
  have hl : lOf (i 1) = l := Fin.ext (by show (i 1).val % 128 = _; omega)
  unfold DS
  rw [hg, hl]

theorem DW_at (x : S4096x4608.Idx → EReal) (ct : S4096x512.Idx → EReal) (s : S1x512.Idx → EReal) (i : S4x128x128.Idx) (g : Fin 4) (l j : Fin 128)
    (h0 : (i 0).val = g.val) (h1 : (i 1).val = l.val) (h2 : (i 2).val = j.val) : DW x ct s i = dw g (groupScale s g) (groupRows ct g) (groupRows x g) l j := by
  have hg : i 0 = g := Fin.ext h0
  have hl : i 1 = l := Fin.ext h1
  have hj : i 2 = j := Fin.ext h2
  unfold DW
  rw [hg, hl, hj]

/-- The input's gradient. -/
theorem final4 (c : Dev nD) : (dats m 0 c).arrAt 4 cfg0.N = DU (m ((c : Thread nD τ).loc main_arg1)) (m ((c : Thread nD τ).loc main_arg2))
    (m ((c : Thread nD τ).loc main_arg3)) := by
  refine (dats m 0 c).arrAt_eq_of_covers 4 _ (by decide +kernel) fun t hf y => ?_
  have ht : t.val < 4 := lt_of_lt_of_eq t.isLt N_0
  blk_simp
  rw [after_4, iblk_1, iblk_2, iblk_3]
  refine ((congrArg _ (eq_ix2 y)).trans (duOut_apply _ _ _ _ _ _)).trans ?_
  rw [coords t]
  exact (DU_at _ _ _ _ (pt t) (y 0) (y 1) (by blk_simp [idx t]) (by blk_simp [idx t]; rfl)).symm

/-- The weight's gradient. -/
theorem final5 (c : Dev nD) : (dats m 0 c).arrAt 5 cfg0.N = DW (m ((c : Thread nD τ).loc main_arg0)) (m ((c : Thread nD τ).loc main_arg1))
    (m ((c : Thread nD τ).loc main_arg3)) := by
  refine (dats m 0 c).arrAt_eq_of_covers 5 _ (by decide +kernel) fun t hf y => ?_
  have ht : t.val < 4 := lt_of_lt_of_eq t.isLt N_0
  have h0 : (y 0).val < 1 := (y 0).isLt
  blk_simp
  rw [after_5, iblk_1, iblk_0, iblk_3]
  have e : group t = BitVec.ofNat 32 (pt t).val := congrArg _ (coords t)
  have e0 : y 0 = (0 : Fin 1) := Fin.ext (by show (y 0).val = 0; omega)
  rw [e]
  refine ((congrArg _ ((eq_ix3 y).trans (congrArg (fun a => ix3 a (y 1) (y 2)) e0))).trans (dwOut_apply _ _ _ _ _ _)).trans ?_
  exact (DW_at _ _ _ _ (pt t) (y 1) (y 2) (by blk_simp [idx t]; show _ = t.val; omega) (by blk_simp [idx t]) (by blk_simp [idx t])).symm

/-- The scale's gradient. -/
theorem final6 (c : Dev nD) : (dats m 0 c).arrAt 6 cfg0.N = DS (m ((c : Thread nD τ).loc main_arg0)) (m ((c : Thread nD τ).loc main_arg1))
    (m ((c : Thread nD τ).loc main_arg2)) := by
  refine (dats m 0 c).arrAt_eq_of_covers 6 _ (by decide +kernel) fun t hf y => ?_
  have ht : t.val < 4 := lt_of_lt_of_eq t.isLt N_0
  have h0 : (y 0).val < 1 := (y 0).isLt
  blk_simp
  rw [after_6, iblk_1, iblk_0, iblk_2]
  have e : group t = BitVec.ofNat 32 (pt t).val := congrArg _ (coords t)
  have e0 : y 0 = (0 : Fin 1) := Fin.ext (by show (y 0).val = 0; omega)
  rw [e]
  refine ((congrArg _ ((eq_ix2 y).trans (congrArg (fun a => ix2 a (y 1)) e0))).trans (dsOut_apply _ _ _ _ _)).trans ?_
  exact (DS_at _ _ _ _ (pt t) (y 1) (by blk_simp [idx t]; rfl)).symm

/-- Every run of the kernel: its three results, its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v1_0) = (dats m 0 c).arrAt 4 cfg0.N
    ∧ r.2.mem ((c : Thread nD τ).loc main_v1_1) = (dats m 0 c).arrAt 5 cfg0.N
    ∧ r.2.mem ((c : Thread nD τ).loc main_v1_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  exact (θ_run defs _ _).mono (fun r h c => ⟨(h.1.1 c).1 4, (h.1.1 c).1 5, (h.1.1 c).1 6, h.2.1 c⟩) (θ_run_and (run_main m ρ) (frame m ρ))

end Cert.Pool

end
-- ==== Proof.Pool.Scan.lean ====
/-
  Windowed sums as differences of running sums: over the reals, a sum over the window that ends (or
  starts) at a row is the difference of two running sums.
-/
module

public import proofs.«01_k».proof.Proof.Pool.Spec

@[expose] public section

noncomputable section

namespace Cert.Pool

open Idealize.ShloMosaic Cert.Finite

/-- `back` of reals. -/
def backR : ℕ → (ℕ → ℝ) → ℕ → ℝ
  | 0, x, n => x n
  | g + 1, x, n => backR g x n + backR g x (n - 2 ^ g)

/-- `ahead` of reals. -/
def aheadR : ℕ → (ℕ → ℝ) → ℕ → ℝ
  | 0, x, n => x n
  | g + 1, x, n => aheadR g x n + aheadR g x (n + 2 ^ g)

theorem back_coe (g : ℕ) (x : ℕ → ℝ) (n : ℕ) : back g (fun m => (x m : EReal)) n = (backR g x n : EReal) := by
  induction g generalizing n with
  | zero => rfl
  | succ g ih => exact (congrArg₂ _ (ih _) (ih _)).trans (EReal.coe_add _ _).symm

theorem ahead_coe (g : ℕ) (x : ℕ → ℝ) (n : ℕ) : ahead g (fun m => (x m : EReal)) n = (aheadR g x n : EReal) := by
  induction g generalizing n with
  | zero => rfl
  | succ g ih => exact (congrArg₂ _ (ih _) (ih _)).trans (EReal.coe_add _ _).symm

/-- The running sum up to row `n`. -/
def upTo (x : ℕ → ℝ) (n : ℕ) : ℝ := ∑ m ∈ Finset.range (n + 1), x m

theorem backR_eq (g : ℕ) (x : ℕ → ℝ) (n : ℕ) (h : 2 ^ g ≤ n) : backR g x n = upTo x n - upTo x (n - 2 ^ g) := by
  induction g generalizing n with
  | zero =>
    obtain ⟨k, rfl⟩ : ∃ k, n = k + 1 := ⟨n - 1, by simp at h; omega⟩
    show x (k + 1) = upTo x (k + 1) - upTo x (k + 1 - 1)
    unfold upTo
    rw [Finset.sum_range_succ _ (k + 1), Nat.add_sub_cancel]
    ring
  | succ g ih =>
    have hp := Nat.two_pow_pos g
    rw [Nat.pow_succ] at h
    show backR g x n + backR g x (n - 2 ^ g) = _
    rw [ih n (by omega), ih (n - 2 ^ g) (by omega), Nat.sub_sub, show 2 ^ g + 2 ^ g = 2 ^ (g + 1) by rw [Nat.pow_succ]; omega]
    ring

/-- The sum of the `N` rows from row `n` on. -/
def from_ (N : ℕ) (x : ℕ → ℝ) (n : ℕ) : ℝ := ∑ m ∈ Finset.range N, x (n + m)

theorem aheadR_eq (N : ℕ) (g : ℕ) (x : ℕ → ℝ) (hx : ∀ n, N ≤ n → x n = 0) (n : ℕ) : aheadR g x n = from_ N x n - from_ N x (n + 2 ^ g) := by
  induction g generalizing n with
  | zero =>
    show x n = from_ N x n - from_ N x (n + 1)
    have h1 := Finset.sum_range_succ (fun m => x (n + m)) N
    have h2 := Finset.sum_range_succ' (fun m => x (n + m)) N
    have h3 : x (n + N) = 0 := hx _ (by omega)
    have h4 : ∀ m, x (n + (m + 1)) = x (n + 1 + m) := fun m => congrArg x (by omega)
    simp only [h3, h4, Nat.add_zero] at h1 h2
    unfold from_
    linarith
  | succ g ih =>
    show aheadR g x n + aheadR g x (n + 2 ^ g) = _
    rw [ih n, ih (n + 2 ^ g), Nat.add_assoc, show 2 ^ g + 2 ^ g = 2 ^ (g + 1) by rw [Nat.pow_succ]; omega]
    ring

/-- A left fold of additions. -/
theorem foldl_add {n : ℕ} (f : Fin n → EReal) (v : EReal) : (List.finRange n).foldl (fun r k => r + f k) v = v + ∑ k, f k := by
  rw [Fin.sum_univ_def]
  generalize List.finRange n = l
  induction l generalizing v with
  | nil => exact (add_zero v).symm
  | cons a l ih => rw [List.foldl_cons, ih, List.map_cons, List.sum_cons, add_assoc]

/-- The positions of a window over the rows alone. -/
def rowWindow : Fin 4096 ≃ (⟨4, ![1, 4096, 1, 1]⟩ : Shape).Idx where
  toFun k := ix4 0 k 0 0
  invFun i := i 1
  left_inv _ := rfl
  right_inv i := by
    funext a
    match a with
    | 0 => exact Fin.ext (by have h : (i 0).val < 1 := (i 0).isLt; show 0 = (i 0).val; omega)
    | 1 => rfl
    | 2 => exact Fin.ext (by have h : (i 2).val < 1 := (i 2).isLt; show 0 = (i 2).val; omega)
    | 3 => exact Fin.ext (by have h : (i 3).val < 1 := (i 3).isLt; show 0 = (i 3).val; omega)

/-- A windowed sum over rows, its window's positions in turn. -/
theorem reduceWindow_rows (lo hi : Fin 4 → ℕ) (x : (⟨4, ![1, 4096, 4, 128]⟩ : Shape).Idx → EReal) (h) (r : Fin 4096) (g : Fin 4) (l : Fin 128)
    (h0 : lo 0 = 0) (h2 : lo 2 = 0) (h3 : lo 3 = 0) :
    Ideal.hostReduceWindowAdd (s := ⟨4, ![1, 4096, 4, 128]⟩) (t := ⟨4, ![1, 4096, 4, 128]⟩) ![1, 4096, 1, 1] ![1, 1, 1, 1] lo hi h x 0 (ix4 0 r g l)
      = ∑ k : Fin 4096, if h : lo 1 ≤ r.val + k.val ∧ r.val + k.val - lo 1 < 4096 then x (ix4 0 ⟨r.val + k.val - lo 1, h.2⟩ g l) else 0 := by
  refine (foldl_add _ _).trans ((zero_add _).trans ?_)
  refine ((rowWindow.trans (Shape.rowMajor _)).sum_comp _).symm.trans (Finset.sum_congr rfl fun k _ => ?_)
  simp only [Equiv.trans_apply, Equiv.symm_apply_apply]
  have p0 : ((ix4 (0 : Fin 1) r g l) 0).val * 1 + (rowWindow k 0).val = 0 := rfl
  by_cases hk : lo 1 ≤ r.val + k.val ∧ r.val + k.val - lo 1 < 4096
  · rw [dif_pos hk]
    refine (dif_pos fun a => ?_).trans (congrArg x (funext fun a => Fin.ext ?_))
    · match a with
      | 0 => exact ⟨by rw [h0]; exact Nat.zero_le _, by rw [h0]; exact Nat.zero_lt_one⟩
      | 1 => exact ⟨by show lo 1 ≤ r.val * 1 + k.val; omega, by show r.val * 1 + k.val - lo 1 < 4096; omega⟩
      | 2 => exact ⟨by rw [h2]; exact Nat.zero_le _, by rw [h2]; show g.val * 1 + 0 - 0 < 4; omega⟩
      | 3 => exact ⟨by rw [h3]; exact Nat.zero_le _, by rw [h3]; show l.val * 1 + 0 - 0 < 128; omega⟩
    · match a with
      | 0 => show 0 * 1 + 0 - lo 0 = 0; rw [h0]
      | 1 => show r.val * 1 + k.val - lo 1 = r.val + k.val - lo 1; omega
      | 2 => show g.val * 1 + 0 - lo 2 = g.val; omega
      | 3 => show l.val * 1 + 0 - lo 3 = l.val; omega
  · rw [dif_neg hk]
    refine dif_neg fun ha => hk ?_
    have h1 : lo 1 ≤ r.val * 1 + k.val ∧ r.val * 1 + k.val - lo 1 < 4096 := ha 1
    exact ⟨by omega, by omega⟩

/-- Rows of reals, zero beyond the last. -/
def rows (f : Fin 4096 → ℝ) (n : ℕ) : ℝ := if h : n < 4096 then f ⟨n, h⟩ else 0

theorem rows_of (f : Fin 4096 → ℝ) (r : Fin 4096) : rows f r = f r := dif_pos r.isLt

/-- The windows that end at a row: the running sum. -/
theorem reduceWindow_down (x : (⟨4, ![1, 4096, 4, 128]⟩ : Shape).Idx → EReal) (h) (r : Fin 4096) (g : Fin 4) (l : Fin 128) (f : Fin 4096 → ℝ)
    (hf : ∀ r, x (ix4 0 r g l) = (f r : EReal)) :
    Ideal.hostReduceWindowAdd (s := ⟨4, ![1, 4096, 4, 128]⟩) (t := ⟨4, ![1, 4096, 4, 128]⟩) ![1, 4096, 1, 1] ![1, 1, 1, 1] ![0, 4095, 0, 0] ![0, 0, 0, 0] h x 0 (ix4 0 r g l)
      = (upTo (rows f) r : EReal) := by
  refine (reduceWindow_rows _ _ x h r g l rfl rfl rfl).trans ?_
  have e : ∀ k : Fin 4096, (if h : 4095 ≤ r.val + k.val ∧ r.val + k.val - 4095 < 4096 then x (ix4 0 ⟨r.val + k.val - 4095, h.2⟩ g l) else 0)
      = ((if 4095 ≤ r.val + k.val then rows f (r.val + k.val - 4095) else 0 : ℝ) : EReal) := fun k => by
    by_cases hk : 4095 ≤ r.val + k.val
    · have hk2 : r.val + k.val - 4095 < 4096 := by omega
      rw [dif_pos ⟨hk, hk2⟩, if_pos hk, hf]
      rw [rows, dif_pos hk2]
    · rw [dif_neg (by omega), if_neg hk]; rfl
  refine (Finset.sum_congr rfl fun k _ => e k).trans ((coe_sum _).symm.trans (congrArg _ ?_))
  rw [Fin.sum_univ_eq_sum_range (fun k => if 4095 ≤ r.val + k then rows f (r.val + k - 4095) else 0) 4096, ← Finset.sum_range_reflect]
  unfold upTo
  rw [← Finset.sum_range_reflect (rows f)]
  have hr := r.isLt
  refine (Finset.sum_subset (Finset.range_subset_range.2 (by omega : r.val + 1 ≤ 4096)) fun k hk hk2 => ?_).symm.trans (Finset.sum_congr rfl fun k hk => ?_)
  · rw [Finset.mem_range] at hk hk2
    exact if_neg (by omega)
  · rw [Finset.mem_range] at hk
    rw [if_pos (by omega)]
    exact congrArg _ (by omega)

/-- The windows that start at a row: the sum of the rows from there on. -/
theorem reduceWindow_up (x : (⟨4, ![1, 4096, 4, 128]⟩ : Shape).Idx → EReal) (h) (r : Fin 4096) (g : Fin 4) (l : Fin 128) (f : Fin 4096 → ℝ)
    (hf : ∀ r, x (ix4 0 r g l) = (f r : EReal)) :
    Ideal.hostReduceWindowAdd (s := ⟨4, ![1, 4096, 4, 128]⟩) (t := ⟨4, ![1, 4096, 4, 128]⟩) ![1, 4096, 1, 1] ![1, 1, 1, 1] ![0, 0, 0, 0] ![0, 4095, 0, 0] h x 0 (ix4 0 r g l)
      = (from_ 4096 (rows f) r : EReal) := by
  refine (reduceWindow_rows _ _ x h r g l rfl rfl rfl).trans ?_
  have e : ∀ k : Fin 4096, (if h : 0 ≤ r.val + k.val ∧ r.val + k.val - 0 < 4096 then x (ix4 0 ⟨r.val + k.val - 0, h.2⟩ g l) else 0)
      = (rows f (r.val + k.val) : EReal) := fun k => by
    by_cases hk : r.val + k.val < 4096
    · rw [dif_pos ⟨Nat.zero_le _, hk⟩, hf]
      rw [rows, dif_pos hk]; rfl
    · rw [dif_neg (by omega)]
      rw [rows, dif_neg hk]; rfl
  refine (Finset.sum_congr rfl fun k _ => e k).trans ((coe_sum _).symm.trans (congrArg _ ?_))
  exact Fin.sum_univ_eq_sum_range (fun k => rows f (r.val + k)) 4096

/-- The word of a window's length. -/
theorem len_host (g : Fin 4) (n : ℕ) (hn : n < 4096) (W : BitVec 32) (hW : W = BitVec.ofNat 32 (2 ^ (g.val + 1))) :
    (FloatOps.sitofp .f32 (IntOp.minsi (IntOp.addi (BitVec.ofNat 32 n) 1#32) W) : Ideal .f32) = (len g n : EReal) := by
  subst hW
  refine congrArg (fun z : ℤ => ((z : ℝ) : EReal)) (?_ : _ = ((min (n + 1) (2 ^ (g.val + 1)) : ℕ) : ℤ))
  have h2 : 2 ^ (g.val + 1) ≤ 16 := by revert g; decide
  generalize 2 ^ (g.val + 1) = p at h2
  have e : IntOp.addi (BitVec.ofNat 32 n) 1#32 = BitVec.ofNat 32 (n + 1) := by
    apply BitVec.eq_of_toNat_eq
    simp [IntOp.addi]
  rw [e]
  unfold IntOp.minsi
  have t1 : (BitVec.ofNat 32 (n + 1)).toInt = (n + 1 : ℕ) := by rw [BitVec.toInt_eq_toNat_of_lt] <;> simp <;> omega
  have t2 : (BitVec.ofNat 32 p).toInt = p := by rw [BitVec.toInt_eq_toNat_of_lt] <;> simp <;> omega
  simp only [BitVec.slt, t1, t2]
  split <;> simp_all <;> omega

theorem len_ne (g n : ℕ) : len g n ≠ 0 := by
  have h : 0 < min (n + 1) (2 ^ (g + 1)) := lt_min (Nat.succ_pos _) (Nat.two_pow_pos _)
  exact Nat.cast_ne_zero.2 h.ne'

/-- A pooled row by a difference of running sums. -/
theorem pooled_real (g : Fin 4) (X : (⟨2, ![4096, 128]⟩ : Shape).Idx → EReal) (r : Fin 4096) (l : Fin 128) (f : Fin 4096 → ℝ)
    (hf : ∀ r, X (ix2 r l) = (f r : EReal)) (W : ℕ) (hW : W = 2 ^ (g.val + 1)) :
    Ideal.div ((upTo (rows f) r : EReal) - if _h : r.val < W then 0 else (upTo (rows f) (r.val - W) : EReal)) (len g r) - X (ix2 r l) = pooled g X r l := by
  subst hW
  have h2 : 2 ^ (g.val + 1) ≤ 16 := by revert g; decide
  let b : ℕ → ℝ := fun n => if 16 ≤ n then rows f (n - 16) else 0
  have hb : behind X l = fun n => (b n : EReal) := by
    funext n
    show behind X l n = ((if 16 ≤ n then rows f (n - 16) else 0 : ℝ) : EReal)
    unfold behind rows
    by_cases h : 16 ≤ n
    · by_cases h' : n - 16 < 4096
      · rw [dif_pos ⟨h, h'⟩, if_pos h, dif_pos h', hf]
      · rw [dif_neg (fun a => h' a.2), if_pos h, dif_neg h']; rfl
    · rw [dif_neg (fun a => h a.1), if_neg h]; rfl
  have lowS : ∀ k, k < 16 → upTo b k = 0 := fun k hk => Finset.sum_eq_zero fun m hm => if_neg (by rw [Finset.mem_range] at hm; omega)
  have hi : ∀ k, upTo b (16 + k) = upTo (rows f) k := fun k => by
    unfold upTo
    rw [Nat.add_assoc, Finset.sum_range_add]
    have h0 : ∑ m ∈ Finset.range 16, b m = 0 := lowS 15 (by omega)
    rw [h0, zero_add]
    exact Finset.sum_congr rfl fun m _ => (if_pos (by omega)).trans (congrArg _ (by omega))
  unfold pooled
  rw [hb, back_coe, backR_eq _ _ _ (by omega), hi]
  refine congrArg₂ _ (congrArg₂ _ ?_ rfl) rfl
  by_cases h : r.val < 2 ^ (g.val + 1)
  · rw [dif_pos h, lowS _ (by omega), sub_zero, sub_zero]
  · rw [dif_neg h, show 16 + r.val - 2 ^ (g.val + 1) = 16 + (r.val - 2 ^ (g.val + 1)) by omega, hi]
    exact (EReal.coe_sub _ _).symm

/-- The row's part of the derivative of the difference of running sums. -/
theorem quot_real (g : Fin 4) (P : Fin 4096 → EReal) (f : Fin 4096 → ℝ) (hf : ∀ r, P r = (f r : EReal)) (r : Fin 4096) (W : ℕ) :
    (Ideal.div (P r) (len g r) + if h : r.val < 4096 - W then -Ideal.div (P ⟨W + r.val, by omega⟩) (len g (W + r.val)) else 0)
      = ((rows (fun r => f r / len g r) r - rows (fun r => f r / len g r) (r.val + W) : ℝ) : EReal) := by
  rw [hf, div_coe_coe _ (len_ne _ _), rows_of]
  by_cases h : r.val < 4096 - W
  · have h' : r.val + W < 4096 := by omega
    have e : rows (fun r => f r / len g r) (r.val + W) = f ⟨W + r.val, by omega⟩ / len g (W + r.val) := by
      rw [rows, dif_pos h']
      simp only [Nat.add_comm]
    rw [dif_pos h, hf, div_coe_coe _ (len_ne _ _), e, ← EReal.coe_neg, ← EReal.coe_add, sub_eq_add_neg]
  · rw [dif_neg h, add_zero, rows, dif_neg (by omega : ¬ r.val + W < 4096), sub_zero]

/-- The sum from a row on of those parts is the windowed sum ahead. -/
theorem from_real (g : ℕ) (z : Fin 4096 → ℝ) (r : ℕ) :
    from_ 4096 (rows fun k => rows z k - rows z (k.val + 2 ^ g)) r = aheadR g (rows z) r := by
  have h0 : ∀ n, 4096 ≤ n → rows z n = 0 := fun n hn => dif_neg (by omega)
  rw [aheadR_eq 4096 g _ h0]
  unfold from_
  rw [← Finset.sum_sub_distrib]
  generalize 2 ^ g = p
  refine Finset.sum_congr rfl fun k _ => ?_
  by_cases h : r + k < 4096
  · rw [rows, dif_pos h]
    show rows z (r + k) - rows z (r + k + p) = _
    rw [Nat.add_right_comm]
  · rw [rows, dif_neg h, h0 _ (by omega), h0 _ (by omega), sub_zero]

theorem quot_rows (g : ℕ) (w : (⟨3, ![1, 128, 128]⟩ : Shape).Idx → EReal) (s : (⟨2, ![1, 128]⟩ : Shape).Idx → EReal)
    (ct : (⟨2, ![4096, 128]⟩ : Shape).Idx → EReal) (l : Fin 128) (f : Fin 4096 → ℝ) (hf : ∀ r, dPool w s ct r l = (f r : EReal)) :
    quot g w s ct l = fun n => (rows (fun r => f r / len g r) n : EReal) := by
  funext n
  unfold quot rows
  by_cases h : n < 4096
  · rw [dif_pos h, dif_pos h, hf, div_coe_coe _ (len_ne _ _)]
  · rw [dif_neg h, dif_neg h]; rfl

end Cert.Pool

end
-- ==== Proof.Pool.Reference.lean ====
/-
  The pool's reference, read at an index: the formulas of `Spec` on real arguments.
-/
module

public import proofs.«01_k».proof.Proof.Pool.Scan
public import proofs.«01_k».proof.Proof.Gen.PoolReferenceIdeal.Read

@[expose] public section

set_option maxRecDepth 16384

noncomputable section

namespace Cert.PoolReferenceIdeal.Read

open Cert.PoolReferenceIdeal Cert.PoolReferenceIdeal.Gen Idealize.ShloMosaic Idealize.ShloMosaic.TcCoe Cert.Finite Cert.Pool

/-- A sum over two leading axes of size one. -/
theorem reduce_ones (h : S1x1x512.ReducesTo [0, 1] S512) (x : S1x1x512.Idx → EReal) (j : Fin 512) :
    Ideal.hostReduceAdd h x 0 (ix1 j) = x (ix3 0 0 j) := by
  have hd : ∀ i : S1x1x512.Idx, (h.drop i 0 : ℕ) = i 2 := fun i => Shape.ReducesTo.drop_apply_val_of_eq h i 0 2
  unfold Ideal.hostReduceAdd
  rw [zero_add, Finset.sum_eq_single (ix3 0 0 j)]
  · intro i hi hne
    rw [Finset.mem_filter] at hi
    refine absurd ?_ hne
    have e : (i 2).val = j.val := (hd i).symm.trans (congrArg (fun a : S512.Idx => (a 0).val) hi.2)
    rw [eq_ix3 i]
    exact congr (congrArg₂ ix3 (Subsingleton.elim (α := Fin 1) _ _) (Subsingleton.elim (α := Fin 1) _ _)) (Fin.ext e)
  · intro hn
    refine absurd (Finset.mem_filter.2 ⟨Finset.mem_univ _, ?_⟩) hn
    funext b
    have hb : b = 0 := Subsingleton.elim (α := Fin 1) _ _
    subst hb
    exact Fin.ext (hd _)

theorem window_add {s t u : Shape} (wd st lo hi : Fin s.rank → ℕ) (h : s.ReduceWindows wd st lo hi t) (hu : 0 < u.numel)
    (y : FVec Ideal s .f32) (z : FVec Ideal u .f32) (h0 : z (Shape.Idx.first hu) = 0) (j : t.Idx) :
    Host.reduceWindowAdd wd st lo hi y z h hu j = Ideal.hostReduceWindowAdd wd st lo hi h y 0 j := by
  rw [← h0]
  rfl

variable (x : FVec Ideal S4096x4608 .f32) (ct : FVec Ideal S4096x512 .f32) (w : FVec Ideal S1x4x128x128 .f32) (s : FVec Ideal S1x512 .f32)

theorem v4_apply (r : Fin 4096) (g : Fin 4) (l : Fin 128) : val_main_v4 (F := Ideal) x (ix4 0 r g l) = (groupRows x g : _ → EReal) (ix2 r l) := by
  pointwise [val_main_v4, val_main_v1, val_main_v0, groupRows]

theorem v5_apply (r : Fin 4096) (g : Fin 4) (l : Fin 128) (f : Fin 4096 → ℝ) (hf : ∀ r, (groupRows x g : _ → EReal) (ix2 r l) = (f r : EReal)) :
    val_main_v5 (F := Ideal) x (ix4 0 r g l) = (upTo (rows f) r : EReal) := by
  have h0 : val_main_call0_call0_v0 (F := Ideal) (Shape.Idx.first h_S_) = 0 := by
    show Ideal.ofBits .f32 0x00000000#32 = 0
    simp [Ideal.ofBits, Ideal.ieee]
  refine Eq.trans ?_ (reduceWindow_down (val_main_v4 (F := Ideal) x) (by decide) r g l f fun r => (v4_apply x r g l).trans (hf r))
  unfold val_main_v5
  generalize val_main_v4 (F := Ideal) x = y
  exact window_add _ _ _ _ _ _ y _ h0 _

theorem v24_apply (r : Fin 4096) (l : Fin 128) (f : Fin 4096 → ℝ) (hf : ∀ r, (groupRows x 0 : _ → EReal) (ix2 r l) = (f r : EReal)) :
    val_main_v24 (F := Ideal) x (ix3 0 r l) = pooled 0 (groupRows x 0) r l := by
  refine Eq.trans ?_ (pooled_real 0 _ r l f hf 2 rfl)
  pointwise [val_main_v6, val_main_v7, val_main_v8, val_main_cst, val_main_v9, val_main_v10, val_main_v11, val_main_c, val_main_v13, val_main_v14, val_main_c_1,
    val_main_v15, val_main_v16, val_main_v17, val_main_v18, val_main_v19, val_main_v20, val_main_v21, val_main_v22, val_main_v23, val_main_v24]
  rw [len_host 0 r.val r.isLt 2#32 rfl, v4_apply, v5_apply x _ _ _ f hf]
  by_cases h : r.val < 2
  · rw [dif_pos h, dif_pos h]
    rfl
  · rw [dif_neg h, dif_neg h, v5_apply x _ _ _ f hf]
    rfl

theorem v42_apply (r : Fin 4096) (l : Fin 128) (f : Fin 4096 → ℝ) (hf : ∀ r, (groupRows x 1 : _ → EReal) (ix2 r l) = (f r : EReal)) :
    val_main_v42 (F := Ideal) x (ix3 0 r l) = pooled 1 (groupRows x 1) r l := by
  refine Eq.trans ?_ (pooled_real 1 _ r l f hf 4 rfl)
  pointwise [val_main_v6, val_main_v25, val_main_v26, val_main_cst_2, val_main_v27, val_main_v28, val_main_v29, val_main_c_4, val_main_v31, val_main_v32,
    val_main_c_5, val_main_v33, val_main_v34, val_main_v35, val_main_v36, val_main_v37, val_main_v38, val_main_v39, val_main_v40, val_main_v41,
    val_main_v42]
  rw [len_host 1 r.val r.isLt 4#32 rfl, v4_apply, v5_apply x _ _ _ f hf]
  by_cases h : r.val < 4
  · rw [dif_pos h, dif_pos h]
    rfl
  · rw [dif_neg h, dif_neg h, v5_apply x _ _ _ f hf]
    rfl

theorem v60_apply (r : Fin 4096) (l : Fin 128) (f : Fin 4096 → ℝ) (hf : ∀ r, (groupRows x 2 : _ → EReal) (ix2 r l) = (f r : EReal)) :
    val_main_v60 (F := Ideal) x (ix3 0 r l) = pooled 2 (groupRows x 2) r l := by
  refine Eq.trans ?_ (pooled_real 2 _ r l f hf 8 rfl)
  pointwise [val_main_v6, val_main_v43, val_main_v44, val_main_cst_6, val_main_v45, val_main_v46, val_main_v47, val_main_c_8, val_main_v49, val_main_v50,
    val_main_c_9, val_main_v51, val_main_v52, val_main_v53, val_main_v54, val_main_v55, val_main_v56, val_main_v57, val_main_v58, val_main_v59,
    val_main_v60]
  rw [len_host 2 r.val r.isLt 8#32 rfl, v4_apply, v5_apply x _ _ _ f hf]
  by_cases h : r.val < 8
  · rw [dif_pos h, dif_pos h]
    rfl
  · rw [dif_neg h, dif_neg h, v5_apply x _ _ _ f hf]
    rfl

theorem v78_apply (r : Fin 4096) (l : Fin 128) (f : Fin 4096 → ℝ) (hf : ∀ r, (groupRows x 3 : _ → EReal) (ix2 r l) = (f r : EReal)) :
    val_main_v78 (F := Ideal) x (ix3 0 r l) = pooled 3 (groupRows x 3) r l := by
  refine Eq.trans ?_ (pooled_real 3 _ r l f hf 16 rfl)
  pointwise [val_main_v6, val_main_v61, val_main_v62, val_main_cst_10, val_main_v63, val_main_v64, val_main_v65, val_main_c_12, val_main_v67, val_main_v68,
    val_main_c_13, val_main_v69, val_main_v70, val_main_v71, val_main_v72, val_main_v73, val_main_v74, val_main_v75, val_main_v76, val_main_v77,
    val_main_v78]
  rw [len_host 3 r.val r.isLt 16#32 rfl, v4_apply, v5_apply x _ _ _ f hf]
  by_cases h : r.val < 16
  · rw [dif_pos h, dif_pos h]
    rfl
  · rw [dif_neg h, dif_neg h, v5_apply x _ _ _ f hf]
    rfl

theorem v83_apply (r : Fin 4096) (g : Fin 4) (l : Fin 128) (hx : ∀ r, IsReal ((groupRows x g : _ → EReal) (ix2 r l))) :
    val_main_v83 (F := Ideal) x (ix4 0 r g l) = pooled g (groupRows x g) r l := by
  choose f hf using hx
  fin_cases g
  · exact Eq.trans (by pointwise [val_main_v79, val_main_v80, val_main_v81, val_main_v82, val_main_v83]) (v24_apply x r l f hf)
  · exact Eq.trans (by pointwise [val_main_v79, val_main_v80, val_main_v81, val_main_v82, val_main_v83]) (v42_apply x r l f hf)
  · exact Eq.trans (by pointwise [val_main_v79, val_main_v80, val_main_v81, val_main_v82, val_main_v83]) (v60_apply x r l f hf)
  · exact Eq.trans (by pointwise [val_main_v79, val_main_v80, val_main_v81, val_main_v82, val_main_v83]) (v78_apply x r l f hf)

theorem v102_apply (g : Fin 4) (l j : Fin 128) (hx : ∀ r, IsReal ((groupRows x g : _ → EReal) (ix2 r l))) :
    val_main_v102 (F := Ideal) x ct s (ix3 g l j) = dw g (groupScale s g) (groupRows ct g) (groupRows x g) l j := by
  refine Eq.trans (b := ∑ a : Fin 1, ∑ r : Fin 4096, (groupRows ct g : _ → EReal) (ix2 r j) * groupScale s g (ix2 0 j) * val_main_v83 (F := Ideal) x (ix4 a r g l)) ?_ ?_
  · pointwise [val_main_v3, val_main_v87, val_main_v90, val_main_v94, val_main_v95, val_main_v97, val_main_v98, val_main_v101, val_main_v102, groupRows, groupScale]
  · rw [Finset.univ_unique, Finset.sum_singleton]
    exact Finset.sum_congr rfl fun r _ => (congrArg _ (v83_apply x r g l hx)).trans (mul_comm _ _)

theorem v93_apply (j : Fin 512) (hx : ∀ r l, IsReal ((groupRows x (gOf j) : _ → EReal) (ix2 r l))) :
    val_main_v93 (F := Ideal) x ct w (ix3 0 0 j) = ds (gOf j) (groupWeight w (gOf j)) (groupRows ct (gOf j)) (groupRows x (gOf j)) (lOf j) := by
  refine Eq.trans (b := ∑ r : Fin 4096, ct (ix2 r j) * ∑ l : Fin 128, val_main_v83 (F := Ideal) x (ix4 0 r (gOf j) l) * w (ix4 0 (gOf j) l (lOf j))) ?_ ?_
  · pointwise [val_main_v2, val_main_v84, val_main_v85, val_main_v86, val_main_v90, val_main_v91, val_main_cst_14, val_main_v92, val_main_v93]
    exact Finset.sum_congr rfl fun r _ => (mul_comm _ _).trans (congrArg _ (Finset.sum_congr rfl fun l _ => mul_comm _ _))
  · refine Finset.sum_congr rfl fun r _ => congrArg₂ _ ?_ (Finset.sum_congr rfl fun l _ => congrArg₂ _ (v83_apply x r _ l fun r => hx r l) rfl)
    exact congrArg ct (congrArg (ix2 r) (Fin.ext (by show j.val = j.val / 128 * 128 + j.val % 128; omega)))

theorem v168_apply (j : Fin 512) : val_main_v168 (F := Ideal) x ct w (ix2 0 j) = val_main_v93 (F := Ideal) x ct w (ix3 0 0 j) := by
  pointwise [val_main_cst_15, val_main_v96, val_main_v168]
  exact reduce_ones _ _ j

theorem v100_apply (r : Fin 4096) (g : Fin 4) (l : Fin 128) :
    val_main_v100 (F := Ideal) ct w s (ix4 0 r g l) = dPool (groupWeight w g) (groupScale s g) (groupRows ct g) r l := by
  pointwise [val_main_v2, val_main_v3, val_main_v87, val_main_v90, val_main_v94, val_main_v95, val_main_v97, val_main_v98, val_main_v99, val_main_v100, dPool, groupWeight, groupScale, groupRows]

theorem v161_apply (r : Fin 4096) (l : Fin 128) (f : Fin 4096 → ℝ) (hf : ∀ r, dPool (groupWeight w 0) (groupScale s 0) (groupRows ct 0) r l = (f r : EReal)) :
    val_main_v161 (F := Ideal) ct w s (ix3 0 r l) = ((rows (fun r => f r / len 0 r) r - rows (fun r => f r / len 0 r) (r.val + 2) : ℝ) : EReal) := by
  refine Eq.trans ?_ (quot_real 0 (fun r => val_main_v100 (F := Ideal) ct w s (ix4 0 r 0 l)) f (fun r => (v100_apply ct w s r 0 l).trans (hf r)) r 2)
  pointwise [val_main_v6, val_main_c, val_main_v13, val_main_v14, val_main_c_1, val_main_v15, val_main_v16, val_main_v17, val_main_v18, val_main_v103,
    val_main_v104, val_main_v155, val_main_v156, val_main_v157, val_main_v159, val_main_cst_26, val_main_v160, val_main_v161]
  rw [len_host 0 r.val r.isLt 2#32 rfl]
  exact congrArg _ (dite_congr rfl (fun h => congrArg (fun a => -Ideal.div _ a) (len_host 0 _ (by omega) _ rfl)) fun _ => rfl)

theorem v147_apply (r : Fin 4096) (l : Fin 128) (f : Fin 4096 → ℝ) (hf : ∀ r, dPool (groupWeight w 1) (groupScale s 1) (groupRows ct 1) r l = (f r : EReal)) :
    val_main_v147 (F := Ideal) ct w s (ix3 0 r l) = ((rows (fun r => f r / len 1 r) r - rows (fun r => f r / len 1 r) (r.val + 4) : ℝ) : EReal) := by
  refine Eq.trans ?_ (quot_real 1 (fun r => val_main_v100 (F := Ideal) ct w s (ix4 0 r 1 l)) f (fun r => (v100_apply ct w s r 1 l).trans (hf r)) r 4)
  pointwise [val_main_v6, val_main_c_4, val_main_v31, val_main_v32, val_main_c_5, val_main_v33, val_main_v34, val_main_v35, val_main_v36, val_main_v105,
    val_main_v106, val_main_v141, val_main_v142, val_main_v143, val_main_v145, val_main_cst_23, val_main_v146, val_main_v147]
  rw [len_host 1 r.val r.isLt 4#32 rfl]
  exact congrArg _ (dite_congr rfl (fun h => congrArg (fun a => -Ideal.div _ a) (len_host 1 _ (by omega) _ rfl)) fun _ => rfl)

theorem v133_apply (r : Fin 4096) (l : Fin 128) (f : Fin 4096 → ℝ) (hf : ∀ r, dPool (groupWeight w 2) (groupScale s 2) (groupRows ct 2) r l = (f r : EReal)) :
    val_main_v133 (F := Ideal) ct w s (ix3 0 r l) = ((rows (fun r => f r / len 2 r) r - rows (fun r => f r / len 2 r) (r.val + 8) : ℝ) : EReal) := by
  refine Eq.trans ?_ (quot_real 2 (fun r => val_main_v100 (F := Ideal) ct w s (ix4 0 r 2 l)) f (fun r => (v100_apply ct w s r 2 l).trans (hf r)) r 8)
  pointwise [val_main_v6, val_main_c_8, val_main_v49, val_main_v50, val_main_c_9, val_main_v51, val_main_v52, val_main_v53, val_main_v54, val_main_v107,
    val_main_v108, val_main_v127, val_main_v128, val_main_v129, val_main_v131, val_main_cst_20, val_main_v132, val_main_v133]
  rw [len_host 2 r.val r.isLt 8#32 rfl]
  exact congrArg _ (dite_congr rfl (fun h => congrArg (fun a => -Ideal.div _ a) (len_host 2 _ (by omega) _ rfl)) fun _ => rfl)

theorem v120_apply (r : Fin 4096) (l : Fin 128) (f : Fin 4096 → ℝ) (hf : ∀ r, dPool (groupWeight w 3) (groupScale s 3) (groupRows ct 3) r l = (f r : EReal)) :
    val_main_v120 (F := Ideal) ct w s (ix3 0 r l) = ((rows (fun r => f r / len 3 r) r - rows (fun r => f r / len 3 r) (r.val + 16) : ℝ) : EReal) := by
  refine Eq.trans ?_ (quot_real 3 (fun r => val_main_v100 (F := Ideal) ct w s (ix4 0 r 3 l)) f (fun r => (v100_apply ct w s r 3 l).trans (hf r)) r 16)
  pointwise [val_main_v6, val_main_c_12, val_main_v67, val_main_v68, val_main_c_13, val_main_v69, val_main_v70, val_main_v71, val_main_v72, val_main_v109,
    val_main_v110, val_main_v114, val_main_v115, val_main_v116, val_main_v118, val_main_cst_17, val_main_v119, val_main_v120]
  rw [len_host 3 r.val r.isLt 16#32 rfl]
  exact congrArg _ (dite_congr rfl (fun h => congrArg (fun a => -Ideal.div _ a) (len_host 3 _ (by omega) _ rfl)) fun _ => rfl)

theorem v164_apply (r : Fin 4096) (g : Fin 4) (l : Fin 128) (f : Fin 4096 → ℝ)
    (hf : ∀ r, dPool (groupWeight w g) (groupScale s g) (groupRows ct g) r l = (f r : EReal)) :
    val_main_v164 (F := Ideal) ct w s (ix4 0 r g l) = ((rows (fun r => f r / len g r) r - rows (fun r => f r / len g r) (r.val + 2 ^ (g.val + 1)) : ℝ) : EReal) := by
  fin_cases g
  · exact Eq.trans (by pointwise [val_main_v121, val_main_cst_18, val_main_v122, val_main_v134, val_main_cst_21, val_main_v135, val_main_v136, val_main_v148, val_main_cst_24,
    val_main_v149, val_main_v150, val_main_v162, val_main_cst_27, val_main_v163, val_main_v164]; done) (v161_apply ct w s r l f hf)
  · exact Eq.trans (by pointwise [val_main_v121, val_main_cst_18, val_main_v122, val_main_v134, val_main_cst_21, val_main_v135, val_main_v136, val_main_v148, val_main_cst_24,
    val_main_v149, val_main_v150, val_main_v162, val_main_cst_27, val_main_v163, val_main_v164]; done) (v147_apply ct w s r l f hf)
  · exact Eq.trans (by pointwise [val_main_v121, val_main_cst_18, val_main_v122, val_main_v134, val_main_cst_21, val_main_v135, val_main_v136, val_main_v148, val_main_cst_24,
    val_main_v149, val_main_v150, val_main_v162, val_main_cst_27, val_main_v163, val_main_v164]; done) (v133_apply ct w s r l f hf)
  · exact Eq.trans (by pointwise [val_main_v121, val_main_cst_18, val_main_v122, val_main_v134, val_main_cst_21, val_main_v135, val_main_v136, val_main_v148, val_main_cst_24,
    val_main_v149, val_main_v150, val_main_v162, val_main_cst_27, val_main_v163, val_main_v164]; done) (v120_apply ct w s r l f hf)

theorem v154_apply (r : Fin 4096) (g : Fin 4) (l : Fin 128) :
    val_main_v154 (F := Ideal) ct w s (ix4 0 r g l) = -dPool (groupWeight w g) (groupScale s g) (groupRows ct g) r l := by
  rw [← v100_apply]
  fin_cases g <;>
    (pointwise [val_main_v103, val_main_v104, val_main_v105, val_main_v106, val_main_v107, val_main_v108, val_main_v109, val_main_v110, val_main_v111, val_main_v112,
    val_main_cst_16, val_main_v113, val_main_v123, val_main_v124, val_main_cst_19, val_main_v125, val_main_v126, val_main_v137, val_main_v138,
    val_main_cst_22, val_main_v139, val_main_v140, val_main_v151, val_main_v152, val_main_cst_25, val_main_v153, val_main_v154]; done)

theorem v165_apply (r : Fin 4096) (g : Fin 4) (l : Fin 128) (f : Fin 4096 → ℝ)
    (hf : ∀ r, dPool (groupWeight w g) (groupScale s g) (groupRows ct g) r l = (f r : EReal)) :
    val_main_v165 (F := Ideal) ct w s (ix4 0 r g l) = (aheadR (g.val + 1) (rows fun r => f r / len g r) r : EReal) := by
  have h0 : val_main_call1_call0_v0 (F := Ideal) (Shape.Idx.first h_S_) = 0 := by
    show Ideal.ofBits .f32 0x00000000#32 = 0
    simp [Ideal.ofBits, Ideal.ieee]
  rw [← from_real]
  refine Eq.trans ?_ (reduceWindow_up (val_main_v164 (F := Ideal) ct w s) (by decide) r g l _ fun r => v164_apply ct w s r g l f hf)
  unfold val_main_v165
  generalize val_main_v164 (F := Ideal) ct w s = y
  exact window_add _ _ _ _ _ _ y _ h0 _

theorem v166_apply (r : Fin 4096) (g : Fin 4) (l : Fin 128)
    (hd : ∀ r, IsReal (dPool (groupWeight w g) (groupScale s g) (groupRows ct g) r l)) :
    val_main_v166 (F := Ideal) ct w s (ix4 0 r g l) = du g (groupWeight w g) (groupScale s g) (groupRows ct g) r l := by
  choose f hf using hd
  pointwise [val_main_v166]
  rw [v154_apply, v165_apply ct w s r g l f hf, du, quot_rows g _ _ _ l f hf, ahead_coe, add_comm, sub_eq_add_neg]

theorem du_apply (r : Fin 4096) (j : Fin 512)
    (hd : ∀ r, IsReal (dPool (groupWeight w (gOf j)) (groupScale s (gOf j)) (groupRows ct (gOf j)) r (lOf j))) :
    val_main_v171 (F := Ideal) ct w s (ix2 r j) = DU ct w s (ix2 r j) := by
  refine Eq.trans ?_ (v166_apply ct w s r (gOf j) (lOf j) hd)
  pointwise [val_main_v167, val_main_v170, val_main_v171]

theorem dw_apply (g : Fin 4) (l j : Fin 128) (hx : ∀ r, IsReal ((groupRows x g : _ → EReal) (ix2 r l))) :
    val_main_v172 (F := Ideal) x ct s (ix3 g l j) = DW x ct s (ix3 g l j) := by
  refine Eq.trans ?_ (v102_apply x ct s g l j hx)
  pointwise [val_main_v169, val_main_v172]

theorem ds_apply (j : Fin 512) (hx : ∀ r l, IsReal ((groupRows x (gOf j) : _ → EReal) (ix2 r l))) :
    val_main_v168 (F := Ideal) x ct w (ix2 0 j) = DS x ct w (ix2 0 j) :=
  (v168_apply x ct w j).trans (v93_apply x ct w j hx)

end Cert.PoolReferenceIdeal.Read

end
-- ==== Proof.Pool.Claim.lean ====
/- The equation of the pool kernel's three results and the reference's. -/
module

public import proofs.«01_k».proof.Defs
public import proofs.«01_k».proof.Proof.Pool.Array
public import proofs.«01_k».proof.Proof.Pool.Reference
public import proofs.«01_k».proof.Proof.Gen.PoolReferenceIdeal.Run
public import proofs.«01_k».proof.Proof.Gen.Pre_pool_finite

@[expose] public section

set_option maxRecDepth 16384

noncomputable section

namespace Cert.Pool

open Idealize.ShloMosaic Idealize.ShloMosaic.TcCoe Idealize.SL.Sem

variable {m : (ℓ : Loc Cert.PoolKernelIdeal.nD Cert.PoolKernelIdeal.τ Cert.PoolKernelIdeal.sig) → Buf (Elt Ideal) ℓ}

open Cert.PoolKernelIdeal in
/-- What the precondition says of the arguments: of the first, the columns that hold the groups. -/
theorem real_args (h : Cert.Pre_PoolKernelIdeal_pool_finite m) (c : Dev nD) :
    (∀ g r l, Finite.IsReal ((groupRows (m ((c : Thread nD τ).loc main_arg0)) g : _ → EReal) (ix2 r l)))
    ∧ (∀ i, Finite.IsReal (m ((c : Thread nD τ).loc main_arg1) i)) ∧ (∀ i, Finite.IsReal (m ((c : Thread nD τ).loc main_arg2) i))
    ∧ ∀ i, Finite.IsReal (m ((c : Thread nD τ).loc main_arg3) i) := by
  obtain ⟨h0, h1, h2, h3⟩ := h c
  refine ⟨fun g r l => ?_, Finite.reals h1 fun _ => rfl, Finite.reals h2 fun _ => rfl, Finite.reals h3 fun _ => rfl⟩
  have := Finite.reals h0 (fun _ => rfl) (ix2 r ⟨g.val * 128 + l.val, by omega⟩)
  refine (congrArg Finite.IsReal ?_).mp this
  exact (extractStridedSlice_apply _ _ _ _ (ix2 r ⟨g.val * 128 + l.val, by omega⟩) (fun a => match a with
    | ⟨0, _⟩ => by show r.val = 0 + r.val; omega
    | ⟨1, _⟩ => by show g.val * 128 + l.val = 0 + (g.val * 128 + l.val); omega))

/-- The reference runs from any memory, keeps its arguments, and declares no semaphore. -/
theorem frame_reference : Cert.quiescent_PoolReferenceIdeal := fun m ρ _ =>
  (θ_run Cert.PoolReferenceIdeal.defs _ _).mono
    (fun r h => ⟨fun c => (h c).2.2.2, sem_eq_zero_of_no_sems (by decide) r.2⟩) (Cert.PoolReferenceIdeal.Value.run m ρ)

/-- The pooled row's gradient is real where its arguments are. -/
theorem dPool_real (ct : (⟨2, ![4096, 512]⟩ : Shape).Idx → EReal) (w : (⟨4, ![1, 4, 128, 128]⟩ : Shape).Idx → EReal)
    (s : (⟨2, ![1, 512]⟩ : Shape).Idx → EReal) (h1 : ∀ i, Finite.IsReal (ct i)) (h2 : ∀ i, Finite.IsReal (w i)) (h3 : ∀ i, Finite.IsReal (s i))
    (g : Fin 4) (l : Fin 128) (r : Fin 4096) : Finite.IsReal (dPool (groupWeight w g) (groupScale s g) (groupRows ct g) r l) :=
  Finite.IsReal.sum fun j => ((h1 _).mul (h3 _)).mul (h2 _)

/-- The three results of the kernel are the reference's. -/
theorem algebraic : Cert.algebraic_PoolKernelIdeal_PoolReferenceIdeal_pre_pool_finite := by
  pair_intro
  · run_from Cert.Pool.run_blocks m g
  · run_from Cert.PoolReferenceIdeal.Value.run m' g'
    all_goals obtain ⟨r0, r1, r2, r3⟩ := real_args hpre c
    all_goals obtain ⟨a0, a1, a2, a3⟩ := hagree c
    · rw [Cert.PoolReferenceIdeal.Read.val_main_v171_eq]
      change Cert.PoolReferenceIdeal.Read.val_main_v171 (F := Ideal) (m' ((c : Thread Cert.PoolReferenceIdeal.nD Cert.PoolReferenceIdeal.τ).loc Cert.PoolReferenceIdeal.main_arg1)) (m' ((c : Thread Cert.PoolReferenceIdeal.nD Cert.PoolReferenceIdeal.τ).loc Cert.PoolReferenceIdeal.main_arg2)) (m' ((c : Thread Cert.PoolReferenceIdeal.nD Cert.PoolReferenceIdeal.τ).loc Cert.PoolReferenceIdeal.main_arg3)) = _
      rw [a1, a2, a3]
      refine Eq.trans (funext fun i => ?_) (Cert.Pool.final4 m c).symm
      rw [eq_ix2 i]
      exact Cert.PoolReferenceIdeal.Read.du_apply _ _ _ _ _ (dPool_real _ _ _ r1 r2 r3 _ _)
    · rw [Cert.PoolReferenceIdeal.Read.val_main_v172_eq]
      change Cert.PoolReferenceIdeal.Read.val_main_v172 (F := Ideal) (m' ((c : Thread Cert.PoolReferenceIdeal.nD Cert.PoolReferenceIdeal.τ).loc Cert.PoolReferenceIdeal.main_arg0)) (m' ((c : Thread Cert.PoolReferenceIdeal.nD Cert.PoolReferenceIdeal.τ).loc Cert.PoolReferenceIdeal.main_arg1)) (m' ((c : Thread Cert.PoolReferenceIdeal.nD Cert.PoolReferenceIdeal.τ).loc Cert.PoolReferenceIdeal.main_arg3)) = _
      rw [a0, a1, a3]
      refine Eq.trans (funext fun i => ?_) (Cert.Pool.final5 m c).symm
      rw [eq_ix3 i]
      exact Cert.PoolReferenceIdeal.Read.dw_apply _ _ _ _ _ _ fun r => r0 _ r _
    · rw [Cert.PoolReferenceIdeal.Read.val_main_v168_eq]
      change Cert.PoolReferenceIdeal.Read.val_main_v168 (F := Ideal) (m' ((c : Thread Cert.PoolReferenceIdeal.nD Cert.PoolReferenceIdeal.τ).loc Cert.PoolReferenceIdeal.main_arg0)) (m' ((c : Thread Cert.PoolReferenceIdeal.nD Cert.PoolReferenceIdeal.τ).loc Cert.PoolReferenceIdeal.main_arg1)) (m' ((c : Thread Cert.PoolReferenceIdeal.nD Cert.PoolReferenceIdeal.τ).loc Cert.PoolReferenceIdeal.main_arg2)) = _
      rw [a0, a1, a2]
      refine Eq.trans (funext fun i => ?_) (Cert.Pool.final6 m c).symm
      rw [eq_ix2 i, Subsingleton.elim (α := Fin 1) (i 0) 0]
      exact Cert.PoolReferenceIdeal.Read.ds_apply _ _ _ _ fun r l => r0 _ r l

end Cert.Pool

end
-- ==== Proof.InProj.Spec.lean ====
/- The gradient of the layer's first norm and input product, as formulas over the argument arrays: the cotangent of the normed
   rows out of the five parts the product's columns go to, of the rows themselves (with the residual's), and of the gain. -/
module

public import proofs.«01_k».proof.Proof.RmsNorm
public import proofs.«01_k».proof.Proof.Gen.InProjKernelIdeal
public import Idealize.ShloMosaic.Lib.Pointwise

@[expose] public section

set_option maxRecDepth 16384

noncomputable section

namespace Cert.InProj

open Idealize.ShloMosaic Cert.InProjKernelIdeal

/-- Part of the cotangent of the normed row `p`, element `k`: one segment of 1024 columns of the product, from column `o`. -/
abbrev part (o : ℕ) (ho : o + 1024 ≤ 4608) (a : FVec Ideal S4096x1024 .f32) (w : FVec Ideal S1x1024x4608 .f32) (p : Fin 4096)
    (k : Fin 1024) : EReal :=
  ∑ l : Fin 1024, a (ix2 p l) * w (ix3 0 k ⟨o + l, by omega⟩)

/-- The cotangent of the normed row `p`, element `k`: the five segments' parts. -/
abbrev dh (s0 : FVec Ideal S4096x512 .f32) (s1 s2 s3 s4 : FVec Ideal S4096x1024 .f32) (w : FVec Ideal S1x1024x4608 .f32)
    (p : Fin 4096) (k : Fin 1024) : EReal :=
  ∑ l : Fin 512, s0 (ix2 p l) * w (ix3 0 k ⟨l, by omega⟩) + part 512 (by omega) s1 w p k + part 1536 (by omega) s2 w p k
    + part 2560 (by omega) s3 w p k + part 3584 (by omega) s4 w p k

/-- Row `p` of the residual stream. -/
abbrev row (x : FVec Ideal S4096x1024 .f32) (p : Fin 4096) : Fin 1024 → EReal := fun k => x (ix2 p k)

/-- The cotangent of the rows: the residual's plus the norm's gradient. -/
abbrev dx (s0 : FVec Ideal S4096x512 .f32) (s1 s2 s3 s4 : FVec Ideal S4096x1024 .f32) (w : FVec Ideal S1x1024x4608 .f32)
    (d x : FVec Ideal S4096x1024 .f32) (g : FVec Ideal S1x1024 .f32) (p : Fin 4096) (j : Fin 1024) : EReal :=
  d (ix2 p j) + Rms.grad (row x p) (fun k => dh s0 s1 s2 s3 s4 w p k * g (ix2 0 k)) j

/-- Row `p`'s part of the gain's gradient. -/
abbrev dgRow (s0 : FVec Ideal S4096x512 .f32) (s1 s2 s3 s4 : FVec Ideal S4096x1024 .f32) (w : FVec Ideal S1x1024x4608 .f32)
    (x : FVec Ideal S4096x1024 .f32) (p : Fin 4096) (j : Fin 1024) : EReal :=
  dh s0 s1 s2 s3 s4 w p j * (x (ix2 p j) * Rms.scale (row x p))

end Cert.InProj

end
-- ==== Proof.InProj.Array.lean ====
/- What the two result arrays hold after the kernel's run. -/
module

public import proofs.«01_k».proof.Proof.InProj.Spec
public import proofs.«01_k».proof.Proof.Gen.InProjKernelIdeal.Value
public import Idealize.ShloMosaic.Lib.Pipeline.ValueKit
public import Idealize.ShloMosaic.Lib.Claim

@[expose] public section

set_option maxRecDepth 16384

noncomputable section

namespace Cert.InProjKernelIdeal.Value

open Cert.InProjKernelIdeal Cert.InProjKernelIdeal.Gen Idealize.ShloMosaic Idealize.ShloMosaic.TcCoe Idealize.SL.Sem

variable (m : (ℓ : Loc nD τ sig) → Buf (Elt Ideal) ℓ)

/-- The block each window stages at a point: the rows' blocks move with the point, the weight and the gain stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![t.val, 0] ∧ win0_10.index t = ![0, 0] :=
  (by decide +kernel : ∀ t : Fin grid0.N, _)

/-- The rows' cotangent, as an array. -/
abbrev DX (c : Dev nD) : FVec Ideal S4096x1024 .f32 := fun i => InProj.dx (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (i 0) (i 1)

/-- Row `p`'s part of the gain's gradient. -/
abbrev DGRow (c : Dev nD) (p : Fin 4096) (j : Fin 1024) : EReal := InProj.dgRow (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg7)) p j

/-- Array row `512 t + r`. -/
abbrev at512 (t : Fin cfg0.N) (r : Fin 512) : Fin 4096 :=
  ⟨t.val * 512 + r.val, by have := lt_of_lt_of_eq t.isLt N_0; omega⟩

/-- The normed rows' cotangent, as a function of the row and the element. -/
abbrev DH (c : Dev nD) (p : Fin 4096) (k : Fin 1024) : EReal := InProj.dh (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) p k

set_option maxHeartbeats 2000000 in
/-- The second half-block's products at point `t`: rows `512 t + 256 …`. -/
theorem upper (c : Dev nD) (t : Fin cfg0.N) :
    k0_pay14 (F := Ideal)
        (k0_pay13 (View.ld (iblk m c 0 t) (Rect.unit ![256, 0] ![256, 512] inb_S512x512_S256x512_256_0)))
        (View.ld (iblk m c 5 t) (Rect.unit ![0, 0] ![1024, 512] inb_S1024x4608_S1024x512_0_0))
        (View.ld (iblk m c 1 t) (Rect.unit ![256, 0] ![256, 1024] inb_S512x1024_S256x1024_256_0))
        (View.ld (iblk m c 5 t) (Rect.unit ![0, 512] ![1024, 1024] inb_S1024x4608_S1024x1024_0_512))
        (View.ld (iblk m c 2 t) (Rect.unit ![256, 0] ![256, 1024] inb_S512x1024_S256x1024_256_0))
        (View.ld (iblk m c 5 t) (Rect.unit ![0, 1536] ![1024, 1024] inb_S1024x4608_S1024x1024_0_1536))
        (View.ld (iblk m c 3 t) (Rect.unit ![256, 0] ![256, 1024] inb_S512x1024_S256x1024_256_0))
        (View.ld (iblk m c 5 t) (Rect.unit ![0, 2560] ![1024, 1024] inb_S1024x4608_S1024x1024_0_2560))
        (View.ld (iblk m c 4 t) (Rect.unit ![256, 0] ![256, 1024] inb_S512x1024_S256x1024_256_0))
        (View.ld (iblk m c 5 t) (Rect.unit ![0, 3584] ![1024, 1024] inb_S1024x4608_S1024x1024_0_3584))
      = fun x => DH m c (at512 t ⟨256 + x 0, add_lt_add_right (x 0).isLt 256⟩) (x 1) := by
  funext x
  pointwise [k0_pay13, k0_pay14, DH, InProj.dh, InProj.part]
  blk_point [iblk, V, idx t]

set_option maxHeartbeats 2000000 in
/-- The first half-block's products at point `t`: rows `512 t + 0 …`. -/
theorem lower (c : Dev nD) (t : Fin cfg0.N) :
    k0_pay8 (F := Ideal)
        (k0_pay6 (View.ld (iblk m c 0 t) (Rect.unit ![0, 0] ![256, 512] inb_S512x512_S256x512_0_0))
        (View.ld (iblk m c 5 t) (Rect.unit ![0, 0] ![1024, 512] inb_S1024x4608_S1024x512_0_0))
        (View.ld (iblk m c 1 t) (Rect.unit ![0, 0] ![256, 1024] inb_S512x1024_S256x1024_0_0))
        (View.ld (iblk m c 5 t) (Rect.unit ![0, 512] ![1024, 1024] inb_S1024x4608_S1024x1024_0_512))
        (View.ld (iblk m c 2 t) (Rect.unit ![0, 0] ![256, 1024] inb_S512x1024_S256x1024_0_0))
        (View.ld (iblk m c 5 t) (Rect.unit ![0, 1536] ![1024, 1024] inb_S1024x4608_S1024x1024_0_1536))
        (View.ld (iblk m c 3 t) (Rect.unit ![0, 0] ![256, 1024] inb_S512x1024_S256x1024_0_0))
        (View.ld (iblk m c 5 t) (Rect.unit ![0, 2560] ![1024, 1024] inb_S1024x4608_S1024x1024_0_2560)))
        (k0_pay7 (View.ld (iblk m c 4 t) (Rect.unit ![0, 0] ![256, 1024] inb_S512x1024_S256x1024_0_0)))
        (View.ld (iblk m c 5 t) (Rect.unit ![0, 3584] ![1024, 1024] inb_S1024x4608_S1024x1024_0_3584))
      = fun x => DH m c (at512 t ⟨x 0, (x 0).isLt.trans (by decide)⟩) (x 1) := by
  funext x
  pointwise [k0_pay6, k0_pay7, k0_pay8, DH, InProj.dh, InProj.part]
  blk_point [iblk, V, idx t]

set_option maxHeartbeats 1000000 in
/-- The upper half's block of `dx`. -/
theorem dx_upper (c : Dev nD) (t : Fin cfg0.N) (x : S256x1024.Idx) :
    k0_pay4 (F := Ideal) (iblk m c 8 t)
      (k0_pay14 (k0_pay13 (View.ld (iblk m c 0 t) (Rect.unit ![256, 0] ![256, 512] inb_S512x512_S256x512_256_0)))
        (View.ld (iblk m c 5 t) (Rect.unit ![0, 0] ![1024, 512] inb_S1024x4608_S1024x512_0_0))
        (View.ld (iblk m c 1 t) (Rect.unit ![256, 0] ![256, 1024] inb_S512x1024_S256x1024_256_0))
        (View.ld (iblk m c 5 t) (Rect.unit ![0, 512] ![1024, 1024] inb_S1024x4608_S1024x1024_0_512))
        (View.ld (iblk m c 2 t) (Rect.unit ![256, 0] ![256, 1024] inb_S512x1024_S256x1024_256_0))
        (View.ld (iblk m c 5 t) (Rect.unit ![0, 1536] ![1024, 1024] inb_S1024x4608_S1024x1024_0_1536))
        (View.ld (iblk m c 3 t) (Rect.unit ![256, 0] ![256, 1024] inb_S512x1024_S256x1024_256_0))
        (View.ld (iblk m c 5 t) (Rect.unit ![0, 2560] ![1024, 1024] inb_S1024x4608_S1024x1024_0_2560))
        (View.ld (iblk m c 4 t) (Rect.unit ![256, 0] ![256, 1024] inb_S512x1024_S256x1024_256_0))
        (View.ld (iblk m c 5 t) (Rect.unit ![0, 3584] ![1024, 1024] inb_S1024x4608_S1024x1024_0_3584)))
      (View.ld (iblk m c 7 t) (Rect.unit ![256, 0] ![256, 1024] inb_S512x1024_S256x1024_256_0))
      (k0_pay15 (View.ld (iblk m c 7 t) (Rect.unit ![256, 0] ![256, 1024] inb_S512x1024_S256x1024_256_0))) (FloatOps.ofBits FTy.f32 0x358637BD#32)
      (View.ld (iblk m c 6 t) (Rect.unit ![256, 0] ![256, 1024] inb_S512x1024_S256x1024_256_0)) x
    = DX m c (ix2 (at512 t ⟨256 + x 0, by have := (x 0).isLt; dsimp at *; omega⟩) (x 1)) := by
  rw [upper m c t]
  pointwise [k0_pay1, k0_pay2, k0_pay4, k0_pay15, DX, InProj.dx, InProj.row, Rms.grad, Rms.scale, Rms.meanSq]
  blk_point [iblk, V, idx t]

set_option maxHeartbeats 1000000 in
/-- The lower half's block of `dx`. -/
theorem dx_lower (c : Dev nD) (t : Fin cfg0.N) (x : S256x1024.Idx) :
    k0_pay12 (F := Ideal) (iblk m c 8 t)
      (k0_pay6 (View.ld (iblk m c 0 t) (Rect.unit ![0, 0] ![256, 512] inb_S512x512_S256x512_0_0))
        (View.ld (iblk m c 5 t) (Rect.unit ![0, 0] ![1024, 512] inb_S1024x4608_S1024x512_0_0))
        (View.ld (iblk m c 1 t) (Rect.unit ![0, 0] ![256, 1024] inb_S512x1024_S256x1024_0_0))
        (View.ld (iblk m c 5 t) (Rect.unit ![0, 512] ![1024, 1024] inb_S1024x4608_S1024x1024_0_512))
        (View.ld (iblk m c 2 t) (Rect.unit ![0, 0] ![256, 1024] inb_S512x1024_S256x1024_0_0))
        (View.ld (iblk m c 5 t) (Rect.unit ![0, 1536] ![1024, 1024] inb_S1024x4608_S1024x1024_0_1536))
        (View.ld (iblk m c 3 t) (Rect.unit ![0, 0] ![256, 1024] inb_S512x1024_S256x1024_0_0))
        (View.ld (iblk m c 5 t) (Rect.unit ![0, 2560] ![1024, 1024] inb_S1024x4608_S1024x1024_0_2560)))
      (k0_pay7 (View.ld (iblk m c 4 t) (Rect.unit ![0, 0] ![256, 1024] inb_S512x1024_S256x1024_0_0)))
        (View.ld (iblk m c 5 t) (Rect.unit ![0, 3584] ![1024, 1024] inb_S1024x4608_S1024x1024_0_3584))
      (View.ld (iblk m c 7 t) (Rect.unit ![0, 0] ![256, 1024] inb_S512x1024_S256x1024_0_0))
      (View.ld (iblk m c 6 t) (Rect.unit ![0, 0] ![256, 1024] inb_S512x1024_S256x1024_0_0)) x
    = DX m c (ix2 (at512 t ⟨x 0, by have := (x 0).isLt; dsimp at *; omega⟩) (x 1)) := by
  pointwise [k0_pay12, k0_pay9, k0_pay10, DX, InProj.dx, InProj.row, Rms.grad, Rms.scale, Rms.meanSq]
  simp only [lower m c t]
  blk_point [iblk, V, idx t]
  rfl

/-- The rows' cotangent at the end of the run. -/
theorem final9 (c : Dev nD) : (dats m 0 c).arrAt 9 cfg0.N = DX m c := by
  refine (dats m 0 c).arrAt_eq_of_covers 9 _ (by decide +kernel) fun t hf y => ?_
  blk_simp
  rw [after0_9]
  have ht : t.val < 8 := lt_of_lt_of_eq t.isLt N_0
  by_cases hc : t.val % 8 = 0
  · rw [outsAt0_A m c t hc]; frame_out
    canon_tiles x h
    · refine (dx_upper m c t x).trans (congrArg (DX m c) ?_)
      blk_ext [idx t]
    · refine (dx_lower m c t x).trans (congrArg (DX m c) ?_)
      blk_ext [idx t]
  · rw [outsAt0_B m c t hc]; frame_out
    canon_tiles x h
    · refine (dx_upper m c t x).trans (congrArg (DX m c) ?_)
      blk_ext [idx t]
    · refine (dx_lower m c t x).trans (congrArg (DX m c) ?_)
      blk_ext [idx t]

set_option maxHeartbeats 1000000 in
/-- A point adds its 512 rows' parts to the gain's gradient. -/
theorem step (c : Dev nD) (t : Fin cfg0.N) (acc : FVec Ideal S1x1024 .f32) (j : S1x1024.Idx) :
    k0_pay3 (F := Ideal)
      (k0_pay14 (k0_pay13 (View.ld (iblk m c 0 t) (Rect.unit ![256, 0] ![256, 512] inb_S512x512_S256x512_256_0)))
        (View.ld (iblk m c 5 t) (Rect.unit ![0, 0] ![1024, 512] inb_S1024x4608_S1024x512_0_0))
        (View.ld (iblk m c 1 t) (Rect.unit ![256, 0] ![256, 1024] inb_S512x1024_S256x1024_256_0))
        (View.ld (iblk m c 5 t) (Rect.unit ![0, 512] ![1024, 1024] inb_S1024x4608_S1024x1024_0_512))
        (View.ld (iblk m c 2 t) (Rect.unit ![256, 0] ![256, 1024] inb_S512x1024_S256x1024_256_0))
        (View.ld (iblk m c 5 t) (Rect.unit ![0, 1536] ![1024, 1024] inb_S1024x4608_S1024x1024_0_1536))
        (View.ld (iblk m c 3 t) (Rect.unit ![256, 0] ![256, 1024] inb_S512x1024_S256x1024_256_0))
        (View.ld (iblk m c 5 t) (Rect.unit ![0, 2560] ![1024, 1024] inb_S1024x4608_S1024x1024_0_2560))
        (View.ld (iblk m c 4 t) (Rect.unit ![256, 0] ![256, 1024] inb_S512x1024_S256x1024_256_0))
        (View.ld (iblk m c 5 t) (Rect.unit ![0, 3584] ![1024, 1024] inb_S1024x4608_S1024x1024_0_3584)))
      (View.ld (iblk m c 7 t) (Rect.unit ![256, 0] ![256, 1024] inb_S512x1024_S256x1024_256_0))
      (k0_pay15 (View.ld (iblk m c 7 t) (Rect.unit ![256, 0] ![256, 1024] inb_S512x1024_S256x1024_256_0))) (FloatOps.ofBits FTy.f32 0x358637BD#32)
      (k0_pay11 (k0_pay6 (View.ld (iblk m c 0 t) (Rect.unit ![0, 0] ![256, 512] inb_S512x512_S256x512_0_0))
        (View.ld (iblk m c 5 t) (Rect.unit ![0, 0] ![1024, 512] inb_S1024x4608_S1024x512_0_0))
        (View.ld (iblk m c 1 t) (Rect.unit ![0, 0] ![256, 1024] inb_S512x1024_S256x1024_0_0))
        (View.ld (iblk m c 5 t) (Rect.unit ![0, 512] ![1024, 1024] inb_S1024x4608_S1024x1024_0_512))
        (View.ld (iblk m c 2 t) (Rect.unit ![0, 0] ![256, 1024] inb_S512x1024_S256x1024_0_0))
        (View.ld (iblk m c 5 t) (Rect.unit ![0, 1536] ![1024, 1024] inb_S1024x4608_S1024x1024_0_1536))
        (View.ld (iblk m c 3 t) (Rect.unit ![0, 0] ![256, 1024] inb_S512x1024_S256x1024_0_0))
        (View.ld (iblk m c 5 t) (Rect.unit ![0, 2560] ![1024, 1024] inb_S1024x4608_S1024x1024_0_2560)))
        (k0_pay7 (View.ld (iblk m c 4 t) (Rect.unit ![0, 0] ![256, 1024] inb_S512x1024_S256x1024_0_0)))
        (View.ld (iblk m c 5 t) (Rect.unit ![0, 3584] ![1024, 1024] inb_S1024x4608_S1024x1024_0_3584))
        (View.ld (iblk m c 7 t) (Rect.unit ![0, 0] ![256, 1024] inb_S512x1024_S256x1024_0_0)) acc) j
    = acc j + ∑ r : Fin 512, DGRow m c (at512 t r) (j 1) := by
  rw [upper m c t, Finite.sum_halves 256 rfl, ← add_assoc]
  pointwise [k0_pay3, k0_pay2, k0_pay1, k0_pay15, k0_pay11, k0_pay9, k0_pay10, DGRow, InProj.dgRow, InProj.row, Rms.scale, Rms.meanSq]
  simp only [lower m c t]
  blk_point [iblk, V, idx t]
  rfl

/-- The first point clears the gain's gradient. -/
theorem zero (j : S1x1024.Idx) : k0_pay5 (F := Ideal) j = 0 := by
  pointwise [k0_pay5]

/-- The gain's gradient sums the rows' parts. -/
theorem final10 (c : Dev nD) : (dats m 0 c).arrAt 10 cfg0.N = fun i => ∑ p : Fin 4096, DGRow m c p (i 1) := by
  refine (dats m 0 c).arrAt_eq_of_after_last 10 t0_7 (by decide +kernel) _ fun j => ?_
  blk_simp
  have e := Pipeline.eq_sum_fin_of_reset_step_apply_last (fun n h => (outsAt0 m c n h).2) 8 (fun _ => 0)
    (fun t j => ∑ r : Fin 512, DGRow m c (at512 t r) (j 1))
    (fun t h j => by rw [outsAt0_A m c t h]; frame_out; exact (step m c t _ j).trans (congrArg (· + _) (zero j)))
    (fun t h j => by rw [outsAt0_B m c t h]; frame_out; exact step m c t _ j)
    (le_of_eq N_0) t0_7 rfl j
  rw [after0_10]
  refine e.trans ((zero_add _).trans ?_)
  exact Fin.sum_mul_add_congr fun t r hl => rfl

end Cert.InProjKernelIdeal.Value

end
-- ==== Proof.InProj.Reference.lean ====
/- The reference's derivative, read at an index: the formulas of `Spec` on arguments whose gradient is real. -/
module

public import proofs.«01_k».proof.Proof.InProj.Spec
public import proofs.«01_k».proof.Proof.Gen.InProjReferenceIdeal.Read

@[expose] public section

set_option maxRecDepth 16384

noncomputable section

namespace Cert.InProjReferenceIdeal.Read

open Cert.InProjReferenceIdeal Cert.InProjReferenceIdeal.Gen Idealize.ShloMosaic Idealize.ShloMosaic.TcCoe Cert.Finite

variable (s0 : FVec Ideal S4096x512 .f32) (s1 s2 s3 s4 : FVec Ideal S4096x1024 .f32) (w : FVec Ideal S1x1024x4608 .f32)
  (d x : FVec Ideal S4096x1024 .f32) (g : FVec Ideal S1x1024 .f32)

/-- One product over all columns is the sum of the segments' products. -/
theorem dh_apply (p : Fin 4096) (j : Fin 1024) :
    val_main_v33 (F := Ideal) s0 s1 s2 s3 s4 w (ix2 p j) = InProj.dh s0 s1 s2 s3 s4 w p j := by
  pointwise [val_main_v17, val_main_cst_3, val_main_v24, val_main_cst_4, val_main_v25, val_main_v26, val_main_cst_5, val_main_v27, val_main_v28, val_main_cst_6, val_main_v29, val_main_v30, val_main_cst_7, val_main_v31, val_main_v32, val_main_v33]
  rw [sum_segments 512 4096 rfl, sum_segments 1024 3072 rfl, sum_segments 1024 2048 rfl, sum_segments 1024 1024 rfl, ← add_assoc, ← add_assoc, ← add_assoc]
  refine congrArg₂ (· + ·) (congrArg₂ (· + ·) (congrArg₂ (· + ·) (congrArg₂ (· + ·) (Finset.sum_congr rfl fun l _ => ?_) (Finset.sum_congr rfl fun l _ => ?_))
    (Finset.sum_congr rfl fun l _ => ?_)) (Finset.sum_congr rfl fun l _ => ?_)) (Finset.sum_congr rfl fun l _ => ?_)
  all_goals
    have hl := l.isLt
    simp (disch := omega) only [dif_pos, dif_neg, zero_add, add_zero]
    try simp only [← Nat.add_assoc, Nat.reduceAdd, Nat.add_sub_cancel_left, Fin.eta]

theorem isReal_dh {s0 : FVec Ideal S4096x512 .f32} {s1 s2 s3 s4 : FVec Ideal S4096x1024 .f32} {w : FVec Ideal S1x1024x4608 .f32}
    (h0 : ∀ i, IsReal (s0 i)) (h1 : ∀ i, IsReal (s1 i)) (h2 : ∀ i, IsReal (s2 i)) (h3 : ∀ i, IsReal (s3 i)) (h4 : ∀ i, IsReal (s4 i))
    (hw : ∀ i, IsReal (w i)) (p : Fin 4096) (k : Fin 1024) : IsReal (InProj.dh s0 s1 s2 s3 s4 w p k) :=
  ((((IsReal.sum fun _ => (h0 _).mul (hw _)).add (IsReal.sum fun _ => (h1 _).mul (hw _))).add
    (IsReal.sum fun _ => (h2 _).mul (hw _))).add (IsReal.sum fun _ => (h3 _).mul (hw _))).add (IsReal.sum fun _ => (h4 _).mul (hw _))

/-- The rows' cotangent. -/
theorem dx_apply (h0 : ∀ i, IsReal (s0 i)) (h1 : ∀ i, IsReal (s1 i)) (h2 : ∀ i, IsReal (s2 i)) (h3 : ∀ i, IsReal (s3 i))
    (h4 : ∀ i, IsReal (s4 i)) (hw : ∀ i, IsReal (w i)) (hx : ∀ i, IsReal (x i)) (hg : ∀ i, IsReal (g i)) (p : Fin 4096) (j : Fin 1024) :
    val_main_v54 (F := Ideal) s0 s1 s2 s3 s4 w d x g (ix2 p j) = InProj.dx s0 s1 s2 s3 s4 w d x g p j := by
  rw [InProj.dx, Rms.add_grad_eq _ _ _ (fun _ => hx _) fun _ => (isReal_dh h0 h1 h2 h3 h4 hw _ _).mul (hg _)]
  simp only [← dh_apply]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v24, val_main_cst_4, val_main_v25, val_main_v26, val_main_cst_5, val_main_v27, val_main_v28, val_main_cst_6, val_main_v29, val_main_v30, val_main_cst_7, val_main_v31, val_main_v32, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, Rms.viaMean, Rms.scale, Rms.meanSq, InProj.row]

/-- The gain's gradient. -/
theorem dg_apply (p : Fin 1) (j : Fin 1024) :
    val_main_v55 (F := Ideal) s0 s1 s2 s3 s4 w x (ix2 p j) = ∑ p, InProj.dgRow s0 s1 s2 s3 s4 w x p j := by
  simp only [InProj.dgRow, ← dh_apply]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v24, val_main_cst_4, val_main_v25, val_main_v26, val_main_cst_5, val_main_v27, val_main_v28, val_main_cst_6, val_main_v29, val_main_v30, val_main_cst_7, val_main_v31, val_main_v32, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, Rms.viaMean, Rms.scale, Rms.meanSq, InProj.row]
  simp only [Finset.univ_unique, Finset.sum_singleton]
  exact Finset.sum_congr rfl fun _ _ => mul_comm _ _

end Cert.InProjReferenceIdeal.Read

end
-- ==== Proof.InProj.Claim.lean ====
/- The equation of the kernel's two results and the reference's. -/
module

public import proofs.«01_k».proof.Defs
public import proofs.«01_k».proof.Proof.Gen.InProjKernel.Frame
public import proofs.«01_k».proof.Proof.InProj.Array
public import proofs.«01_k».proof.Proof.InProj.Reference
public import proofs.«01_k».proof.Proof.Gen.InProjReferenceIdeal.Run
public import proofs.«01_k».proof.Proof.Gen.Pre_in_proj_finite

@[expose] public section

set_option maxRecDepth 16384

noncomputable section

namespace Cert.InProj

open Idealize.ShloMosaic Idealize.ShloMosaic.TcCoe Idealize.SL.Sem

variable {m : (ℓ : Loc Cert.InProjKernelIdeal.nD Cert.InProjKernelIdeal.τ Cert.InProjKernelIdeal.sig) → Buf (Elt Ideal) ℓ}

open Cert.InProjKernelIdeal in
/-- What the precondition says of the arguments it names. -/
theorem real_args (h : Cert.Pre_InProjKernelIdeal_in_proj_finite m) (c : Dev nD) :
    (∀ i, Finite.IsReal (m ((c : Thread nD τ).loc main_arg0) i)) ∧ (∀ i, Finite.IsReal (m ((c : Thread nD τ).loc main_arg1) i))
    ∧ (∀ i, Finite.IsReal (m ((c : Thread nD τ).loc main_arg2) i)) ∧ (∀ i, Finite.IsReal (m ((c : Thread nD τ).loc main_arg3) i))
    ∧ (∀ i, Finite.IsReal (m ((c : Thread nD τ).loc main_arg4) i)) ∧ (∀ i, Finite.IsReal (m ((c : Thread nD τ).loc main_arg5) i))
    ∧ (∀ i, Finite.IsReal (m ((c : Thread nD τ).loc main_arg7) i)) ∧ ∀ i, Finite.IsReal (m ((c : Thread nD τ).loc main_arg8) i) := by
  obtain ⟨h0, h1, h2, h3, h4, h5, h7, h8⟩ := h c
  exact ⟨Finite.reals h0 fun _ => rfl, Finite.reals h1 fun _ => rfl, Finite.reals h2 fun _ => rfl, Finite.reals h3 fun _ => rfl,
    Finite.reals h4 fun _ => rfl, Finite.reals h5 fun _ => rfl, Finite.reals h7 fun _ => rfl, Finite.reals h8 fun _ => rfl⟩

/-- The reference runs from any memory, keeps its arguments, and declares no semaphore. -/
theorem frame_reference : Cert.quiescent_InProjReferenceIdeal := fun m ρ _ =>
  (θ_run Cert.InProjReferenceIdeal.defs _ _).mono
    (fun r h => ⟨fun c => (h c).2.2, sem_eq_zero_of_no_sems (by decide) r.2⟩) (Cert.InProjReferenceIdeal.Value.run m ρ)

/-- The two results of the kernel are the reference's. -/
theorem algebraic : Cert.algebraic_InProjKernelIdeal_InProjReferenceIdeal_pre_in_proj_finite := by
  pair_intro
  · run_from Cert.InProjKernelIdeal.Value.run_blocks m g
  · run_from Cert.InProjReferenceIdeal.Value.run m' g'
    all_goals obtain ⟨r0, r1, r2, r3, r4, r5, r7, r8⟩ := real_args hpre c
    all_goals obtain ⟨a0, a1, a2, a3, a4, a5, a6, a7, a8⟩ := hagree c
    · rw [Cert.InProjReferenceIdeal.Read.val_main_v54_eq, a0, a1, a2, a3, a4, a5, a6, a7, a8]
      refine Eq.trans (funext fun i => ?_) (Cert.InProjKernelIdeal.Value.final9 m c).symm
      exact (congrArg _ (eq_ix2 i)).trans (Cert.InProjReferenceIdeal.Read.dx_apply _ _ _ _ _ _ _ _ _ r0 r1 r2 r3 r4 r5 r7 r8 _ _)
    · refine (Cert.InProjReferenceIdeal.Read.val_main_v55_eq _ _ _ _ _ _ _).trans ?_
      refine Eq.trans (funext fun i => ?_) (Cert.InProjKernelIdeal.Value.final10 m c).symm
      exact (congrArg _ (eq_ix2 i)).trans (Cert.InProjReferenceIdeal.Read.dg_apply _ _ _ _ _ _ _ _ _)

end Cert.InProj

end
-- ==== Proof.Loss.Spec.lean ====
/- The loss over the last feed-forward product and the final norm, and its gradient, as formulas over the argument arrays:
   the errors' squares summed per column, the cotangent of the residual rows, and the gain's gradient. -/
module

public import proofs.«01_k».proof.Proof.RmsNorm
public import proofs.«01_k».proof.Proof.Gen.LossKernelIdeal
public import Idealize.ShloMosaic.Lib.Pointwise

@[expose] public section

set_option maxRecDepth 16384

noncomputable section

namespace Cert.Loss

open Idealize.ShloMosaic Cert.LossKernelIdeal

variable (a : FVec Ideal S4096x2816 .f32) (w : FVec Ideal S1x2816x1024 .f32) (x : FVec Ideal S4096x1024 .f32)
  (g : FVec Ideal S1024 .f32) (d : FVec Ideal S4096x1024 .f32)

/-- Row `p` of the residual stream after the last product. -/
abbrev row (p : Fin 4096) (k : Fin 1024) : EReal := x (ix2 p k) + ∑ l : Fin 2816, a (ix2 p l) * w (ix3 0 l k)

/-- The error of row `p`: the normed row less the target. -/
abbrev err (p : Fin 4096) (k : Fin 1024) : EReal := row a w x p k * Rms.scale (row a w x p) * g (ix1 k) - d (ix2 p k)

/-- The cotangent of the normed row: the error over the row's length. -/
abbrev ct (p : Fin 4096) (k : Fin 1024) : EReal := err a w x g d p k * Ideal.ofBits .f32 0x3A800000#32

/-- The cotangent of row `p`. -/
abbrev dx (p : Fin 4096) (j : Fin 1024) : EReal := Rms.grad (row a w x p) (fun k => ct a w x g d p k * g (ix1 k)) j

/-- Row `p`'s part of the gain's gradient. -/
abbrev dgRow (p : Fin 4096) (j : Fin 1024) : EReal := ct a w x g d p j * (row a w x p j * Rms.scale (row a w x p))

end Cert.Loss

end
-- ==== Proof.Loss.Array.lean ====
/- What the four result arrays hold after the kernel's run. -/
module

public import proofs.«01_k».proof.Proof.Loss.Spec
public import proofs.«01_k».proof.Proof.Gen.LossKernelIdeal.Value
public import Idealize.ShloMosaic.Lib.Pipeline.ValueKit
public import Idealize.ShloMosaic.Lib.Claim

@[expose] public section

set_option maxRecDepth 16384

noncomputable section

namespace Cert.LossKernelIdeal.Value

open Cert.LossKernelIdeal Cert.LossKernelIdeal.Gen Idealize.ShloMosaic Idealize.ShloMosaic.TcCoe Idealize.SL.Sem

variable (m : (ℓ : Loc nD τ sig) → Buf (Elt Ideal) ℓ)

/-- The block each window stages at a point: the rows' blocks move with the point, the weight and the gain stay. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

/-- The rows after the last product. -/
abbrev ROW (c : Dev nD) (p : Fin 4096) (k : Fin 1024) : EReal := Loss.row (m ((c : Thread nD τ).loc main_arg0))
  (m ((c : Thread nD τ).loc main_arg1)) (m ((c : Thread nD τ).loc main_arg2)) p k

/-- The rows' errors. -/
abbrev ERR (c : Dev nD) (p : Fin 4096) (k : Fin 1024) : EReal := Loss.err (m ((c : Thread nD τ).loc main_arg0)) (m ((c : Thread nD τ).loc main_arg1))
  (m ((c : Thread nD τ).loc main_arg2)) (m ((c : Thread nD τ).loc main_arg3)) (m ((c : Thread nD τ).loc main_arg4)) p k

/-- The rows' cotangent, as an array. -/
abbrev DX (c : Dev nD) : FVec Ideal S4096x1024 .f32 := fun i => Loss.dx (m ((c : Thread nD τ).loc main_arg0)) (m ((c : Thread nD τ).loc main_arg1))
  (m ((c : Thread nD τ).loc main_arg2)) (m ((c : Thread nD τ).loc main_arg3)) (m ((c : Thread nD τ).loc main_arg4)) (i 0) (i 1)

/-- Row `p`'s part of the gain's gradient. -/
abbrev DGRow (c : Dev nD) (p : Fin 4096) (j : Fin 1024) : EReal := Loss.dgRow (m ((c : Thread nD τ).loc main_arg0)) (m ((c : Thread nD τ).loc main_arg1))
  (m ((c : Thread nD τ).loc main_arg2)) (m ((c : Thread nD τ).loc main_arg3)) (m ((c : Thread nD τ).loc main_arg4)) p j

/-- The array's row behind row `r` of a point's block. -/
abbrev at512 (t : Fin cfg0.N) (r : Fin 512) : Fin 4096 :=
  ⟨t.val * 512 + r.val, by have := lt_of_lt_of_eq t.isLt N_0; omega⟩

set_option maxHeartbeats 1000000 in
/-- The upper half's rows. -/
theorem upper (c : Dev nD) (t : Fin cfg0.N) :
    k0_pay17 (F := Ideal) (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0))
    = fun x => ROW m c (at512 t ⟨256 + x 0, by have := (x 0).isLt; dsimp at *; omega⟩) (x 1) := by
  funext x
  pointwise [k0_pay17, k0_pay7, ROW, Loss.row]
  blk_point [iblk, V, idx t]

set_option maxHeartbeats 1000000 in
/-- The lower half's rows. -/
theorem lower (c : Dev nD) (t : Fin cfg0.N) :
    k0_pay8 (F := Ideal) (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0))
    = fun x => ROW m c (at512 t ⟨x 0, by have := (x 0).isLt; dsimp at *; omega⟩) (x 1) := by
  funext x
  pointwise [k0_pay8, k0_pay7, ROW, Loss.row]
  blk_point [iblk, V, idx t]

/-- The gain is read in its own shape. -/
theorem gain (g : FVec Ideal S1x1024 .f32) : k0_pay6 (F := Ideal) g = g := by
  funext j
  pointwise [k0_pay6]

set_option maxHeartbeats 1000000 in
/-- The upper half's errors. -/
theorem err_upper (c : Dev nD) (t : Fin cfg0.N) :
    k0_pay19 (F := Ideal) (k0_pay6 (iblk m c 3 t)) (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (k0_pay18 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (View.ld (iblk m c 4 t) (Rect.unit ![256, 0] ![256, 1024] inb_S512x1024_S256x1024_256_0))
    = fun x => ERR m c (at512 t ⟨256 + x 0, by have := (x 0).isLt; dsimp at *; omega⟩) (x 1) := by
  funext x
  rw [show k0_pay18 (F := Ideal) (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)) = mulf (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0))) (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0))) from rfl, upper m c t]
  pointwise [k0_pay19, k0_pay6, ERR, Loss.err, Rms.scale, Rms.meanSq]
  blk_point [iblk, V, idx t]

set_option maxHeartbeats 1000000 in
/-- The lower half's errors. -/
theorem err_lower (c : Dev nD) (t : Fin cfg0.N) :
    k0_pay9 (F := Ideal) (iblk m c 3 t) (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)) (View.ld (iblk m c 4 t) (Rect.unit ![0, 0] ![256, 1024] inb_S512x1024_S256x1024_0_0))
    = fun x => ERR m c (at512 t ⟨x 0, by have := (x 0).isLt; dsimp at *; omega⟩) (x 1) := by
  funext x
  pointwise [k0_pay9, ERR, Loss.err, Rms.scale, Rms.meanSq]
  simp only [lower m c t]
  blk_point [iblk, V, idx t]
  all_goals rfl

set_option maxHeartbeats 1000000 in
/-- The upper half's block of the rows' cotangent. -/
theorem dx_upper (c : Dev nD) (t : Fin cfg0.N) (x : S256x1024.Idx) :
    k0_pay1 (F := Ideal) (k0_pay24 (k0_pay6 (iblk m c 3 t)) (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (k0_pay18 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (View.ld (iblk m c 4 t) (Rect.unit ![256, 0] ![256, 1024] inb_S512x1024_S256x1024_256_0)))
      (k0_pay25 (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))) x
    = DX m c (ix2 (at512 t ⟨256 + x 0, by have := (x 0).isLt; dsimp at *; omega⟩) (x 1)) := by
  pointwise [k0_pay1, k0_pay21, k0_pay22, k0_pay23, k0_pay24, k0_pay25, DX, Loss.dx, Loss.ct, Rms.grad, Rms.scale, Rms.meanSq]
  simp only [err_upper m c t]
  simp only [upper m c t, gain]
  blk_point [iblk, V, idx t]
  all_goals rfl

set_option maxHeartbeats 1000000 in
/-- The lower half's block of the rows' cotangent. -/
theorem dx_lower (c : Dev nD) (t : Fin cfg0.N) (x : S256x1024.Idx) :
    k0_pay14 (F := Ideal) (k0_pay6 (iblk m c 3 t)) (k0_pay8 (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)))
      (k0_pay11 (iblk m c 3 t) (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)) (View.ld (iblk m c 4 t) (Rect.unit ![0, 0] ![256, 1024] inb_S512x1024_S256x1024_0_0))) x
    = DX m c (ix2 (at512 t ⟨x 0, by have := (x 0).isLt; dsimp at *; omega⟩) (x 1)) := by
  pointwise [k0_pay14, k0_pay11, k0_pay12, k0_pay13, k0_pay6, DX, Loss.dx, Loss.ct, Rms.grad, Rms.scale, Rms.meanSq]
  simp only [err_lower m c t]
  simp only [lower m c t]
  blk_point [iblk, V, idx t]
  all_goals rfl

set_option maxHeartbeats 1000000 in
/-- A point adds its 512 rows' squared errors. -/
theorem step_sq (c : Dev nD) (t : Fin cfg0.N) (acc : FVec Ideal S1x1024 .f32) (j : S1x1024.Idx) :
    k0_pay20 (F := Ideal) (k0_pay6 (iblk m c 3 t)) (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (k0_pay18 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (View.ld (iblk m c 4 t) (Rect.unit ![256, 0] ![256, 1024] inb_S512x1024_S256x1024_256_0))
      (k0_pay10 (iblk m c 3 t) (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)) (View.ld (iblk m c 4 t) (Rect.unit ![0, 0] ![256, 1024] inb_S512x1024_S256x1024_0_0)) acc) j
    = acc j + ∑ r : Fin 512, ERR m c (at512 t r) (j 1) * ERR m c (at512 t r) (j 1) := by
  rw [Finite.sum_halves 256 rfl, ← add_assoc]
  pointwise [k0_pay20, k0_pay10]
  simp only [err_lower m c t, err_upper m c t]
  blk_point [iblk, V, idx t]
  all_goals rfl

set_option maxHeartbeats 1000000 in
/-- A point adds its 512 rows' parts to the gain's gradient. -/
theorem step_dg (c : Dev nD) (t : Fin cfg0.N) (acc : FVec Ideal S1x1024 .f32) (j : S1x1024.Idx) :
    k0_pay2 (F := Ideal) (k0_pay21 (k0_pay6 (iblk m c 3 t)) (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (k0_pay18 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0)))
        (View.ld (iblk m c 4 t) (Rect.unit ![256, 0] ![256, 1024] inb_S512x1024_S256x1024_256_0)))
      (k0_pay23 (k0_pay17 (k0_pay7 (iblk m c 1 t)) (View.ld (iblk m c 2 t) (Rect.unit ![256, 0] ![256, 1024] inb_S512x1024_S256x1024_256_0)) (View.ld (iblk m c 0 t) (Rect.unit ![256, 0] ![256, 2816] inb_S512x2816_S256x2816_256_0))))
      (k0_pay15 (k0_pay8 (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)))
        (k0_pay11 (iblk m c 3 t) (iblk m c 1 t) (View.ld (iblk m c 2 t) (Rect.unit ![0, 0] ![256, 1024] inb_S512x1024_S256x1024_0_0)) (View.ld (iblk m c 0 t) (Rect.unit ![0, 0] ![256, 2816] inb_S512x2816_S256x2816_0_0)) (View.ld (iblk m c 4 t) (Rect.unit ![0, 0] ![256, 1024] inb_S512x1024_S256x1024_0_0))) acc) j
    = acc j + ∑ r : Fin 512, DGRow m c (at512 t r) (j 1) := by
  rw [Finite.sum_halves 256 rfl, ← add_assoc]
  pointwise [k0_pay2, k0_pay15, k0_pay11, k0_pay12, k0_pay13, k0_pay21, k0_pay22, k0_pay23, DGRow, Loss.dgRow, Loss.ct, Rms.scale, Rms.meanSq]
  simp only [err_lower m c t, err_upper m c t]
  simp only [lower m c t, upper m c t]
  blk_point [iblk, V, idx t]
  all_goals rfl

/-- The rows' cotangent after the run. -/
theorem final5 (c : Dev nD) : (dats m 0 c).arrAt 5 cfg0.N = DX m c := by
  refine (dats m 0 c).arrAt_eq_of_covers 5 _ (by decide +kernel) fun t hf y => ?_
  blk_simp
  rw [after0_5]
  by_cases hc : t.val % 8 = 0
  · rw [outsAt0_A m c t hc]; frame_out
    canon_tiles x h
    · refine (dx_upper m c t x).trans (congrArg (DX m c) ?_)
      blk_ext [idx t]
    · refine (dx_lower m c t x).trans (congrArg (DX m c) ?_)
      blk_ext [idx t]
  · rw [outsAt0_B m c t hc]; frame_out
    canon_tiles x h
    · refine (dx_upper m c t x).trans (congrArg (DX m c) ?_)
      blk_ext [idx t]
    · refine (dx_lower m c t x).trans (congrArg (DX m c) ?_)
      blk_ext [idx t]

/-- The same cotangent, kept a second time in the short format. -/
theorem final6 (c : Dev nD) : (dats m 0 c).arrAt 6 cfg0.N = DX m c := by
  refine (dats m 0 c).arrAt_eq_of_covers 6 _ (by decide +kernel) fun t hf y => ?_
  blk_simp
  rw [after0_6]
  by_cases hc : t.val % 8 = 0
  · rw [outsAt0_A m c t hc]; frame_out
    canon_tiles x h
    · refine (dx_upper m c t x).trans (congrArg (DX m c) ?_)
      blk_ext [idx t]
    · refine (dx_lower m c t x).trans (congrArg (DX m c) ?_)
      blk_ext [idx t]
  · rw [outsAt0_B m c t hc]; frame_out
    canon_tiles x h
    · refine (dx_upper m c t x).trans (congrArg (DX m c) ?_)
      blk_ext [idx t]
    · refine (dx_lower m c t x).trans (congrArg (DX m c) ?_)
      blk_ext [idx t]

/-- The first point clears the sums. -/
theorem zero4 (j : S1x1024.Idx) : k0_pay4 (F := Ideal) j = 0 := by pointwise [k0_pay4]
theorem zero5 (j : S1x1024.Idx) : k0_pay5 (F := Ideal) j = 0 := by pointwise [k0_pay5]

/-- The errors' squares, summed per column. -/
theorem final7 (c : Dev nD) : (dats m 0 c).arrAt 7 cfg0.N = fun i => ∑ p : Fin 4096, ERR m c p (i 1) * ERR m c p (i 1) := by
  refine (dats m 0 c).arrAt_eq_of_after_last 7 t0_7 (by decide +kernel) _ fun j => ?_
  blk_simp
  have e := Pipeline.eq_sum_fin_of_reset_step_apply_last (fun n h => (outsAt0 m c n h).2.2.1) 8 (fun _ => 0)
    (fun t j => ∑ r : Fin 512, ERR m c (at512 t r) (j 1) * ERR m c (at512 t r) (j 1))
    (fun t h j => by rw [outsAt0_A m c t h]; frame_out; exact (step_sq m c t _ j).trans (congrArg (· + _) (zero4 j)))
    (fun t h j => by rw [outsAt0_B m c t h]; frame_out; exact step_sq m c t _ j)
    (le_of_eq N_0) t0_7 rfl j
  rw [after0_7]
  refine e.trans ((zero_add _).trans ?_)
  exact Fin.sum_mul_add_congr fun t r hl => rfl

/-- The gain's gradient sums the rows' parts. -/
theorem final8 (c : Dev nD) : (dats m 0 c).arrAt 8 cfg0.N = fun i => ∑ p : Fin 4096, DGRow m c p (i 1) := by
  refine (dats m 0 c).arrAt_eq_of_after_last 8 t0_7 (by decide +kernel) _ fun j => ?_
  blk_simp
  have e := Pipeline.eq_sum_fin_of_reset_step_apply_last (fun n h => (outsAt0 m c n h).2.2.2) 8 (fun _ => 0)
    (fun t j => ∑ r : Fin 512, DGRow m c (at512 t r) (j 1))
    (fun t h j => by rw [outsAt0_A m c t h]; frame_out; exact (step_dg m c t _ j).trans (congrArg (· + _) (zero5 j)))
    (fun t h j => by rw [outsAt0_B m c t h]; frame_out; exact step_dg m c t _ j)
    (le_of_eq N_0) t0_7 rfl j
  rw [after0_8]
  refine e.trans ((zero_add _).trans ?_)
  exact Fin.sum_mul_add_congr fun t r hl => rfl

end Cert.LossKernelIdeal.Value

end
-- ==== Proof.Loss.Reference.lean ====
/- The reference's derivative, read at an index: the formulas of `Spec` on real arguments. -/
module

public import proofs.«01_k».proof.Proof.Loss.Spec
public import proofs.«01_k».proof.Proof.Gen.LossReferenceIdeal.Read

@[expose] public section

set_option maxRecDepth 16384

noncomputable section

namespace Cert.LossReferenceIdeal.Read

open Cert.LossReferenceIdeal Cert.LossReferenceIdeal.Gen Idealize.ShloMosaic Idealize.ShloMosaic.TcCoe Cert.Finite

variable (a : FVec Ideal S4096x2816 .f32) (w : FVec Ideal S1x2816x1024 .f32) (x : FVec Ideal S4096x1024 .f32)
  (g : FVec Ideal S1024 .f32) (d : FVec Ideal S4096x1024 .f32)

/-- Half the mean's derivative times the square's is the error over the row's length. -/
theorem half_two (e : EReal) :
    Ideal.div (Ideal.ofBits .f32 0x3F000000#32) (Ideal.ofBits .f32 0x44800000#32) * (Ideal.ofBits .f32 0x40000000#32 * e)
    = e * Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Ideal.ofBits .f32 0x3A800000#32 = ((1 / 1024 : ℝ) : EReal) := by simp [Ideal.ofBits, Ideal.ieee, -EReal.coe_mul]; norm_num
  rw [h1, h2, h3, Rms.word_width, div_coe_coe _ (by norm_num), ← mul_assoc, ← EReal.coe_mul, mul_comm e]
  norm_num

/-- The word for the row's reciprocal length is real. -/
theorem isReal_recip : IsReal (Ideal.ofBits .f32 0x3A800000#32) :=
  ⟨1 / 1024, by simp [Ideal.ofBits, Ideal.ieee, -EReal.coe_mul]; norm_num⟩

/-- The rows after the last product. -/
theorem row_apply (p : Fin 4096) (k : Fin 1024) : val_main_v2 (F := Ideal) a w x (ix2 p k) = Loss.row a w x p k := by
  pointwise [val_main_v2, val_main_v1, val_main_v0]

/-- The errors' squares, summed per column. -/
theorem sq_apply (p : Fin 1) (j : Fin 1024) :
    val_main_v71 (F := Ideal) a w x g d (ix2 p j) = ∑ p, Loss.err a w x g d p j * Loss.err a w x g d p j := by
  simp only [Loss.err, Rms.scale, Rms.meanSq, ← row_apply]
  pointwise [val_main_v0, val_main_v1, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_cst_3, val_main_v21, val_main_v22, val_main_cst_4, val_main_v23, val_main_cst_5, val_main_v24, val_main_v25, val_main_cst_6, val_main_v26, val_main_cst_7, val_main_v27, val_main_cst_8, val_main_cst_9, val_main_v28, val_main_v29, val_main_cst_10, val_main_v30, val_main_v31, val_main_v32, val_main_v33, val_main_v34, val_main_cst_11, val_main_v35, val_main_v36, val_main_v37, val_main_v38, val_main_cst_12, val_main_v39, val_main_v40, val_main_cst_13, val_main_v41, val_main_v42, val_main_v43, val_main_v44, val_main_v45, val_main_cst_14, val_main_v46, val_main_v47, val_main_cst_15, val_main_v48, val_main_v49, val_main_v50, val_main_v51, val_main_v52, val_main_v53, val_main_v54, val_main_v55, val_main_cst_16, val_main_v56, val_main_v57, val_main_cst_17, val_main_v58, val_main_v59, val_main_cst_18, val_main_v60, val_main_v61, val_main_v62, val_main_v63, val_main_v64, val_main_v65, val_main_v66, val_main_v67, val_main_v68, val_main_v69, val_main_cst_19, val_main_v70, val_main_v71, val_main_v72]

/-- The rows' cotangent. -/
theorem dx_apply (ha : ∀ i, IsReal (a i)) (hw : ∀ i, IsReal (w i)) (hx : ∀ i, IsReal (x i)) (hg : ∀ i, IsReal (g i)) (hd : ∀ i, IsReal (d i))
    (p : Fin 4096) (j : Fin 1024) :
    val_main_v53 (F := Ideal) a w x g d (ix2 p j) = Loss.dx a w x g d p j := by
  have hr : ∀ k, IsReal (Loss.row a w x p k) := fun _ => (hx _).add (IsReal.sum fun _ => (ha _).mul (hw _))
  have he : ∀ k, IsReal (Loss.err a w x g d p k) := fun k => (((hr k).mul (Rms.isReal_scale hr)).mul (hg _)).sub (hd _)
  rw [Loss.dx, Rms.grad_eq _ _ hr fun k => ((he k).mul isReal_recip).mul (hg _)]
  simp only [Loss.ct, Loss.err, Rms.viaMean, Rms.scale, Rms.meanSq, ← row_apply]
  pointwise [val_main_v0, val_main_v1, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_cst_3, val_main_v21, val_main_v22, val_main_cst_4, val_main_v23, val_main_cst_5, val_main_v24, val_main_v25, val_main_cst_6, val_main_v26, val_main_cst_7, val_main_v27, val_main_cst_8, val_main_cst_9, val_main_v28, val_main_v29, val_main_cst_10, val_main_v30, val_main_v31, val_main_v32, val_main_v33, val_main_v34, val_main_cst_11, val_main_v35, val_main_v36, val_main_v37, val_main_v38, val_main_cst_12, val_main_v39, val_main_v40, val_main_cst_13, val_main_v41, val_main_v42, val_main_v43, val_main_v44, val_main_v45, val_main_cst_14, val_main_v46, val_main_v47, val_main_cst_15, val_main_v48, val_main_v49, val_main_v50, val_main_v51, val_main_v52, val_main_v53, val_main_v54, val_main_v55, val_main_cst_16, val_main_v56, val_main_v57, val_main_cst_17, val_main_v58, val_main_v59, val_main_cst_18, val_main_v60, val_main_v61, val_main_v62, val_main_v63, val_main_v64, val_main_v65, val_main_v66, val_main_v67, val_main_v68, val_main_v69, val_main_cst_19, val_main_v70, val_main_v71, val_main_v72]
  simp only [half_two]

/-- The gain's gradient. -/
theorem dg_apply (p : Fin 1) (j : Fin 1024) :
    val_main_v72 (F := Ideal) a w x g d (ix2 p j) = ∑ p, Loss.dgRow a w x g d p j := by
  simp only [Loss.dgRow, Loss.ct, Loss.err, Rms.scale, Rms.meanSq, ← row_apply]
  pointwise [val_main_v0, val_main_v1, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_cst_3, val_main_v21, val_main_v22, val_main_cst_4, val_main_v23, val_main_cst_5, val_main_v24, val_main_v25, val_main_cst_6, val_main_v26, val_main_cst_7, val_main_v27, val_main_cst_8, val_main_cst_9, val_main_v28, val_main_v29, val_main_cst_10, val_main_v30, val_main_v31, val_main_v32, val_main_v33, val_main_v34, val_main_cst_11, val_main_v35, val_main_v36, val_main_v37, val_main_v38, val_main_cst_12, val_main_v39, val_main_v40, val_main_cst_13, val_main_v41, val_main_v42, val_main_v43, val_main_v44, val_main_v45, val_main_cst_14, val_main_v46, val_main_v47, val_main_cst_15, val_main_v48, val_main_v49, val_main_v50, val_main_v51, val_main_v52, val_main_v53, val_main_v54, val_main_v55, val_main_cst_16, val_main_v56, val_main_v57, val_main_cst_17, val_main_v58, val_main_v59, val_main_cst_18, val_main_v60, val_main_v61, val_main_v62, val_main_v63, val_main_v64, val_main_v65, val_main_v66, val_main_v67, val_main_v68, val_main_v69, val_main_cst_19, val_main_v70, val_main_v71, val_main_v72]
  simp only [half_two, Finset.univ_unique, Finset.sum_singleton]
  exact Finset.sum_congr rfl fun _ _ => mul_comm _ _

end Cert.LossReferenceIdeal.Read

end
-- ==== Proof.Loss.Claim.lean ====
/- The equation of the kernel's four results and the reference's. -/
module

public import proofs.«01_k».proof.Defs
public import proofs.«01_k».proof.Proof.Gen.LossKernel.Frame
public import proofs.«01_k».proof.Proof.Loss.Array
public import proofs.«01_k».proof.Proof.Loss.Reference
public import proofs.«01_k».proof.Proof.Gen.LossReferenceIdeal.Run
public import proofs.«01_k».proof.Proof.Gen.Pre_loss_finite

@[expose] public section

set_option maxRecDepth 16384

noncomputable section

namespace Cert.Loss

open Idealize.ShloMosaic Idealize.ShloMosaic.TcCoe Idealize.SL.Sem

variable {m : (ℓ : Loc Cert.LossKernelIdeal.nD Cert.LossKernelIdeal.τ Cert.LossKernelIdeal.sig) → Buf (Elt Ideal) ℓ}

open Cert.LossKernelIdeal in
/-- What the precondition says of the arguments. -/
theorem real_args (h : Cert.Pre_LossKernelIdeal_loss_finite m) (c : Dev nD) :
    (∀ i, Finite.IsReal (m ((c : Thread nD τ).loc main_arg0) i)) ∧ (∀ i, Finite.IsReal (m ((c : Thread nD τ).loc main_arg1) i))
    ∧ (∀ i, Finite.IsReal (m ((c : Thread nD τ).loc main_arg2) i)) ∧ (∀ i, Finite.IsReal (m ((c : Thread nD τ).loc main_arg3) i))
    ∧ ∀ i, Finite.IsReal (m ((c : Thread nD τ).loc main_arg4) i) := by
  obtain ⟨h0, h1, h2, h3, h4⟩ := h c
  exact ⟨Finite.reals h0 fun _ => rfl, Finite.reals h1 fun _ => rfl, Finite.reals h2 fun _ => rfl, Finite.reals h3 fun _ => rfl,
    Finite.reals h4 fun _ => rfl⟩

open Cert.LossReferenceIdeal in
/-- The reference's run, its results by the names of its last values. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = Read.val_main_v53 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v54) = Read.val_main_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = Read.val_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v72) = Read.val_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v53_eq m c), (h c).2.1.trans (Read.val_main_v54_eq m c),
    (h c).2.2.1.trans (Read.val_main_v71_eq _ _ _ _ _), (h c).2.2.2.1.trans (Read.val_main_v72_eq _ _ _ _ _), (h c).2.2.2.2⟩)
    (Value.run m ρ)

/-- The reference runs from any memory, keeps its arguments, and declares no semaphore. -/
theorem frame_reference : Cert.quiescent_LossReferenceIdeal := fun m ρ _ =>
  (θ_run Cert.LossReferenceIdeal.defs _ _).mono
    (fun r h => ⟨fun c => (h c).2.2.2.2, sem_eq_zero_of_no_sems (by decide) r.2⟩) (Cert.LossReferenceIdeal.Value.run m ρ)

/-- The four results of the kernel are the reference's. -/
theorem algebraic : Cert.algebraic_LossKernelIdeal_LossReferenceIdeal_pre_loss_finite := by
  pair_intro
  · run_from Cert.LossKernelIdeal.Value.run_blocks m g
  · run_from run_reference m' g'
    all_goals obtain ⟨r0, r1, r2, r3, r4⟩ := real_args hpre c
    all_goals obtain ⟨a0, a1, a2, a3, a4⟩ := hagree c
    · refine Eq.trans (funext fun i => ?_) (Cert.LossKernelIdeal.Value.final5 m c).symm
      exact (congrArg _ (eq_ix2 i)).trans (Cert.LossReferenceIdeal.Read.dx_apply _ _ _ _ _ r0 r1 r2 r3 r4 _ _)
    · refine Eq.trans (funext fun i => ?_) (Cert.LossKernelIdeal.Value.final6 m c).symm
      exact (congrArg _ (eq_ix2 i)).trans (Cert.LossReferenceIdeal.Read.dx_apply _ _ _ _ _ r0 r1 r2 r3 r4 _ _)
    · refine Eq.trans (funext fun i => ?_) (Cert.LossKernelIdeal.Value.final7 m c).symm
      exact (congrArg _ (eq_ix2 i)).trans (Cert.LossReferenceIdeal.Read.sq_apply _ _ _ _ _ _ _)
    · refine Eq.trans (funext fun i => ?_) (Cert.LossKernelIdeal.Value.final8 m c).symm
      exact (congrArg _ (eq_ix2 i)).trans (Cert.LossReferenceIdeal.Read.dg_apply _ _ _ _ _ _ _)

end Cert.Loss

end
-- ==== Proof.Merge.Spec.lean ====
/- The gated merge of the two branches, with its gradient, as formulas over the argument arrays: the merged rows, the residual
   rows, and the cotangents of the two gates and of the two branches. -/
module

public import proofs.«01_k».proof.Proof.Gen.MergeKernelIdeal
public import Idealize.ShloMosaic.Lib.Pointwise

@[expose] public section

set_option maxRecDepth 16384

noncomputable section

namespace Cert.Merge

open Idealize.ShloMosaic Cert.MergeKernelIdeal

/-- The logistic function as the kernel forms it, over a half-angle tangent. -/
abbrev sig (g : EReal) : EReal :=
  Ideal.ofBits .f32 0x3F000000#32 * Ideal.tanh (Ideal.ofBits .f32 0x3F000000#32 * g) + Ideal.ofBits .f32 0x3F000000#32

variable (a : FVec Ideal S4096x512 .bf16) (z : FVec Ideal S4096x1024 .bf16) (wp : FVec Ideal S512x1024 .bf16)
  (wr : FVec Ideal S1024x1024 .bf16) (g : FVec Ideal S4096x4608 .f32) (wo : FVec Ideal S1024x1024 .bf16)
  (x : FVec Ideal S4096x1024 .f32) (d : FVec Ideal S4096x1024 .bf16)

/-- The first branch. -/
abbrev yp (p : Fin 4096) (j : Fin 1024) : EReal := ∑ l : Fin 512, a (ix2 p l) * wp (ix2 l j)

/-- The second branch. -/
abbrev yr (p : Fin 4096) (j : Fin 1024) : EReal := ∑ l : Fin 1024, z (ix2 p l) * wr (ix2 l j)

/-- The first branch's gate: the input product's columns from 2560. -/
abbrev sp (p : Fin 4096) (j : Fin 1024) : EReal := sig (g (ix2 p ⟨2560 + j, by omega⟩))

/-- The second branch's gate: the input product's columns from 3584. -/
abbrev sr (p : Fin 4096) (j : Fin 1024) : EReal := sig (g (ix2 p ⟨3584 + j, by omega⟩))

/-- The merged rows. -/
abbrev mix (p : Fin 4096) (j : Fin 1024) : EReal := sp g p j * yp a wp p j + sr g p j * yr z wr p j

/-- The slope of the merge in its first gate. -/
abbrev byP (p : Fin 4096) (j : Fin 1024) : EReal :=
  yp a wp p j * sp g p j * (Ideal.ofBits .f32 0x3F800000#32 - sp g p j)

/-- The slope of the merge in its second gate. -/
abbrev byR (p : Fin 4096) (j : Fin 1024) : EReal :=
  yr z wr p j * sr g p j * (Ideal.ofBits .f32 0x3F800000#32 - sr g p j)

/-- The cotangent of the merged rows. -/
abbrev dmix (p : Fin 4096) (j : Fin 1024) : EReal := ∑ k : Fin 1024, d (ix2 p k) * wo (ix2 j k)

/-- The residual rows. -/
abbrev out (p : Fin 4096) (k : Fin 1024) : EReal := x (ix2 p k) + ∑ l : Fin 1024, mix a z wp wr g p l * wo (ix2 l k)

end Cert.Merge

end
-- ==== Proof.Merge.Backward.lean ====
/- What the backward call's four result arrays hold after its region, over the arrays the region finds. -/
module

public import proofs.«01_k».proof.Proof.Merge.Spec
public import proofs.«01_k».proof.Proof.Gen.MergeKernelIdeal.Frame
public import Idealize.ShloMosaic.Lib.Pipeline.ValueKit
public import Idealize.ShloMosaic.Lib.Claim

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem

variable (V : (c : Dev nD) → (b : Ref sig .tc) → Buf (Elt Ideal) ((c : Thread nD τ).loc b))

/-- The block each window of the backward call stages at a point: four column blocks in each half of the rows. -/
theorem idx1 : ∀ t : Fin cfg1.N, win1_0.index t = ![t.val / 4, 0] ∧ win1_1.index t = ![t.val % 4, 0]
    ∧ win1_2.index t = ![t.val / 4, t.val % 4] ∧ win1_3.index t = ![t.val / 4, t.val % 4]
    ∧ win1_4.index t = ![t.val / 4, t.val % 4] ∧ win1_5.index t = ![t.val / 4, t.val % 4]
    ∧ win1_6.index t = ![t.val / 4, t.val % 4] ∧ win1_7.index t = ![t.val / 4, t.val % 4]
    ∧ win1_8.index t = ![t.val / 4, t.val % 4] ∧ win1_9.index t = ![t.val / 4, t.val % 4] :=
  (by decide +kernel : ∀ t : Fin grid1.N, _)

/-- The merged rows' cotangent through the slope `by`: one result of the backward call. -/
abbrev Through (c : Dev nD) (s : FVec Ideal S4096x1024 .bf16) : FVec Ideal S4096x1024 .bf16 := fun i =>
  Merge.dmix (V c (Pipeline.arrRef spec1 1)) (V c (Pipeline.arrRef spec1 0)) (i 0) (i 1) * s i

/-- The cotangent of the first gate at the region's end. -/
theorem final1_6 (c : Dev nD) : (dat1 V c).arrAt 6 cfg1.N = Through V c (V c (Pipeline.arrRef spec1 2)) := by
  refine (dat1 V c).arrAt_eq_of_covers 6 _ (by decide +kernel) fun t hf y => ?_
  blk_simp
  rw [after1_6]
  unfold_out out1_6
  frame_out
  canon_tiles x h <;>
    (pointwise [k1_pay3, k1_pay4, k1_pay9, k1_pay10, k1_pay15, k1_pay20, k1_pay5, k1_pay11, k1_pay16, k1_pay21, Through, Merge.dmix]
     blk_point [iblk1, idx1 t])

/-- The cotangent of the second gate at the region's end. -/
theorem final1_7 (c : Dev nD) : (dat1 V c).arrAt 7 cfg1.N = Through V c (V c (Pipeline.arrRef spec1 3)) := by
  refine (dat1 V c).arrAt_eq_of_covers 7 _ (by decide +kernel) fun t hf y => ?_
  blk_simp
  rw [after1_7]
  unfold_out out1_7
  frame_out
  canon_tiles x h <;>
    (pointwise [k1_pay3, k1_pay4, k1_pay9, k1_pay10, k1_pay15, k1_pay20, k1_pay6, k1_pay12, k1_pay17, k1_pay22, Through, Merge.dmix]
     blk_point [iblk1, idx1 t])

/-- The cotangent of the first branch at the region's end. -/
theorem final1_8 (c : Dev nD) : (dat1 V c).arrAt 8 cfg1.N = Through V c (V c (Pipeline.arrRef spec1 4)) := by
  refine (dat1 V c).arrAt_eq_of_covers 8 _ (by decide +kernel) fun t hf y => ?_
  blk_simp
  rw [after1_8]
  unfold_out out1_8
  frame_out
  canon_tiles x h <;>
    (pointwise [k1_pay3, k1_pay4, k1_pay9, k1_pay10, k1_pay15, k1_pay20, k1_pay7, k1_pay13, k1_pay18, k1_pay1, Through, Merge.dmix]
     blk_point [iblk1, idx1 t])

/-- The cotangent of the second branch at the region's end. -/
theorem final1_9 (c : Dev nD) : (dat1 V c).arrAt 9 cfg1.N = Through V c (V c (Pipeline.arrRef spec1 5)) := by
  refine (dat1 V c).arrAt_eq_of_covers 9 _ (by decide +kernel) fun t hf y => ?_
  blk_simp
  rw [after1_9]
  unfold_out out1_9
  frame_out
  canon_tiles x h <;>
    (pointwise [k1_pay3, k1_pay4, k1_pay9, k1_pay10, k1_pay15, k1_pay20, k1_pay8, k1_pay14, k1_pay19, k1_pay2, Through, Merge.dmix]
     blk_point [iblk1, idx1 t])

end Cert.MergeKernelIdeal.Value

end
-- ==== Proof.Merge.Forward.lean ====
/- What the forward call's six result arrays hold after its region, over the arrays the region finds. -/
module

public import proofs.«01_k».proof.Proof.Finite
public import proofs.«01_k».proof.Proof.Merge.Spec
public import proofs.«01_k».proof.Proof.Gen.MergeKernelIdeal.Frame
public import Idealize.ShloMosaic.Lib.Pipeline.ValueKit
public import Idealize.ShloMosaic.Lib.Claim

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem

variable (V : (c : Dev nD) → (b : Ref sig .tc) → Buf (Elt Ideal) ((c : Thread nD τ).loc b))

/-- The block each window of the forward call stages at a point: four column blocks in each block of rows. -/
theorem idx0 : ∀ t : Fin cfg0.N, win0_0.index t = ![t.val / 4, 0] ∧ win0_1.index t = ![t.val / 4, 0]
    ∧ win0_2.index t = ![0, t.val % 4] ∧ win0_3.index t = ![0, t.val % 4]
    ∧ win0_4.index t = ![t.val / 4, 10 + t.val % 4] ∧ win0_5.index t = ![t.val / 4, 14 + t.val % 4]
    ∧ win0_6.index t = ![t.val % 4, 0] ∧ win0_7.index t = ![t.val / 4, 0]
    ∧ win0_8.index t = ![t.val / 4, t.val % 4] ∧ win0_9.index t = ![t.val / 4, t.val % 4]
    ∧ win0_10.index t = ![t.val / 4, t.val % 4] ∧ win0_11.index t = ![t.val / 4, t.val % 4]
    ∧ win0_12.index t = ![t.val / 4, t.val % 4] ∧ win0_13.index t = ![t.val / 4, 0] :=
  (by decide +kernel : ∀ t : Fin grid0.N, _)

/-- The first gate's slope, as an array. -/
abbrev ByP (c : Dev nD) : FVec Ideal S4096x1024 .bf16 := fun i =>
  Merge.byP (V c (Pipeline.arrRef spec0 0)) (V c (Pipeline.arrRef spec0 2)) (V c (Pipeline.arrRef spec0 4)) (i 0) (i 1)

/-- The second gate's slope, as an array. -/
abbrev ByR (c : Dev nD) : FVec Ideal S4096x1024 .bf16 := fun i =>
  Merge.byR (V c (Pipeline.arrRef spec0 1)) (V c (Pipeline.arrRef spec0 3)) (V c (Pipeline.arrRef spec0 4)) (i 0) (i 1)

/-- The first gate, as an array. -/
abbrev SP (c : Dev nD) : FVec Ideal S4096x1024 .bf16 := fun i => Merge.sp (V c (Pipeline.arrRef spec0 4)) (i 0) (i 1)

/-- The second gate, as an array. -/
abbrev SR (c : Dev nD) : FVec Ideal S4096x1024 .bf16 := fun i => Merge.sr (V c (Pipeline.arrRef spec0 4)) (i 0) (i 1)

/-- The merged rows, as a function of the row and the column. -/
abbrev Mix (c : Dev nD) (p : Fin 4096) (j : Fin 1024) : EReal :=
  Merge.mix (V c (Pipeline.arrRef spec0 0)) (V c (Pipeline.arrRef spec0 1)) (V c (Pipeline.arrRef spec0 2))
    (V c (Pipeline.arrRef spec0 3)) (V c (Pipeline.arrRef spec0 4)) p j

/-- The merged rows, as an array. -/
abbrev MIX (c : Dev nD) : FVec Ideal S4096x1024 .bf16 := fun i => Mix V c (i 0) (i 1)

/-- The first gate's slope at the region's end. -/
theorem final0_8 (c : Dev nD) : (dat0 V c).arrAt 8 cfg0.N = ByP V c := by
  refine (dat0 V c).arrAt_eq_of_covers 8 _ (by decide +kernel) fun t hf y => ?_
  blk_simp
  rw [after0_8]
  by_cases hc : t.val % 4 = 0
  · rw [outsAt0_A V c t hc]; frame_out
    canon_tiles x h <;>
      (pointwise [k0_pay2, k0_pay5, k0_pay7, k0_pay9, k0_pay10, k0_pay16, k0_pay18, k0_pay20, ByP, Merge.byP, Merge.yp, Merge.sp, Merge.sig]
       blk_point [iblk0, idx0 t])
  · rw [outsAt0_B V c t hc]; frame_out
    canon_tiles x h <;>
      (pointwise [k0_pay2, k0_pay5, k0_pay7, k0_pay9, k0_pay10, k0_pay16, k0_pay18, k0_pay20, ByP, Merge.byP, Merge.yp, Merge.sp, Merge.sig]
       blk_point [iblk0, idx0 t])

/-- The second gate's slope at the region's end. -/
theorem final0_9 (c : Dev nD) : (dat0 V c).arrAt 9 cfg0.N = ByR V c := by
  refine (dat0 V c).arrAt_eq_of_covers 9 _ (by decide +kernel) fun t hf y => ?_
  blk_simp
  rw [after0_9]
  by_cases hc : t.val % 4 = 0
  · rw [outsAt0_A V c t hc]; frame_out
    canon_tiles x h <;>
      (pointwise [k0_pay3, k0_pay6, k0_pay8, k0_pay11, k0_pay17, k0_pay19, k0_pay21, ByR, Merge.byR, Merge.yr, Merge.sr, Merge.sig]
       blk_point [iblk0, idx0 t])
  · rw [outsAt0_B V c t hc]; frame_out
    canon_tiles x h <;>
      (pointwise [k0_pay3, k0_pay6, k0_pay8, k0_pay11, k0_pay17, k0_pay19, k0_pay21, ByR, Merge.byR, Merge.yr, Merge.sr, Merge.sig]
       blk_point [iblk0, idx0 t])

/-- The first gate at the region's end. -/
theorem final0_10 (c : Dev nD) : (dat0 V c).arrAt 10 cfg0.N = SP V c := by
  refine (dat0 V c).arrAt_eq_of_covers 10 _ (by decide +kernel) fun t hf y => ?_
  blk_simp
  rw [after0_10]
  by_cases hc : t.val % 4 = 0
  · rw [outsAt0_A V c t hc]; frame_out
    canon_tiles x h <;>
      (pointwise [k0_pay7, k0_pay12, k0_pay18, k0_pay22, SP, Merge.sp, Merge.sig]
       blk_point [iblk0, idx0 t])
  · rw [outsAt0_B V c t hc]; frame_out
    canon_tiles x h <;>
      (pointwise [k0_pay7, k0_pay12, k0_pay18, k0_pay22, SP, Merge.sp, Merge.sig]
       blk_point [iblk0, idx0 t])

/-- The second gate at the region's end. -/
theorem final0_11 (c : Dev nD) : (dat0 V c).arrAt 11 cfg0.N = SR V c := by
  refine (dat0 V c).arrAt_eq_of_covers 11 _ (by decide +kernel) fun t hf y => ?_
  blk_simp
  rw [after0_11]
  by_cases hc : t.val % 4 = 0
  · rw [outsAt0_A V c t hc]; frame_out
    canon_tiles x h <;>
      (pointwise [k0_pay8, k0_pay13, k0_pay19, k0_pay23, SR, Merge.sr, Merge.sig]
       blk_point [iblk0, idx0 t])
  · rw [outsAt0_B V c t hc]; frame_out
    canon_tiles x h <;>
      (pointwise [k0_pay8, k0_pay13, k0_pay19, k0_pay23, SR, Merge.sr, Merge.sig]
       blk_point [iblk0, idx0 t])

/-- The merged rows at the region's end. -/
theorem final0_12 (c : Dev nD) : (dat0 V c).arrAt 12 cfg0.N = MIX V c := by
  refine (dat0 V c).arrAt_eq_of_covers 12 _ (by decide +kernel) fun t hf y => ?_
  blk_simp
  rw [after0_12]
  by_cases hc : t.val % 4 = 0
  · rw [outsAt0_A V c t hc]; frame_out
    canon_tiles x h <;>
      (pointwise [k0_pay2, k0_pay3, k0_pay5, k0_pay6, k0_pay7, k0_pay8, k0_pay14, k0_pay16, k0_pay17, k0_pay18, k0_pay19, k0_pay24, MIX, Mix, Merge.mix, Merge.yp, Merge.yr, Merge.sp, Merge.sr, Merge.sig]
       blk_point [iblk0, idx0 t])
  · rw [outsAt0_B V c t hc]; frame_out
    canon_tiles x h <;>
      (pointwise [k0_pay2, k0_pay3, k0_pay5, k0_pay6, k0_pay7, k0_pay8, k0_pay14, k0_pay16, k0_pay17, k0_pay18, k0_pay19, k0_pay24, MIX, Mix, Merge.mix, Merge.yp, Merge.yr, Merge.sp, Merge.sr, Merge.sig]
       blk_point [iblk0, idx0 t])

end Cert.MergeKernelIdeal.Value

end
-- ==== Proof.Merge.Residual.lean ====
/- What the forward call's residual rows hold after its region: each block of rows gathers four column blocks' products. -/
module

public import proofs.«01_k».proof.Proof.Finite
public import proofs.«01_k».proof.Proof.Merge.Forward
public import Idealize.ShloMosaic.Lib.Pipeline.ReadBack

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem

variable (V : (c : Dev nD) → (b : Ref sig .tc) → Buf (Elt Ideal) ((c : Thread nD τ).loc b))

/-- The block of rows the forward call starts from. -/
abbrev own (c : Dev nD) (t : Fin cfg0.N) : FVec Ideal S1024x1024 .f32 := iblk0 V c 7 t

/-- What a point adds to its block of residual rows: its column block's 256 products. -/
abbrev add (c : Dev nD) (t : Fin cfg0.N) : FVec Ideal S1024x1024 .f32 := fun j => ∑ k : Fin 256,
  Mix V c ⟨t.val / 4 * 1024 + j 0, by have := (j 0).isLt; have := lt_of_lt_of_eq t.isLt N_0; dsimp at *; omega⟩
      ⟨t.val % 4 * 256 + k, by omega⟩
    * (V c (Pipeline.arrRef spec0 6) : FVec Ideal S1024x1024 .bf16) (ix2 ⟨t.val % 4 * 256 + k, by omega⟩ (j 1))

/-- The second half of the block's rows. -/
theorem add_upper (c : Dev nD) (t : Fin cfg0.N) (acc : FVec Ideal S1024x1024 .f32) (x : S512x1024.Idx) :
    k0_pay1 (F := Ideal) (k0_pay4 (iblk0 V c 6 t))
        (k0_pay24
          (k0_pay16 (k0_pay2 (iblk0 V c 2 t))
            (View.ld (iblk0 V c 0 t) (Rect.unit ![512, 0] ![512, 512] inb_S1024x512_S512x512_512_0)))
          (k0_pay17 (k0_pay3 (iblk0 V c 3 t))
            (View.ld (iblk0 V c 1 t) (Rect.unit ![512, 0] ![512, 1024] inb_S1024x1024_S512x1024_512_0)))
          (View.ld (iblk0 V c 4 t) (Rect.unit ![512, 0] ![512, 256] inb_S1024x256_S512x256_512_0))
          (View.ld (iblk0 V c 5 t) (Rect.unit ![512, 0] ![512, 256] inb_S1024x256_S512x256_512_0)))
        (View.ld (Val := Elt Ideal) (S := S1024x1024) (e' := .f32) acc (Rect.unit ![512, 0] ![512, 1024] inb_S1024x1024_S512x1024_512_0)) x
      = (fun j => acc j + add V c t j) (ix2 ⟨512 + x 0, by have := (x 0).isLt; dsimp at *; omega⟩ (x 1)) := by
  pointwise [k0_pay1, k0_pay2, k0_pay3, k0_pay4, k0_pay5, k0_pay6, k0_pay7, k0_pay8, k0_pay14, k0_pay15, k0_pay16, k0_pay17, k0_pay18, k0_pay19, k0_pay24, add, Mix, Merge.mix, Merge.yp, Merge.yr, Merge.sp, Merge.sr, Merge.sig]
  blk_point [iblk0, idx0 t]

/-- The first half of the block's rows. -/
theorem add_lower (c : Dev nD) (t : Fin cfg0.N) (acc : FVec Ideal S1024x1024 .f32) (x : S512x1024.Idx) :
    k0_pay15 (F := Ideal) (k0_pay4 (iblk0 V c 6 t))
        (k0_pay5 (iblk0 V c 2 t) (View.ld (iblk0 V c 0 t) (Rect.unit ![0, 0] ![512, 512] inb_S1024x512_S512x512_0_0)))
        (k0_pay6 (iblk0 V c 3 t) (View.ld (iblk0 V c 1 t) (Rect.unit ![0, 0] ![512, 1024] inb_S1024x1024_S512x1024_0_0)))
        (k0_pay7 (View.ld (iblk0 V c 4 t) (Rect.unit ![0, 0] ![512, 256] inb_S1024x256_S512x256_0_0)))
        (k0_pay8 (View.ld (iblk0 V c 5 t) (Rect.unit ![0, 0] ![512, 256] inb_S1024x256_S512x256_0_0)))
        (View.ld (Val := Elt Ideal) (S := S1024x1024) (e' := .f32) acc (Rect.unit ![0, 0] ![512, 1024] inb_S1024x1024_S512x1024_0_0)) x
      = (fun j => acc j + add V c t j) (ix2 ⟨x 0, (x 0).isLt.trans (by decide)⟩ (x 1)) := by
  pointwise [k0_pay1, k0_pay2, k0_pay3, k0_pay4, k0_pay5, k0_pay6, k0_pay7, k0_pay8, k0_pay14, k0_pay15, k0_pay16, k0_pay17, k0_pay18, k0_pay19, k0_pay24, add, Mix, Merge.mix, Merge.yp, Merge.yr, Merge.sp, Merge.sr, Merge.sig]
  blk_point [iblk0, idx0 t]

omit V in
/-- A last piece that two later ones cover is not seen. -/
theorem canon_two (p q r : View.Piece (Elt Ideal) S1024x1024 .f32) (y : S1024x1024.Idx) (h : y ∈ p.1.set ∨ y ∈ q.1.set) :
    View.canon [p, q, r] y = View.canon [p, q] y := by
  by_cases hp : y ∈ p.1.set
  · obtain ⟨x, rfl⟩ := p.1.exists_idx_of_mem hp
    exact (View.canon_cons_emb p.1 p.2 [q, r] x).trans (View.canon_cons_emb p.1 p.2 [q] x).symm
  · have hq := h.resolve_left hp
    rw [View.canon_cons_of_not_mem _ _ hp, View.canon_cons_of_not_mem _ _ hp]
    obtain ⟨x, rfl⟩ := q.1.exists_idx_of_mem hq
    exact (View.canon_cons_emb q.1 q.2 [r] x).trans (View.canon_cons_emb q.1 q.2 [] x).symm

theorem reset (c : Dev nD) (t : Fin cfg0.N) (h : t.val % 4 = 0) (j : S1024x1024.Idx) :
    (outsAt0 V c t.val t.isLt).2.2.2.2.2 j = own V c t j + add V c t j := by
  rw [outsAt0_A V c t h]; frame_out
  simp (disch := decide) only [↓ View.readCov_skip, ↓ View.readCov_fill]
  rw [canon_two]
  canon_tiles x h
  · refine (add_upper V c t (own V c t) x).trans (congrArg (fun j => own V c t j + add V c t j) ?_)
    blk_ext
  · refine (add_lower V c t (own V c t) x).trans (congrArg (fun j => own V c t j + add V c t j) ?_)
    blk_ext
  · by_cases hj : (j 0).val < 512
    · exact .inr ((Rect.mem_set_unit (inb := inb_S1024x1024_S512x1024_0_0)).2 (Fin.forall_fin_two.2 ⟨⟨Nat.zero_le _, by simpa using hj⟩, Nat.zero_le _, by simpa using (j 1).isLt⟩))
    · exact .inl ((Rect.mem_set_unit (inb := inb_S1024x1024_S512x1024_512_0)).2 (Fin.forall_fin_two.2 ⟨⟨by simpa using hj, by simpa using (j 0).isLt⟩, Nat.zero_le _, by simpa using (j 1).isLt⟩))

theorem step (c : Dev nD) (t : Fin cfg0.N) (h : ¬ t.val % 4 = 0) (j : S1024x1024.Idx) :
    (outsAt0 V c t.val t.isLt).2.2.2.2.2 j
      = (outsAt0 V c (t.val - 1) (by omega)).2.2.2.2.2 j + add V c t j := by
  rw [outsAt0_B V c t h]; frame_out
  canon_tiles x h
  · refine (add_upper V c t _ x).trans (congrArg (fun j => (outsAt0 V c (t.val - 1) (by omega)).2.2.2.2.2 j + add V c t j) ?_)
    blk_ext
  · refine (add_lower V c t _ x).trans (congrArg (fun j => (outsAt0 V c (t.val - 1) (by omega)).2.2.2.2.2 j + add V c t j) ?_)
    blk_ext

/-- What a point adds, with the block's own rows counted at the first of its four points. -/
abbrev term (c : Dev nD) (t : Fin cfg0.N) : FVec Ideal S1024x1024 .f32 := fun j =>
  (if t.val % 4 = 0 then own V c t j else 0) + add V c t j

/-- The residual rows at the region's end. -/
theorem final0_13 (c : Dev nD) : (dat0 V c).arrAt 13 cfg0.N
    = fun i => Merge.out (V c (Pipeline.arrRef spec0 0)) (V c (Pipeline.arrRef spec0 1)) (V c (Pipeline.arrRef spec0 2))
        (V c (Pipeline.arrRef spec0 3)) (V c (Pipeline.arrRef spec0 4)) (V c (Pipeline.arrRef spec0 6))
        (V c (Pipeline.arrRef spec0 7)) (i 0) (i 1) := by
  refine (dat0 V c).arrAt_eq_of_covers 13 _ (by decide +kernel) fun t hf y => ?_
  blk_simp
  rw [after0_13]
  refine (Pipeline.eq_sum_fin_of_reset_step_apply_of_flush (fun n h => (outsAt0 V c n h).2.2.2.2.2) 4 (fun _ => 0)
    (term V c) (fun t h j => (reset V c t h j).trans (by rw [zero_add, term, if_pos h]))
    (fun t h j => (step V c t h j).trans (by rw [term, if_neg h, zero_add])) t ((flush0_13 t).mp hf) y).trans ?_
  rw [zero_add, Finset.sum_add_distrib]
  refine congrArg₂ (· + ·) ?_ ?_
  · simp only [Fin.sum_univ_four]
    rw [if_pos (by dsimp; omega), if_neg (by dsimp; omega), if_neg (by dsimp; omega), if_neg (by dsimp; omega), add_zero, add_zero, add_zero]
    have i7 := fun s => (idx0 s).2.2.2.2.2.2.2.1
    blk_point [own, iblk0, idx0 t] <;> (rw [i7]; simp)
  · refine Fin.sum_mul_add_congr fun s k hl => ?_
    have hs := s.isLt
    have ht : t.val < 16 := lt_of_lt_of_eq t.isLt N_0
    have e : (ix2 ⟨t.val / 4 * 1024 + y 0, by have := (y 0).isLt; dsimp at *; omega⟩ (y 1) : S4096x1024.Idx)
        = (win0_13.blk t).view.emb y := by blk_ext [idx0 t]
    have h0 := congrFun e 0
    have h1 := congrFun e 1
    refine congrArg₂ (· * ·) (congrArg₂ (Mix V c) (.trans (b := (⟨t.val / 4 * 1024 + (y 0).val, by have := (y 0).isLt; dsimp at *; omega⟩ : Fin 4096)) (Fin.ext (by dsimp only; omega)) h0) (Fin.ext (by dsimp only; omega)))
      (congrArg _ (congrArg₂ ix2 (Fin.ext (by dsimp only; omega)) h1))

end Cert.MergeKernelIdeal.Value

end
-- ==== Proof.Merge.Run.lean ====
/- The kernel's run with its six results: the whole program's final buffers, read at the results and at the arguments. -/
module

public import proofs.«01_k».proof.Proof.Merge.Backward
public import proofs.«01_k».proof.Proof.Merge.Residual

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem Idealize.SL
open Idealize.SL.RA Idealize.SL.BI Idealize.ShloMosaic.Tactic
open scoped Idealize.SL.BI
open Idealize.SL.BI.BIBase Idealize.SL.BI.Laws Idealize.SL.ProofMode
open Idealize.ShloMosaic.Rounds
open Idealize.ShloMosaic.Pipeline (Dat Cfg Window)

variable (m : (ℓ : Loc nD τ sig) → Buf (Elt Ideal) ℓ) (ρ : Dev nD → PrngReg)

/-- Every unscoped buffer ends at the last boundary's contents, and every semaphore at zero. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      · iapply (show (BI.emp : sProp _) ⊢ bigSep Finset.univ (fun _ : Dev nD => (BI.emp : sProp _)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The weights as the two calls take them. -/
abbrev Wo (c : Dev nD) : FVec Ideal S1024x1024 .bf16 := fun i => (m ((c : Thread nD τ).loc main_arg5) : FVec Ideal S1x1024x1024 .f32) (ix3 0 (i 0) (i 1))

abbrev Wp (c : Dev nD) : FVec Ideal S512x1024 .bf16 := fun i => (m ((c : Thread nD τ).loc main_arg2) : FVec Ideal S1x512x1024 .f32) (ix3 0 (i 0) (i 1))

abbrev Wr (c : Dev nD) : FVec Ideal S1024x1024 .bf16 := fun i => (m ((c : Thread nD τ).loc main_arg3) : FVec Ideal S1x1024x1024 .f32) (ix3 0 (i 0) (i 1))

/-- The rows and the cotangent as the calls take them: rounding changes nothing over the reals. -/
abbrev Pm (c : Dev nD) : FVec Ideal S4096x512 .bf16 := fun i => (m ((c : Thread nD τ).loc main_arg0) : FVec Ideal S4096x512 .f32) i

abbrev Z (c : Dev nD) : FVec Ideal S4096x1024 .bf16 := fun i => (m ((c : Thread nD τ).loc main_arg1) : FVec Ideal S4096x1024 .f32) i

abbrev D (c : Dev nD) : FVec Ideal S4096x1024 .bf16 := fun i => (m ((c : Thread nD τ).loc main_arg7) : FVec Ideal S4096x1024 .f32) i

omit m ρ in
/-- A weight without its leading axis, rounded. -/
theorem drop_S512x1024 (w : FVec Ideal S1x512x1024 .f32) :
    truncf .bf16 (shapeCast S512x1024 w shapeCasts_S1x512x1024_S512x1024) bitsLt_bf16_f32 = fun i => w (ix3 0 (i 0) (i 1)) := by
  funext i
  pointwise []

omit m ρ in
theorem drop_S1024x1024 (w : FVec Ideal S1x1024x1024 .f32) :
    truncf .bf16 (shapeCast S1024x1024 w shapeCasts_S1x1024x1024_S1024x1024) bitsLt_bf16_f32 = fun i => w (ix3 0 (i 0) (i 1)) := by
  funext i
  pointwise []

theorem entry_pm (c : Dev nD) : V1 m ρ c main_v2 = Pm m c := by
  unfold_abbrev_sides
  after_results
  rfl

theorem entry_z (c : Dev nD) : V1 m ρ c main_v3 = Z m c := by
  unfold_abbrev_sides
  after_results
  rfl

theorem entry_wp (c : Dev nD) : V1 m ρ c main_v5 = Wp m c := by
  unfold_abbrev_sides
  after_results
  exact drop_S512x1024 (m ((c : Thread nD τ).loc main_arg2))

theorem entry_wr (c : Dev nD) : V1 m ρ c main_v7 = Wr m c := by
  unfold_abbrev_sides
  after_results
  exact drop_S1024x1024 (m ((c : Thread nD τ).loc main_arg3))

theorem entry_wo (c : Dev nD) : V1 m ρ c main_v1 = Wo m c := by
  unfold_abbrev_sides
  after_results
  exact drop_S1024x1024 (m ((c : Thread nD τ).loc main_arg5))

theorem entry_d (c : Dev nD) : V3 m ρ c main_v9 = D m c := by
  unfold_abbrev_sides
  after_results
  rw [W2_args m ρ c main_arg7 (by decide)]
  rfl

/-- The second region finds what the first one left, and the weight as the first one found it. -/
theorem second_wo (c : Dev nD) : V3 m ρ c main_v1 = Wo m c :=
  (W3_of m ρ c main_v1 (by decide)).trans ((W2_of m ρ c main_v1 (by decide)).trans (entry_wo m ρ c))

theorem entry_proj (c : Dev nD) : V1 m ρ c main_arg4 = m ((c : Thread nD τ).loc main_arg4) := W1_args m ρ c main_arg4 (by decide)

theorem entry_x (c : Dev nD) : V1 m ρ c main_arg6 = m ((c : Thread nD τ).loc main_arg6) := W1_args m ρ c main_arg6 (by decide)

theorem second_byP (c : Dev nD) : V3 m ρ c main_v8_0 = fun i => Merge.byP (Pm m c) (Wp m c) (m ((c : Thread nD τ).loc main_arg4)) (i 0) (i 1) := by
  refine (W3_of m ρ c main_v8_0 (by decide)).trans ((W2_arr m ρ c 8).trans ((final0_8 (V1 m ρ) c).trans ?_))
  unfold ByP
  rw [show V1 m ρ c (Pipeline.arrRef spec0 0) = _ from entry_pm m ρ c, show V1 m ρ c (Pipeline.arrRef spec0 2) = _ from entry_wp m ρ c,
    show V1 m ρ c (Pipeline.arrRef spec0 4) = _ from entry_proj m ρ c]
  rfl

theorem second_byR (c : Dev nD) : V3 m ρ c main_v8_1 = fun i => Merge.byR (Z m c) (Wr m c) (m ((c : Thread nD τ).loc main_arg4)) (i 0) (i 1) := by
  refine (W3_of m ρ c main_v8_1 (by decide)).trans ((W2_arr m ρ c 9).trans ((final0_9 (V1 m ρ) c).trans ?_))
  unfold ByR
  rw [show V1 m ρ c (Pipeline.arrRef spec0 1) = _ from entry_z m ρ c, show V1 m ρ c (Pipeline.arrRef spec0 3) = _ from entry_wr m ρ c,
    show V1 m ρ c (Pipeline.arrRef spec0 4) = _ from entry_proj m ρ c]
  rfl

theorem second_sp (c : Dev nD) : V3 m ρ c main_v8_2 = fun i => Merge.sp (m ((c : Thread nD τ).loc main_arg4)) (i 0) (i 1) := by
  refine (W3_of m ρ c main_v8_2 (by decide)).trans ((W2_arr m ρ c 10).trans ((final0_10 (V1 m ρ) c).trans ?_))
  unfold SP
  rw [show V1 m ρ c (Pipeline.arrRef spec0 4) = _ from entry_proj m ρ c]
  rfl

theorem second_sr (c : Dev nD) : V3 m ρ c main_v8_3 = fun i => Merge.sr (m ((c : Thread nD τ).loc main_arg4)) (i 0) (i 1) := by
  refine (W3_of m ρ c main_v8_3 (by decide)).trans ((W2_arr m ρ c 11).trans ((final0_11 (V1 m ρ) c).trans ?_))
  unfold SR
  rw [show V1 m ρ c (Pipeline.arrRef spec0 4) = _ from entry_proj m ρ c]
  rfl

/-- The merged rows' cotangent times a slope. -/
abbrev times (c : Dev nD) (s : FVec Ideal S4096x1024 .bf16) : FVec Ideal S4096x1024 .bf16 := fun i =>
  Merge.dmix (Wo m c) (D m c) (i 0) (i 1) * s i

/-- One of the backward call's results, at the end: the merged rows' cotangent times the slope its window stages. -/
theorem back (c : Dev nD) (s : FVec Ideal S4096x1024 .bf16) :
    Through (V3 m ρ) c s = times m c s := by
  unfold Through
  rw [show V3 m ρ c (Pipeline.arrRef spec1 1) = _ from second_wo m ρ c, show V3 m ρ c (Pipeline.arrRef spec1 0) = _ from entry_d m ρ c]

/-- The first gate's cotangent at the end. -/
theorem last_byP (c : Dev nD) : W4 m ρ c (Proc.devRef .tc main_v10_0) = times m c fun i => Merge.byP (Pm m c) (Wp m c) (m ((c : Thread nD τ).loc main_arg4)) (i 0) (i 1) := by
  refine ((W4_arr m ρ c 6).trans (final1_6 (V3 m ρ) c)).trans ?_
  rw [show V3 m ρ c (Pipeline.arrRef spec1 2) = _ from second_byP m ρ c]
  exact back m ρ c _

/-- The second gate's cotangent at the end. -/
theorem last_byR (c : Dev nD) : W4 m ρ c (Proc.devRef .tc main_v10_1) = times m c fun i => Merge.byR (Z m c) (Wr m c) (m ((c : Thread nD τ).loc main_arg4)) (i 0) (i 1) := by
  refine ((W4_arr m ρ c 7).trans (final1_7 (V3 m ρ) c)).trans ?_
  rw [show V3 m ρ c (Pipeline.arrRef spec1 3) = _ from second_byR m ρ c]
  exact back m ρ c _

/-- The first branch's cotangent at the end. -/
theorem last_sp (c : Dev nD) : W4 m ρ c (Proc.devRef .tc main_v10_2) = times m c fun i => Merge.sp (m ((c : Thread nD τ).loc main_arg4)) (i 0) (i 1) := by
  refine ((W4_arr m ρ c 8).trans (final1_8 (V3 m ρ) c)).trans ?_
  rw [show V3 m ρ c (Pipeline.arrRef spec1 4) = _ from second_sp m ρ c]
  exact back m ρ c _

/-- The second branch's cotangent at the end. -/
theorem last_sr (c : Dev nD) : W4 m ρ c (Proc.devRef .tc main_v10_3) = times m c fun i => Merge.sr (m ((c : Thread nD τ).loc main_arg4)) (i 0) (i 1) := by
  refine ((W4_arr m ρ c 9).trans (final1_9 (V3 m ρ) c)).trans ?_
  rw [show V3 m ρ c (Pipeline.arrRef spec1 5) = _ from second_sr m ρ c]
  exact back m ρ c _

/-- The six results, over the arguments. -/
theorem run : θ_run defs (onTc (τ := τ) (main (F := Ideal))) ⟨m, fun _ => 0, ρ⟩ (fun r => ∀ c : Dev nD,
      r.2.mem ((c.tc : Thread nD τ).loc main_v8_4) = (fun i => Merge.mix (Pm m c) (Z m c) (Wp m c) (Wr m c) (m ((c : Thread nD τ).loc main_arg4)) (i 0) (i 1) : FVec Ideal S4096x1024 .bf16)
      ∧ r.2.mem ((c.tc : Thread nD τ).loc main_v8_5) = (fun i => Merge.out (Pm m c) (Z m c) (Wp m c) (Wr m c) (m ((c : Thread nD τ).loc main_arg4)) (Wo m c) (m ((c : Thread nD τ).loc main_arg6)) (i 0) (i 1) : FVec Ideal S4096x1024 .f32)
      ∧ r.2.mem ((c.tc : Thread nD τ).loc main_v10_0) = (fun i => Merge.dmix (Wo m c) (D m c) (i 0) (i 1) * Merge.byP (Pm m c) (Wp m c) (m ((c : Thread nD τ).loc main_arg4)) (i 0) (i 1) : FVec Ideal S4096x1024 .bf16)
      ∧ r.2.mem ((c.tc : Thread nD τ).loc main_v10_1) = (fun i => Merge.dmix (Wo m c) (D m c) (i 0) (i 1) * Merge.byR (Z m c) (Wr m c) (m ((c : Thread nD τ).loc main_arg4)) (i 0) (i 1) : FVec Ideal S4096x1024 .bf16)
      ∧ r.2.mem ((c.tc : Thread nD τ).loc main_v10_2) = (fun i => Merge.dmix (Wo m c) (D m c) (i 0) (i 1) * Merge.sp (m ((c : Thread nD τ).loc main_arg4)) (i 0) (i 1) : FVec Ideal S4096x1024 .bf16)
      ∧ r.2.mem ((c.tc : Thread nD τ).loc main_v10_3) = (fun i => Merge.dmix (Wo m c) (D m c) (i 0) (i 1) * Merge.sr (m ((c : Thread nD τ).loc main_arg4)) (i 0) (i 1) : FVec Ideal S4096x1024 .bf16)) := by
  refine (θ_run defs _ _).mono (fun r h c => ⟨?_, ?_, ?_, ?_, ?_, ?_⟩) (run_all m ρ)
  · refine (h c _ (mem_uc main_v8_4 (by decide))).trans ((W4_of m ρ c main_v8_4 (by decide)).trans ((W3_of m ρ c main_v8_4 (by decide)).trans ((W2_arr m ρ c 12).trans ((final0_12 (V1 m ρ) c).trans ?_))))
    unfold MIX Mix
    rw [show V1 m ρ c (Pipeline.arrRef spec0 0) = _ from entry_pm m ρ c, show V1 m ρ c (Pipeline.arrRef spec0 1) = _ from entry_z m ρ c,
      show V1 m ρ c (Pipeline.arrRef spec0 2) = _ from entry_wp m ρ c, show V1 m ρ c (Pipeline.arrRef spec0 3) = _ from entry_wr m ρ c,
      show V1 m ρ c (Pipeline.arrRef spec0 4) = _ from entry_proj m ρ c]
  · refine (h c _ (mem_uc main_v8_5 (by decide))).trans ((W4_of m ρ c main_v8_5 (by decide)).trans ((W3_of m ρ c main_v8_5 (by decide)).trans ((W2_arr m ρ c 13).trans ((final0_13 (V1 m ρ) c).trans ?_))))
    rw [show V1 m ρ c (Pipeline.arrRef spec0 0) = _ from entry_pm m ρ c, show V1 m ρ c (Pipeline.arrRef spec0 1) = _ from entry_z m ρ c,
      show V1 m ρ c (Pipeline.arrRef spec0 2) = _ from entry_wp m ρ c, show V1 m ρ c (Pipeline.arrRef spec0 3) = _ from entry_wr m ρ c,
      show V1 m ρ c (Pipeline.arrRef spec0 4) = _ from entry_proj m ρ c, show V1 m ρ c (Pipeline.arrRef spec0 6) = _ from entry_wo m ρ c,
      show V1 m ρ c (Pipeline.arrRef spec0 7) = _ from entry_x m ρ c]
    rfl
  · exact (h c _ (mem_uc main_v10_0 (by decide))).trans (last_byP m ρ c)
  · exact (h c _ (mem_uc main_v10_1 (by decide))).trans (last_byR m ρ c)
  · exact (h c _ (mem_uc main_v10_2 (by decide))).trans (last_sp m ρ c)
  · exact (h c _ (mem_uc main_v10_3 (by decide))).trans (last_sr m ρ c)

end Cert.MergeKernelIdeal.Value

end
-- ==== Proof.Merge.Reference.lean ====
/- The reference's six results are the formulas: its logistic function is the kernel's half-angle form at every argument, finite or
   not, and its products differ from the kernel's only in how they are grouped. -/
module

public import proofs.«01_k».proof.Proof.Finite
public import proofs.«01_k».proof.Proof.Merge.Spec
public import proofs.«01_k».proof.Proof.Gen.MergeReferenceIdeal.Read

@[expose] public section

set_option maxRecDepth 16384

noncomputable section

namespace Cert.MergeReferenceIdeal.Read

open Idealize.ShloMosaic Cert.MergeReferenceIdeal

/-- The logistic function over a half-angle tangent is the quotient with the exponential. -/
theorem sig_eq (g : EReal) : Merge.sig g
    = Ideal.div (Ideal.ofBits .f32 0x3F800000#32) (Ideal.ofBits .f32 0x3F800000#32 + Ideal.exp (-g)) := by
  have h1 : Ideal.ofBits .f32 0x3F800000#32 = ((1 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  rw [Merge.sig, h1, h2]
  have hh : (0 : ℝ) < 1 / 2 := by norm_num
  induction g with
  | bot =>
    rw [EReal.coe_mul_bot_of_pos hh, Ideal.tanh_bot, EReal.neg_bot, Ideal.exp_top, EReal.coe_add_top, Ideal.div, if_neg EReal.top_ne_zero, EReal.inv_top, mul_zero]
    norm_num
    norm_cast
    norm_num
  | top =>
    rw [EReal.coe_mul_top_of_pos hh, Ideal.tanh_top, EReal.neg_top, Ideal.exp_bot, add_zero, Finite.div_coe_coe _ one_ne_zero]
    norm_num
    norm_cast
    norm_num
  | coe x =>
    have he : (1 : ℝ) + Real.exp (-x) ≠ 0 := by positivity
    rw [← EReal.coe_mul, Ideal.tanh_coe, ← EReal.coe_neg, Ideal.exp_coe, ← EReal.coe_mul, ← EReal.coe_add, ← EReal.coe_add, Finite.div_coe_coe _ he]
    refine congrArg _ ?_
    rw [Real.tanh_eq_sinh_div_cosh, Real.sinh_eq, Real.cosh_eq]
    have e1 : Real.exp (-x) = Real.exp (-(1 / 2 * x)) * Real.exp (-(1 / 2 * x)) := by rw [← Real.exp_add]; ring_nf
    have e2 : Real.exp (1 / 2 * x) * Real.exp (-(1 / 2 * x)) = 1 := by rw [← Real.exp_add]; simp
    rw [e1] at he ⊢
    have p1 := Real.exp_pos (1 / 2 * x)
    have p2 := Real.exp_pos (-(1 / 2 * x))
    generalize Real.exp (1 / 2 * x) = u at *
    generalize Real.exp (-(1 / 2 * x)) = v at *
    field_simp
    nlinarith

variable (a : FVec Ideal S4096x512 .f32) (z : FVec Ideal S4096x1024 .f32) (wp : FVec Ideal S1x512x1024 .f32)
  (wr : FVec Ideal S1x1024x1024 .f32) (g : FVec Ideal S4096x4608 .f32) (wo : FVec Ideal S1x1024x1024 .f32)
  (x d : FVec Ideal S4096x1024 .f32)

/-- The weights without their leading axis, as the kernel's calls take them. -/
abbrev two (w : FVec Ideal S1x1024x1024 .f32) : FVec Ideal S1024x1024 .bf16 := fun i => w (ix3 0 (i 0) (i 1))

abbrev twoP (w : FVec Ideal S1x512x1024 .f32) : FVec Ideal S512x1024 .bf16 := fun i => w (ix3 0 (i 0) (i 1))

theorem sp_apply (p : Fin 4096) (j : Fin 1024) : val_main_v11 (F := Ideal) g (ix2 p j) = Merge.sp g p j := by
  rw [Merge.sp, sig_eq]
  pointwise [val_main_v0, val_main_v6, val_main_v7, val_main_cst, val_main_v8, val_main_v9, val_main_cst_0, val_main_v10, val_main_v11]

theorem sr_apply (p : Fin 4096) (j : Fin 1024) : val_main_v21 (F := Ideal) g (ix2 p j) = Merge.sr g p j := by
  rw [Merge.sr, sig_eq]
  pointwise [val_main_v1, val_main_v16, val_main_v17, val_main_cst_2, val_main_v18, val_main_v19, val_main_cst_3, val_main_v20, val_main_v21]

/-- The forward lines for the value alone write the two gates again. -/
theorem sp_again (p : Fin 4096) (j : Fin 1024) : val_main_v35 (F := Ideal) g (ix2 p j) = Merge.sp g p j := by
  rw [Merge.sp, sig_eq]
  pointwise [val_main_v0, val_main_v30, val_main_v31, val_main_cst_5, val_main_v32, val_main_v33, val_main_cst_6, val_main_v34, val_main_v35]

theorem sr_again (p : Fin 4096) (j : Fin 1024) : val_main_v42 (F := Ideal) g (ix2 p j) = Merge.sr g p j := by
  rw [Merge.sr, sig_eq]
  pointwise [val_main_v1, val_main_v37, val_main_v38, val_main_cst_7, val_main_v39, val_main_v40, val_main_cst_8, val_main_v41, val_main_v42]

theorem yp_apply (p : Fin 4096) (j : Fin 1024) : val_main_v3 (F := Ideal) a wp (ix2 p j) = Merge.yp a (twoP wp) p j := by
  pointwise [val_main_v2, val_main_v3]
  rfl

theorem yr_apply (p : Fin 4096) (j : Fin 1024) : val_main_v5 (F := Ideal) z wr (ix2 p j) = Merge.yr z (two wr) p j := by
  pointwise [val_main_v4, val_main_v5]
  rfl

theorem dmix_apply (p : Fin 4096) (j : Fin 1024) : val_main_v46 (F := Ideal) wo d (ix2 p j) = Merge.dmix (two wo) d p j := by
  pointwise [val_main_v27, val_main_v46]
  rfl

theorem mix_apply (p : Fin 4096) (j : Fin 1024) :
    val_main_v45 (F := Ideal) a z wp wr g (ix2 p j) = Merge.mix a z (twoP wp) (two wr) g p j := by
  simp only [Merge.mix, ← yp_apply, ← yr_apply, ← sp_again, ← sr_again]
  pointwise [val_main_v36, val_main_v43, val_main_v44, val_main_v45]

theorem out_apply (p : Fin 4096) (j : Fin 1024) :
    val_main_v29 (F := Ideal) a z wp wr g wo x (ix2 p j) = Merge.out a z (twoP wp) (two wr) g (two wo) x p j := by
  simp only [Merge.out, Merge.mix, ← yp_apply, ← yr_apply, ← sp_apply, ← sr_apply]
  pointwise [val_main_v15, val_main_v25, val_main_v26, val_main_v27, val_main_v28, val_main_v29]
  rfl

theorem gp_apply (p : Fin 4096) (j : Fin 1024) : val_main_v53 (F := Ideal) a wp g wo d (ix2 p j)
    = Merge.dmix (two wo) d p j * Merge.byP a (twoP wp) g p j := by
  simp only [Merge.byP, ← yp_apply, ← sp_apply, ← dmix_apply]
  pointwise [val_main_cst_1, val_main_v12, val_main_v13, val_main_v14, val_main_v51, val_main_v52, val_main_v53]
  simp only [mul_assoc]

theorem gr_apply (p : Fin 4096) (j : Fin 1024) : val_main_v54 (F := Ideal) z wr g wo d (ix2 p j)
    = Merge.dmix (two wo) d p j * Merge.byR z (two wr) g p j := by
  simp only [Merge.byR, ← yr_apply, ← sr_apply, ← dmix_apply]
  pointwise [val_main_cst_4, val_main_v22, val_main_v23, val_main_v24, val_main_v48, val_main_v49, val_main_v54]
  simp only [mul_assoc]

theorem yp_ct_apply (p : Fin 4096) (j : Fin 1024) : val_main_v55 (F := Ideal) g wo d (ix2 p j)
    = Merge.dmix (two wo) d p j * Merge.sp g p j := by
  simp only [← sp_apply, ← dmix_apply]
  pointwise [val_main_v50, val_main_v55]
  exact mul_comm _ _

theorem yr_ct_apply (p : Fin 4096) (j : Fin 1024) : val_main_v56 (F := Ideal) g wo d (ix2 p j)
    = Merge.dmix (two wo) d p j * Merge.sr g p j := by
  simp only [← sr_apply, ← dmix_apply]
  pointwise [val_main_v47, val_main_v56]
  exact mul_comm _ _

end Cert.MergeReferenceIdeal.Read

end
-- ==== Proof.Merge.Claim.lean ====
/- The claims of the gated merge: the reference's run, and that the kernel's six results are the reference's. No precondition. -/
module

public import proofs.«01_k».proof.Defs
public import proofs.«01_k».proof.Proof.Merge.Run
public import proofs.«01_k».proof.Proof.Merge.Reference
public import proofs.«01_k».proof.Proof.Gen.MergeKernel.Frame
public import proofs.«01_k».proof.Proof.Gen.MergeReferenceIdeal.Run
public import Idealize.ShloMosaic.Lib.Claim

@[expose] public section

set_option maxRecDepth 16384

noncomputable section

namespace Cert.MergeReferenceIdeal

open Idealize Idealize.ShloMosaic

/-- The reference's run, one operation per name. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Read.val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = Read.val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v53) = Read.val_main_v53 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg7))
      ∧ r.2.mem ((c.tc : Thread nD τ).loc main_v54) = Read.val_main_v54 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v55) = Read.val_main_v55 (m ((c.tc : Thread nD τ).loc main_arg4)) (m ((c.tc : Thread nD τ).loc main_arg5)) (m ((c.tc : Thread nD τ).loc main_arg7))
      ∧ r.2.mem ((c.tc : Thread nD τ).loc main_v56) = Read.val_main_v56 (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (Read.val_main_v45_eq _ _ _ _ _), (h c).2.1.trans (Read.val_main_v29_eq _ _ _ _ _ _ _), (h c).2.2.1.trans (Read.val_main_v53_eq _ _ _ _ _), (h c).2.2.2.1.trans (Read.val_main_v54_eq _ _ _ _ _), (h c).2.2.2.2.1.trans (Read.val_main_v55_eq _ _ _), (h c).2.2.2.2.2.1.trans (Read.val_main_v56_eq _ _ _), (h c).2.2.2.2.2.2⟩) (Value.run m ρ)

end Cert.MergeReferenceIdeal

namespace Cert.Merge

open Idealize.ShloMosaic Idealize.ShloMosaic.TcCoe Idealize.SL.Sem

/-- The reference runs from any memory, keeps its arguments, and declares no semaphore. -/
theorem frame_reference : Cert.quiescent_MergeReferenceIdeal := fun m ρ _ =>
  (θ_run Cert.MergeReferenceIdeal.defs _ _).mono
    (fun r h => ⟨fun c => (h c).2.2.2.2.2.2, sem_eq_zero_of_no_sems (by decide) r.2⟩) (Cert.MergeReferenceIdeal.Value.run m ρ)

/-- The six results of the kernel are the reference's. -/
theorem algebraic : Cert.algebraic_MergeKernelIdeal_MergeReferenceIdeal := by
  pair_intro
  · run_from Cert.MergeKernelIdeal.Value.run m g & Cert.MergeKernelIdeal.Gen.frame m g
  · run_from Cert.MergeReferenceIdeal.run_reference m' g'
    all_goals obtain ⟨a0, a1, a2, a3, a4, a5, a6, a7⟩ := hagree c
    · exact funext fun i => (congrArg _ (eq_ix2 i)).trans (Cert.MergeReferenceIdeal.Read.mix_apply _ _ _ _ _ _ _)
    · exact funext fun i => (congrArg _ (eq_ix2 i)).trans (Cert.MergeReferenceIdeal.Read.out_apply _ _ _ _ _ _ _ _ _)
    · exact funext fun i => (congrArg _ (eq_ix2 i)).trans (Cert.MergeReferenceIdeal.Read.gp_apply _ _ _ _ _ _ _)
    · exact funext fun i => (congrArg _ (eq_ix2 i)).trans (Cert.MergeReferenceIdeal.Read.gr_apply _ _ _ _ _ _ _)
    · exact funext fun i => (congrArg _ (eq_ix2 i)).trans (Cert.MergeReferenceIdeal.Read.yp_ct_apply _ _ _ _ _)
    · exact funext fun i => (congrArg _ (eq_ix2 i)).trans (Cert.MergeReferenceIdeal.Read.yr_ct_apply _ _ _ _ _)

end Cert.Merge

end
-- ==== Proof.Logistic.lean ====
/- The logistic function written with a tangent, and the softplus of a negated number. -/
module

public import proofs.«01_k».proof.Proof.Finite
public import Idealize.ShloMosaic.Lib.Pointwise

@[expose] public section

noncomputable section

namespace Cert.Logistic

open Idealize.ShloMosaic

theorem word_one : Ideal.ofBits .f32 0x3F800000#32 = ((1 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_minus_eight : Ideal.ofBits .f32 0xC1000000#32 = ((-8 : ℝ) : EReal) := by
  simp [Ideal.ofBits, Ideal.ieee, -EReal.coe_mul]; norm_num

theorem word_zero : Ideal.ofBits .f32 0x00000000#32 = ((0 : ℝ) : EReal) := by
  simp [Ideal.ofBits, Ideal.ieee]

/-- The logistic function over a half-angle tangent. -/
abbrev sig (g : EReal) : EReal :=
  Ideal.ofBits .f32 0x3F000000#32 * Ideal.tanh (Ideal.ofBits .f32 0x3F000000#32 * g) + Ideal.ofBits .f32 0x3F000000#32

/-- The half-angle form is the logistic function, at the infinities too. -/
theorem sig_eq (g : EReal) : sig g
    = Ideal.div (Ideal.ofBits .f32 0x3F800000#32) (Ideal.ofBits .f32 0x3F800000#32 + Ideal.exp (-g)) := by
  rw [sig, word_one, word_half]
  have hh : (0 : ℝ) < 1 / 2 := by norm_num
  induction g with
  | bot =>
    rw [EReal.coe_mul_bot_of_pos hh, Ideal.tanh_bot, EReal.neg_bot, Ideal.exp_top, EReal.coe_add_top, Ideal.div, if_neg EReal.top_ne_zero, EReal.inv_top, mul_zero]
    norm_num
    norm_cast
    norm_num
  | top =>
    rw [EReal.coe_mul_top_of_pos hh, Ideal.tanh_top, EReal.neg_top, Ideal.exp_bot, add_zero, Finite.div_coe_coe _ one_ne_zero]
    norm_num
    norm_cast
    norm_num
  | coe x =>
    have he : (1 : ℝ) + Real.exp (-x) ≠ 0 := by positivity
    rw [← EReal.coe_mul, Ideal.tanh_coe, ← EReal.coe_neg, Ideal.exp_coe, ← EReal.coe_mul, ← EReal.coe_add, ← EReal.coe_add, Finite.div_coe_coe _ he]
    refine congrArg _ ?_
    rw [Real.tanh_eq_sinh_div_cosh, Real.sinh_eq, Real.cosh_eq]
    have e1 : Real.exp (-x) = Real.exp (-(1 / 2 * x)) * Real.exp (-(1 / 2 * x)) := by rw [← Real.exp_add]; ring_nf
    have e2 : Real.exp (1 / 2 * x) * Real.exp (-(1 / 2 * x)) = 1 := by rw [← Real.exp_add]; simp
    rw [e1] at he ⊢
    have p1 := Real.exp_pos (1 / 2 * x)
    have p2 := Real.exp_pos (-(1 / 2 * x))
    generalize Real.exp (1 / 2 * x) = u at *
    generalize Real.exp (-(1 / 2 * x)) = v at *
    field_simp
    nlinarith

/-- At a real number the logistic function is a real number, not negative. -/
theorem sig_real {x : EReal} (hx : Finite.IsReal x) : ∃ s : ℝ, 0 ≤ s ∧ sig x = (s : EReal) := by
  obtain ⟨x, rfl⟩ := hx
  have he : (1 : ℝ) + Real.exp (-x) ≠ 0 := by positivity
  refine ⟨1 / (1 + Real.exp (-x)), by positivity, ?_⟩
  rw [sig_eq, word_one, ← EReal.coe_neg, Ideal.exp_coe, ← EReal.coe_add, Finite.div_coe_coe _ he]

/-- `log (1 + exp (- x))`. -/
abbrev soft (x : EReal) : EReal := ((Real.log (1 + Real.exp (-x.toReal)) : ℝ) : EReal)

/-- Over the reals: the larger part, and what is left. -/
theorem soft_split (x : ℝ) : max (-x) 0 + Real.log (1 + Real.exp (-|x|)) = Real.log (1 + Real.exp (-x)) := by
  have h1 : (0 : ℝ) < 1 + Real.exp (-|x|) := by positivity
  rcases le_total 0 x with h | h
  · rw [abs_of_nonneg h, max_eq_right (by linarith), zero_add]
  · rw [abs_of_nonpos h, max_eq_left (by linarith), neg_neg]
    have e : 1 + Real.exp (-x) = Real.exp (-x) * (1 + Real.exp x) := by
      rw [mul_add, ← Real.exp_add]; simp [add_comm]
    rw [e, Real.log_mul (by positivity) (by positivity), Real.log_exp]

theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- `log (1 + y)` as the kernel writes it, where `y` is a positive real number. -/
theorem log1p_select {y : ℝ} (hy : 0 < y) :
    Ideal.log (((1 : ℝ) : EReal) + (y : EReal)) * Ideal.div (y : EReal) (((1 : ℝ) : EReal) + (y : EReal) - ((1 : ℝ) : EReal))
      = ((Real.log (1 + y) : ℝ) : EReal) := by
  rw [← EReal.coe_add, ← EReal.coe_sub, add_sub_cancel_left, Finite.div_coe_coe _ hy.ne', div_self hy.ne', Ideal.log_coe,
    if_neg (by linarith), ← EReal.coe_mul, mul_one]

/-- The scale of the input, by a tangent and by `1 - exp`. -/
theorem scale_eq (L : ℝ) : (0 - Real.tanh L) * (Real.exp L * Real.exp L + 1) = -(Real.exp (2 * L) - 1) := by
  have e1 : Real.exp (2 * L) = Real.exp L * Real.exp L := by rw [← Real.exp_add]; ring_nf
  have e2 : Real.exp L * Real.exp (-L) = 1 := by rw [← Real.exp_add]; simp
  rw [Real.tanh_eq_sinh_div_cosh, Real.sinh_eq, Real.cosh_eq, e1]
  have p1 := Real.exp_pos L
  have p2 := Real.exp_pos (-L)
  generalize Real.exp L = u at *
  generalize Real.exp (-L) = v at *
  field_simp
  have h : u * u * v = u := by rw [mul_assoc, e2, mul_one]
  nlinarith

end Cert.Logistic

end
-- ==== Proof.Gate.Spec.lean ====
/- The gradient of the feed-forward part's gate behind a product with the output weight, as a formula of the arguments. -/
module

public import proofs.«01_k».proof.GateKernelIdeal
public import proofs.«01_k».proof.Proof.RmsNorm
public import proofs.«01_k».proof.Proof.Logistic
public import Idealize.ShloMosaic.Lib.Claim

@[expose] public section

set_option maxRecDepth 16384

noncomputable section

namespace Cert.Gate

open Idealize.ShloMosaic Cert.GateKernelIdeal Cert.Finite Cert.Logistic

/-- Column `j` of the product of row `p`, normed, with the input weight. -/
def product (x : FVec Ideal S4096x1024 .f32) (g : FVec Ideal S1x1024 .f32) (w : FVec Ideal S1x1024x5632 .f32) (p : Fin 4096) (j : Fin 5632) : EReal :=
  ∑ k : Fin 1024, x (ix2 p k) * Rms.scale (fun k => x (ix2 p k)) * g (ix2 0 k) * w (ix3 0 k j)

/-- The gate's column and the column it opens. -/
abbrev gateCol (l : Fin 2816) : Fin 5632 := ⟨l.val, by omega⟩
abbrev upCol (l : Fin 2816) : Fin 5632 := ⟨2816 + l.val, by omega⟩

/-- The cotangent of the gated columns. -/
def dact (d : FVec Ideal S4096x1024 .f32) (v : FVec Ideal S1x2816x1024 .f32) (p : Fin 4096) (l : Fin 2816) : EReal :=
  ∑ k : Fin 1024, d (ix2 p k) * v (ix3 0 l k)

/-- The gate at `z`, opened. -/
def opened (z : EReal) : EReal := z * sig z

/-- The gate's slope at `z`, of a column `u`. -/
def gateSlope (z u : EReal) : EReal := u * (sig z + z * sig z * (1 - sig z))

/-- The formula's derivative through the gate is the slope times the cotangent, on reals. -/
theorem slope_eq {d z u : EReal} (hd : IsReal d) (hz : IsReal z) (hu : IsReal u) :
    d * u * sig z + z * (d * u) * (sig z * (1 - sig z)) = d * gateSlope z u := by
  obtain ⟨s, -, hs⟩ := sig_real hz
  obtain ⟨d, rfl⟩ := hd
  obtain ⟨z, rfl⟩ := hz
  obtain ⟨u, rfl⟩ := hu
  rw [gateSlope, hs]
  norm_cast
  ring

theorem isReal_product {x : FVec Ideal S4096x1024 .f32} {g : FVec Ideal S1x1024 .f32} {w : FVec Ideal S1x1024x5632 .f32} (hx : ∀ i, IsReal (x i))
    (hg : ∀ i, IsReal (g i)) (hw : ∀ i, IsReal (w i)) (p : Fin 4096) (j : Fin 5632) : IsReal (product x g w p j) :=
  IsReal.sum fun _ => (((hx _).mul (Rms.isReal_scale fun _ => hx _)).mul (hg _)).mul (hw _)

theorem isReal_dact {d : FVec Ideal S4096x1024 .f32} {v : FVec Ideal S1x2816x1024 .f32} (hd : ∀ i, IsReal (d i)) (hv : ∀ i, IsReal (v i))
    (p : Fin 4096) (l : Fin 2816) : IsReal (dact d v p l) :=
  IsReal.sum fun _ => (hd _).mul (hv _)

end Cert.Gate

end
-- ==== Proof.Gate.Array.lean ====
/- What the two result arrays hold after the kernel's run. -/
module

public import proofs.«01_k».proof.Proof.Gate.Spec
public import proofs.«01_k».proof.Proof.Gen.GateKernelIdeal.Value
public import Idealize.ShloMosaic.Lib.Pipeline.ValueKit
public import Idealize.ShloMosaic.Lib.Claim

@[expose] public section

set_option maxRecDepth 16384

noncomputable section

namespace Cert.GateKernelIdeal.Value

open Cert.GateKernelIdeal Cert.GateKernelIdeal.Gen Idealize.ShloMosaic Idealize.ShloMosaic.TcCoe Idealize.SL.Sem Cert.Gate Cert.Logistic

variable (m : (ℓ : Loc nD τ sig) → Buf (Elt Ideal) ℓ)

/-! ## What the host hands over -/

theorem d_apply (c : Dev nD) (p : Fin 4096) (k : Fin 1024) :
    (V m c main_v33 : FVec Ideal S4096x1024 .bf16) (ix2 p k) = (m ((c : Thread nD τ).loc main_arg4) : FVec Ideal S4096x1024 .f32) (ix2 p k) := by
  unfold_abbrev_sides
  after_results
  pointwise

theorem w_apply (c : Dev nD) (l : Fin 2816) (k : Fin 1024) :
    (V m c main_v35 : FVec Ideal S2816x1024 .bf16) (ix2 l k) = (m ((c : Thread nD τ).loc main_arg3) : FVec Ideal S1x2816x1024 .f32) (ix3 0 l k) := by
  unfold_abbrev_sides
  after_results
  generalize (m ((c : Thread nD τ).loc main_arg3) : FVec Ideal S1x2816x1024 .f32) = y
  pointwise

/-- The product's entries of the memory's arguments. -/
abbrev Product (c : Dev nD) : Fin 4096 → Fin 5632 → EReal :=
  product (m ((c : Thread nD τ).loc main_arg0)) (m ((c : Thread nD τ).loc main_arg1)) (m ((c : Thread nD τ).loc main_arg2))

theorem product_apply (c : Dev nD) (p : Fin 4096) (j : Fin 5632) :
    (V m c main_v15 : FVec Ideal S4096x5632 .f32) (ix2 p j)
      = Product m c p j := by
  unfold Product
  unfold_abbrev_sides
  after_results
  generalize (m ((c : Thread nD τ).loc main_arg0) : FVec Ideal S4096x1024 .f32) = x
  generalize (m ((c : Thread nD τ).loc main_arg1) : FVec Ideal S1x1024 .f32) = g
  generalize (m ((c : Thread nD τ).loc main_arg2) : FVec Ideal S1x1024x5632 .f32) = w
  unfold product
  pointwise

/-- The opened gate at an entry. -/
theorem opened_apply (c : Dev nD) (p : Fin 4096) (l : Fin 2816) :
    (V m c main_v26 : FVec Ideal S4096x2816 .bf16) (ix2 p l) = opened (Product m c p (gateCol l)) := by
  unfold Product
  unfold_abbrev_sides
  after_results
  generalize (m ((c : Thread nD τ).loc main_arg0) : FVec Ideal S4096x1024 .f32) = x
  generalize (m ((c : Thread nD τ).loc main_arg1) : FVec Ideal S1x1024 .f32) = g
  generalize (m ((c : Thread nD τ).loc main_arg2) : FVec Ideal S1x1024x5632 .f32) = w
  pointwise [product, Logistic.sig, opened]

/-- The gate's slope at an entry. -/
theorem slope_apply (c : Dev nD) (p : Fin 4096) (l : Fin 2816) :
    (V m c main_v32 : FVec Ideal S4096x2816 .bf16) (ix2 p l) = gateSlope (Product m c p (gateCol l)) (Product m c p (upCol l)) := by
  unfold Product
  unfold_abbrev_sides
  after_results
  generalize (m ((c : Thread nD τ).loc main_arg0) : FVec Ideal S4096x1024 .f32) = x
  generalize (m ((c : Thread nD τ).loc main_arg1) : FVec Ideal S1x1024 .f32) = g
  generalize (m ((c : Thread nD τ).loc main_arg2) : FVec Ideal S1x1024x5632 .f32) = w
  pointwise [product, Logistic.sig, gateSlope]

/-! ## What the region leaves -/

/-- The cotangent of the gated columns, from the two arrays as the region takes them. -/
def Dact (d : FVec Ideal S4096x1024 .bf16) (v : FVec Ideal S2816x1024 .bf16) (p : Fin 4096) (l : Fin 2816) : EReal :=
  ∑ k : Fin 1024, d (ix2 p k) * v (ix2 l k)

/-- The cotangent of the gated columns times a saved array. -/
abbrev Through (c : Dev nD) (s : FVec Ideal S4096x2816 .bf16) : FVec Ideal S4096x2816 .bf16 := fun i =>
  Dact (V m c (Pipeline.arrRef spec0 0)) (V m c (Pipeline.arrRef spec0 1)) (i 0) (i 1) * s i

/-- The block each window stages at a point: eleven column blocks in each half of the rows. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The gate's cotangent at the region's end. -/
theorem through4 (c : Dev nD) : (dats m 0 c).arrAt 4 cfg0.N = Through m c (Gen.V m c (Pipeline.arrRef spec0 2)) := by
  refine (dats m 0 c).arrAt_eq_of_covers 4 _ (by decide +kernel) fun t hf y => ?_
  blk_simp
  rw [after0_4]
  unfold_out out0_4
  frame_out
  simp only [Through]
  unfold iblk
  generalize Gen.V m c = W
  canon_tiles x h <;>
    (pointwise [k0_pay5, k0_pay4, k0_pay2, k0_pay1, k0_pay12, k0_pay11, k0_pay9, k0_pay8, k0_pay7, Dact]
     blk_point [idx t])

/-- The opened column's cotangent at the region's end. -/
theorem through5 (c : Dev nD) : (dats m 0 c).arrAt 5 cfg0.N = Through m c (Gen.V m c (Pipeline.arrRef spec0 3)) := by
  refine (dats m 0 c).arrAt_eq_of_covers 5 _ (by decide +kernel) fun t hf y => ?_
  blk_simp
  rw [after0_5]
  unfold_out out0_5
  frame_out
  simp only [Through]
  unfold iblk
  generalize Gen.V m c = W
  canon_tiles x h <;>
    (pointwise [k0_pay6, k0_pay4, k0_pay3, k0_pay1, k0_pay13, k0_pay11, k0_pay10, k0_pay8, k0_pay7, Dact]
     blk_point [idx t])

/-- The gate's cotangent after the run, entry by entry. -/
theorem final4_apply (c : Dev nD) (p : Fin 4096) (l : Fin 2816) :
    ((dats m 0 c).arrAt 4 cfg0.N : FVec Ideal S4096x2816 .bf16) (ix2 p l)
      = dact (m ((c : Thread nD τ).loc main_arg4)) (m ((c : Thread nD τ).loc main_arg3)) p l
        * gateSlope (Product m c p (gateCol l)) (Product m c p (upCol l)) := by
  rw [through4]
  refine congrArg₂ (· * ·) (Finset.sum_congr rfl fun k _ => congrArg₂ (· * ·) (d_apply m c p k) (w_apply m c l k)) (slope_apply m c p l)

/-- The opened column's cotangent after the run, entry by entry. -/
theorem final5_apply (c : Dev nD) (p : Fin 4096) (l : Fin 2816) :
    ((dats m 0 c).arrAt 5 cfg0.N : FVec Ideal S4096x2816 .bf16) (ix2 p l)
      = dact (m ((c : Thread nD τ).loc main_arg4)) (m ((c : Thread nD τ).loc main_arg3)) p l
        * opened (Product m c p (gateCol l)) := by
  rw [through5]
  refine congrArg₂ (· * ·) (Finset.sum_congr rfl fun k _ => congrArg₂ (· * ·) (d_apply m c p k) (w_apply m c l k)) (opened_apply m c p l)

end Cert.GateKernelIdeal.Value

end
-- ==== Proof.Gate.Reference.lean ====
/- The reference's two gradients, entry by entry. -/
module

public import proofs.«01_k».proof.Proof.Gate.Spec
public import proofs.«01_k».proof.Proof.Gen.GateReferenceIdeal.Read

@[expose] public section

set_option maxRecDepth 16384

noncomputable section

namespace Cert.GateReferenceIdeal.Read

open Cert.GateReferenceIdeal Idealize.ShloMosaic Cert.Gate Cert.Finite

variable {x d : FVec Ideal S4096x1024 .f32} {g : FVec Ideal S1x1024 .f32} {w : FVec Ideal S1x1024x5632 .f32} {v : FVec Ideal S1x2816x1024 .f32}

theorem product_apply (p : Fin 4096) (j : Fin 5632) : val_main_v15 (F := Ideal) x g w (ix2 p j) = product x g w p j := by
  unfold product
  pointwise [val_main_v0, val_main_v1, val_main_v2, val_main_v3, val_main_v4, val_main_v5, val_main_v6, val_main_v7, val_main_v8, val_main_v9, val_main_v10,
    val_main_v11, val_main_v12, val_main_v13, val_main_v14, val_main_v15, val_main_cst, val_main_cst_0, val_main_cst_1]

theorem gate_apply (p : Fin 4096) (l : Fin 2816) : val_main_v16 (F := Ideal) x g w (ix2 p l) = product x g w p (gateCol l) := by
  rw [← product_apply]
  unfold val_main_v16
  generalize val_main_v15 (F := Ideal) x g w = z
  pointwise

theorem up_apply (p : Fin 4096) (l : Fin 2816) : val_main_v17 (F := Ideal) x g w (ix2 p l) = product x g w p (upCol l) := by
  rw [← product_apply]
  unfold val_main_v17
  generalize val_main_v15 (F := Ideal) x g w = z
  pointwise

theorem sig_apply (p : Fin 4096) (l : Fin 2816) : val_main_v18_2 (F := Ideal) x g w (ix2 p l) = Logistic.sig (product x g w p (gateCol l)) := by
  rw [← gate_apply, Logistic.sig_eq]
  pointwise [val_main_v18_2, val_main_call0_v0, val_main_call0_v1, val_main_call0_v2, val_main_call0_v3, val_main_call0_v4, val_main_call0_cst, val_main_call0_cst_0]

theorem dact_apply (p : Fin 4096) (l : Fin 2816) : val_main_v22 (F := Ideal) v d (ix2 p l) = dact d v p l := by
  unfold dact
  pointwise [val_main_v22, val_main_v20]

/-- The opened column's gradient. -/
theorem up_gradient (p : Fin 4096) (l : Fin 2816) :
    val_main_v27 (F := Ideal) x g w v d (ix2 p l) = dact d v p l * opened (product x g w p (gateCol l)) := by
  have h : val_main_v27 (F := Ideal) x g w v d (ix2 p l)
      = val_main_v16 (F := Ideal) x g w (ix2 p l) * val_main_v18_2 (F := Ideal) x g w (ix2 p l) * val_main_v22 (F := Ideal) v d (ix2 p l) := by
    pointwise [val_main_v27, val_main_v23, val_main_v18_0]
  rw [h, gate_apply, sig_apply, dact_apply, mul_comm, opened]

/-- The gate's gradient, of finite arguments. -/
theorem gate_gradient (hx : ∀ i, IsReal (x i)) (hg : ∀ i, IsReal (g i)) (hw : ∀ i, IsReal (w i)) (hv : ∀ i, IsReal (v i)) (hd : ∀ i, IsReal (d i))
    (p : Fin 4096) (l : Fin 2816) :
    val_main_v26 (F := Ideal) x g w v d (ix2 p l)
      = dact d v p l * gateSlope (product x g w p (gateCol l)) (product x g w p (upCol l)) := by
  have h : val_main_v26 (F := Ideal) x g w v d (ix2 p l)
      = val_main_v22 (F := Ideal) v d (ix2 p l) * val_main_v17 (F := Ideal) x g w (ix2 p l) * val_main_v18_2 (F := Ideal) x g w (ix2 p l)
        + val_main_v16 (F := Ideal) x g w (ix2 p l) * (val_main_v22 (F := Ideal) v d (ix2 p l) * val_main_v17 (F := Ideal) x g w (ix2 p l))
          * (val_main_v18_2 (F := Ideal) x g w (ix2 p l) * (1 - val_main_v18_2 (F := Ideal) x g w (ix2 p l))) := by
    pointwise [val_main_v26, val_main_v25, val_main_v24, val_main_call1_v0, val_main_call1_v1, val_main_call1_v2, val_main_v18_1, val_main_call0_v7,
      val_main_call0_v6, val_main_call0_cst_1]
  rw [h, gate_apply, up_apply, sig_apply, dact_apply]
  exact slope_eq (isReal_dact hd hv p l) (isReal_product hx hg hw p _) (isReal_product hx hg hw p _)

end Cert.GateReferenceIdeal.Read

end
-- ==== Proof.Gate.Claim.lean ====
/- The equation of the gate's two gradients and the reference's. -/
module

public import proofs.«01_k».proof.Defs
public import proofs.«01_k».proof.Proof.Gate.Array
public import proofs.«01_k».proof.Proof.Gate.Reference
public import proofs.«01_k».proof.Proof.Gen.GateKernel.Frame
public import proofs.«01_k».proof.Proof.Gen.GateReferenceIdeal.Run
public import proofs.«01_k».proof.Proof.Gen.Pre_gate_finite

@[expose] public section

set_option maxRecDepth 16384

noncomputable section

namespace Cert.GateReferenceIdeal

open Idealize Idealize.ShloMosaic Idealize.ShloMosaic.TcCoe Idealize.SL.Sem

/-- Every run of the reference: its two gradients, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v26) = Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v27) = Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (Read.val_main_v26_eq _ _), (h c).2.1.trans (Read.val_main_v27_eq _ _ _ _ _), (h c).2.2⟩)
    (Value.run m ρ)

end Cert.GateReferenceIdeal

namespace Cert.Gate

open Idealize Idealize.ShloMosaic Idealize.ShloMosaic.TcCoe Idealize.SL.Sem

/-- The reference runs from any memory, keeps its arguments, and declares no semaphore. -/
theorem frame_reference : Cert.quiescent_GateReferenceIdeal := fun m ρ _ =>
  (θ_run Cert.GateReferenceIdeal.defs _ _).mono
    (fun r h => ⟨fun c => (h c).2.2, sem_eq_zero_of_no_sems (by decide) r.2⟩) (Cert.GateReferenceIdeal.Value.run m ρ)

/-- The two gradients of the kernel are the reference's. -/
theorem algebraic : Cert.algebraic_GateKernelIdeal_GateReferenceIdeal_pre_gate_finite := by
  pair_intro
  · run_from Cert.GateKernelIdeal.Value.run_blocks m g
  · run_from Cert.GateReferenceIdeal.run_reference m' g'
    all_goals obtain ⟨h0, h1, h2, h3, h4⟩ := hpre c
    · exact funext fun i => (congrArg _ (eq_ix2 i)).trans ((Cert.GateReferenceIdeal.Read.gate_gradient (Finite.reals h0 fun _ => rfl) (Finite.reals h1 fun _ => rfl)
        (Finite.reals h2 fun _ => rfl) (Finite.reals h3 fun _ => rfl) (Finite.reals h4 fun _ => rfl) (i 0) (i 1)).trans
        ((Cert.GateKernelIdeal.Value.final4_apply m c (i 0) (i 1)).symm.trans (congrArg _ (eq_ix2 i)).symm))
    · exact funext fun i => (congrArg _ (eq_ix2 i)).trans ((Cert.GateReferenceIdeal.Read.up_gradient (i 0) (i 1)).trans
        ((Cert.GateKernelIdeal.Value.final5_apply m c (i 0) (i 1)).symm.trans (congrArg _ (eq_ix2 i)).symm))

end Cert.Gate

end
-- ==== Proof.PoolFwd.Loops.lean ====
/-
  The two loops of the pool's forward kernel, by the values they leave: the input put behind sixteen rows
  of zeros, and the result, one chunk of rows at a trip.
-/
module

public import proofs.«01_k».proof.Proof.Trips
public import proofs.«01_k».proof.Proof.Gen.PoolFwdKernelIdeal.Loops

@[expose] public section

set_option maxRecDepth 16384

noncomputable section

namespace Cert.PoolFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PoolFwdKernelIdeal Cert.PoolFwdKernelIdeal.Gen Cert.Trips

variable {F : FTy → Type} [FloatOps F]

/-- The resource algebra of the frame kit. -/
local notation "𝕄" => MT nD τ sig Unit (Elt F) ℕ (UR sig nD τ) ℕ

/-- Trip `k` of the first loop: rows `1024 k …` of the input, put behind the sixteen rows in front. -/
def padTrip (x : Vec F S4096x128 .f32) (k : Fin k0_t1_loop.trips) (z : Vec F S4112x128 .f32) : Vec F S4112x128 .f32 :=
  VecWindow.put z (k0_off2 k) S1024x128.size (k0_pay2 (VecWindow.window x (k0_off1 k) S1024x128.size (k0_off1_inb k)))

/-- Trip `k` of the second loop, on the padded input `u`. -/
def outTrip (i : grid0.Coords) (w : Vec F S1x128x128 .f32) (s : Vec F S1x128 .f32) (u : Vec F S4112x128 .f32) (k : Fin k0_t2_loop.trips)
    (o : Vec F S4096x128 .bf16) : Vec F S4096x128 .bf16 :=
  VecWindow.put o (k0_off4 k) S1024x128.size (k0_pay3 i w s k (VecWindow.window u (k0_off3 k) S1040x128.size (k0_off3_inb k)))

variable (𝒱 : Variants) (c : Dev nD) (bd : Option 𝒱.V) (E : Set ℕ) (i : grid0.Coords)
  (arg1 : Memref sig .tc .vmem S4096x128 .f32) (harg1 : arg1.IsWhole) (arg2 : Memref sig .tc .vmem S1x128x128 .f32) (harg2 : arg2.IsWhole)
  (arg3 : Memref sig .tc .vmem S1x128 .f32) (harg3 : arg3.IsWhole) (arg4 : Memref sig .tc .vmem S4096x128 .bf16) (harg4 : arg4.IsWhole)
  (arg5 : Memref sig .tc .vmem S4112x128 .f32) (harg5 : arg5.IsWhole)

set_option warn.classDefReducibility false in
/-- The first loop: before trip `k` the padded buffer holds the first `k` trips. -/
@[sl_loop] def padInv (X : BufTy.Contents (Elt F) arg1.view.ty) (G : BufTy.Contents (Elt F) arg5.view.ty) :
    LoopInvTy_k0_t1 (F := F) Unit ℕ (UR sig nD τ) ℕ 𝒱 c bd E i arg1 harg1 arg2 harg2 arg3 harg3 arg4 harg4 arg5 harg5 where
  inv k _ := iprop((arg1.view.loc (c : Thread nD τ) ↦[arg1.view.set]{fullShare} X)
    ∗ (∃ f, (arg5.view.loc (c : Thread nD τ) ↦[arg5.view.set]{fullShare} f)
        ∗ ⌜arg5.view.read (Elt F) f = iter (padTrip (arg1.view.read (Elt F) X)) (arg5.view.read (Elt F) G) k⌝))
  step k acc := by
    unfold k0_t1_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

set_option warn.classDefReducibility false in
/-- The second loop: before trip `k` the result holds the first `k` trips. -/
@[sl_loop] def outInv (v5 : Vec F S1x128x128 .f32) (v8 : Vec F S1x128 .f32)
    (X : BufTy.Contents (Elt F) arg5.view.ty) (G : BufTy.Contents (Elt F) arg4.view.ty) :
    LoopInvTy_k0_t2 (F := F) Unit ℕ (UR sig nD τ) ℕ 𝒱 c bd E i arg1 harg1 arg2 harg2 arg3 harg3 arg4 harg4 arg5 harg5 v5 v8 where
  inv k _ := iprop((arg5.view.loc (c : Thread nD τ) ↦[arg5.view.set]{fullShare} X)
    ∗ (∃ f, (arg4.view.loc (c : Thread nD τ) ↦[arg4.view.set]{fullShare} f)
        ∗ ⌜arg4.view.read (Elt F) f = iter (outTrip i v5 v8 (arg5.view.read (Elt F) X)) (arg4.view.read (Elt F) G) k⌝))
  step k acc := by
    unfold k0_t2_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

end Cert.PoolFwd

end
-- ==== Proof.PoolFwd.Run.lean ====
/-
  The pool's forward kernel run once, at any point of its grid: what its result holds.
-/
module

public import proofs.«01_k».proof.Proof.PoolFwd.Loops
public import proofs.«01_k».proof.Proof.Gen.PoolFwdKernelIdeal.Frame.Runs

@[expose] public section

set_option maxRecDepth 16384

noncomputable section

namespace Cert.PoolFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PoolFwdKernelIdeal Cert.PoolFwdKernelIdeal.Gen Cert.Trips

variable {F : FTy → Type} [FloatOps F]

/-- The resource algebra of the frame kit. -/
local notation "𝕄" => MT nD τ sig Unit (Elt F) ℕ (UR sig nD τ) ℕ

theorem off2_eq (k : Fin k0_t1_loop.trips) : k0_off2 k = ![16 + 1024 * k.val, 0] := by revert k; decide +kernel
theorem off4_eq (k : Fin k0_t2_loop.trips) : k0_off4 k = ![0 + 1024 * k.val, 0] := by revert k; decide +kernel

/-- The input behind sixteen rows of zeros. -/
def padded (x : Vec F S4096x128 .f32) : Vec F S4112x128 .f32 :=
  iter (padTrip x) (broadcast S4112x128 (Scalar.ofBits .f32 0 : F .f32)) k0_t1_loop.trips

/-- The result. -/
def out (i : grid0.Coords) (w : Vec F S1x128x128 .f32) (s : Vec F S1x128 .f32) (x : Vec F S4096x128 .f32) : Vec F S4096x128 .bf16 :=
  iter (outTrip i w s (padded x)) (broadcast S4096x128 (Scalar.ofBits .bf16 0 : F .bf16)) k0_t2_loop.trips

/-- The padded buffer, whatever it held before. -/
theorem padded_eq (x : Vec F S4096x128 .f32) (z : Vec F S4112x128 .f32) :
    iter (padTrip x) (VecWindow.put z ![0, 0] S16x128.size k0_pay1) k0_t1_loop.trips = padded x :=
  iter_put_congr off2_eq _ (by decide) fun y hy => by
    have h0 : (y 0).val < 4112 := (y 0).isLt
    have h1 : (y 1).val < 128 := (y 1).isLt
    have hy : (y 0).val < 16 ∨ 16 + 1024 * 4 ≤ (y 0).val := hy
    have h : ∀ b, (![0, 0] : Fin 2 → ℕ) b ≤ (y b).val ∧ (y b).val < (![0, 0] : Fin 2 → ℕ) b + S16x128.size b := fun b =>
      match b with
      | 0 => ⟨Nat.zero_le _, by show (y 0).val < 0 + 16; omega⟩
      | 1 => ⟨Nat.zero_le _, by show (y 1).val < 0 + 128; omega⟩
    exact dif_pos h

/-- The result's buffer, whatever it held before. -/
theorem out_eq (i : grid0.Coords) (w : Vec F S1x128x128 .f32) (s : Vec F S1x128 .f32) (x : Vec F S4096x128 .f32) (z : Vec F S4096x128 .bf16) :
    iter (outTrip i w s (padded x)) z k0_t2_loop.trips = out i w s x :=
  iter_put_congr off4_eq _ (by decide) fun y hy => by
    have h0 : (y 0).val < 4096 := (y 0).isLt
    have hy : (y 0).val < 0 ∨ 0 + 1024 * 4 ≤ (y 0).val := hy
    omega

/-- The body, on whole buffers: it leaves its inputs as they were, and in its result the pooled and mixed rows. -/
theorem run (c : Dev nD) (i : grid0.Coords)
    (arg1 : Memref sig .tc .vmem S4096x128 .f32) (harg1 : arg1.IsWhole) (arg2 : Memref sig .tc .vmem S1x128x128 .f32) (harg2 : arg2.IsWhole)
    (arg3 : Memref sig .tc .vmem S1x128 .f32) (harg3 : arg3.IsWhole) (arg4 : Memref sig .tc .vmem S4096x128 .bf16) (harg4 : arg4.IsWhole)
    (arg5 : Memref sig .tc .vmem S4112x128 .f32) (harg5 : arg5.IsWhole)
    (x0 : Vec F S4096x128 .f32) (x1 : Vec F S1x128x128 .f32) (x2 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out i x1 x2 x0) ∗ (∃ d, owns (c : Thread nD τ) arg5 fullShare d)) -∗ K ⟨⟩))
      ⊢ wp frame (wpE (defs₀ (F := F)) Variants.none c none) E (cc0_pool_fwd i arg1 harg1 arg2 harg2 arg3 harg3 arg4 harg4 arg5 harg5) K := by
  simp only [cc0_pool_fwd_eq_skeleton]; unfold cc0_pool_fwd_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  sl_exec
  sl_step
  have e1 := (View.readAt_full arg2.view f1 inb_S1x128x128_S1x128x128_0_0_0).trans hf1
  have e2 := (View.readAt_full arg3.view f2 inb_S1x128_S1x128_0_0).trans hf2
  have hu : arg5.view.read (Elt F) fL0 = padded x0 := by
    refine hL2.trans ?_
    rw [View.read_writes_cons_put _ _ _ _ _ rfl, hf0]
    exact padded_eq _ _
  have ho : arg4.view.read (Elt F) fL1 = out i x1 x2 x0 := by
    rw [e1, e2, hu] at hL5
    exact hL5.trans (out_eq _ _ _ _ _)
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact ho
                  iexact H3
  iexists _, _; isplitr; swap; · iexact HS0
  ipureintro; rfl

end Cert.PoolFwd

end
-- ==== Proof.PoolFwd.Frame.lean ====
/-
  The pool's forward call: every execution of the program ends, with its arguments as they were, and the
  result's array at what the proof data say.
-/
module

public import proofs.«01_k».proof.Proof.PoolFwd.Run
public import Idealize.ShloMosaic.Lib.Claim

@[expose] public section

set_option maxRecDepth 16384

noncomputable section

namespace Cert.PoolFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolFwdKernelIdeal Cert.PoolFwdKernelIdeal.Gen Cert.Trips

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The pipeline's proof data: each input's buffer at its block, the result's at what the body computes
    of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (grid0.coords t) (iblk m c 1 t) (iblk m c 2 t) (iblk m c 0 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = out (grid0.coords t) (iblk m c 1 t) (iblk m c 2 t) (iblk m c 0 t) := by dsimp only [dats]

set_option maxHeartbeats 800000 in
/-- The body at any point, window by window: `run` at the point's buffers. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t))) := by
  unfold bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).Φ t.succ = (dats m 0 c).Φ t.castSucc from rfl,
    show (dats m 0 c).owesAt () t.succ = (dats m 0 c).owesAt () t.castSucc from rfl,
    after_0, after_1, after_2, after_3,
    show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply (run c (grid0.coords t) _ (hs0_0 t) _ (hs0_1 t) _ (hs0_2 t) _ (hs0_3 t) _ (Memref.isWhole_whole _)
    (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]; · iexact HS0
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The launch: the arrays of the pipeline end at what the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.PoolFwd

end
-- ==== Proof.PoolFwd.KernelFrame.lean ====
/-
  The pool's forward kernel over floats: it is its idealization read at floats, whose run is known.
-/
module

public import proofs.«01_k».proof.Proof.PoolFwd.Frame
public import proofs.«01_k».proof.Proof.Gen.PoolFwdKernel
public import proofs.«01_k».proof.Defs
public import Idealize.ShloMosaic.Lib.Claim

@[expose] public section

set_option maxRecDepth 65536

namespace Cert.PoolFwd

open Idealize.ShloMosaic Idealize.ShloMosaic.TcCoe Idealize.ShloMosaic.Tactic Idealize.SL.Sem

/-- The two programs have the same functions. -/
theorem defs_eq : Cert.PoolFwdKernel.defs (F := Bits) = Cert.PoolFwdKernelIdeal.defs (F := Bits) := by sl_kernel_rfl

/-- The two programs have the same host code. -/
theorem main_eq : Cert.PoolFwdKernel.main (F := Bits) = Cert.PoolFwdKernelIdeal.main (F := Bits) := by sl_kernel_rfl

/-- Every run of the kernel is quiescent. -/
theorem frame_kernel : Cert.quiescent_PoolFwdKernel := by
  intro m ρ _
  rw [defs_eq, main_eq]
  exact frame m ρ

end Cert.PoolFwd
-- ==== Proof.PoolFwd.Block.lean ====
/-
  The pool's forward kernel on one block: what its result holds, as a formula.
-/
module

public import proofs.«01_k».proof.Proof.Pool.Block
public import proofs.«01_k».proof.Proof.PoolFwd.Run

@[expose] public section

set_option maxRecDepth 16384

noncomputable section

namespace Cert.PoolFwd

open Idealize.ShloMosaic Idealize.ShloMosaic.TcCoe
open Cert.PoolFwdKernelIdeal Cert.PoolFwdKernelIdeal.Gen Cert.Trips
open Cert.Pool (pooled groupRows groupWeight groupScale gOf lOf row pooled_row)

/-- An entry of the result: the pooled row mixed by the group's weight, times the scale. -/
def mix (g : ℕ) (x : (⟨2, ![4096, 128]⟩ : Shape).Idx → EReal) (w : (⟨3, ![1, 128, 128]⟩ : Shape).Idx → EReal)
    (s : (⟨2, ![1, 128]⟩ : Shape).Idx → EReal) (r : Fin 4096) (j : Fin 128) : EReal :=
  (∑ l : Fin 128, pooled g x r l * w (ix3 0 l j)) * s (ix2 0 j)

/-- The result, as an array. -/
def OUT (x : (⟨2, ![4096, 4608]⟩ : Shape).Idx → EReal) (w : (⟨4, ![1, 4, 128, 128]⟩ : Shape).Idx → EReal)
    (s : (⟨2, ![1, 512]⟩ : Shape).Idx → EReal) : (⟨2, ![4096, 512]⟩ : Shape).Idx → EReal :=
  fun i => mix (gOf (i 1)) (groupRows x (gOf (i 1))) (groupWeight w (gOf (i 1))) (groupScale s (gOf (i 1))) (i 0) (lOf (i 1))

/-- A trip's pooled rows, mixed and scaled. -/
def mixed (w : FVec Ideal S1x128x128 .f32) (s : FVec Ideal S1x128 .f32) (p : FVec Ideal S1024x128 .bf16) : FVec Ideal S1024x128 .bf16 :=
  truncf .bf16 (mulf (matmul dot_S1024x128_S128x128_S1024x128_1_0_0_1_n_n none p
    (truncf .bf16 (shapeCast S128x128 w shapeCasts_S1x128x128_S128x128) bitsLt_bf16_f32) (constant S1024x128 .f32 0x00000000#32))
    (broadcastTo S1024x128 s broadcasts_S1x128_S1024x128)) bitsLt_bf16_f32

theorem mixed_apply (w : FVec Ideal S1x128x128 .f32) (s : FVec Ideal S1x128 .f32) (p : FVec Ideal S1024x128 .bf16) (q : Fin 1024) (j : Fin 128) :
    mixed w s p (ix2 q j) = (∑ l : Fin 128, p (ix2 q l) * w (ix3 0 l j)) * s (ix2 0 j) := by
  pointwise [mixed]

/-- The padded input is the one of the backward call. -/
theorem padded_same (x : FVec Ideal S4096x128 .f32) : padded (F := Ideal) x = Cert.Pool.padded (F := Ideal) x := rfl

theorem pay3_eq (i : grid0.Coords) (w : FVec Ideal S1x128x128 .f32) (s : FVec Ideal S1x128 .f32) (k : Fin k0_t2_loop.trips) (v : FVec Ideal S1040x128 .f32) :
    k0_pay3 (F := Ideal) i w s k v = mixed w s (Cert.PoolKernelIdeal.Gen.k0_pay14 (F := Ideal) (BitVec.ofNat 32 (i 0).val) 0#32 1#32 k v) := rfl

theorem trips2 : k0_t2_loop.trips = 4 := by decide

/-- The result, entry by entry. -/
theorem out_apply (i : grid0.Coords) (w : FVec Ideal S1x128x128 .f32) (s : FVec Ideal S1x128 .f32) (x : FVec Ideal S4096x128 .f32) (r : Fin 4096) (j : Fin 128) :
    out (F := Ideal) i w s x (ix2 r j) = mix (i 0).val x w s r j := by
  have hr := r.isLt
  have hk : r.val / 1024 < k0_t2_loop.trips := by rw [trips2]; omega
  refine (iter_put_in off4_eq _ _ _ ⟨r.val / 1024, hk⟩ hk le_rfl _ ⟨r.val % 1024, Nat.mod_lt _ (by decide)⟩ (by show r.val = 0 + 1024 * (r.val / 1024) + r.val % 1024; omega)).trans ?_
  refine (congrFun (pay3_eq i w s _ _) _).trans ((mixed_apply _ _ _ _ _).trans (congrArg (fun a : EReal => a * s (ix2 0 j)) (Finset.sum_congr rfl fun l _ => congrArg (fun a : EReal => a * w (ix3 0 l j)) ?_)))
  refine (pooled_row x (⟨r.val / 1024, hk⟩ : Fin k0_t2_loop.trips) (i 0) ⟨r.val % 1024, Nat.mod_lt _ (by decide)⟩ l).trans (congrArg (fun r => pooled (i 0).val x r l) (Fin.ext ?_))
  show 1024 * (r.val / 1024) + r.val % 1024 = r.val
  omega

end Cert.PoolFwd

end
-- ==== Proof.PoolFwd.Array.lean ====
/-
  The pool's forward call: what its result array holds after the run.
-/
module

public import proofs.«01_k».proof.Proof.PoolFwd.Block
public import proofs.«01_k».proof.Proof.PoolFwd.Frame

@[expose] public section

set_option maxRecDepth 16384

noncomputable section

namespace Cert.PoolFwd

open Idealize.ShloMosaic Idealize.ShloMosaic.TcCoe Idealize.SL.Sem
open Cert.PoolFwdKernelIdeal Cert.PoolFwdKernelIdeal.Gen
open Cert.Pool (groupRows groupWeight groupScale gOf lOf)

variable (m : (ℓ : Loc nD τ sig) → Buf (Elt Ideal) ℓ)

/-- The block each window stages at a point: the group's columns, its weight, its scale. -/
theorem idx : ∀ t : Fin cfg0.N, win0_0.index t = ![0, t.val] ∧ win0_1.index t = ![t.val, 0, 0] ∧ win0_2.index t = ![0, t.val]
    ∧ win0_3.index t = ![0, t.val] :=
  (by decide +kernel : ∀ t : Fin grid0.N, _)

/-- The group a point works on is the point. -/
theorem coords : ∀ t : Fin cfg0.N, (grid0.coords t 0).val = t.val := (by decide +kernel : ∀ t : Fin grid0.N, _)

/-- The group of a point. -/
abbrev pt (t : Fin cfg0.N) : Fin 4 := t.cast N_0

theorem iblk_0 (c : Dev nD) (t : Fin cfg0.N) : iblk m c 0 t = groupRows (m ((c : Thread nD τ).loc main_arg0)) (pt t) := by
  have ht : t.val < 4 := lt_of_lt_of_eq t.isLt N_0
  funext i
  blk_point [iblk, V, idx t, groupRows]
  rfl

theorem iblk_1 (c : Dev nD) (t : Fin cfg0.N) : iblk m c 1 t = groupWeight (m ((c : Thread nD τ).loc main_arg1)) (pt t) := by
  have ht : t.val < 4 := lt_of_lt_of_eq t.isLt N_0
  funext i
  blk_point [iblk, V, idx t, groupWeight]

theorem iblk_2 (c : Dev nD) (t : Fin cfg0.N) : iblk m c 2 t = groupScale (m ((c : Thread nD τ).loc main_arg2)) (pt t) := by
  have ht : t.val < 4 := lt_of_lt_of_eq t.isLt N_0
  funext i
  blk_point [iblk, V, idx t, groupScale]
  rfl

theorem OUT_at (x : S4096x4608.Idx → EReal) (w : S1x4x128x128.Idx → EReal) (s : S1x512.Idx → EReal) (i : S4096x512.Idx) (g : Fin 4) (r : Fin 4096) (l : Fin 128)
    (h0 : (i 0).val = r.val) (h1 : (i 1).val = g.val * 128 + l.val) : OUT x w s i = mix g (groupRows x g) (groupWeight w g) (groupScale s g) r l := by
  have hg : gOf (i 1) = g := Fin.ext (by show (i 1).val / 128 = _; omega)
  have hl : lOf (i 1) = l := Fin.ext (by show (i 1).val % 128 = _; omega)
  have hr : i 0 = r := Fin.ext h0
  unfold OUT
  rw [hg, hl, hr]

/-- The result. -/
theorem final3 (c : Dev nD) : (dats m 0 c).arrAt 3 cfg0.N = OUT (m ((c : Thread nD τ).loc main_arg0)) (m ((c : Thread nD τ).loc main_arg1))
    (m ((c : Thread nD τ).loc main_arg2)) := by
  refine (dats m 0 c).arrAt_eq_of_covers 3 _ (by decide +kernel) fun t hf y => ?_
  have ht : t.val < 4 := lt_of_lt_of_eq t.isLt N_0
  blk_simp
  rw [after_3, iblk_0, iblk_1, iblk_2]
  refine ((congrArg _ (eq_ix2 y)).trans (out_apply _ _ _ _ _ _)).trans ?_
  rw [coords t]
  exact (OUT_at _ _ _ _ (pt t) (y 0) (y 1) (by blk_simp [idx t]) (by blk_simp [idx t]; rfl)).symm

/-- Every run of the kernel: its result, its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v1) = (dats m 0 c).arrAt 3 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  exact (θ_run defs _ _).mono (fun r h c => ⟨(h.1.1 c).1 3, h.2.1 c⟩) (θ_run_and (run_main m ρ) (frame m ρ))

end Cert.PoolFwd

end
-- ==== Proof.PoolFwd.Reference.lean ====
/-
  The pool's forward reference, read at an index: the formula of `Block` on real arguments.
-/
module

public import proofs.«01_k».proof.Proof.Pool.Scan
public import proofs.«01_k».proof.Proof.Pool.Reference
public import proofs.«01_k».proof.Proof.PoolFwd.Block
public import proofs.«01_k».proof.Proof.Gen.PoolFwdReferenceIdeal.Read
public import Idealize.ShloMosaic.Lib.KernelVsHost

@[expose] public section

set_option maxRecDepth 16384

noncomputable section

namespace Cert.PoolFwdReferenceIdeal.Read

open Cert.PoolFwdReferenceIdeal Cert.PoolFwdReferenceIdeal.Gen Idealize.ShloMosaic Idealize.ShloMosaic.TcCoe Cert.Finite Cert.Pool

variable (x : FVec Ideal S4096x4608 .f32) (w : FVec Ideal S1x4x128x128 .f32) (s : FVec Ideal S1x512 .f32)

theorem v2_apply (r : Fin 4096) (g : Fin 4) (l : Fin 128) : val_main_v2 (F := Ideal) x (ix4 0 r g l) = (groupRows x g : _ → EReal) (ix2 r l) := by
  pointwise [val_main_v2, val_main_v1, val_main_v0, groupRows]

theorem v3_apply (r : Fin 4096) (g : Fin 4) (l : Fin 128) (f : Fin 4096 → ℝ) (hf : ∀ r, (groupRows x g : _ → EReal) (ix2 r l) = (f r : EReal)) :
    val_main_v3 (F := Ideal) x (ix4 0 r g l) = (upTo (rows f) r : EReal) := by
  have h0 : val_main_call0_call0_v0 (F := Ideal) (Shape.Idx.first h_S_) = 0 := by
    show Ideal.ofBits .f32 0x00000000#32 = 0
    simp [Ideal.ofBits, Ideal.ieee]
  refine Eq.trans ?_ (reduceWindow_down (val_main_v2 (F := Ideal) x) (by decide) r g l f fun r => (v2_apply x r g l).trans (hf r))
  unfold val_main_v3
  generalize val_main_v2 (F := Ideal) x = y
  exact Cert.PoolReferenceIdeal.Read.window_add _ _ _ _ _ _ y _ h0 _

/-- Rows put behind `a` rows of zeros, read in a row. -/
theorem pad_zeros {n a : ℕ} (h : (⟨3, ![1, n, 128]⟩ : Shape).Pads ![0, a, 0] ![0, 0, 0] ![0, 0, 0] S1x4096x128) (hn : a + n = 4096) (y : FVec Ideal ⟨3, ![1, n, 128]⟩ .f32)
    (r : Fin 4096) (l : Fin 128) :
    pad S1x4096x128 ![0, a, 0] ![0, 0, 0] ![0, 0, 0] y (sitofp (F := Ideal) .f32 (constantI S_ 32 0#32)) h h_S_ (ix3 0 r l)
      = if h : r.val < a then 0 else y (ix3 0 ⟨r.val - a, by omega⟩ l) := by
  by_cases hr : r.val < a
  · rw [dif_pos hr]
    refine (pad_apply_of_not_inside _ _ _ y _ h h_S_ _ 1 fun hin => ?_).trans sitofp_zero
    have h1 : a ≤ r.val := hin.1
    omega
  · rw [dif_neg hr]
    exact pad_apply_of_inside _ _ _ y _ h h_S_ _ (ix3 0 ⟨r.val - a, by omega⟩ l) fun b => match b with
      | 0 => rfl
      | 1 => by show r.val = a + (r.val - a) * (0 + 1); omega
      | 2 => by show l.val = 0 + l.val * (0 + 1); omega

theorem v20_apply (r : Fin 4096) (l : Fin 128) (f : Fin 4096 → ℝ) (hf : ∀ r, (groupRows x 0 : _ → EReal) (ix2 r l) = (f r : EReal)) :
    val_main_v20 (F := Ideal) x (ix3 0 r l) = pooled 0 (groupRows x 0) r l := by
  refine Eq.trans ?_ (pooled_real 0 _ r l f hf 2 rfl)
  have hp : val_main_v8 (F := Ideal) x (ix3 0 r l) = if h : r.val < 2 then 0 else (upTo (rows f) (r.val - 2) : EReal) := by
    refine (pad_zeros _ rfl _ r l).trans (dite_congr rfl (fun _ => rfl) fun h => ?_)
    refine Eq.trans ?_ (v3_apply x ⟨r.val - 2, by omega⟩ 0 l f hf)
    pointwise [val_main_v5, val_main_v6, val_main_v7]
  rw [← hp]
  generalize hy : val_main_v8 (F := Ideal) x = y
  pointwise [val_main_v4, val_main_v5, val_main_v6, val_main_c_0, val_main_v9, val_main_v10, val_main_c_1, val_main_v11, val_main_v12, val_main_v13,
    val_main_v14, val_main_v15, val_main_v16, val_main_v17, val_main_v18, val_main_v19, val_main_v20, hy]
  rw [len_host 0 r.val r.isLt 2#32 rfl, v2_apply, v3_apply x _ _ _ f hf]
  rfl

theorem v36_apply (r : Fin 4096) (l : Fin 128) (f : Fin 4096 → ℝ) (hf : ∀ r, (groupRows x 1 : _ → EReal) (ix2 r l) = (f r : EReal)) :
    val_main_v36 (F := Ideal) x (ix3 0 r l) = pooled 1 (groupRows x 1) r l := by
  refine Eq.trans ?_ (pooled_real 1 _ r l f hf 4 rfl)
  have hp : val_main_v24 (F := Ideal) x (ix3 0 r l) = if h : r.val < 4 then 0 else (upTo (rows f) (r.val - 4) : EReal) := by
    refine (pad_zeros _ rfl _ r l).trans (dite_congr rfl (fun _ => rfl) fun h => ?_)
    refine Eq.trans ?_ (v3_apply x ⟨r.val - 4, by omega⟩ 1 l f hf)
    pointwise [val_main_v21, val_main_v22, val_main_v23]
  rw [← hp]
  generalize hy : val_main_v24 (F := Ideal) x = y
  pointwise [val_main_v4, val_main_v21, val_main_v22, val_main_c_3, val_main_v25, val_main_v26, val_main_c_4, val_main_v27, val_main_v28,
    val_main_v29, val_main_v30, val_main_v31, val_main_v32, val_main_v33, val_main_v34, val_main_v35, val_main_v36, hy]
  rw [len_host 1 r.val r.isLt 4#32 rfl, v2_apply, v3_apply x _ _ _ f hf]
  rfl

theorem v52_apply (r : Fin 4096) (l : Fin 128) (f : Fin 4096 → ℝ) (hf : ∀ r, (groupRows x 2 : _ → EReal) (ix2 r l) = (f r : EReal)) :
    val_main_v52 (F := Ideal) x (ix3 0 r l) = pooled 2 (groupRows x 2) r l := by
  refine Eq.trans ?_ (pooled_real 2 _ r l f hf 8 rfl)
  have hp : val_main_v40 (F := Ideal) x (ix3 0 r l) = if h : r.val < 8 then 0 else (upTo (rows f) (r.val - 8) : EReal) := by
    refine (pad_zeros _ rfl _ r l).trans (dite_congr rfl (fun _ => rfl) fun h => ?_)
    refine Eq.trans ?_ (v3_apply x ⟨r.val - 8, by omega⟩ 2 l f hf)
    pointwise [val_main_v37, val_main_v38, val_main_v39]
  rw [← hp]
  generalize hy : val_main_v40 (F := Ideal) x = y
  pointwise [val_main_v4, val_main_v37, val_main_v38, val_main_c_6, val_main_v41, val_main_v42, val_main_c_7, val_main_v43, val_main_v44,
    val_main_v45, val_main_v46, val_main_v47, val_main_v48, val_main_v49, val_main_v50, val_main_v51, val_main_v52, hy]
  rw [len_host 2 r.val r.isLt 8#32 rfl, v2_apply, v3_apply x _ _ _ f hf]
  rfl

theorem v68_apply (r : Fin 4096) (l : Fin 128) (f : Fin 4096 → ℝ) (hf : ∀ r, (groupRows x 3 : _ → EReal) (ix2 r l) = (f r : EReal)) :
    val_main_v68 (F := Ideal) x (ix3 0 r l) = pooled 3 (groupRows x 3) r l := by
  refine Eq.trans ?_ (pooled_real 3 _ r l f hf 16 rfl)
  have hp : val_main_v56 (F := Ideal) x (ix3 0 r l) = if h : r.val < 16 then 0 else (upTo (rows f) (r.val - 16) : EReal) := by
    refine (pad_zeros _ rfl _ r l).trans (dite_congr rfl (fun _ => rfl) fun h => ?_)
    refine Eq.trans ?_ (v3_apply x ⟨r.val - 16, by omega⟩ 3 l f hf)
    pointwise [val_main_v53, val_main_v54, val_main_v55]
  rw [← hp]
  generalize hy : val_main_v56 (F := Ideal) x = y
  pointwise [val_main_v4, val_main_v53, val_main_v54, val_main_c_9, val_main_v57, val_main_v58, val_main_c_10, val_main_v59, val_main_v60,
    val_main_v61, val_main_v62, val_main_v63, val_main_v64, val_main_v65, val_main_v66, val_main_v67, val_main_v68, hy]
  rw [len_host 3 r.val r.isLt 16#32 rfl, v2_apply, v3_apply x _ _ _ f hf]
  rfl

theorem v73_apply (r : Fin 4096) (g : Fin 4) (l : Fin 128) (hx : ∀ r, IsReal ((groupRows x g : _ → EReal) (ix2 r l))) :
    val_main_v73 (F := Ideal) x (ix4 0 r g l) = pooled g (groupRows x g) r l := by
  choose f hf using hx
  fin_cases g
  · exact Eq.trans (by pointwise [val_main_v69, val_main_v70, val_main_v71, val_main_v72, val_main_v73]) (v20_apply x r l f hf)
  · exact Eq.trans (by pointwise [val_main_v69, val_main_v70, val_main_v71, val_main_v72, val_main_v73]) (v36_apply x r l f hf)
  · exact Eq.trans (by pointwise [val_main_v69, val_main_v70, val_main_v71, val_main_v72, val_main_v73]) (v52_apply x r l f hf)
  · exact Eq.trans (by pointwise [val_main_v69, val_main_v70, val_main_v71, val_main_v72, val_main_v73]) (v68_apply x r l f hf)

/-- The reference's result. -/
theorem out_apply (r : Fin 4096) (j : Fin 512) (hx : ∀ r l, IsReal ((groupRows x (gOf j) : _ → EReal) (ix2 r l))) :
    val_main_v83 (F := Ideal) x w s (ix2 r j) = Cert.PoolFwd.OUT x w s (ix2 r j) := by
  refine Eq.trans (b := (∑ l : Fin 128, w (ix4 0 (gOf j) l (lOf j)) * val_main_v73 (F := Ideal) x (ix4 0 r (gOf j) l)) * s (ix2 0 j)) ?_ ?_
  · pointwise [val_main_v74, val_main_v75, val_main_v76, val_main_v77, val_main_v78, val_main_v79, val_main_v80, val_main_v81, val_main_v82, val_main_v83]
  · refine congrArg₂ _ (Finset.sum_congr rfl fun l _ => (congrArg _ (v73_apply x r _ l fun r => hx r l)).trans (mul_comm _ _)) ?_
    exact congrArg s (congrArg (ix2 0) (Fin.ext (by show j.val = j.val / 128 * 128 + j.val % 128; omega)))

end Cert.PoolFwdReferenceIdeal.Read

end
-- ==== Proof.PoolFwd.Claim.lean ====
/- The equation of the forward pool kernel's result and the reference's. -/
module

public import proofs.«01_k».proof.Defs
public import proofs.«01_k».proof.Proof.PoolFwd.Array
public import proofs.«01_k».proof.Proof.PoolFwd.Reference
public import proofs.«01_k».proof.Proof.Gen.PoolFwdReferenceIdeal.Run
public import proofs.«01_k».proof.Proof.Gen.Pre_pool_fwd_finite

@[expose] public section

set_option maxRecDepth 16384

noncomputable section

namespace Cert.PoolFwd

open Idealize.ShloMosaic Idealize.ShloMosaic.TcCoe Idealize.SL.Sem
open Cert.Pool (groupRows gOf)

variable {m : (ℓ : Loc Cert.PoolFwdKernelIdeal.nD Cert.PoolFwdKernelIdeal.τ Cert.PoolFwdKernelIdeal.sig) → Buf (Elt Ideal) ℓ}

open Cert.PoolFwdKernelIdeal in
/-- What the precondition says of the first argument: of the columns that hold the groups. -/
theorem real_args (h : Cert.Pre_PoolFwdKernelIdeal_pool_fwd_finite m) (c : Dev nD) (g : Fin 4) (r : Fin 4096) (l : Fin 128) :
    Finite.IsReal ((groupRows (m ((c : Thread nD τ).loc main_arg0)) g : _ → EReal) (ix2 r l)) := by
  have h0 := h c
  have := Finite.reals h0 (fun _ => rfl) (ix2 r ⟨g.val * 128 + l.val, by omega⟩)
  refine (congrArg Finite.IsReal ?_).mp this
  exact (extractStridedSlice_apply _ _ _ _ (ix2 r ⟨g.val * 128 + l.val, by omega⟩) (fun a => match a with
    | ⟨0, _⟩ => by show r.val = 0 + r.val; omega
    | ⟨1, _⟩ => by show g.val * 128 + l.val = 0 + (g.val * 128 + l.val); omega))

/-- The reference runs from any memory, keeps its arguments, and declares no semaphore. -/
theorem frame_reference : Cert.quiescent_PoolFwdReferenceIdeal := fun m ρ _ =>
  (θ_run Cert.PoolFwdReferenceIdeal.defs _ _).mono
    (fun r h => ⟨fun c => (h c).2, sem_eq_zero_of_no_sems (by decide) r.2⟩) (Cert.PoolFwdReferenceIdeal.Value.run m ρ)

/-- The kernel's result is the reference's. -/
theorem algebraic : Cert.algebraic_PoolFwdKernelIdeal_PoolFwdReferenceIdeal_pre_pool_fwd_finite := by
  pair_intro
  · run_from Cert.PoolFwd.run_blocks m g
  · run_from Cert.PoolFwdReferenceIdeal.Value.run m' g'
    have r0 := real_args hpre c
    obtain ⟨a0, a1, a2⟩ := hagree c
    rw [Cert.PoolFwdReferenceIdeal.Read.val_main_v83_eq]
    change Cert.PoolFwdReferenceIdeal.Read.val_main_v83 (F := Ideal) (m' ((c : Thread Cert.PoolFwdReferenceIdeal.nD Cert.PoolFwdReferenceIdeal.τ).loc Cert.PoolFwdReferenceIdeal.main_arg0)) (m' ((c : Thread Cert.PoolFwdReferenceIdeal.nD Cert.PoolFwdReferenceIdeal.τ).loc Cert.PoolFwdReferenceIdeal.main_arg1)) (m' ((c : Thread Cert.PoolFwdReferenceIdeal.nD Cert.PoolFwdReferenceIdeal.τ).loc Cert.PoolFwdReferenceIdeal.main_arg2)) = _
    rw [a0, a1, a2]
    refine Eq.trans (funext fun i => ?_) (Cert.PoolFwd.final3 m c).symm
    rw [eq_ix2 i]
    exact Cert.PoolFwdReferenceIdeal.Read.out_apply _ _ _ _ _ fun r l => r0 _ r l

end Cert.PoolFwd

end
-- ==== Proof.FfnFwd.Loops.lean ====
/-
  The loop of the feed-forward part's forward kernel, by the value it leaves: the normed rows, one chunk of
  rows at a trip.
-/
module

public import proofs.«01_k».proof.Proof.Trips
public import proofs.«01_k».proof.Proof.Gen.FfnFwdKernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnFwdKernelIdeal Cert.FfnFwdKernelIdeal.Gen Cert.Trips

variable {F : FTy → Type} [FloatOps F]

/-- The resource algebra of the frame kit. -/
local notation "𝕄" => MT nD τ sig Unit (Elt F) ℕ (UR sig nD τ) ℕ

theorem off_eq (k : Fin k0_t1_loop.trips) : k0_off1 k = ![0 + 256 * k.val, 0] := by revert k; decide +kernel
theorem off_inb (k : Fin k0_t1_loop.trips) : ∀ a, k0_off1 k a + S256x1024.size a ≤ S2048x1024.size a := by revert k; decide +kernel

/-- Trip `k`: rows `256 k …` of the input, normed. -/
def normTrip (g : Vec F S1x1024 .f32) (x : Vec F S2048x1024 .f32) (k : Fin k0_t1_loop.trips) (z : Vec F S2048x1024 .bf16) : Vec F S2048x1024 .bf16 :=
  VecWindow.put z (k0_off1 k) S256x1024.size (k0_pay1 g (VecWindow.window x (k0_off1 k) S256x1024.size (off_inb k)))

variable (𝒱 : Variants) (c : Dev nD) (bd : Option 𝒱.V) (E : Set ℕ) (i : grid0.Coords)
  (arg2 : Memref sig .tc .vmem S2048x1024 .f32) (harg2 : arg2.IsWhole)
  (arg3 : Memref sig .tc .vmem S1x1024 .f32) (harg3 : arg3.IsWhole)
  (arg4 : Memref sig .tc .vmem S1024x256 .bf16) (harg4 : arg4.IsWhole)
  (arg5 : Memref sig .tc .vmem S1024x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2048x256 .bf16) (harg8 : arg8.IsWhole)
  (arg9 : Memref sig .tc .vmem S2048x1024 .bf16) (harg9 : arg9.IsWhole)

set_option warn.classDefReducibility false in
/-- The loop: before trip `k` the buffer of the normed rows holds the first `k` trips. -/
@[sl_loop] def normInv (hc : k0_cond1 i = 1#1) (g : Vec F S1x1024 .f32) (X : BufTy.Contents (Elt F) arg2.view.ty) (G : BufTy.Contents (Elt F) arg9.view.ty) :
    Idealize.ShloMosaic.LoopInv (M := 𝕄) Idealize.ShloMosaic.frame (wpE defs₀ 𝒱 (c : Thread nD τ) bd) E
      k0_t1_loop.lb k0_t1_loop.ub k0_t1_loop.st (k0_t1_ok i hc) () (k0_t1_body (F := F) i arg2 harg2 arg3 harg3 arg4 harg4 arg5 harg5 arg6 harg6 arg7 harg7 arg8 harg8 arg9 harg9 hc g) where
  inv k _ := iprop((arg2.view.loc (c : Thread nD τ) ↦[arg2.view.set]{fullShare} X)
    ∗ (∃ f, (arg9.view.loc (c : Thread nD τ) ↦[arg9.view.set]{fullShare} f)
        ∗ ⌜arg9.view.read (Elt F) f = iter (normTrip g (arg2.view.read (Elt F) X)) (arg9.view.read (Elt F) G) k⌝))
  step k acc := by
    unfold k0_t1_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

end Cert.FfnFwd

end
-- ==== Proof.FfnFwd.Run.lean ====
/-
  The feed-forward part's forward kernel run once: at the first point of a block of rows, where it norms them
  first, and at the others, where it finds them normed.
-/
module

public import proofs.«01_k».proof.Proof.FfnFwd.Loops
public import proofs.«01_k».proof.Proof.Gen.FfnFwdKernelIdeal.Frame

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnFwdKernelIdeal Cert.FfnFwdKernelIdeal.Gen Cert.Trips

variable {F : FTy → Type} [FloatOps F]

/-- The resource algebra of the frame kit. -/
local notation "𝕄" => MT nD τ sig Unit (Elt F) ℕ (UR sig nD τ) ℕ

/-- The normed rows. -/
def normed (g : Vec F S1x1024 .f32) (x : Vec F S2048x1024 .f32) : Vec F S2048x1024 .bf16 :=
  iter (normTrip g x) (broadcast S2048x1024 (Scalar.ofBits .bf16 0 : F .bf16)) k0_t1_loop.trips

/-- The buffer of the normed rows, whatever it held before. -/
theorem normed_eq (g : Vec F S1x1024 .f32) (x : Vec F S2048x1024 .f32) (z : Vec F S2048x1024 .bf16) :
    iter (normTrip g x) z k0_t1_loop.trips = normed g x :=
  iter_put_congr off_eq _ (by decide) fun y hy => by
    have h0 : (y 0).val < 2048 := (y 0).isLt
    have hy : (y 0).val < 0 ∨ 0 + 256 * 8 ≤ (y 0).val := hy
    omega

/-- Four blocks of 512 rows, one below the other. -/
def four (p : Fin 4 → Vec F S512x256 .bf16) (z : Vec F S2048x256 .bf16) : Vec F S2048x256 .bf16 :=
  iter (fun k s => VecWindow.put s ![0 + 512 * k.val, 0] S512x256.size (p k)) z 4

/-- Nothing is left of what was there before. -/
theorem four_eq (p : Fin 4 → Vec F S512x256 .bf16) (z : Vec F S2048x256 .bf16) :
    four p z = four p (broadcast S2048x256 (Scalar.ofBits .bf16 0 : F .bf16)) :=
  iter_put_congr (off := fun k : Fin 4 => ![0 + 512 * k.val, 0]) (fun _ => rfl) _ (by decide) fun y hy => by
    have h0 : (y 0).val < 2048 := (y 0).isLt
    have hy : (y 0).val < 0 ∨ 0 + 512 * 4 ≤ (y 0).val := hy
    omega

theorem block_inb (k : Fin 4) : ∀ a, (![0 + 512 * k.val, 0] : Fin 2 → ℕ) a + S512x1024.size a ≤ S2048x1024.size a := by revert k; decide +kernel

/-- Rows `512 k …` of the normed rows. -/
abbrev block (h : Vec F S2048x1024 .bf16) (k : Fin 4) : Vec F S512x1024 .bf16 := VecWindow.window h ![0 + 512 * k.val, 0] S512x1024.size (block_inb k)

/-- The gate's columns, opened. -/
def opened (h : Vec F S2048x1024 .bf16) (wg : Vec F S1024x256 .bf16) : Vec F S2048x256 .bf16 :=
  four (fun k => k0_pay9 wg (block h k)) (broadcast S2048x256 (Scalar.ofBits .bf16 0 : F .bf16))

/-- The slope of the gated columns in the gate's. -/
def slope (h : Vec F S2048x1024 .bf16) (wg wu : Vec F S1024x256 .bf16) : Vec F S2048x256 .bf16 :=
  four (fun k => k0_pay10 wg wu (block h k)) (broadcast S2048x256 (Scalar.ofBits .bf16 0 : F .bf16))

/-- The gated columns. -/
def act (h : Vec F S2048x1024 .bf16) (wg wu : Vec F S1024x256 .bf16) : Vec F S2048x256 .bf16 :=
  four (fun k => k0_pay11 wg wu (block h k)) (broadcast S2048x256 (Scalar.ofBits .bf16 0 : F .bf16))

set_option maxHeartbeats 1600000 in
/-- At the first point of a block of rows: the rows are normed, and the columns computed from them. -/
theorem runA (c : Dev nD) (i : grid0.Coords) (hc : k0_cond1 i = 1#1)
  (arg2 : Memref sig .tc .vmem S2048x1024 .f32) (harg2 : arg2.IsWhole)
  (arg3 : Memref sig .tc .vmem S1x1024 .f32) (harg3 : arg3.IsWhole)
  (arg4 : Memref sig .tc .vmem S1024x256 .bf16) (harg4 : arg4.IsWhole)
  (arg5 : Memref sig .tc .vmem S1024x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2048x256 .bf16) (harg8 : arg8.IsWhole)
  (arg9 : Memref sig .tc .vmem S2048x1024 .bf16) (harg9 : arg9.IsWhole)
    (x : Vec F S2048x1024 .f32) (g : Vec F S1x1024 .f32) (wg wu : Vec F S1024x256 .bf16) (E : Set ℕ) (K : PUnit → sProp 𝕄) :
    iprop(owns (c : Thread nD τ) arg2 fullShare x ∗ owns (c : Thread nD τ) arg3 fullShare g ∗ owns (c : Thread nD τ) arg4 fullShare wg
        ∗ owns (c : Thread nD τ) arg5 fullShare wu
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x ∗ owns (c : Thread nD τ) arg3 fullShare g ∗ owns (c : Thread nD τ) arg4 fullShare wg
            ∗ owns (c : Thread nD τ) arg5 fullShare wu
            ∗ owns (c : Thread nD τ) arg6 fullShare (opened (normed g x) wg) ∗ owns (c : Thread nD τ) arg7 fullShare (slope (normed g x) wg wu)
            ∗ owns (c : Thread nD τ) arg8 fullShare (act (normed g x) wg wu) ∗ owns (c : Thread nD τ) arg9 fullShare (normed g x)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9) K := by
  simp only [cc0_ffn_in_eq_skeleton]; unfold cc0_ffn_in_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  sl_exec
  sl_step
  have e4 := (View.readAt_full arg4.view f4 inb_S1024x256_S1024x256_0_0).trans hf4
  have e5 := (View.readAt_full arg5.view f5 inb_S1024x256_S1024x256_0_0).trans hf5
  have e3 := (View.readAt_full arg3.view f3 inb_S1x1024_S1x1024_0_0).trans hf3
  have hh : arg9.view.read (Elt F) fL0 = normed g x := by
    rw [e3, hf2] at hL2
    exact hL2.trans (normed_eq _ _ _)
  obtain rfl := e4
  obtain rfl := e5
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg6.view.read (Elt F) f6))
    rw [← hh]
    rfl
  isplitl [H7]
  · iexists _; isplitr; swap; · iexact H7
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg7.view.read (Elt F) f7))
    rw [← hh]
    rfl
  isplitl [H8]
  · iexists _; isplitr; swap; · iexact H8
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg8.view.read (Elt F) f8))
    rw [← hh]
    rfl
  iexists _; isplitr; swap; · iexact H9
  ipureintro; exact hh

set_option maxHeartbeats 1600000 in
/-- At another point: the columns are computed from the rows found normed, which stay. -/
theorem runB (c : Dev nD) (i : grid0.Coords) (hc : ¬ k0_cond1 i = 1#1)
  (arg2 : Memref sig .tc .vmem S2048x1024 .f32) (harg2 : arg2.IsWhole)
  (arg3 : Memref sig .tc .vmem S1x1024 .f32) (harg3 : arg3.IsWhole)
  (arg4 : Memref sig .tc .vmem S1024x256 .bf16) (harg4 : arg4.IsWhole)
  (arg5 : Memref sig .tc .vmem S1024x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2048x256 .bf16) (harg8 : arg8.IsWhole)
  (arg9 : Memref sig .tc .vmem S2048x1024 .bf16) (harg9 : arg9.IsWhole)
    (x : Vec F S2048x1024 .f32) (g : Vec F S1x1024 .f32) (wg wu : Vec F S1024x256 .bf16) (h : Vec F S2048x1024 .bf16) (E : Set ℕ) (K : PUnit → sProp 𝕄) :
    iprop(owns (c : Thread nD τ) arg2 fullShare x ∗ owns (c : Thread nD τ) arg3 fullShare g ∗ owns (c : Thread nD τ) arg4 fullShare wg
        ∗ owns (c : Thread nD τ) arg5 fullShare wu
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare h
        ∗ (iprop(owns (c : Thread nD τ) arg2 fullShare x ∗ owns (c : Thread nD τ) arg3 fullShare g ∗ owns (c : Thread nD τ) arg4 fullShare wg
            ∗ owns (c : Thread nD τ) arg5 fullShare wu
            ∗ owns (c : Thread nD τ) arg6 fullShare (opened h wg) ∗ owns (c : Thread nD τ) arg7 fullShare (slope h wg wu)
            ∗ owns (c : Thread nD τ) arg8 fullShare (act h wg wu) ∗ owns (c : Thread nD τ) arg9 fullShare h) -∗ K ⟨⟩))
      ⊢ wp frame (wpE (defs₀ (F := F)) Variants.none c none) E (cc0_ffn_in i arg2 harg2 arg3 harg3 arg4 harg4 arg5 harg5 arg6 harg6 arg7 harg7 arg8 harg8 arg9 harg9) K := by
  simp only [cc0_ffn_in_eq_skeleton]; unfold cc0_ffn_in_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hh, H9⟩, Hk⟩
  sl_exec
  sl_step
  have e4 := (View.readAt_full arg4.view f4 inb_S1024x256_S1024x256_0_0).trans hf4
  have e5 := (View.readAt_full arg5.view f5 inb_S1024x256_S1024x256_0_0).trans hf5
  obtain rfl := e4
  obtain rfl := e5
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg6.view.read (Elt F) f6))
    rw [← hh]
    rfl
  isplitl [H7]
  · iexists _; isplitr; swap; · iexact H7
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg7.view.read (Elt F) f7))
    rw [← hh]
    rfl
  isplitl [H8]
  · iexists _; isplitr; swap; · iexact H8
    ipureintro
    rw [View.read_writes_cons_put _ _ _ _ _ rfl, View.read_writes_cons_put _ _ _ _ _ rfl, View.read_writes_cons_put _ _ _ _ _ rfl,
      View.read_writes_cons_put _ _ _ _ _ rfl]
    refine Eq.trans ?_ (four_eq _ (arg8.view.read (Elt F) f8))
    rw [← hh]
    rfl
  iexists _; isplitr; swap; · iexact H9
  ipureintro; exact hh

end Cert.FfnFwd

end
-- ==== Proof.FfnFwd.Frame.lean ====
/-
  The feed-forward part's forward call: every execution of the program ends, with its arguments as they were, and
  the pipeline's arrays at what the proof data say (`dats`, `run_main`).
-/
module

public import proofs.«01_k».proof.Proof.FfnFwd.Run
public import Idealize.ShloMosaic.Lib.Pipeline.TableIdle
public import Idealize.ShloMosaic.Lib.Claim

@[expose] public section

set_option maxRecDepth 16384

noncomputable section

namespace Cert.FfnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFwdKernelIdeal Cert.FfnFwdKernelIdeal.Gen Cert.Trips

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The first of the points that work on the block of rows of point `t`. -/
def first (t : Fin cfg0.N) : Fin cfg0.N := ⟨t.val / 11 * 11, lt_of_le_of_lt (Nat.div_mul_le_self _ _) t.isLt⟩

theorem first_eq (t : Fin cfg0.N) (h : t.val % 11 = 0) : first t = t := Fin.ext (Nat.div_mul_cancel (Nat.dvd_of_mod_eq_zero h))

theorem first_pred (t : Fin cfg0.N) (h : t.val % 11 ≠ 0) (h' : t.val - 1 < cfg0.N) : first ⟨t.val - 1, h'⟩ = first t :=
  Fin.ext (by show (t.val - 1) / 11 * 11 = t.val / 11 * 11; omega)

/-- The normed rows of point `t`'s block. -/
def rows (c : Dev nD) (t : Fin cfg0.N) : Vec F S2048x1024 .bf16 := normed (iblk m c 1 (first t)) (iblk m c 0 (first t))

theorem rows_first (c : Dev nD) (t : Fin cfg0.N) (h : t.val % 11 = 0) : rows m c t = normed (iblk m c 1 t) (iblk m c 0 t) := by
  unfold rows; rw [first_eq t h]

/-- The pipeline's proof data: each input's buffer at its block, each result's at what the body computes of those
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => opened (rows m c t) (iblk m c 2 t)
    | ⟨5, _⟩ => slope (rows m c t) (iblk m c 2 t) (iblk m c 3 t)
    | ⟨6, _⟩ => act (rows m c t) (iblk m c 2 t) (iblk m c 3 t)
    | ⟨7, _⟩ => rows m c t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = opened (rows m c t) (iblk m c 2 t) := by dsimp only [dats]
theorem after_5 (c : Dev nD) (t : Fin cfg0.N) : (dats m 0 c).after 5 t = slope (rows m c t) (iblk m c 2 t) (iblk m c 3 t) := by dsimp only [dats]
theorem after_6 (c : Dev nD) (t : Fin cfg0.N) : (dats m 0 c).after 6 t = act (rows m c t) (iblk m c 2 t) (iblk m c 3 t) := by dsimp only [dats]
theorem after_7 (c : Dev nD) (t : Fin cfg0.N) : (dats m 0 c).after 7 t = rows m c t := by dsimp only [dats]

/-- The rows are normed at the points whose number is a multiple of eleven. -/
theorem cond_iff : ∀ t : Fin cfg0.N, k0_cond1 (grid0.coords t) = 1#1 ↔ t.val % 11 = 0 := (by decide +kernel : ∀ t : Fin grid0.N, _)

theorem idle_iff : ∀ t : Fin cfg0.N, cfg0.idle 7 (cfg0.grid.coords t) = !decide (t.val % 11 = 0) := (by decide +kernel : ∀ t : Fin grid0.N, _)

theorem fresh_iff : ∀ t : Fin cfg0.N, cfg0.fresh 7 t.val = decide (t.val % 11 = 0) := by decide +kernel

/-- At a point that does not norm the rows, the buffer holds them as the point before left them. -/
theorem before_7 (c : Dev nD) (t : Fin cfg0.N) (h : t.val % 11 ≠ 0) (d : S2048x1024.Idx → Elt F .bf16) : (dats m 0 c).before 7 t d = rows m c t := by
  have hb := (dats m 0 c).before_out_traj 7 rfl (fun _ _ => rfl) (fun t ht hi hf => by
    rw [after_7, after_7]
    unfold rows
    rw [first_pred t (fun h0 => by rw [fresh_iff, h0] at hf; exact absurd hf (by decide))]) t.val t rfl d
  rw [hb, fresh_iff, if_neg (by simpa using h), after_7]
  unfold rows
  rw [first_pred t h]

/-- What point `t` owes of the buffer of the normed rows. -/
abbrev owes7 (c : Dev nD) (t : Fin cfg0.N) : sProp 𝕄 :=
  match cfg0.idle 7 (cfg0.grid.coords t) with
  | true => (match (cfg0.win 7).flush t with
      | false => iprop(∃ d, owns (c : Thread nD τ) (st0_7 t) fullShare ((dats m 0 c).before 7 t d))
      | true => owns (c : Thread nD τ) (st0_7 t) fullShare ((dats m 0 c).after 7 t))
  | false => owns (c : Thread nD τ) (st0_7 t) fullShare ((dats m 0 c).after 7 t)

theorem pays7 (c : Dev nD) (t : Fin cfg0.N) : owns (c : Thread nD τ) (st0_7 t) fullShare (rows m c t) ⊢ owes7 m c t := by
  unfold owes7
  by_cases h : t.val % 11 = 0
  · rw [idle_iff t, decide_eq_true h, after_7]
    exact .rfl
  · rw [idle_iff t, decide_eq_false h, Bool.not_false]
    cases (cfg0.win 7).flush t
    · show _ ⊢ iprop(∃ d, owns (c : Thread nD τ) (st0_7 t) fullShare ((dats m 0 c).before 7 t d))
      iintro H
      iexists (rows m c t)
      rw [before_7 m c t h]
      iexact H
    · rw [after_7]

set_option maxHeartbeats 1600000 in
/-- The body at any point, window by window: `runA` or `runB` at the point's buffers. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owes7 m c t)) := by
  unfold bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c)]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val % 11 = 0
  · iapply (runA c (grid0.coords t) ((cond_iff t).2 ht) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    rw [← rows_first m c t ht]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (pays7 m c t)
    iexact H7
  · iapply (runB c (grid0.coords t) (fun h => ht ((cond_iff t).1 h)) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) (iblk m c 0 t) (iblk m c 1 t) (iblk m c 2 t) (iblk m c 3 t) (rows m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · rw [before_7 m c t ht]; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (pays7 m c t)
    iexact H7

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The launch: the arrays of the pipeline end at what the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FfnFwd

end
-- ==== Proof.FfnFwd.KernelFrame.lean ====
/-
  The feed-forward part's forward kernel over floats: it is its idealization read at floats, whose run is known.
-/
module

public import proofs.«01_k».proof.Proof.FfnFwd.Frame
public import proofs.«01_k».proof.Proof.Gen.FfnFwdKernel
public import proofs.«01_k».proof.Defs
public import Idealize.ShloMosaic.Lib.Claim

@[expose] public section

set_option maxRecDepth 65536

namespace Cert.FfnFwd

open Idealize.ShloMosaic Idealize.ShloMosaic.TcCoe Idealize.ShloMosaic.Tactic Idealize.SL.Sem

/-- The two programs have the same functions. -/
theorem defs_eq : Cert.FfnFwdKernel.defs (F := Bits) = Cert.FfnFwdKernelIdeal.defs (F := Bits) := by sl_kernel_rfl

/-- The two programs have the same host code. -/
theorem main_eq : Cert.FfnFwdKernel.main (F := Bits) = Cert.FfnFwdKernelIdeal.main (F := Bits) := by sl_kernel_rfl

/-- Every run of the kernel is quiescent. -/
theorem frame_kernel : Cert.quiescent_FfnFwdKernel := by
  intro m ρ _
  rw [defs_eq, main_eq]
  exact frame m ρ

end Cert.FfnFwd
-- ==== Proof.FfnFwd.Block.lean ====
/-
  The feed-forward part's forward kernel at one point: the entries of what it stores.
-/
module

public import proofs.«01_k».proof.Proof.FfnFwd.Run
public import proofs.«01_k».proof.Proof.Gate.Spec
public import Idealize.ShloMosaic.Lib.Pointwise

@[expose] public section

set_option maxRecDepth 16384

noncomputable section

namespace Cert.FfnFwd

open Idealize.ShloMosaic Cert.Trips Cert.Logistic
open Cert.FfnFwdKernelIdeal Cert.FfnFwdKernelIdeal.Gen

theorem trips : k0_t1_loop.trips = 8 := by decide +kernel

/-- A window of whole rows, at an entry. -/
theorem window_rows {N B C b : ℕ} (x : (⟨2, ![N, C]⟩ : Shape).Idx → EReal) (off : Fin 2 → ℕ) (ho : off = ![b, 0])
    (inb : ∀ a, off a + (![B, C] : Fin 2 → ℕ) a ≤ (⟨2, ![N, C]⟩ : Shape).size a) (q : Fin B) (l : Fin C) (p : Fin N) (hp : b + q.val = p.val) :
    VecWindow.window x off ![B, C] inb (ix2 q l) = x (ix2 p l) := by
  subst ho
  refine congrArg x (funext fun a => Fin.ext ?_)
  match a with
  | 0 => show b + 1 * q.val = p.val; omega
  | 1 => show 0 + 1 * l.val = l.val; omega

/-- One chunk of rows, normed. -/
theorem norm_chunk (g : FVec Ideal S1x1024 .f32) (v : FVec Ideal S256x1024 .f32) (q : Fin 256) (k : Fin 1024) :
    k0_pay1 (F := Ideal) g v (ix2 q k) = v (ix2 q k) * Rms.scale (fun k => v (ix2 q k)) * g (ix2 0 k) := by
  pointwise [k0_pay1, Rms.scale, Rms.meanSq]

/-- The normed rows, at an entry. -/
theorem normed_apply (g : FVec Ideal S1x1024 .f32) (x : FVec Ideal S2048x1024 .f32) (r : Fin 2048) (k : Fin 1024) :
    normed (F := Ideal) g x (ix2 r k) = x (ix2 r k) * Rms.scale (fun k => x (ix2 r k)) * g (ix2 0 k) := by
  have hr := r.isLt
  have hq : r.val / 256 < k0_t1_loop.trips := by rw [trips]; omega
  refine (iter_put_in off_eq _ _ _ ⟨r.val / 256, hq⟩ hq le_rfl _ ⟨r.val % 256, Nat.mod_lt _ (by decide)⟩
    (by show r.val = 0 + 256 * (r.val / 256) + r.val % 256; omega)).trans ?_
  have hw : ∀ l : Fin 1024, VecWindow.window x (k0_off1 ⟨r.val / 256, hq⟩) S256x1024.size (off_inb _) (ix2 ⟨r.val % 256, Nat.mod_lt _ (by decide)⟩ l)
      = x (ix2 r l) := fun l =>
    window_rows x _ (off_eq _) _ _ l r (by show 0 + 256 * (r.val / 256) + r.val % 256 = r.val; omega)
  refine (norm_chunk _ _ _ _).trans ?_
  rw [funext hw]
  exact congrArg (fun a : EReal => a * _ * _) (hw k)

/-- Four blocks one below the other, at an entry. -/
theorem four_apply (p : Fin 4 → FVec Ideal S512x256 .bf16) (z : FVec Ideal S2048x256 .bf16) (r : Fin 2048) (l : Fin 256) (hq : r.val / 512 < 4) :
    four (F := Ideal) p z (ix2 r l) = p ⟨r.val / 512, hq⟩ (ix2 ⟨r.val % 512, Nat.mod_lt _ (by decide)⟩ l) :=
  iter_put_in (off := fun k : Fin 4 => ![0 + 512 * k.val, 0]) (fun _ => rfl) _ _ _ ⟨r.val / 512, hq⟩ hq le_rfl _ ⟨r.val % 512, Nat.mod_lt _ (by decide)⟩
    (by show r.val = 0 + 512 * (r.val / 512) + r.val % 512; omega)

/-- Column `l` of the product of row `r`. -/
def dot (h : FVec Ideal S2048x1024 .bf16) (w : FVec Ideal S1024x256 .bf16) (r : Fin 2048) (l : Fin 256) : EReal := ∑ k : Fin 1024, h (ix2 r k) * w (ix2 k l)

/-- The same of a block of rows. -/
theorem dot_block (h : FVec Ideal S2048x1024 .bf16) (w : FVec Ideal S1024x256 .bf16) (r : Fin 2048) (l : Fin 256) (hq : r.val / 512 < 4) :
    ∑ k : Fin 1024, (block (F := Ideal) h ⟨r.val / 512, hq⟩ (ix2 ⟨r.val % 512, Nat.mod_lt _ (by decide)⟩ k) : EReal) * w (ix2 k l) = dot h w r l :=
  Finset.sum_congr rfl fun k _ => congrArg (fun a : EReal => a * w (ix2 k l))
    (window_rows h _ rfl _ _ k r (by show 0 + 512 * (r.val / 512) + r.val % 512 = r.val; omega))

theorem opened_pay (v : FVec Ideal S512x1024 .bf16) (wg : FVec Ideal S1024x256 .bf16) (q : Fin 512) (l : Fin 256) :
    k0_pay9 (F := Ideal) wg v (ix2 q l) = Gate.opened (∑ k : Fin 1024, v (ix2 q k) * wg (ix2 k l)) := by
  pointwise [k0_pay9, k0_pay8, k0_pay7, k0_pay5, k0_pay4, k0_pay2, Gate.opened, Logistic.sig]

theorem slope_pay (v : FVec Ideal S512x1024 .bf16) (wg wu : FVec Ideal S1024x256 .bf16) (q : Fin 512) (l : Fin 256) :
    k0_pay10 (F := Ideal) wg wu v (ix2 q l) = Gate.gateSlope (∑ k : Fin 1024, v (ix2 q k) * wg (ix2 k l)) (∑ k : Fin 1024, v (ix2 q k) * wu (ix2 k l)) := by
  pointwise [k0_pay10, k0_pay8, k0_pay7, k0_pay6, k0_pay5, k0_pay4, k0_pay3, k0_pay2, Gate.gateSlope, Logistic.sig]

theorem act_pay (v : FVec Ideal S512x1024 .bf16) (wg wu : FVec Ideal S1024x256 .bf16) (q : Fin 512) (l : Fin 256) :
    k0_pay11 (F := Ideal) wg wu v (ix2 q l) = Gate.opened (∑ k : Fin 1024, v (ix2 q k) * wg (ix2 k l)) * ∑ k : Fin 1024, v (ix2 q k) * wu (ix2 k l) := by
  pointwise [k0_pay11, k0_pay8, k0_pay7, k0_pay6, k0_pay5, k0_pay4, k0_pay3, k0_pay2, Gate.opened, Logistic.sig]

variable (h : FVec Ideal S2048x1024 .bf16) (wg wu : FVec Ideal S1024x256 .bf16) (r : Fin 2048) (l : Fin 256)

theorem opened_apply : opened (F := Ideal) h wg (ix2 r l) = Gate.opened (dot h wg r l) := by
  have hq : r.val / 512 < 4 := by have := r.isLt; omega
  refine (four_apply _ _ r l hq).trans ((opened_pay _ _ _ _).trans ?_)
  rw [dot_block]

theorem slope_apply : slope (F := Ideal) h wg wu (ix2 r l) = Gate.gateSlope (dot h wg r l) (dot h wu r l) := by
  have hq : r.val / 512 < 4 := by have := r.isLt; omega
  refine (four_apply _ _ r l hq).trans ((slope_pay _ _ _ _ _).trans ?_)
  rw [dot_block, dot_block]

theorem act_apply : act (F := Ideal) h wg wu (ix2 r l) = Gate.opened (dot h wg r l) * dot h wu r l := by
  have hq : r.val / 512 < 4 := by have := r.isLt; omega
  refine (four_apply _ _ r l hq).trans ((act_pay _ _ _ _ _).trans ?_)
  rw [dot_block, dot_block]

end Cert.FfnFwd

end
-- ==== Proof.FfnFwd.Array.lean ====
/-
  The feed-forward part's forward call: what its four result arrays hold after the run.
-/
module

public import proofs.«01_k».proof.Proof.FfnFwd.Block
public import proofs.«01_k».proof.Proof.FfnFwd.Frame
public import Idealize.ShloMosaic.Lib.Pipeline.ValueKit

@[expose] public section

set_option maxRecDepth 16384

noncomputable section

namespace Cert.FfnFwd

open Idealize.ShloMosaic Idealize.ShloMosaic.TcCoe Idealize.SL.Sem
open Cert.FfnFwdKernelIdeal Cert.FfnFwdKernelIdeal.Gen
open Cert.Gate (product gateCol upCol gateSlope)

variable (m : (ℓ : Loc nD τ sig) → Buf (Elt Ideal) ℓ)

/-- The block each window stages at a point: eleven column blocks in each half of the rows. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val / 11, t.val % 11] ∧ win0_5.index t = ![t.val / 11, t.val % 11]
    ∧ win0_6.index t = ![t.val / 11, t.val % 11] ∧ win0_7.index t = ![t.val / 11, 0] :=
  (by decide +kernel : ∀ t : Fin grid0.N, _)

/-- The weight as the region takes it. -/
theorem w_apply (c : Dev nD) (k : Fin 1024) (j : Fin 5632) :
    (V m c main_v1 : FVec Ideal S1024x5632 .bf16) (ix2 k j) = (m ((c : Thread nD τ).loc main_arg2) : FVec Ideal S1x1024x5632 .f32) (ix3 0 k j) := by
  unfold_abbrev_sides
  after_results
  generalize (m ((c : Thread nD τ).loc main_arg2) : FVec Ideal S1x1024x5632 .f32) = y
  pointwise

theorem x_block (c : Dev nD) (t : Fin cfg0.N) (r : Fin 2048) (k : Fin 1024) (p : Fin 4096) (hp : p.val = t.val / 11 * 2048 + r.val) :
    (iblk m c 0 t : FVec Ideal S2048x1024 .f32) (ix2 r k) = (m ((c : Thread nD τ).loc main_arg0) : FVec Ideal S4096x1024 .f32) (ix2 p k) := by
  blk_point [iblk, V, idx t]

theorem g_block (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_point [iblk, V, idx t]

theorem gate_block (c : Dev nD) (t : Fin cfg0.N) (k : Fin 1024) (l : Fin 256) (j : Fin 5632) (hj : j.val = t.val % 11 * 256 + l.val) :
    (iblk m c 2 t : FVec Ideal S1024x256 .bf16) (ix2 k l) = (m ((c : Thread nD τ).loc main_arg2) : FVec Ideal S1x1024x5632 .f32) (ix3 0 k j) := by
  refine Eq.trans ?_ (w_apply m c k j)
  unfold iblk
  generalize Gen.V m c = W
  blk_point [idx t]

theorem up_block (c : Dev nD) (t : Fin cfg0.N) (k : Fin 1024) (l : Fin 256) (j : Fin 5632) (hj : j.val = 2816 + (t.val % 11 * 256 + l.val)) :
    (iblk m c 3 t : FVec Ideal S1024x256 .bf16) (ix2 k l) = (m ((c : Thread nD τ).loc main_arg2) : FVec Ideal S1x1024x5632 .f32) (ix3 0 k j) := by
  refine Eq.trans ?_ (w_apply m c k j)
  unfold iblk
  generalize Gen.V m c = W
  blk_point [idx t]

/-- The normed rows, at an entry of the array. -/
def row (x : FVec Ideal S4096x1024 .f32) (g : FVec Ideal S1x1024 .f32) (p : Fin 4096) (k : Fin 1024) : EReal :=
  x (ix2 p k) * Rms.scale (fun k => x (ix2 p k)) * g (ix2 0 k)

theorem rows_apply (c : Dev nD) (t : Fin cfg0.N) (r : Fin 2048) (k : Fin 1024) (p : Fin 4096) (hp : p.val = t.val / 11 * 2048 + r.val) :
    rows m c t (ix2 r k) = row (m ((c : Thread nD τ).loc main_arg0)) (m ((c : Thread nD τ).loc main_arg1)) p k := by
  have hp' : p.val = (first t).val / 11 * 2048 + r.val := by
    have e : (first t).val / 11 = t.val / 11 := Nat.mul_div_cancel _ (by decide)
    rw [e]; exact hp
  refine (normed_apply _ _ r k).trans ?_
  have h : ∀ k : Fin 1024, (iblk m c 0 (first t) : FVec Ideal S2048x1024 .f32) (ix2 r k) = _ := fun k => x_block m c (first t) r k p hp'
  rw [funext h, h k, g_block]
  rfl

/-- The product's entries of the memory's arguments. -/
abbrev Product (c : Dev nD) : Fin 4096 → Fin 5632 → EReal :=
  product (m ((c : Thread nD τ).loc main_arg0)) (m ((c : Thread nD τ).loc main_arg1)) (m ((c : Thread nD τ).loc main_arg2))

theorem dot_gate (c : Dev nD) (t : Fin cfg0.N) (r : Fin 2048) (l : Fin 256) (p : Fin 4096) (j : Fin 2816) (hp : p.val = t.val / 11 * 2048 + r.val)
    (hj : j.val = t.val % 11 * 256 + l.val) : dot (rows m c t) (iblk m c 2 t) r l = Product m c p (gateCol j) :=
  Finset.sum_congr rfl fun k _ => congrArg₂ (· * ·) (rows_apply m c t r k p hp) (gate_block m c t k l (gateCol j) hj)

theorem dot_up (c : Dev nD) (t : Fin cfg0.N) (r : Fin 2048) (l : Fin 256) (p : Fin 4096) (j : Fin 2816) (hp : p.val = t.val / 11 * 2048 + r.val)
    (hj : j.val = t.val % 11 * 256 + l.val) : dot (rows m c t) (iblk m c 3 t) r l = Product m c p (upCol j) :=
  Finset.sum_congr rfl fun k _ => congrArg₂ (· * ·) (rows_apply m c t r k p hp) (up_block m c t k l (upCol j) (congrArg (2816 + ·) hj))

/-- The four results, as arrays. -/
abbrev Opened (c : Dev nD) : FVec Ideal S4096x2816 .bf16 := fun i => Gate.opened (Product m c (i 0) (gateCol (i 1)))
abbrev Slope (c : Dev nD) : FVec Ideal S4096x2816 .bf16 := fun i => gateSlope (Product m c (i 0) (gateCol (i 1))) (Product m c (i 0) (upCol (i 1)))
abbrev Act (c : Dev nD) : FVec Ideal S4096x2816 .bf16 := fun i => Gate.opened (Product m c (i 0) (gateCol (i 1))) * Product m c (i 0) (upCol (i 1))
abbrev Normed (c : Dev nD) : FVec Ideal S4096x1024 .bf16 := fun i => row (m ((c : Thread nD τ).loc main_arg0)) (m ((c : Thread nD τ).loc main_arg1)) (i 0) (i 1)

theorem final4 (c : Dev nD) : (dats m 0 c).arrAt 4 cfg0.N = Opened m c := by
  refine (dats m 0 c).arrAt_eq_of_covers 4 _ (by decide +kernel) fun t hf y => ?_
  blk_simp
  rw [after_4]
  refine ((congrArg _ (eq_ix2 y)).trans (opened_apply _ _ _ _)).trans ?_
  exact congrArg Gate.opened (dot_gate m c t (y 0) (y 1) _ _ (by blk_simp [idx t]) (by blk_simp [idx t]))

theorem final5 (c : Dev nD) : (dats m 0 c).arrAt 5 cfg0.N = Slope m c := by
  refine (dats m 0 c).arrAt_eq_of_covers 5 _ (by decide +kernel) fun t hf y => ?_
  blk_simp
  rw [after_5]
  refine ((congrArg _ (eq_ix2 y)).trans (slope_apply _ _ _ _ _)).trans ?_
  exact congrArg₂ gateSlope (dot_gate m c t (y 0) (y 1) _ _ (by blk_simp [idx t]) (by blk_simp [idx t]))
    (dot_up m c t (y 0) (y 1) _ _ (by blk_simp [idx t]) (by blk_simp [idx t]))

theorem final6 (c : Dev nD) : (dats m 0 c).arrAt 6 cfg0.N = Act m c := by
  refine (dats m 0 c).arrAt_eq_of_covers 6 _ (by decide +kernel) fun t hf y => ?_
  blk_simp
  rw [after_6]
  refine ((congrArg _ (eq_ix2 y)).trans (act_apply _ _ _ _ _)).trans ?_
  exact congrArg₂ (fun a b : EReal => Gate.opened a * b) (dot_gate m c t (y 0) (y 1) _ _ (by blk_simp [idx t]) (by blk_simp [idx t]))
    (dot_up m c t (y 0) (y 1) _ _ (by blk_simp [idx t]) (by blk_simp [idx t]))

theorem final7 (c : Dev nD) : (dats m 0 c).arrAt 7 cfg0.N = Normed m c := by
  refine (dats m 0 c).arrAt_eq_of_covers 7 _ (by decide +kernel) fun t hf y => ?_
  blk_simp
  rw [after_7]
  refine ((congrArg _ (eq_ix2 y)).trans (rows_apply m c t (y 0) (y 1) (((win0_7.blk t).view.emb y : S4096x1024.Idx) 0) (by blk_simp [idx t]))).trans ?_
  exact congrArg (row _ _ _) (Fin.ext (by blk_simp [idx t]))

/-- Every run of the kernel: its four results, its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v2_0) = Opened m c
    ∧ r.2.mem ((c : Thread nD τ).loc main_v2_1) = Slope m c
    ∧ r.2.mem ((c : Thread nD τ).loc main_v2_2) = Act m c
    ∧ r.2.mem ((c : Thread nD τ).loc main_v2_3) = Normed m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  exact (θ_run defs _ _).mono (fun r h c => ⟨((h.1.1 c).1 4).trans (final4 m c), ((h.1.1 c).1 5).trans (final5 m c), ((h.1.1 c).1 6).trans (final6 m c),
    ((h.1.1 c).1 7).trans (final7 m c), h.2.1 c⟩) (θ_run_and (run_main m ρ) (frame m ρ))

end Cert.FfnFwd

end
-- ==== Proof.FfnFwd.Reference.lean ====
/- The reference's four results, entry by entry. -/
module

public import proofs.«01_k».proof.Proof.Gate.Spec
public import proofs.«01_k».proof.Proof.Gen.FfnFwdReferenceIdeal.Read

@[expose] public section

set_option maxRecDepth 16384

noncomputable section

namespace Cert.FfnFwdReferenceIdeal.Read

open Cert.FfnFwdReferenceIdeal Idealize.ShloMosaic Cert.Gate Cert.Finite

variable {x : FVec Ideal S4096x1024 .f32} {g : FVec Ideal S1x1024 .f32} {w : FVec Ideal S1x1024x5632 .f32}

/-- The normed rows. -/
theorem row_apply (p : Fin 4096) (k : Fin 1024) : val_main_v27 (F := Ideal) x g (ix2 p k) = x (ix2 p k) * Rms.scale (fun k => x (ix2 p k)) * g (ix2 0 k) := by
  pointwise [val_main_v27, val_main_v0, val_main_v1, val_main_v2, val_main_v3, val_main_v4, val_main_v5, val_main_v6, val_main_v7, val_main_v8, val_main_v9, val_main_v10,
    val_main_v11, val_main_v12, val_main_v13, val_main_cst, val_main_cst_0, val_main_cst_1, Rms.scale, Rms.meanSq]

theorem product_apply (p : Fin 4096) (j : Fin 5632) : val_main_v15 (F := Ideal) x g w (ix2 p j) = product x g w p j := by
  unfold product
  pointwise [val_main_v0, val_main_v1, val_main_v2, val_main_v3, val_main_v4, val_main_v5, val_main_v6, val_main_v7, val_main_v8, val_main_v9, val_main_v10,
    val_main_v11, val_main_v12, val_main_v13, val_main_v14, val_main_v15, val_main_cst, val_main_cst_0, val_main_cst_1]

theorem gate_apply (p : Fin 4096) (l : Fin 2816) : val_main_v16 (F := Ideal) x g w (ix2 p l) = product x g w p (gateCol l) := by
  rw [← product_apply]
  unfold val_main_v16
  generalize val_main_v15 (F := Ideal) x g w = z
  pointwise

theorem up_apply (p : Fin 4096) (l : Fin 2816) : val_main_v17 (F := Ideal) x g w (ix2 p l) = product x g w p (upCol l) := by
  rw [← product_apply]
  unfold val_main_v17
  generalize val_main_v15 (F := Ideal) x g w = z
  pointwise

theorem sig_apply (p : Fin 4096) (l : Fin 2816) : val_main_v18_2 (F := Ideal) x g w (ix2 p l) = Logistic.sig (product x g w p (gateCol l)) := by
  rw [← gate_apply, Logistic.sig_eq]
  pointwise [val_main_v18_2, val_main_call0_v0, val_main_call0_v1, val_main_call0_v2, val_main_call0_v3, val_main_call0_v4, val_main_call0_cst, val_main_call0_cst_0]

/-- The gated columns' slope in the up columns. -/
theorem by_up (p : Fin 4096) (l : Fin 2816) : val_main_v24 (F := Ideal) x g w (ix2 p l) = opened (product x g w p (gateCol l)) := by
  have h : val_main_v24 (F := Ideal) x g w (ix2 p l) = val_main_v16 (F := Ideal) x g w (ix2 p l) * val_main_v18_2 (F := Ideal) x g w (ix2 p l) * 1 := by
    pointwise [val_main_v24, val_main_v21, val_main_v20, val_main_cst_2, val_main_v18_0]
  rw [h, gate_apply, sig_apply, mul_one, opened]

/-- The gated columns. -/
theorem gated (p : Fin 4096) (l : Fin 2816) : val_main_v26 (F := Ideal) x g w (ix2 p l)
    = opened (product x g w p (gateCol l)) * product x g w p (upCol l) := by
  have h : val_main_v26 (F := Ideal) x g w (ix2 p l) = val_main_v16 (F := Ideal) x g w (ix2 p l) * val_main_v18_2 (F := Ideal) x g w (ix2 p l)
      * val_main_v17 (F := Ideal) x g w (ix2 p l) := by
    pointwise [val_main_v26, val_main_v19, val_main_v18_0]
  rw [h, gate_apply, sig_apply, up_apply, opened]

/-- The gated columns' slope in the gate's, of finite arguments. -/
theorem by_gate (hx : ∀ i, IsReal (x i)) (hg : ∀ i, IsReal (g i)) (hw : ∀ i, IsReal (w i)) (p : Fin 4096) (l : Fin 2816) :
    val_main_v25 (F := Ideal) x g w (ix2 p l) = gateSlope (product x g w p (gateCol l)) (product x g w p (upCol l)) := by
  have h : val_main_v25 (F := Ideal) x g w (ix2 p l)
      = 1 * val_main_v17 (F := Ideal) x g w (ix2 p l) * val_main_v18_2 (F := Ideal) x g w (ix2 p l)
        + val_main_v16 (F := Ideal) x g w (ix2 p l) * (1 * val_main_v17 (F := Ideal) x g w (ix2 p l))
          * (val_main_v18_2 (F := Ideal) x g w (ix2 p l) * (1 - val_main_v18_2 (F := Ideal) x g w (ix2 p l))) := by
    pointwise [val_main_v25, val_main_v23, val_main_v22, val_main_v20, val_main_cst_2, val_main_call1_v0, val_main_call1_v1, val_main_call1_v2, val_main_v18_1, val_main_call0_v7,
      val_main_call0_v6, val_main_call0_cst_1]
  rw [h, gate_apply, up_apply, sig_apply]
  exact (slope_eq ⟨1, by norm_cast⟩ (isReal_product hx hg hw p _) (isReal_product hx hg hw p _)).trans (one_mul _)

end Cert.FfnFwdReferenceIdeal.Read

end
-- ==== Proof.FfnFwd.Claim.lean ====
/- The equation of the four results of the feed-forward part's forward kernel and the reference's. -/
module

public import proofs.«01_k».proof.Defs
public import proofs.«01_k».proof.Proof.FfnFwd.Array
public import proofs.«01_k».proof.Proof.FfnFwd.Reference
public import proofs.«01_k».proof.Proof.Gen.FfnFwdReferenceIdeal.Run
public import proofs.«01_k».proof.Proof.Gen.Pre_ffn_fwd_finite

@[expose] public section

set_option maxRecDepth 16384

noncomputable section

namespace Cert.FfnFwdReferenceIdeal

open Idealize Idealize.ShloMosaic Idealize.ShloMosaic.TcCoe Idealize.SL.Sem

/-- Every run of the reference: its four results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v24) = Read.val_main_v24 (F := Ideal) (m ((c : Thread nD τ).loc main_arg0)) (m ((c : Thread nD τ).loc main_arg1))
          (m ((c : Thread nD τ).loc main_arg2))
      ∧ r.2.mem ((c : Thread nD τ).loc main_v25) = Read.val_main_v25 (F := Ideal) (m ((c : Thread nD τ).loc main_arg0)) (m ((c : Thread nD τ).loc main_arg1))
          (m ((c : Thread nD τ).loc main_arg2))
      ∧ r.2.mem ((c : Thread nD τ).loc main_v26) = Read.val_main_v26 (F := Ideal) (m ((c : Thread nD τ).loc main_arg0)) (m ((c : Thread nD τ).loc main_arg1))
          (m ((c : Thread nD τ).loc main_arg2))
      ∧ r.2.mem ((c : Thread nD τ).loc main_v27) = Read.val_main_v27 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (Read.val_main_v24_eq _ _ _), (h c).2.1.trans (Read.val_main_v25_eq _ _),
    (h c).2.2.1.trans (Read.val_main_v26_eq _ _ _), (h c).2.2.2.1.trans (Read.val_main_v27_eq _ _), (h c).2.2.2.2⟩)
    (Value.run m ρ)

end Cert.FfnFwdReferenceIdeal

namespace Cert.FfnFwd

open Idealize Idealize.ShloMosaic Idealize.ShloMosaic.TcCoe Idealize.SL.Sem

/-- The reference runs from any memory, keeps its arguments, and declares no semaphore. -/
theorem frame_reference : Cert.quiescent_FfnFwdReferenceIdeal := fun m ρ _ =>
  (θ_run Cert.FfnFwdReferenceIdeal.defs _ _).mono
    (fun r h => ⟨fun c => (h c).2.2.2.2, sem_eq_zero_of_no_sems (by decide) r.2⟩) (Cert.FfnFwdReferenceIdeal.Value.run m ρ)

/-- The four results of the kernel are the reference's. -/
theorem algebraic : Cert.algebraic_FfnFwdKernelIdeal_FfnFwdReferenceIdeal_pre_ffn_fwd_finite := by
  pair_intro
  · run_from Cert.FfnFwd.run_blocks m g
  · run_from Cert.FfnFwdReferenceIdeal.run_reference m' g'
    all_goals obtain ⟨h0, h1, h2⟩ := hpre c
    · exact funext fun i => (congrArg _ (eq_ix2 i)).trans (Cert.FfnFwdReferenceIdeal.Read.by_up (i 0) (i 1))
    · exact funext fun i => (congrArg _ (eq_ix2 i)).trans (Cert.FfnFwdReferenceIdeal.Read.by_gate (Finite.reals h0 fun _ => rfl) (Finite.reals h1 fun _ => rfl)
        (Finite.reals h2 fun _ => rfl) (i 0) (i 1))
    · exact funext fun i => (congrArg _ (eq_ix2 i)).trans (Cert.FfnFwdReferenceIdeal.Read.gated (i 0) (i 1))
    · exact funext fun i => (congrArg _ (eq_ix2 i)).trans (Cert.FfnFwdReferenceIdeal.Read.row_apply (i 0) (i 1))

end Cert.FfnFwd

end
-- ==== Proof.Norm.Loops.lean ====
/-
  The loop of the mixing part's input kernel, by the value it leaves: the normed rows, one chunk of
  rows at a trip.
-/
module

public import proofs.«01_k».proof.Proof.Trips
public import proofs.«01_k».proof.Proof.Gen.NormKernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NormKernelIdeal Cert.NormKernelIdeal.Gen Cert.Trips

variable {F : FTy → Type} [FloatOps F]

/-- The resource algebra of the frame kit. -/
local notation "𝕄" => MT nD τ sig Unit (Elt F) ℕ (UR sig nD τ) ℕ

theorem off_eq (k : Fin k0_t1_loop.trips) : k0_off1 k = ![0 + 256 * k.val, 0] := by revert k; decide +kernel
theorem off_inb (k : Fin k0_t1_loop.trips) : ∀ a, k0_off1 k a + S256x1024.size a ≤ S2048x1024.size a := by revert k; decide +kernel

/-- Trip `k`: rows `256 k …` of the input, normed. -/
def normTrip (g : Vec F S1x1024 .f32) (x : Vec F S2048x1024 .f32) (k : Fin k0_t1_loop.trips) (z : Vec F S2048x1024 .bf16) : Vec F S2048x1024 .bf16 :=
  VecWindow.put z (k0_off1 k) S256x1024.size (k0_pay1 g (VecWindow.window x (k0_off1 k) S256x1024.size (off_inb k)))

variable (𝒱 : Variants) (c : Dev nD) (bd : Option 𝒱.V) (E : Set ℕ) (i : grid0.Coords)
  (arg2 : Memref sig .tc .vmem S2048x1024 .f32) (harg2 : arg2.IsWhole)
  (arg3 : Memref sig .tc .vmem S1x1024 .f32) (harg3 : arg3.IsWhole)
  (arg4 : Memref sig .tc .vmem S1024x512 .bf16) (harg4 : arg4.IsWhole)
  (arg5 : Memref sig .tc .vmem S2048x512 .f32) (harg5 : arg5.IsWhole)
  (arg6 : Memref sig .tc .vmem S2048x1024 .bf16) (harg6 : arg6.IsWhole)

set_option warn.classDefReducibility false in
/-- The loop: before trip `k` the buffer of the normed rows holds the first `k` trips. -/
@[sl_loop] def normInv (hc : k0_cond1 i = 1#1) (g : Vec F S1x1024 .f32) (X : BufTy.Contents (Elt F) arg2.view.ty) (G : BufTy.Contents (Elt F) arg6.view.ty) :
    Idealize.ShloMosaic.LoopInv (M := 𝕄) Idealize.ShloMosaic.frame (wpE defs₀ 𝒱 (c : Thread nD τ) bd) E
      k0_t1_loop.lb k0_t1_loop.ub k0_t1_loop.st (k0_t1_ok i hc) () (k0_t1_body (F := F) i arg2 harg2 arg3 harg3 arg4 harg4 arg5 harg5 arg6 harg6 hc g) where
  inv k _ := iprop((arg2.view.loc (c : Thread nD τ) ↦[arg2.view.set]{fullShare} X)
    ∗ (∃ f, (arg6.view.loc (c : Thread nD τ) ↦[arg6.view.set]{fullShare} f)
        ∗ ⌜arg6.view.read (Elt F) f = iter (normTrip g (arg2.view.read (Elt F) X)) (arg6.view.read (Elt F) G) k⌝))
  step k acc := by
    unfold k0_t1_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

end Cert.Norm

end
-- ==== Proof.Norm.Run.lean ====
/-
  The mixing part's input kernel run once: at the first point of a block of rows, where it norms them
  first, and at the others, where it finds them normed.
-/
module

public import proofs.«01_k».proof.Proof.Norm.Loops
public import proofs.«01_k».proof.Proof.Gen.NormKernelIdeal.Frame

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.NormKernelIdeal Cert.NormKernelIdeal.Gen Cert.Trips

variable {F : FTy → Type} [FloatOps F]

/-- The resource algebra of the frame kit. -/
local notation "𝕄" => MT nD τ sig Unit (Elt F) ℕ (UR sig nD τ) ℕ

/-- The normed rows. -/
def normed (g : Vec F S1x1024 .f32) (x : Vec F S2048x1024 .f32) : Vec F S2048x1024 .bf16 :=
  iter (normTrip g x) (broadcast S2048x1024 (Scalar.ofBits .bf16 0 : F .bf16)) k0_t1_loop.trips

/-- The buffer of the normed rows, whatever it held before. -/
theorem normed_eq (g : Vec F S1x1024 .f32) (x : Vec F S2048x1024 .f32) (z : Vec F S2048x1024 .bf16) :
    iter (normTrip g x) z k0_t1_loop.trips = normed g x :=
  iter_put_congr off_eq _ (by decide) fun y hy => by
    have h0 : (y 0).val < 2048 := (y 0).isLt
    have hy : (y 0).val < 0 ∨ 0 + 256 * 8 ≤ (y 0).val := hy
    omega

/-- At the first point of a block of rows: the rows are normed, and the columns computed from them. -/
theorem runA (c : Dev nD) (i : grid0.Coords) (hc : k0_cond1 i = 1#1)
  (arg2 : Memref sig .tc .vmem S2048x1024 .f32) (harg2 : arg2.IsWhole)
  (arg3 : Memref sig .tc .vmem S1x1024 .f32) (harg3 : arg3.IsWhole)
  (arg4 : Memref sig .tc .vmem S1024x512 .bf16) (harg4 : arg4.IsWhole)
  (arg5 : Memref sig .tc .vmem S2048x512 .f32) (harg5 : arg5.IsWhole)
  (arg6 : Memref sig .tc .vmem S2048x1024 .bf16) (harg6 : arg6.IsWhole)
    (x : Vec F S2048x1024 .f32) (g : Vec F S1x1024 .f32) (w : Vec F S1024x512 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay2 (normed g x) w) ∗ owns (c : Thread nD τ) arg6 fullShare (normed g x)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%d6, %f6, -, H6⟩, Hk⟩
  sl_exec
  sl_step
  have e4 := (View.readAt_full arg4.view f4 inb_S1024x512_S1024x512_0_0).trans hf4
  have e3 := (View.readAt_full arg3.view f3 inb_S1x1024_S1x1024_0_0).trans hf3
  have hh : arg6.view.read (Elt F) fL0 = normed g x := by
    rw [e3, hf2] at hL2
    exact hL2.trans (normed_eq _ _ _)
  have e6 := (View.readAt_full arg6.view fL0 inb_S2048x1024_S2048x1024_0_0).trans hh
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    rw [e6, e4]
    exact View.read_writes_full _ _ _ _ _
  iexists _; isplitr; swap; · iexact H6
  ipureintro; exact hh

/-- At another point: the columns are computed from the rows found normed, which stay. -/
theorem runB (c : Dev nD) (i : grid0.Coords) (hc : ¬ k0_cond1 i = 1#1)
  (arg2 : Memref sig .tc .vmem S2048x1024 .f32) (harg2 : arg2.IsWhole)
  (arg3 : Memref sig .tc .vmem S1x1024 .f32) (harg3 : arg3.IsWhole)
  (arg4 : Memref sig .tc .vmem S1024x512 .bf16) (harg4 : arg4.IsWhole)
  (arg5 : Memref sig .tc .vmem S2048x512 .f32) (harg5 : arg5.IsWhole)
  (arg6 : Memref sig .tc .vmem S2048x1024 .bf16) (harg6 : arg6.IsWhole)
    (x : Vec F S2048x1024 .f32) (g : Vec F S1x1024 .f32) (w : Vec F S1024x512 .bf16) (h : Vec F S2048x1024 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (k0_pay2 h w) ∗ owns (c : Thread nD τ) arg6 fullShare h) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%f6, %hh, H6⟩, Hk⟩
  sl_exec
  sl_step
  have e4 := (View.readAt_full arg4.view f4 inb_S1024x512_S1024x512_0_0).trans hf4
  have e6 := (View.readAt_full arg6.view f6 inb_S2048x1024_S2048x1024_0_0).trans hh
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    rw [e6, e4]
    exact View.read_writes_full _ _ _ _ _
  iexists _; isplitr; swap; · iexact H6
  ipureintro; exact hh

end Cert.Norm

end
-- ==== Proof.Norm.Frame.lean ====
/-
  The mixing part's input call: every execution of the program ends, with its arguments as they were, and
  the pipeline's arrays at what the proof data say (`dats`, `run_main`).
-/
module

public import proofs.«01_k».proof.Proof.Norm.Run
public import Idealize.ShloMosaic.Lib.Pipeline.TableIdle
public import Idealize.ShloMosaic.Lib.Claim

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormKernelIdeal Cert.NormKernelIdeal.Gen Cert.Trips

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The first of the points that work on the block of rows of point `t`. -/
def first (t : Fin cfg0.N) : Fin cfg0.N := ⟨t.val / 9 * 9, lt_of_le_of_lt (Nat.div_mul_le_self _ _) t.isLt⟩

theorem first_eq (t : Fin cfg0.N) (h : t.val % 9 = 0) : first t = t := Fin.ext (Nat.div_mul_cancel (Nat.dvd_of_mod_eq_zero h))

theorem first_pred (t : Fin cfg0.N) (h : t.val % 9 ≠ 0) (h' : t.val - 1 < cfg0.N) : first ⟨t.val - 1, h'⟩ = first t :=
  Fin.ext (by show (t.val - 1) / 9 * 9 = t.val / 9 * 9; omega)

/-- The normed rows of point `t`'s block. -/
def rows (c : Dev nD) (t : Fin cfg0.N) : Vec F S2048x1024 .bf16 := normed (iblk m c 1 (first t)) (iblk m c 0 (first t))

theorem rows_first (c : Dev nD) (t : Fin cfg0.N) (h : t.val % 9 = 0) : rows m c t = normed (iblk m c 1 t) (iblk m c 0 t) := by
  unfold rows; rw [first_eq t h]

/-- The pipeline's proof data: each input's buffer at its block, each result's at what the body computes of those
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (rows m c t) (iblk m c 2 t) := by dsimp only [dats]
theorem after_4 (c : Dev nD) (t : Fin cfg0.N) : (dats m 0 c).after 4 t = rows m c t := by dsimp only [dats]

/-- The rows are normed at the points whose number is a multiple of nine. -/
theorem cond_iff : ∀ t : Fin cfg0.N, k0_cond1 (grid0.coords t) = 1#1 ↔ t.val % 9 = 0 := (by decide +kernel : ∀ t : Fin grid0.N, _)

theorem idle_iff : ∀ t : Fin cfg0.N, cfg0.idle 4 (cfg0.grid.coords t) = !decide (t.val % 9 = 0) := (by decide +kernel : ∀ t : Fin grid0.N, _)

theorem fresh_iff : ∀ t : Fin cfg0.N, cfg0.fresh 4 t.val = decide (t.val % 9 = 0) := by decide +kernel

/-- At a point that does not norm the rows, the buffer holds them as the point before left them. -/
theorem before_4 (c : Dev nD) (t : Fin cfg0.N) (h : t.val % 9 ≠ 0) (d : S2048x1024.Idx → Elt F .bf16) : (dats m 0 c).before 4 t d = rows m c t := by
  have hb := (dats m 0 c).before_out_traj 4 rfl (fun _ _ => rfl) (fun t ht hi hf => by
    rw [after_4, after_4]
    unfold rows
    rw [first_pred t (fun h0 => by rw [fresh_iff, h0] at hf; exact absurd hf (by decide))]) t.val t rfl d
  rw [hb, fresh_iff, if_neg (by simpa using h), after_4]
  unfold rows
  rw [first_pred t h]

/-- What point `t` owes of the buffer of the normed rows. -/
abbrev owes4 (c : Dev nD) (t : Fin cfg0.N) : sProp 𝕄 :=
  match cfg0.idle 4 (cfg0.grid.coords t) with
  | true => (match (cfg0.win 4).flush t with
      | false => iprop(∃ d, owns (c : Thread nD τ) (st0_4 t) fullShare ((dats m 0 c).before 4 t d))
      | true => owns (c : Thread nD τ) (st0_4 t) fullShare ((dats m 0 c).after 4 t))
  | false => owns (c : Thread nD τ) (st0_4 t) fullShare ((dats m 0 c).after 4 t)

theorem pays4 (c : Dev nD) (t : Fin cfg0.N) : owns (c : Thread nD τ) (st0_4 t) fullShare (rows m c t) ⊢ owes4 m c t := by
  unfold owes4
  by_cases h : t.val % 9 = 0
  · rw [idle_iff t, decide_eq_true h, after_4]
    exact .rfl
  · rw [idle_iff t, decide_eq_false h, Bool.not_false]
    cases (cfg0.win 4).flush t
    · show _ ⊢ iprop(∃ d, owns (c : Thread nD τ) (st0_4 t) fullShare ((dats m 0 c).before 4 t d))
      iintro H
      iexists (rows m c t)
      rw [before_4 m c t h]
      iexact H
    · rw [after_4]

set_option maxHeartbeats 1600000 in
/-- The body at any point, window by window: `runA` or `runB` at the point's buffers. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owes4 m c t)) := by
  unfold bodyAt0
  simp only [before0_0_of m (dats m 0 c) (A_eq m c 0) (after_0 m c), before0_1_of m (dats m 0 c) (A_eq m c 1) (after_1 m c), before0_2_of m (dats m 0 c) (A_eq m c 2) (after_2 m c)]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  by_cases ht : t.val % 9 = 0
  · iapply (runA c (grid0.coords t) ((cond_iff t).2 ht) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    rw [← rows_first m c t ht]
    isplitl [HΦ]; · iexact HΦ
    isplitl [Ho]; · iexact Ho
    isplitl [H0]; · iexact H0
    isplitl [H1]; · iexact H1
    isplitl [H2]; · iexact H2
    isplitl [H3]; · iexact H3
    iapply (pays4 m c t)
    iexact H4
  · iapply (runB c (grid0.coords t) (fun h => ht ((cond_iff t).1 h)) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (iblk m c 0 t) (iblk m c 1 t) (iblk m c 2 t) (rows m c t) Set.univ _)
    isplitl [H0]; · iexact H0
    isplitl [H1]; · iexact H1
    isplitl [H2]; · iexact H2
    isplitl [H3]; · iexists _; iexact H3
    isplitl [H4]; · rw [before_4 m c t ht]; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (pays4 m c t)
    iexact H4

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The launch: the arrays of the pipeline end at what the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Norm

end
-- ==== Proof.Norm.KernelFrame.lean ====
/-
  The mixing part's input kernel over floats: it is its idealization read at floats, whose run is known.
-/
module

public import proofs.«01_k».proof.Proof.Norm.Frame
public import proofs.«01_k».proof.Proof.Gen.NormKernel
public import proofs.«01_k».proof.Defs
public import Idealize.ShloMosaic.Lib.Claim

@[expose] public section

set_option maxRecDepth 65536

namespace Cert.Norm

open Idealize.ShloMosaic Idealize.ShloMosaic.TcCoe Idealize.ShloMosaic.Tactic Idealize.SL.Sem

/-- The two programs have the same functions. -/
theorem defs_eq : Cert.NormKernel.defs (F := Bits) = Cert.NormKernelIdeal.defs (F := Bits) := by sl_kernel_rfl

/-- The two programs have the same host code. -/
theorem main_eq : Cert.NormKernel.main (F := Bits) = Cert.NormKernelIdeal.main (F := Bits) := by sl_kernel_rfl

/-- Every run of the kernel is quiescent. -/
theorem frame_kernel : Cert.quiescent_NormKernel := by
  intro m ρ _
  rw [defs_eq, main_eq]
  exact frame m ρ

end Cert.Norm
-- ==== Proof.Norm.Block.lean ====
/-
  The mixing part's input kernel at one point: the entries of what it stores.
-/
module

public import proofs.«01_k».proof.Proof.Norm.Run
public import proofs.«01_k».proof.Proof.RmsNorm
public import Idealize.ShloMosaic.Lib.Pointwise

@[expose] public section

set_option maxRecDepth 16384

noncomputable section

namespace Cert.Norm

open Idealize.ShloMosaic Cert.Trips
open Cert.NormKernelIdeal Cert.NormKernelIdeal.Gen

theorem trips : k0_t1_loop.trips = 8 := by decide +kernel

/-- A window of whole rows, at an entry. -/
theorem window_rows {N B C b : ℕ} (x : (⟨2, ![N, C]⟩ : Shape).Idx → EReal) (off : Fin 2 → ℕ) (ho : off = ![b, 0])
    (inb : ∀ a, off a + (![B, C] : Fin 2 → ℕ) a ≤ (⟨2, ![N, C]⟩ : Shape).size a) (q : Fin B) (l : Fin C) (p : Fin N) (hp : b + q.val = p.val) :
    VecWindow.window x off ![B, C] inb (ix2 q l) = x (ix2 p l) := by
  subst ho
  refine congrArg x (funext fun a => Fin.ext ?_)
  match a with
  | 0 => show b + 1 * q.val = p.val; omega
  | 1 => show 0 + 1 * l.val = l.val; omega

/-- One chunk of rows, normed. -/
theorem norm_chunk (g : FVec Ideal S1x1024 .f32) (v : FVec Ideal S256x1024 .f32) (q : Fin 256) (k : Fin 1024) :
    k0_pay1 (F := Ideal) g v (ix2 q k) = v (ix2 q k) * Rms.scale (fun k => v (ix2 q k)) * g (ix2 0 k) := by
  pointwise [k0_pay1, Rms.scale, Rms.meanSq]

/-- The normed rows, at an entry. -/
theorem normed_apply (g : FVec Ideal S1x1024 .f32) (x : FVec Ideal S2048x1024 .f32) (r : Fin 2048) (k : Fin 1024) :
    normed (F := Ideal) g x (ix2 r k) = x (ix2 r k) * Rms.scale (fun k => x (ix2 r k)) * g (ix2 0 k) := by
  have hr := r.isLt
  have hq : r.val / 256 < k0_t1_loop.trips := by rw [trips]; omega
  refine (iter_put_in off_eq _ _ _ ⟨r.val / 256, hq⟩ hq le_rfl _ ⟨r.val % 256, Nat.mod_lt _ (by decide)⟩
    (by show r.val = 0 + 256 * (r.val / 256) + r.val % 256; omega)).trans ?_
  have hw : ∀ l : Fin 1024, VecWindow.window x (k0_off1 ⟨r.val / 256, hq⟩) S256x1024.size (off_inb _) (ix2 ⟨r.val % 256, Nat.mod_lt _ (by decide)⟩ l)
      = x (ix2 r l) := fun l =>
    window_rows x _ (off_eq _) _ _ l r (by show 0 + 256 * (r.val / 256) + r.val % 256 = r.val; omega)
  refine (norm_chunk _ _ _ _).trans ?_
  rw [funext hw]
  exact congrArg (fun a : EReal => a * _ * _) (hw k)

/-- The stored columns, at an entry. -/
theorem dot_apply (h : FVec Ideal S2048x1024 .bf16) (w : FVec Ideal S1024x512 .bf16) (r : Fin 2048) (l : Fin 512) :
    k0_pay2 (F := Ideal) h w (ix2 r l) = ∑ k : Fin 1024, h (ix2 r k) * w (ix2 k l) := by
  pointwise [k0_pay2]

end Cert.Norm

end
-- ==== Proof.Norm.Array.lean ====
/-
  The mixing part's input call: what its two result arrays hold after the run.
-/
module

public import proofs.«01_k».proof.Proof.Norm.Block
public import proofs.«01_k».proof.Proof.Norm.Frame
public import Idealize.ShloMosaic.Lib.Pipeline.ValueKit

@[expose] public section

set_option maxRecDepth 16384

noncomputable section

namespace Cert.Norm

open Idealize.ShloMosaic Idealize.ShloMosaic.TcCoe Idealize.SL.Sem
open Cert.NormKernelIdeal Cert.NormKernelIdeal.Gen

variable (m : (ℓ : Loc nD τ sig) → Buf (Elt Ideal) ℓ)

/-- The block each window stages at a point: nine column blocks in each half of the rows. -/
theorem idx : ∀ t : Fin cfg0.N, win0_0.index t = ![t.val / 9, 0] ∧ win0_1.index t = ![0, 0] ∧ win0_2.index t = ![0, t.val % 9]
    ∧ win0_3.index t = ![t.val / 9, t.val % 9] ∧ win0_4.index t = ![t.val / 9, 0] :=
  (by decide +kernel : ∀ t : Fin grid0.N, _)

/-- The weight as the region takes it. -/
theorem w_apply (c : Dev nD) (k : Fin 1024) (j : Fin 4608) :
    (V m c main_v1 : FVec Ideal S1024x4608 .bf16) (ix2 k j) = (m ((c : Thread nD τ).loc main_arg2) : FVec Ideal S1x1024x4608 .f32) (ix3 0 k j) := by
  unfold_abbrev_sides
  after_results
  generalize (m ((c : Thread nD τ).loc main_arg2) : FVec Ideal S1x1024x4608 .f32) = y
  pointwise

theorem x_block (c : Dev nD) (t : Fin cfg0.N) (r : Fin 2048) (k : Fin 1024) (p : Fin 4096) (hp : p.val = t.val / 9 * 2048 + r.val) :
    (iblk m c 0 t : FVec Ideal S2048x1024 .f32) (ix2 r k) = (m ((c : Thread nD τ).loc main_arg0) : FVec Ideal S4096x1024 .f32) (ix2 p k) := by
  blk_point [iblk, V, idx t]

theorem g_block (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_point [iblk, V, idx t]

theorem w_block (c : Dev nD) (t : Fin cfg0.N) (k : Fin 1024) (l : Fin 512) (j : Fin 4608) (hj : j.val = t.val % 9 * 512 + l.val) :
    (iblk m c 2 t : FVec Ideal S1024x512 .bf16) (ix2 k l) = (m ((c : Thread nD τ).loc main_arg2) : FVec Ideal S1x1024x4608 .f32) (ix3 0 k j) := by
  refine Eq.trans ?_ (w_apply m c k j)
  unfold iblk
  generalize Gen.V m c = W
  blk_point [idx t]

/-- The normed rows, at an entry of the array. -/
def row (x : FVec Ideal S4096x1024 .f32) (g : FVec Ideal S1x1024 .f32) (p : Fin 4096) (k : Fin 1024) : EReal :=
  x (ix2 p k) * Rms.scale (fun k => x (ix2 p k)) * g (ix2 0 k)

theorem rows_apply (c : Dev nD) (t : Fin cfg0.N) (r : Fin 2048) (k : Fin 1024) (p : Fin 4096) (hp : p.val = t.val / 9 * 2048 + r.val) :
    rows m c t (ix2 r k) = row (m ((c : Thread nD τ).loc main_arg0)) (m ((c : Thread nD τ).loc main_arg1)) p k := by
  have hp' : p.val = (first t).val / 9 * 2048 + r.val := by
    have e : (first t).val / 9 = t.val / 9 := Nat.mul_div_cancel _ (by decide)
    rw [e]; exact hp
  refine (normed_apply _ _ r k).trans ?_
  have h : ∀ k : Fin 1024, (iblk m c 0 (first t) : FVec Ideal S2048x1024 .f32) (ix2 r k) = _ := fun k => x_block m c (first t) r k p hp'
  rw [funext h, h k, g_block]
  rfl

/-- The product, at an entry of the array. -/
def product (x : FVec Ideal S4096x1024 .f32) (g : FVec Ideal S1x1024 .f32) (w : FVec Ideal S1x1024x4608 .f32) (p : Fin 4096) (j : Fin 4608) : EReal :=
  ∑ k : Fin 1024, row x g p k * w (ix3 0 k j)

/-- The two results, as arrays. -/
abbrev Product (c : Dev nD) : FVec Ideal S4096x4608 .f32 := fun i =>
  product (m ((c : Thread nD τ).loc main_arg0)) (m ((c : Thread nD τ).loc main_arg1)) (m ((c : Thread nD τ).loc main_arg2)) (i 0) (i 1)
abbrev Normed (c : Dev nD) : FVec Ideal S4096x1024 .bf16 := fun i => row (m ((c : Thread nD τ).loc main_arg0)) (m ((c : Thread nD τ).loc main_arg1)) (i 0) (i 1)

theorem final3 (c : Dev nD) : (dats m 0 c).arrAt 3 cfg0.N = Product m c := by
  refine (dats m 0 c).arrAt_eq_of_covers 3 _ (by decide +kernel) fun t hf y => ?_
  blk_simp
  rw [after_3]
  refine ((congrArg _ (eq_ix2 y)).trans (dot_apply _ _ _ _)).trans ?_
  exact Finset.sum_congr rfl fun k _ => congrArg₂ (· * ·) (rows_apply m c t (y 0) k _ (by blk_simp [idx t])) (w_block m c t k (y 1) _ (by blk_simp [idx t]))

theorem final4 (c : Dev nD) : (dats m 0 c).arrAt 4 cfg0.N = Normed m c := by
  refine (dats m 0 c).arrAt_eq_of_covers 4 _ (by decide +kernel) fun t hf y => ?_
  blk_simp
  rw [after_4]
  refine ((congrArg _ (eq_ix2 y)).trans (rows_apply m c t (y 0) (y 1) (((win0_4.blk t).view.emb y : S4096x1024.Idx) 0) (by blk_simp [idx t]))).trans ?_
  exact congrArg (row _ _ _) (Fin.ext (by blk_simp [idx t]))

/-- Every run of the kernel: its two results, its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v2_0) = Product m c
    ∧ r.2.mem ((c : Thread nD τ).loc main_v2_1) = Normed m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  exact (θ_run defs _ _).mono (fun r h c => ⟨((h.1.1 c).1 3).trans (final3 m c), ((h.1.1 c).1 4).trans (final4 m c), h.2.1 c⟩)
    (θ_run_and (run_main m ρ) (frame m ρ))

end Cert.Norm

end
-- ==== Proof.Norm.Reference.lean ====
/- The reference's two results, entry by entry. -/
module

public import proofs.«01_k».proof.Proof.RmsNorm
public import proofs.«01_k».proof.Proof.Gen.NormReferenceIdeal.Read
public import Idealize.ShloMosaic.Lib.Pointwise

@[expose] public section

set_option maxRecDepth 16384

noncomputable section

namespace Cert.NormReferenceIdeal.Read

open Cert.NormReferenceIdeal Idealize.ShloMosaic

variable {x : FVec Ideal S4096x1024 .f32} {g : FVec Ideal S1x1024 .f32} {w : FVec Ideal S1x1024x4608 .f32}

/-- The normed rows. -/
theorem row_apply (p : Fin 4096) (k : Fin 1024) : val_main_v16 (F := Ideal) x g (ix2 p k) = x (ix2 p k) * Rms.scale (fun k => x (ix2 p k)) * g (ix2 0 k) := by
  pointwise [val_main_v16, val_main_v0, val_main_v1, val_main_v2, val_main_v3, val_main_v4, val_main_v5, val_main_v6, val_main_v7, val_main_v8, val_main_v9, val_main_v10, val_main_v11, val_main_v12, val_main_v13, val_main_cst, val_main_cst_0, val_main_cst_1, Rms.scale, Rms.meanSq]

/-- The product. -/
theorem product_apply (p : Fin 4096) (j : Fin 4608) : val_main_v15 (F := Ideal) x g w (ix2 p j)
    = ∑ k : Fin 1024, x (ix2 p k) * Rms.scale (fun k => x (ix2 p k)) * g (ix2 0 k) * w (ix3 0 k j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]

end Cert.NormReferenceIdeal.Read

end
-- ==== Proof.Norm.Claim.lean ====
/- The equation of the two results of the mixing part's input kernel and the reference's. -/
module

public import proofs.«01_k».proof.Defs
public import proofs.«01_k».proof.Proof.Norm.Array
public import proofs.«01_k».proof.Proof.Norm.Reference
public import proofs.«01_k».proof.Proof.Gen.NormReferenceIdeal.Run

@[expose] public section

set_option maxRecDepth 16384

noncomputable section

namespace Cert.NormReferenceIdeal

open Idealize Idealize.ShloMosaic Idealize.ShloMosaic.TcCoe Idealize.SL.Sem

/-- Every run of the reference: its two results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = Read.val_main_v15 (F := Ideal) (m ((c : Thread nD τ).loc main_arg0)) (m ((c : Thread nD τ).loc main_arg1))
          (m ((c : Thread nD τ).loc main_arg2))
      ∧ r.2.mem ((c : Thread nD τ).loc main_v16) = Read.val_main_v16 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (Read.val_main_v15_eq _ _ _), (h c).2.1.trans (Read.val_main_v16_eq _ _), (h c).2.2⟩)
    (Value.run m ρ)

end Cert.NormReferenceIdeal

namespace Cert.Norm

open Idealize Idealize.ShloMosaic Idealize.ShloMosaic.TcCoe Idealize.SL.Sem

/-- The reference runs from any memory, keeps its arguments, and declares no semaphore. -/
theorem frame_reference : Cert.quiescent_NormReferenceIdeal := fun m ρ _ =>
  (θ_run Cert.NormReferenceIdeal.defs _ _).mono
    (fun r h => ⟨fun c => (h c).2.2, sem_eq_zero_of_no_sems (by decide) r.2⟩) (Cert.NormReferenceIdeal.Value.run m ρ)

/-- The two results of the kernel are the reference's. -/
theorem algebraic : Cert.algebraic_NormKernelIdeal_NormReferenceIdeal := by
  pair_intro
  · run_from Cert.Norm.run_blocks m g
  · run_from Cert.NormReferenceIdeal.run_reference m' g'
    · exact funext fun i => (congrArg _ (eq_ix2 i)).trans (Cert.NormReferenceIdeal.Read.product_apply (i 0) (i 1))
    · exact funext fun i => (congrArg _ (eq_ix2 i)).trans (Cert.NormReferenceIdeal.Read.row_apply (i 0) (i 1))

end Cert.Norm

end
-- ==== Proof.Grad.Claim.lean ====
/- The gradient of w_o and of w_rnn_out: the kernel's two results and the reference's. -/
module

public import proofs.«01_k».proof.Defs
public import proofs.«01_k».proof.Proof.Gen.GradKernel.Frame
public import proofs.«01_k».proof.Proof.Gen.GradKernelIdeal.Value
public import proofs.«01_k».proof.Proof.Gen.GradReferenceIdeal.Run
public import proofs.«01_k».proof.Proof.Gen.GradReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.GradKernelIdeal.Value

open Cert.GradKernelIdeal Cert.GradKernelIdeal.Gen Idealize.ShloMosaic Idealize.ShloMosaic.TcCoe Idealize.SL.Sem

variable (m : (ℓ : Loc nD τ sig) → Buf (Elt Ideal) ℓ)

/-- The two factors as the region takes them. -/
theorem a_apply (c : Dev nD) (p : Fin 4096) (k : Fin 1024) :
    (V m c main_v0 : FVec Ideal S4096x1024 .bf16) (ix2 p k) = (m ((c : Thread nD τ).loc main_arg0) : FVec Ideal S4096x1024 .f32) (ix2 p k) := by
  unfold_abbrev_sides
  after_results
  pointwise

theorem ct_apply (c : Dev nD) (p : Fin 4096) (k : Fin 1024) :
    (V m c main_v1 : FVec Ideal S4096x1024 .bf16) (ix2 p k) = (m ((c : Thread nD τ).loc main_arg1) : FVec Ideal S4096x1024 .f32) (ix2 p k) := by
  unfold_abbrev_sides
  after_results
  pointwise

/-- The block each window stages at a point. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

theorem a_block (c : Dev nD) (t : Fin cfg0.N) (p : Fin 4096) (k : Fin 1024) (j : Fin 1024) (hj : j.val = 0 * 1024 + k.val) :
    (iblk m c 0 t : FVec Ideal S4096x1024 .bf16) (ix2 p k) = (m ((c : Thread nD τ).loc main_arg0) : FVec Ideal S4096x1024 .f32) (ix2 p j) := by
  refine Eq.trans ?_ (a_apply m c p j)
  unfold iblk
  generalize Gen.V m c = W
  blk_point [idx t]

theorem ct_block (c : Dev nD) (t : Fin cfg0.N) (p : Fin 4096) (k : Fin 256) (j : Fin 1024) (hj : j.val = t.val * 256 + k.val) :
    (iblk m c 1 t : FVec Ideal S4096x256 .bf16) (ix2 p k) = (m ((c : Thread nD τ).loc main_arg1) : FVec Ideal S4096x1024 .f32) (ix2 p j) := by
  refine Eq.trans ?_ (ct_apply m c p j)
  unfold iblk
  generalize Gen.V m c = W
  blk_point [idx t]

/-- A stored block, at an entry. -/
theorem block_apply (a : FVec Ideal S4096x1024 .bf16) (b : FVec Ideal S4096x256 .bf16) (k : Fin 1024) (l : Fin 256) :
    k0_pay1 (F := Ideal) a b (ix2 k l) = ∑ p : Fin 4096, a (ix2 p k) * b (ix2 p l) := by
  pointwise [k0_pay1]

/-- The gradient, at an entry of the array. -/
def entry (a : FVec Ideal S4096x1024 .f32) (ct : FVec Ideal S4096x1024 .f32) (k : Fin 1024) (l : Fin 1024) : EReal := ∑ p : Fin 4096, a (ix2 p k) * ct (ix2 p l)

abbrev Grad (c : Dev nD) : S1024x1024.Idx → EReal := fun i => entry (m ((c : Thread nD τ).loc main_arg0)) (m ((c : Thread nD τ).loc main_arg1)) (i 0) (i 1)

theorem stored (c : Dev nD) (t : Fin cfg0.N) (k : Fin 1024) (l : Fin 256) (i : Fin 1024) (j : Fin 1024) (hi : i.val = 0 * 1024 + k.val) (hj : j.val = t.val * 256 + l.val) :
    k0_pay1 (F := Ideal) (iblk m c 0 t) (iblk m c 1 t) (ix2 k l) = entry (m ((c : Thread nD τ).loc main_arg0)) (m ((c : Thread nD τ).loc main_arg1)) i j :=
  (block_apply _ _ k l).trans (Finset.sum_congr rfl fun p _ => congrArg₂ (· * ·) (a_block m c t p k i hi) (ct_block m c t p l j hj))

theorem final2 (c : Dev nD) : ((dats m 0 c).arrAt 2 cfg0.N : FVec Ideal S1024x1024 .f32) = Grad m c := by
  refine (dats m 0 c).arrAt_eq_of_covers 2 _ (by decide +kernel) fun t hf y => ?_
  blk_simp
  rw [after0_2]
  unfold outsAt0
  frame_out
  refine (congrArg _ (eq_ix2 y)).trans (stored m c t (y 0) (y 1) _ _ (by blk_simp [idx t]) (by blk_simp [idx t]))

theorem final3 (c : Dev nD) : ((dats m 0 c).arrAt 3 cfg0.N : FVec Ideal S1024x1024 .bf16) = Grad m c := by
  refine (dats m 0 c).arrAt_eq_of_covers 3 _ (by decide +kernel) fun t hf y => ?_
  blk_simp
  rw [after0_3]
  unfold outsAt0
  frame_out
  refine (congrArg _ (eq_ix2 y)).trans (stored m c t (y 0) (y 1) _ _ (by blk_simp [idx t]) (by blk_simp [idx t]))

end Cert.GradKernelIdeal.Value

namespace Cert.GradReferenceIdeal

open Idealize Idealize.ShloMosaic Idealize.ShloMosaic.TcCoe Idealize.SL.Sem

variable {a : FVec Ideal S4096x1024 .f32} {ct : FVec Ideal S4096x1024 .f32}

/-- The reference's gradient, at an entry. -/
theorem gradient (k : Fin 1024) (l : Fin 1024) : Read.val_main_v3 (F := Ideal) a ct (ix2 k l) = ∑ p : Fin 4096, a (ix2 p k) * ct (ix2 p l) := by
  have h : Read.val_main_v3 (F := Ideal) a ct (ix2 k l) = ∑ p : Fin 4096, ct (ix2 p l) * a (ix2 p k) := by
    pointwise [Read.val_main_v3, Read.val_main_v2]
  rw [h]
  exact Finset.sum_congr rfl fun p _ => mul_comm _ _

theorem gradient_cast (k : Fin 1024) (l : Fin 1024) : Read.val_main_v4 (F := Ideal) a ct (ix2 k l) = ∑ p : Fin 4096, a (ix2 p k) * ct (ix2 p l) := by
  rw [← gradient]
  pointwise [Read.val_main_v4]

/-- Every run of the reference: its two results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Read.val_main_v3 (F := Ideal) (m ((c : Thread nD τ).loc main_arg0)) (m ((c : Thread nD τ).loc main_arg1))
      ∧ r.2.mem ((c : Thread nD τ).loc main_v4) = Read.val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Read.val_main_v3_eq _ _), (h c).2.1.trans (Read.val_main_v4_eq _ _), (h c).2.2⟩)
    (Value.run m ρ)

end Cert.GradReferenceIdeal

namespace Cert.Grad

open Idealize Idealize.ShloMosaic Idealize.ShloMosaic.TcCoe Idealize.SL.Sem

/-- The reference runs from any memory, keeps its arguments, and declares no semaphore. -/
theorem frame_reference : Cert.quiescent_GradReferenceIdeal := fun m ρ _ =>
  (θ_run Cert.GradReferenceIdeal.defs _ _).mono
    (fun r h => ⟨fun c => (h c).2.2, sem_eq_zero_of_no_sems (by decide) r.2⟩) (Cert.GradReferenceIdeal.Value.run m ρ)

/-- The two results of the kernel are the reference's. -/
theorem algebraic : Cert.algebraic_GradKernelIdeal_GradReferenceIdeal := by
  pair_intro
  · run_from Cert.GradKernelIdeal.Value.run_blocks m g
  · run_from Cert.GradReferenceIdeal.run_reference m' g'
    · exact funext fun i => (congrArg _ (eq_ix2 i)).trans ((Cert.GradReferenceIdeal.gradient (i 0) (i 1)).trans (congrFun (Cert.GradKernelIdeal.Value.final2 m c) i).symm)
    · exact funext fun i => (congrArg _ (eq_ix2 i)).trans ((Cert.GradReferenceIdeal.gradient_cast (i 0) (i 1)).trans (congrFun (Cert.GradKernelIdeal.Value.final3 m c) i).symm)

end Cert.Grad

end
-- ==== Proof.GradPool.Claim.lean ====
/- The gradient of w_pool_out: the kernel's two results and the reference's. -/
module

public import proofs.«01_k».proof.Defs
public import proofs.«01_k».proof.Proof.Gen.GradPoolKernel.Frame
public import proofs.«01_k».proof.Proof.Gen.GradPoolKernelIdeal.Value
public import proofs.«01_k».proof.Proof.Gen.GradPoolReferenceIdeal.Run
public import proofs.«01_k».proof.Proof.Gen.GradPoolReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.GradPoolKernelIdeal.Value

open Cert.GradPoolKernelIdeal Cert.GradPoolKernelIdeal.Gen Idealize.ShloMosaic Idealize.ShloMosaic.TcCoe Idealize.SL.Sem

variable (m : (ℓ : Loc nD τ sig) → Buf (Elt Ideal) ℓ)

/-- The two factors as the region takes them. -/
theorem a_apply (c : Dev nD) (p : Fin 4096) (k : Fin 512) :
    (V m c main_v0 : FVec Ideal S4096x512 .bf16) (ix2 p k) = (m ((c : Thread nD τ).loc main_arg0) : FVec Ideal S4096x512 .f32) (ix2 p k) := by
  unfold_abbrev_sides
  after_results
  pointwise

theorem ct_apply (c : Dev nD) (p : Fin 4096) (k : Fin 1024) :
    (V m c main_v1 : FVec Ideal S4096x1024 .bf16) (ix2 p k) = (m ((c : Thread nD τ).loc main_arg1) : FVec Ideal S4096x1024 .f32) (ix2 p k) := by
  unfold_abbrev_sides
  after_results
  pointwise

/-- The block each window stages at a point. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

theorem a_block (c : Dev nD) (t : Fin cfg0.N) (p : Fin 4096) (k : Fin 512) (j : Fin 512) (hj : j.val = 0 * 512 + k.val) :
    (iblk m c 0 t : FVec Ideal S4096x512 .bf16) (ix2 p k) = (m ((c : Thread nD τ).loc main_arg0) : FVec Ideal S4096x512 .f32) (ix2 p j) := by
  refine Eq.trans ?_ (a_apply m c p j)
  unfold iblk
  generalize Gen.V m c = W
  blk_point [idx t]

theorem ct_block (c : Dev nD) (t : Fin cfg0.N) (p : Fin 4096) (k : Fin 256) (j : Fin 1024) (hj : j.val = t.val * 256 + k.val) :
    (iblk m c 1 t : FVec Ideal S4096x256 .bf16) (ix2 p k) = (m ((c : Thread nD τ).loc main_arg1) : FVec Ideal S4096x1024 .f32) (ix2 p j) := by
  refine Eq.trans ?_ (ct_apply m c p j)
  unfold iblk
  generalize Gen.V m c = W
  blk_point [idx t]

/-- A stored block, at an entry. -/
theorem block_apply (a : FVec Ideal S4096x512 .bf16) (b : FVec Ideal S4096x256 .bf16) (k : Fin 512) (l : Fin 256) :
    k0_pay1 (F := Ideal) a b (ix2 k l) = ∑ p : Fin 4096, a (ix2 p k) * b (ix2 p l) := by
  pointwise [k0_pay1]

/-- The gradient, at an entry of the array. -/
def entry (a : FVec Ideal S4096x512 .f32) (ct : FVec Ideal S4096x1024 .f32) (k : Fin 512) (l : Fin 1024) : EReal := ∑ p : Fin 4096, a (ix2 p k) * ct (ix2 p l)

abbrev Grad (c : Dev nD) : S512x1024.Idx → EReal := fun i => entry (m ((c : Thread nD τ).loc main_arg0)) (m ((c : Thread nD τ).loc main_arg1)) (i 0) (i 1)

theorem stored (c : Dev nD) (t : Fin cfg0.N) (k : Fin 512) (l : Fin 256) (i : Fin 512) (j : Fin 1024) (hi : i.val = 0 * 512 + k.val) (hj : j.val = t.val * 256 + l.val) :
    k0_pay1 (F := Ideal) (iblk m c 0 t) (iblk m c 1 t) (ix2 k l) = entry (m ((c : Thread nD τ).loc main_arg0)) (m ((c : Thread nD τ).loc main_arg1)) i j :=
  (block_apply _ _ k l).trans (Finset.sum_congr rfl fun p _ => congrArg₂ (· * ·) (a_block m c t p k i hi) (ct_block m c t p l j hj))

theorem final2 (c : Dev nD) : ((dats m 0 c).arrAt 2 cfg0.N : FVec Ideal S512x1024 .f32) = Grad m c := by
  refine (dats m 0 c).arrAt_eq_of_covers 2 _ (by decide +kernel) fun t hf y => ?_
  blk_simp
  rw [after0_2]
  unfold outsAt0
  frame_out
  refine (congrArg _ (eq_ix2 y)).trans (stored m c t (y 0) (y 1) _ _ (by blk_simp [idx t]) (by blk_simp [idx t]))

theorem final3 (c : Dev nD) : ((dats m 0 c).arrAt 3 cfg0.N : FVec Ideal S512x1024 .bf16) = Grad m c := by
  refine (dats m 0 c).arrAt_eq_of_covers 3 _ (by decide +kernel) fun t hf y => ?_
  blk_simp
  rw [after0_3]
  unfold outsAt0
  frame_out
  refine (congrArg _ (eq_ix2 y)).trans (stored m c t (y 0) (y 1) _ _ (by blk_simp [idx t]) (by blk_simp [idx t]))

end Cert.GradPoolKernelIdeal.Value

namespace Cert.GradPoolReferenceIdeal

open Idealize Idealize.ShloMosaic Idealize.ShloMosaic.TcCoe Idealize.SL.Sem

variable {a : FVec Ideal S4096x512 .f32} {ct : FVec Ideal S4096x1024 .f32}

/-- The reference's gradient, at an entry. -/
theorem gradient (k : Fin 512) (l : Fin 1024) : Read.val_main_v3 (F := Ideal) a ct (ix2 k l) = ∑ p : Fin 4096, a (ix2 p k) * ct (ix2 p l) := by
  have h : Read.val_main_v3 (F := Ideal) a ct (ix2 k l) = ∑ p : Fin 4096, ct (ix2 p l) * a (ix2 p k) := by
    pointwise [Read.val_main_v3, Read.val_main_v2]
  rw [h]
  exact Finset.sum_congr rfl fun p _ => mul_comm _ _

theorem gradient_cast (k : Fin 512) (l : Fin 1024) : Read.val_main_v4 (F := Ideal) a ct (ix2 k l) = ∑ p : Fin 4096, a (ix2 p k) * ct (ix2 p l) := by
  rw [← gradient]
  pointwise [Read.val_main_v4]

/-- Every run of the reference: its two results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Read.val_main_v3 (F := Ideal) (m ((c : Thread nD τ).loc main_arg0)) (m ((c : Thread nD τ).loc main_arg1))
      ∧ r.2.mem ((c : Thread nD τ).loc main_v4) = Read.val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Read.val_main_v3_eq _ _), (h c).2.1.trans (Read.val_main_v4_eq _ _), (h c).2.2⟩)
    (Value.run m ρ)

end Cert.GradPoolReferenceIdeal

namespace Cert.GradPool

open Idealize Idealize.ShloMosaic Idealize.ShloMosaic.TcCoe Idealize.SL.Sem

/-- The reference runs from any memory, keeps its arguments, and declares no semaphore. -/
theorem frame_reference : Cert.quiescent_GradPoolReferenceIdeal := fun m ρ _ =>
  (θ_run Cert.GradPoolReferenceIdeal.defs _ _).mono
    (fun r h => ⟨fun c => (h c).2.2, sem_eq_zero_of_no_sems (by decide) r.2⟩) (Cert.GradPoolReferenceIdeal.Value.run m ρ)

/-- The two results of the kernel are the reference's. -/
theorem algebraic : Cert.algebraic_GradPoolKernelIdeal_GradPoolReferenceIdeal := by
  pair_intro
  · run_from Cert.GradPoolKernelIdeal.Value.run_blocks m g
  · run_from Cert.GradPoolReferenceIdeal.run_reference m' g'
    · exact funext fun i => (congrArg _ (eq_ix2 i)).trans ((Cert.GradPoolReferenceIdeal.gradient (i 0) (i 1)).trans (congrFun (Cert.GradPoolKernelIdeal.Value.final2 m c) i).symm)
    · exact funext fun i => (congrArg _ (eq_ix2 i)).trans ((Cert.GradPoolReferenceIdeal.gradient_cast (i 0) (i 1)).trans (congrFun (Cert.GradPoolKernelIdeal.Value.final3 m c) i).symm)

end Cert.GradPool

end
-- ==== Proof.GradFfn.Claim.lean ====
/- The gradient of w_ffn_out: the kernel's two results and the reference's. -/
module

public import proofs.«01_k».proof.Defs
public import proofs.«01_k».proof.Proof.Gen.GradFfnKernel.Frame
public import proofs.«01_k».proof.Proof.Gen.GradFfnKernelIdeal.Value
public import proofs.«01_k».proof.Proof.Gen.GradFfnReferenceIdeal.Run
public import proofs.«01_k».proof.Proof.Gen.GradFfnReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.GradFfnKernelIdeal.Value

open Cert.GradFfnKernelIdeal Cert.GradFfnKernelIdeal.Gen Idealize.ShloMosaic Idealize.ShloMosaic.TcCoe Idealize.SL.Sem

variable (m : (ℓ : Loc nD τ sig) → Buf (Elt Ideal) ℓ)

/-- The two factors as the region takes them. -/
theorem a_apply (c : Dev nD) (p : Fin 4096) (k : Fin 2816) :
    (V m c main_v0 : FVec Ideal S4096x2816 .bf16) (ix2 p k) = (m ((c : Thread nD τ).loc main_arg0) : FVec Ideal S4096x2816 .f32) (ix2 p k) := by
  unfold_abbrev_sides
  after_results
  pointwise

theorem ct_apply (c : Dev nD) (p : Fin 4096) (k : Fin 1024) :
    (V m c main_v1 : FVec Ideal S4096x1024 .bf16) (ix2 p k) = (m ((c : Thread nD τ).loc main_arg1) : FVec Ideal S4096x1024 .f32) (ix2 p k) := by
  unfold_abbrev_sides
  after_results
  pointwise

/-- The block each window stages at a point. -/
theorem idx : ∀ t : Fin cfg0.N, win0_0.index t = ![0, t.val] ∧ win0_1.index t = ![0, 0]
    ∧ win0_2.index t = ![t.val, 0] ∧ win0_3.index t = ![t.val, 0] :=
  (by decide +kernel : ∀ t : Fin grid0.N, _)

theorem a_block (c : Dev nD) (t : Fin cfg0.N) (p : Fin 4096) (k : Fin 256) (j : Fin 2816) (hj : j.val = t.val * 256 + k.val) :
    (iblk m c 0 t : FVec Ideal S4096x256 .bf16) (ix2 p k) = (m ((c : Thread nD τ).loc main_arg0) : FVec Ideal S4096x2816 .f32) (ix2 p j) := by
  refine Eq.trans ?_ (a_apply m c p j)
  unfold iblk
  generalize Gen.V m c = W
  blk_point [idx t]

theorem ct_block (c : Dev nD) (t : Fin cfg0.N) (p : Fin 4096) (k : Fin 1024) (j : Fin 1024) (hj : j.val = 0 * 1024 + k.val) :
    (iblk m c 1 t : FVec Ideal S4096x1024 .bf16) (ix2 p k) = (m ((c : Thread nD τ).loc main_arg1) : FVec Ideal S4096x1024 .f32) (ix2 p j) := by
  refine Eq.trans ?_ (ct_apply m c p j)
  unfold iblk
  generalize Gen.V m c = W
  blk_point [idx t]

/-- A stored block, at an entry. -/
theorem block_apply (a : FVec Ideal S4096x256 .bf16) (b : FVec Ideal S4096x1024 .bf16) (k : Fin 256) (l : Fin 1024) :
    k0_pay1 (F := Ideal) a b (ix2 k l) = ∑ p : Fin 4096, a (ix2 p k) * b (ix2 p l) := by
  pointwise [k0_pay1]

/-- The gradient, at an entry of the array. -/
def entry (a : FVec Ideal S4096x2816 .f32) (ct : FVec Ideal S4096x1024 .f32) (k : Fin 2816) (l : Fin 1024) : EReal := ∑ p : Fin 4096, a (ix2 p k) * ct (ix2 p l)

abbrev Grad (c : Dev nD) : S2816x1024.Idx → EReal := fun i => entry (m ((c : Thread nD τ).loc main_arg0)) (m ((c : Thread nD τ).loc main_arg1)) (i 0) (i 1)

theorem stored (c : Dev nD) (t : Fin cfg0.N) (k : Fin 256) (l : Fin 1024) (i : Fin 2816) (j : Fin 1024) (hi : i.val = t.val * 256 + k.val) (hj : j.val = 0 * 1024 + l.val) :
    k0_pay1 (F := Ideal) (iblk m c 0 t) (iblk m c 1 t) (ix2 k l) = entry (m ((c : Thread nD τ).loc main_arg0)) (m ((c : Thread nD τ).loc main_arg1)) i j :=
  (block_apply _ _ k l).trans (Finset.sum_congr rfl fun p _ => congrArg₂ (· * ·) (a_block m c t p k i hi) (ct_block m c t p l j hj))

theorem final2 (c : Dev nD) : ((dats m 0 c).arrAt 2 cfg0.N : FVec Ideal S2816x1024 .f32) = Grad m c := by
  refine (dats m 0 c).arrAt_eq_of_covers 2 _ (by decide +kernel) fun t hf y => ?_
  blk_simp
  rw [after0_2]
  unfold outsAt0
  frame_out
  refine (congrArg _ (eq_ix2 y)).trans (stored m c t (y 0) (y 1) _ _ (by blk_simp [idx t]) (by blk_simp [idx t]))

theorem final3 (c : Dev nD) : ((dats m 0 c).arrAt 3 cfg0.N : FVec Ideal S2816x1024 .bf16) = Grad m c := by
  refine (dats m 0 c).arrAt_eq_of_covers 3 _ (by decide +kernel) fun t hf y => ?_
  blk_simp
  rw [after0_3]
  unfold outsAt0
  frame_out
  refine (congrArg _ (eq_ix2 y)).trans (stored m c t (y 0) (y 1) _ _ (by blk_simp [idx t]) (by blk_simp [idx t]))

end Cert.GradFfnKernelIdeal.Value

namespace Cert.GradFfnReferenceIdeal

open Idealize Idealize.ShloMosaic Idealize.ShloMosaic.TcCoe Idealize.SL.Sem

variable {a : FVec Ideal S4096x2816 .f32} {ct : FVec Ideal S4096x1024 .f32}

/-- The reference's gradient, at an entry. -/
theorem gradient (k : Fin 2816) (l : Fin 1024) : Read.val_main_v3 (F := Ideal) a ct (ix2 k l) = ∑ p : Fin 4096, a (ix2 p k) * ct (ix2 p l) := by
  have h : Read.val_main_v3 (F := Ideal) a ct (ix2 k l) = ∑ p : Fin 4096, ct (ix2 p l) * a (ix2 p k) := by
    pointwise [Read.val_main_v3, Read.val_main_v2]
  rw [h]
  exact Finset.sum_congr rfl fun p _ => mul_comm _ _

theorem gradient_cast (k : Fin 2816) (l : Fin 1024) : Read.val_main_v4 (F := Ideal) a ct (ix2 k l) = ∑ p : Fin 4096, a (ix2 p k) * ct (ix2 p l) := by
  rw [← gradient]
  pointwise [Read.val_main_v4]

/-- Every run of the reference: its two results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Read.val_main_v3 (F := Ideal) (m ((c : Thread nD τ).loc main_arg0)) (m ((c : Thread nD τ).loc main_arg1))
      ∧ r.2.mem ((c : Thread nD τ).loc main_v4) = Read.val_main_v4 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (Read.val_main_v3_eq _ _), (h c).2.1.trans (Read.val_main_v4_eq _ _), (h c).2.2⟩)
    (Value.run m ρ)

end Cert.GradFfnReferenceIdeal

namespace Cert.GradFfn

open Idealize Idealize.ShloMosaic Idealize.ShloMosaic.TcCoe Idealize.SL.Sem

/-- The reference runs from any memory, keeps its arguments, and declares no semaphore. -/
theorem frame_reference : Cert.quiescent_GradFfnReferenceIdeal := fun m ρ _ =>
  (θ_run Cert.GradFfnReferenceIdeal.defs _ _).mono
    (fun r h => ⟨fun c => (h c).2.2, sem_eq_zero_of_no_sems (by decide) r.2⟩) (Cert.GradFfnReferenceIdeal.Value.run m ρ)

/-- The two results of the kernel are the reference's. -/
theorem algebraic : Cert.algebraic_GradFfnKernelIdeal_GradFfnReferenceIdeal := by
  pair_intro
  · run_from Cert.GradFfnKernelIdeal.Value.run_blocks m g
  · run_from Cert.GradFfnReferenceIdeal.run_reference m' g'
    · exact funext fun i => (congrArg _ (eq_ix2 i)).trans ((Cert.GradFfnReferenceIdeal.gradient (i 0) (i 1)).trans (congrFun (Cert.GradFfnKernelIdeal.Value.final2 m c) i).symm)
    · exact funext fun i => (congrArg _ (eq_ix2 i)).trans ((Cert.GradFfnReferenceIdeal.gradient_cast (i 0) (i 1)).trans (congrFun (Cert.GradFfnKernelIdeal.Value.final3 m c) i).symm)

end Cert.GradFfn

end
-- ==== Proof.RnnFwd.Scan.lean ====
/-
  A first-order linear recurrence over the reals, and two ways to compute it: tile by tile, and by pairs of
  neighbours level by level, as an associative scan does.
-/
module

public import proofs.«01_k».proof.Proof.Finite
public import Idealize.ShloMosaic.Lib.KernelVsHost
public import Idealize.ShloMosaic.Lib.Pipeline.Value
public import Idealize.ShloMosaic.Lib.Pointwise

@[expose] public section

noncomputable section

namespace Cert.Scan

open Idealize Idealize.ShloMosaic Idealize.ShloMosaic.Tactic

/-! ## Over the reals -/

/-- The recurrence `h 0 = b 0`, `h (n + 1) = a (n + 1) * h n + b (n + 1)`. -/
def recur (a b : ℕ → ℝ) : ℕ → ℝ
  | 0 => b 0
  | n + 1 => a (n + 1) * recur a b n + b (n + 1)

/-- The coefficients of pairs of neighbours. -/
def pairA (a : ℕ → ℝ) (k : ℕ) : ℝ := a (2 * k) * a (2 * k + 1)
/-- The inputs of pairs of neighbours. -/
def pairB (a b : ℕ → ℝ) (k : ℕ) : ℝ := a (2 * k + 1) * b (2 * k) + b (2 * k + 1)

/-- The recurrence of the pairs is every second state. -/
theorem recur_pair (a b : ℕ → ℝ) (k : ℕ) : recur (pairA a) (pairB a b) k = recur a b (2 * k + 1) := by
  induction k with
  | zero => rfl
  | succ k ih =>
    show pairA a (k + 1) * recur (pairA a) (pairB a b) k + pairB a b (k + 1)
      = a (2 * k + 2 + 1) * (a (2 * k + 1 + 1) * recur a b (2 * k + 1) + b (2 * k + 1 + 1)) + b (2 * k + 2 + 1)
    rw [ih]
    unfold pairA pairB
    rw [show 2 * (k + 1) = 2 * k + 2 by ring]
    ring

/-- The state before row `n`, zero before the first. -/
def prior (a b : ℕ → ℝ) : ℕ → ℝ
  | 0 => 0
  | n + 1 => recur a b n

theorem recur_eq (a b : ℕ → ℝ) (n : ℕ) : recur a b n = a n * prior a b n + b n := by
  cases n with
  | zero => show b 0 = a 0 * 0 + b 0; ring
  | succ n => rfl

/-- The product of the coefficients of rows `s … s + r`. -/
def prodA (a : ℕ → ℝ) (s : ℕ) : ℕ → ℝ
  | 0 => a s
  | r + 1 => a (s + (r + 1)) * prodA a s r

/-- The recurrence over rows `s … s + r`, from nothing. -/
def partB (a b : ℕ → ℝ) (s : ℕ) : ℕ → ℝ
  | 0 => b s
  | r + 1 => a (s + (r + 1)) * partB a b s r + b (s + (r + 1))

/-- A state, from the state before the tile. -/
theorem recur_tile (a b : ℕ → ℝ) (s r : ℕ) : prodA a s r * prior a b s + partB a b s r = recur a b (s + r) := by
  induction r with
  | zero => exact (recur_eq a b s).symm
  | succ r ih =>
    show a (s + (r + 1)) * prodA a s r * prior a b s + (a (s + (r + 1)) * partB a b s r + b (s + (r + 1)))
      = a (s + (r + 1)) * recur a b (s + r) + b (s + (r + 1))
    rw [← ih]
    ring

/-! ## One level of the scan, on arrays -/

/-- `N` rows of a thousand and twenty-four channels. -/
abbrev Level (N : ℕ) : Shape := ⟨3, ![1, N, 1024]⟩

/-- The array holds the reals of a sequence in every channel. -/
def Holds {N : ℕ} (X : (Level N).Idx → EReal) (s : Fin 1024 → ℕ → ℝ) : Prop := ∀ y, X y = ((s (y 2) (y 1).val : ℝ) : EReal)

variable {N M M' : ℕ}

theorem Holds.congr {X : (Level N).Idx → EReal} {s t : Fin 1024 → ℕ → ℝ} (hX : Holds X s) (h : ∀ j k, s j k = t j k) : Holds X t := fun y =>
  (hX y).trans (congrArg (fun v : ℝ => (v : EReal)) (h _ _))

theorem holds_slice {X : (Level N).Idx → EReal} {s : Fin 1024 → ℕ → ℝ} (hX : Holds X s) (o t : ℕ) (h) :
    Holds (Host.slice (Level M) ![0, o, 0] ![1, t, 1] X h) fun j k => s j (o + t * k) := fun y =>
  (hX _).trans (congrArg (fun v : ℝ => (v : EReal)) (congrArg₂ s (Fin.ext ((Nat.zero_add _).trans (Nat.one_mul _))) rfl))

theorem holds_first {X : (Level N).Idx → EReal} {s : Fin 1024 → ℕ → ℝ} (hX : Holds X s) (h) :
    Holds (extractStridedSlice (Level M) ![0, 0, 0] X h) s := fun y =>
  (hX _).trans (congrArg (fun v : ℝ => (v : EReal)) (congrArg₂ s (Fin.ext (Nat.zero_add _)) (Nat.zero_add _)))

theorem holds_mul {X Y : (Level N).Idx → EReal} {s t : Fin 1024 → ℕ → ℝ} (hX : Holds X s) (hY : Holds Y t) :
    Holds (mulf (F := Ideal) (φ := .f32) X Y) fun j k => s j k * t j k := fun y => by
  show X y * Y y = _
  rw [hX y, hY y, EReal.coe_mul]

theorem holds_add {X Y : (Level N).Idx → EReal} {s t : Fin 1024 → ℕ → ℝ} (hX : Holds X s) (hY : Holds Y t) :
    Holds (addf (F := Ideal) (φ := .f32) X Y) fun j k => s j k + t j k := fun y => by
  show X y + Y y = _
  rw [hX y, hY y, EReal.coe_add]

/-- The coefficients of the next level. -/
theorem down_a {A : (Level N).Idx → EReal} {a : Fin 1024 → ℕ → ℝ} (hA : Holds A a) (h0) (h1) :
    Holds (mulf (F := Ideal) (φ := .f32) (Host.slice (Level M) ![0, 0, 0] ![1, 2, 1] A h0) (Host.slice (Level M) ![0, 1, 0] ![1, 2, 1] A h1))
      fun j => pairA (a j) :=
  (holds_mul (holds_slice hA 0 2 h0) (holds_slice hA 1 2 h1)).congr fun j k => by
    unfold pairA
    rw [Nat.zero_add, Nat.add_comm 1]

/-- The inputs of the next level. -/
theorem down_b {A B : (Level N).Idx → EReal} {a b : Fin 1024 → ℕ → ℝ} (hA : Holds A a) (hB : Holds B b) (h0) (h1) (h1') :
    Holds (addf (F := Ideal) (φ := .f32) (mulf (F := Ideal) (φ := .f32) (Host.slice (Level M) ![0, 1, 0] ![1, 2, 1] A h1)
        (Host.slice (Level M) ![0, 0, 0] ![1, 2, 1] B h0)) (Host.slice (Level M) ![0, 1, 0] ![1, 2, 1] B h1'))
      fun j => pairB (a j) (b j) :=
  (holds_add (holds_mul (holds_slice hA 1 2 h1) (holds_slice hB 0 2 h0)) (holds_slice hB 1 2 h1')).congr fun j k => by
    unfold pairB
    rw [Nat.zero_add, Nat.add_comm 1]

/-- The even states: the first input, and each later one from the odd state before it. -/
theorem holds_even {A B : (Level N).Idx → EReal} {H : (Level M).Idx → EReal} {a b : Fin 1024 → ℕ → ℝ} (hA : Holds A a) (hB : Holds B b)
    (hH : Holds H fun j => recur (pairA (a j)) (pairB (a j) (b j))) (hM : M = M' + 1) (h1) (h2) (h3) (h4) (hc) :
    Holds (concatenate (Level M) 1 [⟨Level 1, extractStridedSlice (Level 1) ![0, 0, 0] B h1⟩,
        ⟨Level M', addf (F := Ideal) (φ := .f32) (mulf (F := Ideal) (φ := .f32) (Host.slice (Level M') ![0, 2, 0] ![1, 2, 1] A h2)
          (extractStridedSlice (Level M') ![0, 0, 0] H h3)) (Host.slice (Level M') ![0, 2, 0] ![1, 2, 1] B h4)⟩] hc)
      fun j k => recur (a j) (b j) (2 * k) := by
  subst hM
  intro y
  have hy : (y 1).val < M' + 1 := (y 1).isLt
  by_cases h0 : (y 1).val = 0
  · rw [h0]
    refine (concatenate_apply_piece (t := Level (M' + 1)) 1 _ hc y 0 (Nat.zero_lt_succ _) (Level 1) _ rfl rfl 0 rfl
      (ix3 0 0 (y 2) : (Level 1).Idx) (fun b hb => ?_) ?_).trans (holds_first hB h1 _)
    · match b with
      | 0 => have h : (y 0).val < 1 := (y 0).isLt; show 0 = (y 0).val; omega
      | 1 => exact absurd rfl hb
      | 2 => rfl
    · show 0 + 0 = (y 1).val; omega
  · refine (concatenate_apply_piece (t := Level (M' + 1)) 1 _ hc y 1 (Nat.one_lt_succ_succ _) (Level M') _ rfl rfl 1 rfl
      (ix3 0 ⟨(y 1).val - 1, by omega⟩ (y 2) : (Level M').Idx) (fun b hb => ?_) ?_).trans
      ((holds_add (holds_mul (holds_slice hA 2 2 h2) (holds_first hH h3)) (holds_slice hB 2 2 h4) _).trans ?_)
    · match b with
      | 0 => have h : (y 0).val < 1 := (y 0).isLt; show 0 = (y 0).val; omega
      | 1 => exact absurd rfl hb
      | 2 => rfl
    · show 1 + ((y 1).val - 1) = (y 1).val; omega
    · refine congrArg (fun v : ℝ => (v : EReal)) ?_
      show a (y 2) (2 + 2 * ((y 1).val - 1)) * recur (pairA (a (y 2))) (pairB (a (y 2)) (b (y 2))) ((y 1).val - 1) + b (y 2) (2 + 2 * ((y 1).val - 1))
        = recur (a (y 2)) (b (y 2)) (2 * (y 1).val)
      rw [recur_pair]
      obtain ⟨n, hn⟩ : ∃ n, (y 1).val = n + 1 := ⟨(y 1).val - 1, by omega⟩
      rw [hn, Nat.add_sub_cancel, Nat.add_comm 2]
      rfl

/-- The states of a level, from those of the next: the even ones and the odd ones, each among zeros, added. -/
theorem up {A B : (Level N).Idx → EReal} {H : (Level M).Idx → EReal} {a b : Fin 1024 → ℕ → ℝ} (hA : Holds A a) (hB : Holds B b)
    (hH : Holds H fun j => recur (pairA (a j)) (pairB (a j) (b j))) (hN : N = 2 * M) (hM : M = M' + 1) {u u' : Shape} {c : u.Idx → EReal}
    {c' : u'.Idx → EReal} (h0 : ∀ i, c i = 0) (h0' : ∀ i, c' i = 0) (h1) (h2) (h3) (h4) (hc) (h5) (h6) (h7) (h8) :
    Holds (addf (F := Ideal) (φ := .f32)
      (pad (Level N) ![0, 0, 0] ![0, 1, 0] ![0, 1, 0] (concatenate (Level M) 1 [⟨Level 1, extractStridedSlice (Level 1) ![0, 0, 0] B h1⟩,
        ⟨Level M', addf (F := Ideal) (φ := .f32) (mulf (F := Ideal) (φ := .f32) (Host.slice (Level M') ![0, 2, 0] ![1, 2, 1] A h2)
          (extractStridedSlice (Level M') ![0, 0, 0] H h3)) (Host.slice (Level M') ![0, 2, 0] ![1, 2, 1] B h4)⟩] hc) c h5 h6)
      (pad (Level N) ![0, 1, 0] ![0, 0, 0] ![0, 1, 0] H c' h7 h8)) fun j => recur (a j) (b j) := by
  intro y
  have hy : (y 1).val < N := (y 1).isLt
  have hE := holds_even hA hB hH hM h1 h2 h3 h4 hc
  show pad _ _ _ _ _ _ _ _ y + pad _ _ _ _ _ _ _ _ y = _
  obtain he | ho : (y 1).val % 2 = 0 ∨ (y 1).val % 2 = 1 := by omega
  · rw [pad_apply_of_inside _ _ _ _ c h5 h6 y (ix3 0 ⟨(y 1).val / 2, by omega⟩ (y 2) : (Level M).Idx) (fun a => ?_),
      pad_apply_of_not_inside _ _ _ H c' h7 h8 y 1 (fun h => ?_), h0', add_zero, hE]
    · refine congrArg (fun v : ℝ => (v : EReal)) ?_
      show recur (a (y 2)) (b (y 2)) (2 * ((y 1).val / 2)) = _
      rw [show 2 * ((y 1).val / 2) = (y 1).val by omega]
    · have h' := h.2.1
      have h'' := h.1
      have h' : ((y 1).val - 1) % 2 = 0 := h'
      have h'' : 1 ≤ (y 1).val := h''
      omega
    · match a with
      | 0 => have h : (y 0).val < 1 := (y 0).isLt; show (y 0).val = 0 + 0 * 1; omega
      | 1 => show (y 1).val = 0 + (y 1).val / 2 * 2; omega
      | 2 => show (y 2).val = 0 + (y 2).val * 1; omega
  · rw [pad_apply_of_not_inside _ _ _ _ c h5 h6 y 1 (fun h => ?_),
      pad_apply_of_inside _ _ _ H c' h7 h8 y (ix3 0 ⟨(y 1).val / 2, by omega⟩ (y 2) : (Level M).Idx) (fun a => ?_), h0, zero_add, hH]
    · refine congrArg (fun v : ℝ => (v : EReal)) ?_
      show recur (pairA (a (y 2))) (pairB (a (y 2)) (b (y 2))) ((y 1).val / 2) = _
      rw [recur_pair, show 2 * ((y 1).val / 2) + 1 = (y 1).val by omega]
    · match a with
      | 0 => have h : (y 0).val < 1 := (y 0).isLt; show (y 0).val = 0 + 0 * 1; omega
      | 1 => show (y 1).val = 1 + (y 1).val / 2 * 2; omega
      | 2 => show (y 2).val = 0 + (y 2).val * 1; omega
    · have h' : ((y 1).val - 0) % 2 = 0 := h.2.1
      omega

/-- The only state of the last level. -/
theorem last {B : (Level 1).Idx → EReal} {a b : Fin 1024 → ℕ → ℝ} (hB : Holds B b) : Holds B fun j => recur (a j) (b j) := fun y => by
  rw [hB y, show (y 1).val = 0 from Nat.lt_one_iff.mp (y 1).isLt]
  rfl

end Cert.Scan

end
-- ==== Proof.RnnFwd.Spec.lean ====
/-
  What the recurrence's forward call computes, one head of 128 channels at a time: the convolved input, the
  two gates, the decay, the input's scale, the states and the gated states.
-/
module

public import proofs.«01_k».proof.Proof.Logistic
public import proofs.«01_k».proof.Proof.RnnFwd.Scan

@[expose] public section

noncomputable section

namespace Cert.RnnFwd

open Idealize.ShloMosaic Cert.Logistic Cert.Finite

/-- One head's arguments. -/
structure Head where
  /-- the recurrence's input -/
  u : Fin 4096 → Fin 128 → EReal
  /-- the gate of its output -/
  g : Fin 4096 → Fin 128 → EReal
  /-- the convolution's four taps -/
  c : Fin 4 → Fin 128 → EReal
  /-- the convolution's bias -/
  cb : Fin 128 → EReal
  /-- the recurrence gate's weight -/
  wa : Fin 128 → Fin 128 → EReal
  /-- its bias -/
  ba : Fin 128 → EReal
  /-- the input gate's weight -/
  wx : Fin 128 → Fin 128 → EReal
  /-- its bias -/
  bx : Fin 128 → EReal
  /-- the decay's parameter -/
  lam : Fin 128 → EReal

/-- Every argument is a real number. -/
structure Head.Real (H : Head) : Prop where
  u : ∀ n l, IsReal (H.u n l)
  c : ∀ k l, IsReal (H.c k l)
  cb : ∀ l, IsReal (H.cb l)
  wa : ∀ k l, IsReal (H.wa k l)
  ba : ∀ l, IsReal (H.ba l)
  wx : ∀ k l, IsReal (H.wx k l)
  bx : ∀ l, IsReal (H.bx l)
  lam : ∀ l, IsReal (H.lam l)

/-- The gate's function: `gelu` by a tangent. -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * x * (x * x))))

/-- The same function, its products formed in another order. -/
theorem gelu_eq (x : EReal) : gelu x = x * (Ideal.ofBits .f32 0x3F000000#32 * (Ideal.ofBits .f32 0x3F800000#32
    + Ideal.tanh (Ideal.ofBits .f32 0x3F4C422A#32 * (x + Ideal.ofBits .f32 0x3D372713#32 * (x * x * x))))) := by
  rw [gelu, mul_assoc (Ideal.ofBits .f32 0x3D372713#32) x, mul_assoc x x x, mul_comm (Ideal.ofBits .f32 0x3F000000#32) x, mul_assoc x]

namespace Head

variable (H : Head)

/-- The input `s` rows before row `n`: nothing before the first row. -/
def tap (s : ℕ) (n : Fin 4096) (l : Fin 128) : EReal := if s ≤ n.val then H.u ⟨n.val - s, by omega⟩ l else 0

/-- The convolved input. -/
def v (n : Fin 4096) (l : Fin 128) : EReal :=
  H.c 3 l * H.tap 0 n l + H.c 0 l * H.tap 3 n l + H.c 1 l * H.tap 2 n l + H.c 2 l * H.tap 1 n l + H.cb l

/-- The recurrence gate. -/
def r (n : Fin 4096) (l : Fin 128) : EReal := sig ((∑ k, H.v n k * H.wa k l) + H.ba l)

/-- The input gate. -/
def i (n : Fin 4096) (l : Fin 128) : EReal := sig ((∑ k, H.v n k * H.wx k l) + H.bx l)

/-- The decay's logarithm. -/
def la (n : Fin 4096) (l : Fin 128) : EReal := Ideal.ofBits .f32 0xC1000000#32 * H.r n l * soft (H.lam l)

/-- The decay. -/
def a (n : Fin 4096) (l : Fin 128) : EReal := Ideal.exp (H.la n l)

/-- The input's scale. -/
def sq (n : Fin 4096) (l : Fin 128) : EReal :=
  Ideal.sqrt ((Ideal.ofBits .f32 0x00000000#32 - Ideal.tanh (H.la n l)) * (H.a n l * H.a n l + Ideal.ofBits .f32 0x3F800000#32))

/-- The recurrence's input. -/
def b (n : Fin 4096) (l : Fin 128) : EReal := H.sq n l * H.i n l * H.v n l

/-- A column of 4096 entries, as a sequence of real numbers. -/
def seq (x : Fin 4096 → Fin 128 → EReal) (l : Fin 128) (n : ℕ) : ℝ := if h : n < 4096 then (x ⟨n, h⟩ l).toReal else 0

/-- The states of the recurrence. -/
def h (n : Fin 4096) (l : Fin 128) : EReal := ((Scan.recur (seq H.a l) (seq H.b l) n.val : ℝ) : EReal)

/-- The states by the gate's rows. -/
def z (n : Fin 4096) (l : Fin 128) : EReal := H.h n l * gelu (H.g n l)

theorem seq_of {x : Fin 4096 → Fin 128 → EReal} (l : Fin 128) (n : Fin 4096) (h : IsReal (x n l)) : x n l = ((seq x l n.val : ℝ) : EReal) := by
  unfold seq
  obtain ⟨y, hy⟩ := h
  rw [dif_pos n.isLt]
  show _ = (((x n l).toReal : ℝ) : EReal)
  rw [hy, EReal.toReal_coe]

variable {H}

theorem tap_real (hH : H.Real) (s : ℕ) (n : Fin 4096) (l : Fin 128) : IsReal (H.tap s n l) := by
  unfold tap
  split
  · exact hH.u _ _
  · exact isReal_coe 0

theorem v_real (hH : H.Real) (n : Fin 4096) (l : Fin 128) : IsReal (H.v n l) :=
  ((((((hH.c _ _).mul (tap_real hH _ _ _)).add ((hH.c _ _).mul (tap_real hH _ _ _))).add ((hH.c _ _).mul (tap_real hH _ _ _))).add
    ((hH.c _ _).mul (tap_real hH _ _ _))).add (hH.cb l))

theorem r_real (hH : H.Real) (n : Fin 4096) (l : Fin 128) : ∃ s : ℝ, 0 ≤ s ∧ H.r n l = (s : EReal) :=
  sig_real ((IsReal.sum fun k => (v_real hH n k).mul (hH.wa k l)).add (hH.ba l))

theorem i_real (hH : H.Real) (n : Fin 4096) (l : Fin 128) : IsReal (H.i n l) :=
  let ⟨s, _, h⟩ := sig_real ((IsReal.sum fun k => (v_real hH n k).mul (hH.wx k l)).add (hH.bx l))
  ⟨s, h⟩

theorem la_real (hH : H.Real) (n : Fin 4096) (l : Fin 128) : ∃ L : ℝ, L ≤ 0 ∧ H.la n l = (L : EReal) := by
  obtain ⟨s, hs, e⟩ := r_real hH n l
  refine ⟨-8 * s * Real.log (1 + Real.exp (-(H.lam l).toReal)), ?_, ?_⟩
  · have : 0 ≤ Real.log (1 + Real.exp (-(H.lam l).toReal)) := Real.log_nonneg (by have := Real.exp_pos (-(H.lam l).toReal); linarith)
    have := mul_nonneg hs this
    nlinarith
  · rw [la, e, word_minus_eight, ← EReal.coe_mul, ← EReal.coe_mul]

theorem a_real (hH : H.Real) (n : Fin 4096) (l : Fin 128) : IsReal (H.a n l) := by
  obtain ⟨L, _, e⟩ := la_real hH n l
  exact ⟨Real.exp L, by rw [a, e, Ideal.exp_coe]⟩

/-- The input's scale by `1 - exp`. -/
theorem sq_eq (hH : H.Real) (n : Fin 4096) (l : Fin 128) :
    H.sq n l = Ideal.sqrt (-(Ideal.exp (Ideal.ofBits .f32 0x40000000#32 * H.la n l) - 1)) := by
  obtain ⟨L, _, e⟩ := la_real hH n l
  rw [sq, a, e, word_zero, word_one, word_two, Ideal.tanh_coe, Ideal.exp_coe, ← EReal.coe_mul, ← EReal.coe_mul, Ideal.exp_coe, ← EReal.coe_sub,
    ← EReal.coe_add, ← EReal.coe_mul, scale_eq, ← EReal.coe_one, ← EReal.coe_sub, ← EReal.coe_neg]

theorem sq_real (hH : H.Real) (n : Fin 4096) (l : Fin 128) : IsReal (H.sq n l) := by
  obtain ⟨L, hL, e⟩ := la_real hH n l
  have h1 : Real.exp (2 * L) ≤ 1 := Real.exp_le_one_iff.2 (by linarith)
  refine ⟨Real.sqrt (-(Real.exp (2 * L) - 1)), ?_⟩
  rw [sq_eq hH, e, word_two, ← EReal.coe_mul, Ideal.exp_coe, ← EReal.coe_one, ← EReal.coe_sub, ← EReal.coe_neg, Ideal.sqrt_coe, if_neg (by linarith)]

theorem b_real (hH : H.Real) (n : Fin 4096) (l : Fin 128) : IsReal (H.b n l) :=
  ((sq_real hH n l).mul (i_real hH n l)).mul (v_real hH n l)

end Head

open Tactic

/-- Channel `l` of head `t`. -/
abbrev chan (t : Fin 8) (l : Fin 128) : Fin 1024 := ⟨128 * t.val + l.val, by omega⟩

/-- A head of the call's arguments: the input product, the convolution's taps and bias, the gates' weights and
    biases, and the decay's parameter. -/
def head (x0 : (⟨2, ![4096, 4608]⟩ : Shape).Idx → EReal) (x1 : (⟨3, ![1, 4, 1024]⟩ : Shape).Idx → EReal) (x2 : (⟨2, ![1, 1024]⟩ : Shape).Idx → EReal)
    (x3 : (⟨4, ![1, 8, 128, 128]⟩ : Shape).Idx → EReal) (x4 : (⟨3, ![1, 8, 128]⟩ : Shape).Idx → EReal)
    (x5 : (⟨4, ![1, 8, 128, 128]⟩ : Shape).Idx → EReal) (x6 : (⟨3, ![1, 8, 128]⟩ : Shape).Idx → EReal)
    (x7 : (⟨2, ![1, 1024]⟩ : Shape).Idx → EReal) (t : Fin 8) : Head where
  u n l := x0 (ix2 n ⟨512 + (chan t l).val, by omega⟩)
  g n l := x0 (ix2 n ⟨1536 + (chan t l).val, by omega⟩)
  c k l := x1 (ix3 0 k (chan t l))
  cb l := x2 (ix2 0 (chan t l))
  wa k l := x3 (ix4 0 t k l)
  ba l := x4 (ix3 0 t l)
  wx k l := x5 (ix4 0 t k l)
  bx l := x6 (ix3 0 t l)
  lam l := x7 (ix2 0 (chan t l))

/-- The head of a channel. -/
abbrev headOf (j : Fin 1024) : Fin 8 := ⟨j.val / 128, by omega⟩

/-- A channel's place in its head. -/
abbrev laneOf (j : Fin 1024) : Fin 128 := ⟨j.val % 128, Nat.mod_lt _ (by decide)⟩

/-- The heads' results, side by side. -/
def wide (f : Fin 8 → Fin 4096 → Fin 128 → EReal) : (⟨2, ![4096, 1024]⟩ : Shape).Idx → EReal := fun i => f (headOf (i 1)) (i 0) (laneOf (i 1))

theorem chan_split (j : Fin 1024) : chan (headOf j) (laneOf j) = j := Fin.ext (by show 128 * (j.val / 128) + j.val % 128 = j.val; omega)

theorem wide_at (f : Fin 8 → Fin 4096 → Fin 128 → EReal) (i : (⟨2, ![4096, 1024]⟩ : Shape).Idx) (t : Fin 8) (n : Fin 4096) (l : Fin 128)
    (h0 : (i 0).val = n.val) (h1 : (i 1).val = 128 * t.val + l.val) : wide f i = f t n l := by
  have ht : headOf (i 1) = t := Fin.ext (by show (i 1).val / 128 = _; omega)
  have hl : laneOf (i 1) = l := Fin.ext (by show (i 1).val % 128 = _; omega)
  have hn : i 0 = n := Fin.ext h0
  unfold wide
  rw [ht, hl, hn]

end Cert.RnnFwd

end
-- ==== Proof.RnnFwd.Loops.lean ====
/-
  The four loops of the recurrent branch's forward kernel, by the values they leave.

  Each trip is a plain function of what the buffers hold; the state before trip `k` is those functions
  applied in turn (`Trips.iter`); the invariants say that the buffers hold that state.
-/
module

public import proofs.«01_k».proof.Proof.Trips
public import proofs.«01_k».proof.Proof.Gen.RnnFwdKernelIdeal.Loops

@[expose] public section

set_option maxRecDepth 16384

noncomputable section

namespace Cert.RnnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RnnFwdKernelIdeal Cert.RnnFwdKernelIdeal.Gen Cert.Trips

variable {F : FTy → Type} [FloatOps F]

/-- The resource algebra of the frame kit. -/
local notation "𝕄" => MT nD τ sig Unit (Elt F) ℕ (UR sig nD τ) ℕ

/-! ## One trip -/

/-- Trip `k` of the first loop: rows `1024 k …` of the input, put behind the eight rows in front. -/
def padTrip (x : Vec F S4096x128 .f32) (k : Fin k0_t1_loop.trips) (z : Vec F S4104x128 .f32) : Vec F S4104x128 .f32 :=
  VecWindow.put z (k0_off2 k) S1024x128.size (k0_pay26 (VecWindow.window x (k0_off1 k) S1024x128.size (k0_off1_inb k)))

/-- What the second loop reads besides the rows: the taps and bias of the convolution, the gates' weights and
    biases, the decay's parameter and what is computed from it. -/
structure Params (F : FTy → Type) where
  /-- the first tap -/
  t0 : FVec F S1x128 .f32
  /-- the second tap -/
  t1 : FVec F S1x128 .f32
  /-- the third tap -/
  t2 : FVec F S1x128 .f32
  /-- the fourth tap -/
  t3 : FVec F S1x128 .f32
  /-- the convolution's bias -/
  cb : Vec F S1x128 .f32
  /-- the recurrence gate's weight -/
  wa : FVec F S128x128 .bf16
  /-- the input gate's weight -/
  wx : FVec F S128x128 .bf16
  /-- the recurrence gate's bias -/
  ba : FVec F S1x128 .f32
  /-- the input gate's bias -/
  bx : FVec F S1x128 .f32
  /-- the decay's parameter -/
  lam : Vec F S1x128 .f32
  /-- a part of its softplus -/
  lp : FVec F S1x128 .f32

/-- Trip `k`'s rows of the padded input, the eight rows before them included. -/
def padRows (u : Vec F S4104x128 .f32) (k : Fin k0_t2_loop.trips) : Vec F S1032x128 .f32 :=
  VecWindow.window u (k0_off3 k) S1032x128.size (k0_off3_inb k)

/-- The convolved rows of trip `k`. -/
def vRows (p : Params F) (u : Vec F S4104x128 .f32) (k : Fin k0_t2_loop.trips) : FVec F S1024x128 .f32 :=
  k0_pay8 p.t0 p.t1 p.t2 p.t3 p.cb (padRows u k)

/-- The recurrence gate's rows of trip `k`. -/
def rRows (p : Params F) (u : Vec F S4104x128 .f32) (k : Fin k0_t2_loop.trips) : FVec F S1024x128 .f32 :=
  k0_pay10 p.t0 p.t1 p.t2 p.t3 p.cb p.wa p.ba (padRows u k)

/-- The input gate's rows of trip `k`, before the last two operations. -/
def xRows (p : Params F) (u : Vec F S4104x128 .f32) (k : Fin k0_t2_loop.trips) : FVec F S1024x128 .f32 :=
  k0_pay11 p.t0 p.t1 p.t2 p.t3 p.cb p.wx p.bx (padRows u k)

/-- One half. -/
def half : F .f32 := Scalar.ofBits .f32 0x3F000000#32

/-- Put `w` over trip `k`'s rows. -/
def putRows (k : Fin k0_t2_loop.trips) (w : Vec F S1024x128 .f32) (z : Vec F S4096x128 .f32) : Vec F S4096x128 .f32 :=
  VecWindow.put z (k0_off4 k) S1024x128.size w

/-- Trip `k` on the convolved input. -/
def vTrip (p : Params F) (u : Vec F S4104x128 .f32) (k : Fin k0_t2_loop.trips) : Vec F S4096x128 .f32 → Vec F S4096x128 .f32 :=
  putRows k (vRows p u k)

/-- Trip `k` on the recurrence gate. -/
def rTrip (p : Params F) (u : Vec F S4104x128 .f32) (k : Fin k0_t2_loop.trips) : Vec F S4096x128 .f32 → Vec F S4096x128 .f32 :=
  putRows k (rRows p u k)

/-- Trip `k` on the input gate. -/
def xTrip (p : Params F) (u : Vec F S4104x128 .f32) (k : Fin k0_t2_loop.trips) : Vec F S4096x128 .f32 → Vec F S4096x128 .f32 :=
  putRows k (k0_pay36 (xRows p u k) half)

/-- Trip `k` on the decay. -/
def aTrip (p : Params F) (u : Vec F S4104x128 .f32) (k : Fin k0_t2_loop.trips) : Vec F S4096x128 .f32 → Vec F S4096x128 .f32 :=
  putRows k (k0_pay38 p.lam p.lp (rRows p u k))

/-- Trip `k` on the input's scale. -/
def sTrip (p : Params F) (u : Vec F S4104x128 .f32) (k : Fin k0_t2_loop.trips) : Vec F S4096x128 .f32 → Vec F S4096x128 .f32 :=
  putRows k (k0_pay39 p.lam p.lp (rRows p u k))

/-- Trip `k` on the recurrence's coefficients. -/
def coefTrip (p : Params F) (u : Vec F S4104x128 .f32) (k : Fin k0_t2_loop.trips) : Vec F S4096x128 .f32 → Vec F S4096x128 .f32 :=
  putRows k (k0_pay40 p.lam p.lp (rRows p u k))

/-- Trip `k` on the recurrence's inputs. -/
def inTrip (p : Params F) (u : Vec F S4104x128 .f32) (k : Fin k0_t2_loop.trips) : Vec F S4096x128 .f32 → Vec F S4096x128 .f32 :=
  putRows k (k0_pay41 p.lam p.lp (vRows p u k) (rRows p u k) (xRows p u k) half)

/-- The last of eight rows, eight times. -/
def lastRow (x : Vec F S8x128 .f32) : FVec F S8x128 .f32 :=
  broadcastTo S8x128 (shapeCast S1x128 (extractStridedSlice S1x128 ![7, 0] x slices_S8x128_o7_0_S1x128) shapeCasts_S1x128_S1x128) broadcasts_S1x128_S8x128

/-- The third loop's state: the states of the recurrence, and the last one so far, eight times. -/
structure Carried (F : FTy → Type) where
  /-- the states of the recurrence -/
  out : Vec F S4096x128 .f32
  /-- the last state so far -/
  last : FVec F S8x128 .f32

/-- Rows of tile `j` of trip `k`. -/
def tileRows (x : Vec F S4096x128 .f32) (k : Fin k0_t3_loop.trips) (j : Fin 8) : Vec F S8x128 .f32 :=
  VecWindow.window x (k0_off5 k (BitVec.ofNat 32 j.val)) S8x128.size (k0_off5_inb k j)

/-- Tile `j` of trip `k`: the state that enters it is carried over its eight rows. -/
def tileStep (a b : Vec F S4096x128 .f32) (k : Fin k0_t3_loop.trips) (j : Fin 8) (s : Carried F) : Carried F :=
  ⟨VecWindow.put s.out (k0_off5 k (BitVec.ofNat 32 j.val)) S8x128.size (addf (mulf (tileRows a k j) s.last) (tileRows b k j)),
    addf (mulf (lastRow (tileRows a k j)) s.last) (lastRow (tileRows b k j))⟩

/-- Trip `k` of the third loop: eight tiles. -/
def carryTrip (a b : Vec F S4096x128 .f32) (k : Fin k0_t3_loop.trips) (s : Carried F) : Carried F :=
  tileStep a b k 7 (tileStep a b k 6 (tileStep a b k 5 (tileStep a b k 4 (tileStep a b k 3 (tileStep a b k 2 (tileStep a b k 1 (tileStep a b k 0 s)))))))

/-- Trip `k` of the fourth loop, on the gate's rows `u` and the states `h`. -/
def outTrip (u h : Vec F S4096x128 .f32) (k : Fin k0_t4_loop.trips) (z : Vec F S4096x128 .bf16) : Vec F S4096x128 .bf16 :=
  VecWindow.put z (k0_off6 k) S1024x128.size
    (k0_pay7 (VecWindow.window u (k0_off6 k) S1024x128.size (k0_off6_inb k)) (VecWindow.window h (k0_off6 k) S1024x128.size (k0_off6_inb k)))

/-! ## The invariants -/

variable (𝒱 : Variants) (c : Dev nD) (bd : Option 𝒱.V) (E : Set ℕ) (i : grid0.Coords)
  (arg1 : Memref sig .tc .vmem S4096x128 .f32) (harg1 : arg1.IsWhole) (arg2 : Memref sig .tc .vmem S4096x128 .f32) (harg2 : arg2.IsWhole)
  (arg3 : Memref sig .tc .vmem S4x128 .f32) (harg3 : arg3.IsWhole) (arg4 : Memref sig .tc .vmem S1x128 .f32) (harg4 : arg4.IsWhole)
  (arg5 : Memref sig .tc .vmem S1x128x128 .f32) (harg5 : arg5.IsWhole) (arg6 : Memref sig .tc .vmem S1x128 .f32) (harg6 : arg6.IsWhole)
  (arg7 : Memref sig .tc .vmem S1x128x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S4096x128 .f32) (harg10 : arg10.IsWhole)
  (arg11 : Memref sig .tc .vmem S4096x128 .bf16) (harg11 : arg11.IsWhole) (arg12 : Memref sig .tc .vmem S4096x128 .f32) (harg12 : arg12.IsWhole)
  (arg13 : Memref sig .tc .vmem S4096x128 .f32) (harg13 : arg13.IsWhole) (arg14 : Memref sig .tc .vmem S4096x128 .f32) (harg14 : arg14.IsWhole)
  (arg15 : Memref sig .tc .vmem S4096x128 .f32) (harg15 : arg15.IsWhole) (arg16 : Memref sig .tc .vmem S4096x128 .f32) (harg16 : arg16.IsWhole)
  (arg17 : Memref sig .tc .vmem S4104x128 .f32) (harg17 : arg17.IsWhole) (arg18 : Memref sig .tc .vmem S4096x128 .f32) (harg18 : arg18.IsWhole)
  (arg19 : Memref sig .tc .vmem S4096x128 .f32) (harg19 : arg19.IsWhole)

set_option warn.classDefReducibility false in
/-- The first loop: before trip `k` the padded buffer holds the first `k` trips. -/
@[sl_loop] def loopInv_k0_t1 (X : BufTy.Contents (Elt F) arg1.view.ty) (G : BufTy.Contents (Elt F) arg17.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 where
  inv k _ := iprop((arg1.view.loc (c : Thread nD τ) ↦[arg1.view.set]{fullShare} X)
    ∗ (∃ f, (arg17.view.loc (c : Thread nD τ) ↦[arg17.view.set]{fullShare} f) ∗ ⌜arg17.view.read (Elt F) f = iter (padTrip (arg1.view.read (Elt F) X)) (arg17.view.read (Elt F) G) k⌝))
  step k acc := by
    unfold k0_t1_body
    iintro ⟨HR, ⟨%f, HW, %h⟩⟩
    sl_exec
    sl_step
    isplitl [HR]; · iexact HR
    iexists _; isplitl [HW]; · iexact HW
    ipureintro
    rw [iter_succ, ← h]
    exact View.read_writes_cons_put _ _ _ _ _ rfl

set_option maxHeartbeats 1600000 in
set_option warn.classDefReducibility false in
/-- The second loop: before trip `k` the seven buffers it fills hold the first `k` trips. -/
@[sl_loop] def loopInv_k0_t2 (v6 v8 v10 v12 : FVec F S1x128 .f32) (v13 : Vec F S1x128 .f32) (v16 v19 : FVec F S128x128 .bf16)
    (v21 v23 : FVec F S1x128 .f32) (v24 : Vec F S1x128 .f32) (v26 : FVec F S1x128 .f32)
    (X : BufTy.Contents (Elt F) arg17.view.ty) (G12 : BufTy.Contents (Elt F) arg12.view.ty) (G13 : BufTy.Contents (Elt F) arg13.view.ty)
    (G14 : BufTy.Contents (Elt F) arg14.view.ty) (G15 : BufTy.Contents (Elt F) arg15.view.ty) (G16 : BufTy.Contents (Elt F) arg16.view.ty)
    (G18 : BufTy.Contents (Elt F) arg18.view.ty) (G19 : BufTy.Contents (Elt F) arg19.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v6 v8 v10 v12 v13 v16 v19 v21 v23 v24 v26 where
  inv k _ := iprop((arg17.view.loc (c : Thread nD τ) ↦[arg17.view.set]{fullShare} X)
    ∗ (∃ f, (arg12.view.loc (c : Thread nD τ) ↦[arg12.view.set]{fullShare} f) ∗ ⌜arg12.view.read (Elt F) f = iter (vTrip ⟨v6, v8, v10, v12, v13, v16, v19, v21, v23, v24, v26⟩ (arg17.view.read (Elt F) X)) (arg12.view.read (Elt F) G12) k⌝)
    ∗ (∃ f, (arg13.view.loc (c : Thread nD τ) ↦[arg13.view.set]{fullShare} f) ∗ ⌜arg13.view.read (Elt F) f = iter (rTrip ⟨v6, v8, v10, v12, v13, v16, v19, v21, v23, v24, v26⟩ (arg17.view.read (Elt F) X)) (arg13.view.read (Elt F) G13) k⌝)
    ∗ (∃ f, (arg14.view.loc (c : Thread nD τ) ↦[arg14.view.set]{fullShare} f) ∗ ⌜arg14.view.read (Elt F) f = iter (xTrip ⟨v6, v8, v10, v12, v13, v16, v19, v21, v23, v24, v26⟩ (arg17.view.read (Elt F) X)) (arg14.view.read (Elt F) G14) k⌝)
    ∗ (∃ f, (arg15.view.loc (c : Thread nD τ) ↦[arg15.view.set]{fullShare} f) ∗ ⌜arg15.view.read (Elt F) f = iter (aTrip ⟨v6, v8, v10, v12, v13, v16, v19, v21, v23, v24, v26⟩ (arg17.view.read (Elt F) X)) (arg15.view.read (Elt F) G15) k⌝)
    ∗ (∃ f, (arg16.view.loc (c : Thread nD τ) ↦[arg16.view.set]{fullShare} f) ∗ ⌜arg16.view.read (Elt F) f = iter (sTrip ⟨v6, v8, v10, v12, v13, v16, v19, v21, v23, v24, v26⟩ (arg17.view.read (Elt F) X)) (arg16.view.read (Elt F) G16) k⌝)
    ∗ (∃ f, (arg18.view.loc (c : Thread nD τ) ↦[arg18.view.set]{fullShare} f) ∗ ⌜arg18.view.read (Elt F) f = iter (coefTrip ⟨v6, v8, v10, v12, v13, v16, v19, v21, v23, v24, v26⟩ (arg17.view.read (Elt F) X)) (arg18.view.read (Elt F) G18) k⌝)
    ∗ (∃ f, (arg19.view.loc (c : Thread nD τ) ↦[arg19.view.set]{fullShare} f) ∗ ⌜arg19.view.read (Elt F) f = iter (inTrip ⟨v6, v8, v10, v12, v13, v16, v19, v21, v23, v24, v26⟩ (arg17.view.read (Elt F) X)) (arg19.view.read (Elt F) G19) k⌝))
  step k acc := by
    unfold k0_t2_body
    iintro ⟨HX, ⟨%f12, H12, %h12⟩, ⟨%f13, H13, %h13⟩, ⟨%f14, H14, %h14⟩, ⟨%f15, H15, %h15⟩, ⟨%f16, H16, %h16⟩, ⟨%f18, H18, %h18⟩, ⟨%f19, H19, %h19⟩⟩
    sl_exec
    sl_step
    simp only [iter_succ]
    isplitl [HX]; · iexact HX
    isplitl [H12]
    · iexists _; isplitl [H12]; · iexact H12
      ipureintro; rw [← h12]; exact View.read_writes_cons_put _ _ _ _ _ rfl
    isplitl [H13]
    · iexists _; isplitl [H13]; · iexact H13
      ipureintro; rw [← h13]; exact View.read_writes_cons_put _ _ _ _ _ rfl
    isplitl [H14]
    · iexists _; isplitl [H14]; · iexact H14
      ipureintro; rw [← h14]; exact View.read_writes_cons_put _ _ _ _ _ rfl
    isplitl [H15]
    · iexists _; isplitl [H15]; · iexact H15
      ipureintro; rw [← h15]; exact View.read_writes_cons_put _ _ _ _ _ rfl
    isplitl [H16]
    · iexists _; isplitl [H16]; · iexact H16
      ipureintro; rw [← h16]; exact View.read_writes_cons_put _ _ _ _ _ rfl
    isplitl [H18]
    · iexists _; isplitl [H18]; · iexact H18
      ipureintro; rw [← h18]; exact View.read_writes_cons_put _ _ _ _ _ rfl
    iexists _; isplitl [H19]; · iexact H19
    ipureintro; rw [← h19]; exact View.read_writes_cons_put _ _ _ _ _ rfl

set_option maxHeartbeats 1600000 in
set_option warn.classDefReducibility false in
/-- The third loop: before trip `k` the states and the carried state are those of the first `k` trips. -/
@[sl_loop] def loopInv_k0_t3 (A : BufTy.Contents (Elt F) arg18.view.ty) (B : BufTy.Contents (Elt F) arg19.view.ty)
    (G : BufTy.Contents (Elt F) arg10.view.ty) (init : FVec F S8x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 init where
  inv k acc := iprop((arg18.view.loc (c : Thread nD τ) ↦[arg18.view.set]{fullShare} A) ∗ (arg19.view.loc (c : Thread nD τ) ↦[arg19.view.set]{fullShare} B)
    ∗ (∃ f, (arg10.view.loc (c : Thread nD τ) ↦[arg10.view.set]{fullShare} f) ∗ ⌜arg10.view.read (Elt F) f = (iter (carryTrip (arg18.view.read (Elt F) A) (arg19.view.read (Elt F) B)) ⟨arg10.view.read (Elt F) G, init⟩ k).out⌝)
    ∗ ⌜acc = (iter (carryTrip (arg18.view.read (Elt F) A) (arg19.view.read (Elt F) B)) ⟨arg10.view.read (Elt F) G, init⟩ k).last⌝)
  step k acc := by
    unfold k0_t3_body
    iintro ⟨HA, HB, ⟨%f, HW, %h⟩, %hc⟩
    subst hc
    sl_exec
    sl_step
    rw [iter_succ]
    isplitl [HA]; · iexact HA
    isplitl [HB]; · iexact HB
    isplitl [HW]
    · iexists _; isplitl [HW]; · iexact HW
      ipureintro
      iterate 8 rw [View.read_writes_cons_put _ _ _ _ _ rfl]
      rw [show arg10.view.writes (Elt F) f [] = f from rfl, h]
      rfl
    ipureintro
    rfl

set_option warn.classDefReducibility false in
/-- The fourth loop: before trip `k` the result holds the first `k` trips. -/
@[sl_loop] def loopInv_k0_t4 (X2 : BufTy.Contents (Elt F) arg2.view.ty) (X10 : BufTy.Contents (Elt F) arg10.view.ty)
    (G : BufTy.Contents (Elt F) arg11.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 where
  inv k _ := iprop((arg2.view.loc (c : Thread nD τ) ↦[arg2.view.set]{fullShare} X2) ∗ (arg10.view.loc (c : Thread nD τ) ↦[arg10.view.set]{fullShare} X10)
    ∗ (∃ f, (arg11.view.loc (c : Thread nD τ) ↦[arg11.view.set]{fullShare} f) ∗ ⌜arg11.view.read (Elt F) f = iter (outTrip (arg2.view.read (Elt F) X2) (arg10.view.read (Elt F) X10)) (arg11.view.read (Elt F) G) k⌝))
  step k acc := by
    unfold k0_t4_body
    iintro ⟨H2, H10, ⟨%f, HW, %h⟩⟩
    sl_exec
    sl_step
    isplitl [H2]; · iexact H2
    isplitl [H10]; · iexact H10
    iexists _; isplitl [HW]; · iexact HW
    ipureintro
    rw [iter_succ, ← h]
    exact View.read_writes_cons_put _ _ _ _ _ rfl

end Cert.RnnFwd

end
-- ==== Proof.RnnFwd.Rows.lean ====
/-
  Every eighth row of an array: what a strided load reads, what strided stores leave.
-/
module

public import proofs.«01_k».proof.Proof.Trips
public import Idealize.ShloMosaic.Lib.Writes

@[expose] public section

set_option maxRecDepth 16384

noncomputable section

namespace Cert.Rows

open Idealize.ShloMosaic Idealize.ShloMosaic.Pointwise

/-- Four thousand and ninety-six rows. -/
abbrev Whole : Shape := ⟨2, ![4096, 128]⟩
/-- Every eighth of a thousand and twenty-four rows. -/
abbrev Some : Shape := ⟨2, ![128, 128]⟩

variable {α : Type}

/-- Row `n` of an array, the entry of column `j` (rows counted modulo their number). -/
def at_ (x : Whole.Idx → α) (n : ℕ) (j : Fin 128) : α := x (ix2 (Fin.ofNat 4096 n) j)

theorem at_eq (x : Whole.Idx → α) (y : Whole.Idx) : at_ x (y 0).val (y 1) = x y := by
  unfold at_
  rw [show Fin.ofNat 4096 (y 0).val = y 0 from Fin.ext (Nat.mod_eq_of_lt (y 0).isLt)]
  exact congrArg x (eq_ix2 y).symm

theorem at_of_eq (x : Whole.Idx → α) (n : ℕ) (j : Fin 128) (y : Whole.Idx) (h0 : (y 0).val = n) (h1 : y 1 = j) : x y = at_ x n j := by
  subst h0; subst h1; exact (at_eq x y).symm

variable {sig : RefSig} {κ : Kind} {sp : Space} {Val : EltTy → Type} {e : EltTy} (v : View sig κ sp Whole e) (f : v.ty.Contents Val)

/-- A load of every eighth row from row `o`. -/
theorem load_apply (o : ℕ) (inb) (x : Some.Idx) :
    v.readAt Val (⟨![o, 0], ![128, 128], ![8, 1], inb⟩ : LoadRect Whole) f x = at_ (v.read Val f) (8 * (x 0).val + o) (x 1) :=
  at_of_eq _ _ _ _ (by show o + 8 * (x 0).val = _; omega) (Fin.ext (by show 0 + 1 * (x 1).val = _; omega))

/-- Such a load passes a store of other rows. -/
theorem load_skip (o o' : ℕ) (inb) (inb') (pos) (w) (L : List (View.Piece Val Whole e))
    (h : o % 8 ≠ o' % 8 ∨ o + 1016 < o' ∨ o' + 1016 < o) :
    v.readAt Val (⟨![o, 0], ![128, 128], ![8, 1], inb⟩ : LoadRect Whole) (v.writes Val f (⟨⟨⟨![o', 0], ![128, 128], ![8, 1], inb'⟩, pos⟩, w⟩ :: L))
      = v.readAt Val (⟨![o, 0], ![128, 128], ![8, 1], inb⟩ : LoadRect Whole) (v.writes Val f L) := by
  funext x
  refine View.read_writes_cons_miss v f _ L _ fun hy => ?_
  obtain ⟨j, hj, hy'⟩ := (LoadRect.mem_set _).mp hy 0
  have h0 : (x 0).val < 128 := (x 0).isLt
  have hj : j < 128 := hj
  have hy' : o + 8 * (x 0).val = o' + 8 * j := hy'
  omega

/-- Where a store of every eighth row from row `o` puts the row `x`. -/
theorem emb_zero (o : ℕ) (inb) (pos) (x : Some.Idx) :
    (((⟨⟨![o, 0], ![128, 128], ![8, 1], inb⟩, pos⟩ : Rect Whole).emb x) 0).val = 8 * (x 0).val + o := by
  show o + 8 * (x 0).val = _; omega

theorem emb_one (o : ℕ) (inb) (pos) (x : Some.Idx) :
    ((⟨⟨![o, 0], ![128, 128], ![8, 1], inb⟩, pos⟩ : Rect Whole).emb x) 1 = x 1 :=
  Fin.ext (by show 0 + 1 * (x 1).val = _; omega)

/-- A place is among the rows of such a store. -/
theorem mem_rows (o : ℕ) (inb) (pos) (y : Whole.Idx) (h : o ≤ (y 0).val ∧ (y 0).val ≤ o + 1016 ∧ (y 0).val % 8 = o % 8) :
    y ∈ (⟨⟨![o, 0], ![128, 128], ![8, 1], inb⟩, pos⟩ : Rect Whole).set := by
  have h1 : (y 1).val < 128 := (y 1).isLt
  refine (LoadRect.mem_set _).mpr fun a => match a with
    | 0 => ⟨((y 0).val - o) / 8, by show _ < 128; omega, by show (y 0).val = o + 8 * (((y 0).val - o) / 8); omega⟩
    | 1 => ⟨(y 1).val, h1, by show (y 1).val = 0 + 1 * (y 1).val; omega⟩

/-- A rectangle by its numbers. -/
def numbers (q : Rect Whole) : ℕ × ℕ × ℕ × ℕ × ℕ × ℕ := (q.off 0, q.off 1, q.size 0, q.size 1, q.stride 0, q.stride 1)

/-- The numbers of every eighth row from row `o`. -/
def rowsNumbers (o : ℕ) : ℕ × ℕ × ℕ × ℕ × ℕ × ℕ := (o, 0, 128, 128, 8, 1)

/-- The stores of a list cover the rows at which they are, in blocks of a hundred and twenty-eight tiles. -/
theorem cover {Qs : List (ℕ × ℕ × ℕ × ℕ × ℕ × ℕ)} (L : List (View.Piece Val Whole e)) (hL : L.map (fun p => numbers p.1) = Qs)
    (y : Whole.Idx) (h : rowsNumbers (1024 * ((y 0).val / 1024) + (y 0).val % 8) ∈ Qs) : ∃ p ∈ L, y ∈ p.1.set := by
  have h0 : (y 0).val < 4096 := (y 0).isLt
  have h1 : (y 1).val < 128 := (y 1).isLt
  subst hL
  obtain ⟨p, hp, hn⟩ := List.mem_map.mp h
  obtain ⟨ho, hn⟩ := Prod.mk.inj hn
  obtain ⟨ho', hn⟩ := Prod.mk.inj hn
  obtain ⟨hs, hn⟩ := Prod.mk.inj hn
  obtain ⟨hs', hn⟩ := Prod.mk.inj hn
  obtain ⟨ht, ht'⟩ := Prod.mk.inj hn
  refine ⟨p, hp, (LoadRect.mem_set _).mpr fun a => ?_⟩
  match a with
  | 0 =>
    refine ⟨((y 0).val - (1024 * ((y 0).val / 1024) + (y 0).val % 8)) / 8, ?_, ?_⟩
    · rw [hs]; omega
    · rw [ho, ht]; omega
  | 1 => exact ⟨(y 1).val, by rw [hs']; exact h1, by rw [ho', ht']; omega⟩

/-- A row at none of the stores' places in a tile is in none of them. -/
theorem not_mem {Qs : List (ℕ × ℕ × ℕ × ℕ × ℕ × ℕ)} (L : List (View.Piece Val Whole e)) (hL : L.map (fun p => numbers p.1) = Qs)
    (r : ℕ) (h : ∀ q ∈ Qs, q.1 % 8 ≠ r ∧ q.2.2.2.2.1 = 8) (y : Whole.Idx) (hy : (y 0).val % 8 = r) : ∀ p ∈ L, y ∉ p.1.set := by
  subst hL
  intro p hp hm
  obtain ⟨hne, ht⟩ := h _ (List.mem_map_of_mem hp)
  obtain ⟨j, -, hj⟩ := (LoadRect.mem_set _).mp hm 0
  have ht : p.1.stride 0 = 8 := ht
  have hne : p.1.off 0 % 8 ≠ r := hne
  rw [ht] at hj
  omega

/-- Stores that miss a place leave what was there. -/
theorem read_writes_miss (L : List (View.Piece Val Whole e)) (y : Whole.Idx) (h : ∀ p ∈ L, y ∉ p.1.set) :
    v.read Val (v.writes Val f L) y = v.read Val f y := by
  induction L with
  | nil => rfl
  | cons p L ih => exact (View.read_writes_cons_miss v f p L y (h p List.mem_cons_self)).trans (ih fun q hq => h q (List.mem_cons_of_mem _ hq))

/-- What the stores of a list leave, if each agrees with one array, and where there is none the array is what was
    there before. -/
theorem read_rows (G : Whole.Idx → Val e) (L : List (View.Piece Val Whole e)) (hG : ∀ p ∈ L, ∀ x, p.2 x = G (p.1.emb x))
    (hc : ∀ y : Whole.Idx, (∃ p ∈ L, y ∈ p.1.set) ∨ (∀ p ∈ L, y ∉ p.1.set) ∧ v.read Val f y = G y) : v.read Val (v.writes Val f L) = G :=
  funext fun y => match hc y with
    | .inl h => View.read_writes_apply_of_pieces v f G L hG y h
    | .inr h => (read_writes_miss v f L y h.1).trans h.2

/-- The numbers of the rows `s … 7` of all tiles, the last first. -/
def allRows (s : ℕ) : List (ℕ × ℕ × ℕ × ℕ × ℕ × ℕ) :=
  (List.range 4).reverse.flatMap fun b => (List.range (8 - s)).reverse.map fun r => rowsNumbers (1024 * b + (r + s))

theorem mem_allRows (s : ℕ) (y : Whole.Idx) (h : s ≤ (y 0).val % 8) : rowsNumbers (1024 * ((y 0).val / 1024) + (y 0).val % 8) ∈ allRows s := by
  have h0 : (y 0).val < 4096 := (y 0).isLt
  refine List.mem_flatMap.mpr ⟨(y 0).val / 1024, List.mem_reverse.mpr (List.mem_range.mpr (by omega)), ?_⟩
  refine List.mem_map.mpr ⟨(y 0).val % 8 - s, List.mem_reverse.mpr (List.mem_range.mpr (by omega)), ?_⟩
  rw [Nat.sub_add_cancel h]

/-! ## Prefixes within a tile of eight rows -/

variable {F : FTy → Type} [FloatOps F]

/-- The product of the coefficients of rows `s … s + r`. -/
def tileA (a : Whole.Idx → F .f32) (s : ℕ) (j : Fin 128) : ℕ → F .f32
  | 0 => at_ a s j
  | r + 1 => FloatOps.mulf (at_ a (s + (r + 1)) j) (tileA a s j r)

/-- The recurrence over rows `s … s + r`, from nothing. -/
def tileB (a b : Whole.Idx → F .f32) (s : ℕ) (j : Fin 128) : ℕ → F .f32
  | 0 => at_ b s j
  | r + 1 => FloatOps.addf (FloatOps.mulf (at_ a (s + (r + 1)) j) (tileB a b s j r)) (at_ b (s + (r + 1)) j)

/-- Every row by the product over its tile so far. -/
def tiledA (a : Whole.Idx → F .f32) : Whole.Idx → F .f32 := fun y => tileA a (8 * ((y 0).val / 8)) (y 1) ((y 0).val % 8)

/-- Every row by the recurrence over its tile so far. -/
def tiledB (a b : Whole.Idx → F .f32) : Whole.Idx → F .f32 := fun y => tileB a b (8 * ((y 0).val / 8)) (y 1) ((y 0).val % 8)

theorem tiledA_emb (a : Whole.Idx → F .f32) (o : ℕ) (inb) (pos) (x : Some.Idx) :
    tiledA a ((⟨⟨![o, 0], ![128, 128], ![8, 1], inb⟩, pos⟩ : Rect Whole).emb x) = tileA a (8 * (x 0).val + (o - o % 8)) (x 1) (o % 8) := by
  unfold tiledA
  rw [emb_zero, emb_one, show 8 * ((8 * (x 0).val + o) / 8) = 8 * (x 0).val + (o - o % 8) by omega,
    show (8 * (x 0).val + o) % 8 = o % 8 by omega]

theorem tiledB_emb (a b : Whole.Idx → F .f32) (o : ℕ) (inb) (pos) (x : Some.Idx) :
    tiledB a b ((⟨⟨![o, 0], ![128, 128], ![8, 1], inb⟩, pos⟩ : Rect Whole).emb x) = tileB a b (8 * (x 0).val + (o - o % 8)) (x 1) (o % 8) := by
  unfold tiledB
  rw [emb_zero, emb_one, show 8 * ((8 * (x 0).val + o) / 8) = 8 * (x 0).val + (o - o % 8) by omega,
    show (8 * (x 0).val + o) % 8 = o % 8 by omega]

/-- The first row of a tile is as it was. -/
theorem tiledB_first (a b : Whole.Idx → F .f32) (y : Whole.Idx) (hy : (y 0).val % 8 = 0) : tiledB a b y = b y := by
  unfold tiledB
  rw [hy, show 8 * ((y 0).val / 8) = (y 0).val by omega]
  exact at_eq b y

end Cert.Rows

end
-- ==== Proof.RnnFwd.Carry.lean ====
/-
  The recurrent branch's forward kernel: the loop that carries the state from one tile of eight rows into the next,
  in closed form.
-/
module

public import proofs.«01_k».proof.Proof.RnnFwd.Loops
public import proofs.«01_k».proof.Proof.RnnFwd.Rows

@[expose] public section

noncomputable section

namespace Cert.RnnFwd

open Idealize Idealize.ShloMosaic Idealize.ShloMosaic.Tactic
open Cert.RnnFwdKernelIdeal Cert.RnnFwdKernelIdeal.Gen Cert.Trips

variable {F : FTy → Type} [FloatOps F]

/-- The state that enters tile `n`, from nothing: by the last row of each tile before it. -/
def entering (a b : Vec F S4096x128 .f32) (j : Fin 128) : ℕ → F .f32
  | 0 => Scalar.ofBits .f32 0x00000000#32
  | n + 1 => FloatOps.addf (FloatOps.mulf (Rows.at_ a (8 * n + 7) j) (entering a b j n)) (Rows.at_ b (8 * n + 7) j)

/-- The states: every row's own prefix of its tile, and the state that entered the tile by the prefix of the
    coefficients. -/
def states (a b : Vec F S4096x128 .f32) : Vec F S4096x128 .f32 :=
  fun y => FloatOps.addf (FloatOps.mulf (a y) (entering a b (y 1) ((y 0).val / 8))) (b y)

theorem off5_eq (k : Fin k0_t3_loop.trips) (j : Fin 8) : k0_off5 k (BitVec.ofNat 32 j.val) = ![64 * k.val + 8 * j.val, 0] := by
  revert k j; decide +kernel

/-- The loop's state after `n` tiles. -/
structure After (a b : Vec F S4096x128 .f32) (n : ℕ) (s : Carried F) : Prop where
  out : ∀ y : S4096x128.Idx, (y 0).val < 8 * n → s.out y = states a b y
  last : ∀ x : S8x128.Idx, s.last x = entering a b (x 1) n

theorem tileRows_apply (x : Vec F S4096x128 .f32) (k : Fin k0_t3_loop.trips) (j : Fin 8) (y : S8x128.Idx) :
    tileRows x k j y = Rows.at_ x (8 * (8 * k.val + j.val) + (y 0).val) (y 1) :=
  Rows.at_of_eq x _ _ _
    (by
      show k0_off5 k (BitVec.ofNat 32 j.val) 0 + 1 * (y 0).val = _
      rw [off5_eq]; show 64 * k.val + 8 * j.val + 1 * (y 0).val = _; omega)
    (Fin.ext (by
      show k0_off5 k (BitVec.ofNat 32 j.val) 1 + 1 * (y 1).val = _
      rw [off5_eq]; show 0 + 1 * (y 1).val = _; omega))

theorem lastRow_apply (x : Vec F S8x128 .f32) (y : S8x128.Idx) : lastRow x y = x (ix2 7 (y 1)) := by
  unfold lastRow
  pointwise []

/-- One tile. -/
theorem After.step {a b : Vec F S4096x128 .f32} (k : Fin k0_t3_loop.trips) (j : Fin 8) {n : ℕ} (hn : n = 8 * k.val + j.val) {s : Carried F}
    (h : After a b n s) : After a b (n + 1) (tileStep a b k j s) := by
  subst hn
  refine ⟨fun y hy => ?_, fun x => ?_⟩
  · by_cases hlt : (y 0).val < 8 * (8 * k.val + j.val)
    · refine (put_out (n := 1) (base := 64 * k.val + 8 * j.val) (off := fun _ => k0_off5 k (BitVec.ofNat 32 j.val))
        (fun t => by rw [off5_eq, show t = 0 from Subsingleton.elim _ _]; rfl) (fun _ => _) s.out 0 y (Or.inl ?_)).trans (h.out y hlt)
      show (y 0).val < 64 * k.val + 8 * j.val + 8 * 0
      omega
    · have hr : (y 0).val - 8 * (8 * k.val + j.val) < 8 := by omega
      refine (put_in (n := 1) (base := 64 * k.val + 8 * j.val) (off := fun _ => k0_off5 k (BitVec.ofNat 32 j.val))
        (fun t => by rw [off5_eq, show t = 0 from Subsingleton.elim _ _]; rfl) (fun _ => _) s.out 0 y ⟨_, hr⟩ ?_).trans ?_
      · show (y 0).val = 64 * k.val + 8 * j.val + 8 * 0 + ((y 0).val - 8 * (8 * k.val + j.val))
        omega
      · show FloatOps.addf (FloatOps.mulf (tileRows a k j _) (s.last _)) (tileRows b k j _) = _
        rw [tileRows_apply, tileRows_apply, h.last]
        unfold states
        rw [show (y 0).val / 8 = 8 * k.val + j.val by omega, ← Rows.at_eq a y, ← Rows.at_eq b y]
        have hrow : 8 * (8 * k.val + j.val) + ((y 0).val - 8 * (8 * k.val + j.val)) = (y 0).val := by omega
        show FloatOps.addf (FloatOps.mulf (Rows.at_ a (8 * (8 * k.val + j.val) + ((y 0).val - 8 * (8 * k.val + j.val))) (y 1)) _)
          (Rows.at_ b (8 * (8 * k.val + j.val) + ((y 0).val - 8 * (8 * k.val + j.val))) (y 1)) = _
        rw [hrow]
        rfl
  · show FloatOps.addf (FloatOps.mulf (lastRow (tileRows a k j) x) (s.last x)) (lastRow (tileRows b k j) x) = _
    rw [lastRow_apply, lastRow_apply, tileRows_apply, tileRows_apply, h.last]
    rfl

/-- The whole loop, whatever the result's buffer held before. -/
theorem carried_eq (a b z : Vec F S4096x128 .f32) : (iter (carryTrip a b) ⟨z, k0_pay3⟩ k0_t3_loop.trips).out = states a b := by
  have e : ∀ k, k ≤ k0_t3_loop.trips → After a b (8 * k) (iter (carryTrip a b) ⟨z, k0_pay3⟩ k) := by
    intro k
    induction k with
    | zero => exact fun _ => ⟨fun y hy => absurd hy (Nat.not_lt_zero _), fun x => rfl⟩
    | succ k ih =>
      intro hk
      rw [iter_succ _ _ (⟨k, hk⟩ : Fin k0_t3_loop.trips)]
      exact (((((((((ih (Nat.le_of_succ_le hk)).step ⟨k, hk⟩ 0 rfl).step ⟨k, hk⟩ 1 rfl).step ⟨k, hk⟩ 2 rfl).step ⟨k, hk⟩ 3 rfl).step ⟨k, hk⟩ 4 rfl).step
        ⟨k, hk⟩ 5 rfl).step ⟨k, hk⟩ 6 rfl).step ⟨k, hk⟩ 7 rfl)
  have h0 : k0_t3_loop.trips = 64 := by decide
  exact funext fun y => (e _ le_rfl).out y (by have := (y 0).isLt; rw [h0]; exact this)

end Cert.RnnFwd

end
-- ==== Proof.RnnFwd.Run.lean ====
/-
  The recurrent branch's forward kernel run once, at any point of its grid: what its seven results hold.
-/
module

public import proofs.«01_k».proof.Proof.RnnFwd.Loops
public import proofs.«01_k».proof.Proof.Gen.RnnFwdKernelIdeal.Frame.Runs
public import proofs.«01_k».proof.Proof.RnnFwd.Carry

@[expose] public section

set_option maxRecDepth 16384

noncomputable section

namespace Cert.RnnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RnnFwdKernelIdeal Cert.RnnFwdKernelIdeal.Gen Cert.Trips

variable {F : FTy → Type} [FloatOps F]

/-- The resource algebra of the frame kit. -/
local notation "𝕄" => MT nD τ sig Unit (Elt F) ℕ (UR sig nD τ) ℕ

/-! ## The rectangles of the loops -/

theorem off1_eq (k : Fin k0_t1_loop.trips) : k0_off1 k = ![0 + 1024 * k.val, 0] := by revert k; decide +kernel
theorem off2_eq (k : Fin k0_t1_loop.trips) : k0_off2 k = ![8 + 1024 * k.val, 0] := by revert k; decide +kernel
theorem off3_eq (k : Fin k0_t2_loop.trips) : k0_off3 k = ![0 + 1024 * k.val, 0] := by revert k; decide +kernel
theorem off4_eq (k : Fin k0_t2_loop.trips) : k0_off4 k = ![0 + 1024 * k.val, 0] := by revert k; decide +kernel
theorem off6_eq (k : Fin k0_t4_loop.trips) : k0_off6 k = ![0 + 1024 * k.val, 0] := by revert k; decide +kernel

/-! ## What the buffers hold in the end -/

/-- Zeros. -/
def zeros (s : Shape) (φ : FTy) : FVec F s φ := broadcast s (Scalar.ofBits φ 0 : F φ)

/-- The input behind eight rows of zeros. -/
def padded (x : Vec F S4096x128 .f32) : Vec F S4104x128 .f32 := iter (padTrip x) (zeros S4104x128 .f32) k0_t1_loop.trips

/-- What the second loop reads besides the rows, of the kernel's arguments. -/
def params (w : Vec F S4x128 .f32) (cb : Vec F S1x128 .f32) (wa : Vec F S1x128x128 .f32) (ba : Vec F S1x128 .f32) (wx : Vec F S1x128x128 .f32)
    (bx : Vec F S1x128 .f32) (lam : Vec F S1x128 .f32) : Params F :=
  ⟨k0_pay27 (VecWindow.window w ![0, 0] S1x128.size inb_S4x128_S1x128_0_0), k0_pay28 (VecWindow.window w ![1, 0] S1x128.size inb_S4x128_S1x128_1_0),
    k0_pay29 (VecWindow.window w ![2, 0] S1x128.size inb_S4x128_S1x128_2_0), k0_pay30 (VecWindow.window w ![3, 0] S1x128.size inb_S4x128_S1x128_3_0),
    cb, k0_pay31 wa, k0_pay32 wx, k0_pay33 ba, k0_pay34 bx, lam, k0_pay35 lam⟩

/-- A result of the second loop, from trips that put rows over the buffer. -/
def rows (f : Fin k0_t2_loop.trips → Vec F S4096x128 .f32 → Vec F S4096x128 .f32) : Vec F S4096x128 .f32 :=
  iter f (zeros S4096x128 .f32) k0_t2_loop.trips

/-- The convolved input. -/
def vOut (p : Params F) (u : Vec F S4096x128 .f32) : Vec F S4096x128 .f32 := rows (vTrip p (padded u))
/-- The recurrence gate. -/
def rOut (p : Params F) (u : Vec F S4096x128 .f32) : Vec F S4096x128 .f32 := rows (rTrip p (padded u))
/-- The input gate. -/
def xOut (p : Params F) (u : Vec F S4096x128 .f32) : Vec F S4096x128 .f32 := rows (xTrip p (padded u))
/-- The decay. -/
def aOut (p : Params F) (u : Vec F S4096x128 .f32) : Vec F S4096x128 .f32 := rows (aTrip p (padded u))
/-- The input's scale. -/
def sOut (p : Params F) (u : Vec F S4096x128 .f32) : Vec F S4096x128 .f32 := rows (sTrip p (padded u))
/-- The recurrence's coefficients. -/
def coefs (p : Params F) (u : Vec F S4096x128 .f32) : Vec F S4096x128 .f32 := rows (coefTrip p (padded u))
/-- The recurrence's inputs. -/
def inputs (p : Params F) (u : Vec F S4096x128 .f32) : Vec F S4096x128 .f32 := rows (inTrip p (padded u))
/-- The states. -/
def hOut (p : Params F) (u : Vec F S4096x128 .f32) : Vec F S4096x128 .f32 :=
  states (Rows.tiledA (coefs p u)) (Rows.tiledB (coefs p u) (inputs p u))
/-- The states by the gate's rows. -/
def zOut (p : Params F) (u g : Vec F S4096x128 .f32) : Vec F S4096x128 .bf16 :=
  iter (outTrip g (hOut p u)) (zeros S4096x128 .bf16) k0_t4_loop.trips

/-- The padded buffer, whatever it held before. -/
theorem padded_eq (x : Vec F S4096x128 .f32) (z : Vec F S4104x128 .f32) :
    iter (padTrip x) (VecWindow.put z ![0, 0] S8x128.size k0_pay25) k0_t1_loop.trips = padded x :=
  iter_put_congr off2_eq _ (by decide) fun y hy => by
    have h0 : (y 0).val < 4104 := (y 0).isLt
    have h1 : (y 1).val < 128 := (y 1).isLt
    have hy : (y 0).val < 8 ∨ 8 + 1024 * 4 ≤ (y 0).val := hy
    have h : ∀ b, (![0, 0] : Fin 2 → ℕ) b ≤ (y b).val ∧ (y b).val < (![0, 0] : Fin 2 → ℕ) b + S8x128.size b := fun b =>
      match b with
      | 0 => ⟨Nat.zero_le _, by show (y 0).val < 0 + 8; omega⟩
      | 1 => ⟨Nat.zero_le _, by show (y 1).val < 0 + 128; omega⟩
    exact dif_pos h

/-- A result of the second loop, whatever its buffer held before. -/
theorem rows_eq (w : Fin k0_t2_loop.trips → Vec F S1024x128 .f32) (z : Vec F S4096x128 .f32) :
    iter (fun k => putRows k (w k)) z k0_t2_loop.trips = rows fun k => putRows k (w k) :=
  iter_put_congr off4_eq _ (by decide) fun y hy => by
    have h0 : (y 0).val < 4096 := (y 0).isLt
    have hy : (y 0).val < 0 ∨ 0 + 1024 * 4 ≤ (y 0).val := hy
    omega

/-- The last result, whatever its buffer held before. -/
theorem zOut_eq (p : Params F) (u g : Vec F S4096x128 .f32) (z : Vec F S4096x128 .bf16) :
    iter (outTrip g (hOut p u)) z k0_t4_loop.trips = zOut p u g :=
  iter_put_congr off6_eq _ (by decide) fun y hy => by
    have h0 : (y 0).val < 4096 := (y 0).isLt
    have hy : (y 0).val < 0 ∨ 0 + 1024 * 4 ≤ (y 0).val := hy
    omega

/-! ## The run -/

set_option maxHeartbeats 8000000 in
set_option sl_exec.matchHeartbeats 100000 in
/-- The body, on whole buffers: it leaves its inputs as they were, and in its results what the second to the fourth
    loop compute. -/
theorem run (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4x128 .f32) (harg3 : arg3.IsWhole) (arg4 : Memref sig .tc .vmem S1x128 .f32) (harg4 : arg4.IsWhole)
    (arg5 : Memref sig .tc .vmem S1x128x128 .f32) (harg5 : arg5.IsWhole) (arg6 : Memref sig .tc .vmem S1x128 .f32) (harg6 : arg6.IsWhole)
    (arg7 : Memref sig .tc .vmem S1x128x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S4096x128 .f32) (harg10 : arg10.IsWhole)
    (arg11 : Memref sig .tc .vmem S4096x128 .bf16) (harg11 : arg11.IsWhole) (arg12 : Memref sig .tc .vmem S4096x128 .f32) (harg12 : arg12.IsWhole)
    (arg13 : Memref sig .tc .vmem S4096x128 .f32) (harg13 : arg13.IsWhole) (arg14 : Memref sig .tc .vmem S4096x128 .f32) (harg14 : arg14.IsWhole)
    (arg15 : Memref sig .tc .vmem S4096x128 .f32) (harg15 : arg15.IsWhole) (arg16 : Memref sig .tc .vmem S4096x128 .f32) (harg16 : arg16.IsWhole)
    (arg17 : Memref sig .tc .vmem S4104x128 .f32) (harg17 : arg17.IsWhole) (arg18 : Memref sig .tc .vmem S4096x128 .f32) (harg18 : arg18.IsWhole)
    (arg19 : Memref sig .tc .vmem S4096x128 .f32) (harg19 : arg19.IsWhole)
    (x0 : Vec F S4096x128 .f32) (x1 : Vec F S4096x128 .f32) (x2 : Vec F S4x128 .f32) (x3 : Vec F S1x128 .f32) (x4 : Vec F S1x128x128 .f32) (x5 : Vec F S1x128 .f32) (x6 : Vec F S1x128x128 .f32) (x7 : Vec F S1x128 .f32) (x8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (hOut (params x2 x3 x4 x5 x6 x7 x8) x0) ∗ owns (c : Thread nD τ) arg11 fullShare (zOut (params x2 x3 x4 x5 x6 x7 x8) x0 x1) ∗ owns (c : Thread nD τ) arg12 fullShare (vOut (params x2 x3 x4 x5 x6 x7 x8) x0) ∗ owns (c : Thread nD τ) arg13 fullShare (rOut (params x2 x3 x4 x5 x6 x7 x8) x0) ∗ owns (c : Thread nD τ) arg14 fullShare (xOut (params x2 x3 x4 x5 x6 x7 x8) x0) ∗ owns (c : Thread nD τ) arg15 fullShare (aOut (params x2 x3 x4 x5 x6 x7 x8) x0) ∗ owns (c : Thread nD τ) arg16 fullShare (sOut (params x2 x3 x4 x5 x6 x7 x8) x0) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_rnn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_rnn_fwd_eq_skeleton]; unfold cc0_rnn_fwd_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec
  sl_step
  have hA : arg18.view.read (Elt F) (arg18.view.writes (Elt F) fL6 (⟨⟨⟨![3079, 0], S128x128.size, ![8,1], inb_S4096x128_S128x128_3079_0_s_8_1⟩, spos_8_1⟩, k0_pay1 (run.sl.r_35 c arg18 fL6)⟩ :: run.sl.H18_31 c arg18 fL6)) = Rows.tiledA (arg18.view.read (Elt F) fL6) := by
    clear * -
    sl_unfold_words
    refine Rows.read_rows (Val := Elt F) (e := .f32) _ _ (Rows.tiledA (arg18.view.read (Elt F) fL6)) _ ?_ fun y => Or.inl ?_
    swap; · exact Rows.cover _ (Qs := Rows.allRows 0) rfl y (Rows.mem_allRows 0 y (Nat.zero_le _))
    simp (disch := decide) only [Rows.load_skip, View.writes_nil, List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro x <;> rw [Rows.tiledA_emb] <;>
      pointwise [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Rows.tileA, Rows.load_apply, Nat.reduceMod, Nat.reduceSub]
  have hB : arg19.view.read (Elt F) (arg19.view.writes (Elt F) fL7 (⟨⟨⟨![3079, 0], S128x128.size, ![8, 1], inb_S4096x128_S128x128_3079_0_s_8_1⟩, spos_8_1⟩, k0_pay2 (run.sl.r_34 c arg18 arg19 fL6 fL7)⟩ :: run.sl.H19_27 c arg18 arg19 fL6 fL7))
      = Rows.tiledB (arg18.view.read (Elt F) fL6) (arg19.view.read (Elt F) fL7) := by
    clear * -
    sl_unfold_words
    refine Rows.read_rows (Val := Elt F) (e := .f32) _ _ (Rows.tiledB (arg18.view.read (Elt F) fL6) (arg19.view.read (Elt F) fL7)) _ ?_ fun y => ?_
    · simp (disch := decide) only [Rows.load_skip, View.writes_nil, List.forall_mem_cons]
      refine ⟨?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro x <;> rw [Rows.tiledB_emb] <;>
        pointwise [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, Rows.tileB, Rows.load_apply, Nat.reduceMod, Nat.reduceSub]
    · by_cases hy : 1 ≤ (y 0).val % 8
      · exact Or.inl (Rows.cover _ (Qs := Rows.allRows 1) rfl y (Rows.mem_allRows 1 y hy))
      · have hy : (y 0).val % 8 = 0 := by omega
        refine Or.inr ⟨Rows.not_mem _ (Qs := Rows.allRows 1) rfl 0 (by decide) y hy, ?_⟩
        exact (Rows.tiledB_first _ _ y hy).symm
  have e4 := (View.readAt_full arg4.view f4 inb_S1x128_S1x128_0_0).trans hf4
  have e5 := (View.readAt_full arg5.view f5 inb_S1x128x128_S1x128x128_0_0_0).trans hf5
  have e6 := (View.readAt_full arg6.view f6 inb_S1x128_S1x128_0_0).trans hf6
  have e7 := (View.readAt_full arg7.view f7 inb_S1x128x128_S1x128x128_0_0_0).trans hf7
  have e8 := (View.readAt_full arg8.view f8 inb_S1x128_S1x128_0_0).trans hf8
  have e9 := (View.readAt_full arg9.view f9 inb_S1x128_S1x128_0_0).trans hf9
  have hp : (⟨run.sl.r c arg3 f3, run.sl.r_1 c arg3 f3, run.sl.r_2 c arg3 f3, run.sl.r_3 c arg3 f3, run.sl.r_4 c arg4 f4, run.sl.r_5 c arg5 f5,
      run.sl.r_6 c arg7 f7, run.sl.r_7 c arg6 f6, run.sl.r_8 c arg8 f8, run.sl.r_9 c arg9 f9, run.sl.r_10 c arg9 f9⟩ : Params F)
      = params x2 x3 x4 x5 x6 x7 x8 := by
    clear * - hf3 e4 e5 e6 e7 e8 e9
    sl_unfold_words
    rw [e4, e5, e6, e7, e8, e9, ← hf3]
    rfl
  have hu : arg17.view.read (Elt F) fL0 = padded x0 := by
    refine hL2.trans ?_
    rw [View.read_writes_cons_put _ _ _ _ _ rfl, hf1]
    exact padded_eq _ _
  rw [hp, hu] at hL5 hL7 hL9 hL11 hL13 hL15 hL17
  have hv := hL5.trans (rows_eq (vRows (params x2 x3 x4 x5 x6 x7 x8) (padded x0)) _)
  have hr := hL7.trans (rows_eq (rRows (params x2 x3 x4 x5 x6 x7 x8) (padded x0)) _)
  have hx := hL9.trans (rows_eq (fun k => k0_pay36 (xRows (params x2 x3 x4 x5 x6 x7 x8) (padded x0) k) half) _)
  have ha := hL11.trans (rows_eq (fun k => k0_pay38 _ _ (rRows (params x2 x3 x4 x5 x6 x7 x8) (padded x0) k)) _)
  have hs := hL13.trans (rows_eq (fun k => k0_pay39 _ _ (rRows (params x2 x3 x4 x5 x6 x7 x8) (padded x0) k)) _)
  have hc := hL15.trans (rows_eq (fun k => k0_pay40 _ _ (rRows (params x2 x3 x4 x5 x6 x7 x8) (padded x0) k)) _)
  have hi := hL17.trans (rows_eq (fun k => k0_pay41 _ _ (vRows (params x2 x3 x4 x5 x6 x7 x8) (padded x0) k)
    (rRows (params x2 x3 x4 x5 x6 x7 x8) (padded x0) k) (xRows (params x2 x3 x4 x5 x6 x7 x8) (padded x0) k) half) _)
  have hh : arg10.view.read (Elt F) fL8 = hOut (params x2 x3 x4 x5 x6 x7 x8) x0 := by
    refine hL21.trans ?_
    rw [hA, hB, hc, hi]
    exact carried_eq _ _ _
  have hz : arg11.view.read (Elt F) fL9 = zOut (params x2 x3 x4 x5 x6 x7 x8) x0 x1 := by
    refine hL26.trans ?_
    rw [hh, hf2]
    exact zOut_eq _ _ _ _
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  isplitl [H10]; · iexists _; isplitr; · ipureintro; exact hh
                   iexact H10
  isplitl [H11]; · iexists _; isplitr; · ipureintro; exact hz
                   iexact H11
  isplitl [H12]; · iexists _; isplitr; · ipureintro; exact hv
                   iexact H12
  isplitl [H13]; · iexists _; isplitr; · ipureintro; exact hr
                   iexact H13
  isplitl [H14]; · iexists _; isplitr; · ipureintro; exact hx
                   iexact H14
  isplitl [H15]; · iexists _; isplitr; · ipureintro; exact ha
                   iexact H15
  isplitl [H16]; · iexists _; isplitr; · ipureintro; exact hs
                   iexact H16
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.RnnFwd

end
-- ==== Proof.RnnFwd.Block.lean ====
/-
  The recurrence's forward kernel on one block: what its results hold, one head's channels.
-/
module

public import proofs.«01_k».proof.Proof.RnnFwd.Spec
public import proofs.«01_k».proof.Proof.RnnFwd.Run
public import Idealize.ShloMosaic.Lib.Pipeline.ValueKit

@[expose] public section

set_option maxRecDepth 16384

noncomputable section

namespace Cert.RnnFwd

open Idealize.ShloMosaic Idealize.ShloMosaic.TcCoe Idealize.ShloMosaic.Tactic
open Cert.RnnFwdKernelIdeal Cert.RnnFwdKernelIdeal.Gen Cert.Trips Cert.Logistic

theorem trips1 : k0_t1_loop.trips = 4 := by decide
theorem trips2 : k0_t2_loop.trips = 4 := by decide
theorem trips4 : k0_t4_loop.trips = 4 := by decide

/-- Row `1024 k + q`. -/
abbrev row (k : Fin 4) (q : Fin 1024) : Fin 4096 := ⟨1024 * k.val + q.val, by omega⟩

theorem window_apply {α : Type} {N B : ℕ} {off : Fin 2 → ℕ} (b : ℕ) (hoff : off = ![b, 0]) (x : (⟨2, ![N, 128]⟩ : Shape).Idx → α)
    (inb : ∀ a, off a + (![B, 128] : Fin 2 → ℕ) a ≤ (⟨2, ![N, 128]⟩ : Shape).size a) (q : Fin B) (l : Fin 128) (h : b + q.val < N) :
    VecWindow.window x off ![B, 128] inb (ix2 q l) = x (ix2 ⟨b + q.val, h⟩ l) := by
  subst hoff
  refine congrArg x (funext fun a => Fin.ext ?_)
  match a with
  | 0 => show b + 1 * q.val = b + q.val; omega
  | 1 => show 0 + 1 * l.val = l.val; omega

theorem pay26_eq (v : FVec Ideal S1024x128 .f32) : k0_pay26 (F := Ideal) v = v := by
  funext i; rw [eq_ix2 i]
  pointwise [k0_pay26]

theorem zeros_apply {s : Shape} (i : s.Idx) : zeros (F := Ideal) s .f32 i = 0 := by
  show Ideal.ofBits .f32 0 = 0
  simp [Ideal.ofBits, Ideal.ieee]

/-- A row of the padded input. -/
theorem padded_apply (x : FVec Ideal S4096x128 .f32) (H : Head) (hu : ∀ n l, H.u n l = x (ix2 n l)) (s : ℕ) (n : Fin 4096) (l : Fin 128) (y : Fin 4104)
    (hs : s ≤ 8) (hy : y.val + s = 8 + n.val) : padded (F := Ideal) x (ix2 y l) = H.tap s n l := by
  have hn := n.isLt
  unfold padded Head.tap
  by_cases h : s ≤ n.val
  · rw [if_pos h, hu]
    have hk : (n.val - s) / 1024 < k0_t1_loop.trips := by rw [trips1]; omega
    refine (iter_put_in off2_eq _ _ _ ⟨(n.val - s) / 1024, hk⟩ hk le_rfl _ ⟨(n.val - s) % 1024, Nat.mod_lt _ (by decide)⟩
      (by show y.val = 8 + 1024 * ((n.val - s) / 1024) + (n.val - s) % 1024; omega)).trans ?_
    refine (congrFun (pay26_eq _) _).trans ?_
    refine (window_apply _ (off1_eq _) x _ _ _ (by dsimp only; omega)).trans (congrArg (fun r => x (ix2 r l)) (Fin.ext ?_))
    dsimp only; omega
  · rw [if_neg h]
    exact (iter_put_out off2_eq _ _ _ le_rfl _ (Or.inl (by show y.val < 8; omega))).trans (zeros_apply _)

/-- Rows put trip by trip. -/
theorem rows_apply (w : (k : Fin k0_t2_loop.trips) → Vec Ideal S1024x128 .f32) (n : Fin 4096) (l : Fin 128) :
    rows (F := Ideal) (fun k => putRows k (w k)) (ix2 n l)
      = w ⟨n.val / 1024, by rw [trips2]; omega⟩ (ix2 ⟨n.val % 1024, Nat.mod_lt _ (by decide)⟩ l) := by
  have hn := n.isLt
  have hk : n.val / 1024 < k0_t2_loop.trips := by rw [trips2]; omega
  exact iter_put_in off4_eq _ _ _ ⟨n.val / 1024, hk⟩ hk le_rfl _ ⟨n.val % 1024, Nat.mod_lt _ (by decide)⟩
    (by show n.val = 0 + 1024 * (n.val / 1024) + n.val % 1024; omega)

theorem pay8_apply (t0 t1 t2 t3 cb : FVec Ideal S1x128 .f32) (x : FVec Ideal S1032x128 .f32) (q : Fin 1024) (l : Fin 128) :
    k0_pay8 (F := Ideal) t0 t1 t2 t3 cb x (ix2 q l)
      = t3 (ix2 0 l) * x (ix2 ⟨8 + q.val, by omega⟩ l) + t0 (ix2 0 l) * x (ix2 ⟨5 + q.val, by omega⟩ l)
        + t1 (ix2 0 l) * x (ix2 ⟨6 + q.val, by omega⟩ l) + t2 (ix2 0 l) * x (ix2 ⟨7 + q.val, by omega⟩ l) + cb (ix2 0 l) := by
  have hq := q.isLt
  pointwise [k0_pay8]
  refine congrArg₂ _ (congrArg₂ _ (congrArg₂ _ (congrArg₂ _ rfl ?_) ?_) ?_) rfl
  all_goals refine congrArg₂ _ rfl (congrArg (fun r => x (ix2 r l)) (Fin.ext ?_))
  all_goals dsimp only
  all_goals omega

/-- What the second loop reads besides the rows is a head's. -/
structure Fits (p : Params Ideal) (H : Head) : Prop where
  t0 : ∀ l, p.t0 (ix2 0 l) = H.c 0 l
  t1 : ∀ l, p.t1 (ix2 0 l) = H.c 1 l
  t2 : ∀ l, p.t2 (ix2 0 l) = H.c 2 l
  t3 : ∀ l, p.t3 (ix2 0 l) = H.c 3 l
  cb : ∀ l, p.cb (ix2 0 l) = H.cb l
  wa : ∀ k l, p.wa (ix2 k l) = H.wa k l
  wx : ∀ k l, p.wx (ix2 k l) = H.wx k l
  ba : ∀ l, p.ba (ix2 0 l) = H.ba l
  bx : ∀ l, p.bx (ix2 0 l) = H.bx l
  lam : ∀ l, p.lam (ix2 0 l) = H.lam l
  lp : ∀ l, p.lp (ix2 0 l) = Ideal.ofBits .f32 0x00000000#32 - H.lam l

variable {x : FVec Ideal S4096x128 .f32} {H : Head} {p : Params Ideal}

theorem padRows_apply (hu : ∀ n l, H.u n l = x (ix2 n l)) (k : Fin k0_t2_loop.trips) (q : Fin 1024) (l : Fin 128) (s : ℕ) (hs : s ≤ 8) (a : Fin 1032)
    (ha : a.val + s = 8 + q.val) : padRows (F := Ideal) (padded (F := Ideal) x) k (ix2 a l) = H.tap s (row (k.cast trips2) q) l := by
  have hq := q.isLt
  have hk : k.val < 4 := lt_of_lt_of_eq k.isLt trips2
  have hb : 1024 * k.val + a.val < 4104 := by omega
  refine (window_apply (1024 * k.val) ((off3_eq k).trans (congrArg (fun b => ![b, 0]) (Nat.zero_add _))) _ _ a l hb).trans ?_
  exact padded_apply x H hu s (row (k.cast trips2) q) l ⟨1024 * k.val + a.val, hb⟩ hs (by show 1024 * k.val + a.val + s = 8 + (1024 * k.val + q.val); omega)

theorem vRows_apply (hp : Fits p H) (hu : ∀ n l, H.u n l = x (ix2 n l)) (k : Fin k0_t2_loop.trips) (q : Fin 1024) (l : Fin 128) :
    vRows p (padded (F := Ideal) x) k (ix2 q l) = H.v (row (k.cast trips2) q) l := by
  have hq := q.isLt
  have hk : k.val < 4 := lt_of_lt_of_eq k.isLt trips2
  have e (s : ℕ) (hs : s ≤ 8) (a : Fin 1032) (ha : a.val + s = 8 + q.val) : padRows (F := Ideal) (padded (F := Ideal) x) k (ix2 a l) = H.tap s (row (k.cast trips2) q) l :=
    padRows_apply hu k q l s hs a ha
  unfold vRows
  generalize padRows (F := Ideal) (padded (F := Ideal) x) k = X at e
  rw [pay8_apply, hp.t0, hp.t1, hp.t2, hp.t3, hp.cb, e 0 (by decide) ⟨8 + q.val, by omega⟩ rfl, e 3 (by decide) ⟨5 + q.val, by omega⟩ (by dsimp only; omega),
    e 2 (by decide) ⟨6 + q.val, by omega⟩ (by dsimp only; omega), e 1 (by decide) ⟨7 + q.val, by omega⟩ (by dsimp only; omega)]
  rfl

theorem pay10_apply (t0 t1 t2 t3 cb : FVec Ideal S1x128 .f32) (w : FVec Ideal S128x128 .bf16) (b : FVec Ideal S1x128 .f32)
    (x : FVec Ideal S1032x128 .f32) (q : Fin 1024) (l : Fin 128) :
    k0_pay10 (F := Ideal) t0 t1 t2 t3 cb w b x (ix2 q l)
      = sig ((∑ j, k0_pay8 (F := Ideal) t0 t1 t2 t3 cb x (ix2 q j) * w (ix2 j l)) + b (ix2 0 l)) := by
  unfold k0_pay10 k0_pay9
  generalize k0_pay8 (F := Ideal) t0 t1 t2 t3 cb x = y
  pointwise

theorem pay36_apply (t0 t1 t2 t3 cb : FVec Ideal S1x128 .f32) (w : FVec Ideal S128x128 .bf16) (b : FVec Ideal S1x128 .f32)
    (x : FVec Ideal S1032x128 .f32) (q : Fin 1024) (l : Fin 128) :
    k0_pay36 (F := Ideal) (k0_pay11 (F := Ideal) t0 t1 t2 t3 cb w b x) half (ix2 q l)
      = sig ((∑ j, k0_pay8 (F := Ideal) t0 t1 t2 t3 cb x (ix2 q j) * w (ix2 j l)) + b (ix2 0 l)) := by
  unfold k0_pay36 k0_pay11 k0_pay9 half
  generalize k0_pay8 (F := Ideal) t0 t1 t2 t3 cb x = y
  pointwise

theorem rRows_apply (hp : Fits p H) (hu : ∀ n l, H.u n l = x (ix2 n l)) (k : Fin k0_t2_loop.trips) (q : Fin 1024) (l : Fin 128) :
    rRows p (padded (F := Ideal) x) k (ix2 q l) = H.r (row (k.cast trips2) q) l := by
  refine (pay10_apply _ _ _ _ _ _ _ _ q l).trans ?_
  rw [hp.ba]
  exact congrArg (fun s => sig (s + H.ba l)) (Finset.sum_congr rfl fun j _ => congrArg₂ _ (vRows_apply hp hu k q j) (hp.wa j l))

theorem iRows_apply (hp : Fits p H) (hu : ∀ n l, H.u n l = x (ix2 n l)) (k : Fin k0_t2_loop.trips) (q : Fin 1024) (l : Fin 128) :
    k0_pay36 (F := Ideal) (xRows p (padded (F := Ideal) x) k) half (ix2 q l) = H.i (row (k.cast trips2) q) l := by
  refine (pay36_apply _ _ _ _ _ _ _ _ q l).trans ?_
  rw [hp.bx]
  exact congrArg (fun s => sig (s + H.bx l)) (Finset.sum_congr rfl fun j _ => congrArg₂ _ (vRows_apply hp hu k q j) (hp.wx j l))

/-- The kernel's softplus of a negated real number. -/
theorem soft_select (y : ℝ) :
    max (0 - (y : EReal)) 0 +
      (if (1 : EReal) + Ideal.exp (0 - max (y : EReal) (-(y : EReal))) - 1 = 0 then Ideal.exp (0 - max (y : EReal) (-(y : EReal)))
        else Ideal.log (1 + Ideal.exp (0 - max (y : EReal) (-(y : EReal)))) * Ideal.div (Ideal.exp (0 - max (y : EReal) (-(y : EReal))))
          (if (1 : EReal) + Ideal.exp (0 - max (y : EReal) (-(y : EReal))) - 1 = 0 then 1
            else 1 + Ideal.exp (0 - max (y : EReal) (-(y : EReal))) - 1)) = soft (y : EReal) := by
  have e : Ideal.exp (0 - max (y : EReal) (-(y : EReal))) = ((Real.exp (-|y|) : ℝ) : EReal) := by
    rw [← EReal.coe_neg, max_coe, ← EReal.coe_zero, ← EReal.coe_sub, Ideal.exp_coe, zero_sub]
    rfl
  have p := Real.exp_pos (-|y|)
  have hn : ¬ (1 : EReal) + ((Real.exp (-|y|) : ℝ) : EReal) - 1 = 0 := by
    rw [← EReal.coe_one, ← EReal.coe_add, ← EReal.coe_sub, add_sub_cancel_left, ← EReal.coe_zero, EReal.coe_eq_coe_iff]
    exact p.ne'
  rw [e, if_neg hn, if_neg hn]
  have := log1p_select p
  rw [EReal.coe_one] at this
  rw [this, ← EReal.coe_zero, ← EReal.coe_sub, max_coe, ← EReal.coe_add, zero_sub, soft_split]
  rfl

theorem pay37_apply (lam lp : FVec Ideal S1x128 .f32) (r : FVec Ideal S1024x128 .f32) (q : Fin 1024) (l : Fin 128) {y : EReal} (hy : Finite.IsReal y)
    (h : lam (ix2 0 l) = y) (h' : lp (ix2 0 l) = Ideal.ofBits .f32 0x00000000#32 - y) :
    k0_pay37 (F := Ideal) lam lp r (ix2 q l) = Ideal.ofBits .f32 0xC1000000#32 * r (ix2 q l) * soft y := by
  obtain ⟨y, rfl⟩ := hy
  pointwise [k0_pay37]
  rw [h, h', word_zero, EReal.coe_zero]
  exact congrArg₂ _ rfl (soft_select y)

theorem la_apply (hH : H.Real) (hp : Fits p H) (hu : ∀ n l, H.u n l = x (ix2 n l)) (k : Fin k0_t2_loop.trips) (q : Fin 1024) (l : Fin 128) :
    k0_pay37 (F := Ideal) p.lam p.lp (rRows p (padded (F := Ideal) x) k) (ix2 q l) = H.la (row (k.cast trips2) q) l := by
  rw [pay37_apply _ _ _ q l (hH.lam l) (hp.lam l) (hp.lp l), rRows_apply hp hu]
  rfl

theorem pay38_apply (lam lp : FVec Ideal S1x128 .f32) (r : FVec Ideal S1024x128 .f32) (q : Fin 1024) (l : Fin 128) :
    k0_pay38 (F := Ideal) lam lp r (ix2 q l) = Ideal.exp (k0_pay37 (F := Ideal) lam lp r (ix2 q l)) := rfl

theorem pay39_apply (lam lp : FVec Ideal S1x128 .f32) (r : FVec Ideal S1024x128 .f32) (q : Fin 1024) (l : Fin 128) :
    k0_pay39 (F := Ideal) lam lp r (ix2 q l) = Ideal.sqrt ((Ideal.ofBits .f32 0x00000000#32 - Ideal.tanh (k0_pay37 (F := Ideal) lam lp r (ix2 q l)))
      * (Ideal.exp (k0_pay37 (F := Ideal) lam lp r (ix2 q l)) * Ideal.exp (k0_pay37 (F := Ideal) lam lp r (ix2 q l)) + Ideal.ofBits .f32 0x3F800000#32)) := rfl

theorem pay40_apply (lam lp : FVec Ideal S1x128 .f32) (r : FVec Ideal S1024x128 .f32) (q : Fin 1024) (l : Fin 128) :
    k0_pay40 (F := Ideal) lam lp r (ix2 q l) = Ideal.exp (k0_pay37 (F := Ideal) lam lp r (ix2 q l)) := by
  unfold k0_pay40 k0_pay38
  generalize k0_pay37 (F := Ideal) lam lp r = y
  pointwise

theorem pay41_apply (lam lp : FVec Ideal S1x128 .f32) (v r i : FVec Ideal S1024x128 .f32) (q : Fin 1024) (l : Fin 128) :
    k0_pay41 (F := Ideal) lam lp v r i half (ix2 q l) = k0_pay39 (F := Ideal) lam lp r (ix2 q l) * k0_pay36 (F := Ideal) i half (ix2 q l) * v (ix2 q l) := by
  unfold k0_pay41
  generalize k0_pay39 (F := Ideal) lam lp r = y
  generalize k0_pay36 (F := Ideal) i half = z
  pointwise

/-- The rows of a trip, put together again. -/
theorem row_split (n : Fin 4096) (h : n.val / 1024 < k0_t2_loop.trips) (h' : n.val % 1024 < 1024) :
    row ((⟨n.val / 1024, h⟩ : Fin k0_t2_loop.trips).cast trips2) ⟨n.val % 1024, h'⟩ = n :=
  Fin.ext (by show 1024 * (n.val / 1024) + n.val % 1024 = n.val; omega)

section
variable (hH : H.Real) (hp : Fits p H) (hu : ∀ n l, H.u n l = x (ix2 n l)) (n : Fin 4096) (l : Fin 128)
include hp hu

theorem vOut_apply : vOut (F := Ideal) p x (ix2 n l) = H.v n l :=
  (rows_apply _ n l).trans ((vRows_apply hp hu _ _ l).trans (congrArg (fun n => H.v n l) (row_split n _ _)))

theorem rOut_apply : rOut (F := Ideal) p x (ix2 n l) = H.r n l :=
  (rows_apply _ n l).trans ((rRows_apply hp hu _ _ l).trans (congrArg (fun n => H.r n l) (row_split n _ _)))

theorem xOut_apply : xOut (F := Ideal) p x (ix2 n l) = H.i n l :=
  (rows_apply _ n l).trans ((iRows_apply hp hu _ _ l).trans (congrArg (fun n => H.i n l) (row_split n _ _)))

include hH

theorem aOut_apply : aOut (F := Ideal) p x (ix2 n l) = H.a n l :=
  (rows_apply _ n l).trans ((congrArg Ideal.exp (la_apply hH hp hu _ _ l)).trans (congrArg (fun n => H.a n l) (row_split n _ _)))

theorem coefs_apply : coefs (F := Ideal) p x (ix2 n l) = H.a n l :=
  (rows_apply _ n l).trans ((pay40_apply _ _ _ _ _).trans
    ((congrArg Ideal.exp (la_apply hH hp hu _ _ l)).trans (congrArg (fun n => H.a n l) (row_split n _ _))))

theorem sqRows_apply (k : Fin k0_t2_loop.trips) (q : Fin 1024) :
    k0_pay39 (F := Ideal) p.lam p.lp (rRows p (padded (F := Ideal) x) k) (ix2 q l) = H.sq (row (k.cast trips2) q) l := by
  rw [pay39_apply, la_apply hH hp hu]
  rfl

theorem sOut_apply : sOut (F := Ideal) p x (ix2 n l) = H.sq n l :=
  (rows_apply _ n l).trans ((sqRows_apply hH hp hu l _ _).trans (congrArg (fun n => H.sq n l) (row_split n _ _)))

theorem inputs_apply : inputs (F := Ideal) p x (ix2 n l) = H.b n l :=
  (rows_apply _ n l).trans ((pay41_apply _ _ _ _ _ _ _).trans ((congrArg₂ (· * ·)
    (congrArg₂ (· * ·) (sqRows_apply hH hp hu l _ _) (iRows_apply hp hu _ _ l)) (vRows_apply hp hu _ _ l)).trans
      (congrArg (fun n => H.b n l) (row_split n _ _))))

end

end Cert.RnnFwd

end
-- ==== Proof.RnnFwd.States.lean ====
/-
  The recurrence's states and gated states on one block, and the block's head from the kernel's arguments.
-/
module

public import proofs.«01_k».proof.Proof.RnnFwd.Block

@[expose] public section

set_option maxRecDepth 16384

noncomputable section

namespace Cert.RnnFwd

open Idealize.ShloMosaic Idealize.ShloMosaic.TcCoe Idealize.ShloMosaic.Tactic
open Cert.RnnFwdKernelIdeal Cert.RnnFwdKernelIdeal.Gen Cert.Trips Cert.Logistic

/-- An array of 4096 rows holds a sequence of reals in one column. -/
def Column (a : Rows.Whole.Idx → Ideal .f32) (l : Fin 128) (s : ℕ → ℝ) : Prop := ∀ n, n < 4096 → Rows.at_ a n l = ((s n : ℝ) : EReal)

theorem column_seq {a : FVec Ideal S4096x128 .f32} {X : Fin 4096 → Fin 128 → EReal} (h : ∀ n l, a (ix2 n l) = X n l) (l : Fin 128)
    (hX : ∀ n, Finite.IsReal (X n l)) : Column a l (Head.seq X l) := fun n hn => by
  have e : Fin.ofNat 4096 n = ⟨n, hn⟩ := Fin.ext (Nat.mod_eq_of_lt hn)
  unfold Rows.at_
  rw [e, h]
  exact Head.seq_of l ⟨n, hn⟩ (hX _)

variable {a b : Rows.Whole.Idx → Ideal .f32} {l : Fin 128} {α β : ℕ → ℝ}

theorem tileA_coe (ha : Column a l α) (s r : ℕ) (h : s + r < 4096) : Rows.tileA a s l r = ((Scan.prodA α s r : ℝ) : EReal) := by
  induction r with
  | zero => exact ha s h
  | succ r ih =>
    show Rows.at_ a (s + (r + 1)) l * Rows.tileA a s l r = _
    rw [ih (by omega), ha _ h, ← EReal.coe_mul]
    rfl

theorem tileB_coe (ha : Column a l α) (hb : Column b l β) (s r : ℕ) (h : s + r < 4096) : Rows.tileB a b s l r = ((Scan.partB α β s r : ℝ) : EReal) := by
  induction r with
  | zero => exact hb s h
  | succ r ih =>
    show Rows.at_ a (s + (r + 1)) l * Rows.tileB a b s l r + Rows.at_ b (s + (r + 1)) l = _
    rw [ih (by omega), ha _ h, hb _ h, ← EReal.coe_mul, ← EReal.coe_add]
    rfl

theorem tiledA_at (ha : Column a l α) (n : ℕ) (h : n < 4096) :
    Rows.at_ (Rows.tiledA a) n l = ((Scan.prodA α (8 * (n / 8)) (n % 8) : ℝ) : EReal) := by
  have e : Fin.ofNat 4096 n = ⟨n, h⟩ := Fin.ext (Nat.mod_eq_of_lt h)
  unfold Rows.at_
  rw [e]
  exact tileA_coe ha (8 * (n / 8)) (n % 8) (by omega)

theorem tiledB_at (ha : Column a l α) (hb : Column b l β) (n : ℕ) (h : n < 4096) :
    Rows.at_ (Rows.tiledB a b) n l = ((Scan.partB α β (8 * (n / 8)) (n % 8) : ℝ) : EReal) := by
  have e : Fin.ofNat 4096 n = ⟨n, h⟩ := Fin.ext (Nat.mod_eq_of_lt h)
  unfold Rows.at_
  rw [e]
  exact tileB_coe ha hb (8 * (n / 8)) (n % 8) (by omega)

/-- The state that enters a tile is the state before its first row. -/
theorem entering_coe (ha : Column a l α) (hb : Column b l β) (n : ℕ) (h : 8 * n ≤ 4096) :
    entering (F := Ideal) (Rows.tiledA a) (Rows.tiledB a b) l n = ((Scan.prior α β (8 * n) : ℝ) : EReal) := by
  induction n with
  | zero => exact word_zero
  | succ n ih =>
    show Rows.at_ (Rows.tiledA a) (8 * n + 7) l * entering (F := Ideal) (Rows.tiledA a) (Rows.tiledB a b) l n + Rows.at_ (Rows.tiledB a b) (8 * n + 7) l = _
    rw [ih (by omega), tiledA_at ha _ (by omega), tiledB_at ha hb _ (by omega), ← EReal.coe_mul, ← EReal.coe_add,
      show 8 * ((8 * n + 7) / 8) = 8 * n by omega, show (8 * n + 7) % 8 = 7 by omega, Scan.recur_tile]
    rfl

theorem states_coe (ha : Column a l α) (hb : Column b l β) (n : Fin 4096) :
    states (F := Ideal) (Rows.tiledA a) (Rows.tiledB a b) (ix2 n l) = ((Scan.recur α β n.val : ℝ) : EReal) := by
  have hn := n.isLt
  have h1 := tileA_coe ha (8 * (n.val / 8)) (n.val % 8) (by omega)
  have h2 := tileB_coe ha hb (8 * (n.val / 8)) (n.val % 8) (by omega)
  show Rows.tileA a (8 * (n.val / 8)) l (n.val % 8) * entering (F := Ideal) (Rows.tiledA a) (Rows.tiledB a b) l (n.val / 8)
    + Rows.tileB a b (8 * (n.val / 8)) l (n.val % 8) = _
  rw [h1, h2, entering_coe ha hb _ (by omega), ← EReal.coe_mul, ← EReal.coe_add, Scan.recur_tile, show 8 * (n.val / 8) + n.val % 8 = n.val by omega]

variable {x g : FVec Ideal S4096x128 .f32} {H : Head} {p : Params Ideal}

theorem hOut_apply (hH : H.Real) (hp : Fits p H) (hu : ∀ n l, H.u n l = x (ix2 n l)) (n : Fin 4096) (l : Fin 128) :
    hOut (F := Ideal) p x (ix2 n l) = H.h n l :=
  states_coe (column_seq (coefs_apply hH hp hu) l fun n => Head.a_real hH n l) (column_seq (inputs_apply hH hp hu) l fun n => Head.b_real hH n l) n

theorem pay7_apply (g h : FVec Ideal S1024x128 .f32) (q : Fin 1024) (l : Fin 128) :
    k0_pay7 (F := Ideal) g h (ix2 q l) = h (ix2 q l) * gelu (g (ix2 q l)) := by
  pointwise [k0_pay7]
  unfold gelu
  rw [word_one, EReal.coe_one]

/-- The gated states. -/
theorem zOut_apply (hH : H.Real) (hp : Fits p H) (hu : ∀ n l, H.u n l = x (ix2 n l)) (hg : ∀ n l, H.g n l = g (ix2 n l)) (n : Fin 4096) (l : Fin 128) :
    zOut (F := Ideal) p x g (ix2 n l) = H.z n l := by
  have hn := n.isLt
  have hk : n.val / 1024 < k0_t4_loop.trips := by rw [trips4]; omega
  have hq : n.val % 1024 < 1024 := Nat.mod_lt _ (by decide)
  have hb : 0 + 1024 * (n.val / 1024) + n.val % 1024 < 4096 := by omega
  have e : (⟨0 + 1024 * (n.val / 1024) + n.val % 1024, hb⟩ : Fin 4096) = n := Fin.ext (by dsimp only; omega)
  refine (iter_put_in off6_eq _ _ _ ⟨n.val / 1024, hk⟩ hk le_rfl _ ⟨n.val % 1024, hq⟩
    (by show n.val = 0 + 1024 * (n.val / 1024) + n.val % 1024; omega)).trans ?_
  refine (pay7_apply _ _ _ l).trans ?_
  unfold Head.z
  rw [← hOut_apply hH hp hu, hg]
  refine congrArg₂ (fun a b => a * gelu b) ?_ ?_
  · exact (window_apply _ (off6_eq _) _ _ ⟨n.val % 1024, hq⟩ l hb).trans (congrArg (fun r => hOut (F := Ideal) p x (ix2 r l)) e)
  · exact (window_apply _ (off6_eq _) _ _ ⟨n.val % 1024, hq⟩ l hb).trans (congrArg (fun r => g (ix2 r l)) e)

/-- The head a block of the kernel's arguments makes. -/
def blockHead (x0 x1 : FVec Ideal S4096x128 .f32) (w : FVec Ideal S4x128 .f32) (cb : FVec Ideal S1x128 .f32) (wa : FVec Ideal S1x128x128 .f32)
    (ba : FVec Ideal S1x128 .f32) (wx : FVec Ideal S1x128x128 .f32) (bx lam : FVec Ideal S1x128 .f32) : Head where
  u n l := x0 (ix2 n l)
  g n l := x1 (ix2 n l)
  c k l := w (ix2 k l)
  cb l := cb (ix2 0 l)
  wa k l := wa (ix3 0 k l)
  ba l := ba (ix2 0 l)
  wx k l := wx (ix3 0 k l)
  bx l := bx (ix2 0 l)
  lam l := lam (ix2 0 l)

theorem tap_window (w : FVec Ideal S4x128 .f32) (k : Fin 4) (off : Fin 2 → ℕ) (hoff : off = ![k.val, 0])
    (inb : ∀ a, off a + (![1, 128] : Fin 2 → ℕ) a ≤ (⟨2, ![4, 128]⟩ : Shape).size a) (l : Fin 128) :
    VecWindow.window w off ![1, 128] inb (ix2 0 l) = w (ix2 k l) :=
  (window_apply k.val hoff w inb 0 l k.isLt).trans rfl

theorem fits (x0 x1 : FVec Ideal S4096x128 .f32) (w : FVec Ideal S4x128 .f32) (cb : FVec Ideal S1x128 .f32) (wa : FVec Ideal S1x128x128 .f32)
    (ba : FVec Ideal S1x128 .f32) (wx : FVec Ideal S1x128x128 .f32) (bx lam : FVec Ideal S1x128 .f32) :
    Fits (params (F := Ideal) w cb wa ba wx bx lam) (blockHead x0 x1 w cb wa ba wx bx lam) where
  t0 l := Eq.trans (by pointwise [params, k0_pay27]) (tap_window w 0 _ rfl inb_S4x128_S1x128_0_0 l)
  t1 l := Eq.trans (by pointwise [params, k0_pay28]) (tap_window w 1 _ rfl inb_S4x128_S1x128_1_0 l)
  t2 l := Eq.trans (by pointwise [params, k0_pay29]) (tap_window w 2 _ rfl inb_S4x128_S1x128_2_0 l)
  t3 l := Eq.trans (by pointwise [params, k0_pay30]) (tap_window w 3 _ rfl inb_S4x128_S1x128_3_0 l)
  cb l := rfl
  wa k l := by pointwise [params, k0_pay31, blockHead]
  wx k l := by pointwise [params, k0_pay32, blockHead]
  ba l := by pointwise [params, k0_pay33, blockHead]
  bx l := by pointwise [params, k0_pay34, blockHead]
  lam l := rfl
  lp l := rfl

end Cert.RnnFwd

end
-- ==== Proof.RnnFwd.Frame.lean ====
/-
  The recurrent branch's forward call: every execution of the program ends, with its arguments as they were, and the
  pipeline's arrays at what the proof data say (`dats`, `run_main`).
-/
module

public import proofs.«01_k».proof.Proof.RnnFwd.Run
public import Idealize.ShloMosaic.Lib.Claim

@[expose] public section

set_option maxRecDepth 16384

noncomputable section

namespace Cert.RnnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RnnFwdKernelIdeal Cert.RnnFwdKernelIdeal.Gen Cert.Trips

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The parameters of the second loop at point `t`. -/
abbrev pblk (c : Dev nD) (t : Fin cfg0.N) : Params F :=
  params (iblk m c 2 t) (iblk m c 3 t) (iblk m c 4 t) (iblk m c 5 t) (iblk m c 6 t) (iblk m c 7 t) (iblk m c 8 t)

/-- The pipeline's proof data: each input's buffer at its block, each result's at what the body computes of those
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => hOut (pblk m c t) (iblk m c 0 t)
    | ⟨10, _⟩ => zOut (pblk m c t) (iblk m c 0 t) (iblk m c 1 t)
    | ⟨11, _⟩ => vOut (pblk m c t) (iblk m c 0 t)
    | ⟨12, _⟩ => rOut (pblk m c t) (iblk m c 0 t)
    | ⟨13, _⟩ => xOut (pblk m c t) (iblk m c 0 t)
    | ⟨14, _⟩ => aOut (pblk m c t) (iblk m c 0 t)
    | ⟨15, _⟩ => sOut (pblk m c t) (iblk m c 0 t)
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = hOut (pblk m c t) (iblk m c 0 t) := by dsimp only [dats]
theorem after_10 (c : Dev nD) (t : Fin cfg0.N) : (dats m 0 c).after 10 t = zOut (pblk m c t) (iblk m c 0 t) (iblk m c 1 t) := by dsimp only [dats]
theorem after_11 (c : Dev nD) (t : Fin cfg0.N) : (dats m 0 c).after 11 t = vOut (pblk m c t) (iblk m c 0 t) := by dsimp only [dats]
theorem after_12 (c : Dev nD) (t : Fin cfg0.N) : (dats m 0 c).after 12 t = rOut (pblk m c t) (iblk m c 0 t) := by dsimp only [dats]
theorem after_13 (c : Dev nD) (t : Fin cfg0.N) : (dats m 0 c).after 13 t = xOut (pblk m c t) (iblk m c 0 t) := by dsimp only [dats]
theorem after_14 (c : Dev nD) (t : Fin cfg0.N) : (dats m 0 c).after 14 t = aOut (pblk m c t) (iblk m c 0 t) := by dsimp only [dats]
theorem after_15 (c : Dev nD) (t : Fin cfg0.N) : (dats m 0 c).after 15 t = sOut (pblk m c t) (iblk m c 0 t) := by dsimp only [dats]

set_option maxHeartbeats 1600000 in
/-- The body at any point, window by window: `run` at the point's buffers. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d))
        ∗ (∃ d, owns (c : Thread nD τ) (ms0_12 t) fullShare ((dats m 0 c).before 12 t d))
        ∗ (∃ d, owns (c : Thread nD τ) (ms0_13 t) fullShare ((dats m 0 c).before 13 t d))
        ∗ (∃ d, owns (c : Thread nD τ) (ms0_14 t) fullShare ((dats m 0 c).before 14 t d))
        ∗ (∃ d, owns (c : Thread nD τ) (ms0_15 t) fullShare ((dats m 0 c).before 15 t d)))
      ⊢ wp frame (wpE (defs₀ (F := F)) Variants.none c none) Set.univ (bodyAt0 t) (fun _ =>
        iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t)
        ∗ owns (c : Thread nD τ) (ms0_7 t) fullShare ((dats m 0 c).after 7 t)
        ∗ owns (c : Thread nD τ) (ms0_8 t) fullShare ((dats m 0 c).after 8 t)
        ∗ owns (c : Thread nD τ) (ms0_9 t) fullShare ((dats m 0 c).after 9 t)
        ∗ owns (c : Thread nD τ) (ms0_10 t) fullShare ((dats m 0 c).after 10 t)
        ∗ owns (c : Thread nD τ) (ms0_11 t) fullShare ((dats m 0 c).after 11 t)
        ∗ owns (c : Thread nD τ) (ms0_12 t) fullShare ((dats m 0 c).after 12 t)
        ∗ owns (c : Thread nD τ) (ms0_13 t) fullShare ((dats m 0 c).after 13 t)
        ∗ owns (c : Thread nD τ) (ms0_14 t) fullShare ((dats m 0 c).after 14 t)
        ∗ owns (c : Thread nD τ) (ms0_15 t) fullShare ((dats m 0 c).after 15 t))) := by
  unfold bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c)]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15,
    show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (Memref.isWhole_whole _) _ (Memref.isWhole_whole _) _ (Memref.isWhole_whole _)
    (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The launch: the arrays of the pipeline end at what the proof data say, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.RnnFwd

end
-- ==== Proof.RnnFwd.Array.lean ====
/-
  The recurrence's forward call: what its seven result arrays hold after the run.
-/
module

public import proofs.«01_k».proof.Proof.RnnFwd.States
public import proofs.«01_k».proof.Proof.RnnFwd.Frame

@[expose] public section

set_option maxRecDepth 16384

noncomputable section

namespace Cert.RnnFwd

open Idealize.ShloMosaic Idealize.ShloMosaic.TcCoe Idealize.SL.Sem Idealize.ShloMosaic.Tactic
open Cert.RnnFwdKernelIdeal Cert.RnnFwdKernelIdeal.Gen

variable (m : (ℓ : Loc nD τ sig) → Buf (Elt Ideal) ℓ)

/-- The block each window stages at a point: the head's channels, its weights. -/
theorem idx : ∀ t : Fin cfg0.N, win0_0.index t = ![0, 4 + t.val] ∧ win0_1.index t = ![0, 12 + t.val] ∧ win0_2.index t = ![0, t.val]
    ∧ win0_3.index t = ![0, t.val] ∧ win0_4.index t = ![t.val, 0, 0] ∧ win0_5.index t = ![0, t.val] ∧ win0_6.index t = ![t.val, 0, 0]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] ∧ win0_13.index t = ![0, t.val] ∧ win0_14.index t = ![0, t.val]
    ∧ win0_15.index t = ![0, t.val] :=
  (by decide +kernel : ∀ t : Fin grid0.N, _)

/-- The head of a point. -/
abbrev pt (t : Fin cfg0.N) : Fin 8 := t.cast N_0

/-- The head of the arguments in memory. -/
abbrev memHead (c : Dev nD) (t : Fin 8) : Head :=
  head (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) t

/-- The block of a point is the head of a point. -/
theorem blockHead_eq (c : Dev nD) (t : Fin cfg0.N) :
    blockHead (iblk m c 0 t) (iblk m c 1 t) (iblk m c 2 t) (iblk m c 3 t) (iblk m c 4 t) (iblk m c 5 t) (iblk m c 6 t) (iblk m c 7 t) (iblk m c 8 t)
      = memHead m c (pt t) := by
  have ht : t.val < 8 := lt_of_lt_of_eq t.isLt N_0
  unfold memHead head blockHead
  congr 1
  · funext n l
    blk_point [iblk, V, idx t]
    show _ = 512 + (128 * t.val + l.val); omega
  · funext n l
    blk_point [iblk, V, idx t]
    show _ = 1536 + (128 * t.val + l.val); omega
  · funext n l
    blk_point [iblk, V, idx t]
  · funext l
    blk_point [iblk, V, idx t]
    show _ = 128 * t.val + l.val; omega
  · funext n l
    blk_point [iblk, V, idx t]
  · funext l
    blk_point [iblk, V, idx t]
  · funext n l
    blk_point [iblk, V, idx t]
  · funext l
    blk_point [iblk, V, idx t]
  · funext l
    blk_point [iblk, V, idx t]
    show _ = 128 * t.val + l.val; omega

theorem fits_at (c : Dev nD) (t : Fin cfg0.N) : Fits (pblk m c t) (memHead m c (pt t)) := by
  rw [← blockHead_eq m c t]
  exact fits _ _ _ _ _ _ _ _ _

theorem u_at (c : Dev nD) (t : Fin cfg0.N) (n : Fin 4096) (l : Fin 128) : (memHead m c (pt t)).u n l = (iblk m c 0 t : FVec Ideal S4096x128 .f32) (ix2 n l) := by
  rw [← blockHead_eq m c t]
  rfl

theorem g_at (c : Dev nD) (t : Fin cfg0.N) (n : Fin 4096) (l : Fin 128) : (memHead m c (pt t)).g n l = (iblk m c 1 t : FVec Ideal S4096x128 .f32) (ix2 n l) := by
  rw [← blockHead_eq m c t]
  rfl

variable (c : Dev nD)

/-- The convolved input. -/
theorem final11 : (dats m 0 c).arrAt 11 cfg0.N = wide fun t => (memHead m c t).v := by
  refine (dats m 0 c).arrAt_eq_of_covers 11 _ (by decide +kernel) fun t hf y => ?_
  have ht : t.val < 8 := lt_of_lt_of_eq t.isLt N_0
  blk_simp
  rw [after_11]
  refine ((congrArg _ (eq_ix2 y)).trans (vOut_apply (fits_at m c t) (u_at m c t) (y 0) (y 1))).trans ?_
  exact (wide_at (fun t => (memHead m c t).v) _ (pt t) (y 0) (y 1) (by blk_simp [idx t]) (by blk_simp [idx t]; show _ = 128 * t.val + (y 1).val; omega)).symm

/-- The recurrence gate. -/
theorem final12 : (dats m 0 c).arrAt 12 cfg0.N = wide fun t => (memHead m c t).r := by
  refine (dats m 0 c).arrAt_eq_of_covers 12 _ (by decide +kernel) fun t hf y => ?_
  have ht : t.val < 8 := lt_of_lt_of_eq t.isLt N_0
  blk_simp
  rw [after_12]
  refine ((congrArg _ (eq_ix2 y)).trans (rOut_apply (fits_at m c t) (u_at m c t) (y 0) (y 1))).trans ?_
  exact (wide_at (fun t => (memHead m c t).r) _ (pt t) (y 0) (y 1) (by blk_simp [idx t]) (by blk_simp [idx t]; show _ = 128 * t.val + (y 1).val; omega)).symm

/-- The input gate. -/
theorem final13 : (dats m 0 c).arrAt 13 cfg0.N = wide fun t => (memHead m c t).i := by
  refine (dats m 0 c).arrAt_eq_of_covers 13 _ (by decide +kernel) fun t hf y => ?_
  have ht : t.val < 8 := lt_of_lt_of_eq t.isLt N_0
  blk_simp
  rw [after_13]
  refine ((congrArg _ (eq_ix2 y)).trans (xOut_apply (fits_at m c t) (u_at m c t) (y 0) (y 1))).trans ?_
  exact (wide_at (fun t => (memHead m c t).i) _ (pt t) (y 0) (y 1) (by blk_simp [idx t]) (by blk_simp [idx t]; show _ = 128 * t.val + (y 1).val; omega)).symm

variable (hH : ∀ t, (memHead m c t).Real)
include hH

/-- The states. -/
theorem final9 : (dats m 0 c).arrAt 9 cfg0.N = wide fun t => (memHead m c t).h := by
  refine (dats m 0 c).arrAt_eq_of_covers 9 _ (by decide +kernel) fun t hf y => ?_
  have ht : t.val < 8 := lt_of_lt_of_eq t.isLt N_0
  blk_simp
  rw [after_9]
  refine ((congrArg _ (eq_ix2 y)).trans (hOut_apply (hH (pt t)) (fits_at m c t) (u_at m c t) (y 0) (y 1))).trans ?_
  exact (wide_at (fun t => (memHead m c t).h) _ (pt t) (y 0) (y 1) (by blk_simp [idx t]) (by blk_simp [idx t]; show _ = 128 * t.val + (y 1).val; omega)).symm

/-- The gated states. -/
theorem final10 : (dats m 0 c).arrAt 10 cfg0.N = wide fun t => (memHead m c t).z := by
  refine (dats m 0 c).arrAt_eq_of_covers 10 _ (by decide +kernel) fun t hf y => ?_
  have ht : t.val < 8 := lt_of_lt_of_eq t.isLt N_0
  blk_simp
  rw [after_10]
  refine ((congrArg _ (eq_ix2 y)).trans (zOut_apply (hH (pt t)) (fits_at m c t) (u_at m c t) (g_at m c t) (y 0) (y 1))).trans ?_
  exact (wide_at (fun t => (memHead m c t).z) _ (pt t) (y 0) (y 1) (by blk_simp [idx t]) (by blk_simp [idx t]; show _ = 128 * t.val + (y 1).val; omega)).symm

/-- The decay. -/
theorem final14 : (dats m 0 c).arrAt 14 cfg0.N = wide fun t => (memHead m c t).a := by
  refine (dats m 0 c).arrAt_eq_of_covers 14 _ (by decide +kernel) fun t hf y => ?_
  have ht : t.val < 8 := lt_of_lt_of_eq t.isLt N_0
  blk_simp
  rw [after_14]
  refine ((congrArg _ (eq_ix2 y)).trans (aOut_apply (hH (pt t)) (fits_at m c t) (u_at m c t) (y 0) (y 1))).trans ?_
  exact (wide_at (fun t => (memHead m c t).a) _ (pt t) (y 0) (y 1) (by blk_simp [idx t]) (by blk_simp [idx t]; show _ = 128 * t.val + (y 1).val; omega)).symm

/-- The input's scale. -/
theorem final15 : (dats m 0 c).arrAt 15 cfg0.N = wide fun t => (memHead m c t).sq := by
  refine (dats m 0 c).arrAt_eq_of_covers 15 _ (by decide +kernel) fun t hf y => ?_
  have ht : t.val < 8 := lt_of_lt_of_eq t.isLt N_0
  blk_simp
  rw [after_15]
  refine ((congrArg _ (eq_ix2 y)).trans (sOut_apply (hH (pt t)) (fits_at m c t) (u_at m c t) (y 0) (y 1))).trans ?_
  exact (wide_at (fun t => (memHead m c t).sq) _ (pt t) (y 0) (y 1) (by blk_simp [idx t]) (by blk_simp [idx t]; show _ = 128 * t.val + (y 1).val; omega)).symm

omit hH

/-- Every run of the kernel: its seven results, its arguments kept. -/
theorem run_blocks (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 9 cfg0.N
    ∧ r.2.mem ((c : Thread nD τ).loc main_v5_1) = (dats m 0 c).arrAt 10 cfg0.N
    ∧ r.2.mem ((c : Thread nD τ).loc main_v5_2) = (dats m 0 c).arrAt 11 cfg0.N
    ∧ r.2.mem ((c : Thread nD τ).loc main_v5_3) = (dats m 0 c).arrAt 12 cfg0.N
    ∧ r.2.mem ((c : Thread nD τ).loc main_v5_4) = (dats m 0 c).arrAt 13 cfg0.N
    ∧ r.2.mem ((c : Thread nD τ).loc main_v5_5) = (dats m 0 c).arrAt 14 cfg0.N
    ∧ r.2.mem ((c : Thread nD τ).loc main_v5_6) = (dats m 0 c).arrAt 15 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  exact (θ_run defs _ _).mono (fun r h c => ⟨(h.1.1 c).1 9, (h.1.1 c).1 10, (h.1.1 c).1 11, (h.1.1 c).1 12, (h.1.1 c).1 13, (h.1.1 c).1 14,
    (h.1.1 c).1 15, h.2.1 c⟩) (θ_run_and (run_main m ρ) (frame m ρ))

end Cert.RnnFwd

end
-- ==== Proof.RnnFwd.Reference.lean ====
/-
  The recurrence's forward lines in the reference: what its seven results hold.
-/
module

public import proofs.«01_k».proof.Proof.RnnFwd.Spec
public import proofs.«01_k».proof.Proof.Gen.RnnFwdReferenceIdeal.Read

@[expose] public section

set_option maxRecDepth 16384

noncomputable section

namespace Cert.RnnFwdReferenceIdeal.Read

open Idealize.ShloMosaic Idealize.ShloMosaic.TcCoe Idealize.ShloMosaic.Tactic
open Cert.RnnFwd Cert.Logistic

variable (x0 : FVec Ideal S4096x4608 .f32) (x1 : FVec Ideal S1x4x1024 .f32) (x2 : FVec Ideal S1x1024 .f32) (x3 : FVec Ideal S1x8x128x128 .f32)
  (x4 : FVec Ideal S1x8x128 .f32) (x5 : FVec Ideal S1x8x128x128 .f32) (x6 : FVec Ideal S1x8x128 .f32) (x7 : FVec Ideal S1x1024 .f32)

/-- A row of the padded input. -/
theorem v4_apply (s : ℕ) (n : Fin 4096) (y : Fin 4099) (hy : y.val + s = 3 + n.val) (t : Fin 8) (l : Fin 128) :
    val_main_v4 (F := Ideal) x0 (ix3 0 y (chan t l)) = (head x0 x1 x2 x3 x4 x5 x6 x7 t).tap s n l := by
  have hl := (chan t l).isLt
  pointwise [val_main_v4, val_main_v1, val_main_v0, val_main_c, val_main_call0_v0]
  unfold Head.tap
  by_cases h : s ≤ n.val
  · rw [if_pos h, dif_pos ⟨⟨by omega, by omega⟩, hl⟩]
    exact congrArg (fun r => x0 (ix2 r ⟨512 + (chan t l).val, by omega⟩)) (Fin.ext (by dsimp only; omega))
  · rw [if_neg h, dif_neg (fun h' => by omega)]
    show (((0#32 : BitVec 32).toInt : ℝ) : EReal) = 0
    simp

/-- The four taps and the bias, in another order. -/
theorem taps (b a0 w0 a1 w1 a2 w2 a3 w3 : EReal) :
    b + a0 * w0 + a1 * w1 + a2 * w2 + a3 * w3 = w3 * a3 + w0 * a0 + w1 * a1 + w2 * a2 + b := by
  rw [mul_comm a0, mul_comm a1, mul_comm a2, mul_comm a3]
  ac_rfl

theorem v_apply (n : Fin 4096) (t : Fin 8) (l : Fin 128) :
    val_main_v34 (F := Ideal) x0 x1 x2 (ix3 0 n (chan t l)) = (head x0 x1 x2 x3 x4 x5 x6 x7 t).v n l := by
  unfold Head.v
  rw [← v4_apply x0 x1 x2 x3 x4 x5 x6 x7 0 n ⟨3 + n.val, by omega⟩ (by dsimp only; omega), ← v4_apply x0 x1 x2 x3 x4 x5 x6 x7 1 n ⟨2 + n.val, by omega⟩ (by dsimp only; omega),
    ← v4_apply x0 x1 x2 x3 x4 x5 x6 x7 2 n ⟨1 + n.val, by omega⟩ (by dsimp only; omega), ← v4_apply x0 x1 x2 x3 x4 x5 x6 x7 3 n ⟨n.val, by omega⟩ (by dsimp only; omega)]
  unfold val_main_v34 val_main_v33 val_main_v28 val_main_v27 val_main_v26 val_main_v21 val_main_v20 val_main_v19 val_main_v14 val_main_v13 val_main_v10 val_main_v5
  generalize val_main_v4 (F := Ideal) x0 = y
  pointwise [val_main_v2, val_main_v3, val_main_v6, val_main_v7, val_main_v8, val_main_v9, val_main_v11, val_main_v12, val_main_v15, val_main_v16, val_main_v17, val_main_v18,
    val_main_v22, val_main_v23, val_main_v24, val_main_v25, val_main_v29, val_main_v30, val_main_v31, val_main_v32]
  exact taps _ _ _ _ _ _ _ _ _

theorem head_of (t : Fin 8) (l : Fin 128) (h) : (⟨(128 * t.val + l.val) / 128, h⟩ : Fin 8) = t := Fin.ext (by dsimp only; omega)
theorem lane_of (t : Fin 8) (l : Fin 128) (h) : (⟨(128 * t.val + l.val) % 128, h⟩ : Fin 128) = l := Fin.ext (by dsimp only; omega)

/-- A gate's argument. -/
theorem gate_arg (w : FVec Ideal S1x8x128x128 .f32) (b : FVec Ideal S1x8x128 .f32) (y : FVec Ideal S1x4096x1024 .f32) (n : Fin 4096) (t : Fin 8)
    (l : Fin 128) (h1) (h2) (h3 : ∀ k : Fin 128, (128 * t.val + l.val) / 128 * 128 + k.val < 1024) (h4) (h5) :
    (∑ k : Fin 128, w (ix4 0 ⟨(128 * t.val + l.val) / 128, h1⟩ k ⟨(128 * t.val + l.val) % 128, h2⟩)
        * y (ix3 0 n ⟨(128 * t.val + l.val) / 128 * 128 + k.val, h3 k⟩))
      + b (ix3 0 ⟨(128 * t.val + l.val) / 128, h4⟩ ⟨(128 * t.val + l.val) % 128, h5⟩)
    = (∑ k, y (ix3 0 n (chan t k)) * w (ix4 0 t k l)) + b (ix3 0 t l) := by
  rw [head_of, lane_of]
  refine congrArg₂ _ (Finset.sum_congr rfl fun k _ => ?_) rfl
  rw [mul_comm]
  exact congrArg (fun j => y (ix3 0 n j) * w (ix4 0 t k l)) (Fin.ext (by show (128 * t.val + l.val) / 128 * 128 + k.val = 128 * t.val + k.val; omega))

theorem r_apply (n : Fin 4096) (t : Fin 8) (l : Fin 128) :
    val_main_v52 (F := Ideal) x0 x1 x2 x3 x4 (ix3 0 n (chan t l)) = (head x0 x1 x2 x3 x4 x5 x6 x7 t).r n l := by
  unfold Head.r
  rw [sig_eq]
  unfold val_main_v52 val_main_v51 val_main_v49 val_main_v47 val_main_v46 val_main_v45 val_main_v42 val_main_v41 val_main_v40
  have e : ∀ k, val_main_v34 (F := Ideal) x0 x1 x2 (ix3 0 n (chan t k)) = (head x0 x1 x2 x3 x4 x5 x6 x7 t).v n k := fun k => v_apply x0 x1 x2 x3 x4 x5 x6 x7 n t k
  simp only [← e]
  generalize val_main_v34 (F := Ideal) x0 x1 x2 = y
  pointwise [val_main_v35, val_main_v36, val_main_v43, val_main_v44, val_main_cst, val_main_v48, val_main_cst_0, val_main_v50]
  exact congrArg (fun s => Ideal.div 1 (1 + Ideal.exp (-s))) (gate_arg x3 x4 y n t l _ _ _ _ _)

theorem i_apply (n : Fin 4096) (t : Fin 8) (l : Fin 128) :
    val_main_v64 (F := Ideal) x0 x1 x2 x5 x6 (ix3 0 n (chan t l)) = (head x0 x1 x2 x3 x4 x5 x6 x7 t).i n l := by
  unfold Head.i
  rw [sig_eq]
  unfold val_main_v64 val_main_v63 val_main_v61 val_main_v59 val_main_v58 val_main_v57 val_main_v54 val_main_v53 val_main_v40
  have e : ∀ k, val_main_v34 (F := Ideal) x0 x1 x2 (ix3 0 n (chan t k)) = (head x0 x1 x2 x3 x4 x5 x6 x7 t).v n k := fun k => v_apply x0 x1 x2 x3 x4 x5 x6 x7 n t k
  simp only [← e]
  generalize val_main_v34 (F := Ideal) x0 x1 x2 = y
  pointwise [val_main_v37, val_main_v38, val_main_v55, val_main_v56, val_main_cst_1, val_main_v60, val_main_cst_2, val_main_v62]
  exact congrArg (fun s => Ideal.div 1 (1 + Ideal.exp (-s))) (gate_arg x5 x6 y n t l _ _ _ _ _)

/-- The reference's softplus of a negated real number. -/
theorem soft_apply (j : Fin 1024) (h : Finite.IsReal (x7 (ix2 0 j))) : val_main_v68 (F := Ideal) x7 (ix1 j) = soft (x7 (ix2 0 j)) := by
  pointwise [val_main_v68, val_main_v67, val_main_v39, val_main_call1_cst, val_main_call1_v0, val_main_call1_v1, val_main_call1_v2, val_main_call1_v3,
    val_main_call1_v4, val_main_call1_v5, val_main_call1_v6, val_main_call1_v7, val_main_call1_v8, val_main_call1_v9, val_main_call1_v10, val_main_call1_v11]
  rw [if_neg (fun h => h rfl)]
  obtain ⟨y, hy⟩ := h
  rw [hy]
  have e : Ideal.exp (-(FloatOps.absf (F := Ideal) (φ := .f32) (-(y : EReal)))) = ((Real.exp (-|y|) : ℝ) : EReal) := by
    show Ideal.exp (-(max (-(y : EReal)) (-(-(y : EReal))))) = _
    rw [← EReal.coe_neg, ← EReal.coe_neg, max_coe, ← EReal.coe_neg, Ideal.exp_coe, ← abs_neg y]
    rfl
  have p := Real.exp_pos (-|y|)
  rw [e, Ideal.log1p, ← EReal.coe_one, ← EReal.coe_add, Ideal.log_coe, if_neg (by linarith), ← EReal.coe_neg, ← EReal.coe_zero, max_coe, ← EReal.coe_add, soft_split]
  rfl

variable {x0 x1 x2 x3 x4 x5 x6 x7}
variable {t : Fin 8} (hH : (head x0 x1 x2 x3 x4 x5 x6 x7 t).Real) (n : Fin 4096) (l : Fin 128)
include hH

theorem la_apply : val_main_v71 (F := Ideal) x0 x1 x2 x3 x4 x7 (ix3 0 n (chan t l)) = (head x0 x1 x2 x3 x4 x5 x6 x7 t).la n l := by
  unfold Head.la
  rw [← r_apply]
  unfold val_main_v71 val_main_v66
  generalize val_main_v52 (F := Ideal) x0 x1 x2 x3 x4 = y
  pointwise [val_main_v65, val_main_cst_3, val_main_v69, val_main_v70]
  exact congrArg _ (soft_apply x7 (chan t l) (hH.lam l))

theorem a_apply : val_main_v72 (F := Ideal) x0 x1 x2 x3 x4 x7 (ix3 0 n (chan t l)) = (head x0 x1 x2 x3 x4 x5 x6 x7 t).a n l :=
  congrArg Ideal.exp (la_apply hH n l)

theorem sq_apply : val_main_v77 (F := Ideal) x0 x1 x2 x3 x4 x7 (ix3 0 n (chan t l)) = (head x0 x1 x2 x3 x4 x5 x6 x7 t).sq n l := by
  rw [Head.sq_eq hH, ← la_apply hH]
  unfold val_main_v77 val_main_v76 val_main_v75 val_main_v74
  generalize val_main_v71 (F := Ideal) x0 x1 x2 x3 x4 x7 = y
  pointwise [val_main_v73, val_main_cst_4]

theorem b_apply : val_main_v79 (F := Ideal) x0 x1 x2 x3 x4 x5 x6 x7 (ix3 0 n (chan t l)) = (head x0 x1 x2 x3 x4 x5 x6 x7 t).b n l :=
  congrArg₂ (· * ·) (congrArg₂ (· * ·) (sq_apply hH n l) (i_apply x0 x1 x2 x3 x4 x5 x6 x7 n t l)) (v_apply x0 x1 x2 x3 x4 x5 x6 x7 n t l)

omit hH

/-- A level's sequences: every channel's, its head's column. -/
def chanSeq (f : Fin 8 → Fin 4096 → Fin 128 → EReal) (j : Fin 1024) : ℕ → ℝ := Head.seq (f (headOf j)) (laneOf j)

theorem holds_of {X : (Scan.Level 4096).Idx → EReal} {f : Fin 8 → Fin 4096 → Fin 128 → EReal}
    (h : ∀ n t l, X (ix3 0 n (chan t l)) = f t n l) (hf : ∀ t n l, Finite.IsReal (f t n l)) : Scan.Holds X (chanSeq f) := fun y => by
  have h0 : y 0 = (0 : Fin 1) := Subsingleton.elim (α := Fin 1) _ _
  have e : y = ix3 (0 : Fin 1) (y 1) (chan (headOf (y 2)) (laneOf (y 2))) :=
    (eq_ix3 y).trans ((congrArg (fun a : Fin 1 => ix3 a (y 1) (y 2)) h0).trans (congrArg (fun b : Fin 1024 => ix3 (0 : Fin 1) (y 1) b) (chan_split (y 2)).symm))
  exact (congrArg X e).trans ((h _ _ _).trans (Head.seq_of _ _ (hf _ _ _)))

theorem pad_zero {u : Shape} (i : u.Idx) : constant (F := Ideal) u .f32 0x00000000#32 i = 0 := word_zero.trans EReal.coe_zero

open Scan in
/-- The reference's scan is the recurrence. -/
theorem scan_holds {a b : Fin 1024 → ℕ → ℝ} (hA : Holds (N := 4096) (val_main_v72 (F := Ideal) x0 x1 x2 x3 x4 x7) a)
    (hB : Holds (N := 4096) (val_main_v79 (F := Ideal) x0 x1 x2 x3 x4 x5 x6 x7) b) :
    Holds (N := 4096) (val_main_v367 (F := Ideal) x0 x1 x2 x3 x4 x5 x6 x7) fun j => recur (a j) (b j) := by
  have a1 : Holds (N := 2048) (val_main_v84 (F := Ideal) x0 x1 x2 x3 x4 x7) _ := down_a hA _ _
  have b1 : Holds (N := 2048) (val_main_v86 (F := Ideal) x0 x1 x2 x3 x4 x5 x6 x7) _ := down_b hA hB _ _ _
  have a2 : Holds (N := 1024) (val_main_v91 (F := Ideal) x0 x1 x2 x3 x4 x7) _ := down_a a1 _ _
  have b2 : Holds (N := 1024) (val_main_v93 (F := Ideal) x0 x1 x2 x3 x4 x5 x6 x7) _ := down_b a1 b1 _ _ _
  have a3 : Holds (N := 512) (val_main_v98 (F := Ideal) x0 x1 x2 x3 x4 x7) _ := down_a a2 _ _
  have b3 : Holds (N := 512) (val_main_v100 (F := Ideal) x0 x1 x2 x3 x4 x5 x6 x7) _ := down_b a2 b2 _ _ _
  have a4 : Holds (N := 256) (val_main_v105 (F := Ideal) x0 x1 x2 x3 x4 x7) _ := down_a a3 _ _
  have b4 : Holds (N := 256) (val_main_v107 (F := Ideal) x0 x1 x2 x3 x4 x5 x6 x7) _ := down_b a3 b3 _ _ _
  have a5 : Holds (N := 128) (val_main_v112 (F := Ideal) x0 x1 x2 x3 x4 x7) _ := down_a a4 _ _
  have b5 : Holds (N := 128) (val_main_v114 (F := Ideal) x0 x1 x2 x3 x4 x5 x6 x7) _ := down_b a4 b4 _ _ _
  have a6 : Holds (N := 64) (val_main_v119 (F := Ideal) x0 x1 x2 x3 x4 x7) _ := down_a a5 _ _
  have b6 : Holds (N := 64) (val_main_v121 (F := Ideal) x0 x1 x2 x3 x4 x5 x6 x7) _ := down_b a5 b5 _ _ _
  have a7 : Holds (N := 32) (val_main_v126 (F := Ideal) x0 x1 x2 x3 x4 x7) _ := down_a a6 _ _
  have b7 : Holds (N := 32) (val_main_v128 (F := Ideal) x0 x1 x2 x3 x4 x5 x6 x7) _ := down_b a6 b6 _ _ _
  have a8 : Holds (N := 16) (val_main_v133 (F := Ideal) x0 x1 x2 x3 x4 x7) _ := down_a a7 _ _
  have b8 : Holds (N := 16) (val_main_v135 (F := Ideal) x0 x1 x2 x3 x4 x5 x6 x7) _ := down_b a7 b7 _ _ _
  have a9 : Holds (N := 8) (val_main_v140 (F := Ideal) x0 x1 x2 x3 x4 x7) _ := down_a a8 _ _
  have b9 : Holds (N := 8) (val_main_v142 (F := Ideal) x0 x1 x2 x3 x4 x5 x6 x7) _ := down_b a8 b8 _ _ _
  have a10 : Holds (N := 4) (val_main_v147 (F := Ideal) x0 x1 x2 x3 x4 x7) _ := down_a a9 _ _
  have b10 : Holds (N := 4) (val_main_v149 (F := Ideal) x0 x1 x2 x3 x4 x5 x6 x7) _ := down_b a9 b9 _ _ _
  have a11 : Holds (N := 2) (val_main_v154 (F := Ideal) x0 x1 x2 x3 x4 x7) _ := down_a a10 _ _
  have b11 : Holds (N := 2) (val_main_v156 (F := Ideal) x0 x1 x2 x3 x4 x5 x6 x7) _ := down_b a10 b10 _ _ _
  have b12 : Holds (N := 1) (val_main_v163 (F := Ideal) x0 x1 x2 x3 x4 x5 x6 x7) _ := down_b a11 b11 _ _ _
  have h11 : Holds (N := 2) (val_main_v180 (F := Ideal) x0 x1 x2 x3 x4 x5 x6 x7) _ := up a11 b11 (last b12) rfl rfl pad_zero pad_zero _ _ _ _ _ _ _ _ _
  have h10 : Holds (N := 4) (val_main_v197 (F := Ideal) x0 x1 x2 x3 x4 x5 x6 x7) _ := up a10 b10 h11 rfl rfl pad_zero pad_zero _ _ _ _ _ _ _ _ _
  have h9 : Holds (N := 8) (val_main_v214 (F := Ideal) x0 x1 x2 x3 x4 x5 x6 x7) _ := up a9 b9 h10 rfl rfl pad_zero pad_zero _ _ _ _ _ _ _ _ _
  have h8 : Holds (N := 16) (val_main_v231 (F := Ideal) x0 x1 x2 x3 x4 x5 x6 x7) _ := up a8 b8 h9 rfl rfl pad_zero pad_zero _ _ _ _ _ _ _ _ _
  have h7 : Holds (N := 32) (val_main_v248 (F := Ideal) x0 x1 x2 x3 x4 x5 x6 x7) _ := up a7 b7 h8 rfl rfl pad_zero pad_zero _ _ _ _ _ _ _ _ _
  have h6 : Holds (N := 64) (val_main_v265 (F := Ideal) x0 x1 x2 x3 x4 x5 x6 x7) _ := up a6 b6 h7 rfl rfl pad_zero pad_zero _ _ _ _ _ _ _ _ _
  have h5 : Holds (N := 128) (val_main_v282 (F := Ideal) x0 x1 x2 x3 x4 x5 x6 x7) _ := up a5 b5 h6 rfl rfl pad_zero pad_zero _ _ _ _ _ _ _ _ _
  have h4 : Holds (N := 256) (val_main_v299 (F := Ideal) x0 x1 x2 x3 x4 x5 x6 x7) _ := up a4 b4 h5 rfl rfl pad_zero pad_zero _ _ _ _ _ _ _ _ _
  have h3 : Holds (N := 512) (val_main_v316 (F := Ideal) x0 x1 x2 x3 x4 x5 x6 x7) _ := up a3 b3 h4 rfl rfl pad_zero pad_zero _ _ _ _ _ _ _ _ _
  have h2 : Holds (N := 1024) (val_main_v333 (F := Ideal) x0 x1 x2 x3 x4 x5 x6 x7) _ := up a2 b2 h3 rfl rfl pad_zero pad_zero _ _ _ _ _ _ _ _ _
  have h1 : Holds (N := 2048) (val_main_v350 (F := Ideal) x0 x1 x2 x3 x4 x5 x6 x7) _ := up a1 b1 h2 rfl rfl pad_zero pad_zero _ _ _ _ _ _ _ _ _
  exact up hA hB h1 rfl rfl pad_zero pad_zero _ _ _ _ _ _ _ _ _

/-- The heads' results, side by side, read head by head. -/
theorem wide_of {X : S4096x1024.Idx → EReal} {f : Fin 8 → Fin 4096 → Fin 128 → EReal} (h : ∀ n t l, X (ix2 n (chan t l)) = f t n l) : X = wide f :=
  funext fun i => (congrArg X ((eq_ix2 i).trans (congrArg (fun b => ix2 (i 0) b) (chan_split (i 1)).symm))).trans (h (i 0) _ _)

variable (x0 x1 x2 x3 x4 x5 x6 x7)

theorem flat (y : FVec Ideal S1x4096x1024 .f32) (hc : S1x4096x1024.ShapeCasts S4096x1024) (n : Fin 4096) (j : Fin 1024) :
    shapeCast (α := Ideal .f32) S4096x1024 y hc (ix2 n j) = y (ix3 0 n j) := by
  pointwise

theorem v_wide : val_main_v387 (F := Ideal) x0 x1 x2 = wide fun t => (head x0 x1 x2 x3 x4 x5 x6 x7 t).v :=
  wide_of fun n t l => (flat _ _ n _).trans (v_apply x0 x1 x2 x3 x4 x5 x6 x7 n t l)

theorem r_wide : val_main_v388 (F := Ideal) x0 x1 x2 x3 x4 = wide fun t => (head x0 x1 x2 x3 x4 x5 x6 x7 t).r :=
  wide_of fun n t l => (flat _ _ n _).trans (r_apply x0 x1 x2 x3 x4 x5 x6 x7 n t l)

theorem i_wide : val_main_v389 (F := Ideal) x0 x1 x2 x5 x6 = wide fun t => (head x0 x1 x2 x3 x4 x5 x6 x7 t).i :=
  wide_of fun n t l => (flat _ _ n _).trans (i_apply x0 x1 x2 x3 x4 x5 x6 x7 n t l)

variable {x0 x1 x2 x3 x4 x5 x6 x7}
variable (hR : ∀ t, (head x0 x1 x2 x3 x4 x5 x6 x7 t).Real)
include hR

theorem a_wide : val_main_v390 (F := Ideal) x0 x1 x2 x3 x4 x7 = wide fun t => (head x0 x1 x2 x3 x4 x5 x6 x7 t).a :=
  wide_of fun n t l => (flat _ _ n _).trans (a_apply (hR t) n l)

theorem sq_wide : val_main_v391 (F := Ideal) x0 x1 x2 x3 x4 x7 = wide fun t => (head x0 x1 x2 x3 x4 x5 x6 x7 t).sq :=
  wide_of fun n t l => (flat _ _ n _).trans (sq_apply (hR t) n l)

theorem h_apply (n : Fin 4096) (t : Fin 8) (l : Fin 128) :
    val_main_v367 (F := Ideal) x0 x1 x2 x3 x4 x5 x6 x7 (ix3 0 n (chan t l)) = (head x0 x1 x2 x3 x4 x5 x6 x7 t).h n l := by
  refine (scan_holds (holds_of (f := fun t => (head x0 x1 x2 x3 x4 x5 x6 x7 t).a) (fun n t l => a_apply (hR t) n l) fun t n l => Head.a_real (hR t) n l)
    (holds_of (f := fun t => (head x0 x1 x2 x3 x4 x5 x6 x7 t).b) (fun n t l => b_apply (hR t) n l) fun t n l => Head.b_real (hR t) n l) _).trans ?_
  have ht : headOf (chan t l) = t := Fin.ext (by show (128 * t.val + l.val) / 128 = _; omega)
  have hl : laneOf (chan t l) = l := Fin.ext (by show (128 * t.val + l.val) % 128 = _; omega)
  show ((Scan.recur (chanSeq _ (chan t l)) (chanSeq _ (chan t l)) n.val : ℝ) : EReal) = _
  unfold chanSeq
  rw [ht, hl]
  rfl

theorem h_wide : val_main_v384 (F := Ideal) x0 x1 x2 x3 x4 x5 x6 x7 = wide fun t => (head x0 x1 x2 x3 x4 x5 x6 x7 t).h :=
  wide_of fun n t l => (flat _ _ n _).trans (h_apply hR n t l)

theorem z_wide : val_main_v386 (F := Ideal) x0 x1 x2 x3 x4 x5 x6 x7 = wide fun t => (head x0 x1 x2 x3 x4 x5 x6 x7 t).z :=
  wide_of fun n t l => by
    unfold Head.z
    rw [← h_apply hR, gelu_eq]
    unfold val_main_v386 val_main_v385 val_main_v383
    generalize val_main_v367 (F := Ideal) x0 x1 x2 x3 x4 x5 x6 x7 = y
    pointwise [val_main_v368, val_main_v369, val_main_v370, val_main_v371, val_main_cst_53, val_main_v372, val_main_v373, val_main_v374, val_main_cst_54,
      val_main_v375, val_main_v376, val_main_v377, val_main_cst_55, val_main_v378, val_main_v379, val_main_cst_56, val_main_v380, val_main_v381, val_main_v382]
    rfl

end Cert.RnnFwdReferenceIdeal.Read

end
-- ==== Proof.RnnFwd.KernelFrame.lean ====
/-
  The recurrence's forward kernel over floats: it is its idealization read at floats, whose run is known.
-/
module

public import proofs.«01_k».proof.Proof.RnnFwd.Frame
public import proofs.«01_k».proof.Proof.Gen.RnnFwdKernel
public import proofs.«01_k».proof.Defs
public import Idealize.ShloMosaic.Lib.Claim

@[expose] public section

set_option maxRecDepth 65536

namespace Cert.RnnFwd

open Idealize.ShloMosaic Idealize.ShloMosaic.TcCoe Idealize.ShloMosaic.Tactic Idealize.SL.Sem

/-- The two programs have the same functions. -/
theorem defs_eq : Cert.RnnFwdKernel.defs (F := Bits) = Cert.RnnFwdKernelIdeal.defs (F := Bits) := by sl_kernel_rfl

/-- The two programs have the same host code. -/
theorem main_eq : Cert.RnnFwdKernel.main (F := Bits) = Cert.RnnFwdKernelIdeal.main (F := Bits) := by sl_kernel_rfl

/-- Every run of the kernel is quiescent. -/
theorem frame_kernel : Cert.quiescent_RnnFwdKernel := by
  intro m ρ _
  rw [defs_eq, main_eq]
  exact frame m ρ

end Cert.RnnFwd
-- ==== Proof.RnnFwd.Claim.lean ====
/- The equation of the recurrence's seven forward results and the reference's. -/
module

public import proofs.«01_k».proof.Defs
public import proofs.«01_k».proof.Proof.RnnFwd.Array
public import proofs.«01_k».proof.Proof.RnnFwd.Reference
public import proofs.«01_k».proof.Proof.RnnFwd.KernelFrame
public import proofs.«01_k».proof.Proof.Gen.RnnFwdReferenceIdeal.Run
public import proofs.«01_k».proof.Proof.Gen.Pre_rnn_finite

@[expose] public section

set_option maxRecDepth 16384

noncomputable section

namespace Cert.RnnFwdReferenceIdeal

open Idealize Idealize.ShloMosaic Idealize.ShloMosaic.TcCoe Idealize.SL.Sem

/-- Every run of the reference: its seven results, one operation per name, and its arguments kept. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v384) = Read.val_main_v384 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v386) = Read.val_main_v386 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v387) = Read.val_main_v387 (F := Ideal) (m ((c : Thread nD τ).loc main_arg0)) (m ((c : Thread nD τ).loc main_arg1)) (m ((c : Thread nD τ).loc main_arg2))
      ∧ r.2.mem ((c : Thread nD τ).loc main_v388) = Read.val_main_v388 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v389) = Read.val_main_v389 (F := Ideal) (m ((c : Thread nD τ).loc main_arg0)) (m ((c : Thread nD τ).loc main_arg1)) (m ((c : Thread nD τ).loc main_arg2)) (m ((c : Thread nD τ).loc main_arg5)) (m ((c : Thread nD τ).loc main_arg6))
      ∧ r.2.mem ((c : Thread nD τ).loc main_v390) = Read.val_main_v390 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c : Thread nD τ).loc main_v391) = Read.val_main_v391 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (Read.val_main_v384_eq _), (h c).2.1.trans (Read.val_main_v386_eq _), (h c).2.2.1.trans (Read.val_main_v387_eq _), (h c).2.2.2.1.trans (Read.val_main_v388_eq _), (h c).2.2.2.2.1.trans (Read.val_main_v389_eq _), (h c).2.2.2.2.2.1.trans (Read.val_main_v390_eq _), (h c).2.2.2.2.2.2.1.trans (Read.val_main_v391_eq _), (h c).2.2.2.2.2.2.2⟩)
    (Value.run m ρ)

end Cert.RnnFwdReferenceIdeal

namespace Cert.RnnFwd

open Idealize Idealize.ShloMosaic Idealize.ShloMosaic.TcCoe Idealize.SL.Sem

variable {m : (ℓ : Loc Cert.RnnFwdKernelIdeal.nD Cert.RnnFwdKernelIdeal.τ Cert.RnnFwdKernelIdeal.sig) → Buf (Elt Ideal) ℓ}

open Cert.RnnFwdKernelIdeal in
/-- What the precondition says of the heads. -/
theorem real_heads (h : Cert.Pre_RnnFwdKernelIdeal_rnn_finite m) (c : Dev nD) (t : Fin 8) : (memHead m c t).Real := by
  obtain ⟨h0, h1, h2, h3, h4, h5, h6, h7⟩ := h c
  exact ⟨fun _ _ => Finite.reals h0 (fun _ => rfl) _, fun _ _ => Finite.reals h1 (fun _ => rfl) _, fun _ => Finite.reals h2 (fun _ => rfl) _,
    fun _ _ => Finite.reals h3 (fun _ => rfl) _, fun _ => Finite.reals h4 (fun _ => rfl) _, fun _ _ => Finite.reals h5 (fun _ => rfl) _,
    fun _ => Finite.reals h6 (fun _ => rfl) _, fun _ => Finite.reals h7 (fun _ => rfl) _⟩

/-- The reference runs from any memory, keeps its arguments, and declares no semaphore. -/
theorem frame_reference : Cert.quiescent_RnnFwdReferenceIdeal := fun m ρ _ =>
  (θ_run Cert.RnnFwdReferenceIdeal.defs _ _).mono
    (fun r h => ⟨fun c => (h c).2.2.2.2.2.2.2, sem_eq_zero_of_no_sems (by decide) r.2⟩) (Cert.RnnFwdReferenceIdeal.Value.run m ρ)

/-- The seven results of the kernel are the reference's. -/
theorem algebraic : Cert.algebraic_RnnFwdKernelIdeal_RnnFwdReferenceIdeal_pre_rnn_finite := by
  pair_intro
  · run_from Cert.RnnFwd.run_blocks m g
  · run_from Cert.RnnFwdReferenceIdeal.run_reference m' g'
    all_goals have hR := real_heads hpre c
    · exact (Cert.RnnFwdReferenceIdeal.Read.h_wide hR).trans (final9 m c hR).symm
    · exact (Cert.RnnFwdReferenceIdeal.Read.z_wide hR).trans (final10 m c hR).symm
    · exact (Cert.RnnFwdReferenceIdeal.Read.v_wide _ _ _ _ _ _ _ _).trans (final11 m c).symm
    · exact (Cert.RnnFwdReferenceIdeal.Read.r_wide _ _ _ _ _ _ _ _).trans (final12 m c).symm
    · exact (Cert.RnnFwdReferenceIdeal.Read.i_wide _ _ _ _ _ _ _ _).trans (final13 m c).symm
    · exact (Cert.RnnFwdReferenceIdeal.Read.a_wide hR).trans (final14 m c hR).symm
    · exact (Cert.RnnFwdReferenceIdeal.Read.sq_wide hR).trans (final15 m c hR).symm

end Cert.RnnFwd

end
-- ==== Proof.lean ====
module

public import proofs.«01_k».proof.Defs
public import proofs.«01_k».proof.Proof.Gen.FfnInKernel
public import proofs.«01_k».proof.Proof.Gen.FfnInKernel.Skeleton
public import proofs.«01_k».proof.Proof.Gen.FfnInKernel.Launch
public import proofs.«01_k».proof.Proof.Gen.FfnInKernel.Points
public import proofs.«01_k».proof.Proof.Gen.FfnInKernel.Frame
public import proofs.«01_k».proof.Proof.Gen.FfnInKernelIdeal
public import proofs.«01_k».proof.Proof.Gen.FfnInKernelIdeal.Skeleton
public import proofs.«01_k».proof.Proof.Gen.FfnInKernelIdeal.Launch
public import proofs.«01_k».proof.Proof.Gen.FfnInKernelIdeal.Points
public import proofs.«01_k».proof.Proof.Gen.FfnInKernelIdeal.Frame
public import proofs.«01_k».proof.Proof.Gen.FfnInReferenceIdeal
public import proofs.«01_k».proof.Proof.Gen.Pre_ffn_in_finite
public import proofs.«01_k».proof.Proof.Gen.FfnInKernelIdeal.Value
public import proofs.«01_k».proof.Proof.Gen.FfnInReferenceIdeal.Run
public import proofs.«01_k».proof.Proof.Gen.FfnInReferenceIdeal.Read
public import proofs.«01_k».proof.Proof.FfnIn.Claim
public import proofs.«01_k».proof.Proof.Pool.KernelFrame
public import proofs.«01_k».proof.Proof.Pool.Claim
public import proofs.«01_k».proof.Proof.Gen.PoolKernel
public import proofs.«01_k».proof.Proof.Gen.PoolKernelIdeal.Frame.Runs
public import proofs.«01_k».proof.Proof.Gen.Pre_pool_finite
public import proofs.«01_k».proof.Proof.Gen.PoolReferenceIdeal.Run
public import proofs.«01_k».proof.Proof.Gen.PoolReferenceIdeal.Read
public import proofs.«01_k».proof.Proof.InProj.Claim
public import proofs.«01_k».proof.Proof.Loss.Claim
public import proofs.«01_k».proof.Proof.Merge.Claim
public import Idealize.ShloMosaic.Adequacy
public import proofs.«01_k».proof.Proof.Gate.Claim
public import proofs.«01_k».proof.Proof.PoolFwd.KernelFrame
public import proofs.«01_k».proof.Proof.PoolFwd.Claim
public import proofs.«01_k».proof.Proof.Gen.PoolFwdKernel
public import proofs.«01_k».proof.Proof.Gen.PoolFwdKernelIdeal.Frame.Runs
public import proofs.«01_k».proof.Proof.Gen.Pre_pool_fwd_finite
public import proofs.«01_k».proof.Proof.Gen.PoolFwdReferenceIdeal.Run
public import proofs.«01_k».proof.Proof.Gen.PoolFwdReferenceIdeal.Read
public import proofs.«01_k».proof.Proof.FfnFwd.KernelFrame
public import proofs.«01_k».proof.Proof.FfnFwd.Claim
public import proofs.«01_k».proof.Proof.Norm.KernelFrame
public import proofs.«01_k».proof.Proof.Norm.Claim
public import proofs.«01_k».proof.Proof.Grad.Claim
public import proofs.«01_k».proof.Proof.GradPool.Claim
public import proofs.«01_k».proof.Proof.GradFfn.Claim
public import proofs.«01_k».proof.Proof.Gen.FfnFwdKernel
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.Gen.Pre_ffn_fwd_finite
public import proofs.«01_k».proof.Proof.RnnFwd.Claim
public import Idealize.ShloMosaic.Init

@[expose] public section

noncomputable section

namespace Cert.Proof

open Idealize.ShloMosaic Idealize.SL.Sem Cert.FfnInKernel

theorem claim : Cert.Claim := ⟨Cert.FfnInKernel.Gen.facts, Cert.FfnInKernelIdeal.Gen.facts, Cert.FfnInReferenceIdeal.Gen.facts,
  Cert.PoolKernel.Gen.facts, Cert.PoolKernelIdeal.Gen.facts, Cert.PoolReferenceIdeal.Gen.facts,
  Cert.InProjKernel.Gen.facts, Cert.InProjKernelIdeal.Gen.facts, Cert.InProjReferenceIdeal.Gen.facts,
  Cert.LossKernel.Gen.facts, Cert.LossKernelIdeal.Gen.facts, Cert.LossReferenceIdeal.Gen.facts,
  Cert.MergeKernel.Gen.facts, Cert.MergeKernelIdeal.Gen.facts, Cert.MergeReferenceIdeal.Gen.facts,
  Cert.RnnFwdKernel.Gen.facts, Cert.RnnFwdKernelIdeal.Gen.facts, Cert.RnnFwdReferenceIdeal.Gen.facts,
  Cert.GateKernel.Gen.facts, Cert.GateKernelIdeal.Gen.facts, Cert.GateReferenceIdeal.Gen.facts,
  Cert.PoolFwdKernel.Gen.facts, Cert.PoolFwdKernelIdeal.Gen.facts, Cert.PoolFwdReferenceIdeal.Gen.facts,
  Cert.FfnFwdKernel.Gen.facts, Cert.FfnFwdKernelIdeal.Gen.facts, Cert.FfnFwdReferenceIdeal.Gen.facts,
  Cert.NormKernel.Gen.facts, Cert.NormKernelIdeal.Gen.facts, Cert.NormReferenceIdeal.Gen.facts,
  Cert.GradKernel.Gen.facts, Cert.GradKernelIdeal.Gen.facts, Cert.GradReferenceIdeal.Gen.facts,
  Cert.GradPoolKernel.Gen.facts, Cert.GradPoolKernelIdeal.Gen.facts, Cert.GradPoolReferenceIdeal.Gen.facts,
  Cert.GradFfnKernel.Gen.facts, Cert.GradFfnKernelIdeal.Gen.facts, Cert.GradFfnReferenceIdeal.Gen.facts,
  Cert.Pre_ffn_in_finite.Gen.facts, Cert.Pre_pool_finite.Gen.facts, Cert.Pre_in_proj_finite.Gen.facts, Cert.Pre_loss_finite.Gen.facts, Cert.Pre_rnn_finite.Gen.facts, Cert.Pre_gate_finite.Gen.facts, Cert.Pre_pool_fwd_finite.Gen.facts, Cert.Pre_ffn_fwd_finite.Gen.facts,
  fun m ρ _ => Cert.FfnInKernel.Gen.frame m ρ, fun m ρ _ => Cert.FfnInKernelIdeal.Gen.frame m ρ, fun m ρ _ => Cert.FfnInKernelIdeal.Gen.frame m ρ, Cert.FfnIn.frame_reference, fun m ρ _ => Cert.FfnIn.frame_reference m ρ trivial,
  Cert.Pool.frame_kernel, fun m ρ _ => Cert.Pool.frame m ρ, fun m ρ _ => Cert.Pool.frame m ρ, Cert.Pool.frame_reference, fun m ρ _ => Cert.Pool.frame_reference m ρ trivial,
  fun m ρ _ => Cert.InProjKernel.Gen.frame m ρ, fun m ρ _ => Cert.InProjKernelIdeal.Gen.frame m ρ, fun m ρ _ => Cert.InProjKernelIdeal.Gen.frame m ρ, Cert.InProj.frame_reference, fun m ρ _ => Cert.InProj.frame_reference m ρ trivial,
  fun m ρ _ => Cert.LossKernel.Gen.frame m ρ, fun m ρ _ => Cert.LossKernelIdeal.Gen.frame m ρ, fun m ρ _ => Cert.LossKernelIdeal.Gen.frame m ρ, Cert.Loss.frame_reference, fun m ρ _ => Cert.Loss.frame_reference m ρ trivial,
  fun m ρ _ => Cert.MergeKernel.Gen.frame m ρ, fun m ρ _ => Cert.MergeKernelIdeal.Gen.frame m ρ, Cert.Merge.frame_reference,
  Cert.RnnFwd.frame_kernel, fun m ρ _ => Cert.RnnFwd.frame m ρ, fun m ρ _ => Cert.RnnFwd.frame m ρ, Cert.RnnFwd.frame_reference, fun m ρ _ => Cert.RnnFwd.frame_reference m ρ trivial,
  fun m ρ _ => Cert.GateKernel.Gen.frame m ρ, fun m ρ _ => Cert.GateKernelIdeal.Gen.frame m ρ, fun m ρ _ => Cert.GateKernelIdeal.Gen.frame m ρ, Cert.Gate.frame_reference, fun m ρ _ => Cert.Gate.frame_reference m ρ trivial,
  Cert.PoolFwd.frame_kernel, fun m ρ _ => Cert.PoolFwd.frame m ρ, fun m ρ _ => Cert.PoolFwd.frame m ρ, Cert.PoolFwd.frame_reference, fun m ρ _ => Cert.PoolFwd.frame_reference m ρ trivial,
  Cert.FfnFwd.frame_kernel, fun m ρ _ => Cert.FfnFwd.frame m ρ, fun m ρ _ => Cert.FfnFwd.frame m ρ, Cert.FfnFwd.frame_reference, fun m ρ _ => Cert.FfnFwd.frame_reference m ρ trivial,
  Cert.Norm.frame_kernel, fun m ρ _ => Cert.Norm.frame m ρ, Cert.Norm.frame_reference,
  fun m ρ _ => Cert.GradKernel.Gen.frame m ρ, fun m ρ _ => Cert.GradKernelIdeal.Gen.frame m ρ, Cert.Grad.frame_reference,
  fun m ρ _ => Cert.GradPoolKernel.Gen.frame m ρ, fun m ρ _ => Cert.GradPoolKernelIdeal.Gen.frame m ρ, Cert.GradPool.frame_reference,
  fun m ρ _ => Cert.GradFfnKernel.Gen.frame m ρ, fun m ρ _ => Cert.GradFfnKernelIdeal.Gen.frame m ρ, Cert.GradFfn.frame_reference,
  trivial, Cert.FfnIn.algebraic,
  trivial, Cert.Pool.algebraic,
  trivial, Cert.InProj.algebraic,
  trivial, Cert.Loss.algebraic,
  trivial, Cert.Merge.algebraic,
  trivial, Cert.RnnFwd.algebraic,
  trivial, Cert.Gate.algebraic,
  trivial, Cert.PoolFwd.algebraic,
  trivial, Cert.FfnFwd.algebraic,
  trivial, Cert.Norm.algebraic,
  trivial, Cert.Grad.algebraic,
  trivial, Cert.GradPool.algebraic,
  trivial, Cert.GradFfn.algebraic⟩

end Cert.Proof

end
